-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.2 = (fun _ => 1#1)

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.2.1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.2.2 = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.2.1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.2.2 = (fun _ => 1#1)

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnIdeal_ln_finite [hPre_ln_finite : Cert.Pre_ln_finite.Facts] (m : (ℓ : Loc Cert.LnIdeal.nD Cert.LnIdeal.τ Cert.LnIdeal.sig) → Buf (Elt Ideal) ℓ) : Prop :=
  ∀ c : Dev Cert.LnIdeal.nD,
    (Cert.Pre_ln_finite.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3)) (m ((c.tc : Thread Cert.LnIdeal.nD Cert.LnIdeal.τ).loc Cert.LnIdeal.main_arg4))).1 = (fun _ => 1#1)
    ∧ (Cert.Pre_ln_finite.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3)) (m ((c.tc : Thread Cert.LnIdeal.nD Cert.LnIdeal.τ).loc Cert.LnIdeal.main_arg4))).2.1 = (fun _ => 1#1)
    ∧ (Cert.Pre_ln_finite.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3)) (m ((c.tc : Thread Cert.LnIdeal.nD Cert.LnIdeal.τ).loc Cert.LnIdeal.main_arg4))).2.2.1 = (fun _ => 1#1)
    ∧ (Cert.Pre_ln_finite.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3)) (m ((c.tc : Thread Cert.LnIdeal.nD Cert.LnIdeal.τ).loc Cert.LnIdeal.main_arg4))).2.2.2.1 = (fun _ => 1#1)
    ∧ (Cert.Pre_ln_finite.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3)) (m ((c.tc : Thread Cert.LnIdeal.nD Cert.LnIdeal.τ).loc Cert.LnIdeal.main_arg4))).2.2.2.2 = (fun _ => 1#1)

def Pre_LnRefIdeal (m : (ℓ : Loc Cert.LnRefIdeal.nD Cert.LnRefIdeal.τ Cert.LnRefIdeal.sig) → Buf (Elt Ideal) ℓ) : Prop :=
  True

def Pre_LnRefIdeal_ln_finite [hPre_ln_finite : Cert.Pre_ln_finite.Facts] (m : (ℓ : Loc Cert.LnRefIdeal.nD Cert.LnRefIdeal.τ Cert.LnRefIdeal.sig) → Buf (Elt Ideal) ℓ) : Prop :=
  ∀ c : Dev Cert.LnRefIdeal.nD,
    (Cert.Pre_ln_finite.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3)) (m ((c.tc : Thread Cert.LnRefIdeal.nD Cert.LnRefIdeal.τ).loc Cert.LnRefIdeal.main_arg4))).1 = (fun _ => 1#1)
    ∧ (Cert.Pre_ln_finite.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3)) (m ((c.tc : Thread Cert.LnRefIdeal.nD Cert.LnRefIdeal.τ).loc Cert.LnRefIdeal.main_arg4))).2.1 = (fun _ => 1#1)
    ∧ (Cert.Pre_ln_finite.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3)) (m ((c.tc : Thread Cert.LnRefIdeal.nD Cert.LnRefIdeal.τ).loc Cert.LnRefIdeal.main_arg4))).2.2.1 = (fun _ => 1#1)
    ∧ (Cert.Pre_ln_finite.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3)) (m ((c.tc : Thread Cert.LnRefIdeal.nD Cert.LnRefIdeal.τ).loc Cert.LnRefIdeal.main_arg4))).2.2.2.1 = (fun _ => 1#1)
    ∧ (Cert.Pre_ln_finite.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3)) (m ((c.tc : Thread Cert.LnRefIdeal.nD Cert.LnRefIdeal.τ).loc Cert.LnRefIdeal.main_arg4))).2.2.2.2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_conv_finite [hPre_conv_finite : Cert.Pre_conv_finite.Facts] (m : (ℓ : Loc Cert.ConvIdeal.nD Cert.ConvIdeal.τ Cert.ConvIdeal.sig) → Buf (Elt Ideal) ℓ) : Prop :=
  ∀ c : Dev Cert.ConvIdeal.nD,
    (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))).1 = (fun _ => 1#1)
    ∧ (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))).2.1 = (fun _ => 1#1)
    ∧ (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))).2.2.1 = (fun _ => 1#1)
    ∧ (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))).2.2.2 = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_conv_finite [hPre_conv_finite : Cert.Pre_conv_finite.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))).1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))).2.1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))).2.2.1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))).2.2.2 = (fun _ => 1#1)

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_MmNn (m : (ℓ : Loc Cert.MmNn.nD Cert.MmNn.τ Cert.MmNn.sig) → Buf (Elt Bits) ℓ) : Prop :=
  True

def Pre_MmNnIdeal (m : (ℓ : Loc Cert.MmNnIdeal.nD Cert.MmNnIdeal.τ Cert.MmNnIdeal.sig) → Buf (Elt Ideal) ℓ) : Prop :=
  True

def Pre_MmNnRefIdeal (m : (ℓ : Loc Cert.MmNnRefIdeal.nD Cert.MmNnRefIdeal.τ Cert.MmNnRefIdeal.sig) → Buf (Elt Ideal) ℓ) : Prop :=
  True

def Pre_MmNt (m : (ℓ : Loc Cert.MmNt.nD Cert.MmNt.τ Cert.MmNt.sig) → Buf (Elt Bits) ℓ) : Prop :=
  True

def Pre_MmNtIdeal (m : (ℓ : Loc Cert.MmNtIdeal.nD Cert.MmNtIdeal.τ Cert.MmNtIdeal.sig) → Buf (Elt Ideal) ℓ) : Prop :=
  True

def Pre_MmNtRefIdeal (m : (ℓ : Loc Cert.MmNtRefIdeal.nD Cert.MmNtRefIdeal.τ Cert.MmNtRefIdeal.sig) → Buf (Elt Ideal) ℓ) : Prop :=
  True

def Pre_MmBcols (m : (ℓ : Loc Cert.MmBcols.nD Cert.MmBcols.τ Cert.MmBcols.sig) → Buf (Elt Bits) ℓ) : Prop :=
  True

def Pre_MmBcolsIdeal (m : (ℓ : Loc Cert.MmBcolsIdeal.nD Cert.MmBcolsIdeal.τ Cert.MmBcolsIdeal.sig) → Buf (Elt Ideal) ℓ) : Prop :=
  True

def Pre_MmBcolsRefIdeal (m : (ℓ : Loc Cert.MmBcolsRefIdeal.nD Cert.MmBcolsRefIdeal.τ Cert.MmBcolsRefIdeal.sig) → Buf (Elt Ideal) ℓ) : Prop :=
  True

def Pre_MmAcols (m : (ℓ : Loc Cert.MmAcols.nD Cert.MmAcols.τ Cert.MmAcols.sig) → Buf (Elt Bits) ℓ) : Prop :=
  True

def Pre_MmAcolsIdeal (m : (ℓ : Loc Cert.MmAcolsIdeal.nD Cert.MmAcolsIdeal.τ Cert.MmAcolsIdeal.sig) → Buf (Elt Ideal) ℓ) : Prop :=
  True

def Pre_MmAcolsRefIdeal (m : (ℓ : Loc Cert.MmAcolsRefIdeal.nD Cert.MmAcolsRefIdeal.τ Cert.MmAcolsRefIdeal.sig) → Buf (Elt Ideal) ℓ) : Prop :=
  True

def Pre_MmHalves (m : (ℓ : Loc Cert.MmHalves.nD Cert.MmHalves.τ Cert.MmHalves.sig) → Buf (Elt Bits) ℓ) : Prop :=
  True

def Pre_MmHalvesIdeal (m : (ℓ : Loc Cert.MmHalvesIdeal.nD Cert.MmHalvesIdeal.τ Cert.MmHalvesIdeal.sig) → Buf (Elt Ideal) ℓ) : Prop :=
  True

def Pre_MmHalvesRefIdeal (m : (ℓ : Loc Cert.MmHalvesRefIdeal.nD Cert.MmHalvesRefIdeal.τ Cert.MmHalvesRefIdeal.sig) → Buf (Elt Ideal) ℓ) : Prop :=
  True

def Pre_MmSplit (m : (ℓ : Loc Cert.MmSplit.nD Cert.MmSplit.τ Cert.MmSplit.sig) → Buf (Elt Bits) ℓ) : Prop :=
  True

def Pre_MmSplitIdeal (m : (ℓ : Loc Cert.MmSplitIdeal.nD Cert.MmSplitIdeal.τ Cert.MmSplitIdeal.sig) → Buf (Elt Ideal) ℓ) : Prop :=
  True

def Pre_MmSplitRefIdeal (m : (ℓ : Loc Cert.MmSplitRefIdeal.nD Cert.MmSplitRefIdeal.τ Cert.MmSplitRefIdeal.sig) → Buf (Elt Ideal) ℓ) : Prop :=
  True

def Pre_Sums (m : (ℓ : Loc Cert.Sums.nD Cert.Sums.τ Cert.Sums.sig) → Buf (Elt Bits) ℓ) : Prop :=
  True

def Pre_SumsIdeal (m : (ℓ : Loc Cert.SumsIdeal.nD Cert.SumsIdeal.τ Cert.SumsIdeal.sig) → Buf (Elt Ideal) ℓ) : Prop :=
  True

def Pre_SumsRefIdeal (m : (ℓ : Loc Cert.SumsRefIdeal.nD Cert.SumsRefIdeal.τ Cert.SumsRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3)
      ∧ r.2.mem ((c.tc : Thread Cert.Ln.nD Cert.Ln.τ).loc Cert.Ln.main_arg4) = m ((c.tc : Thread Cert.Ln.nD Cert.Ln.τ).loc Cert.Ln.main_arg4))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
      ∧ r.2.mem ((c.tc : Thread Cert.LnIdeal.nD Cert.LnIdeal.τ).loc Cert.LnIdeal.main_arg4) = m ((c.tc : Thread Cert.LnIdeal.nD Cert.LnIdeal.τ).loc Cert.LnIdeal.main_arg4))
      ∧ r.2.sem = fun _ => 0)

def quiescent_LnIdeal_pre_ln_finite [hLnIdeal : Cert.LnIdeal.Facts] [hPre_ln_finite : Cert.Pre_ln_finite.Facts] : Prop :=
  ∀ (m : (ℓ : Loc Cert.LnIdeal.nD Cert.LnIdeal.τ Cert.LnIdeal.sig) → Buf (Elt Ideal) ℓ) (g : Dev Cert.LnIdeal.nD → PrngReg), Pre_LnIdeal_ln_finite m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
      ∧ r.2.mem ((c.tc : Thread Cert.LnIdeal.nD Cert.LnIdeal.τ).loc Cert.LnIdeal.main_arg4) = m ((c.tc : Thread Cert.LnIdeal.nD Cert.LnIdeal.τ).loc Cert.LnIdeal.main_arg4))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3)
      ∧ r.2.mem ((c.tc : Thread Cert.LnRefIdeal.nD Cert.LnRefIdeal.τ).loc Cert.LnRefIdeal.main_arg4) = m ((c.tc : Thread Cert.LnRefIdeal.nD Cert.LnRefIdeal.τ).loc Cert.LnRefIdeal.main_arg4))
      ∧ r.2.sem = fun _ => 0)

def quiescent_LnRefIdeal_pre_ln_finite [hLnRefIdeal : Cert.LnRefIdeal.Facts] [hPre_ln_finite : Cert.Pre_ln_finite.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal_ln_finite m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3)
      ∧ r.2.mem ((c.tc : Thread Cert.LnRefIdeal.nD Cert.LnRefIdeal.τ).loc Cert.LnRefIdeal.main_arg4) = m ((c.tc : Thread Cert.LnRefIdeal.nD Cert.LnRefIdeal.τ).loc Cert.LnRefIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvIdeal_pre_conv_finite [hConvIdeal : Cert.ConvIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_conv_finite m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_ConvRefIdeal_pre_conv_finite [hConvRefIdeal : Cert.ConvRefIdeal.Facts] [hPre_conv_finite : Cert.Pre_conv_finite.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_conv_finite m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_MmNn [hMmNn : Cert.MmNn.Facts] : Prop :=
  ∀ (m : (ℓ : Loc Cert.MmNn.nD Cert.MmNn.τ Cert.MmNn.sig) → Buf (Elt Bits) ℓ) (g : Dev Cert.MmNn.nD → PrngReg), Pre_MmNn m →
    θ_run (Cert.MmNn.defs (F := Bits)) (onTc (τ := Cert.MmNn.τ) (Cert.MmNn.main (F := Bits))) ⟨m, fun _ => 0, g⟩ (fun r => (∀ c : Dev Cert.MmNn.nD,
      r.2.mem ((c.tc : Thread Cert.MmNn.nD Cert.MmNn.τ).loc Cert.MmNn.main_arg0) = m ((c.tc : Thread Cert.MmNn.nD Cert.MmNn.τ).loc Cert.MmNn.main_arg0)
      ∧ r.2.mem ((c.tc : Thread Cert.MmNn.nD Cert.MmNn.τ).loc Cert.MmNn.main_arg1) = m ((c.tc : Thread Cert.MmNn.nD Cert.MmNn.τ).loc Cert.MmNn.main_arg1))
      ∧ r.2.sem = fun _ => 0)

def quiescent_MmNnIdeal [hMmNnIdeal : Cert.MmNnIdeal.Facts] : Prop :=
  ∀ (m : (ℓ : Loc Cert.MmNnIdeal.nD Cert.MmNnIdeal.τ Cert.MmNnIdeal.sig) → Buf (Elt Ideal) ℓ) (g : Dev Cert.MmNnIdeal.nD → PrngReg), Pre_MmNnIdeal m →
    θ_run (Cert.MmNnIdeal.defs (F := Ideal)) (onTc (τ := Cert.MmNnIdeal.τ) (Cert.MmNnIdeal.main (F := Ideal))) ⟨m, fun _ => 0, g⟩ (fun r => (∀ c : Dev Cert.MmNnIdeal.nD,
      r.2.mem ((c.tc : Thread Cert.MmNnIdeal.nD Cert.MmNnIdeal.τ).loc Cert.MmNnIdeal.main_arg0) = m ((c.tc : Thread Cert.MmNnIdeal.nD Cert.MmNnIdeal.τ).loc Cert.MmNnIdeal.main_arg0)
      ∧ r.2.mem ((c.tc : Thread Cert.MmNnIdeal.nD Cert.MmNnIdeal.τ).loc Cert.MmNnIdeal.main_arg1) = m ((c.tc : Thread Cert.MmNnIdeal.nD Cert.MmNnIdeal.τ).loc Cert.MmNnIdeal.main_arg1))
      ∧ r.2.sem = fun _ => 0)

def quiescent_MmNnRefIdeal [hMmNnRefIdeal : Cert.MmNnRefIdeal.Facts] : Prop :=
  ∀ (m : (ℓ : Loc Cert.MmNnRefIdeal.nD Cert.MmNnRefIdeal.τ Cert.MmNnRefIdeal.sig) → Buf (Elt Ideal) ℓ) (g : Dev Cert.MmNnRefIdeal.nD → PrngReg), Pre_MmNnRefIdeal m →
    θ_run (Cert.MmNnRefIdeal.defs (F := Ideal)) (onTc (τ := Cert.MmNnRefIdeal.τ) (Cert.MmNnRefIdeal.main (F := Ideal))) ⟨m, fun _ => 0, g⟩ (fun r => (∀ c : Dev Cert.MmNnRefIdeal.nD,
      r.2.mem ((c.tc : Thread Cert.MmNnRefIdeal.nD Cert.MmNnRefIdeal.τ).loc Cert.MmNnRefIdeal.main_arg0) = m ((c.tc : Thread Cert.MmNnRefIdeal.nD Cert.MmNnRefIdeal.τ).loc Cert.MmNnRefIdeal.main_arg0)
      ∧ r.2.mem ((c.tc : Thread Cert.MmNnRefIdeal.nD Cert.MmNnRefIdeal.τ).loc Cert.MmNnRefIdeal.main_arg1) = m ((c.tc : Thread Cert.MmNnRefIdeal.nD Cert.MmNnRefIdeal.τ).loc Cert.MmNnRefIdeal.main_arg1))
      ∧ r.2.sem = fun _ => 0)

def quiescent_MmNt [hMmNt : Cert.MmNt.Facts] : Prop :=
  ∀ (m : (ℓ : Loc Cert.MmNt.nD Cert.MmNt.τ Cert.MmNt.sig) → Buf (Elt Bits) ℓ) (g : Dev Cert.MmNt.nD → PrngReg), Pre_MmNt m →
    θ_run (Cert.MmNt.defs (F := Bits)) (onTc (τ := Cert.MmNt.τ) (Cert.MmNt.main (F := Bits))) ⟨m, fun _ => 0, g⟩ (fun r => (∀ c : Dev Cert.MmNt.nD,
      r.2.mem ((c.tc : Thread Cert.MmNt.nD Cert.MmNt.τ).loc Cert.MmNt.main_arg0) = m ((c.tc : Thread Cert.MmNt.nD Cert.MmNt.τ).loc Cert.MmNt.main_arg0)
      ∧ r.2.mem ((c.tc : Thread Cert.MmNt.nD Cert.MmNt.τ).loc Cert.MmNt.main_arg1) = m ((c.tc : Thread Cert.MmNt.nD Cert.MmNt.τ).loc Cert.MmNt.main_arg1))
      ∧ r.2.sem = fun _ => 0)

def quiescent_MmNtIdeal [hMmNtIdeal : Cert.MmNtIdeal.Facts] : Prop :=
  ∀ (m : (ℓ : Loc Cert.MmNtIdeal.nD Cert.MmNtIdeal.τ Cert.MmNtIdeal.sig) → Buf (Elt Ideal) ℓ) (g : Dev Cert.MmNtIdeal.nD → PrngReg), Pre_MmNtIdeal m →
    θ_run (Cert.MmNtIdeal.defs (F := Ideal)) (onTc (τ := Cert.MmNtIdeal.τ) (Cert.MmNtIdeal.main (F := Ideal))) ⟨m, fun _ => 0, g⟩ (fun r => (∀ c : Dev Cert.MmNtIdeal.nD,
      r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
      ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1))
      ∧ r.2.sem = fun _ => 0)

def quiescent_MmNtRefIdeal [hMmNtRefIdeal : Cert.MmNtRefIdeal.Facts] : Prop :=
  ∀ (m : (ℓ : Loc Cert.MmNtRefIdeal.nD Cert.MmNtRefIdeal.τ Cert.MmNtRefIdeal.sig) → Buf (Elt Ideal) ℓ) (g : Dev Cert.MmNtRefIdeal.nD → PrngReg), Pre_MmNtRefIdeal m →
    θ_run (Cert.MmNtRefIdeal.defs (F := Ideal)) (onTc (τ := Cert.MmNtRefIdeal.τ) (Cert.MmNtRefIdeal.main (F := Ideal))) ⟨m, fun _ => 0, g⟩ (fun r => (∀ c : Dev Cert.MmNtRefIdeal.nD,
      r.2.mem ((c.tc : Thread Cert.MmNtRefIdeal.nD Cert.MmNtRefIdeal.τ).loc Cert.MmNtRefIdeal.main_arg0) = m ((c.tc : Thread Cert.MmNtRefIdeal.nD Cert.MmNtRefIdeal.τ).loc Cert.MmNtRefIdeal.main_arg0)
      ∧ r.2.mem ((c.tc : Thread Cert.MmNtRefIdeal.nD Cert.MmNtRefIdeal.τ).loc Cert.MmNtRefIdeal.main_arg1) = m ((c.tc : Thread Cert.MmNtRefIdeal.nD Cert.MmNtRefIdeal.τ).loc Cert.MmNtRefIdeal.main_arg1))
      ∧ r.2.sem = fun _ => 0)

def quiescent_MmBcols [hMmBcols : Cert.MmBcols.Facts] : Prop :=
  ∀ (m : (ℓ : Loc Cert.MmBcols.nD Cert.MmBcols.τ Cert.MmBcols.sig) → Buf (Elt Bits) ℓ) (g : Dev Cert.MmBcols.nD → PrngReg), Pre_MmBcols m →
    θ_run (Cert.MmBcols.defs (F := Bits)) (onTc (τ := Cert.MmBcols.τ) (Cert.MmBcols.main (F := Bits))) ⟨m, fun _ => 0, g⟩ (fun r => (∀ c : Dev Cert.MmBcols.nD,
      r.2.mem ((c.tc : Thread Cert.MmBcols.nD Cert.MmBcols.τ).loc Cert.MmBcols.main_arg0) = m ((c.tc : Thread Cert.MmBcols.nD Cert.MmBcols.τ).loc Cert.MmBcols.main_arg0)
      ∧ r.2.mem ((c.tc : Thread Cert.MmBcols.nD Cert.MmBcols.τ).loc Cert.MmBcols.main_arg1) = m ((c.tc : Thread Cert.MmBcols.nD Cert.MmBcols.τ).loc Cert.MmBcols.main_arg1))
      ∧ r.2.sem = fun _ => 0)

def quiescent_MmBcolsIdeal [hMmBcolsIdeal : Cert.MmBcolsIdeal.Facts] : Prop :=
  ∀ (m : (ℓ : Loc Cert.MmBcolsIdeal.nD Cert.MmBcolsIdeal.τ Cert.MmBcolsIdeal.sig) → Buf (Elt Ideal) ℓ) (g : Dev Cert.MmBcolsIdeal.nD → PrngReg), Pre_MmBcolsIdeal m →
    θ_run (Cert.MmBcolsIdeal.defs (F := Ideal)) (onTc (τ := Cert.MmBcolsIdeal.τ) (Cert.MmBcolsIdeal.main (F := Ideal))) ⟨m, fun _ => 0, g⟩ (fun r => (∀ c : Dev Cert.MmBcolsIdeal.nD,
      r.2.mem ((c.tc : Thread Cert.MmBcolsIdeal.nD Cert.MmBcolsIdeal.τ).loc Cert.MmBcolsIdeal.main_arg0) = m ((c.tc : Thread Cert.MmBcolsIdeal.nD Cert.MmBcolsIdeal.τ).loc Cert.MmBcolsIdeal.main_arg0)
      ∧ r.2.mem ((c.tc : Thread Cert.MmBcolsIdeal.nD Cert.MmBcolsIdeal.τ).loc Cert.MmBcolsIdeal.main_arg1) = m ((c.tc : Thread Cert.MmBcolsIdeal.nD Cert.MmBcolsIdeal.τ).loc Cert.MmBcolsIdeal.main_arg1))
      ∧ r.2.sem = fun _ => 0)

def quiescent_MmBcolsRefIdeal [hMmBcolsRefIdeal : Cert.MmBcolsRefIdeal.Facts] : Prop :=
  ∀ (m : (ℓ : Loc Cert.MmBcolsRefIdeal.nD Cert.MmBcolsRefIdeal.τ Cert.MmBcolsRefIdeal.sig) → Buf (Elt Ideal) ℓ) (g : Dev Cert.MmBcolsRefIdeal.nD → PrngReg), Pre_MmBcolsRefIdeal m →
    θ_run (Cert.MmBcolsRefIdeal.defs (F := Ideal)) (onTc (τ := Cert.MmBcolsRefIdeal.τ) (Cert.MmBcolsRefIdeal.main (F := Ideal))) ⟨m, fun _ => 0, g⟩ (fun r => (∀ c : Dev Cert.MmBcolsRefIdeal.nD,
      r.2.mem ((c.tc : Thread Cert.MmBcolsRefIdeal.nD Cert.MmBcolsRefIdeal.τ).loc Cert.MmBcolsRefIdeal.main_arg0) = m ((c.tc : Thread Cert.MmBcolsRefIdeal.nD Cert.MmBcolsRefIdeal.τ).loc Cert.MmBcolsRefIdeal.main_arg0)
      ∧ r.2.mem ((c.tc : Thread Cert.MmBcolsRefIdeal.nD Cert.MmBcolsRefIdeal.τ).loc Cert.MmBcolsRefIdeal.main_arg1) = m ((c.tc : Thread Cert.MmBcolsRefIdeal.nD Cert.MmBcolsRefIdeal.τ).loc Cert.MmBcolsRefIdeal.main_arg1))
      ∧ r.2.sem = fun _ => 0)

def quiescent_MmAcols [hMmAcols : Cert.MmAcols.Facts] : Prop :=
  ∀ (m : (ℓ : Loc Cert.MmAcols.nD Cert.MmAcols.τ Cert.MmAcols.sig) → Buf (Elt Bits) ℓ) (g : Dev Cert.MmAcols.nD → PrngReg), Pre_MmAcols m →
    θ_run (Cert.MmAcols.defs (F := Bits)) (onTc (τ := Cert.MmAcols.τ) (Cert.MmAcols.main (F := Bits))) ⟨m, fun _ => 0, g⟩ (fun r => (∀ c : Dev Cert.MmAcols.nD,
      r.2.mem ((c.tc : Thread Cert.MmAcols.nD Cert.MmAcols.τ).loc Cert.MmAcols.main_arg0) = m ((c.tc : Thread Cert.MmAcols.nD Cert.MmAcols.τ).loc Cert.MmAcols.main_arg0)
      ∧ r.2.mem ((c.tc : Thread Cert.MmAcols.nD Cert.MmAcols.τ).loc Cert.MmAcols.main_arg1) = m ((c.tc : Thread Cert.MmAcols.nD Cert.MmAcols.τ).loc Cert.MmAcols.main_arg1))
      ∧ r.2.sem = fun _ => 0)

def quiescent_MmAcolsIdeal [hMmAcolsIdeal : Cert.MmAcolsIdeal.Facts] : Prop :=
  ∀ (m : (ℓ : Loc Cert.MmAcolsIdeal.nD Cert.MmAcolsIdeal.τ Cert.MmAcolsIdeal.sig) → Buf (Elt Ideal) ℓ) (g : Dev Cert.MmAcolsIdeal.nD → PrngReg), Pre_MmAcolsIdeal m →
    θ_run (Cert.MmAcolsIdeal.defs (F := Ideal)) (onTc (τ := Cert.MmAcolsIdeal.τ) (Cert.MmAcolsIdeal.main (F := Ideal))) ⟨m, fun _ => 0, g⟩ (fun r => (∀ c : Dev Cert.MmAcolsIdeal.nD,
      r.2.mem ((c.tc : Thread Cert.MmAcolsIdeal.nD Cert.MmAcolsIdeal.τ).loc Cert.MmAcolsIdeal.main_arg0) = m ((c.tc : Thread Cert.MmAcolsIdeal.nD Cert.MmAcolsIdeal.τ).loc Cert.MmAcolsIdeal.main_arg0)
      ∧ r.2.mem ((c.tc : Thread Cert.MmAcolsIdeal.nD Cert.MmAcolsIdeal.τ).loc Cert.MmAcolsIdeal.main_arg1) = m ((c.tc : Thread Cert.MmAcolsIdeal.nD Cert.MmAcolsIdeal.τ).loc Cert.MmAcolsIdeal.main_arg1))
      ∧ r.2.sem = fun _ => 0)

def quiescent_MmAcolsRefIdeal [hMmAcolsRefIdeal : Cert.MmAcolsRefIdeal.Facts] : Prop :=
  ∀ (m : (ℓ : Loc Cert.MmAcolsRefIdeal.nD Cert.MmAcolsRefIdeal.τ Cert.MmAcolsRefIdeal.sig) → Buf (Elt Ideal) ℓ) (g : Dev Cert.MmAcolsRefIdeal.nD → PrngReg), Pre_MmAcolsRefIdeal m →
    θ_run (Cert.MmAcolsRefIdeal.defs (F := Ideal)) (onTc (τ := Cert.MmAcolsRefIdeal.τ) (Cert.MmAcolsRefIdeal.main (F := Ideal))) ⟨m, fun _ => 0, g⟩ (fun r => (∀ c : Dev Cert.MmAcolsRefIdeal.nD,
      r.2.mem ((c.tc : Thread Cert.MmAcolsRefIdeal.nD Cert.MmAcolsRefIdeal.τ).loc Cert.MmAcolsRefIdeal.main_arg0) = m ((c.tc : Thread Cert.MmAcolsRefIdeal.nD Cert.MmAcolsRefIdeal.τ).loc Cert.MmAcolsRefIdeal.main_arg0)
      ∧ r.2.mem ((c.tc : Thread Cert.MmAcolsRefIdeal.nD Cert.MmAcolsRefIdeal.τ).loc Cert.MmAcolsRefIdeal.main_arg1) = m ((c.tc : Thread Cert.MmAcolsRefIdeal.nD Cert.MmAcolsRefIdeal.τ).loc Cert.MmAcolsRefIdeal.main_arg1))
      ∧ r.2.sem = fun _ => 0)

def quiescent_MmHalves [hMmHalves : Cert.MmHalves.Facts] : Prop :=
  ∀ (m : (ℓ : Loc Cert.MmHalves.nD Cert.MmHalves.τ Cert.MmHalves.sig) → Buf (Elt Bits) ℓ) (g : Dev Cert.MmHalves.nD → PrngReg), Pre_MmHalves m →
    θ_run (Cert.MmHalves.defs (F := Bits)) (onTc (τ := Cert.MmHalves.τ) (Cert.MmHalves.main (F := Bits))) ⟨m, fun _ => 0, g⟩ (fun r => (∀ c : Dev Cert.MmHalves.nD,
      r.2.mem ((c.tc : Thread Cert.MmHalves.nD Cert.MmHalves.τ).loc Cert.MmHalves.main_arg0) = m ((c.tc : Thread Cert.MmHalves.nD Cert.MmHalves.τ).loc Cert.MmHalves.main_arg0)
      ∧ r.2.mem ((c.tc : Thread Cert.MmHalves.nD Cert.MmHalves.τ).loc Cert.MmHalves.main_arg1) = m ((c.tc : Thread Cert.MmHalves.nD Cert.MmHalves.τ).loc Cert.MmHalves.main_arg1))
      ∧ r.2.sem = fun _ => 0)

def quiescent_MmHalvesIdeal [hMmHalvesIdeal : Cert.MmHalvesIdeal.Facts] : Prop :=
  ∀ (m : (ℓ : Loc Cert.MmHalvesIdeal.nD Cert.MmHalvesIdeal.τ Cert.MmHalvesIdeal.sig) → Buf (Elt Ideal) ℓ) (g : Dev Cert.MmHalvesIdeal.nD → PrngReg), Pre_MmHalvesIdeal m →
    θ_run (Cert.MmHalvesIdeal.defs (F := Ideal)) (onTc (τ := Cert.MmHalvesIdeal.τ) (Cert.MmHalvesIdeal.main (F := Ideal))) ⟨m, fun _ => 0, g⟩ (fun r => (∀ c : Dev Cert.MmHalvesIdeal.nD,
      r.2.mem ((c.tc : Thread Cert.MmHalvesIdeal.nD Cert.MmHalvesIdeal.τ).loc Cert.MmHalvesIdeal.main_arg0) = m ((c.tc : Thread Cert.MmHalvesIdeal.nD Cert.MmHalvesIdeal.τ).loc Cert.MmHalvesIdeal.main_arg0)
      ∧ r.2.mem ((c.tc : Thread Cert.MmHalvesIdeal.nD Cert.MmHalvesIdeal.τ).loc Cert.MmHalvesIdeal.main_arg1) = m ((c.tc : Thread Cert.MmHalvesIdeal.nD Cert.MmHalvesIdeal.τ).loc Cert.MmHalvesIdeal.main_arg1))
      ∧ r.2.sem = fun _ => 0)

def quiescent_MmHalvesRefIdeal [hMmHalvesRefIdeal : Cert.MmHalvesRefIdeal.Facts] : Prop :=
  ∀ (m : (ℓ : Loc Cert.MmHalvesRefIdeal.nD Cert.MmHalvesRefIdeal.τ Cert.MmHalvesRefIdeal.sig) → Buf (Elt Ideal) ℓ) (g : Dev Cert.MmHalvesRefIdeal.nD → PrngReg), Pre_MmHalvesRefIdeal m →
    θ_run (Cert.MmHalvesRefIdeal.defs (F := Ideal)) (onTc (τ := Cert.MmHalvesRefIdeal.τ) (Cert.MmHalvesRefIdeal.main (F := Ideal))) ⟨m, fun _ => 0, g⟩ (fun r => (∀ c : Dev Cert.MmHalvesRefIdeal.nD,
      r.2.mem ((c.tc : Thread Cert.MmHalvesRefIdeal.nD Cert.MmHalvesRefIdeal.τ).loc Cert.MmHalvesRefIdeal.main_arg0) = m ((c.tc : Thread Cert.MmHalvesRefIdeal.nD Cert.MmHalvesRefIdeal.τ).loc Cert.MmHalvesRefIdeal.main_arg0)
      ∧ r.2.mem ((c.tc : Thread Cert.MmHalvesRefIdeal.nD Cert.MmHalvesRefIdeal.τ).loc Cert.MmHalvesRefIdeal.main_arg1) = m ((c.tc : Thread Cert.MmHalvesRefIdeal.nD Cert.MmHalvesRefIdeal.τ).loc Cert.MmHalvesRefIdeal.main_arg1))
      ∧ r.2.sem = fun _ => 0)

def quiescent_MmSplit [hMmSplit : Cert.MmSplit.Facts] : Prop :=
  ∀ (m : (ℓ : Loc Cert.MmSplit.nD Cert.MmSplit.τ Cert.MmSplit.sig) → Buf (Elt Bits) ℓ) (g : Dev Cert.MmSplit.nD → PrngReg), Pre_MmSplit m →
    θ_run (Cert.MmSplit.defs (F := Bits)) (onTc (τ := Cert.MmSplit.τ) (Cert.MmSplit.main (F := Bits))) ⟨m, fun _ => 0, g⟩ (fun r => (∀ c : Dev Cert.MmSplit.nD,
      r.2.mem ((c.tc : Thread Cert.MmSplit.nD Cert.MmSplit.τ).loc Cert.MmSplit.main_arg0) = m ((c.tc : Thread Cert.MmSplit.nD Cert.MmSplit.τ).loc Cert.MmSplit.main_arg0)
      ∧ r.2.mem ((c.tc : Thread Cert.MmSplit.nD Cert.MmSplit.τ).loc Cert.MmSplit.main_arg1) = m ((c.tc : Thread Cert.MmSplit.nD Cert.MmSplit.τ).loc Cert.MmSplit.main_arg1)
      ∧ r.2.mem ((c.tc : Thread Cert.MmSplit.nD Cert.MmSplit.τ).loc Cert.MmSplit.main_arg2) = m ((c.tc : Thread Cert.MmSplit.nD Cert.MmSplit.τ).loc Cert.MmSplit.main_arg2))
      ∧ r.2.sem = fun _ => 0)

def quiescent_MmSplitIdeal [hMmSplitIdeal : Cert.MmSplitIdeal.Facts] : Prop :=
  ∀ (m : (ℓ : Loc Cert.MmSplitIdeal.nD Cert.MmSplitIdeal.τ Cert.MmSplitIdeal.sig) → Buf (Elt Ideal) ℓ) (g : Dev Cert.MmSplitIdeal.nD → PrngReg), Pre_MmSplitIdeal m →
    θ_run (Cert.MmSplitIdeal.defs (F := Ideal)) (onTc (τ := Cert.MmSplitIdeal.τ) (Cert.MmSplitIdeal.main (F := Ideal))) ⟨m, fun _ => 0, g⟩ (fun r => (∀ c : Dev Cert.MmSplitIdeal.nD,
      r.2.mem ((c.tc : Thread Cert.MmSplitIdeal.nD Cert.MmSplitIdeal.τ).loc Cert.MmSplitIdeal.main_arg0) = m ((c.tc : Thread Cert.MmSplitIdeal.nD Cert.MmSplitIdeal.τ).loc Cert.MmSplitIdeal.main_arg0)
      ∧ r.2.mem ((c.tc : Thread Cert.MmSplitIdeal.nD Cert.MmSplitIdeal.τ).loc Cert.MmSplitIdeal.main_arg1) = m ((c.tc : Thread Cert.MmSplitIdeal.nD Cert.MmSplitIdeal.τ).loc Cert.MmSplitIdeal.main_arg1)
      ∧ r.2.mem ((c.tc : Thread Cert.MmSplitIdeal.nD Cert.MmSplitIdeal.τ).loc Cert.MmSplitIdeal.main_arg2) = m ((c.tc : Thread Cert.MmSplitIdeal.nD Cert.MmSplitIdeal.τ).loc Cert.MmSplitIdeal.main_arg2))
      ∧ r.2.sem = fun _ => 0)

def quiescent_MmSplitRefIdeal [hMmSplitRefIdeal : Cert.MmSplitRefIdeal.Facts] : Prop :=
  ∀ (m : (ℓ : Loc Cert.MmSplitRefIdeal.nD Cert.MmSplitRefIdeal.τ Cert.MmSplitRefIdeal.sig) → Buf (Elt Ideal) ℓ) (g : Dev Cert.MmSplitRefIdeal.nD → PrngReg), Pre_MmSplitRefIdeal m →
    θ_run (Cert.MmSplitRefIdeal.defs (F := Ideal)) (onTc (τ := Cert.MmSplitRefIdeal.τ) (Cert.MmSplitRefIdeal.main (F := Ideal))) ⟨m, fun _ => 0, g⟩ (fun r => (∀ c : Dev Cert.MmSplitRefIdeal.nD,
      r.2.mem ((c.tc : Thread Cert.MmSplitRefIdeal.nD Cert.MmSplitRefIdeal.τ).loc Cert.MmSplitRefIdeal.main_arg0) = m ((c.tc : Thread Cert.MmSplitRefIdeal.nD Cert.MmSplitRefIdeal.τ).loc Cert.MmSplitRefIdeal.main_arg0)
      ∧ r.2.mem ((c.tc : Thread Cert.MmSplitRefIdeal.nD Cert.MmSplitRefIdeal.τ).loc Cert.MmSplitRefIdeal.main_arg1) = m ((c.tc : Thread Cert.MmSplitRefIdeal.nD Cert.MmSplitRefIdeal.τ).loc Cert.MmSplitRefIdeal.main_arg1)
      ∧ r.2.mem ((c.tc : Thread Cert.MmSplitRefIdeal.nD Cert.MmSplitRefIdeal.τ).loc Cert.MmSplitRefIdeal.main_arg2) = m ((c.tc : Thread Cert.MmSplitRefIdeal.nD Cert.MmSplitRefIdeal.τ).loc Cert.MmSplitRefIdeal.main_arg2))
      ∧ r.2.sem = fun _ => 0)

def quiescent_Sums [hSums : Cert.Sums.Facts] : Prop :=
  ∀ (m : (ℓ : Loc Cert.Sums.nD Cert.Sums.τ Cert.Sums.sig) → Buf (Elt Bits) ℓ) (g : Dev Cert.Sums.nD → PrngReg), Pre_Sums m →
    θ_run (Cert.Sums.defs (F := Bits)) (onTc (τ := Cert.Sums.τ) (Cert.Sums.main (F := Bits))) ⟨m, fun _ => 0, g⟩ (fun r => (∀ c : Dev Cert.Sums.nD,
      r.2.mem ((c.tc : Thread Cert.Sums.nD Cert.Sums.τ).loc Cert.Sums.main_arg0) = m ((c.tc : Thread Cert.Sums.nD Cert.Sums.τ).loc Cert.Sums.main_arg0))
      ∧ r.2.sem = fun _ => 0)

def quiescent_SumsIdeal [hSumsIdeal : Cert.SumsIdeal.Facts] : Prop :=
  ∀ (m : (ℓ : Loc Cert.SumsIdeal.nD Cert.SumsIdeal.τ Cert.SumsIdeal.sig) → Buf (Elt Ideal) ℓ) (g : Dev Cert.SumsIdeal.nD → PrngReg), Pre_SumsIdeal m →
    θ_run (Cert.SumsIdeal.defs (F := Ideal)) (onTc (τ := Cert.SumsIdeal.τ) (Cert.SumsIdeal.main (F := Ideal))) ⟨m, fun _ => 0, g⟩ (fun r => (∀ c : Dev Cert.SumsIdeal.nD,
      r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0))
      ∧ r.2.sem = fun _ => 0)

def quiescent_SumsRefIdeal [hSumsRefIdeal : Cert.SumsRefIdeal.Facts] : Prop :=
  ∀ (m : (ℓ : Loc Cert.SumsRefIdeal.nD Cert.SumsRefIdeal.τ Cert.SumsRefIdeal.sig) → Buf (Elt Ideal) ℓ) (g : Dev Cert.SumsRefIdeal.nD → PrngReg), Pre_SumsRefIdeal m →
    θ_run (Cert.SumsRefIdeal.defs (F := Ideal)) (onTc (τ := Cert.SumsRefIdeal.τ) (Cert.SumsRefIdeal.main (F := Ideal))) ⟨m, fun _ => 0, g⟩ (fun r => (∀ c : Dev Cert.SumsRefIdeal.nD,
      r.2.mem ((c.tc : Thread Cert.SumsRefIdeal.nD Cert.SumsRefIdeal.τ).loc Cert.SumsRefIdeal.main_arg0) = m ((c.tc : Thread Cert.SumsRefIdeal.nD Cert.SumsRefIdeal.τ).loc Cert.SumsRefIdeal.main_arg0))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_1)) (v1 : (c : Dev Cert.LossIdeal.nD) → Buf (Elt Ideal) ((c.tc : Thread Cert.LossIdeal.nD Cert.LossIdeal.τ).loc Cert.LossIdeal.main_v0_0)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_1) = v0 c
          ∧ r.2.mem ((c.tc : Thread Cert.LossIdeal.nD Cert.LossIdeal.τ).loc Cert.LossIdeal.main_v0_0) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v15) = v0 c
          ∧ r.2.mem ((c.tc : Thread Cert.LossRefIdeal.nD Cert.LossRefIdeal.τ).loc Cert.LossRefIdeal.main_v14) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v2_0)) (v1 : (c : Dev Cert.GluIdeal.nD) → Buf (Elt Ideal) ((c.tc : Thread Cert.GluIdeal.nD Cert.GluIdeal.τ).loc Cert.GluIdeal.main_v3_0)) (v2 : (c : Dev Cert.GluIdeal.nD) → Buf (Elt Ideal) ((c.tc : Thread Cert.GluIdeal.nD Cert.GluIdeal.τ).loc Cert.GluIdeal.main_v3_1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v2_0) = v0 c
          ∧ r.2.mem ((c.tc : Thread Cert.GluIdeal.nD Cert.GluIdeal.τ).loc Cert.GluIdeal.main_v3_0) = v1 c
          ∧ r.2.mem ((c.tc : Thread Cert.GluIdeal.nD Cert.GluIdeal.τ).loc Cert.GluIdeal.main_v3_1) = v2 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v33) = v0 c
          ∧ r.2.mem ((c.tc : Thread Cert.GluRefIdeal.nD Cert.GluRefIdeal.τ).loc Cert.GluRefIdeal.main_v34) = v1 c
          ∧ r.2.mem ((c.tc : Thread Cert.GluRefIdeal.nD Cert.GluRefIdeal.τ).loc Cert.GluRefIdeal.main_v41) = v2 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v8_0)) (v1 : (c : Dev Cert.AttnIdeal.nD) → Buf (Elt Ideal) ((c.tc : Thread Cert.AttnIdeal.nD Cert.AttnIdeal.τ).loc Cert.AttnIdeal.main_v9_0)) (v2 : (c : Dev Cert.AttnIdeal.nD) → Buf (Elt Ideal) ((c.tc : Thread Cert.AttnIdeal.nD Cert.AttnIdeal.τ).loc Cert.AttnIdeal.main_v11)) (v3 : (c : Dev Cert.AttnIdeal.nD) → Buf (Elt Ideal) ((c.tc : Thread Cert.AttnIdeal.nD Cert.AttnIdeal.τ).loc Cert.AttnIdeal.main_v13)) (v4 : (c : Dev Cert.AttnIdeal.nD) → Buf (Elt Ideal) ((c.tc : Thread Cert.AttnIdeal.nD Cert.AttnIdeal.τ).loc Cert.AttnIdeal.main_v14)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v8_0) = v0 c
          ∧ r.2.mem ((c.tc : Thread Cert.AttnIdeal.nD Cert.AttnIdeal.τ).loc Cert.AttnIdeal.main_v9_0) = v1 c
          ∧ r.2.mem ((c.tc : Thread Cert.AttnIdeal.nD Cert.AttnIdeal.τ).loc Cert.AttnIdeal.main_v11) = v2 c
          ∧ r.2.mem ((c.tc : Thread Cert.AttnIdeal.nD Cert.AttnIdeal.τ).loc Cert.AttnIdeal.main_v13) = v3 c
          ∧ r.2.mem ((c.tc : Thread Cert.AttnIdeal.nD Cert.AttnIdeal.τ).loc Cert.AttnIdeal.main_v14) = v4 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v94) = v0 c
          ∧ r.2.mem ((c.tc : Thread Cert.AttnRefIdeal.nD Cert.AttnRefIdeal.τ).loc Cert.AttnRefIdeal.main_v155) = v1 c
          ∧ r.2.mem ((c.tc : Thread Cert.AttnRefIdeal.nD Cert.AttnRefIdeal.τ).loc Cert.AttnRefIdeal.main_v154) = v2 c
          ∧ r.2.mem ((c.tc : Thread Cert.AttnRefIdeal.nD Cert.AttnRefIdeal.τ).loc Cert.AttnRefIdeal.main_v147) = v3 c
          ∧ r.2.mem ((c.tc : Thread Cert.AttnRefIdeal.nD Cert.AttnRefIdeal.τ).loc Cert.AttnRefIdeal.main_v132) = v4 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v25_0)) (v1 : (c : Dev Cert.RopeIdeal.nD) → Buf (Elt Ideal) ((c.tc : Thread Cert.RopeIdeal.nD Cert.RopeIdeal.τ).loc Cert.RopeIdeal.main_v25_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v25_0) = v0 c
          ∧ r.2.mem ((c.tc : Thread Cert.RopeIdeal.nD Cert.RopeIdeal.τ).loc Cert.RopeIdeal.main_v25_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v109) = v0 c
          ∧ r.2.mem ((c.tc : Thread Cert.RopeRefIdeal.nD Cert.RopeRefIdeal.τ).loc Cert.RopeRefIdeal.main_v111) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v2_0)) (v1 : (c : Dev Cert.PoolIdeal.nD) → Buf (Elt Ideal) ((c.tc : Thread Cert.PoolIdeal.nD Cert.PoolIdeal.τ).loc Cert.PoolIdeal.main_v3_0)) (v2 : (c : Dev Cert.PoolIdeal.nD) → Buf (Elt Ideal) ((c.tc : Thread Cert.PoolIdeal.nD Cert.PoolIdeal.τ).loc Cert.PoolIdeal.main_v3_1)) (v3 : (c : Dev Cert.PoolIdeal.nD) → Buf (Elt Ideal) ((c.tc : Thread Cert.PoolIdeal.nD Cert.PoolIdeal.τ).loc Cert.PoolIdeal.main_v3_2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v2_0) = v0 c
          ∧ r.2.mem ((c.tc : Thread Cert.PoolIdeal.nD Cert.PoolIdeal.τ).loc Cert.PoolIdeal.main_v3_0) = v1 c
          ∧ r.2.mem ((c.tc : Thread Cert.PoolIdeal.nD Cert.PoolIdeal.τ).loc Cert.PoolIdeal.main_v3_1) = v2 c
          ∧ r.2.mem ((c.tc : Thread Cert.PoolIdeal.nD Cert.PoolIdeal.τ).loc Cert.PoolIdeal.main_v3_2) = v3 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v159) = v0 c
          ∧ r.2.mem ((c.tc : Thread Cert.PoolRefIdeal.nD Cert.PoolRefIdeal.τ).loc Cert.PoolRefIdeal.main_v161) = v1 c
          ∧ r.2.mem ((c.tc : Thread Cert.PoolRefIdeal.nD Cert.PoolRefIdeal.τ).loc Cert.PoolRefIdeal.main_v145) = v2 c
          ∧ r.2.mem ((c.tc : Thread Cert.PoolRefIdeal.nD Cert.PoolRefIdeal.τ).loc Cert.PoolRefIdeal.main_v162) = v3 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_Ln_LnIdeal : Prop :=
  True

def algebraic_LnIdeal_LnRefIdeal_pre_ln_finite [hLnIdeal : Cert.LnIdeal.Facts] [hLnRefIdeal : Cert.LnRefIdeal.Facts] [hPre_ln_finite : Cert.Pre_ln_finite.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal_ln_finite m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)
      ∧ m' ((c.tc : Thread Cert.LnRefIdeal.nD Cert.LnRefIdeal.τ).loc Cert.LnRefIdeal.main_arg3) = m ((c.tc : Thread Cert.LnIdeal.nD Cert.LnIdeal.τ).loc Cert.LnIdeal.main_arg3)
      ∧ m' ((c.tc : Thread Cert.LnRefIdeal.nD Cert.LnRefIdeal.τ).loc Cert.LnRefIdeal.main_arg4) = m ((c.tc : Thread Cert.LnIdeal.nD Cert.LnIdeal.τ).loc Cert.LnIdeal.main_arg4)) →
    ∃ (v0 : (c : Dev Cert.LnIdeal.nD) → Buf (Elt Ideal) ((c.tc : Thread Cert.LnIdeal.nD Cert.LnIdeal.τ).loc Cert.LnIdeal.main_v2_0)) (v1 : (c : Dev Cert.LnIdeal.nD) → Buf (Elt Ideal) ((c.tc : Thread Cert.LnIdeal.nD Cert.LnIdeal.τ).loc Cert.LnIdeal.main_v2_1)) (v2 : (c : Dev Cert.LnIdeal.nD) → Buf (Elt Ideal) ((c.tc : Thread Cert.LnIdeal.nD Cert.LnIdeal.τ).loc Cert.LnIdeal.main_v3_0)) (v3 : (c : Dev Cert.LnIdeal.nD) → Buf (Elt Ideal) ((c.tc : Thread Cert.LnIdeal.nD Cert.LnIdeal.τ).loc Cert.LnIdeal.main_v3_1)) (v4 : (c : Dev Cert.LnIdeal.nD) → Buf (Elt Ideal) ((c.tc : Thread Cert.LnIdeal.nD Cert.LnIdeal.τ).loc Cert.LnIdeal.main_v3_2)) (v5 : (c : Dev Cert.LnIdeal.nD) → Buf (Elt Ideal) ((c.tc : Thread Cert.LnIdeal.nD Cert.LnIdeal.τ).loc Cert.LnIdeal.main_v3_3)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v2_0) = v0 c
          ∧ r.2.mem ((c.tc : Thread Cert.LnIdeal.nD Cert.LnIdeal.τ).loc Cert.LnIdeal.main_v2_1) = v1 c
          ∧ r.2.mem ((c.tc : Thread Cert.LnIdeal.nD Cert.LnIdeal.τ).loc Cert.LnIdeal.main_v3_0) = v2 c
          ∧ r.2.mem ((c.tc : Thread Cert.LnIdeal.nD Cert.LnIdeal.τ).loc Cert.LnIdeal.main_v3_1) = v3 c
          ∧ r.2.mem ((c.tc : Thread Cert.LnIdeal.nD Cert.LnIdeal.τ).loc Cert.LnIdeal.main_v3_2) = v4 c
          ∧ r.2.mem ((c.tc : Thread Cert.LnIdeal.nD Cert.LnIdeal.τ).loc Cert.LnIdeal.main_v3_3) = v5 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
          ∧ r.2.mem ((c.tc : Thread Cert.LnIdeal.nD Cert.LnIdeal.τ).loc Cert.LnIdeal.main_arg4) = m ((c.tc : Thread Cert.LnIdeal.nD Cert.LnIdeal.τ).loc Cert.LnIdeal.main_arg4))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v31) = v0 c
          ∧ r.2.mem ((c.tc : Thread Cert.LnRefIdeal.nD Cert.LnRefIdeal.τ).loc Cert.LnRefIdeal.main_v66) = v1 c
          ∧ r.2.mem ((c.tc : Thread Cert.LnRefIdeal.nD Cert.LnRefIdeal.τ).loc Cert.LnRefIdeal.main_v65) = v2 c
          ∧ r.2.mem ((c.tc : Thread Cert.LnRefIdeal.nD Cert.LnRefIdeal.τ).loc Cert.LnRefIdeal.main_v67) = v3 c
          ∧ r.2.mem ((c.tc : Thread Cert.LnRefIdeal.nD Cert.LnRefIdeal.τ).loc Cert.LnRefIdeal.main_v68) = v4 c
          ∧ r.2.mem ((c.tc : Thread Cert.LnRefIdeal.nD Cert.LnRefIdeal.τ).loc Cert.LnRefIdeal.main_v69) = v5 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3)
          ∧ r.2.mem ((c.tc : Thread Cert.LnRefIdeal.nD Cert.LnRefIdeal.τ).loc Cert.LnRefIdeal.main_arg4) = m' ((c.tc : Thread Cert.LnRefIdeal.nD Cert.LnRefIdeal.τ).loc Cert.LnRefIdeal.main_arg4))

def preserves_Conv_ConvIdeal : Prop :=
  True

def algebraic_ConvIdeal_ConvRefIdeal_pre_conv_finite [hConvIdeal : Cert.ConvIdeal.Facts] [hConvRefIdeal : Cert.ConvRefIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_conv_finite m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v40)) (v1 : (c : Dev Cert.ConvIdeal.nD) → Buf (Elt Ideal) ((c.tc : Thread Cert.ConvIdeal.nD Cert.ConvIdeal.τ).loc Cert.ConvIdeal.main_v41)) (v2 : (c : Dev Cert.ConvIdeal.nD) → Buf (Elt Ideal) ((c.tc : Thread Cert.ConvIdeal.nD Cert.ConvIdeal.τ).loc Cert.ConvIdeal.main_v42)) (v3 : (c : Dev Cert.ConvIdeal.nD) → Buf (Elt Ideal) ((c.tc : Thread Cert.ConvIdeal.nD Cert.ConvIdeal.τ).loc Cert.ConvIdeal.main_v43)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v40) = v0 c
          ∧ r.2.mem ((c.tc : Thread Cert.ConvIdeal.nD Cert.ConvIdeal.τ).loc Cert.ConvIdeal.main_v41) = v1 c
          ∧ r.2.mem ((c.tc : Thread Cert.ConvIdeal.nD Cert.ConvIdeal.τ).loc Cert.ConvIdeal.main_v42) = v2 c
          ∧ r.2.mem ((c.tc : Thread Cert.ConvIdeal.nD Cert.ConvIdeal.τ).loc Cert.ConvIdeal.main_v43) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v75) = v0 c
          ∧ r.2.mem ((c.tc : Thread Cert.ConvRefIdeal.nD Cert.ConvRefIdeal.τ).loc Cert.ConvRefIdeal.main_v83) = v1 c
          ∧ r.2.mem ((c.tc : Thread Cert.ConvRefIdeal.nD Cert.ConvRefIdeal.τ).loc Cert.ConvRefIdeal.main_v69) = v2 c
          ∧ r.2.mem ((c.tc : Thread Cert.ConvRefIdeal.nD Cert.ConvRefIdeal.τ).loc Cert.ConvRefIdeal.main_v60) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v4_0)) (v1 : (c : Dev Cert.AdamIdeal.nD) → Buf (Elt Ideal) ((c.tc : Thread Cert.AdamIdeal.nD Cert.AdamIdeal.τ).loc Cert.AdamIdeal.main_v4_1)) (v2 : (c : Dev Cert.AdamIdeal.nD) → Buf (Elt Ideal) ((c.tc : Thread Cert.AdamIdeal.nD Cert.AdamIdeal.τ).loc Cert.AdamIdeal.main_v4_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v4_0) = v0 c
          ∧ r.2.mem ((c.tc : Thread Cert.AdamIdeal.nD Cert.AdamIdeal.τ).loc Cert.AdamIdeal.main_v4_1) = v1 c
          ∧ r.2.mem ((c.tc : Thread Cert.AdamIdeal.nD Cert.AdamIdeal.τ).loc Cert.AdamIdeal.main_v4_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v24) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v26) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_MmNn_MmNnIdeal : Prop :=
  True

def algebraic_MmNnIdeal_MmNnRefIdeal [hMmNnIdeal : Cert.MmNnIdeal.Facts] [hMmNnRefIdeal : Cert.MmNnRefIdeal.Facts] : Prop :=
  ∀ (m : (ℓ : Loc Cert.MmNnIdeal.nD Cert.MmNnIdeal.τ Cert.MmNnIdeal.sig) → Buf (Elt Ideal) ℓ) (g : Dev Cert.MmNnIdeal.nD → PrngReg)
    (m' : (ℓ : Loc Cert.MmNnRefIdeal.nD Cert.MmNnRefIdeal.τ Cert.MmNnRefIdeal.sig) → Buf (Elt Ideal) ℓ) (g' : Dev Cert.MmNnRefIdeal.nD → PrngReg), Pre_MmNnIdeal m →
    (∀ c : Dev Cert.MmNnIdeal.nD,
      m' ((c.tc : Thread Cert.MmNnRefIdeal.nD Cert.MmNnRefIdeal.τ).loc Cert.MmNnRefIdeal.main_arg0) = m ((c.tc : Thread Cert.MmNnIdeal.nD Cert.MmNnIdeal.τ).loc Cert.MmNnIdeal.main_arg0)
      ∧ m' ((c.tc : Thread Cert.MmNnRefIdeal.nD Cert.MmNnRefIdeal.τ).loc Cert.MmNnRefIdeal.main_arg1) = m ((c.tc : Thread Cert.MmNnIdeal.nD Cert.MmNnIdeal.τ).loc Cert.MmNnIdeal.main_arg1)) →
    ∃ (v0 : (c : Dev Cert.MmNnIdeal.nD) → Buf (Elt Ideal) ((c.tc : Thread Cert.MmNnIdeal.nD Cert.MmNnIdeal.τ).loc Cert.MmNnIdeal.main_v0)),
      θ_run (Cert.MmNnIdeal.defs (F := Ideal)) (onTc (τ := Cert.MmNnIdeal.τ) (Cert.MmNnIdeal.main (F := Ideal))) ⟨m, fun _ => 0, g⟩ (fun r => ∀ c : Dev Cert.MmNnIdeal.nD,
          r.2.mem ((c.tc : Thread Cert.MmNnIdeal.nD Cert.MmNnIdeal.τ).loc Cert.MmNnIdeal.main_v0) = v0 c
          ∧ r.2.mem ((c.tc : Thread Cert.MmNnIdeal.nD Cert.MmNnIdeal.τ).loc Cert.MmNnIdeal.main_arg0) = m ((c.tc : Thread Cert.MmNnIdeal.nD Cert.MmNnIdeal.τ).loc Cert.MmNnIdeal.main_arg0)
          ∧ r.2.mem ((c.tc : Thread Cert.MmNnIdeal.nD Cert.MmNnIdeal.τ).loc Cert.MmNnIdeal.main_arg1) = m ((c.tc : Thread Cert.MmNnIdeal.nD Cert.MmNnIdeal.τ).loc Cert.MmNnIdeal.main_arg1))
      ∧ θ_run (Cert.MmNnRefIdeal.defs (F := Ideal)) (onTc (τ := Cert.MmNnRefIdeal.τ) (Cert.MmNnRefIdeal.main (F := Ideal))) ⟨m', fun _ => 0, g'⟩ (fun r => ∀ c : Dev Cert.MmNnRefIdeal.nD,
          r.2.mem ((c.tc : Thread Cert.MmNnRefIdeal.nD Cert.MmNnRefIdeal.τ).loc Cert.MmNnRefIdeal.main_v2) = v0 c
          ∧ r.2.mem ((c.tc : Thread Cert.MmNnRefIdeal.nD Cert.MmNnRefIdeal.τ).loc Cert.MmNnRefIdeal.main_arg0) = m' ((c.tc : Thread Cert.MmNnRefIdeal.nD Cert.MmNnRefIdeal.τ).loc Cert.MmNnRefIdeal.main_arg0)
          ∧ r.2.mem ((c.tc : Thread Cert.MmNnRefIdeal.nD Cert.MmNnRefIdeal.τ).loc Cert.MmNnRefIdeal.main_arg1) = m' ((c.tc : Thread Cert.MmNnRefIdeal.nD Cert.MmNnRefIdeal.τ).loc Cert.MmNnRefIdeal.main_arg1))

def preserves_MmNt_MmNtIdeal : Prop :=
  True

def algebraic_MmNtIdeal_MmNtRefIdeal [hMmNtIdeal : Cert.MmNtIdeal.Facts] [hMmNtRefIdeal : Cert.MmNtRefIdeal.Facts] : Prop :=
  ∀ (m : (ℓ : Loc Cert.MmNtIdeal.nD Cert.MmNtIdeal.τ Cert.MmNtIdeal.sig) → Buf (Elt Ideal) ℓ) (g : Dev Cert.MmNtIdeal.nD → PrngReg)
    (m' : (ℓ : Loc Cert.MmNtRefIdeal.nD Cert.MmNtRefIdeal.τ Cert.MmNtRefIdeal.sig) → Buf (Elt Ideal) ℓ) (g' : Dev Cert.MmNtRefIdeal.nD → PrngReg), Pre_MmNtIdeal m →
    (∀ c : Dev Cert.MmNtIdeal.nD,
      m' ((c.tc : Thread Cert.MmNtRefIdeal.nD Cert.MmNtRefIdeal.τ).loc Cert.MmNtRefIdeal.main_arg0) = m ((c.tc : Thread Cert.MmNtIdeal.nD Cert.MmNtIdeal.τ).loc Cert.MmNtIdeal.main_arg0)
      ∧ m' ((c.tc : Thread Cert.MmNtRefIdeal.nD Cert.MmNtRefIdeal.τ).loc Cert.MmNtRefIdeal.main_arg1) = m ((c.tc : Thread Cert.MmNtIdeal.nD Cert.MmNtIdeal.τ).loc Cert.MmNtIdeal.main_arg1)) →
    ∃ (v0 : (c : Dev Cert.MmNtIdeal.nD) → Buf (Elt Ideal) ((c.tc : Thread Cert.MmNtIdeal.nD Cert.MmNtIdeal.τ).loc Cert.MmNtIdeal.main_v0)),
      θ_run (Cert.MmNtIdeal.defs (F := Ideal)) (onTc (τ := Cert.MmNtIdeal.τ) (Cert.MmNtIdeal.main (F := Ideal))) ⟨m, fun _ => 0, g⟩ (fun r => ∀ c : Dev Cert.MmNtIdeal.nD,
          r.2.mem ((c.tc : Thread Cert.MmNtIdeal.nD Cert.MmNtIdeal.τ).loc Cert.MmNtIdeal.main_v0) = v0 c
          ∧ r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
          ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1))
      ∧ θ_run (Cert.MmNtRefIdeal.defs (F := Ideal)) (onTc (τ := Cert.MmNtRefIdeal.τ) (Cert.MmNtRefIdeal.main (F := Ideal))) ⟨m', fun _ => 0, g'⟩ (fun r => ∀ c : Dev Cert.MmNtRefIdeal.nD,
          r.2.mem ((c.tc : Thread Cert.MmNtRefIdeal.nD Cert.MmNtRefIdeal.τ).loc Cert.MmNtRefIdeal.main_v2) = v0 c
          ∧ r.2.mem ((c.tc : Thread Cert.MmNtRefIdeal.nD Cert.MmNtRefIdeal.τ).loc Cert.MmNtRefIdeal.main_arg0) = m' ((c.tc : Thread Cert.MmNtRefIdeal.nD Cert.MmNtRefIdeal.τ).loc Cert.MmNtRefIdeal.main_arg0)
          ∧ r.2.mem ((c.tc : Thread Cert.MmNtRefIdeal.nD Cert.MmNtRefIdeal.τ).loc Cert.MmNtRefIdeal.main_arg1) = m' ((c.tc : Thread Cert.MmNtRefIdeal.nD Cert.MmNtRefIdeal.τ).loc Cert.MmNtRefIdeal.main_arg1))

def preserves_MmBcols_MmBcolsIdeal : Prop :=
  True

def algebraic_MmBcolsIdeal_MmBcolsRefIdeal [hMmBcolsIdeal : Cert.MmBcolsIdeal.Facts] [hMmBcolsRefIdeal : Cert.MmBcolsRefIdeal.Facts] : Prop :=
  ∀ (m : (ℓ : Loc Cert.MmBcolsIdeal.nD Cert.MmBcolsIdeal.τ Cert.MmBcolsIdeal.sig) → Buf (Elt Ideal) ℓ) (g : Dev Cert.MmBcolsIdeal.nD → PrngReg)
    (m' : (ℓ : Loc Cert.MmBcolsRefIdeal.nD Cert.MmBcolsRefIdeal.τ Cert.MmBcolsRefIdeal.sig) → Buf (Elt Ideal) ℓ) (g' : Dev Cert.MmBcolsRefIdeal.nD → PrngReg), Pre_MmBcolsIdeal m →
    (∀ c : Dev Cert.MmBcolsIdeal.nD,
      m' ((c.tc : Thread Cert.MmBcolsRefIdeal.nD Cert.MmBcolsRefIdeal.τ).loc Cert.MmBcolsRefIdeal.main_arg0) = m ((c.tc : Thread Cert.MmBcolsIdeal.nD Cert.MmBcolsIdeal.τ).loc Cert.MmBcolsIdeal.main_arg0)
      ∧ m' ((c.tc : Thread Cert.MmBcolsRefIdeal.nD Cert.MmBcolsRefIdeal.τ).loc Cert.MmBcolsRefIdeal.main_arg1) = m ((c.tc : Thread Cert.MmBcolsIdeal.nD Cert.MmBcolsIdeal.τ).loc Cert.MmBcolsIdeal.main_arg1)) →
    ∃ (v0 : (c : Dev Cert.MmBcolsIdeal.nD) → Buf (Elt Ideal) ((c.tc : Thread Cert.MmBcolsIdeal.nD Cert.MmBcolsIdeal.τ).loc Cert.MmBcolsIdeal.main_v0)),
      θ_run (Cert.MmBcolsIdeal.defs (F := Ideal)) (onTc (τ := Cert.MmBcolsIdeal.τ) (Cert.MmBcolsIdeal.main (F := Ideal))) ⟨m, fun _ => 0, g⟩ (fun r => ∀ c : Dev Cert.MmBcolsIdeal.nD,
          r.2.mem ((c.tc : Thread Cert.MmBcolsIdeal.nD Cert.MmBcolsIdeal.τ).loc Cert.MmBcolsIdeal.main_v0) = v0 c
          ∧ r.2.mem ((c.tc : Thread Cert.MmBcolsIdeal.nD Cert.MmBcolsIdeal.τ).loc Cert.MmBcolsIdeal.main_arg0) = m ((c.tc : Thread Cert.MmBcolsIdeal.nD Cert.MmBcolsIdeal.τ).loc Cert.MmBcolsIdeal.main_arg0)
          ∧ r.2.mem ((c.tc : Thread Cert.MmBcolsIdeal.nD Cert.MmBcolsIdeal.τ).loc Cert.MmBcolsIdeal.main_arg1) = m ((c.tc : Thread Cert.MmBcolsIdeal.nD Cert.MmBcolsIdeal.τ).loc Cert.MmBcolsIdeal.main_arg1))
      ∧ θ_run (Cert.MmBcolsRefIdeal.defs (F := Ideal)) (onTc (τ := Cert.MmBcolsRefIdeal.τ) (Cert.MmBcolsRefIdeal.main (F := Ideal))) ⟨m', fun _ => 0, g'⟩ (fun r => ∀ c : Dev Cert.MmBcolsRefIdeal.nD,
          r.2.mem ((c.tc : Thread Cert.MmBcolsRefIdeal.nD Cert.MmBcolsRefIdeal.τ).loc Cert.MmBcolsRefIdeal.main_v6) = v0 c
          ∧ r.2.mem ((c.tc : Thread Cert.MmBcolsRefIdeal.nD Cert.MmBcolsRefIdeal.τ).loc Cert.MmBcolsRefIdeal.main_arg0) = m' ((c.tc : Thread Cert.MmBcolsRefIdeal.nD Cert.MmBcolsRefIdeal.τ).loc Cert.MmBcolsRefIdeal.main_arg0)
          ∧ r.2.mem ((c.tc : Thread Cert.MmBcolsRefIdeal.nD Cert.MmBcolsRefIdeal.τ).loc Cert.MmBcolsRefIdeal.main_arg1) = m' ((c.tc : Thread Cert.MmBcolsRefIdeal.nD Cert.MmBcolsRefIdeal.τ).loc Cert.MmBcolsRefIdeal.main_arg1))

def preserves_MmAcols_MmAcolsIdeal : Prop :=
  True

def algebraic_MmAcolsIdeal_MmAcolsRefIdeal [hMmAcolsIdeal : Cert.MmAcolsIdeal.Facts] [hMmAcolsRefIdeal : Cert.MmAcolsRefIdeal.Facts] : Prop :=
  ∀ (m : (ℓ : Loc Cert.MmAcolsIdeal.nD Cert.MmAcolsIdeal.τ Cert.MmAcolsIdeal.sig) → Buf (Elt Ideal) ℓ) (g : Dev Cert.MmAcolsIdeal.nD → PrngReg)
    (m' : (ℓ : Loc Cert.MmAcolsRefIdeal.nD Cert.MmAcolsRefIdeal.τ Cert.MmAcolsRefIdeal.sig) → Buf (Elt Ideal) ℓ) (g' : Dev Cert.MmAcolsRefIdeal.nD → PrngReg), Pre_MmAcolsIdeal m →
    (∀ c : Dev Cert.MmAcolsIdeal.nD,
      m' ((c.tc : Thread Cert.MmAcolsRefIdeal.nD Cert.MmAcolsRefIdeal.τ).loc Cert.MmAcolsRefIdeal.main_arg0) = m ((c.tc : Thread Cert.MmAcolsIdeal.nD Cert.MmAcolsIdeal.τ).loc Cert.MmAcolsIdeal.main_arg0)
      ∧ m' ((c.tc : Thread Cert.MmAcolsRefIdeal.nD Cert.MmAcolsRefIdeal.τ).loc Cert.MmAcolsRefIdeal.main_arg1) = m ((c.tc : Thread Cert.MmAcolsIdeal.nD Cert.MmAcolsIdeal.τ).loc Cert.MmAcolsIdeal.main_arg1)) →
    ∃ (v0 : (c : Dev Cert.MmAcolsIdeal.nD) → Buf (Elt Ideal) ((c.tc : Thread Cert.MmAcolsIdeal.nD Cert.MmAcolsIdeal.τ).loc Cert.MmAcolsIdeal.main_v0)),
      θ_run (Cert.MmAcolsIdeal.defs (F := Ideal)) (onTc (τ := Cert.MmAcolsIdeal.τ) (Cert.MmAcolsIdeal.main (F := Ideal))) ⟨m, fun _ => 0, g⟩ (fun r => ∀ c : Dev Cert.MmAcolsIdeal.nD,
          r.2.mem ((c.tc : Thread Cert.MmAcolsIdeal.nD Cert.MmAcolsIdeal.τ).loc Cert.MmAcolsIdeal.main_v0) = v0 c
          ∧ r.2.mem ((c.tc : Thread Cert.MmAcolsIdeal.nD Cert.MmAcolsIdeal.τ).loc Cert.MmAcolsIdeal.main_arg0) = m ((c.tc : Thread Cert.MmAcolsIdeal.nD Cert.MmAcolsIdeal.τ).loc Cert.MmAcolsIdeal.main_arg0)
          ∧ r.2.mem ((c.tc : Thread Cert.MmAcolsIdeal.nD Cert.MmAcolsIdeal.τ).loc Cert.MmAcolsIdeal.main_arg1) = m ((c.tc : Thread Cert.MmAcolsIdeal.nD Cert.MmAcolsIdeal.τ).loc Cert.MmAcolsIdeal.main_arg1))
      ∧ θ_run (Cert.MmAcolsRefIdeal.defs (F := Ideal)) (onTc (τ := Cert.MmAcolsRefIdeal.τ) (Cert.MmAcolsRefIdeal.main (F := Ideal))) ⟨m', fun _ => 0, g'⟩ (fun r => ∀ c : Dev Cert.MmAcolsRefIdeal.nD,
          r.2.mem ((c.tc : Thread Cert.MmAcolsRefIdeal.nD Cert.MmAcolsRefIdeal.τ).loc Cert.MmAcolsRefIdeal.main_v6) = v0 c
          ∧ r.2.mem ((c.tc : Thread Cert.MmAcolsRefIdeal.nD Cert.MmAcolsRefIdeal.τ).loc Cert.MmAcolsRefIdeal.main_arg0) = m' ((c.tc : Thread Cert.MmAcolsRefIdeal.nD Cert.MmAcolsRefIdeal.τ).loc Cert.MmAcolsRefIdeal.main_arg0)
          ∧ r.2.mem ((c.tc : Thread Cert.MmAcolsRefIdeal.nD Cert.MmAcolsRefIdeal.τ).loc Cert.MmAcolsRefIdeal.main_arg1) = m' ((c.tc : Thread Cert.MmAcolsRefIdeal.nD Cert.MmAcolsRefIdeal.τ).loc Cert.MmAcolsRefIdeal.main_arg1))

def preserves_MmHalves_MmHalvesIdeal : Prop :=
  True

def algebraic_MmHalvesIdeal_MmHalvesRefIdeal [hMmHalvesIdeal : Cert.MmHalvesIdeal.Facts] [hMmHalvesRefIdeal : Cert.MmHalvesRefIdeal.Facts] : Prop :=
  ∀ (m : (ℓ : Loc Cert.MmHalvesIdeal.nD Cert.MmHalvesIdeal.τ Cert.MmHalvesIdeal.sig) → Buf (Elt Ideal) ℓ) (g : Dev Cert.MmHalvesIdeal.nD → PrngReg)
    (m' : (ℓ : Loc Cert.MmHalvesRefIdeal.nD Cert.MmHalvesRefIdeal.τ Cert.MmHalvesRefIdeal.sig) → Buf (Elt Ideal) ℓ) (g' : Dev Cert.MmHalvesRefIdeal.nD → PrngReg), Pre_MmHalvesIdeal m →
    (∀ c : Dev Cert.MmHalvesIdeal.nD,
      m' ((c.tc : Thread Cert.MmHalvesRefIdeal.nD Cert.MmHalvesRefIdeal.τ).loc Cert.MmHalvesRefIdeal.main_arg0) = m ((c.tc : Thread Cert.MmHalvesIdeal.nD Cert.MmHalvesIdeal.τ).loc Cert.MmHalvesIdeal.main_arg0)
      ∧ m' ((c.tc : Thread Cert.MmHalvesRefIdeal.nD Cert.MmHalvesRefIdeal.τ).loc Cert.MmHalvesRefIdeal.main_arg1) = m ((c.tc : Thread Cert.MmHalvesIdeal.nD Cert.MmHalvesIdeal.τ).loc Cert.MmHalvesIdeal.main_arg1)) →
    ∃ (v0 : (c : Dev Cert.MmHalvesIdeal.nD) → Buf (Elt Ideal) ((c.tc : Thread Cert.MmHalvesIdeal.nD Cert.MmHalvesIdeal.τ).loc Cert.MmHalvesIdeal.main_v0)),
      θ_run (Cert.MmHalvesIdeal.defs (F := Ideal)) (onTc (τ := Cert.MmHalvesIdeal.τ) (Cert.MmHalvesIdeal.main (F := Ideal))) ⟨m, fun _ => 0, g⟩ (fun r => ∀ c : Dev Cert.MmHalvesIdeal.nD,
          r.2.mem ((c.tc : Thread Cert.MmHalvesIdeal.nD Cert.MmHalvesIdeal.τ).loc Cert.MmHalvesIdeal.main_v0) = v0 c
          ∧ r.2.mem ((c.tc : Thread Cert.MmHalvesIdeal.nD Cert.MmHalvesIdeal.τ).loc Cert.MmHalvesIdeal.main_arg0) = m ((c.tc : Thread Cert.MmHalvesIdeal.nD Cert.MmHalvesIdeal.τ).loc Cert.MmHalvesIdeal.main_arg0)
          ∧ r.2.mem ((c.tc : Thread Cert.MmHalvesIdeal.nD Cert.MmHalvesIdeal.τ).loc Cert.MmHalvesIdeal.main_arg1) = m ((c.tc : Thread Cert.MmHalvesIdeal.nD Cert.MmHalvesIdeal.τ).loc Cert.MmHalvesIdeal.main_arg1))
      ∧ θ_run (Cert.MmHalvesRefIdeal.defs (F := Ideal)) (onTc (τ := Cert.MmHalvesRefIdeal.τ) (Cert.MmHalvesRefIdeal.main (F := Ideal))) ⟨m', fun _ => 0, g'⟩ (fun r => ∀ c : Dev Cert.MmHalvesRefIdeal.nD,
          r.2.mem ((c.tc : Thread Cert.MmHalvesRefIdeal.nD Cert.MmHalvesRefIdeal.τ).loc Cert.MmHalvesRefIdeal.main_v8) = v0 c
          ∧ r.2.mem ((c.tc : Thread Cert.MmHalvesRefIdeal.nD Cert.MmHalvesRefIdeal.τ).loc Cert.MmHalvesRefIdeal.main_arg0) = m' ((c.tc : Thread Cert.MmHalvesRefIdeal.nD Cert.MmHalvesRefIdeal.τ).loc Cert.MmHalvesRefIdeal.main_arg0)
          ∧ r.2.mem ((c.tc : Thread Cert.MmHalvesRefIdeal.nD Cert.MmHalvesRefIdeal.τ).loc Cert.MmHalvesRefIdeal.main_arg1) = m' ((c.tc : Thread Cert.MmHalvesRefIdeal.nD Cert.MmHalvesRefIdeal.τ).loc Cert.MmHalvesRefIdeal.main_arg1))

def preserves_MmSplit_MmSplitIdeal : Prop :=
  True

def algebraic_MmSplitIdeal_MmSplitRefIdeal [hMmSplitIdeal : Cert.MmSplitIdeal.Facts] [hMmSplitRefIdeal : Cert.MmSplitRefIdeal.Facts] : Prop :=
  ∀ (m : (ℓ : Loc Cert.MmSplitIdeal.nD Cert.MmSplitIdeal.τ Cert.MmSplitIdeal.sig) → Buf (Elt Ideal) ℓ) (g : Dev Cert.MmSplitIdeal.nD → PrngReg)
    (m' : (ℓ : Loc Cert.MmSplitRefIdeal.nD Cert.MmSplitRefIdeal.τ Cert.MmSplitRefIdeal.sig) → Buf (Elt Ideal) ℓ) (g' : Dev Cert.MmSplitRefIdeal.nD → PrngReg), Pre_MmSplitIdeal m →
    (∀ c : Dev Cert.MmSplitIdeal.nD,
      m' ((c.tc : Thread Cert.MmSplitRefIdeal.nD Cert.MmSplitRefIdeal.τ).loc Cert.MmSplitRefIdeal.main_arg0) = m ((c.tc : Thread Cert.MmSplitIdeal.nD Cert.MmSplitIdeal.τ).loc Cert.MmSplitIdeal.main_arg0)
      ∧ m' ((c.tc : Thread Cert.MmSplitRefIdeal.nD Cert.MmSplitRefIdeal.τ).loc Cert.MmSplitRefIdeal.main_arg1) = m ((c.tc : Thread Cert.MmSplitIdeal.nD Cert.MmSplitIdeal.τ).loc Cert.MmSplitIdeal.main_arg1)
      ∧ m' ((c.tc : Thread Cert.MmSplitRefIdeal.nD Cert.MmSplitRefIdeal.τ).loc Cert.MmSplitRefIdeal.main_arg2) = m ((c.tc : Thread Cert.MmSplitIdeal.nD Cert.MmSplitIdeal.τ).loc Cert.MmSplitIdeal.main_arg2)) →
    ∃ (v0 : (c : Dev Cert.MmSplitIdeal.nD) → Buf (Elt Ideal) ((c.tc : Thread Cert.MmSplitIdeal.nD Cert.MmSplitIdeal.τ).loc Cert.MmSplitIdeal.main_v0)),
      θ_run (Cert.MmSplitIdeal.defs (F := Ideal)) (onTc (τ := Cert.MmSplitIdeal.τ) (Cert.MmSplitIdeal.main (F := Ideal))) ⟨m, fun _ => 0, g⟩ (fun r => ∀ c : Dev Cert.MmSplitIdeal.nD,
          r.2.mem ((c.tc : Thread Cert.MmSplitIdeal.nD Cert.MmSplitIdeal.τ).loc Cert.MmSplitIdeal.main_v0) = v0 c
          ∧ r.2.mem ((c.tc : Thread Cert.MmSplitIdeal.nD Cert.MmSplitIdeal.τ).loc Cert.MmSplitIdeal.main_arg0) = m ((c.tc : Thread Cert.MmSplitIdeal.nD Cert.MmSplitIdeal.τ).loc Cert.MmSplitIdeal.main_arg0)
          ∧ r.2.mem ((c.tc : Thread Cert.MmSplitIdeal.nD Cert.MmSplitIdeal.τ).loc Cert.MmSplitIdeal.main_arg1) = m ((c.tc : Thread Cert.MmSplitIdeal.nD Cert.MmSplitIdeal.τ).loc Cert.MmSplitIdeal.main_arg1)
          ∧ r.2.mem ((c.tc : Thread Cert.MmSplitIdeal.nD Cert.MmSplitIdeal.τ).loc Cert.MmSplitIdeal.main_arg2) = m ((c.tc : Thread Cert.MmSplitIdeal.nD Cert.MmSplitIdeal.τ).loc Cert.MmSplitIdeal.main_arg2))
      ∧ θ_run (Cert.MmSplitRefIdeal.defs (F := Ideal)) (onTc (τ := Cert.MmSplitRefIdeal.τ) (Cert.MmSplitRefIdeal.main (F := Ideal))) ⟨m', fun _ => 0, g'⟩ (fun r => ∀ c : Dev Cert.MmSplitRefIdeal.nD,
          r.2.mem ((c.tc : Thread Cert.MmSplitRefIdeal.nD Cert.MmSplitRefIdeal.τ).loc Cert.MmSplitRefIdeal.main_v12) = v0 c
          ∧ r.2.mem ((c.tc : Thread Cert.MmSplitRefIdeal.nD Cert.MmSplitRefIdeal.τ).loc Cert.MmSplitRefIdeal.main_arg0) = m' ((c.tc : Thread Cert.MmSplitRefIdeal.nD Cert.MmSplitRefIdeal.τ).loc Cert.MmSplitRefIdeal.main_arg0)
          ∧ r.2.mem ((c.tc : Thread Cert.MmSplitRefIdeal.nD Cert.MmSplitRefIdeal.τ).loc Cert.MmSplitRefIdeal.main_arg1) = m' ((c.tc : Thread Cert.MmSplitRefIdeal.nD Cert.MmSplitRefIdeal.τ).loc Cert.MmSplitRefIdeal.main_arg1)
          ∧ r.2.mem ((c.tc : Thread Cert.MmSplitRefIdeal.nD Cert.MmSplitRefIdeal.τ).loc Cert.MmSplitRefIdeal.main_arg2) = m' ((c.tc : Thread Cert.MmSplitRefIdeal.nD Cert.MmSplitRefIdeal.τ).loc Cert.MmSplitRefIdeal.main_arg2))

def preserves_Sums_SumsIdeal : Prop :=
  True

def algebraic_SumsIdeal_SumsRefIdeal [hSumsIdeal : Cert.SumsIdeal.Facts] [hSumsRefIdeal : Cert.SumsRefIdeal.Facts] : Prop :=
  ∀ (m : (ℓ : Loc Cert.SumsIdeal.nD Cert.SumsIdeal.τ Cert.SumsIdeal.sig) → Buf (Elt Ideal) ℓ) (g : Dev Cert.SumsIdeal.nD → PrngReg)
    (m' : (ℓ : Loc Cert.SumsRefIdeal.nD Cert.SumsRefIdeal.τ Cert.SumsRefIdeal.sig) → Buf (Elt Ideal) ℓ) (g' : Dev Cert.SumsRefIdeal.nD → PrngReg), Pre_SumsIdeal m →
    (∀ c : Dev Cert.SumsIdeal.nD,
      m' ((c.tc : Thread Cert.SumsRefIdeal.nD Cert.SumsRefIdeal.τ).loc Cert.SumsRefIdeal.main_arg0) = m ((c.tc : Thread Cert.SumsIdeal.nD Cert.SumsIdeal.τ).loc Cert.SumsIdeal.main_arg0)) →
    ∃ (v0 : (c : Dev Cert.SumsIdeal.nD) → Buf (Elt Ideal) ((c.tc : Thread Cert.SumsIdeal.nD Cert.SumsIdeal.τ).loc Cert.SumsIdeal.main_v0)),
      θ_run (Cert.SumsIdeal.defs (F := Ideal)) (onTc (τ := Cert.SumsIdeal.τ) (Cert.SumsIdeal.main (F := Ideal))) ⟨m, fun _ => 0, g⟩ (fun r => ∀ c : Dev Cert.SumsIdeal.nD,
          r.2.mem ((c.tc : Thread Cert.SumsIdeal.nD Cert.SumsIdeal.τ).loc Cert.SumsIdeal.main_v0) = v0 c
          ∧ r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0))
      ∧ θ_run (Cert.SumsRefIdeal.defs (F := Ideal)) (onTc (τ := Cert.SumsRefIdeal.τ) (Cert.SumsRefIdeal.main (F := Ideal))) ⟨m', fun _ => 0, g'⟩ (fun r => ∀ c : Dev Cert.SumsRefIdeal.nD,
          r.2.mem ((c.tc : Thread Cert.SumsRefIdeal.nD Cert.SumsRefIdeal.τ).loc Cert.SumsRefIdeal.main_v0) = v0 c
          ∧ r.2.mem ((c.tc : Thread Cert.SumsRefIdeal.nD Cert.SumsRefIdeal.τ).loc Cert.SumsRefIdeal.main_arg0) = m' ((c.tc : Thread Cert.SumsRefIdeal.nD Cert.SumsRefIdeal.τ).loc Cert.SumsRefIdeal.main_arg0))

def Claim : Prop :=
  ∃ (hLoss : Cert.Loss.Facts) (hLossIdeal : Cert.LossIdeal.Facts) (hLossRefIdeal : Cert.LossRefIdeal.Facts) (hGlu : Cert.Glu.Facts) (hGluIdeal : Cert.GluIdeal.Facts) (hGluRefIdeal : Cert.GluRefIdeal.Facts) (hAttn : Cert.Attn.Facts) (hAttnIdeal : Cert.AttnIdeal.Facts) (hAttnRefIdeal : Cert.AttnRefIdeal.Facts) (hRope : Cert.Rope.Facts) (hRopeIdeal : Cert.RopeIdeal.Facts) (hRopeRefIdeal : Cert.RopeRefIdeal.Facts) (hPool : Cert.Pool.Facts) (hPoolIdeal : Cert.PoolIdeal.Facts) (hPoolRefIdeal : Cert.PoolRefIdeal.Facts) (hLn : Cert.Ln.Facts) (hLnIdeal : Cert.LnIdeal.Facts) (hLnRefIdeal : Cert.LnRefIdeal.Facts) (hConv : Cert.Conv.Facts) (hConvIdeal : Cert.ConvIdeal.Facts) (hConvRefIdeal : Cert.ConvRefIdeal.Facts) (hAdam : Cert.Adam.Facts) (hAdamIdeal : Cert.AdamIdeal.Facts) (hAdamRefIdeal : Cert.AdamRefIdeal.Facts) (hMmNn : Cert.MmNn.Facts) (hMmNnIdeal : Cert.MmNnIdeal.Facts) (hMmNnRefIdeal : Cert.MmNnRefIdeal.Facts) (hMmNt : Cert.MmNt.Facts) (hMmNtIdeal : Cert.MmNtIdeal.Facts) (hMmNtRefIdeal : Cert.MmNtRefIdeal.Facts) (hMmBcols : Cert.MmBcols.Facts) (hMmBcolsIdeal : Cert.MmBcolsIdeal.Facts) (hMmBcolsRefIdeal : Cert.MmBcolsRefIdeal.Facts) (hMmAcols : Cert.MmAcols.Facts) (hMmAcolsIdeal : Cert.MmAcolsIdeal.Facts) (hMmAcolsRefIdeal : Cert.MmAcolsRefIdeal.Facts) (hMmHalves : Cert.MmHalves.Facts) (hMmHalvesIdeal : Cert.MmHalvesIdeal.Facts) (hMmHalvesRefIdeal : Cert.MmHalvesRefIdeal.Facts) (hMmSplit : Cert.MmSplit.Facts) (hMmSplitIdeal : Cert.MmSplitIdeal.Facts) (hMmSplitRefIdeal : Cert.MmSplitRefIdeal.Facts) (hSums : Cert.Sums.Facts) (hSumsIdeal : Cert.SumsIdeal.Facts) (hSumsRefIdeal : Cert.SumsRefIdeal.Facts) (hPre_attn_finite : Cert.Pre_attn_finite.Facts) (hPre_pool_finite : Cert.Pre_pool_finite.Facts) (hPre_ln_finite : Cert.Pre_ln_finite.Facts) (hPre_conv_finite : Cert.Pre_conv_finite.Facts),
    quiescent_Loss (hLoss := hLoss)
    ∧ quiescent_LossIdeal (hLossIdeal := hLossIdeal)
    ∧ quiescent_LossRefIdeal (hLossRefIdeal := hLossRefIdeal)
    ∧ quiescent_Glu (hGlu := hGlu)
    ∧ quiescent_GluIdeal (hGluIdeal := hGluIdeal)
    ∧ quiescent_GluRefIdeal (hGluRefIdeal := hGluRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Rope (hRope := hRope)
    ∧ quiescent_RopeIdeal (hRopeIdeal := hRopeIdeal)
    ∧ quiescent_RopeRefIdeal (hRopeRefIdeal := hRopeRefIdeal)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_Ln (hLn := hLn)
    ∧ quiescent_LnIdeal (hLnIdeal := hLnIdeal)
    ∧ quiescent_LnIdeal_pre_ln_finite (hLnIdeal := hLnIdeal) (hPre_ln_finite := hPre_ln_finite)
    ∧ quiescent_LnRefIdeal (hLnRefIdeal := hLnRefIdeal)
    ∧ quiescent_LnRefIdeal_pre_ln_finite (hLnRefIdeal := hLnRefIdeal) (hPre_ln_finite := hPre_ln_finite)
    ∧ quiescent_Conv (hConv := hConv)
    ∧ quiescent_ConvIdeal (hConvIdeal := hConvIdeal)
    ∧ quiescent_ConvIdeal_pre_conv_finite (hConvIdeal := hConvIdeal) (hPre_conv_finite := hPre_conv_finite)
    ∧ quiescent_ConvRefIdeal (hConvRefIdeal := hConvRefIdeal)
    ∧ quiescent_ConvRefIdeal_pre_conv_finite (hConvRefIdeal := hConvRefIdeal) (hPre_conv_finite := hPre_conv_finite)
    ∧ quiescent_Adam (hAdam := hAdam)
    ∧ quiescent_AdamIdeal (hAdamIdeal := hAdamIdeal)
    ∧ quiescent_AdamRefIdeal (hAdamRefIdeal := hAdamRefIdeal)
    ∧ quiescent_MmNn (hMmNn := hMmNn)
    ∧ quiescent_MmNnIdeal (hMmNnIdeal := hMmNnIdeal)
    ∧ quiescent_MmNnRefIdeal (hMmNnRefIdeal := hMmNnRefIdeal)
    ∧ quiescent_MmNt (hMmNt := hMmNt)
    ∧ quiescent_MmNtIdeal (hMmNtIdeal := hMmNtIdeal)
    ∧ quiescent_MmNtRefIdeal (hMmNtRefIdeal := hMmNtRefIdeal)
    ∧ quiescent_MmBcols (hMmBcols := hMmBcols)
    ∧ quiescent_MmBcolsIdeal (hMmBcolsIdeal := hMmBcolsIdeal)
    ∧ quiescent_MmBcolsRefIdeal (hMmBcolsRefIdeal := hMmBcolsRefIdeal)
    ∧ quiescent_MmAcols (hMmAcols := hMmAcols)
    ∧ quiescent_MmAcolsIdeal (hMmAcolsIdeal := hMmAcolsIdeal)
    ∧ quiescent_MmAcolsRefIdeal (hMmAcolsRefIdeal := hMmAcolsRefIdeal)
    ∧ quiescent_MmHalves (hMmHalves := hMmHalves)
    ∧ quiescent_MmHalvesIdeal (hMmHalvesIdeal := hMmHalvesIdeal)
    ∧ quiescent_MmHalvesRefIdeal (hMmHalvesRefIdeal := hMmHalvesRefIdeal)
    ∧ quiescent_MmSplit (hMmSplit := hMmSplit)
    ∧ quiescent_MmSplitIdeal (hMmSplitIdeal := hMmSplitIdeal)
    ∧ quiescent_MmSplitRefIdeal (hMmSplitRefIdeal := hMmSplitRefIdeal)
    ∧ quiescent_Sums (hSums := hSums)
    ∧ quiescent_SumsIdeal (hSumsIdeal := hSumsIdeal)
    ∧ quiescent_SumsRefIdeal (hSumsRefIdeal := hSumsRefIdeal)
    ∧ preserves_Loss_LossIdeal
    ∧ algebraic_LossIdeal_LossRefIdeal (hLossIdeal := hLossIdeal) (hLossRefIdeal := hLossRefIdeal)
    ∧ preserves_Glu_GluIdeal
    ∧ algebraic_GluIdeal_GluRefIdeal (hGluIdeal := hGluIdeal) (hGluRefIdeal := hGluRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Rope_RopeIdeal
    ∧ algebraic_RopeIdeal_RopeRefIdeal (hRopeIdeal := hRopeIdeal) (hRopeRefIdeal := hRopeRefIdeal)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_Ln_LnIdeal
    ∧ algebraic_LnIdeal_LnRefIdeal_pre_ln_finite (hLnIdeal := hLnIdeal) (hLnRefIdeal := hLnRefIdeal) (hPre_ln_finite := hPre_ln_finite)
    ∧ preserves_Conv_ConvIdeal
    ∧ algebraic_ConvIdeal_ConvRefIdeal_pre_conv_finite (hConvIdeal := hConvIdeal) (hConvRefIdeal := hConvRefIdeal) (hPre_conv_finite := hPre_conv_finite)
    ∧ preserves_Adam_AdamIdeal
    ∧ algebraic_AdamIdeal_AdamRefIdeal (hAdamIdeal := hAdamIdeal) (hAdamRefIdeal := hAdamRefIdeal)
    ∧ preserves_MmNn_MmNnIdeal
    ∧ algebraic_MmNnIdeal_MmNnRefIdeal (hMmNnIdeal := hMmNnIdeal) (hMmNnRefIdeal := hMmNnRefIdeal)
    ∧ preserves_MmNt_MmNtIdeal
    ∧ algebraic_MmNtIdeal_MmNtRefIdeal (hMmNtIdeal := hMmNtIdeal) (hMmNtRefIdeal := hMmNtRefIdeal)
    ∧ preserves_MmBcols_MmBcolsIdeal
    ∧ algebraic_MmBcolsIdeal_MmBcolsRefIdeal (hMmBcolsIdeal := hMmBcolsIdeal) (hMmBcolsRefIdeal := hMmBcolsRefIdeal)
    ∧ preserves_MmAcols_MmAcolsIdeal
    ∧ algebraic_MmAcolsIdeal_MmAcolsRefIdeal (hMmAcolsIdeal := hMmAcolsIdeal) (hMmAcolsRefIdeal := hMmAcolsRefIdeal)
    ∧ preserves_MmHalves_MmHalvesIdeal
    ∧ algebraic_MmHalvesIdeal_MmHalvesRefIdeal (hMmHalvesIdeal := hMmHalvesIdeal) (hMmHalvesRefIdeal := hMmHalvesRefIdeal)
    ∧ preserves_MmSplit_MmSplitIdeal
    ∧ algebraic_MmSplitIdeal_MmSplitRefIdeal (hMmSplitIdeal := hMmSplitIdeal) (hMmSplitRefIdeal := hMmSplitRefIdeal)
    ∧ preserves_Sums_SumsIdeal
    ∧ algebraic_SumsIdeal_SumsRefIdeal (hSumsIdeal := hSumsIdeal) (hSumsRefIdeal := hSumsRefIdeal)
-- ==== Pre_attn_finite.lean ====
abbrev S2048x1024 : Shape := ⟨2, ![2048, 1024]⟩
abbrev S2048x256 : Shape := ⟨2, ![2048, 256]⟩
abbrev S16 : Shape := ⟨1, ![16]⟩
abbrev S2048x2048 : Shape := ⟨2, ![2048, 2048]⟩
abbrev S_ : Shape := ⟨0, ![]⟩

class Facts : Prop where
  bcast_S_S2048x1024 : S_.BroadcastsInDim S2048x1024 (![] : Fin 0 → Fin S2048x1024.rank)
  bcast_S_S2048x256 : S_.BroadcastsInDim S2048x256 (![] : Fin 0 → Fin S2048x256.rank)
  bcast_S_S16 : S_.BroadcastsInDim S16 (![] : Fin 0 → Fin S16.rank)
  bcast_S_S2048x2048 : S_.BroadcastsInDim S2048x2048 (![] : Fin 0 → Fin S2048x2048.rank)

variable [Facts]

def fn {F : FTy → Type} [FloatOps F] (main_arg0 : FVec F S2048x1024 .f32) (main_arg1 : FVec F S2048x256 .f32) (main_arg2 : FVec F S2048x256 .f32) (main_arg3 : FVec F S16 .f32) (main_arg4 : FVec F S2048x2048 .f32) : IVec S2048x1024 1 × IVec S2048x256 1 × IVec S2048x256 1 × IVec S16 1 × IVec S2048x2048 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x256 .f32 := Host.absf main_arg1
  let main_cst_0 : FVec F S_ .f32 := constant S_ .f32 0x7F800000#32
  let main_v4 : FVec F S2048x256 .f32 := broadcastInDim S2048x256 ![] bcast_S_S2048x256 main_cst_0
  let main_v5 : IVec S2048x256 1 := cmpf .olt main_v3 main_v4
  let main_v6 : FVec F S2048x256 .f32 := Host.absf main_arg2
  let main_cst_1 : FVec F S_ .f32 := constant S_ .f32 0x7F800000#32
  let main_v7 : FVec F S2048x256 .f32 := broadcastInDim S2048x256 ![] bcast_S_S2048x256 main_cst_1
  let main_v8 : IVec S2048x256 1 := cmpf .olt main_v6 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_v12 : FVec F S2048x2048 .f32 := Host.absf main_arg4
  let main_cst_3 : FVec F S_ .f32 := constant S_ .f32 0x7F800000#32
  let main_v13 : FVec F S2048x2048 .f32 := broadcastInDim S2048x2048 ![] bcast_S_S2048x2048 main_cst_3
  let main_v14 : IVec S2048x2048 1 := cmpf .olt main_v12 main_v13
  (main_v2, main_v5, main_v8, main_v11, main_v14)
-- ==== Pre_conv_finite.lean ====
abbrev S2048x11008 : Shape := ⟨2, ![2048, 11008]⟩
abbrev S3x11008 : Shape := ⟨2, ![3, 11008]⟩
abbrev S11008 : Shape := ⟨1, ![11008]⟩
abbrev S2048x5504 : Shape := ⟨2, ![2048, 5504]⟩
abbrev S_ : Shape := ⟨0, ![]⟩

class Facts : Prop where
  bcast_S_S2048x11008 : S_.BroadcastsInDim S2048x11008 (![] : Fin 0 → Fin S2048x11008.rank)
  bcast_S_S3x11008 : S_.BroadcastsInDim S3x11008 (![] : Fin 0 → Fin S3x11008.rank)
  bcast_S_S11008 : S_.BroadcastsInDim S11008 (![] : Fin 0 → Fin S11008.rank)
  bcast_S_S2048x5504 : S_.BroadcastsInDim S2048x5504 (![] : Fin 0 → Fin S2048x5504.rank)

variable [Facts]

def fn {F : FTy → Type} [FloatOps F] (main_arg0 : FVec F S2048x11008 .f32) (main_arg1 : FVec F S3x11008 .f32) (main_arg2 : FVec F S11008 .f32) (main_arg3 : FVec F S2048x5504 .f32) : IVec S2048x11008 1 × IVec S3x11008 1 × IVec S11008 1 × IVec S2048x5504 1 :=
  let main_v0 : FVec F S2048x11008 .f32 := Host.absf main_arg0
  let main_cst : FVec F S_ .f32 := constant S_ .f32 0x7F800000#32
  let main_v1 : FVec F S2048x11008 .f32 := broadcastInDim S2048x11008 ![] bcast_S_S2048x11008 main_cst
  let main_v2 : IVec S2048x11008 1 := cmpf .olt main_v0 main_v1
  let main_v3 : FVec F S3x11008 .f32 := Host.absf main_arg1
  let main_cst_0 : FVec F S_ .f32 := constant S_ .f32 0x7F800000#32
  let main_v4 : FVec F S3x11008 .f32 := broadcastInDim S3x11008 ![] bcast_S_S3x11008 main_cst_0
  let main_v5 : IVec S3x11008 1 := cmpf .olt main_v3 main_v4
  let main_v6 : FVec F S11008 .f32 := Host.absf main_arg2
  let main_cst_1 : FVec F S_ .f32 := constant S_ .f32 0x7F800000#32
  let main_v7 : FVec F S11008 .f32 := broadcastInDim S11008 ![] bcast_S_S11008 main_cst_1
  let main_v8 : IVec S11008 1 := cmpf .olt main_v6 main_v7
  let main_v9 : FVec F S2048x5504 .f32 := Host.absf main_arg3
  let main_cst_2 : FVec F S_ .f32 := constant S_ .f32 0x7F800000#32
  let main_v10 : FVec F S2048x5504 .f32 := broadcastInDim S2048x5504 ![] bcast_S_S2048x5504 main_cst_2
  let main_v11 : IVec S2048x5504 1 := cmpf .olt main_v9 main_v10
  (main_v2, main_v5, main_v8, main_v11)
-- ==== Pre_ln_finite.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  bcast_S_S2048 : S_.BroadcastsInDim S2048 (![] : Fin 0 → Fin S2048.rank)

variable [Facts]

def fn {F : FTy → Type} [FloatOps F] (main_arg0 : FVec F S2048x2048 .f32) (main_arg1 : FVec F S2048x2048 .f32) (main_arg2 : FVec F S2048 .f32) (main_arg3 : FVec F S2048 .f32) (main_arg4 : FVec F S2048x2048 .f32) : IVec S2048x2048 1 × IVec S2048x2048 1 × IVec S2048 1 × IVec S2048 1 × IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_v12 : FVec F S2048x2048 .f32 := Host.absf main_arg4
  let main_cst_3 : FVec F S_ .f32 := constant S_ .f32 0x7F800000#32
  let main_v13 : FVec F S2048x2048 .f32 := broadcastInDim S2048x2048 ![] bcast_S_S2048x2048 main_cst_3
  let main_v14 : IVec S2048x2048 1 := cmpf .olt main_v12 main_v13
  (main_v2, main_v5, main_v8, main_v11, main_v14)
-- ==== Pre_pool_finite.lean ====
abbrev S2048x2560 : Shape := ⟨2, ![2048, 2560]⟩
abbrev S4x128x128 : Shape := ⟨3, ![4, 128, 128]⟩
abbrev S512 : Shape := ⟨1, ![512]⟩
abbrev S2048x2048 : Shape := ⟨2, ![2048, 2048]⟩
abbrev S_ : Shape := ⟨0, ![]⟩

class Facts : Prop where
  bcast_S_S2048x2560 : S_.BroadcastsInDim S2048x2560 (![] : Fin 0 → Fin S2048x2560.rank)
  bcast_S_S4x128x128 : S_.BroadcastsInDim S4x128x128 (![] : Fin 0 → Fin S4x128x128.rank)
  bcast_S_S512 : S_.BroadcastsInDim S512 (![] : Fin 0 → Fin S512.rank)
  bcast_S_S2048x2048 : S_.BroadcastsInDim S2048x2048 (![] : Fin 0 → Fin S2048x2048.rank)

variable [Facts]

def fn {F : FTy → Type} [FloatOps F] (main_arg0 : FVec F S2048x2560 .f32) (main_arg1 : FVec F S4x128x128 .f32) (main_arg2 : FVec F S512 .f32) (main_arg3 : FVec F S2048x2048 .f32) : IVec S2048x2560 1 × IVec S4x128x128 1 × IVec S512 1 × IVec S2048x2048 1 :=
  let main_v0 : FVec F S2048x2560 .f32 := Host.absf main_arg0
  let main_cst : FVec F S_ .f32 := constant S_ .f32 0x7F800000#32
  let main_v1 : FVec F S2048x2560 .f32 := broadcastInDim S2048x2560 ![] bcast_S_S2048x2560 main_cst
  let main_v2 : IVec S2048x2560 1 := cmpf .olt main_v0 main_v1
  let main_v3 : FVec F S4x128x128 .f32 := Host.absf main_arg1
  let main_cst_0 : FVec F S_ .f32 := constant S_ .f32 0x7F800000#32
  let main_v4 : FVec F S4x128x128 .f32 := broadcastInDim S4x128x128 ![] bcast_S_S4x128x128 main_cst_0
  let main_v5 : IVec S4x128x128 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S2048x2048 .f32 := Host.absf main_arg3
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  (main_v2, main_v5, main_v8, main_v11)
-- ==== Loss.lean ====
abbrev S2048x2048 : Shape := ⟨2, ![2048, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_9 : BitVec 32 := 0#32
  let v17 : BitVec 1 := Scalar.cmpi .ne v16 c0_i32_9
  v17

def k0_cond2 (i : grid0.Coords) : BitVec 1 :=
  let arg0 : BitVec 32 := BitVec.ofNat 32 (i 0).val
  let c0_i32_10 : BitVec 32 := 0#32
  let v18 : BitVec 1 := Scalar.cmpi .sgt arg0 c0_i32_10
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S2048x2048 : Shape := ⟨2, ![2048, 2048]⟩
abbrev S_ : Shape := ⟨0, ![]⟩
abbrev S2048 : Shape := ⟨1, ![2048]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x2048, .f32⟩
  | .hbm, ⟨24, _⟩ => ⟨S2048x2048, .f32⟩
  | .hbm, ⟨25, _⟩ => ⟨S1x1, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Glu.lean ====
abbrev S2048x512 : Shape := ⟨2, ![2048, 512]⟩
abbrev S512x1024 : Shape := ⟨2, ![512, 1024]⟩
abbrev S2048x2048 : Shape := ⟨2, ![2048, 2048]⟩
abbrev S2048x1024 : Shape := ⟨2, ![2048, 1024]⟩
abbrev S512x512 : Shape := ⟨2, ![512, 512]⟩

abbrev nBuf : Space → Nat
  | .hbm => 9
  | .vmem => 16
  | .smem => 0
  | _ => 0

abbrev bufTy : (tb : Table) → Fin (tcTables nBuf tb) → BufTy
  | .hbm, ⟨0, _⟩ => ⟨S2048x512, .f32⟩
  | .hbm, ⟨1, _⟩ => ⟨S512x1024, .f32⟩
  | .hbm, ⟨2, _⟩ => ⟨S2048x2048, .f32⟩
  | .hbm, ⟨3, _⟩ => ⟨S2048x512, .bf16⟩
  | .hbm, ⟨4, _⟩ => ⟨S512x1024, .bf16⟩
  | .hbm, ⟨5, _⟩ => ⟨S2048x512, .bf16⟩
  | .hbm, ⟨6, _⟩ => ⟨S2048x1024, .f32⟩
  | .hbm, ⟨7, _⟩ => ⟨S2048x1024, .bf16⟩
  | .hbm, ⟨8, _⟩ => ⟨S2048x512, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x512, .bf16⟩
  | .local _ .vmem, ⟨4, _⟩ => ⟨S512x512, .bf16⟩
  | .local _ .vmem, ⟨5, _⟩ => ⟨S512x1024, .f32⟩
  | .local _ .vmem, ⟨6, _⟩ => ⟨S512x1024, .f32⟩
  | .local _ .vmem, ⟨7, _⟩ => ⟨S512x512, .f32⟩
  | .local _ .vmem, ⟨8, _⟩ => ⟨S512x512, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x512, .f32⟩
  | .local _ .vmem, ⟨15, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c3_i32 : BitVec 32 := 3#32
  let c0_i32 : BitVec 32 := 0#32
  ![arg0.toNat, c3_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== GluRefIdeal.lean ====
abbrev S2048x512 : Shape := ⟨2, ![2048, 512]⟩
abbrev S512x1024 : Shape := ⟨2, ![512, 1024]⟩
abbrev S2048x2048 : Shape := ⟨2, ![2048, 2048]⟩
abbrev S2048x1024 : Shape := ⟨2, ![2048, 1024]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x1024, .f32⟩
  | .hbm, ⟨2, _⟩ => ⟨S2048x2048, .f32⟩
  | .hbm, ⟨3, _⟩ => ⟨S2048x512, .f32⟩
  | .hbm, ⟨4, _⟩ => ⟨S2048x1024, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S_, .f32⟩
  | .hbm, ⟨10, _⟩ => ⟨S2048x512, .f32⟩
  | .hbm, ⟨11, _⟩ => ⟨S2048x512, .f32⟩
  | .hbm, ⟨12, _⟩ => ⟨S_, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x1024, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S_, .f32⟩
  | .hbm, ⟨29, _⟩ => ⟨S2048x512, .f32⟩
  | .hbm, ⟨30, _⟩ => ⟨S2048x512, .f32⟩
  | .hbm, ⟨31, _⟩ => ⟨S_, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S_, .f32⟩
  | .hbm, ⟨40, _⟩ => ⟨S2048x1024, .f32⟩
  | .hbm, ⟨41, _⟩ => ⟨S_, .f32⟩
  | .hbm, ⟨42, _⟩ => ⟨S2048x1024, .f32⟩
  | .hbm, ⟨43, _⟩ => ⟨S2048x1024, .f32⟩
  | .hbm, ⟨44, _⟩ => ⟨S2048x512, .bf16⟩
  | .hbm, ⟨45, _⟩ => ⟨S2048x1024, .bf16⟩
  | .hbm, ⟨46, _⟩ => ⟨S2048x512, .f32⟩
  | .hbm, ⟨47, _⟩ => ⟨S2048x512, .f32⟩
  | .hbm, ⟨48, _⟩ => ⟨S2048x512, .f32⟩
  | .hbm, ⟨49, _⟩ => ⟨S_, .f32⟩
  | .hbm, ⟨50, _⟩ => ⟨S2048x1024, .f32⟩
  | .hbm, ⟨51, _⟩ => ⟨S_, .f32⟩
  | .hbm, ⟨52, _⟩ => ⟨S2048x1024, .f32⟩
  | .hbm, ⟨53, _⟩ => ⟨S2048x1024, .f32⟩
  | .hbm, ⟨54, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_7 : Ref sig .tc := ⟨.hbm, 49, rfl⟩
abbrev main_v38 : Ref sig .tc := ⟨.hbm, 50, rfl⟩
abbrev main_cst_8 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Attn.lean ====
abbrev S2048x1024 : Shape := ⟨2, ![2048, 1024]⟩
abbrev S2048x256 : Shape := ⟨2, ![2048, 256]⟩
abbrev S16 : Shape := ⟨1, ![16]⟩
abbrev S2048x2048 : Shape := ⟨2, ![2048, 2048]⟩
abbrev S2048x4x64 : Shape := ⟨3, ![2048, 4, 64]⟩
abbrev S4x2048x64 : Shape := ⟨3, ![4, 2048, 64]⟩
abbrev S4x4 : Shape := ⟨2, ![4, 4]⟩
abbrev S4x2048x4 : Shape := ⟨3, ![4, 2048, 4]⟩
abbrev S1x2048x64 : Shape := ⟨3, ![1, 2048, 64]⟩
abbrev S1x2048x4 : Shape := ⟨3, ![1, 2048, 4]⟩
abbrev S512x256 : Shape := ⟨2, ![512, 256]⟩
abbrev S1x1 : Shape := ⟨2, ![1, 1]⟩
abbrev S512x1 : Shape := ⟨2, ![512, 1]⟩
abbrev S1x128x64 : Shape := ⟨3, ![1, 128, 64]⟩
abbrev S128x64 : Shape := ⟨2, ![128, 64]⟩
abbrev S256x64 : Shape := ⟨2, ![256, 64]⟩
abbrev S512x64 : Shape := ⟨2, ![512, 64]⟩
abbrev S512 : Shape := ⟨1, ![512]⟩
abbrev S128x1 : Shape := ⟨2, ![128, 1]⟩
abbrev S1x128x1 : Shape := ⟨3, ![1, 128, 1]⟩
abbrev S4x1x4 : Shape := ⟨3, ![4, 1, 4]⟩
abbrev S1x1x4 : Shape := ⟨3, ![1, 1, 4]⟩
abbrev S2048x64 : Shape := ⟨2, ![2048, 64]⟩
abbrev S64x512 : Shape := ⟨2, ![64, 512]⟩
abbrev S64x256 : Shape := ⟨2, ![64, 256]⟩
abbrev S1 : Shape := ⟨1, ![1]⟩
abbrev S1x1x1 : Shape := ⟨3, ![1, 1, 1]⟩

abbrev nBuf : Space → Nat
  | .hbm => 24
  | .vmem => 30
  | .smem => 2
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x256, .f32⟩
  | .hbm, ⟨3, _⟩ => ⟨S16, .f32⟩
  | .hbm, ⟨4, _⟩ => ⟨S2048x2048, .f32⟩
  | .hbm, ⟨5, _⟩ => ⟨S2048x1024, .bf16⟩
  | .hbm, ⟨6, _⟩ => ⟨S2048x256, .bf16⟩
  | .hbm, ⟨7, _⟩ => ⟨S2048x4x64, .bf16⟩
  | .hbm, ⟨8, _⟩ => ⟨S4x2048x64, .bf16⟩
  | .hbm, ⟨9, _⟩ => ⟨S2048x256, .bf16⟩
  | .hbm, ⟨10, _⟩ => ⟨S2048x4x64, .bf16⟩
  | .hbm, ⟨11, _⟩ => ⟨S4x2048x64, .bf16⟩
  | .hbm, ⟨12, _⟩ => ⟨S4x4, .f32⟩
  | .hbm, ⟨13, _⟩ => ⟨S2048x1024, .f32⟩
  | .hbm, ⟨14, _⟩ => ⟨S4x2048x4, .f32⟩
  | .hbm, ⟨15, _⟩ => ⟨S2048x1024, .f32⟩
  | .hbm, ⟨16, _⟩ => ⟨S4x2048x64, .f32⟩
  | .hbm, ⟨17, _⟩ => ⟨S4x2048x64, .f32⟩
  | .hbm, ⟨18, _⟩ => ⟨S4x1x4, .f32⟩
  | .hbm, ⟨19, _⟩ => ⟨S2048x4x64, .f32⟩
  | .hbm, ⟨20, _⟩ => ⟨S2048x256, .f32⟩
  | .hbm, ⟨21, _⟩ => ⟨S2048x4x64, .f32⟩
  | .hbm, ⟨22, _⟩ => ⟨S2048x256, .f32⟩
  | .hbm, ⟨23, _⟩ => ⟨S16, .f32⟩
  | .local _ .vmem, ⟨0, _⟩ => ⟨S2048x256, .bf16⟩
  | .local _ .vmem, ⟨1, _⟩ => ⟨S2048x256, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S2048x256, .f32⟩
  | .local _ .vmem, ⟨7, _⟩ => ⟨S2048x256, .f32⟩
  | .local _ .vmem, ⟨8, _⟩ => ⟨S1x2048x4, .f32⟩
  | .local _ .vmem, ⟨9, _⟩ => ⟨S1x2048x4, .f32⟩
  | .local _ .vmem, ⟨10, _⟩ => ⟨S2048x256, .bf16⟩
  | .local _ .vmem, ⟨11, _⟩ => ⟨S2048x256, .bf16⟩
  | .local _ .vmem, ⟨12, _⟩ => ⟨S1x2048x64, .bf16⟩
  | .local _ .vmem, ⟨13, _⟩ => ⟨S1x2048x64, .bf16⟩
  | .local _ .vmem, ⟨14, _⟩ => ⟨S1x2048x64, .bf16⟩
  | .local _ .vmem, ⟨15, _⟩ => ⟨S1x2048x64, .bf16⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S1x2048x4, .f32⟩
  | .local _ .vmem, ⟨21, _⟩ => ⟨S1x2048x4, .f32⟩
  | .local _ .vmem, ⟨22, _⟩ => ⟨S2048x256, .f32⟩
  | .local _ .vmem, ⟨23, _⟩ => ⟨S2048x256, .f32⟩
  | .local _ .vmem, ⟨24, _⟩ => ⟨S1x2048x64, .f32⟩
  | .local _ .vmem, ⟨25, _⟩ => ⟨S1x2048x64, .f32⟩
  | .local _ .vmem, ⟨26, _⟩ => ⟨S1x2048x64, .f32⟩
  | .local _ .vmem, ⟨27, _⟩ => ⟨S1x2048x64, .f32⟩
  | .local _ .vmem, ⟨28, _⟩ => ⟨S1x1x4, .f32⟩
  | .local _ .vmem, ⟨29, _⟩ => ⟨S1x1x4, .f32⟩
  | .local _ .smem, ⟨0, _⟩ => ⟨S4x4, .f32⟩
  | .local _ .smem, ⟨1, _⟩ => ⟨S4x4, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem10_1 : DmaSem sig := 31

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let v28 : Index := Scalar.indexCast arg0
  let c0 : Index := 0#32
  ![v28.toNat, 0]
def k0_off2 (i : grid0.Coords) : Fin 2 → Nat :=
  let arg0 : BitVec 32 := BitVec.ofNat 32 (i 0).val
  let v30 : Index := Scalar.indexCast arg0
  let c1 : Index := 1#32
  ![v30.toNat, 1]
def k0_off3 (i : grid0.Coords) : Fin 2 → Nat :=
  let arg0 : BitVec 32 := BitVec.ofNat 32 (i 0).val
  let v32 : Index := Scalar.indexCast arg0
  let c2 : Index := 2#32
  ![v32.toNat, 2]
def k0_off4 (i : grid0.Coords) : Fin 2 → Nat :=
  let arg0 : BitVec 32 := BitVec.ofNat 32 (i 0).val
  let v34 : Index := Scalar.indexCast arg0
  let c3 : Index := 3#32
  ![v34.toNat, 3]
@[reducible] def k0_t1_loop : Scf.Loop 32 :=
  let c0_i32_15 : BitVec 32 := 0#32
  let c16_i32 : BitVec 32 := 16#32
  let v78 : BitVec 32 := Scalar.addi c0_i32_15 c16_i32
  let c1_i32_16 : BitVec 32 := 1#32
  ⟨c0_i32_15, v78, c1_i32_16⟩
def k0_mult1 (k0_t1 : Fin k0_t1_loop.trips) : BitVec 32 :=
  let c0_i32_15 : BitVec 32 := 0#32
  let c1_i32_16 : BitVec 32 := 1#32
  let arg7 : BitVec 32 := Scf.iv c0_i32_15 c1_i32_16 k0_t1
  let c128_i32_18 : BitVec 32 := 128#32
  let v79 : BitVec 32 := Scalar.muli arg7 c128_i32_18
  v79
def k0_mult2 (k0_t1 : Fin k0_t1_loop.trips) : BitVec 32 :=
  let c0_i32_15 : BitVec 32 := 0#32
  let c1_i32_16 : BitVec 32 := 1#32
  let arg7 : BitVec 32 := Scf.iv c0_i32_15 c1_i32_16 k0_t1
  let c1_i32_19 : BitVec 32 := 1#32
  let v81 : BitVec 32 := Scalar.subi arg7 c1_i32_19
  let c0_i32_20 : BitVec 32 := 0#32
  let v82 : BitVec 32 := Scalar.maxsi v81 c0_i32_20
  let c128_i32_21 : BitVec 32 := 128#32
  let v83 : BitVec 32 := Scalar.muli v82 c128_i32_21
  v83
def k0_off5 (k0_t1 : Fin k0_t1_loop.trips) : Fin 3 → Nat :=
  let c0_22 : Index := 0#32
  let c0_i32_15 : BitVec 32 := 0#32
  let c1_i32_16 : BitVec 32 := 1#32
  let arg7 : BitVec 32 := Scf.iv c0_i32_15 c1_i32_16 k0_t1
  let c1_i32_19 : BitVec 32 := 1#32
  let v81 : BitVec 32 := Scalar.subi arg7 c1_i32_19
  let c0_i32_20 : BitVec 32 := 0#32
  let v82 : BitVec 32 := Scalar.maxsi v81 c0_i32_20
  let c128_i32_21 : BitVec 32 := 128#32
  let v83 : BitVec 32 := Scalar.muli v82 c128_i32_21
  let v84 : BitVec 32 := v83
  let v85 : Index := Scalar.indexCast v84
  let c0_23 : Index := 0#32
  ![0, v85.toNat, 0]
def k0_off6 (k0_t1 : Fin k0_t1_loop.trips) : Fin 3 → Nat :=
  let c0_24 : Index := 0#32
  let c0_i32_15 : BitVec 32 := 0#32
  let c1_i32_16 : BitVec 32 := 1#32
  let arg7 : BitVec 32 := Scf.iv c0_i32_15 c1_i32_16 k0_t1
  let c128_i32_18 : BitVec 32 := 128#32
  let v79 : BitVec 32 := Scalar.muli arg7 c128_i32_18
  let v80 : BitVec 32 := v79
  let v88 : Index := Scalar.indexCast v80
  let c0_25 : Index := 0#32
  ![0, v88.toNat, 0]
def k0_off7 (k0_t1 : Fin k0_t1_loop.trips) : Fin 2 → Nat :=
  let c0_i32_15 : BitVec 32 := 0#32
  let c1_i32_16 : BitVec 32 := 1#32
  let arg7 : BitVec 32 := Scf.iv c0_i32_15 c1_i32_16 k0_t1
  let c128_i32_18 : BitVec 32 := 128#32
  let v79 : BitVec 32 := Scalar.muli arg7 c128_i32_18
  let v80 : BitVec 32 := v79
  let v99 : Index := Scalar.indexCast v80
  let c0_30 : Index := 0#32
  ![v99.toNat, 0]
def k0_off8 (k0_t1 : Fin k0_t1_loop.trips) : Fin 2 → Nat :=
  let c0_i32_15 : BitVec 32 := 0#32
  let c1_i32_16 : BitVec 32 := 1#32
  let arg7 : BitVec 32 := Scf.iv c0_i32_15 c1_i32_16 k0_t1
  let c128_i32_18 : BitVec 32 := 128#32
  let v79 : BitVec 32 := Scalar.muli arg7 c128_i32_18
  let v80 : BitVec 32 := v79
  let v102 : Index := Scalar.indexCast v80
  let c64 : Index := 64#32
  ![v102.toNat, 64]
def k0_off9 (k0_t1 : Fin k0_t1_loop.trips) : Fin 2 → Nat :=
  let c0_i32_15 : BitVec 32 := 0#32
  let c1_i32_16 : BitVec 32 := 1#32
  let arg7 : BitVec 32 := Scf.iv c0_i32_15 c1_i32_16 k0_t1
  let c128_i32_18 : BitVec 32 := 128#32
  let v79 : BitVec 32 := Scalar.muli arg7 c128_i32_18
  let v80 : BitVec 32 := v79
  let v105 : Index := Scalar.indexCast v80
  let c128 : Index := 128#32
  ![v105.toNat, 128]
def k0_off10 (k0_t1 : Fin k0_t1_loop.trips) : Fin 2 → Nat :=
  let c0_i32_15 : BitVec 32 := 0#32
  let c1_i32_16 : BitVec 32 := 1#32
  let arg7 : BitVec 32 := Scf.iv c0_i32_15 c1_i32_16 k0_t1
  let c128_i32_18 : BitVec 32 := 128#32
  let v79 : BitVec 32 := Scalar.muli arg7 c128_i32_18
  let v80 : BitVec 32 := v79
  let v108 : Index := Scalar.indexCast v80
  let c192 : Index := 192#32
  ![v108.toNat, 192]
def k0_off11 (k0_t1 : Fin k0_t1_loop.trips) : Fin 3 → Nat :=
  let c0_39 : Index := 0#32
  let c0_i32_15 : BitVec 32 := 0#32
  let c1_i32_16 : BitVec 32 := 1#32
  let arg7 : BitVec 32 := Scf.iv c0_i32_15 c1_i32_16 k0_t1
  let c128_i32_18 : BitVec 32 := 128#32
  let v79 : BitVec 32 := Scalar.muli arg7 c128_i32_18
  let v80 : BitVec 32 := v79
  let v142 : Index := Scalar.indexCast v80
  let c0_40 : Index := 0#32
  ![0, v142.toNat, 0]
def k0_off12 (k0_t1 : Fin k0_t1_loop.trips) : Fin 3 → Nat :=
  let c0_42 : Index := 0#32
  let c0_i32_15 : BitVec 32 := 0#32
  let c1_i32_16 : BitVec 32 := 1#32
  let arg7 : BitVec 32 := Scf.iv c0_i32_15 c1_i32_16 k0_t1
  let c128_i32_18 : BitVec 32 := 128#32
  let v79 : BitVec 32 := Scalar.muli arg7 c128_i32_18
  let v80 : BitVec 32 := v79
  let v150 : Index := Scalar.indexCast v80
  let c1_43 : Index := 1#32
  ![0, v150.toNat, 1]
def k0_off13 (k0_t1 : Fin k0_t1_loop.trips) : Fin 3 → Nat :=
  let c0_45 : Index := 0#32
  let c0_i32_15 : BitVec 32 := 0#32
  let c1_i32_16 : BitVec 32 := 1#32
  let arg7 : BitVec 32 := Scf.iv c0_i32_15 c1_i32_16 k0_t1
  let c128_i32_18 : BitVec 32 := 128#32
  let v79 : BitVec 32 := Scalar.muli arg7 c128_i32_18
  let v80 : BitVec 32 := v79
  let v158 : Index := Scalar.indexCast v80
  let c2_46 : Index := 2#32
  ![0, v158.toNat, 2]
def k0_off14 (k0_t1 : Fin k0_t1_loop.trips) : Fin 3 → Nat :=
  let c0_48 : Index := 0#32
  let c0_i32_15 : BitVec 32 := 0#32
  let c1_i32_16 : BitVec 32 := 1#32
  let arg7 : BitVec 32 := Scf.iv c0_i32_15 c1_i32_16 k0_t1
  let c128_i32_18 : BitVec 32 := 128#32
  let v79 : BitVec 32 := Scalar.muli arg7 c128_i32_18
  let v80 : BitVec 32 := v79
  let v166 : Index := Scalar.indexCast v80
  let c3_49 : Index := 3#32
  ![0, v166.toNat, 3]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S4x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def k1_off1 (i : grid1.Coords) : Fin 2 → Nat :=
  let arg0 : BitVec 32 := BitVec.ofNat 32 (i 0).val
  let v36 : Index := Scalar.indexCast arg0
  let c0_12 : Index := 0#32
  ![v36.toNat, 0]
def k1_off2 (i : grid1.Coords) : Fin 2 → Nat :=
  let arg0 : BitVec 32 := BitVec.ofNat 32 (i 0).val
  let v38 : Index := Scalar.indexCast arg0
  let c1 : Index := 1#32
  ![v38.toNat, 1]
def k1_off3 (i : grid1.Coords) : Fin 2 → Nat :=
  let arg0 : BitVec 32 := BitVec.ofNat 32 (i 0).val
  let v40 : Index := Scalar.indexCast arg0
  let c2 : Index := 2#32
  ![v40.toNat, 2]
def k1_off4 (i : grid1.Coords) : Fin 2 → Nat :=
  let arg0 : BitVec 32 := BitVec.ofNat 32 (i 0).val
  let v42 : Index := Scalar.indexCast arg0
  let c3 : Index := 3#32
  ![v42.toNat, 3]
@[reducible] def k1_t1_loop : Scf.Loop 32 :=
  let c0_i32_24 : BitVec 32 := 0#32
  let c16_i32 : BitVec 32 := 16#32
  let v87 : BitVec 32 := Scalar.addi c0_i32_24 c16_i32
  let c1_i32_25 : BitVec 32 := 1#32
  ⟨c0_i32_24, v87, c1_i32_25⟩
def k1_mult1 (k1_t1 : Fin k1_t1_loop.trips) : BitVec 32 :=
  let c0_i32_24 : BitVec 32 := 0#32
  let c1_i32_25 : BitVec 32 := 1#32
  let arg12 : BitVec 32 := Scf.iv c0_i32_24 c1_i32_25 k1_t1
  let c128_i32_43 : BitVec 32 := 128#32
  let v113 : BitVec 32 := Scalar.muli arg12 c128_i32_43
  v113
def k1_mult2 (k1_t1 : Fin k1_t1_loop.trips) : BitVec 32 :=
  let c0_i32_24 : BitVec 32 := 0#32
  let c1_i32_25 : BitVec 32 := 1#32
  let arg12 : BitVec 32 := Scf.iv c0_i32_24 c1_i32_25 k1_t1
  let c1_i32_44 : BitVec 32 := 1#32
  let v115 : BitVec 32 := Scalar.subi arg12 c1_i32_44
  let c0_i32_45 : BitVec 32 := 0#32
  let v116 : BitVec 32 := Scalar.maxsi v115 c0_i32_45
  let c128_i32_46 : BitVec 32 := 128#32
  let v117 : BitVec 32 := Scalar.muli v116 c128_i32_46
  v117
def k1_off5 (k1_t1 : Fin k1_t1_loop.trips) : Fin 3 → Nat :=
  let c0_47 : Index := 0#32
  let c0_i32_24 : BitVec 32 := 0#32
  let c1_i32_25 : BitVec 32 := 1#32
  let arg12 : BitVec 32 := Scf.iv c0_i32_24 c1_i32_25 k1_t1
  let c1_i32_44 : BitVec 32 := 1#32
  let v115 : BitVec 32 := Scalar.subi arg12 c1_i32_44
  let c0_i32_45 : BitVec 32 := 0#32
  let v116 : BitVec 32 := Scalar.maxsi v115 c0_i32_45
  let c128_i32_46 : BitVec 32 := 128#32
  let v117 : BitVec 32 := Scalar.muli v116 c128_i32_46
  let v118 : BitVec 32 := v117
  let v119 : Index := Scalar.indexCast v118
  let c0_48 : Index := 0#32
  ![0, v119.toNat, 0]
def k1_off6 (k1_t1 : Fin k1_t1_loop.trips) : Fin 3 → Nat :=
  let c0_49 : Index := 0#32
  let c0_i32_24 : BitVec 32 := 0#32
  let c1_i32_25 : BitVec 32 := 1#32
  let arg12 : BitVec 32 := Scf.iv c0_i32_24 c1_i32_25 k1_t1
  let c128_i32_43 : BitVec 32 := 128#32
  let v113 : BitVec 32 := Scalar.muli arg12 c128_i32_43
  let v114 : BitVec 32 := v113
  let v122 : Index := Scalar.indexCast v114
  let c0_50 : Index := 0#32
  ![0, v122.toNat, 0]
def k1_off7 (k1_t1 : Fin k1_t1_loop.trips) : Fin 2 → Nat :=
  let c0_i32_24 : BitVec 32 := 0#32
  let c1_i32_25 : BitVec 32 := 1#32
  let arg12 : BitVec 32 := Scf.iv c0_i32_24 c1_i32_25 k1_t1
  let c128_i32_43 : BitVec 32 := 128#32
  let v113 : BitVec 32 := Scalar.muli arg12 c128_i32_43
  let v114 : BitVec 32 := v113
  let v133 : Index := Scalar.indexCast v114
  let c0_55 : Index := 0#32
  ![v133.toNat, 0]
def k1_off8 (k1_t1 : Fin k1_t1_loop.trips) : Fin 2 → Nat :=
  let c0_i32_24 : BitVec 32 := 0#32
  let c1_i32_25 : BitVec 32 := 1#32
  let arg12 : BitVec 32 := Scf.iv c0_i32_24 c1_i32_25 k1_t1
  let c128_i32_43 : BitVec 32 := 128#32
  let v113 : BitVec 32 := Scalar.muli arg12 c128_i32_43
  let v114 : BitVec 32 := v113
  let v136 : Index := Scalar.indexCast v114
  let c64 : Index := 64#32
  ![v136.toNat, 64]
def k1_off9 (k1_t1 : Fin k1_t1_loop.trips) : Fin 2 → Nat :=
  let c0_i32_24 : BitVec 32 := 0#32
  let c1_i32_25 : BitVec 32 := 1#32
  let arg12 : BitVec 32 := Scf.iv c0_i32_24 c1_i32_25 k1_t1
  let c128_i32_43 : BitVec 32 := 128#32
  let v113 : BitVec 32 := Scalar.muli arg12 c128_i32_43
  let v114 : BitVec 32 := v113
  let v139 : Index := Scalar.indexCast v114
  let c128 : Index := 128#32
  ![v139.toNat, 128]
def k1_off10 (k1_t1 : Fin k1_t1_loop.trips) : Fin 2 → Nat :=
  let c0_i32_24 : BitVec 32 := 0#32
  let c1_i32_25 : BitVec 32 := 1#32
  let arg12 : BitVec 32 := Scf.iv c0_i32_24 c1_i32_25 k1_t1
  let c128_i32_43 : BitVec 32 := 128#32
  let v113 : BitVec 32 := Scalar.muli arg12 c128_i32_43
  let v114 : BitVec 32 := v113
  let v142 : Index := Scalar.indexCast v114
  let c192 : Index := 192#32
  ![v142.toNat, 192]
def k1_off11 (k1_t1 : Fin k1_t1_loop.trips) : Fin 3 → Nat :=
  let c0_65 : Index := 0#32
  let c0_i32_24 : BitVec 32 := 0#32
  let c1_i32_25 : BitVec 32 := 1#32
  let arg12 : BitVec 32 := Scf.iv c0_i32_24 c1_i32_25 k1_t1
  let c128_i32_43 : BitVec 32 := 128#32
  let v113 : BitVec 32 := Scalar.muli arg12 c128_i32_43
  let v114 : BitVec 32 := v113
  let v172 : Index := Scalar.indexCast v114
  let c0_66 : Index := 0#32
  ![0, v172.toNat, 0]
def k1_off12 (k1_t1 : Fin k1_t1_loop.trips) : Fin 3 → Nat :=
  let c0_67 : Index := 0#32
  let c0_i32_24 : BitVec 32 := 0#32
  let c1_i32_25 : BitVec 32 := 1#32
  let arg12 : BitVec 32 := Scf.iv c0_i32_24 c1_i32_25 k1_t1
  let c128_i32_43 : BitVec 32 := 128#32
  let v113 : BitVec 32 := Scalar.muli arg12 c128_i32_43
  let v114 : BitVec 32 := v113
  let v175 : Index := Scalar.indexCast v114
  let c1_68 : Index := 1#32
  ![0, v175.toNat, 1]
def k1_off13 (k1_t1 : Fin k1_t1_loop.trips) : Fin 3 → Nat :=
  let c0_69 : Index := 0#32
  let c0_i32_24 : BitVec 32 := 0#32
  let c1_i32_25 : BitVec 32 := 1#32
  let arg12 : BitVec 32 := Scf.iv c0_i32_24 c1_i32_25 k1_t1
  let c128_i32_43 : BitVec 32 := 128#32
  let v113 : BitVec 32 := Scalar.muli arg12 c128_i32_43
  let v114 : BitVec 32 := v113
  let v178 : Index := Scalar.indexCast v114
  let c2_70 : Index := 2#32
  ![0, v178.toNat, 2]
def k1_off14 (k1_t1 : Fin k1_t1_loop.trips) : Fin 3 → Nat :=
  let c0_71 : Index := 0#32
  let c0_i32_24 : BitVec 32 := 0#32
  let c1_i32_25 : BitVec 32 := 1#32
  let arg12 : BitVec 32 := Scf.iv c0_i32_24 c1_i32_25 k1_t1
  let c128_i32_43 : BitVec 32 := 128#32
  let v113 : BitVec 32 := Scalar.muli arg12 c128_i32_43
  let v114 : BitVec 32 := v113
  let v181 : Index := Scalar.indexCast v114
  let c3_72 : Index := 3#32
  ![0, v181.toNat, 3]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .smem S4x4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2048x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x2048x4 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2048x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x2048x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x2048x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x1x4 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== AttnIdeal.lean ====
variable {F : FTy → Type} [FloatOps F] [Named F]
def κ : String → Option EReal := fun
  | "mask" => some ⊥
  | _ => none
-- ==== AttnRefIdeal.lean ====
abbrev S2048x1024 : Shape := ⟨2, ![2048, 1024]⟩
abbrev S2048x256 : Shape := ⟨2, ![2048, 256]⟩
abbrev S16 : Shape := ⟨1, ![16]⟩
abbrev S2048x2048 : Shape := ⟨2, ![2048, 2048]⟩
abbrev S16x128x4x4x64 : Shape := ⟨5, ![16, 128, 4, 4, 64]⟩
abbrev S16x128x4x64 : Shape := ⟨4, ![16, 128, 4, 64]⟩
abbrev S1x128x4x64 : Shape := ⟨4, ![1, 128, 4, 64]⟩
abbrev S_ : Shape := ⟨0, ![]⟩
abbrev S15x128x4x64 : Shape := ⟨4, ![15, 128, 4, 64]⟩
abbrev S16x256x4x64 : Shape := ⟨4, ![16, 256, 4, 64]⟩
abbrev S16x4x256x128x4 : Shape := ⟨5, ![16, 4, 256, 128, 4]⟩
abbrev S16x4x4x128x256 : Shape := ⟨5, ![16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x128x256 : Shape := ⟨3, ![1, 128, 256]⟩
abbrev S1x1x256 : Shape := ⟨3, ![1, 1, 256]⟩
abbrev S16x1x256 : Shape := ⟨3, ![16, 1, 256]⟩
abbrev S16x128x256 : Shape := ⟨3, ![16, 128, 256]⟩
abbrev S16x1x1x128x256 : Shape := ⟨5, ![16, 1, 1, 128, 256]⟩
abbrev S4x4 : Shape := ⟨2, ![4, 4]⟩
abbrev S1x4x4x1x1 : Shape := ⟨5, ![1, 4, 4, 1, 1]⟩
abbrev S16x4x4x128 : Shape := ⟨4, ![16, 4, 4, 128]⟩
abbrev S16x4x4x128x1 : Shape := ⟨5, ![16, 4, 4, 128, 1]⟩
abbrev S16x4x64x4x128 : Shape := ⟨5, ![16, 4, 64, 4, 128]⟩
abbrev S16x4x64x256 : Shape := ⟨4, ![16, 4, 64, 256]⟩
abbrev S4x4x1 : Shape := ⟨3, ![4, 4, 1]⟩
abbrev S16x4x128x4x64 : Shape := ⟨5, ![16, 4, 128, 4, 64]⟩
abbrev S16x4x256x64 : Shape := ⟨4, ![16, 4, 256, 64]⟩

abbrev nBuf : Space → Nat
  | .hbm => 199
  | .vmem => 0
  | .smem => 0
  | _ => 0

abbrev hbmTy0_0 (i : Nat) : BufTy := match i % 128 with
  | 0 => ⟨S2048x1024, .f32⟩
  | 1 => ⟨S2048x256, .f32⟩
  | 2 => ⟨S2048x256, .f32⟩
  | 3 => ⟨S16, .f32⟩
  | 4 => ⟨S2048x2048, .f32⟩
  | 5 => ⟨S16x128x4x4x64, .f32⟩
  | 6 => ⟨S16x128x4x64, .f32⟩
  | 7 => ⟨S1x128x4x64, .f32⟩
  | 8 => ⟨S_, .f32⟩
  | 9 => ⟨S1x128x4x64, .f32⟩
  | 10 => ⟨S15x128x4x64, .f32⟩
  | 11 => ⟨S16x128x4x64, .f32⟩
  | 12 => ⟨S_, .f32⟩
  | 13 => ⟨S1x128x4x64, .f32⟩
  | 14 => ⟨S16x256x4x64, .f32⟩
  | 15 => ⟨S16x128x4x64, .f32⟩
  | 16 => ⟨S1x128x4x64, .f32⟩
  | 17 => ⟨S_, .f32⟩
  | 18 => ⟨S1x128x4x64, .f32⟩
  | 19 => ⟨S15x128x4x64, .f32⟩
  | 20 => ⟨S16x128x4x64, .f32⟩
  | 21 => ⟨S_, .f32⟩
  | 22 => ⟨S1x128x4x64, .f32⟩
  | 23 => ⟨S16x256x4x64, .f32⟩
  | 24 => ⟨S16x4x256x128x4, .f32⟩
  | 25 => ⟨S16x4x4x128x256, .f32⟩
  | 26 => ⟨S_, .f32⟩
  | 27 => ⟨S16x4x4x128x256, .f32⟩
  | 28 => ⟨S16x4x4x128x256, .f32⟩
  | 29 => ⟨S128, .i32⟩
  | 30 => ⟨S128x1, .i32⟩
  | 31 => ⟨S256, .i32⟩
  | 32 => ⟨S1x256, .i32⟩
  | 33 => ⟨S_, .i32⟩
  | 34 => ⟨S128x1, .i32⟩
  | 35 => ⟨S128x1, .i32⟩
  | 36 => ⟨S128x256, .i32⟩
  | 37 => ⟨S128x256, .i32⟩
  | 38 => ⟨S128x256, .i32⟩
  | 39 => ⟨S_, .i32⟩
  | 40 => ⟨S128x256, .i32⟩
  | 41 => ⟨S128x256, .i1⟩
  | 42 => ⟨S_, .i32⟩
  | 43 => ⟨S128x256, .i32⟩
  | 44 => ⟨S128x256, .i1⟩
  | 45 => ⟨S128x256, .i1⟩
  | 46 => ⟨S16, .i32⟩
  | 47 => ⟨S16x1x1, .i32⟩
  | 48 => ⟨S1x128x256, .i1⟩
  | 49 => ⟨S_, .i32⟩
  | 50 => ⟨S16x1x1, .i32⟩
  | 51 => ⟨S16x1x1, .i1⟩
  | 52 => ⟨S1x1x256, .i32⟩
  | 53 => ⟨S_, .i32⟩
  | 54 => ⟨S1x1x256, .i32⟩
  | 55 => ⟨S1x1x256, .i1⟩
  | 56 => ⟨S16x1x256, .i1⟩
  | 57 => ⟨S16x1x256, .i1⟩
  | 58 => ⟨S16x1x256, .i1⟩
  | 59 => ⟨S16x128x256, .i1⟩
  | 60 => ⟨S16x128x256, .i1⟩
  | 61 => ⟨S16x128x256, .i1⟩
  | 62 => ⟨S16x1x1x128x256, .i1⟩
  | 63 => ⟨S_, .f32⟩
  | 64 => ⟨S_, .f32⟩
  | 65 => ⟨S16x4x4x128x256, .i1⟩
  | 66 => ⟨S16x4x4x128x256, .f32⟩
  | 67 => ⟨S16x4x4x128x256, .f32⟩
  | 68 => ⟨S_, .f32⟩
  | 69 => ⟨S16x4x4x128x256, .f32⟩
  | 70 => ⟨S4x4, .f32⟩
  | 71 => ⟨S1x4x4x1x1, .f32⟩
  | 72 => ⟨S_, .f32⟩
  | 73 => ⟨S16x4x4x128, .f32⟩
  | 74 => ⟨S16x4x4x128x1, .f32⟩
  | 75 => ⟨S16x4x4x128x256, .f32⟩
  | 76 => ⟨S16x4x4x128x256, .i1⟩
  | 77 => ⟨S16x4x4x128x256, .f32⟩
  | 78 => ⟨S_, .f32⟩
  | 79 => ⟨S16x4x4x128, .f32⟩
  | 80 => ⟨S16x4x4x128x1, .f32⟩
  | 81 => ⟨S16x4x4x128x1, .f32⟩
  | 82 => ⟨S16x4x4x128x1, .f32⟩
  | 83 => ⟨S16x4x4x128x1, .f32⟩
  | 84 => ⟨S16x4x4x128x1, .i1⟩
  | 85 => ⟨S16x4x4x128x1, .f32⟩
  | 86 => ⟨S16x4x4x128x1, .i1⟩
  | 87 => ⟨S_, .f32⟩
  | 88 => ⟨S16x4x4x128x1, .f32⟩
  | 89 => ⟨S_, .f32⟩
  | 90 => ⟨S16x4x4x128x1, .f32⟩
  | 91 => ⟨S_, .f32⟩
  | 92 => ⟨S16x4x4x128x1, .f32⟩
  | 93 => ⟨S16x4x4x128x1, .f32⟩
  | 94 => ⟨S16x4x4x128x1, .f32⟩
  | 95 => ⟨S16x4x4x128x1, .f32⟩
  | 96 => ⟨S16x4x4x128x1, .i1⟩
  | 97 => ⟨S16x4x4x128x1, .f32⟩
  | 98 => ⟨S16x4x4x128x1, .i1⟩
  | 99 => ⟨S_, .f32⟩
  | 100 => ⟨S16x4x4x128x1, .f32⟩
  | 101 => ⟨S_, .f32⟩
  | 102 => ⟨S16x4x4x128x1, .f32⟩
  | 103 => ⟨S_, .f32⟩
  | 104 => ⟨S16x4x4x128x1, .f32⟩
  | 105 => ⟨S16x4x4x128x1, .f32⟩
  | 106 => ⟨S16x4x4x128x1, .f32⟩
  | 107 => ⟨S16x4x4x128x256, .f32⟩
  | 108 => ⟨S16x4x4x128x256, .f32⟩
  | 109 => ⟨S16x4x4x128x256, .f32⟩
  | 110 => ⟨S_, .f32⟩
  | 111 => ⟨S16x4x4x128, .f32⟩
  | 112 => ⟨S16x4x4x128x1, .f32⟩
  | 113 => ⟨S16x4x4x128x1, .f32⟩
  | 114 => ⟨S16x4x4x128x1, .f32⟩
  | 115 => ⟨S16x4x4x128x1, .f32⟩
  | 116 => ⟨S16x4x4x128x1, .f32⟩
  | 117 => ⟨S16x4x4x128x256, .f32⟩
  | 118 => ⟨S16x4x4x128x256, .f32⟩
  | 119 => ⟨S16x4x4x128x1, .f32⟩
  | 120 => ⟨S_, .f32⟩
  | 121 => ⟨S16x4x4x128x1, .f32⟩
  | 122 => ⟨S16x4x4x128x1, .f32⟩
  | 123 => ⟨S16x4x64x4x128, .f32⟩
  | 124 => ⟨S16x128x4x4x64, .f32⟩
  | 125 => ⟨S2048x1024, .f32⟩
  | 126 => ⟨S2048x1024, .f32⟩
  | 127 => ⟨S16x128x4x4x64, .f32⟩
  | _ => ⟨S2048x1024, .f32⟩

abbrev hbmTy0_1 (i : Nat) : BufTy := match i % 128 with
  | 0 => ⟨S16x4x64x4x128, .f32⟩
  | 1 => ⟨S16x4x4x128x256, .f32⟩
  | 2 => ⟨S16x4x64x256, .f32⟩
  | 3 => ⟨S16x256x4x64, .f32⟩
  | 4 => ⟨S16x4x4x128x256, .f32⟩
  | 5 => ⟨S16x4x4x128x256, .f32⟩
  | 6 => ⟨S16x4x4x128x256, .f32⟩
  | 7 => ⟨S_, .f32⟩
  | 8 => ⟨S16x4x4x128, .f32⟩
  | 9 => ⟨S16x4x4x128x1, .f32⟩
  | 10 => ⟨S16x4x4x128x1, .f32⟩
  | 11 => ⟨S16x4x4x128x256, .f32⟩
  | 12 => ⟨S16x4x4x128x256, .f32⟩
  | 13 => ⟨S16x4x4x128x1, .f32⟩
  | 14 => ⟨S_, .f32⟩
  | 15 => ⟨S4x4x1, .f32⟩
  | 16 => ⟨S1x4x4x1x1, .f32⟩
  | 17 => ⟨S16x4x4x128x1, .f32⟩
  | 18 => ⟨S_, .f32⟩
  | 19 => ⟨S16x4x4x128, .f32⟩
  | 20 => ⟨S16x4x4x128x256, .f32⟩
  | 21 => ⟨S16x4x4x128x256, .f32⟩
  | 22 => ⟨S16x4x4x128x256, .f32⟩
  | 23 => ⟨S16x4x4x128x256, .f32⟩
  | 24 => ⟨S_, .f32⟩
  | 25 => ⟨S16x4x4x128, .f32⟩
  | 26 => ⟨S16x4x4x128x1, .f32⟩
  | 27 => ⟨S16x4x4x128x1, .f32⟩
  | 28 => ⟨S16x4x4x128x1, .f32⟩
  | 29 => ⟨S_, .f32⟩
  | 30 => ⟨S4x4x1, .f32⟩
  | 31 => ⟨S1x4x4x1x1, .f32⟩
  | 32 => ⟨S1x4x4x1x1, .f32⟩
  | 33 => ⟨S16x4x4x128x1, .f32⟩
  | 34 => ⟨S_, .f32⟩
  | 35 => ⟨S16x4x4x128, .f32⟩
  | 36 => ⟨S16x4x4x128, .f32⟩
  | 37 => ⟨S16x4x4x128x256, .f32⟩
  | 38 => ⟨S16x4x4x128x256, .f32⟩
  | 39 => ⟨S16x4x4x128x256, .f32⟩
  | 40 => ⟨S_, .f32⟩
  | 41 => ⟨S4x4, .f32⟩
  | 42 => ⟨S16, .f32⟩
  | 43 => ⟨S_, .f32⟩
  | 44 => ⟨S16x4x4x128x256, .f32⟩
  | 45 => ⟨S16x4x4x128x256, .f32⟩
  | 46 => ⟨S_, .f32⟩
  | 47 => ⟨S16x4x4x128x256, .f32⟩
  | 48 => ⟨S16x4x4x128x256, .f32⟩
  | 49 => ⟨S16x4x256x128x4, .f32⟩
  | 50 => ⟨S16x4x128x4x64, .f32⟩
  | 51 => ⟨S16x128x4x4x64, .f32⟩
  | 52 => ⟨S16x4x256x64, .f32⟩
  | 53 => ⟨S16x256x4x64, .f32⟩
  | 54 => ⟨S16x128x4x64, .f32⟩
  | 55 => ⟨S16x128x4x64, .f32⟩
  | 56 => ⟨S1x128x4x64, .f32⟩
  | 57 => ⟨S15x128x4x64, .f32⟩
  | 58 => ⟨S_, .f32⟩
  | 59 => ⟨S16x128x4x64, .f32⟩
  | 60 => ⟨S16x128x4x64, .f32⟩
  | 61 => ⟨S2048x256, .f32⟩
  | 62 => ⟨S16x128x4x64, .f32⟩
  | 63 => ⟨S16x128x4x64, .f32⟩
  | 64 => ⟨S1x128x4x64, .f32⟩
  | 65 => ⟨S15x128x4x64, .f32⟩
  | 66 => ⟨S_, .f32⟩
  | 67 => ⟨S16x128x4x64, .f32⟩
  | 68 => ⟨S16x128x4x64, .f32⟩
  | 69 => ⟨S2048x256, .f32⟩
  | 70 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_call0_v0 : Ref sig .tc := ⟨.hbm, 64, rfl⟩
abbrev main_v48_1 : Ref sig .tc := ⟨.hbm, 65, rfl⟩
abbrev main_call0_v2 : Ref sig .tc := ⟨.hbm, 66, rfl⟩
abbrev main_v48_0 : Ref sig .tc := ⟨.hbm, 67, rfl⟩
abbrev main_call0_cst : Ref sig .tc := ⟨.hbm, 68, rfl⟩
abbrev main_v48_2 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_cst_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_17 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_18 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_19 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_cst_20 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_21 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_22 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_23 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_cst_24 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_25 : Ref sig .tc := ⟨.hbm, 168, rfl⟩
abbrev main_v131 : Ref sig .tc := ⟨.hbm, 169, rfl⟩
abbrev main_v132 : Ref sig .tc := ⟨.hbm, 170, rfl⟩
abbrev main_call1_cst : Ref sig .tc := ⟨.hbm, 171, rfl⟩
abbrev main_call1_v0 : Ref sig .tc := ⟨.hbm, 172, rfl⟩
abbrev main_v133 : Ref sig .tc := ⟨.hbm, 173, rfl⟩
abbrev main_cst_26 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_cst_27 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_cst_28 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩

abbrev nD : Nat := 1
abbrev τ : Topo := Topo.v7x

variable {F : FTy → Type} [FloatOps F]
-- ==== Rope.lean ====
abbrev S2048x1280 : Shape := ⟨2, ![2048, 1280]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S2048x1024 : Shape := ⟨2, ![2048, 1024]⟩
abbrev S2048x256 : Shape := ⟨2, ![2048, 256]⟩
abbrev S256x1280 : Shape := ⟨2, ![256, 1280]⟩
abbrev S256x128 : Shape := ⟨2, ![256, 128]⟩
abbrev S256x1024 : Shape := ⟨2, ![256, 1024]⟩
abbrev S256x256 : Shape := ⟨2, ![256, 256]⟩

abbrev nBuf : Space → Nat
  | .hbm => 30
  | .vmem => 10
  | .smem => 0
  | _ => 0

abbrev bufTy : (tb : Table) → Fin (tcTables nBuf tb) → BufTy
  | .hbm, ⟨0, _⟩ => ⟨S2048x1280, .f32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S2048, .i32⟩
  | .hbm, ⟨10, _⟩ => ⟨S2048, .f32⟩
  | .hbm, ⟨11, _⟩ => ⟨S2048x1, .f32⟩
  | .hbm, ⟨12, _⟩ => ⟨S1x32, .f32⟩
  | .hbm, ⟨13, _⟩ => ⟨S2048x32, .f32⟩
  | .hbm, ⟨14, _⟩ => ⟨S2048x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x64, .f32⟩
  | .hbm, ⟨19, _⟩ => ⟨S1x2048x1x64, .f32⟩
  | .hbm, ⟨20, _⟩ => ⟨S1x2048x2x64, .f32⟩
  | .hbm, ⟨21, _⟩ => ⟨S2048x128, .f32⟩
  | .hbm, ⟨22, _⟩ => ⟨S2048x32, .f32⟩
  | .hbm, ⟨23, _⟩ => ⟨S2048x64, .f32⟩
  | .hbm, ⟨24, _⟩ => ⟨S1x2048x1x64, .f32⟩
  | .hbm, ⟨25, _⟩ => ⟨S1x2048x2x64, .f32⟩
  | .hbm, ⟨26, _⟩ => ⟨S2048x128, .f32⟩
  | .hbm, ⟨27, _⟩ => ⟨S2048x128, .f32⟩
  | .hbm, ⟨28, _⟩ => ⟨S2048x1024, .bf16⟩
  | .hbm, ⟨29, _⟩ => ⟨S2048x256, .bf16⟩
  | .local _ .vmem, ⟨0, _⟩ => ⟨S256x1280, .f32⟩
  | .local _ .vmem, ⟨1, _⟩ => ⟨S256x1280, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x1024, .bf16⟩
  | .local _ .vmem, ⟨7, _⟩ => ⟨S256x1024, .bf16⟩
  | .local _ .vmem, ⟨8, _⟩ => ⟨S256x256, .bf16⟩
  | .local _ .vmem, ⟨9, _⟩ => ⟨S256x256, .bf16⟩
  | _, _ => ⟨S2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25_0 : Ref sig .tc := ⟨.hbm, 28, rfl⟩
abbrev main_v25_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RopeRefIdeal.lean ====
abbrev S2048x1280 : Shape := ⟨2, ![2048, 1280]⟩
abbrev S_ : Shape := ⟨0, ![]⟩
abbrev S2048x1024 : Shape := ⟨2, ![2048, 1024]⟩
abbrev S1x2048x16x64 : Shape := ⟨4, ![1, 2048, 16, 64]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x16x32 : Shape := ⟨4, ![1, 2048, 16, 32]⟩
abbrev S2048x256 : Shape := ⟨2, ![2048, 256]⟩
abbrev S1x2048x4x64 : Shape := ⟨4, ![1, 2048, 4, 64]⟩
abbrev S1x2048x4x32 : Shape := ⟨4, ![1, 2048, 4, 32]⟩

abbrev nBuf : Space → Nat
  | .hbm => 124
  | .vmem => 0
  | .smem => 0
  | _ => 0

abbrev bufTy : (tb : Table) → Fin (tcTables nBuf tb) → BufTy
  | .hbm, ⟨0, _⟩ => ⟨S2048x1280, .f32⟩
  | .hbm, ⟨1, _⟩ => ⟨S_, .f32⟩
  | .hbm, ⟨2, _⟩ => ⟨S2048x1280, .f32⟩
  | .hbm, ⟨3, _⟩ => ⟨S2048x1024, .f32⟩
  | .hbm, ⟨4, _⟩ => ⟨S1x2048x16x64, .f32⟩
  | .hbm, ⟨5, _⟩ => ⟨S2048, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S2048, .f32⟩
  | .hbm, ⟨15, _⟩ => ⟨S2048x1, .f32⟩
  | .hbm, ⟨16, _⟩ => ⟨S1x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S1x2048x1x32, .f32⟩
  | .hbm, ⟨22, _⟩ => ⟨S2048x32, .f32⟩
  | .hbm, ⟨23, _⟩ => ⟨S1x2048x1x32, .f32⟩
  | .hbm, ⟨24, _⟩ => ⟨S1x2048x16x32, .f32⟩
  | .hbm, ⟨25, _⟩ => ⟨S1x2048x16x32, .f32⟩
  | .hbm, ⟨26, _⟩ => ⟨S1x2048x16x32, .f32⟩
  | .hbm, ⟨27, _⟩ => ⟨S1x2048x16x32, .f32⟩
  | .hbm, ⟨28, _⟩ => ⟨S1x2048x16x32, .f32⟩
  | .hbm, ⟨29, _⟩ => ⟨S1x2048x16x32, .f32⟩
  | .hbm, ⟨30, _⟩ => ⟨S1x2048x16x32, .f32⟩
  | .hbm, ⟨31, _⟩ => ⟨S1x2048x16x32, .f32⟩
  | .hbm, ⟨32, _⟩ => ⟨S1x2048x16x32, .f32⟩
  | .hbm, ⟨33, _⟩ => ⟨S1x2048x16x32, .f32⟩
  | .hbm, ⟨34, _⟩ => ⟨S1x2048x16x32, .f32⟩
  | .hbm, ⟨35, _⟩ => ⟨S1x2048x16x32, .f32⟩
  | .hbm, ⟨36, _⟩ => ⟨S1x2048x16x64, .f32⟩
  | .hbm, ⟨37, _⟩ => ⟨S2048x256, .f32⟩
  | .hbm, ⟨38, _⟩ => ⟨S1x2048x4x64, .f32⟩
  | .hbm, ⟨39, _⟩ => ⟨S2048, .i32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S2048, .f32⟩
  | .hbm, ⟨49, _⟩ => ⟨S2048x1, .f32⟩
  | .hbm, ⟨50, _⟩ => ⟨S1x32, .f32⟩
  | .hbm, ⟨51, _⟩ => ⟨S2048x32, .f32⟩
  | .hbm, ⟨52, _⟩ => ⟨S2048x32, .f32⟩
  | .hbm, ⟨53, _⟩ => ⟨S2048x32, .f32⟩
  | .hbm, ⟨54, _⟩ => ⟨S2048x32, .f32⟩
  | .hbm, ⟨55, _⟩ => ⟨S1x2048x1x32, .f32⟩
  | .hbm, ⟨56, _⟩ => ⟨S2048x32, .f32⟩
  | .hbm, ⟨57, _⟩ => ⟨S1x2048x1x32, .f32⟩
  | .hbm, ⟨58, _⟩ => ⟨S1x2048x4x32, .f32⟩
  | .hbm, ⟨59, _⟩ => ⟨S1x2048x4x32, .f32⟩
  | .hbm, ⟨60, _⟩ => ⟨S1x2048x4x32, .f32⟩
  | .hbm, ⟨61, _⟩ => ⟨S1x2048x4x32, .f32⟩
  | .hbm, ⟨62, _⟩ => ⟨S1x2048x4x32, .f32⟩
  | .hbm, ⟨63, _⟩ => ⟨S1x2048x4x32, .f32⟩
  | .hbm, ⟨64, _⟩ => ⟨S1x2048x4x32, .f32⟩
  | .hbm, ⟨65, _⟩ => ⟨S1x2048x4x32, .f32⟩
  | .hbm, ⟨66, _⟩ => ⟨S1x2048x4x32, .f32⟩
  | .hbm, ⟨67, _⟩ => ⟨S1x2048x4x32, .f32⟩
  | .hbm, ⟨68, _⟩ => ⟨S1x2048x4x32, .f32⟩
  | .hbm, ⟨69, _⟩ => ⟨S1x2048x4x32, .f32⟩
  | .hbm, ⟨70, _⟩ => ⟨S1x2048x4x64, .f32⟩
  | .hbm, ⟨71, _⟩ => ⟨S2048x1024, .f32⟩
  | .hbm, ⟨72, _⟩ => ⟨S2048x256, .f32⟩
  | .hbm, ⟨73, _⟩ => ⟨S2048x1024, .f32⟩
  | .hbm, ⟨74, _⟩ => ⟨S2048x256, .f32⟩
  | .hbm, ⟨75, _⟩ => ⟨S1x2048x4x64, .f32⟩
  | .hbm, ⟨76, _⟩ => ⟨S1x2048x16x64, .f32⟩
  | .hbm, ⟨77, _⟩ => ⟨S1x2048x4x32, .f32⟩
  | .hbm, ⟨78, _⟩ => ⟨S1x2048x4x32, .f32⟩
  | .hbm, ⟨79, _⟩ => ⟨S1x2048x4x32, .f32⟩
  | .hbm, ⟨80, _⟩ => ⟨S1x2048x4x32, .f32⟩
  | .hbm, ⟨81, _⟩ => ⟨S1x2048x4x32, .f32⟩
  | .hbm, ⟨82, _⟩ => ⟨S1x2048x4x32, .f32⟩
  | .hbm, ⟨83, _⟩ => ⟨S1x2048x4x32, .f32⟩
  | .hbm, ⟨84, _⟩ => ⟨S1x2048x4x32, .f32⟩
  | .hbm, ⟨85, _⟩ => ⟨S1x2048x4x32, .f32⟩
  | .hbm, ⟨86, _⟩ => ⟨S1x2048x4x32, .f32⟩
  | .hbm, ⟨87, _⟩ => ⟨S1x2048x4x32, .f32⟩
  | .hbm, ⟨88, _⟩ => ⟨S1x2048x4x32, .f32⟩
  | .hbm, ⟨89, _⟩ => ⟨S1x2048x4x32, .f32⟩
  | .hbm, ⟨90, _⟩ => ⟨S_, .f32⟩
  | .hbm, ⟨91, _⟩ => ⟨S1x2048x4x64, .f32⟩
  | .hbm, ⟨92, _⟩ => ⟨S_, .f32⟩
  | .hbm, ⟨93, _⟩ => ⟨S1x2048x4x64, .f32⟩
  | .hbm, ⟨94, _⟩ => ⟨S1x2048x4x64, .f32⟩
  | .hbm, ⟨95, _⟩ => ⟨S2048x256, .f32⟩
  | .hbm, ⟨96, _⟩ => ⟨S_, .f32⟩
  | .hbm, ⟨97, _⟩ => ⟨S2048x1280, .f32⟩
  | .hbm, ⟨98, _⟩ => ⟨S1x2048x16x32, .f32⟩
  | .hbm, ⟨99, _⟩ => ⟨S1x2048x16x32, .f32⟩
  | .hbm, ⟨100, _⟩ => ⟨S1x2048x16x32, .f32⟩
  | .hbm, ⟨101, _⟩ => ⟨S1x2048x16x32, .f32⟩
  | .hbm, ⟨102, _⟩ => ⟨S1x2048x16x32, .f32⟩
  | .hbm, ⟨103, _⟩ => ⟨S1x2048x16x32, .f32⟩
  | .hbm, ⟨104, _⟩ => ⟨S1x2048x16x32, .f32⟩
  | .hbm, ⟨105, _⟩ => ⟨S1x2048x16x32, .f32⟩
  | .hbm, ⟨106, _⟩ => ⟨S1x2048x16x32, .f32⟩
  | .hbm, ⟨107, _⟩ => ⟨S1x2048x16x32, .f32⟩
  | .hbm, ⟨108, _⟩ => ⟨S1x2048x16x32, .f32⟩
  | .hbm, ⟨109, _⟩ => ⟨S1x2048x16x32, .f32⟩
  | .hbm, ⟨110, _⟩ => ⟨S1x2048x16x32, .f32⟩
  | .hbm, ⟨111, _⟩ => ⟨S_, .f32⟩
  | .hbm, ⟨112, _⟩ => ⟨S1x2048x16x64, .f32⟩
  | .hbm, ⟨113, _⟩ => ⟨S_, .f32⟩
  | .hbm, ⟨114, _⟩ => ⟨S1x2048x16x64, .f32⟩
  | .hbm, ⟨115, _⟩ => ⟨S1x2048x16x64, .f32⟩
  | .hbm, ⟨116, _⟩ => ⟨S2048x1024, .f32⟩
  | .hbm, ⟨117, _⟩ => ⟨S_, .f32⟩
  | .hbm, ⟨118, _⟩ => ⟨S2048x1280, .f32⟩
  | .hbm, ⟨119, _⟩ => ⟨S2048x1280, .f32⟩
  | .hbm, ⟨120, _⟩ => ⟨S2048x1024, .f32⟩
  | .hbm, ⟨121, _⟩ => ⟨S2048x1024, .bf16⟩
  | .hbm, ⟨122, _⟩ => ⟨S2048x256, .f32⟩
  | .hbm, ⟨123, _⟩ => ⟨S2048x256, .bf16⟩
  | _, _ => ⟨S2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_cst_2 : Ref sig .tc := ⟨.hbm, 42, rfl⟩
abbrev main_v38 : Ref sig .tc := ⟨.hbm, 43, rfl⟩
abbrev main_v39 : Ref sig .tc := ⟨.hbm, 44, rfl⟩
abbrev main_cst_3 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_cst_4 : Ref sig .tc := ⟨.hbm, 90, rfl⟩
abbrev main_v84 : Ref sig .tc := ⟨.hbm, 91, rfl⟩
abbrev main_cst_5 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_cst_6 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_cst_7 : Ref sig .tc := ⟨.hbm, 111, rfl⟩
abbrev main_v102 : Ref sig .tc := ⟨.hbm, 112, rfl⟩
abbrev main_cst_8 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_cst_9 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩

abbrev nD : Nat := 1
abbrev τ : Topo := Topo.v7x

variable {F : FTy → Type} [FloatOps F]
-- ==== Pool.lean ====
abbrev S2048x2560 : Shape := ⟨2, ![2048, 2560]⟩
abbrev S4x128x128 : Shape := ⟨3, ![4, 128, 128]⟩
abbrev S512 : Shape := ⟨1, ![512]⟩
abbrev S2048x2048 : Shape := ⟨2, ![2048, 2048]⟩
abbrev S1x512 : Shape := ⟨2, ![1, 512]⟩
abbrev S2048x512 : Shape := ⟨2, ![2048, 512]⟩
abbrev S2048x128 : Shape := ⟨2, ![2048, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 11
  | .vmem => 12
  | .smem => 0
  | _ => 0

abbrev bufTy : (tb : Table) → Fin (tcTables nBuf tb) → BufTy
  | .hbm, ⟨0, _⟩ => ⟨S2048x2560, .f32⟩
  | .hbm, ⟨1, _⟩ => ⟨S4x128x128, .f32⟩
  | .hbm, ⟨2, _⟩ => ⟨S512, .f32⟩
  | .hbm, ⟨3, _⟩ => ⟨S2048x2048, .f32⟩
  | .hbm, ⟨4, _⟩ => ⟨S4x128x128, .bf16⟩
  | .hbm, ⟨5, _⟩ => ⟨S1x512, .f32⟩
  | .hbm, ⟨6, _⟩ => ⟨S2048x512, .bf16⟩
  | .hbm, ⟨7, _⟩ => ⟨S2048x512, .bf16⟩
  | .hbm, ⟨8, _⟩ => ⟨S2048x512, .bf16⟩
  | .hbm, ⟨9, _⟩ => ⟨S4x128x128, .f32⟩
  | .hbm, ⟨10, _⟩ => ⟨S1x512, .f32⟩
  | .local _ .vmem, ⟨0, _⟩ => ⟨S2048x512, .f32⟩
  | .local _ .vmem, ⟨1, _⟩ => ⟨S4x128x128, .bf16⟩
  | .local _ .vmem, ⟨2, _⟩ => ⟨S1x512, .f32⟩
  | .local _ .vmem, ⟨3, _⟩ => ⟨S2048x512, .bf16⟩
  | .local _ .vmem, ⟨4, _⟩ => ⟨S2048x512, .bf16⟩
  | .local _ .vmem, ⟨5, _⟩ => ⟨S2048x512, .f32⟩
  | .local _ .vmem, ⟨6, _⟩ => ⟨S2048x512, .bf16⟩
  | .local _ .vmem, ⟨7, _⟩ => ⟨S4x128x128, .bf16⟩
  | .local _ .vmem, ⟨8, _⟩ => ⟨S1x512, .f32⟩
  | .local _ .vmem, ⟨9, _⟩ => ⟨S2048x512, .bf16⟩
  | .local _ .vmem, ⟨10, _⟩ => ⟨S4x128x128, .f32⟩
  | .local _ .vmem, ⟨11, _⟩ => ⟨S1x512, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== PoolRefIdeal.lean ====
abbrev S2048x2560 : Shape := ⟨2, ![2048, 2560]⟩
abbrev S4x128x128 : Shape := ⟨3, ![4, 128, 128]⟩
abbrev S512 : Shape := ⟨1, ![512]⟩
abbrev S2048x2048 : Shape := ⟨2, ![2048, 2048]⟩
abbrev S2048x512 : Shape := ⟨2, ![2048, 512]⟩
abbrev S1x2048x512 : Shape := ⟨3, ![1, 2048, 512]⟩
abbrev S2048 : Shape := ⟨1, ![2048]⟩
abbrev S1x2048x1 : Shape := ⟨3, ![1, 2048, 1]⟩
abbrev S1x2048x128 : Shape := ⟨3, ![1, 2048, 128]⟩
abbrev S_ : Shape := ⟨0, ![]⟩
abbrev S1x2x128 : Shape := ⟨3, ![1, 2, 128]⟩
abbrev S1x2050x128 : Shape := ⟨3, ![1, 2050, 128]⟩
abbrev S1x128x128 : Shape := ⟨3, ![1, 128, 128]⟩
abbrev S128x128 : Shape := ⟨2, ![128, 128]⟩
abbrev S1x4x128 : Shape := ⟨3, ![1, 4, 128]⟩
abbrev S1x2052x128 : Shape := ⟨3, ![1, 2052, 128]⟩
abbrev S1x8x128 : Shape := ⟨3, ![1, 8, 128]⟩
abbrev S1x2056x128 : Shape := ⟨3, ![1, 2056, 128]⟩
abbrev S1x16x128 : Shape := ⟨3, ![1, 16, 128]⟩
abbrev S1x2064x128 : Shape := ⟨3, ![1, 2064, 128]⟩
abbrev S1x1x512 : Shape := ⟨3, ![1, 1, 512]⟩
abbrev S1x512 : Shape := ⟨2, ![1, 512]⟩

abbrev nBuf : Space → Nat
  | .hbm => 213
  | .vmem => 0
  | .smem => 0
  | _ => 0

abbrev hbmTy0_0 (i : Nat) : BufTy := match i % 128 with
  | 0 => ⟨S2048x2560, .f32⟩
  | 1 => ⟨S4x128x128, .f32⟩
  | 2 => ⟨S512, .f32⟩
  | 3 => ⟨S2048x2048, .f32⟩
  | 4 => ⟨S2048x512, .f32⟩
  | 5 => ⟨S1x2048x512, .f32⟩
  | 6 => ⟨S2048x512, .f32⟩
  | 7 => ⟨S1x2048x512, .f32⟩
  | 8 => ⟨S2048, .f32⟩
  | 9 => ⟨S1x2048x1, .f32⟩
  | 10 => ⟨S1x2048x128, .f32⟩
  | 11 => ⟨S_, .f32⟩
  | 12 => ⟨S_, .f32⟩
  | 13 => ⟨S1x2048x128, .f32⟩
  | 14 => ⟨S_, .f32⟩
  | 15 => ⟨S1x2x128, .f32⟩
  | 16 => ⟨S1x2050x128, .f32⟩
  | 17 => ⟨S_, .f32⟩
  | 18 => ⟨S1x2x128, .f32⟩
  | 19 => ⟨S1x2048x128, .f32⟩
  | 20 => ⟨S1x2048x128, .f32⟩
  | 21 => ⟨S_, .f32⟩
  | 22 => ⟨S1x2048x1, .f32⟩
  | 23 => ⟨S1x2048x1, .f32⟩
  | 24 => ⟨S_, .f32⟩
  | 25 => ⟨S1x2048x1, .f32⟩
  | 26 => ⟨S1x2048x1, .f32⟩
  | 27 => ⟨S1x2048x128, .f32⟩
  | 28 => ⟨S1x2048x128, .f32⟩
  | 29 => ⟨S1x2048x128, .f32⟩
  | 30 => ⟨S1x128x128, .f32⟩
  | 31 => ⟨S128x128, .f32⟩
  | 32 => ⟨S1x2048x128, .f32⟩
  | 33 => ⟨S1x2048x128, .f32⟩
  | 34 => ⟨S_, .f32⟩
  | 35 => ⟨S_, .f32⟩
  | 36 => ⟨S1x2048x128, .f32⟩
  | 37 => ⟨S_, .f32⟩
  | 38 => ⟨S1x4x128, .f32⟩
  | 39 => ⟨S1x2052x128, .f32⟩
  | 40 => ⟨S_, .f32⟩
  | 41 => ⟨S1x4x128, .f32⟩
  | 42 => ⟨S1x2048x128, .f32⟩
  | 43 => ⟨S1x2048x128, .f32⟩
  | 44 => ⟨S_, .f32⟩
  | 45 => ⟨S1x2048x1, .f32⟩
  | 46 => ⟨S1x2048x1, .f32⟩
  | 47 => ⟨S_, .f32⟩
  | 48 => ⟨S1x2048x1, .f32⟩
  | 49 => ⟨S1x2048x1, .f32⟩
  | 50 => ⟨S1x2048x128, .f32⟩
  | 51 => ⟨S1x2048x128, .f32⟩
  | 52 => ⟨S1x2048x128, .f32⟩
  | 53 => ⟨S1x128x128, .f32⟩
  | 54 => ⟨S128x128, .f32⟩
  | 55 => ⟨S1x2048x128, .f32⟩
  | 56 => ⟨S1x2048x128, .f32⟩
  | 57 => ⟨S_, .f32⟩
  | 58 => ⟨S_, .f32⟩
  | 59 => ⟨S1x2048x128, .f32⟩
  | 60 => ⟨S_, .f32⟩
  | 61 => ⟨S1x8x128, .f32⟩
  | 62 => ⟨S1x2056x128, .f32⟩
  | 63 => ⟨S_, .f32⟩
  | 64 => ⟨S1x8x128, .f32⟩
  | 65 => ⟨S1x2048x128, .f32⟩
  | 66 => ⟨S1x2048x128, .f32⟩
  | 67 => ⟨S_, .f32⟩
  | 68 => ⟨S1x2048x1, .f32⟩
  | 69 => ⟨S1x2048x1, .f32⟩
  | 70 => ⟨S_, .f32⟩
  | 71 => ⟨S1x2048x1, .f32⟩
  | 72 => ⟨S1x2048x1, .f32⟩
  | 73 => ⟨S1x2048x128, .f32⟩
  | 74 => ⟨S1x2048x128, .f32⟩
  | 75 => ⟨S1x2048x128, .f32⟩
  | 76 => ⟨S1x128x128, .f32⟩
  | 77 => ⟨S128x128, .f32⟩
  | 78 => ⟨S1x2048x128, .f32⟩
  | 79 => ⟨S1x2048x128, .f32⟩
  | 80 => ⟨S_, .f32⟩
  | 81 => ⟨S_, .f32⟩
  | 82 => ⟨S1x2048x128, .f32⟩
  | 83 => ⟨S_, .f32⟩
  | 84 => ⟨S1x16x128, .f32⟩
  | 85 => ⟨S1x2064x128, .f32⟩
  | 86 => ⟨S_, .f32⟩
  | 87 => ⟨S1x16x128, .f32⟩
  | 88 => ⟨S1x2048x128, .f32⟩
  | 89 => ⟨S1x2048x128, .f32⟩
  | 90 => ⟨S_, .f32⟩
  | 91 => ⟨S1x2048x1, .f32⟩
  | 92 => ⟨S1x2048x1, .f32⟩
  | 93 => ⟨S_, .f32⟩
  | 94 => ⟨S1x2048x1, .f32⟩
  | 95 => ⟨S1x2048x1, .f32⟩
  | 96 => ⟨S1x2048x128, .f32⟩
  | 97 => ⟨S1x2048x128, .f32⟩
  | 98 => ⟨S1x2048x128, .f32⟩
  | 99 => ⟨S1x128x128, .f32⟩
  | 100 => ⟨S128x128, .f32⟩
  | 101 => ⟨S1x2048x128, .f32⟩
  | 102 => ⟨S1x2048x512, .f32⟩
  | 103 => ⟨S1x1x512, .f32⟩
  | 104 => ⟨S1x2048x512, .f32⟩
  | 105 => ⟨S1x2048x512, .f32⟩
  | 106 => ⟨S1x2048x512, .f32⟩
  | 107 => ⟨S_, .f32⟩
  | 108 => ⟨S1x512, .f32⟩
  | 109 => ⟨S1x1x512, .f32⟩
  | 110 => ⟨S1x2048x512, .f32⟩
  | 111 => ⟨S1x2048x512, .f32⟩
  | 112 => ⟨S_, .f32⟩
  | 113 => ⟨S512, .f32⟩
  | 114 => ⟨S1x2048x128, .f32⟩
  | 115 => ⟨S1x2048x128, .f32⟩
  | 116 => ⟨S1x2048x128, .f32⟩
  | 117 => ⟨S1x2048x128, .f32⟩
  | 118 => ⟨S128x128, .f32⟩
  | 119 => ⟨S128x128, .f32⟩
  | 120 => ⟨S1x2048x128, .f32⟩
  | 121 => ⟨S1x128x128, .f32⟩
  | 122 => ⟨S_, .f32⟩
  | 123 => ⟨S4x128x128, .f32⟩
  | 124 => ⟨S1x2048x128, .f32⟩
  | 125 => ⟨S1x2048x128, .f32⟩
  | 126 => ⟨S1x2048x128, .f32⟩
  | 127 => ⟨S1x2048x128, .f32⟩
  | _ => ⟨S2048x2560, .f32⟩

abbrev hbmTy0_1 (i : Nat) : BufTy := match i % 128 with
  | 0 => ⟨S_, .f32⟩
  | 1 => ⟨S1x2064x128, .f32⟩
  | 2 => ⟨S1x16x128, .f32⟩
  | 3 => ⟨S1x2048x128, .f32⟩
  | 4 => ⟨S1x2048x128, .f32⟩
  | 5 => ⟨S_, .f32⟩
  | 6 => ⟨S_, .f32⟩
  | 7 => ⟨S1x2048x128, .f32⟩
  | 8 => ⟨S1x2048x128, .f32⟩
  | 9 => ⟨S_, .f32⟩
  | 10 => ⟨S1x2048x512, .f32⟩
  | 11 => ⟨S128x128, .f32⟩
  | 12 => ⟨S128x128, .f32⟩
  | 13 => ⟨S1x2048x128, .f32⟩
  | 14 => ⟨S1x128x128, .f32⟩
  | 15 => ⟨S_, .f32⟩
  | 16 => ⟨S4x128x128, .f32⟩
  | 17 => ⟨S4x128x128, .f32⟩
  | 18 => ⟨S1x2048x128, .f32⟩
  | 19 => ⟨S1x2048x128, .f32⟩
  | 20 => ⟨S1x2048x128, .f32⟩
  | 21 => ⟨S1x2048x128, .f32⟩
  | 22 => ⟨S_, .f32⟩
  | 23 => ⟨S1x2056x128, .f32⟩
  | 24 => ⟨S1x8x128, .f32⟩
  | 25 => ⟨S1x2048x128, .f32⟩
  | 26 => ⟨S1x2048x128, .f32⟩
  | 27 => ⟨S_, .f32⟩
  | 28 => ⟨S_, .f32⟩
  | 29 => ⟨S1x2048x128, .f32⟩
  | 30 => ⟨S1x2048x128, .f32⟩
  | 31 => ⟨S_, .f32⟩
  | 32 => ⟨S1x2048x512, .f32⟩
  | 33 => ⟨S1x2048x512, .f32⟩
  | 34 => ⟨S128x128, .f32⟩
  | 35 => ⟨S128x128, .f32⟩
  | 36 => ⟨S1x2048x128, .f32⟩
  | 37 => ⟨S1x128x128, .f32⟩
  | 38 => ⟨S_, .f32⟩
  | 39 => ⟨S4x128x128, .f32⟩
  | 40 => ⟨S4x128x128, .f32⟩
  | 41 => ⟨S1x2048x128, .f32⟩
  | 42 => ⟨S1x2048x128, .f32⟩
  | 43 => ⟨S1x2048x128, .f32⟩
  | 44 => ⟨S1x2048x128, .f32⟩
  | 45 => ⟨S_, .f32⟩
  | 46 => ⟨S1x2052x128, .f32⟩
  | 47 => ⟨S1x4x128, .f32⟩
  | 48 => ⟨S1x2048x128, .f32⟩
  | 49 => ⟨S1x2048x128, .f32⟩
  | 50 => ⟨S_, .f32⟩
  | 51 => ⟨S_, .f32⟩
  | 52 => ⟨S1x2048x128, .f32⟩
  | 53 => ⟨S1x2048x128, .f32⟩
  | 54 => ⟨S_, .f32⟩
  | 55 => ⟨S1x2048x512, .f32⟩
  | 56 => ⟨S1x2048x512, .f32⟩
  | 57 => ⟨S128x128, .f32⟩
  | 58 => ⟨S128x128, .f32⟩
  | 59 => ⟨S1x2048x128, .f32⟩
  | 60 => ⟨S1x128x128, .f32⟩
  | 61 => ⟨S_, .f32⟩
  | 62 => ⟨S4x128x128, .f32⟩
  | 63 => ⟨S4x128x128, .f32⟩
  | 64 => ⟨S1x2048x128, .f32⟩
  | 65 => ⟨S1x2048x128, .f32⟩
  | 66 => ⟨S1x2048x128, .f32⟩
  | 67 => ⟨S1x2048x128, .f32⟩
  | 68 => ⟨S_, .f32⟩
  | 69 => ⟨S1x2050x128, .f32⟩
  | 70 => ⟨S1x2x128, .f32⟩
  | 71 => ⟨S1x2048x128, .f32⟩
  | 72 => ⟨S1x2048x128, .f32⟩
  | 73 => ⟨S_, .f32⟩
  | 74 => ⟨S_, .f32⟩
  | 75 => ⟨S1x2048x128, .f32⟩
  | 76 => ⟨S1x2048x128, .f32⟩
  | 77 => ⟨S_, .f32⟩
  | 78 => ⟨S1x2048x512, .f32⟩
  | 79 => ⟨S1x2048x512, .f32⟩
  | 80 => ⟨S2048x512, .f32⟩
  | 81 => ⟨S2048x512, .bf16⟩
  | 82 => ⟨S2048x512, .f32⟩
  | 83 => ⟨S2048x512, .bf16⟩
  | 84 => ⟨S1x512, .f32⟩
  | _ => ⟨S2048x2560, .f32⟩

abbrev hbmTy (i : Nat) : BufTy := match i / 128 with
  | 0 => hbmTy0_0 i
  | 1 => hbmTy0_1 i
  | _ => ⟨S2048x2560, .f32⟩

abbrev bufTy : (tb : Table) → Fin (tcTables nBuf tb) → BufTy
  | .hbm, ⟨i, _⟩ => hbmTy i
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_call0_cst : Ref sig .tc := ⟨.hbm, 11, rfl⟩
abbrev main_call0_call0_v0 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_call0_cst : Ref sig .tc := ⟨.hbm, 34, rfl⟩
abbrev main_call1_call0_v0 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_call2_call0_cst : Ref sig .tc := ⟨.hbm, 57, rfl⟩
abbrev main_call2_call0_v0 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_call3_call0_cst : Ref sig .tc := ⟨.hbm, 80, rfl⟩
abbrev main_call3_call0_v0 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_15 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_16 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_17 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_18 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_call4_call0_cst : Ref sig .tc := ⟨.hbm, 133, rfl⟩
abbrev main_call4_call0_v0 : Ref sig .tc := ⟨.hbm, 134, rfl⟩
abbrev main_v101 : Ref sig .tc := ⟨.hbm, 135, rfl⟩
abbrev main_v102 : Ref sig .tc := ⟨.hbm, 136, rfl⟩
abbrev main_cst_19 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_20 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_21 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_call5_call0_cst : Ref sig .tc := ⟨.hbm, 155, rfl⟩
abbrev main_call5_call0_v0 : Ref sig .tc := ⟨.hbm, 156, rfl⟩
abbrev main_v118 : Ref sig .tc := ⟨.hbm, 157, rfl⟩
abbrev main_v119 : Ref sig .tc := ⟨.hbm, 158, rfl⟩
abbrev main_cst_22 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_23 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_cst_24 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_call6_call0_cst : Ref sig .tc := ⟨.hbm, 178, rfl⟩
abbrev main_call6_call0_v0 : Ref sig .tc := ⟨.hbm, 179, rfl⟩
abbrev main_v136 : Ref sig .tc := ⟨.hbm, 180, rfl⟩
abbrev main_v137 : Ref sig .tc := ⟨.hbm, 181, rfl⟩
abbrev main_cst_25 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_cst_26 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_cst_27 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_call7_call0_cst : Ref sig .tc := ⟨.hbm, 201, rfl⟩
abbrev main_call7_call0_v0 : Ref sig .tc := ⟨.hbm, 202, rfl⟩
abbrev main_v154 : Ref sig .tc := ⟨.hbm, 203, rfl⟩
abbrev main_v155 : Ref sig .tc := ⟨.hbm, 204, rfl⟩
abbrev main_cst_28 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩

abbrev nD : Nat := 1
abbrev τ : Topo := Topo.v7x

variable {F : FTy → Type} [FloatOps F]
-- ==== Ln.lean ====
abbrev S2048x2048 : Shape := ⟨2, ![2048, 2048]⟩
abbrev S2048 : Shape := ⟨1, ![2048]⟩
abbrev S1x2048 : Shape := ⟨2, ![1, 2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩

abbrev nBuf : Space → Nat
  | .hbm => 15
  | .vmem => 27
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S1x2048, .f32⟩
  | .hbm, ⟨6, _⟩ => ⟨S1x2048, .f32⟩
  | .hbm, ⟨7, _⟩ => ⟨S2048x2048, .f32⟩
  | .hbm, ⟨8, _⟩ => ⟨S2048x2048, .bf16⟩
  | .hbm, ⟨9, _⟩ => ⟨S2048x2048, .f32⟩
  | .hbm, ⟨10, _⟩ => ⟨S2048x1, .f32⟩
  | .hbm, ⟨11, _⟩ => ⟨S2048x2048, .f32⟩
  | .hbm, ⟨12, _⟩ => ⟨S2048x2048, .bf16⟩
  | .hbm, ⟨13, _⟩ => ⟨S1x2048, .f32⟩
  | .hbm, ⟨14, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S256x1, .f32⟩
  | .local _ .vmem, ⟨13, _⟩ => ⟨S256x1, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x1, .f32⟩
  | .local _ .vmem, ⟨19, _⟩ => ⟨S256x1, .f32⟩
  | .local _ .vmem, ⟨20, _⟩ => ⟨S1x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .bf16⟩
  | .local _ .vmem, ⟨24, _⟩ => ⟨S256x2048, .bf16⟩
  | .local _ .vmem, ⟨25, _⟩ => ⟨S1x2048, .f32⟩
  | .local _ .vmem, ⟨26, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg7_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem7_0 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def k1_cond1 (i : grid1.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k1_cond2 (i : grid1.Coords) : BitVec 1 :=
  let arg0 : BitVec 32 := BitVec.ofNat 32 (i 0).val
  let c0_i32_17 : BitVec 32 := 0#32
  let v36 : BitVec 1 := Scalar.cmpi .sgt arg0 c0_i32_17
  let v37 : BitVec 32 := Scalar.extui v36
  let c0_i32_18 : BitVec 32 := 0#32
  let v38 : BitVec 1 := Scalar.cmpi .ne v37 c0_i32_18
  v38

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== LnRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 94
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S1x2048, .f32⟩
  | .hbm, ⟨40, _⟩ => ⟨S2048x2048, .f32⟩
  | .hbm, ⟨41, _⟩ => ⟨S2048x2048, .f32⟩
  | .hbm, ⟨42, _⟩ => ⟨S1x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S_, .f32⟩
  | .hbm, ⟨50, _⟩ => ⟨S2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S2048x2048, .f32⟩
  | .hbm, ⟨56, _⟩ => ⟨S2048x2048, .f32⟩
  | .hbm, ⟨57, _⟩ => ⟨S_, .f32⟩
  | .hbm, ⟨58, _⟩ => ⟨S2048, .f32⟩
  | .hbm, ⟨59, _⟩ => ⟨S2048x2048, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x2048, .f32⟩
  | .hbm, ⟨64, _⟩ => ⟨S2048x2048, .f32⟩
  | .hbm, ⟨65, _⟩ => ⟨S2048x1, .f32⟩
  | .hbm, ⟨66, _⟩ => ⟨S2048x2048, .f32⟩
  | .hbm, ⟨67, _⟩ => ⟨S_, .f32⟩
  | .hbm, ⟨68, _⟩ => ⟨S2048, .f32⟩
  | .hbm, ⟨69, _⟩ => ⟨S2048x1, .f32⟩
  | .hbm, ⟨70, _⟩ => ⟨S_, .f32⟩
  | .hbm, ⟨71, _⟩ => ⟨S2048x1, .f32⟩
  | .hbm, ⟨72, _⟩ => ⟨S2048x1, .f32⟩
  | .hbm, ⟨73, _⟩ => ⟨S_, .f32⟩
  | .hbm, ⟨74, _⟩ => ⟨S2048, .f32⟩
  | .hbm, ⟨75, _⟩ => ⟨S2048x2048, .f32⟩
  | .hbm, ⟨76, _⟩ => ⟨S2048x2048, .f32⟩
  | .hbm, ⟨77, _⟩ => ⟨S2048x2048, .f32⟩
  | .hbm, ⟨78, _⟩ => ⟨S_, .f32⟩
  | .hbm, ⟨79, _⟩ => ⟨S2048, .f32⟩
  | .hbm, ⟨80, _⟩ => ⟨S2048x1, .f32⟩
  | .hbm, ⟨81, _⟩ => ⟨S2048x2048, .f32⟩
  | .hbm, ⟨82, _⟩ => ⟨S2048x1, .f32⟩
  | .hbm, ⟨83, _⟩ => ⟨S_, .f32⟩
  | .hbm, ⟨84, _⟩ => ⟨S2048x1, .f32⟩
  | .hbm, ⟨85, _⟩ => ⟨S2048x1, .f32⟩
  | .hbm, ⟨86, _⟩ => ⟨S_, .f32⟩
  | .hbm, ⟨87, _⟩ => ⟨S2048, .f32⟩
  | .hbm, ⟨88, _⟩ => ⟨S2048x2048, .f32⟩
  | .hbm, ⟨89, _⟩ => ⟨S2048x2048, .f32⟩
  | .hbm, ⟨90, _⟩ => ⟨S2048x2048, .bf16⟩
  | .hbm, ⟨91, _⟩ => ⟨S2048x2048, .bf16⟩
  | .hbm, ⟨92, _⟩ => ⟨S1x2048, .f32⟩
  | .hbm, ⟨93, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]
-- ==== Conv.lean ====
abbrev S2048x11008 : Shape := ⟨2, ![2048, 11008]⟩
abbrev S3x11008 : Shape := ⟨2, ![3, 11008]⟩
abbrev S11008 : Shape := ⟨1, ![11008]⟩
abbrev S2048x5504 : Shape := ⟨2, ![2048, 5504]⟩
abbrev S2048x8x1376 : Shape := ⟨3, ![2048, 8, 1376]⟩
abbrev S2048x8x2x688 : Shape := ⟨4, ![2048, 8, 2, 688]⟩
abbrev S_ : Shape := ⟨0, ![]⟩
abbrev S2048x8x2x704 : Shape := ⟨4, ![2048, 8, 2, 704]⟩
abbrev S2048x8x1408 : Shape := ⟨3, ![2048, 8, 1408]⟩
abbrev S2048x11264 : Shape := ⟨2, ![2048, 11264]⟩
abbrev S3x8x1376 : Shape := ⟨3, ![3, 8, 1376]⟩
abbrev S3x8x2x688 : Shape := ⟨4, ![3, 8, 2, 688]⟩
abbrev S3x8x2x704 : Shape := ⟨4, ![3, 8, 2, 704]⟩
abbrev S3x8x1408 : Shape := ⟨3, ![3, 8, 1408]⟩
abbrev S3x11264 : Shape := ⟨2, ![3, 11264]⟩
abbrev S8x1376 : Shape := ⟨2, ![8, 1376]⟩
abbrev S8x2x688 : Shape := ⟨3, ![8, 2, 688]⟩
abbrev S8x2x704 : Shape := ⟨3, ![8, 2, 704]⟩
abbrev S8x1408 : Shape := ⟨2, ![8, 1408]⟩
abbrev S1x11264 : Shape := ⟨2, ![1, 11264]⟩
abbrev S2048x4x1376 : Shape := ⟨3, ![2048, 4, 1376]⟩
abbrev S2048x4x2x688 : Shape := ⟨4, ![2048, 4, 2, 688]⟩
abbrev S2048x4x2x704 : Shape := ⟨4, ![2048, 4, 2, 704]⟩
abbrev S2048x4x1408 : Shape := ⟨3, ![2048, 4, 1408]⟩
abbrev S2048x5632 : Shape := ⟨2, ![2048, 5632]⟩
abbrev S2048x256 : Shape := ⟨2, ![2048, 256]⟩
abbrev S3x256 : Shape := ⟨2, ![3, 256]⟩
abbrev S1x256 : Shape := ⟨2, ![1, 256]⟩
abbrev S8x256 : Shape := ⟨2, ![8, 256]⟩
abbrev S64x256 : Shape := ⟨2, ![64, 256]⟩
abbrev S72x256 : Shape := ⟨2, ![72, 256]⟩
abbrev S2x2048x5632 : Shape := ⟨3, ![2, 2048, 5632]⟩
abbrev S3x5632 : Shape := ⟨2, ![3, 5632]⟩
abbrev S1x5632 : Shape := ⟨2, ![1, 5632]⟩
abbrev S2x2048x256 : Shape := ⟨3, ![2, 2048, 256]⟩
abbrev S1x64x256 : Shape := ⟨3, ![1, 64, 256]⟩
abbrev S8x8x256 : Shape := ⟨3, ![8, 8, 256]⟩
abbrev S256 : Shape := ⟨1, ![256]⟩
abbrev S2x2048x4x1408 : Shape := ⟨4, ![2, 2048, 4, 1408]⟩
abbrev S2x2048x4x2x704 : Shape := ⟨5, ![2, 2048, 4, 2, 704]⟩
abbrev S2x2048x4x2x688 : Shape := ⟨5, ![2, 2048, 4, 2, 688]⟩
abbrev S2x2048x4x1376 : Shape := ⟨4, ![2, 2048, 4, 1376]⟩
abbrev S2x2048x5504 : Shape := ⟨3, ![2, 2048, 5504]⟩

abbrev nBuf : Space → Nat
  | .hbm => 60
  | .vmem => 38
  | .smem => 0
  | _ => 0

abbrev bufTy : (tb : Table) → Fin (tcTables nBuf tb) → BufTy
  | .hbm, ⟨0, _⟩ => ⟨S2048x11008, .f32⟩
  | .hbm, ⟨1, _⟩ => ⟨S3x11008, .f32⟩
  | .hbm, ⟨2, _⟩ => ⟨S11008, .f32⟩
  | .hbm, ⟨3, _⟩ => ⟨S2048x5504, .f32⟩
  | .hbm, ⟨4, _⟩ => ⟨S2048x8x1376, .f32⟩
  | .hbm, ⟨5, _⟩ => ⟨S2048x8x2x688, .f32⟩
  | .hbm, ⟨6, _⟩ => ⟨S_, .i32⟩
  | .hbm, ⟨7, _⟩ => ⟨S_, .f32⟩
  | .hbm, ⟨8, _⟩ => ⟨S2048x8x2x704, .f32⟩
  | .hbm, ⟨9, _⟩ => ⟨S2048x8x1408, .f32⟩
  | .hbm, ⟨10, _⟩ => ⟨S2048x11264, .f32⟩
  | .hbm, ⟨11, _⟩ => ⟨S3x8x1376, .f32⟩
  | .hbm, ⟨12, _⟩ => ⟨S3x8x2x688, .f32⟩
  | .hbm, ⟨13, _⟩ => ⟨S_, .i32⟩
  | .hbm, ⟨14, _⟩ => ⟨S_, .f32⟩
  | .hbm, ⟨15, _⟩ => ⟨S3x8x2x704, .f32⟩
  | .hbm, ⟨16, _⟩ => ⟨S3x8x1408, .f32⟩
  | .hbm, ⟨17, _⟩ => ⟨S3x11264, .f32⟩
  | .hbm, ⟨18, _⟩ => ⟨S8x1376, .f32⟩
  | .hbm, ⟨19, _⟩ => ⟨S8x2x688, .f32⟩
  | .hbm, ⟨20, _⟩ => ⟨S_, .i32⟩
  | .hbm, ⟨21, _⟩ => ⟨S_, .f32⟩
  | .hbm, ⟨22, _⟩ => ⟨S8x2x704, .f32⟩
  | .hbm, ⟨23, _⟩ => ⟨S8x1408, .f32⟩
  | .hbm, ⟨24, _⟩ => ⟨S1x11264, .f32⟩
  | .hbm, ⟨25, _⟩ => ⟨S2048x4x1376, .f32⟩
  | .hbm, ⟨26, _⟩ => ⟨S2048x4x2x688, .f32⟩
  | .hbm, ⟨27, _⟩ => ⟨S_, .i32⟩
  | .hbm, ⟨28, _⟩ => ⟨S_, .f32⟩
  | .hbm, ⟨29, _⟩ => ⟨S2048x4x2x704, .f32⟩
  | .hbm, ⟨30, _⟩ => ⟨S2048x4x1408, .f32⟩
  | .hbm, ⟨31, _⟩ => ⟨S2048x5632, .f32⟩
  | .hbm, ⟨32, _⟩ => ⟨S2048x5632, .bf16⟩
  | .hbm, ⟨33, _⟩ => ⟨S2x2048x5632, .bf16⟩
  | .hbm, ⟨34, _⟩ => ⟨S3x5632, .f32⟩
  | .hbm, ⟨35, _⟩ => ⟨S3x5632, .f32⟩
  | .hbm, ⟨36, _⟩ => ⟨S1x5632, .f32⟩
  | .hbm, ⟨37, _⟩ => ⟨S1x5632, .f32⟩
  | .hbm, ⟨38, _⟩ => ⟨S3x11264, .f32⟩
  | .hbm, ⟨39, _⟩ => ⟨S1x11264, .f32⟩
  | .hbm, ⟨40, _⟩ => ⟨S2048x4x1408, .bf16⟩
  | .hbm, ⟨41, _⟩ => ⟨S2048x4x2x704, .bf16⟩
  | .hbm, ⟨42, _⟩ => ⟨S2048x4x2x688, .bf16⟩
  | .hbm, ⟨43, _⟩ => ⟨S2048x4x1376, .bf16⟩
  | .hbm, ⟨44, _⟩ => ⟨S2x2048x4x1408, .bf16⟩
  | .hbm, ⟨45, _⟩ => ⟨S2x2048x4x2x704, .bf16⟩
  | .hbm, ⟨46, _⟩ => ⟨S2x2048x4x2x688, .bf16⟩
  | .hbm, ⟨47, _⟩ => ⟨S2x2048x4x1376, .bf16⟩
  | .hbm, ⟨48, _⟩ => ⟨S3x8x1408, .f32⟩
  | .hbm, ⟨49, _⟩ => ⟨S3x8x2x704, .f32⟩
  | .hbm, ⟨50, _⟩ => ⟨S3x8x2x688, .f32⟩
  | .hbm, ⟨51, _⟩ => ⟨S3x8x1376, .f32⟩
  | .hbm, ⟨52, _⟩ => ⟨S8x1408, .f32⟩
  | .hbm, ⟨53, _⟩ => ⟨S8x2x704, .f32⟩
  | .hbm, ⟨54, _⟩ => ⟨S8x2x688, .f32⟩
  | .hbm, ⟨55, _⟩ => ⟨S8x1376, .f32⟩
  | .hbm, ⟨56, _⟩ => ⟨S2048x5504, .bf16⟩
  | .hbm, ⟨57, _⟩ => ⟨S2x2048x5504, .bf16⟩
  | .hbm, ⟨58, _⟩ => ⟨S3x11008, .f32⟩
  | .hbm, ⟨59, _⟩ => ⟨S11008, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .bf16⟩
  | .local _ .vmem, ⟨13, _⟩ => ⟨S2048x256, .bf16⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S3x256, .f32⟩
  | .local _ .vmem, ⟨21, _⟩ => ⟨S3x256, .f32⟩
  | .local _ .vmem, ⟨22, _⟩ => ⟨S3x256, .f32⟩
  | .local _ .vmem, ⟨23, _⟩ => ⟨S3x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S2x2048x256, .bf16⟩
  | .local _ .vmem, ⟨29, _⟩ => ⟨S2x2048x256, .bf16⟩
  | .local _ .vmem, ⟨30, _⟩ => ⟨S3x256, .f32⟩
  | .local _ .vmem, ⟨31, _⟩ => ⟨S3x256, .f32⟩
  | .local _ .vmem, ⟨32, _⟩ => ⟨S3x256, .f32⟩
  | .local _ .vmem, ⟨33, _⟩ => ⟨S3x256, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | _, _ => ⟨S2048x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_call2_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_call3_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v21_2 : Ref sig .tc := ⟨.hbm, 35, rfl⟩
abbrev main_v21_3 : Ref sig .tc := ⟨.hbm, 36, rfl⟩
abbrev main_v21_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc1_stg11_0 : Ref sig .tc := ⟨.vmem, 36, rfl⟩
abbrev cc1_stg11_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37

abbrev nD : Nat := 1
abbrev τ : Topo := Topo.v7x

variable {F : FTy → Type} [FloatOps F]

abbrev grid0 : Pipeline.Grid := ⟨1, ![22], ![false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c64_i32 : BitVec 32 := 64#32
  let v1 : BitVec 32 := Scalar.muli arg8 c64_i32
  v1
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c64_i32 : BitVec 32 := 64#32
  let v1 : BitVec 32 := Scalar.muli arg8 c64_i32
  let v2 : BitVec 32 := v1
  let c8_i32 : BitVec 32 := 8#32
  let v3 : BitVec 32 := Scalar.subi v2 c8_i32
  let c0_i32_1 : BitVec 32 := 0#32
  let v4 : BitVec 32 := Scalar.maxsi v3 c0_i32_1
  v4
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c64_i32 : BitVec 32 := 64#32
  let v1 : BitVec 32 := Scalar.muli arg8 c64_i32
  let v2 : BitVec 32 := v1
  let c8_i32 : BitVec 32 := 8#32
  let v3 : BitVec 32 := Scalar.subi v2 c8_i32
  let c0_i32_1 : BitVec 32 := 0#32
  let v4 : BitVec 32 := Scalar.maxsi v3 c0_i32_1
  let v5 : BitVec 32 := v4
  let v6 : Index := Scalar.indexCast v5
  let c0 : Index := 0#32
  ![v6.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c64_i32 : BitVec 32 := 64#32
  let v1 : BitVec 32 := Scalar.muli arg8 c64_i32
  let v2 : BitVec 32 := v1
  let v12 : Index := Scalar.indexCast v2
  let c0_3 : Index := 0#32
  ![v12.toNat, 0]
def k0_mult3 (k0_t1 : Fin k0_t1_loop.trips) : BitVec 32 :=
  let c0_i32 : BitVec 32 := 0#32
  let c1_i32 : BitVec 32 := 1#32
  let arg8 : BitVec 32 := Scf.iv c0_i32 c1_i32 k0_t1
  let c64_i32_11 : BitVec 32 := 64#32
  let v38 : BitVec 32 := Scalar.muli arg8 c64_i32_11
  v38
def k0_mult4 (k0_t1 : Fin k0_t1_loop.trips) : BitVec 32 :=
  let c0_i32 : BitVec 32 := 0#32
  let c1_i32 : BitVec 32 := 1#32
  let arg8 : BitVec 32 := Scf.iv c0_i32 c1_i32 k0_t1
  let c64_i32_11 : BitVec 32 := 64#32
  let v38 : BitVec 32 := Scalar.muli arg8 c64_i32_11
  let v39 : BitVec 32 := v38
  let c8_i32_12 : BitVec 32 := 8#32
  let v40 : BitVec 32 := Scalar.subi v39 c8_i32_12
  let c0_i32_13 : BitVec 32 := 0#32
  let v41 : BitVec 32 := Scalar.maxsi v40 c0_i32_13
  v41
def k0_mult5 (k0_t1 : Fin k0_t1_loop.trips) : BitVec 32 :=
  let c0_i32 : BitVec 32 := 0#32
  let c1_i32 : BitVec 32 := 1#32
  let arg8 : BitVec 32 := Scf.iv c0_i32 c1_i32 k0_t1
  let c64_i32_31 : BitVec 32 := 64#32
  let v85 : BitVec 32 := Scalar.muli arg8 c64_i32_31
  v85
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![22], ![false]⟩

@[reducible] def k1_t1_loop : Scf.Loop 32 :=
  let c0_i32 : BitVec 32 := 0#32
  let c32_i32 : BitVec 32 := 32#32
  let v5 : BitVec 32 := Scalar.addi c0_i32 c32_i32
  let c1_i32 : BitVec 32 := 1#32
  ⟨c0_i32, v5, c1_i32⟩
def k1_mult1 (k1_t1 : Fin k1_t1_loop.trips) : BitVec 32 :=
  let c31_i32 : BitVec 32 := 31#32
  let c0_i32 : BitVec 32 := 0#32
  let c1_i32 : BitVec 32 := 1#32
  let arg13 : BitVec 32 := Scf.iv c0_i32 c1_i32 k1_t1
  let v31 : BitVec 32 := Scalar.subi c31_i32 arg13
  let c64_i32 : BitVec 32 := 64#32
  let v32 : BitVec 32 := Scalar.muli v31 c64_i32
  v32
def k1_mult2 (k1_t1 : Fin k1_t1_loop.trips) : BitVec 32 :=
  let c31_i32 : BitVec 32 := 31#32
  let c0_i32 : BitVec 32 := 0#32
  let c1_i32 : BitVec 32 := 1#32
  let arg13 : BitVec 32 := Scf.iv c0_i32 c1_i32 k1_t1
  let v31 : BitVec 32 := Scalar.subi c31_i32 arg13
  let c64_i32_26 : BitVec 32 := 64#32
  let v34 : BitVec 32 := Scalar.muli v31 c64_i32_26
  v34
def k1_mult3 (k1_t1 : Fin k1_t1_loop.trips) : BitVec 32 :=
  let c31_i32 : BitVec 32 := 31#32
  let c0_i32 : BitVec 32 := 0#32
  let c1_i32 : BitVec 32 := 1#32
  let arg13 : BitVec 32 := Scf.iv c0_i32 c1_i32 k1_t1
  let v31 : BitVec 32 := Scalar.subi c31_i32 arg13
  let c64_i32_26 : BitVec 32 := 64#32
  let v34 : BitVec 32 := Scalar.muli v31 c64_i32_26
  let v35 : BitVec 32 := v34
  let c8_i32 : BitVec 32 := 8#32
  let v36 : BitVec 32 := Scalar.subi v35 c8_i32
  let c0_i32_27 : BitVec 32 := 0#32
  let v37 : BitVec 32 := Scalar.maxsi v36 c0_i32_27
  v37
def k1_off1 (k1_t1 : Fin k1_t1_loop.trips) : Fin 2 → Nat :=
  let c31_i32 : BitVec 32 := 31#32
  let c0_i32 : BitVec 32 := 0#32
  let c1_i32 : BitVec 32 := 1#32
  let arg13 : BitVec 32 := Scf.iv c0_i32 c1_i32 k1_t1
  let v31 : BitVec 32 := Scalar.subi c31_i32 arg13
  let c64_i32_26 : BitVec 32 := 64#32
  let v34 : BitVec 32 := Scalar.muli v31 c64_i32_26
  let v35 : BitVec 32 := v34
  let c8_i32 : BitVec 32 := 8#32
  let v36 : BitVec 32 := Scalar.subi v35 c8_i32
  let c0_i32_27 : BitVec 32 := 0#32
  let v37 : BitVec 32 := Scalar.maxsi v36 c0_i32_27
  let v38 : BitVec 32 := v37
  let v39 : Index := Scalar.indexCast v38
  let c0_28 : Index := 0#32
  ![v39.toNat, 0]
def k1_off2 (k1_t1 : Fin k1_t1_loop.trips) : Fin 2 → Nat :=
  let c31_i32 : BitVec 32 := 31#32
  let c0_i32 : BitVec 32 := 0#32
  let c1_i32 : BitVec 32 := 1#32
  let arg13 : BitVec 32 := Scf.iv c0_i32 c1_i32 k1_t1
  let v31 : BitVec 32 := Scalar.subi c31_i32 arg13
  let c64_i32_26 : BitVec 32 := 64#32
  let v34 : BitVec 32 := Scalar.muli v31 c64_i32_26
  let v35 : BitVec 32 := v34
  let v45 : Index := Scalar.indexCast v35
  let c0_31 : Index := 0#32
  ![v45.toNat, 0]
def k1_mult4 (k1_t1 : Fin k1_t1_loop.trips) : BitVec 32 :=
  let c31_i32 : BitVec 32 := 31#32
  let c0_i32 : BitVec 32 := 0#32
  let c1_i32 : BitVec 32 := 1#32
  let arg13 : BitVec 32 := Scf.iv c0_i32 c1_i32 k1_t1
  let v31 : BitVec 32 := Scalar.subi c31_i32 arg13
  let c64_i32_41 : BitVec 32 := 64#32
  let v71 : BitVec 32 := Scalar.muli v31 c64_i32_41
  v71
def k1_mult5 (k1_t1 : Fin k1_t1_loop.trips) : BitVec 32 :=
  let c31_i32 : BitVec 32 := 31#32
  let c0_i32 : BitVec 32 := 0#32
  let c1_i32 : BitVec 32 := 1#32
  let arg13 : BitVec 32 := Scf.iv c0_i32 c1_i32 k1_t1
  let v31 : BitVec 32 := Scalar.subi c31_i32 arg13
  let c64_i32_41 : BitVec 32 := 64#32
  let v71 : BitVec 32 := Scalar.muli v31 c64_i32_41
  let v72 : BitVec 32 := v71
  let c8_i32_42 : BitVec 32 := 8#32
  let v73 : BitVec 32 := Scalar.subi v72 c8_i32_42
  let c0_i32_43 : BitVec 32 := 0#32
  let v74 : BitVec 32 := Scalar.maxsi v73 c0_i32_43
  v74
def k1_off3 (k1_t1 : Fin k1_t1_loop.trips) : Fin 3 → Nat :=
  let c0_70 : Index := 0#32
  let c31_i32 : BitVec 32 := 31#32
  let c0_i32 : BitVec 32 := 0#32
  let c1_i32 : BitVec 32 := 1#32
  let arg13 : BitVec 32 := Scf.iv c0_i32 c1_i32 k1_t1
  let v31 : BitVec 32 := Scalar.subi c31_i32 arg13
  let c64_i32 : BitVec 32 := 64#32
  let v32 : BitVec 32 := Scalar.muli v31 c64_i32
  let v33 : BitVec 32 := v32
  let v148 : Index := Scalar.indexCast v33
  let c0_71 : Index := 0#32
  ![0, v148.toNat, 0]
def k1_off4 (k1_t1 : Fin k1_t1_loop.trips) : Fin 3 → Nat :=
  let c1_84 : Index := 1#32
  let c31_i32 : BitVec 32 := 31#32
  let c0_i32 : BitVec 32 := 0#32
  let c1_i32 : BitVec 32 := 1#32
  let arg13 : BitVec 32 := Scf.iv c0_i32 c1_i32 k1_t1
  let v31 : BitVec 32 := Scalar.subi c31_i32 arg13
  let c64_i32 : BitVec 32 := 64#32
  let v32 : BitVec 32 := Scalar.muli v31 c64_i32
  let v33 : BitVec 32 := v32
  let v188 : Index := Scalar.indexCast v33
  let c0_85 : Index := 0#32
  ![1, v188.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2x2048x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S3x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S3x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== ConvRefIdeal.lean ====
abbrev S2048x11008 : Shape := ⟨2, ![2048, 11008]⟩
abbrev S3x11008 : Shape := ⟨2, ![3, 11008]⟩
abbrev S11008 : Shape := ⟨1, ![11008]⟩
abbrev S2048x5504 : Shape := ⟨2, ![2048, 5504]⟩
abbrev S1x2048x11008 : Shape := ⟨3, ![1, 2048, 11008]⟩
abbrev S_ : Shape := ⟨0, ![]⟩
abbrev S1x2x11008 : Shape := ⟨3, ![1, 2, 11008]⟩
abbrev S1x2050x11008 : Shape := ⟨3, ![1, 2050, 11008]⟩
abbrev S1x11008 : Shape := ⟨2, ![1, 11008]⟩
abbrev S1x1x11008 : Shape := ⟨3, ![1, 1, 11008]⟩
abbrev S1x2048x5504 : Shape := ⟨3, ![1, 2048, 5504]⟩
abbrev S2x2048x5504 : Shape := ⟨3, ![2, 2048, 5504]⟩

abbrev nBuf : Space → Nat
  | .hbm => 121
  | .vmem => 0
  | .smem => 0
  | _ => 0

abbrev bufTy : (tb : Table) → Fin (tcTables nBuf tb) → BufTy
  | .hbm, ⟨0, _⟩ => ⟨S2048x11008, .f32⟩
  | .hbm, ⟨1, _⟩ => ⟨S3x11008, .f32⟩
  | .hbm, ⟨2, _⟩ => ⟨S11008, .f32⟩
  | .hbm, ⟨3, _⟩ => ⟨S2048x5504, .f32⟩
  | .hbm, ⟨4, _⟩ => ⟨S1x2048x11008, .f32⟩
  | .hbm, ⟨5, _⟩ => ⟨S_, .f32⟩
  | .hbm, ⟨6, _⟩ => ⟨S1x2x11008, .f32⟩
  | .hbm, ⟨7, _⟩ => ⟨S1x2050x11008, .f32⟩
  | .hbm, ⟨8, _⟩ => ⟨S_, .f32⟩
  | .hbm, ⟨9, _⟩ => ⟨S1x2x11008, .f32⟩
  | .hbm, ⟨10, _⟩ => ⟨S1x2048x11008, .f32⟩
  | .hbm, ⟨11, _⟩ => ⟨S1x11008, .f32⟩
  | .hbm, ⟨12, _⟩ => ⟨S11008, .f32⟩
  | .hbm, ⟨13, _⟩ => ⟨S1x1x11008, .f32⟩
  | .hbm, ⟨14, _⟩ => ⟨S1x2048x11008, .f32⟩
  | .hbm, ⟨15, _⟩ => ⟨S1x2048x11008, .f32⟩
  | .hbm, ⟨16, _⟩ => ⟨S1x1x11008, .f32⟩
  | .hbm, ⟨17, _⟩ => ⟨S1x2048x11008, .f32⟩
  | .hbm, ⟨18, _⟩ => ⟨S1x2048x11008, .f32⟩
  | .hbm, ⟨19, _⟩ => ⟨S1x2048x11008, .f32⟩
  | .hbm, ⟨20, _⟩ => ⟨S1x11008, .f32⟩
  | .hbm, ⟨21, _⟩ => ⟨S11008, .f32⟩
  | .hbm, ⟨22, _⟩ => ⟨S1x1x11008, .f32⟩
  | .hbm, ⟨23, _⟩ => ⟨S1x2048x11008, .f32⟩
  | .hbm, ⟨24, _⟩ => ⟨S1x2048x11008, .f32⟩
  | .hbm, ⟨25, _⟩ => ⟨S1x2048x11008, .f32⟩
  | .hbm, ⟨26, _⟩ => ⟨S1x2048x11008, .f32⟩
  | .hbm, ⟨27, _⟩ => ⟨S1x11008, .f32⟩
  | .hbm, ⟨28, _⟩ => ⟨S11008, .f32⟩
  | .hbm, ⟨29, _⟩ => ⟨S1x1x11008, .f32⟩
  | .hbm, ⟨30, _⟩ => ⟨S1x2048x11008, .f32⟩
  | .hbm, ⟨31, _⟩ => ⟨S1x2048x11008, .f32⟩
  | .hbm, ⟨32, _⟩ => ⟨S1x2048x11008, .f32⟩
  | .hbm, ⟨33, _⟩ => ⟨S1x2048x5504, .f32⟩
  | .hbm, ⟨34, _⟩ => ⟨S1x2048x5504, .f32⟩
  | .hbm, ⟨35, _⟩ => ⟨S1x2048x5504, .f32⟩
  | .hbm, ⟨36, _⟩ => ⟨S1x2048x5504, .f32⟩
  | .hbm, ⟨37, _⟩ => ⟨S_, .f32⟩
  | .hbm, ⟨38, _⟩ => ⟨S1x2048x5504, .f32⟩
  | .hbm, ⟨39, _⟩ => ⟨S1x2048x5504, .f32⟩
  | .hbm, ⟨40, _⟩ => ⟨S_, .f32⟩
  | .hbm, ⟨41, _⟩ => ⟨S1x2048x5504, .f32⟩
  | .hbm, ⟨42, _⟩ => ⟨S1x2048x5504, .f32⟩
  | .hbm, ⟨43, _⟩ => ⟨S_, .f32⟩
  | .hbm, ⟨44, _⟩ => ⟨S1x2048x5504, .f32⟩
  | .hbm, ⟨45, _⟩ => ⟨S1x2048x5504, .f32⟩
  | .hbm, ⟨46, _⟩ => ⟨S1x2048x5504, .f32⟩
  | .hbm, ⟨47, _⟩ => ⟨S1x2048x5504, .f32⟩
  | .hbm, ⟨48, _⟩ => ⟨S1x2048x5504, .f32⟩
  | .hbm, ⟨49, _⟩ => ⟨S1x2048x5504, .f32⟩
  | .hbm, ⟨50, _⟩ => ⟨S1x2048x5504, .f32⟩
  | .hbm, ⟨51, _⟩ => ⟨S1x2048x5504, .f32⟩
  | .hbm, ⟨52, _⟩ => ⟨S1x2048x5504, .f32⟩
  | .hbm, ⟨53, _⟩ => ⟨S1x2048x5504, .f32⟩
  | .hbm, ⟨54, _⟩ => ⟨S1x2048x5504, .f32⟩
  | .hbm, ⟨55, _⟩ => ⟨S1x2048x5504, .f32⟩
  | .hbm, ⟨56, _⟩ => ⟨S_, .f32⟩
  | .hbm, ⟨57, _⟩ => ⟨S1x2048x11008, .f32⟩
  | .hbm, ⟨58, _⟩ => ⟨S_, .f32⟩
  | .hbm, ⟨59, _⟩ => ⟨S1x2048x11008, .f32⟩
  | .hbm, ⟨60, _⟩ => ⟨S1x2048x11008, .f32⟩
  | .hbm, ⟨61, _⟩ => ⟨S1x2048x11008, .f32⟩
  | .hbm, ⟨62, _⟩ => ⟨S_, .f32⟩
  | .hbm, ⟨63, _⟩ => ⟨S1x11008, .f32⟩
  | .hbm, ⟨64, _⟩ => ⟨S1x1x11008, .f32⟩
  | .hbm, ⟨65, _⟩ => ⟨S1x2048x11008, .f32⟩
  | .hbm, ⟨66, _⟩ => ⟨S1x2048x11008, .f32⟩
  | .hbm, ⟨67, _⟩ => ⟨S_, .f32⟩
  | .hbm, ⟨68, _⟩ => ⟨S11008, .f32⟩
  | .hbm, ⟨69, _⟩ => ⟨S1x11008, .f32⟩
  | .hbm, ⟨70, _⟩ => ⟨S_, .f32⟩
  | .hbm, ⟨71, _⟩ => ⟨S3x11008, .f32⟩
  | .hbm, ⟨72, _⟩ => ⟨S_, .f32⟩
  | .hbm, ⟨73, _⟩ => ⟨S1x2050x11008, .f32⟩
  | .hbm, ⟨74, _⟩ => ⟨S1x2048x11008, .f32⟩
  | .hbm, ⟨75, _⟩ => ⟨S_, .f32⟩
  | .hbm, ⟨76, _⟩ => ⟨S1x11008, .f32⟩
  | .hbm, ⟨77, _⟩ => ⟨S1x1x11008, .f32⟩
  | .hbm, ⟨78, _⟩ => ⟨S1x2048x11008, .f32⟩
  | .hbm, ⟨79, _⟩ => ⟨S1x2048x11008, .f32⟩
  | .hbm, ⟨80, _⟩ => ⟨S_, .f32⟩
  | .hbm, ⟨81, _⟩ => ⟨S11008, .f32⟩
  | .hbm, ⟨82, _⟩ => ⟨S1x11008, .f32⟩
  | .hbm, ⟨83, _⟩ => ⟨S_, .f32⟩
  | .hbm, ⟨84, _⟩ => ⟨S3x11008, .f32⟩
  | .hbm, ⟨85, _⟩ => ⟨S3x11008, .f32⟩
  | .hbm, ⟨86, _⟩ => ⟨S_, .f32⟩
  | .hbm, ⟨87, _⟩ => ⟨S1x2050x11008, .f32⟩
  | .hbm, ⟨88, _⟩ => ⟨S1x2050x11008, .f32⟩
  | .hbm, ⟨89, _⟩ => ⟨S_, .f32⟩
  | .hbm, ⟨90, _⟩ => ⟨S1x11008, .f32⟩
  | .hbm, ⟨91, _⟩ => ⟨S1x1x11008, .f32⟩
  | .hbm, ⟨92, _⟩ => ⟨S_, .f32⟩
  | .hbm, ⟨93, _⟩ => ⟨S11008, .f32⟩
  | .hbm, ⟨94, _⟩ => ⟨S1x2048x11008, .f32⟩
  | .hbm, ⟨95, _⟩ => ⟨S_, .f32⟩
  | .hbm, ⟨96, _⟩ => ⟨S1x11008, .f32⟩
  | .hbm, ⟨97, _⟩ => ⟨S1x1x11008, .f32⟩
  | .hbm, ⟨98, _⟩ => ⟨S1x2048x11008, .f32⟩
  | .hbm, ⟨99, _⟩ => ⟨S1x2048x11008, .f32⟩
  | .hbm, ⟨100, _⟩ => ⟨S_, .f32⟩
  | .hbm, ⟨101, _⟩ => ⟨S11008, .f32⟩
  | .hbm, ⟨102, _⟩ => ⟨S1x11008, .f32⟩
  | .hbm, ⟨103, _⟩ => ⟨S_, .f32⟩
  | .hbm, ⟨104, _⟩ => ⟨S3x11008, .f32⟩
  | .hbm, ⟨105, _⟩ => ⟨S3x11008, .f32⟩
  | .hbm, ⟨106, _⟩ => ⟨S_, .f32⟩
  | .hbm, ⟨107, _⟩ => ⟨S1x2050x11008, .f32⟩
  | .hbm, ⟨108, _⟩ => ⟨S1x2050x11008, .f32⟩
  | .hbm, ⟨109, _⟩ => ⟨S1x2x11008, .f32⟩
  | .hbm, ⟨110, _⟩ => ⟨S1x2048x11008, .f32⟩
  | .hbm, ⟨111, _⟩ => ⟨S2048x5504, .f32⟩
  | .hbm, ⟨112, _⟩ => ⟨S2048x5504, .bf16⟩
  | .hbm, ⟨113, _⟩ => ⟨S1x2048x5504, .f32⟩
  | .hbm, ⟨114, _⟩ => ⟨S2048x5504, .f32⟩
  | .hbm, ⟨115, _⟩ => ⟨S1x2048x5504, .f32⟩
  | .hbm, ⟨116, _⟩ => ⟨S2048x5504, .f32⟩
  | .hbm, ⟨117, _⟩ => ⟨S1x2048x5504, .f32⟩
  | .hbm, ⟨118, _⟩ => ⟨S1x2048x5504, .f32⟩
  | .hbm, ⟨119, _⟩ => ⟨S2x2048x5504, .f32⟩
  | .hbm, ⟨120, _⟩ => ⟨S2x2048x5504, .bf16⟩
  | _, _ => ⟨S2048x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v29_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v29_1 : Ref sig .tc := ⟨.hbm, 46, rfl⟩
abbrev main_v29_0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v34 : Ref sig .tc := ⟨.hbm, 55, rfl⟩
abbrev main_cst_1 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_3 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_4 : Ref sig .tc := ⟨.hbm, 67, rfl⟩
abbrev main_v43 : Ref sig .tc := ⟨.hbm, 68, rfl⟩
abbrev main_v44 : Ref sig .tc := ⟨.hbm, 69, rfl⟩
abbrev main_cst_5 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_v61 : Ref sig .tc := ⟨.hbm, 94, rfl⟩
abbrev main_cst_13 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_14 : Ref sig .tc := ⟨.hbm, 100, rfl⟩
abbrev main_v66 : Ref sig .tc := ⟨.hbm, 101, rfl⟩
abbrev main_v67 : Ref sig .tc := ⟨.hbm, 102, rfl⟩
abbrev main_cst_15 : Ref sig .tc := ⟨.hbm, 103, rfl⟩
abbrev main_v68 : Ref sig .tc := ⟨.hbm, 104, rfl⟩
abbrev main_v69 : Ref sig .tc := ⟨.hbm, 105, rfl⟩
abbrev main_cst_16 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩

abbrev nD : Nat := 1
abbrev τ : Topo := Topo.v7x

variable {F : FTy → Type} [FloatOps F]
-- ==== Adam.lean ====
abbrev S4x4x128x128 : Shape := ⟨4, ![4, 4, 128, 128]⟩
abbrev S2048x128 : Shape := ⟨2, ![2048, 128]⟩
abbrev S1024x128 : Shape := ⟨2, ![1024, 128]⟩

abbrev nBuf : Space → Nat
  | .hbm => 11
  | .vmem => 14
  | .smem => 0
  | _ => 0

abbrev bufTy : (tb : Table) → Fin (tcTables nBuf tb) → BufTy
  | .hbm, ⟨0, _⟩ => ⟨S4x4x128x128, .f32⟩
  | .hbm, ⟨1, _⟩ => ⟨S4x4x128x128, .f32⟩
  | .hbm, ⟨2, _⟩ => ⟨S4x4x128x128, .f32⟩
  | .hbm, ⟨3, _⟩ => ⟨S4x4x128x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | _, _ => ⟨S4x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamRefIdeal.lean ====
abbrev S4x4x128x128 : Shape := ⟨4, ![4, 4, 128, 128]⟩
abbrev S_ : Shape := ⟨0, ![]⟩
abbrev S2048x128 : Shape := ⟨2, ![2048, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x4x128x128, .f32⟩
  | .hbm, ⟨1, _⟩ => ⟨S4x4x128x128, .f32⟩
  | .hbm, ⟨2, _⟩ => ⟨S4x4x128x128, .f32⟩
  | .hbm, ⟨3, _⟩ => ⟨S4x4x128x128, .f32⟩
  | .hbm, ⟨4, _⟩ => ⟨S_, .f32⟩
  | .hbm, ⟨5, _⟩ => ⟨S4x4x128x128, .f32⟩
  | .hbm, ⟨6, _⟩ => ⟨S4x4x128x128, .f32⟩
  | .hbm, ⟨7, _⟩ => ⟨S_, .f32⟩
  | .hbm, ⟨8, _⟩ => ⟨S4x4x128x128, .f32⟩
  | .hbm, ⟨9, _⟩ => ⟨S4x4x128x128, .f32⟩
  | .hbm, ⟨10, _⟩ => ⟨S4x4x128x128, .f32⟩
  | .hbm, ⟨11, _⟩ => ⟨S_, .f32⟩
  | .hbm, ⟨12, _⟩ => ⟨S4x4x128x128, .f32⟩
  | .hbm, ⟨13, _⟩ => ⟨S4x4x128x128, .f32⟩
  | .hbm, ⟨14, _⟩ => ⟨S4x4x128x128, .f32⟩
  | .hbm, ⟨15, _⟩ => ⟨S_, .f32⟩
  | .hbm, ⟨16, _⟩ => ⟨S4x4x128x128, .f32⟩
  | .hbm, ⟨17, _⟩ => ⟨S4x4x128x128, .f32⟩
  | .hbm, ⟨18, _⟩ => ⟨S4x4x128x128, .f32⟩
  | .hbm, ⟨19, _⟩ => ⟨S_, .f32⟩
  | .hbm, ⟨20, _⟩ => ⟨S4x4x128x128, .f32⟩
  | .hbm, ⟨21, _⟩ => ⟨S4x4x128x128, .f32⟩
  | .hbm, ⟨22, _⟩ => ⟨S_, .f32⟩
  | .hbm, ⟨23, _⟩ => ⟨S4x4x128x128, .f32⟩
  | .hbm, ⟨24, _⟩ => ⟨S4x4x128x128, .f32⟩
  | .hbm, ⟨25, _⟩ => ⟨S4x4x128x128, .f32⟩
  | .hbm, ⟨26, _⟩ => ⟨S_, .f32⟩
  | .hbm, ⟨27, _⟩ => ⟨S4x4x128x128, .f32⟩
  | .hbm, ⟨28, _⟩ => ⟨S4x4x128x128, .f32⟩
  | .hbm, ⟨29, _⟩ => ⟨S4x4x128x128, .f32⟩
  | .hbm, ⟨30, _⟩ => ⟨S_, .f32⟩
  | .hbm, ⟨31, _⟩ => ⟨S4x4x128x128, .f32⟩
  | .hbm, ⟨32, _⟩ => ⟨S4x4x128x128, .f32⟩
  | .hbm, ⟨33, _⟩ => ⟨S4x4x128x128, .f32⟩
  | .hbm, ⟨34, _⟩ => ⟨S_, .f32⟩
  | .hbm, ⟨35, _⟩ => ⟨S4x4x128x128, .f32⟩
  | .hbm, ⟨36, _⟩ => ⟨S4x4x128x128, .f32⟩
  | .hbm, ⟨37, _⟩ => ⟨S2048x128, .f32⟩
  | .hbm, ⟨38, _⟩ => ⟨S2048x128, .f32⟩
  | .hbm, ⟨39, _⟩ => ⟨S2048x128, .f32⟩
  | _, _ => ⟨S4x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== MmNn.lean ====
abbrev S2048x5632 : Shape := ⟨2, ![2048, 5632]⟩
abbrev S5632x2048 : Shape := ⟨2, ![5632, 2048]⟩
abbrev S2048x2048 : Shape := ⟨2, ![2048, 2048]⟩
abbrev S5632x256 : Shape := ⟨2, ![5632, 256]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S2048x5632, .bf16⟩
  | .local _ .vmem, ⟨1, _⟩ => ⟨S5632x256, .bf16⟩
  | .local _ .vmem, ⟨2, _⟩ => ⟨S5632x256, .bf16⟩
  | .local _ .vmem, ⟨3, _⟩ => ⟨S2048x256, .f32⟩
  | .local _ .vmem, ⟨4, _⟩ => ⟨S2048x256, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S2048x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S5632x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmNnRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x5632, .f32⟩
  | .hbm, ⟨3, _⟩ => ⟨S5632x2048, .f32⟩
  | .hbm, ⟨4, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmNt.lean ====
abbrev S2048x2048 : Shape := ⟨2, ![2048, 2048]⟩
abbrev S11264x2048 : Shape := ⟨2, ![11264, 2048]⟩
abbrev S2048x11264 : Shape := ⟨2, ![2048, 11264]⟩
abbrev S1408x2048 : Shape := ⟨2, ![1408, 2048]⟩
abbrev S2048x1408 : Shape := ⟨2, ![2048, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S11264x2048, .bf16⟩
  | .hbm, ⟨2, _⟩ => ⟨S2048x11264, .f32⟩
  | .local _ .vmem, ⟨0, _⟩ => ⟨S2048x2048, .bf16⟩
  | .local _ .vmem, ⟨1, _⟩ => ⟨S1408x2048, .bf16⟩
  | .local _ .vmem, ⟨2, _⟩ => ⟨S1408x2048, .bf16⟩
  | .local _ .vmem, ⟨3, _⟩ => ⟨S2048x1408, .f32⟩
  | .local _ .vmem, ⟨4, _⟩ => ⟨S2048x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmNtRefIdeal.lean ====
abbrev S2048x2048 : Shape := ⟨2, ![2048, 2048]⟩
abbrev S11264x2048 : Shape := ⟨2, ![11264, 2048]⟩
abbrev S2048x11264 : Shape := ⟨2, ![2048, 11264]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S11264x2048, .bf16⟩
  | .hbm, ⟨2, _⟩ => ⟨S2048x2048, .f32⟩
  | .hbm, ⟨3, _⟩ => ⟨S11264x2048, .f32⟩
  | .hbm, ⟨4, _⟩ => ⟨S2048x11264, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmBcols.lean ====
abbrev S2048x512 : Shape := ⟨2, ![2048, 512]⟩
abbrev S2048x1024 : Shape := ⟨2, ![2048, 1024]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S512x512, .bf16⟩
  | .local _ .vmem, ⟨4, _⟩ => ⟨S512x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmBcolsRefIdeal.lean ====
abbrev S2048x512 : Shape := ⟨2, ![2048, 512]⟩
abbrev S2048x1024 : Shape := ⟨2, ![2048, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S_, .f32⟩
  | .hbm, ⟨3, _⟩ => ⟨S512x1024, .f32⟩
  | .hbm, ⟨4, _⟩ => ⟨S2048x512, .f32⟩
  | .hbm, ⟨5, _⟩ => ⟨S2048x1024, .f32⟩
  | .hbm, ⟨6, _⟩ => ⟨S2048x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MmAcols.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S1408x2048 : Shape := ⟨2, ![1408, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x2048, .bf16⟩
  | .local _ .vmem, ⟨3, _⟩ => ⟨S1408x2048, .bf16⟩
  | .local _ .vmem, ⟨4, _⟩ => ⟨S1408x2048, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmAcolsRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MmHalves.lean ====
abbrev S2x2048x5632 : Shape := ⟨3, ![2, 2048, 5632]⟩
abbrev S2048x2048 : Shape := ⟨2, ![2048, 2048]⟩
abbrev S11264x2048 : Shape := ⟨2, ![11264, 2048]⟩
abbrev S1x2048x1408 : Shape := ⟨3, ![1, 2048, 1408]⟩
abbrev S1408x2048 : Shape := ⟨2, ![1408, 2048]⟩
abbrev S2048x1408 : Shape := ⟨2, ![2048, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2x2048x5632, .bf16⟩
  | .hbm, ⟨1, _⟩ => ⟨S2048x2048, .bf16⟩
  | .hbm, ⟨2, _⟩ => ⟨S11264x2048, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S2048x2048, .bf16⟩
  | .local _ .vmem, ⟨3, _⟩ => ⟨S1408x2048, .bf16⟩
  | .local _ .vmem, ⟨4, _⟩ => ⟨S1408x2048, .bf16⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmHalvesRefIdeal.lean ====
abbrev S2x2048x5632 : Shape := ⟨3, ![2, 2048, 5632]⟩
abbrev S2048x2048 : Shape := ⟨2, ![2048, 2048]⟩
abbrev S_ : Shape := ⟨0, ![]⟩
abbrev S2x5632x2048 : Shape := ⟨3, ![2, 5632, 2048]⟩
abbrev S11264x2048 : Shape := ⟨2, ![11264, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S2048x2048, .bf16⟩
  | .hbm, ⟨2, _⟩ => ⟨S_, .f32⟩
  | .hbm, ⟨3, _⟩ => ⟨S2x5632x2048, .f32⟩
  | .hbm, ⟨4, _⟩ => ⟨S2048x2048, .f32⟩
  | .hbm, ⟨5, _⟩ => ⟨S2x5632x2048, .f32⟩
  | .hbm, ⟨6, _⟩ => ⟨S2x2048x5632, .f32⟩
  | .hbm, ⟨7, _⟩ => ⟨S2x2048x5632, .f32⟩
  | .hbm, ⟨8, _⟩ => ⟨S2x5632x2048, .f32⟩
  | .hbm, ⟨9, _⟩ => ⟨S2x5632x2048, .f32⟩
  | .hbm, ⟨10, _⟩ => ⟨S11264x2048, .f32⟩
  | .hbm, ⟨11, _⟩ => ⟨S11264x2048, .bf16⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MmSplit.lean ====
abbrev S2x2048x5632 : Shape := ⟨3, ![2, 2048, 5632]⟩
abbrev S11264x2048 : Shape := ⟨2, ![11264, 2048]⟩
abbrev S2048x2048 : Shape := ⟨2, ![2048, 2048]⟩
abbrev S2x1024x5632 : Shape := ⟨3, ![2, 1024, 5632]⟩
abbrev S11264x256 : Shape := ⟨2, ![11264, 256]⟩
abbrev S1024x256 : Shape := ⟨2, ![1024, 256]⟩
abbrev S1x1024x5632 : Shape := ⟨3, ![1, 1024, 5632]⟩
abbrev S1024x5632 : Shape := ⟨2, ![1024, 5632]⟩
abbrev S5632x256 : Shape := ⟨2, ![5632, 256]⟩

abbrev nBuf : Space → Nat
  | .hbm => 4
  | .vmem => 7
  | .smem => 0
  | _ => 0

abbrev bufTy : (tb : Table) → Fin (tcTables nBuf tb) → BufTy
  | .hbm, ⟨0, _⟩ => ⟨S2x2048x5632, .bf16⟩
  | .hbm, ⟨1, _⟩ => ⟨S11264x2048, .bf16⟩
  | .hbm, ⟨2, _⟩ => ⟨S2048x2048, .f32⟩
  | .hbm, ⟨3, _⟩ => ⟨S2048x2048, .f32⟩
  | .local _ .vmem, ⟨0, _⟩ => ⟨S2x1024x5632, .bf16⟩
  | .local _ .vmem, ⟨1, _⟩ => ⟨S11264x256, .bf16⟩
  | .local _ .vmem, ⟨2, _⟩ => ⟨S11264x256, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2x1024x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S11264x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MmSplitRefIdeal.lean ====
abbrev S2x2048x5632 : Shape := ⟨3, ![2, 2048, 5632]⟩
abbrev S11264x2048 : Shape := ⟨2, ![11264, 2048]⟩
abbrev S2048x2048 : Shape := ⟨2, ![2048, 2048]⟩
abbrev S_ : Shape := ⟨0, ![]⟩
abbrev S2x5632x2048 : Shape := ⟨3, ![2, 5632, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S11264x2048, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S11264x2048, .f32⟩
  | .hbm, ⟨6, _⟩ => ⟨S2x5632x2048, .f32⟩
  | .hbm, ⟨7, _⟩ => ⟨S2x5632x2048, .f32⟩
  | .hbm, ⟨8, _⟩ => ⟨S2x2048x5632, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2x2048x5632, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2x5632x2048, .f32⟩
  | .hbm, ⟨17, _⟩ => ⟨S2048x2048, .f32⟩
  | .hbm, ⟨18, _⟩ => ⟨S2048x2048, .f32⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Sums.lean ====
abbrev S8x2048x128 : Shape := ⟨3, ![8, 2048, 128]⟩
abbrev S2048x128 : Shape := ⟨2, ![2048, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x2048x128, .f32⟩
  | .hbm, ⟨1, _⟩ => ⟨S2048x128, .f32⟩
  | .local _ .vmem, ⟨0, _⟩ => ⟨S8x512x128, .f32⟩
  | .local _ .vmem, ⟨1, _⟩ => ⟨S8x512x128, .f32⟩
  | .local _ .vmem, ⟨2, _⟩ => ⟨S512x128, .f32⟩
  | .local _ .vmem, ⟨3, _⟩ => ⟨S512x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== SumsRefIdeal.lean ====
abbrev S8x2048x128 : Shape := ⟨3, ![8, 2048, 128]⟩
abbrev S_ : Shape := ⟨0, ![]⟩
abbrev S2048x128 : Shape := ⟨2, ![2048, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S_, .f32⟩
  | .hbm, ⟨2, _⟩ => ⟨S2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.LossClaim.lean ====
/-
  The loss head, one grid point: a block of 256 rows of `y` and of the target gives the block's gradient
  `(y - target) / 2048` and adds the block's part of the loss, `0.5 · Σ_rows (Σ_cols (y - target)²) / 2048`, to the
  one-element output.
  The loss head over its whole grid: the eight blocks' parts add up to the loss of all 2048 rows, and the blocks'
  gradients tile the gradient array. Beside it, the reference's two results read at an index.
  The loss head's claims: its frames, and that its loss and gradient are the reference's.
-/
module

public import proofs.«01_k».proof.Defs
public import proofs.«01_k».proof.Proof.Gen.LossIdeal.Value
public import proofs.«01_k».proof.Proof.Gen.LossRefIdeal.Run
public import Idealize.ShloMosaic.Lib.Pipeline.ValueKit
public import Idealize.ShloMosaic.Lib.Pointwise
public import proofs.«01_k».proof.Proof.Gen.LossRefIdeal.Read
public import proofs.«01_k».proof.Proof.Gen.Loss.Frame

@[expose] public section

set_option maxRecDepth 16384

noncomputable section

namespace Cert.LossValue

open Idealize.ShloMosaic Idealize.ShloMosaic.TcCoe Idealize.SL.Sem
open Idealize.ShloMosaic.Pipeline (Dat)
open LossIdeal LossIdeal.Gen

/-- The float word of 2048 denotes 2048. -/
theorem word_2048 : Ideal.ofBits .f32 0x45000000#32 = ((2048 : ℝ) : EReal) := by
  simp [Ideal.ofBits, Ideal.ieee, -EReal.coe_mul]; norm_num
/-- The float word of 1/2048 denotes 1/2048. -/
theorem word_inv_2048 : Ideal.ofBits .f32 0x3A000000#32 = ((1 / 2048 : ℝ) : EReal) := by
  simp [Ideal.ofBits, Ideal.ieee, -EReal.coe_mul]; norm_num
/-- The float word of one half denotes 1/2. -/
theorem word_half : Ideal.ofBits .f32 0x3F000000#32 = ((1 / 2 : ℝ) : EReal) := by
  simp [Ideal.ofBits, Ideal.ieee, -EReal.coe_mul]; norm_num
/-- The float word of 2 denotes 2. -/
theorem word_two : Ideal.ofBits .f32 0x40000000#32 = ((2 : ℝ) : EReal) := by
  simp [Ideal.ofBits, Ideal.ieee, -EReal.coe_mul]; norm_num

/-- A nonnegative finite factor distributes over any finite sum of extended reals. -/
theorem mul_sum_of_real {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- One row's mean of squared differences. -/
def rowMean (x y : Fin 2048 → EReal) : EReal := Ideal.div (∑ k, (x k - y k) * (x k - y k)) ((2048 : ℝ) : EReal)

/-- The block's part of the loss: half the sum of its rows' means. -/
theorem part_eq (x0 x1 : Vec Ideal S256x2048 .f32) (j : S1x1.Idx) :
    k0_pay3 (F := Ideal) x0 x1 j
      = ((1 / 2 : ℝ) : EReal) * ∑ r : Fin 256, rowMean (fun k => x0 (ix2 r k)) (fun k => x1 (ix2 r k)) := by
  pointwise [k0_pay3, k0_pay1]
  simp only [word_half, word_2048, rowMean]

/-- At a later point the output holds what it held plus the block's part. -/
theorem step_eq (x0 x1 : Vec Ideal S256x2048 .f32) (acc : Vec Ideal S1x1 .f32) (j : S1x1.Idx) :
    k0_pay4 (F := Ideal) x0 x1 acc j = acc j + k0_pay3 (F := Ideal) x0 x1 j := by
  pointwise [k0_pay4]

/-- The block's gradient. -/
theorem grad_eq (x0 x1 : Vec Ideal S256x2048 .f32) (j : S256x2048.Idx) :
    k0_pay2 (F := Ideal) x0 x1 j = (x0 j - x1 j) * ((1 / 2048 : ℝ) : EReal) := by
  pointwise [k0_pay2, k0_pay1]
  rw [word_inv_2048]

end Cert.LossValue

namespace Cert.LossValue

open Idealize.ShloMosaic Idealize.ShloMosaic.TcCoe Idealize.SL.Sem
open Idealize.ShloMosaic.Pipeline (Dat)
open LossIdeal LossIdeal.Gen

variable (m : (ℓ : Loc nD τ sig) → Buf (Elt Ideal) ℓ)

/-- The loss of all rows: half the sum of the rows' means. -/
def lossOf (X T : FVec Ideal S2048x2048 .f32) : FVec Ideal S1x1 .f32 := fun _ =>
  ((1 / 2 : ℝ) : EReal) * ∑ r : Fin 2048, rowMean (fun k => X (ix2 r k)) (fun k => T (ix2 r k))

/-- The loss's gradient in the output. -/
def gradOf (X T : FVec Ideal S2048x2048 .f32) : FVec Ideal S2048x2048 .f32 := fun i =>
  (X i - T i) * ((1 / 2048 : ℝ) : EReal)

/-- Which block of each array grid point `t` works on. -/
theorem idx : ∀ t : Fin cfg0.N, win0_0.index t = ![t.val, 0] ∧ win0_1.index t = ![t.val, 0]
    ∧ win0_2.index t = ![t.val, 0] ∧ win0_3.index t = ![0, 0] :=
  (by decide +kernel : ∀ t : Fin grid0.N, _)

/-- The gradient array after the run. -/
theorem final_grad (c : Dev nD) : (dats m 0 c).arrAt 2 (cfgs 0).N
    = gradOf (m ((c : Thread nD τ).loc main_arg0)) (m ((c : Thread nD τ).loc main_arg1)) := by
  refine (dats m 0 c).arrAt_eq_of_covers 2 _ (by decide +kernel) fun t _ y => ?_
  blk_simp
  rw [after0_2]
  have h : (outsAt0 m c t.val t.isLt).1 = k0_pay2 (F := Ideal) (iblk m c 0 t) (iblk m c 1 t) := by
    by_cases h0 : t.val % 8 = 0
    · have hN : t.val < 8 := lt_of_lt_of_eq t.isLt N_0
      rw [outsAt0_A m c t h0 (by omega)]; frame_out
    · have hN : t.val < 8 := lt_of_lt_of_eq t.isLt N_0
      rw [outsAt0_B m c t h0 (by omega)]; frame_out
  rw [h, grad_eq]
  unfold gradOf
  blk_point [iblk, V, idx t]

/-- The loss after the run. -/
theorem final_loss (c : Dev nD) : (dats m 0 c).arrAt 3 (cfgs 0).N
    = lossOf (m ((c : Thread nD τ).loc main_arg0)) (m ((c : Thread nD τ).loc main_arg1)) := by
  refine (dats m 0 c).arrAt_eq_of_after_last 3 t0_7 (by decide +kernel) _ fun j => ?_
  blk_simp
  rw [after0_3, Pipeline.eq_sum_fin_of_reset_step_apply_last (fun n h => (outsAt0 m c n h).2) 8 (fun _ => 0)
    (fun p j => k0_pay3 (F := Ideal) (iblk m c 0 p) (iblk m c 1 p) j)
    (fun t h j => by rw [outsAt0_A m c t h (by have := lt_of_lt_of_eq t.isLt N_0; omega)]; frame_out; rw [zero_add])
    (fun t h j => by rw [outsAt0_B m c t h (by omega)]; frame_out; rw [step_eq])
    (le_of_eq N_0) t0_7 rfl j, zero_add]
  simp only [part_eq, lossOf]
  rw [← mul_sum_of_real _ _ (by norm_num)]
  congr 1
  refine Fin.sum_mul_add_congr fun s k hl => ?_
  have hx : ∀ l, (iblk m c 0 s : FVec Ideal S256x2048 .f32) (ix2 k l)
      = m ((c : Thread nD τ).loc main_arg0) (ix2 ⟨s.val * 256 + k.val, hl⟩ l) := fun l => by
    blk_ext! [iblk, V, idx s]
  have ht : ∀ l, (iblk m c 1 s : FVec Ideal S256x2048 .f32) (ix2 k l)
      = m ((c : Thread nD τ).loc main_arg1) (ix2 ⟨s.val * 256 + k.val, hl⟩ l) := fun l => by
    blk_ext! [iblk, V, idx s]
  exact congrArg₂ rowMean (funext hx) (funext ht)

/-- The reference's loss. -/
theorem ref_loss (X T : FVec Ideal S2048x2048 .f32) :
    LossRefIdeal.Read.val_main_v15 (F := Ideal) X T = lossOf X T := by
  funext j
  have h : ∀ i, LossRefIdeal.Read.val_main_v8 (F := Ideal) X T i = lossOf X T j := fun i => by
    rw [LossRefIdeal.Read.val_main_v8_apply, LossRefIdeal.Read.val_main_v7_apply,
      Idealize.ShloMosaic.sum_idx1 (n0 := 2048)]
    simp only [LossRefIdeal.Read.val_main_v6_apply, LossRefIdeal.Read.val_main_v5_apply,
      LossRefIdeal.Read.val_main_v4_apply, LossRefIdeal.Read.val_main_v1_apply,
      LossRefIdeal.Read.val_main_v0_apply, LossRefIdeal.Read.val_main_cst_0_apply,
      LossRefIdeal.Read.val_main_cst_1_apply, LossRefIdeal.Read.val_main_cst_2_apply,
      LossRefIdeal.Read.val_main_cst_3_apply, Ideal.mulf_def, Ideal.subf_def, Ideal.hostDivf_def,
      Ideal.ofBits_def, word_half, word_2048, Ideal.ofBits_zero_f32, zero_add, lossOf, rowMean]
    have hi : ∀ (a k : Fin 2048), LossRefIdeal.Read.idx_main_v4 (ix1 a) k = ix2 a k := fun a k => by
      funext d; match d with | ⟨0, _⟩ => rfl | ⟨1, _⟩ => rfl
    simp only [hi]
  exact h _

/-- The reference's gradient. -/
theorem ref_grad (X T : FVec Ideal S2048x2048 .f32) :
    LossRefIdeal.Read.val_main_v14 (F := Ideal) X T = gradOf X T := by
  funext j
  simp only [LossRefIdeal.Read.val_main_v14_apply, LossRefIdeal.Read.val_main_v13_apply,
    LossRefIdeal.Read.val_main_v12_apply, LossRefIdeal.Read.val_main_v11_apply,
    LossRefIdeal.Read.val_main_v10_apply, LossRefIdeal.Read.val_main_v9_apply,
    LossRefIdeal.Read.val_main_v3_apply, LossRefIdeal.Read.val_main_v2_apply,
    LossRefIdeal.Read.val_main_v0_apply, LossRefIdeal.Read.val_main_cst_apply,
    LossRefIdeal.Read.val_main_cst_4_apply, LossRefIdeal.Read.val_main_cst_5_apply,
    LossRefIdeal.Read.val_main_cst_6_apply, Ideal.mulf_def, Ideal.subf_def, Ideal.hostDivf_def, Ideal.ofBits_def,
    word_half, word_two, word_2048, Ideal.ofBits_one_f32, mul_one, gradOf]
  rw [Ideal.div_coe (by norm_num : (2048 : ℝ) ≠ 0), ← EReal.coe_mul, ← mul_assoc, ← EReal.coe_mul, mul_comm]
  norm_num

end Cert.LossValue

namespace Cert.LossValue

open Idealize.ShloMosaic Idealize.ShloMosaic.TcCoe Idealize.SL.Sem

/-- The frame of the kernel. -/
theorem quiescent_kernel : Cert.quiescent_Loss := fun m ρ _ => Loss.Gen.frame m ρ

/-- The frame of the kernel over the extended reals. -/
theorem quiescent_ideal : Cert.quiescent_LossIdeal := fun m ρ _ => LossIdeal.Gen.frame m ρ

/-- The frame of the reference, a straight line of host operations. -/
theorem quiescent_ref : Cert.quiescent_LossRefIdeal := fun m ρ _ =>
  (θ_run LossRefIdeal.defs _ _).mono
    (fun r h => ⟨fun c => ⟨(h c).2.2.1, (h c).2.2.2⟩, sem_eq_zero_of_no_sems (by decide) r.2⟩)
    (LossRefIdeal.Value.run (F := Ideal) m ρ)

/-- Loss and gradient of the kernel are the reference's. -/
theorem algebraic : Cert.algebraic_LossIdeal_LossRefIdeal := by
  intro m ρ m' ρ' _ hagree
  refine ⟨fun c => lossOf (m (c.tc.loc LossIdeal.main_arg0)) (m (c.tc.loc LossIdeal.main_arg1)),
    fun c => gradOf (m (c.tc.loc LossIdeal.main_arg0)) (m (c.tc.loc LossIdeal.main_arg1)), ?_, ?_⟩
  · exact (θ_run LossIdeal.defs _ _).mono
      (fun _ h c => ⟨(h c).2.1.trans (final_loss m c), (h c).1.trans (final_grad m c), (h c).2.2⟩)
      (LossIdeal.Value.run_blocks (F := Ideal) m ρ)
  refine (θ_run LossRefIdeal.defs _ _).mono (fun _ h c => ⟨(h c).1.trans ?_, (h c).2.1.trans ?_, (h c).2.2⟩)
    (LossRefIdeal.Value.run (F := Ideal) m' ρ')
  · rw [LossRefIdeal.Read.val_main_v15_eq, (hagree c).1, (hagree c).2]
    exact ref_loss _ _
  · rw [LossRefIdeal.Read.val_main_v14_eq, (hagree c).1, (hagree c).2]
    exact ref_grad _ _

end Cert.LossValue

end
-- ==== Proof.GluClaim.lean ====
/-
  The run of `GluIdeal`, with every array's contents at the end: what the last segment of its main function leaves.
  The gated linear unit: what the arrays of the forward and of the backward region hold after the run, in terms of
  the program's arguments.
  The gated linear unit: the reference's three results, read at an index.
  The gated linear unit's claims: its frames, and that its three results are the reference's.
-/
module

public import proofs.«01_k».proof.Proof.Gen.GluIdeal.Frame
public import Idealize.ShloMosaic.Lib.Pipeline.ValueKit
public import Idealize.ShloMosaic.Lib.Pointwise
public import proofs.«01_k».proof.Proof.Gen.GluRefIdeal.Read
public import proofs.«01_k».proof.Defs
public import proofs.«01_k».proof.Proof.Gen.Glu.Frame

@[expose] public section

set_option maxRecDepth 16384

noncomputable section

namespace Cert.GluValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open GluIdeal GluIdeal.Gen

variable {F : FTy → Type} [FloatOps F]

local notation "𝕄" => MT nD τ sig Unit (Elt F) ℕ (UR sig nD τ) ℕ

set_option backward.isDefEq.respectTransparency.types false in
/-- Every run ends with every unscoped buffer at the contents of the last boundary, and every counter at zero. -/
theorem run (m : (ℓ : Loc nD τ sig) → Buf (Elt F) ℓ) (ρ : Dev nD → PrngReg) :
    θ_run defs (onTc (τ := τ) (main (F := F))) ⟨m, fun _ => 0, ρ⟩ (fun r =>
      (∀ c : Dev nD, ∀ b ∈ Pipeline.ucRefs τ sig, r.2.mem ((c.tc : Thread nD τ).1, b) = W3 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

end Cert.GluValue

namespace Cert.GluValue

open Idealize.ShloMosaic Idealize.ShloMosaic.TcCoe Idealize.SL.Sem
open Idealize.ShloMosaic.Pipeline (Dat)
open GluIdeal GluIdeal.Gen

/-- The product of the mixer's output with the gate's weights. -/
def abOf (Y : FVec Ideal S2048x512 .f32) (W : FVec Ideal S512x1024 .f32) : FVec Ideal S2048x1024 .f32 := fun i =>
  ∑ k : Fin 512, Y (ix2 (i 0) k) * W (ix2 k (i 1))

/-- The gate's output from the product. -/
def outOf (A : FVec Ideal S2048x1024 .f32) : FVec Ideal S2048x512 .bf16 := fun i =>
  A (ix2 (i 0) ⟨(i 1).val, by have := (i 1).isLt; exact lt_trans this (by decide)⟩)
    * Ideal.logistic (A (ix2 (i 0) ⟨512 + (i 1).val, by have : (i 1).val < 512 := (i 1).isLt; show _ < 1024; omega⟩))

/-- The cotangent of the product's first half at row `r`, column `q`. -/
def daAt (A : FVec Ideal S2048x1024 .f32) (M : FVec Ideal S2048x2048 .f32) (r : Fin 2048) (q : Fin 512) : EReal :=
  M (ix2 r ⟨1536 + q.val, by omega⟩) * Ideal.logistic (A (ix2 r ⟨512 + q.val, by omega⟩))

/-- The cotangent of the product's second half at row `r`, column `q`. -/
def dbAt (A : FVec Ideal S2048x1024 .f32) (M : FVec Ideal S2048x2048 .f32) (r : Fin 2048) (q : Fin 512) : EReal :=
  M (ix2 r ⟨1536 + q.val, by omega⟩) * A (ix2 r ⟨q.val, by omega⟩) * Ideal.logistic (A (ix2 r ⟨512 + q.val, by omega⟩))
    * (1 - Ideal.logistic (A (ix2 r ⟨512 + q.val, by omega⟩)))

/-- The cotangent of the product. -/
def dabOf (A : FVec Ideal S2048x1024 .f32) (M : FVec Ideal S2048x2048 .f32) : FVec Ideal S2048x1024 .bf16 := fun i =>
  if h : (i 1).val < 512 then daAt A M (i 0) ⟨(i 1).val, h⟩
  else dbAt A M (i 0) ⟨(i 1).val - 512, by have : (i 1).val < 1024 := (i 1).isLt; omega⟩

/-- The cotangent of the product in its first half. -/
theorem dabOf_lo (A : FVec Ideal S2048x1024 .f32) (M : FVec Ideal S2048x2048 .f32) (i : S2048x1024.Idx) (q : Fin 512)
    (h : (i 1).val = q.val) : dabOf A M i = daAt A M (i 0) q := by
  unfold dabOf
  rw [dif_pos (by omega)]
  exact congrArg _ (Fin.ext h)

/-- The cotangent of the product in its second half. -/
theorem dabOf_hi (A : FVec Ideal S2048x1024 .f32) (M : FVec Ideal S2048x2048 .f32) (i : S2048x1024.Idx) (q : Fin 512)
    (h : (i 1).val = 512 + q.val) : dabOf A M i = dbAt A M (i 0) q := by
  unfold dabOf
  rw [dif_neg (by omega)]
  exact congrArg _ (Fin.ext (by show (i 1).val - 512 = _; omega))

/-- The cotangent of the mixer's output. -/
def dyOf (A : FVec Ideal S2048x1024 .f32) (W : FVec Ideal S512x1024 .f32) (M : FVec Ideal S2048x2048 .f32) :
    FVec Ideal S2048x512 .f32 := fun i =>
  (∑ q : Fin 512, daAt A M (i 0) q * W (ix2 (i 1) ⟨q.val, by omega⟩))
    + ∑ q : Fin 512, dbAt A M (i 0) q * W (ix2 (i 1) ⟨512 + q.val, by omega⟩)

/-- Which block of each array a point of the forward region works on. -/
theorem idx0 : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- Which block of each array a point of the backward region works on. -/
theorem idx1 : ∀ t : Fin cfg1.N, win1_0.index t = ![t.val, 3] ∧ win1_1.index t = ![t.val, 0]
    ∧ win1_2.index t = ![0, 0] ∧ win1_3.index t = ![t.val, 0] ∧ win1_4.index t = ![t.val, 0] :=
  (by decide +kernel : ∀ t : Fin grid1.N, _)

section Regions
variable (V : (c : Dev nD) → (b : Ref sig .tc) → Buf (Elt Ideal) ((c : Thread nD τ).loc b))

/-- The forward region's second result: the product. -/
theorem fwd_ab (c : Dev nD) : (dat0 V c).arrAt 3 cfg0.N = abOf (V c main_v0) (V c main_v1) := by
  refine (dat0 V c).arrAt_eq_of_covers 3 _ (by decide +kernel) fun t _ y => ?_
  blk_simp
  rw [after0_3]; frame_out
  pointwise [k0_pay1, abOf]
  blk_point [iblk0, idx0 t]

/-- The forward region's first result: the gated product. -/
theorem fwd_out (c : Dev nD) : (dat0 V c).arrAt 2 cfg0.N = outOf (abOf (V c main_v0) (V c main_v1)) := by
  refine (dat0 V c).arrAt_eq_of_covers 2 _ (by decide +kernel) fun t _ y => ?_
  blk_simp
  rw [after0_2]; frame_out
  pointwise [k0_pay2, k0_pay1, abOf, outOf]
  blk_point [iblk0, idx0 t]

/-- The backward region's first result. -/
theorem bwd_dab (c : Dev nD) : (dat1 V c).arrAt 3 cfg1.N = dabOf (V c main_v2_1) (V c main_arg2) := by
  refine (dat1 V c).arrAt_eq_of_covers 3 _ (by decide +kernel) fun t _ y => ?_
  blk_simp
  rw [after1_3]
  canon_tiles x h
  · rw [dabOf_hi _ _ _ ⟨(x 1).val, x1_lt⟩ (by blk_simp [idx1 t]; omega)]
    open_payloads
    pointwise [daAt, dbAt]
    blk_point [iblk1, idx1 t]
  · rw [dabOf_lo _ _ _ ⟨(x 1).val, x1_lt⟩ (by blk_simp [idx1 t]; omega)]
    open_payloads
    pointwise [daAt, dbAt]
    blk_point [iblk1, idx1 t]

/-- The backward region's second result. -/
theorem bwd_dy (c : Dev nD) : (dat1 V c).arrAt 4 cfg1.N = dyOf (V c main_v2_1) (V c main_v1) (V c main_arg2) := by
  refine (dat1 V c).arrAt_eq_of_covers 4 _ (by decide +kernel) fun t _ y => ?_
  blk_simp
  rw [after1_4]; frame_out
  pointwise [k1_pay4, k1_pay3, k1_pay2, k1_pay1, dyOf, daAt, dbAt]
  blk_point [iblk1, idx1 t]

end Regions

end Cert.GluValue

namespace Cert.GluValue

open Idealize.ShloMosaic Idealize.ShloMosaic.TcCoe Idealize.SL.Sem
open GluIdeal

variable (Y : FVec Ideal S2048x512 .f32) (W : FVec Ideal S512x1024 .f32) (M : FVec Ideal S2048x2048 .f32)

open GluRefIdeal.Read in
/-- The reference's gated product. -/
theorem ref_out : val_main_v33 (F := Ideal) Y W = outOf (abOf Y W) := by
  funext j
  pointwise [val_main_v33, val_main_v13, val_main_v9, val_main_v8, val_main_cst_0, val_main_v7, val_main_v6, val_main_cst,
    val_main_v5, val_main_v4, val_main_v3, val_main_v2, val_main_v1, outOf, abOf, Ideal.logistic]

open GluRefIdeal.Read in
/-- The reference's cotangent of the product. -/
theorem ref_dab : val_main_v34 (F := Ideal) Y W M = dabOf (abOf Y W) M := by
  funext j
  pointwise [val_main_v34, val_main_v32, val_main_v31, val_main_v30, val_main_cst_5, val_main_cst_6, val_main_v29, val_main_v28,
    val_main_v27, val_main_v26, val_main_v25, val_main_v24, val_main_v23, val_main_cst_4, val_main_v22, val_main_v21,
    val_main_cst_3, val_main_v20, val_main_v19, val_main_cst_2, val_main_v18, val_main_v17, val_main_v16, val_main_v15,
    val_main_v14, val_main_v0, dabOf, daAt, dbAt, abOf, Ideal.logistic]
  have h1 : (j 1).val < 1024 := (j 1).isLt
  by_cases h : (j 1).val < 512
  · rw [dif_neg (by omega), dif_pos h, dif_pos h, zero_add]
  · rw [dif_pos (by omega), dif_neg h, dif_neg h, add_zero]
    ac_rfl

open GluRefIdeal.Read in
/-- The cotangent of the product inside the reference's last result. -/
theorem ref_dab' : (val_main_v40 (F := Ideal) Y W M : S2048x1024.Idx → EReal) = dabOf (abOf Y W) M :=
  ref_dab Y W M

open GluRefIdeal.Read in
/-- The reference's cotangent of the mixer's output. -/
theorem ref_dy : val_main_v41 (F := Ideal) Y W M = dyOf (abOf Y W) W M := by
  funext j
  rw [val_main_v41_apply]
  show ∑ k : Fin (512 + 512), _ = _
  rw [Fin.sum_univ_add]
  unfold dyOf
  simp only [ref_dab' Y W M]
  refine congrArg₂ (· + ·) (Finset.sum_congr rfl fun q _ => ?_) (Finset.sum_congr rfl fun q _ => ?_)
  · rw [dabOf_lo _ _ _ q rfl]
    congr 2
    funext d; match d with | ⟨0, _⟩ => rfl | ⟨1, _⟩ => rfl
  · rw [dabOf_hi _ _ _ q rfl]
    congr 2
    funext d; match d with | ⟨0, _⟩ => rfl | ⟨1, _⟩ => rfl

end Cert.GluValue

namespace Cert.GluValue

open Idealize.ShloMosaic Idealize.ShloMosaic.TcCoe Idealize.SL.Sem

/-- The frame of the kernel. -/
theorem quiescent_kernel : Cert.quiescent_Glu := fun m ρ _ => Glu.Gen.frame m ρ

/-- The frame of the kernel over the extended reals. -/
theorem quiescent_ideal : Cert.quiescent_GluIdeal := fun m ρ _ => GluIdeal.Gen.frame m ρ

/-- The frame of the reference, a straight line of host operations. -/
theorem quiescent_ref : Cert.quiescent_GluRefIdeal := fun m ρ _ =>
  (θ_run GluRefIdeal.defs _ _).mono
    (fun r h => ⟨fun c => (h c).2.2.2, sem_eq_zero_of_no_sems (by decide) r.2⟩)
    (GluRefIdeal.Value.run (F := Ideal) m ρ)

section Kernel
open GluIdeal GluIdeal.Gen

variable (m : (ℓ : Loc nD τ sig) → Buf (Elt Ideal) ℓ) (ρ : Dev nD → PrngReg)

/-- The mixer's output, cast, at the forward region's entry. -/
theorem entry_y (c : Dev nD) : V1 m ρ c main_v0 = (m ((c.tc : Thread nD τ).loc main_arg0) : FVec Ideal S2048x512 .f32) := by
  unfold V1 W1
  after_results_simp
  rfl

/-- The weights, cast, at the forward region's entry. -/
theorem entry_w (c : Dev nD) : V1 m ρ c main_v1 = (m ((c.tc : Thread nD τ).loc main_arg1) : FVec Ideal S512x1024 .f32) := by
  unfold V1 W1
  after_results_simp
  rfl

/-- The product of the program's two first arguments on device `c`. -/
abbrev prod (c : Dev nD) : FVec Ideal S2048x1024 .f32 :=
  abOf (m ((c.tc : Thread nD τ).loc main_arg0)) (m ((c.tc : Thread nD τ).loc main_arg1))

/-- The forward region's product at the backward region's entry. -/
theorem entry_ab (c : Dev nD) : V2 m ρ c main_v2_1 = prod m c := by
  refine (W2_arr m ρ c 3).trans ((fwd_ab (V1 m ρ) c).trans ?_)
  rw [entry_y, entry_w]

/-- The weights at the backward region's entry. -/
theorem entry_w' (c : Dev nD) : V2 m ρ c main_v1 = (m ((c.tc : Thread nD τ).loc main_arg1) : FVec Ideal S512x1024 .f32) :=
  (W2_of m ρ c main_v1 (by decide)).trans (entry_w m ρ c)

/-- The cotangent at the backward region's entry. -/
theorem entry_m (c : Dev nD) : V2 m ρ c main_arg2 = m ((c.tc : Thread nD τ).loc main_arg2) :=
  W2_args m ρ c main_arg2 (by decide)

/-- The gated product at the end. -/
theorem end_out (c : Dev nD) : W3 m ρ c (Proc.devRef .tc main_v2_0) = outOf (prod m c) := by
  refine (W3_of m ρ c main_v2_0 (by decide)).trans ((W2_arr m ρ c 2).trans ((fwd_out (V1 m ρ) c).trans ?_))
  rw [entry_y, entry_w]

/-- The product's cotangent at the end. -/
theorem end_dab (c : Dev nD) :
    W3 m ρ c (Proc.devRef .tc main_v3_0) = dabOf (prod m c) (m ((c.tc : Thread nD τ).loc main_arg2)) := by
  refine (W3_arr m ρ c 3).trans ((bwd_dab (V2 m ρ) c).trans ?_)
  rw [entry_ab, entry_m]

/-- The cotangent of the mixer's output at the end. -/
theorem end_dy (c : Dev nD) : W3 m ρ c (Proc.devRef .tc main_v3_1)
    = dyOf (prod m c) (m ((c.tc : Thread nD τ).loc main_arg1)) (m ((c.tc : Thread nD τ).loc main_arg2)) := by
  refine (W3_arr m ρ c 4).trans ((bwd_dy (V2 m ρ) c).trans ?_)
  rw [entry_ab, entry_m, entry_w']

end Kernel

open GluIdeal GluIdeal.Gen in
/-- The kernel's three results are the reference's. -/
theorem algebraic : Cert.algebraic_GluIdeal_GluRefIdeal := by
  intro m ρ m' ρ' _ hagree
  refine ⟨fun c => outOf (prod m c), fun c => dabOf (prod m c) (m ((c.tc : Thread nD τ).loc main_arg2)),
    fun c => dyOf (prod m c) (m ((c.tc : Thread nD τ).loc main_arg1)) (m ((c.tc : Thread nD τ).loc main_arg2)), ?_, ?_⟩
  · exact (θ_run GluIdeal.defs _ _).mono
      (fun _ h c => ⟨(h.1 c _ (mem_uc main_v2_0 (by decide))).trans (end_out m ρ c),
        (h.1 c _ (mem_uc main_v3_0 (by decide))).trans (end_dab m ρ c),
        (h.1 c _ (mem_uc main_v3_1 (by decide))).trans (end_dy m ρ c),
        (h.1 c _ (mem_uc main_arg0 (by decide))).trans (W3_main_arg0 m ρ c),
        (h.1 c _ (mem_uc main_arg1 (by decide))).trans (W3_main_arg1 m ρ c),
        (h.1 c _ (mem_uc main_arg2 (by decide))).trans (W3_main_arg2 m ρ c)⟩)
      (run (F := Ideal) m ρ)
  refine (θ_run GluRefIdeal.defs _ _).mono
    (fun _ h c => ⟨(h c).1.trans ?_, (h c).2.1.trans ?_, (h c).2.2.1.trans ?_, (h c).2.2.2⟩)
    (GluRefIdeal.Value.run (F := Ideal) m' ρ')
  · rw [GluRefIdeal.Read.val_main_v33_eq, (hagree c).1, (hagree c).2.1]
    exact ref_out _ _
  · rw [GluRefIdeal.Read.val_main_v34_eq, (hagree c).1, (hagree c).2.1, (hagree c).2.2]
    exact ref_dab _ _ _
  · rw [GluRefIdeal.Read.val_main_v41_eq, (hagree c).1, (hagree c).2.1, (hagree c).2.2]
    exact ref_dy _ _ _

end Cert.GluValue

end
-- ==== Proof.AttnLoop.lean ====
/-
  The backward attention body's loop over the blocks of 128 rows, as one invariant. A trip writes four column tiles of
  dq, adds to the block before and to its own block of dk and dv, and carries the sinks' partial sums. The pieces that
  a trip writes are the run's own finds, over the contents that the trip starts from.
-/
module

public import proofs.«01_k».proof.Proof.Gen.AttnIdeal.Loops

@[expose] public section

set_option maxRecDepth 16384
set_option maxHeartbeats 4000000

noncomputable section

namespace Cert.AttnValue

open AttnIdeal AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The logic's resources. -/
local notation "𝕄A" => MT nD τ sig Unit (Elt F) ℕ (UR sig nD τ) ℕ

variable (𝒱 : Variants) (c : Dev nD) (bd : Option 𝒱.V) (i : grid1.Coords)
  (arg1 : Memref sig .tc .smem S4x4 .f32) (harg1 : arg1.IsWhole)
  (arg2 : Memref sig .tc .vmem S2048x256 .bf16) (harg2 : arg2.IsWhole)
  (arg3 : Memref sig .tc .vmem S1x2048x64 .bf16) (harg3 : arg3.IsWhole)
  (arg4 : Memref sig .tc .vmem S1x2048x64 .bf16) (harg4 : arg4.IsWhole)
  (arg5 : Memref sig .tc .vmem S2048x256 .f32) (harg5 : arg5.IsWhole)
  (arg6 : Memref sig .tc .vmem S2048x256 .f32) (harg6 : arg6.IsWhole)
  (arg7 : Memref sig .tc .vmem S1x2048x4 .f32) (harg7 : arg7.IsWhole)
  (arg8 : Memref sig .tc .vmem S2048x256 .f32) (harg8 : arg8.IsWhole)
  (arg9 : Memref sig .tc .vmem S1x2048x64 .f32) (harg9 : arg9.IsWhole)
  (arg10 : Memref sig .tc .vmem S1x2048x64 .f32) (harg10 : arg10.IsWhole)
  (arg11 : Memref sig .tc .vmem S1x1x4 .f32) (harg11 : arg11.IsWhole)
  (v23 : IVec S512x256 1) (v27 : IVec S512x256 1) (v43 : Elt F .f32) (v81 : FVec F S512x1 .f32) (v83 : IVec S512x1 1)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty) (X7 : BufTy.Contents (Elt F) arg7.view.ty)

/-- The block before the trip's own starts at row `128 (k - 1)`; the first trip's at row 0. -/
theorem off5_eq : ∀ k : Fin k1_t1_loop.trips, k1_off5 k = ![0, 128 * (k.val - 1), 0] := by decide +kernel

instance (k : Fin k1_t1_loop.trips) : ClosedOff (k1_off5 k) := ⟨_, off5_eq k⟩

/-- What one trip touches: six buffers read at their contents, three written at any. -/
abbrev Trip (f8 : BufTy.Contents (Elt F) arg8.view.ty) (f9 : BufTy.Contents (Elt F) arg9.view.ty)
    (f10 : BufTy.Contents (Elt F) arg10.view.ty) : sProp 𝕄A :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} X7)
    ∗ (arg8.view.loc (c : Thread nD τ) ↦[arg8.view.set]{fullShare} f8) ∗ (arg9.view.loc (c : Thread nD τ) ↦[arg9.view.set]{fullShare} f9)
    ∗ (arg10.view.loc (c : Thread nD τ) ↦[arg10.view.set]{fullShare} f10))

/-- One trip: the pieces it writes, and what it yields of the carried sums. -/
@[irreducible] def trip (k : Fin k1_t1_loop.trips) :
    Σ' (L8 : List (View.Piece (Elt F) S2048x256 .f32))
      (L9 : BufTy.Contents (Elt F) arg9.view.ty → List (View.Piece (Elt F) S1x2048x64 .f32))
      (L10 : BufTy.Contents (Elt F) arg10.view.ty → List (View.Piece (Elt F) S1x2048x64 .f32)),
      { Y : FVec F S512x1 .f32 → FVec F S512x1 .f32 // ∀ (E : Set ℕ) (acc : FVec F S512x1 .f32)
        (f8 : BufTy.Contents (Elt F) arg8.view.ty) (f9 : BufTy.Contents (Elt F) arg9.view.ty) (f10 : BufTy.Contents (Elt F) arg10.view.ty),
        Trip (F := F) c arg2 arg3 arg4 arg5 arg6 arg7 arg8 arg9 arg10 X2 X3 X4 X5 X6 X7 f8 f9 f10
        ⊢ wp frame (wpE (defs₀ (F := F)) 𝒱 (c : Thread nD τ) bd) E
            (k1_t1_body (F := F) i arg1 harg1 arg2 harg2 arg3 harg3 arg4 harg4 arg5 harg5 arg6 harg6 arg7 harg7 arg8 harg8 arg9 harg9 arg10 harg10 arg11 harg11 v23 v27 v43 v81 v83 k acc)
            (fun y => iprop(Trip (F := F) c arg2 arg3 arg4 arg5 arg6 arg7 arg8 arg9 arg10 X2 X3 X4 X5 X6 X7
              (arg8.view.writes (Elt F) f8 L8) (arg9.view.writes (Elt F) f9 (L9 f9)) (arg10.view.writes (Elt F) f10 (L10 f10))
              ∗ ⌜y = Y acc⌝)) } := by
  have hk : k.val < 16 := Nat.lt_of_lt_of_le k.isLt k1_t1_abs.2.1
  refine ⟨?_, ?_, ?_, ?_, fun E acc f8 f9 f10 => ?run⟩
  case run =>
    unfold k1_t1_body
    iintro ⟨HR2, HR3, HR4, HR5, HR6, HR7, HW8, HW9, HW10⟩
    sl_exec
    sl_step
    sl_close

/-- What the loop has done before a trip: the pieces in each written buffer, last first, and the carried sums. -/
structure St (F : FTy → Type) where
  l8 : List (View.Piece (Elt F) S2048x256 .f32)
  l9 : List (View.Piece (Elt F) S1x2048x64 .f32)
  l10 : List (View.Piece (Elt F) S1x2048x64 .f32)
  acc : FVec F S512x1 .f32

variable (G9 : BufTy.Contents (Elt F) arg9.view.ty) (G10 : BufTy.Contents (Elt F) arg10.view.ty)

/-- One trip, from what the trips before it did. -/
@[irreducible] def stStep (k : Fin k1_t1_loop.trips) (s : St F) : St F :=
  let t := trip (F := F) 𝒱 c bd i arg1 harg1 arg2 harg2 arg3 harg3 arg4 harg4 arg5 harg5 arg6 harg6 arg7 harg7 arg8 harg8 arg9 harg9 arg10 harg10 arg11 harg11 v23 v27 v43 v81 v83 X2 X3 X4 X5 X6 X7 k
  ⟨t.1 ++ s.l8, t.2.1 (arg9.view.writes (Elt F) G9 s.l9) ++ s.l9, t.2.2.1 (arg10.view.writes (Elt F) G10 s.l10) ++ s.l10, t.2.2.2.1 s.acc⟩

/-- The trips before `k`. -/
def st (init : FVec F S512x1 .f32) : ℕ → St F
  | 0 => ⟨[], [], [], init⟩
  | k + 1 => if h : k < k1_t1_loop.trips then stStep (F := F) 𝒱 c bd i arg1 harg1 arg2 harg2 arg3 harg3 arg4 harg4 arg5 harg5 arg6 harg6 arg7 harg7 arg8 harg8 arg9 harg9 arg10 harg10 arg11 harg11 v23 v27 v43 v81 v83 X2 X3 X4 X5 X6 X7 G9 G10 ⟨k, h⟩ (st init k) else st init k

theorem st_succ (init : FVec F S512x1 .f32) (k : Fin k1_t1_loop.trips) :
    st (F := F) 𝒱 c bd i arg1 harg1 arg2 harg2 arg3 harg3 arg4 harg4 arg5 harg5 arg6 harg6 arg7 harg7 arg8 harg8 arg9 harg9 arg10 harg10 arg11 harg11 v23 v27 v43 v81 v83 X2 X3 X4 X5 X6 X7 G9 G10 init (k.val + 1) = stStep (F := F) 𝒱 c bd i arg1 harg1 arg2 harg2 arg3 harg3 arg4 harg4 arg5 harg5 arg6 harg6 arg7 harg7 arg8 harg8 arg9 harg9 arg10 harg10 arg11 harg11 v23 v27 v43 v81 v83 X2 X3 X4 X5 X6 X7 G9 G10 k (st (F := F) 𝒱 c bd i arg1 harg1 arg2 harg2 arg3 harg3 arg4 harg4 arg5 harg5 arg6 harg6 arg7 harg7 arg8 harg8 arg9 harg9 arg10 harg10 arg11 harg11 v23 v27 v43 v81 v83 X2 X3 X4 X5 X6 X7 G9 G10 init k.val) := by
  rw [st.eq_2]; exact dif_pos k.isLt

/-- Before trip `k`: the inputs as they were, the written buffers at the pieces of the trips before, the carried sums. -/
abbrev inv (G8 : BufTy.Contents (Elt F) arg8.view.ty) (init : FVec F S512x1 .f32) (k : ℕ) (acc : FVec F S512x1 .f32) : sProp 𝕄A :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} X7)
    ∗ (∃ f, (arg8.view.loc (c : Thread nD τ) ↦[arg8.view.set]{fullShare} f) ∗ ⌜f = arg8.view.writes (Elt F) G8 (st (F := F) 𝒱 c bd i arg1 harg1 arg2 harg2 arg3 harg3 arg4 harg4 arg5 harg5 arg6 harg6 arg7 harg7 arg8 harg8 arg9 harg9 arg10 harg10 arg11 harg11 v23 v27 v43 v81 v83 X2 X3 X4 X5 X6 X7 G9 G10 init k).l8⌝)
    ∗ (∃ f, (arg9.view.loc (c : Thread nD τ) ↦[arg9.view.set]{fullShare} f) ∗ ⌜f = arg9.view.writes (Elt F) G9 (st (F := F) 𝒱 c bd i arg1 harg1 arg2 harg2 arg3 harg3 arg4 harg4 arg5 harg5 arg6 harg6 arg7 harg7 arg8 harg8 arg9 harg9 arg10 harg10 arg11 harg11 v23 v27 v43 v81 v83 X2 X3 X4 X5 X6 X7 G9 G10 init k).l9⌝)
    ∗ (∃ f, (arg10.view.loc (c : Thread nD τ) ↦[arg10.view.set]{fullShare} f) ∗ ⌜f = arg10.view.writes (Elt F) G10 (st (F := F) 𝒱 c bd i arg1 harg1 arg2 harg2 arg3 harg3 arg4 harg4 arg5 harg5 arg6 harg6 arg7 harg7 arg8 harg8 arg9 harg9 arg10 harg10 arg11 harg11 v23 v27 v43 v81 v83 X2 X3 X4 X5 X6 X7 G9 G10 init k).l10⌝)
    ∗ ⌜acc = (st (F := F) 𝒱 c bd i arg1 harg1 arg2 harg2 arg3 harg3 arg4 harg4 arg5 harg5 arg6 harg6 arg7 harg7 arg8 harg8 arg9 harg9 arg10 harg10 arg11 harg11 v23 v27 v43 v81 v83 X2 X3 X4 X5 X6 X7 G9 G10 init k).acc⌝)

set_option warn.classDefReducibility false in
/-- The loop by its invariant. -/
@[sl_loop] def loopInv (E : Set ℕ) (G8 : BufTy.Contents (Elt F) arg8.view.ty) (init : FVec F S512x1 .f32) :
    LoopInvTy_k1_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 v23 v27 v43 v81 v83 init where
  inv := inv (F := F) 𝒱 c bd i arg1 harg1 arg2 harg2 arg3 harg3 arg4 harg4 arg5 harg5 arg6 harg6 arg7 harg7 arg8 harg8 arg9 harg9 arg10 harg10 arg11 harg11 v23 v27 v43 v81 v83 X2 X3 X4 X5 X6 X7 G9 G10 G8 init
  step k acc := by
    iintro ⟨HR2, HR3, HR4, HR5, HR6, HR7, ⟨%f8, HW8, %h8⟩, ⟨%f9, HW9, %h9⟩, ⟨%f10, HW10, %h10⟩, %ha⟩
    iapply (wp_wand_r Idealize.ShloMosaic.frame (wpE (defs₀ (F := F)) 𝒱 (c : Thread nD τ) bd) E)
    isplitl [HR2 HR3 HR4 HR5 HR6 HR7 HW8 HW9 HW10]
    · iapply ((trip (F := F) 𝒱 c bd i arg1 harg1 arg2 harg2 arg3 harg3 arg4 harg4 arg5 harg5 arg6 harg6 arg7 harg7 arg8 harg8 arg9 harg9 arg10 harg10 arg11 harg11 v23 v27 v43 v81 v83 X2 X3 X4 X5 X6 X7 k).2.2.2.2 E acc f8 f9 f10)
      isplitl [HR2]; · iexact HR2
      isplitl [HR3]; · iexact HR3
      isplitl [HR4]; · iexact HR4
      isplitl [HR5]; · iexact HR5
      isplitl [HR6]; · iexact HR6
      isplitl [HR7]; · iexact HR7
      isplitl [HW8]; · iexact HW8
      isplitl [HW9]; · iexact HW9
      iexact HW10
    · iintro %y ⟨⟨HR2, HR3, HR4, HR5, HR6, HR7, HW8, HW9, HW10⟩, %hy⟩
      isplitl [HR2]; · iexact HR2
      isplitl [HR3]; · iexact HR3
      isplitl [HR4]; · iexact HR4
      isplitl [HR5]; · iexact HR5
      isplitl [HR6]; · iexact HR6
      isplitl [HR7]; · iexact HR7
      rw [st_succ]
      unfold stStep
      isplitl [HW8]
      · iexists _; isplitl [HW8]; · iexact HW8
        ipureintro; rw [h8, ← View.writes_append]
      isplitl [HW9]
      · iexists _; isplitl [HW9]; · iexact HW9
        ipureintro; rw [h9, ← View.writes_append]
      isplitl [HW10]
      · iexists _; isplitl [HW10]; · iexact HW10
        ipureintro; rw [h10, ← View.writes_append]
      ipureintro; rw [hy, ha]

end Cert.AttnValue

end
-- ==== Proof.AttnStep.lean ====
/-
  One trip of the backward attention body by values: what it writes as plain functions of the blocks it reads, and what
  all trips leave in the three written buffers and in the carried sums.
-/
module

public import proofs.«01_k».proof.Proof.AttnLoop
public import Idealize.ShloMosaic.Lib.VecWindow

@[expose] public section

set_option maxRecDepth 16384
set_option maxHeartbeats 1000000

noncomputable section

namespace Cert.AttnValue

open AttnIdeal AttnIdeal.Gen
open Idealize.ShloMosaic Idealize.ShloMosaic.TcCoe
open Idealize.ShloMosaic.VecWindow (window put)

variable {F : FTy → Type} [FloatOps F] [Named F]

/-! ## The blocks a trip reads -/

/-- Head 0's columns of the trip's rows, of a block of 256 columns. -/
abbrev w7 {e : EltTy} (k : Fin k1_t1_loop.trips) (x : Vec F S2048x256 e) : Vec F S128x64 e := window x (k1_off7 k) S128x64.size (k1_off7_inb k)
/-- Head 1's columns. -/
abbrev w8 {e : EltTy} (k : Fin k1_t1_loop.trips) (x : Vec F S2048x256 e) : Vec F S128x64 e := window x (k1_off8 k) S128x64.size (k1_off8_inb k)
/-- Head 2's columns. -/
abbrev w9 {e : EltTy} (k : Fin k1_t1_loop.trips) (x : Vec F S2048x256 e) : Vec F S128x64 e := window x (k1_off9 k) S128x64.size (k1_off9_inb k)
/-- Head 3's columns. -/
abbrev w10 {e : EltTy} (k : Fin k1_t1_loop.trips) (x : Vec F S2048x256 e) : Vec F S128x64 e := window x (k1_off10 k) S128x64.size (k1_off10_inb k)
/-- The block of rows before the trip's own. -/
abbrev w5 {e : EltTy} (k : Fin k1_t1_loop.trips) (x : Vec F S1x2048x64 e) : Vec F S1x128x64 e := window x (k1_off5 k) S1x128x64.size (k1_off5_inb k)
/-- The trip's own block of rows. -/
abbrev w6 {e : EltTy} (k : Fin k1_t1_loop.trips) (x : Vec F S1x2048x64 e) : Vec F S1x128x64 e := window x (k1_off6 k) S1x128x64.size (k1_off6_inb k)

/-! ## What a trip computes -/

/-- The two blocks of keys. -/
def kcOf (k : Fin k1_t1_loop.trips) (x3 : Vec F S1x2048x64 .bf16) : FVec F S256x64 .bf16 := k1_pay10 (w5 k x3) (w6 k x3)
/-- The two blocks of values. -/
def vcOf (k : Fin k1_t1_loop.trips) (x4 : Vec F S1x2048x64 .bf16) : FVec F S256x64 .bf16 := k1_pay11 (w5 k x4) (w6 k x4)
/-- The four heads' queries, stacked. -/
def q4Of (k : Fin k1_t1_loop.trips) (x2 : Vec F S2048x256 .bf16) : FVec F S512x64 .bf16 := k1_pay12 (w7 k x2) (w8 k x2) (w9 k x2) (w10 k x2)
/-- The row sums of do·o. -/
def dltOf (k : Fin k1_t1_loop.trips) (x5 x6 : Vec F S2048x256 .f32) : FVec F S512x1 .f32 :=
  k1_pay14 (w7 k x6) (w8 k x6) (w9 k x6) (w10 k x6) (w7 k x5) (w8 k x5) (w9 k x5) (w10 k x5)
/-- The four heads' cotangents, stacked. -/
def dobOf (k : Fin k1_t1_loop.trips) (x6 : Vec F S2048x256 .f32) : FVec F S512x64 .bf16 := k1_pay15 (w7 k x6) (w8 k x6) (w9 k x6) (w10 k x6)
/-- A column of the saved log-sums, one head's rows. -/
abbrev w11 (k : Fin k1_t1_loop.trips) (x7 : Vec F S1x2048x4 .f32) : Vec F S1x128x1 .f32 := window x7 (k1_off11 k) S1x128x1.size (k1_off11_inb k)
abbrev w12 (k : Fin k1_t1_loop.trips) (x7 : Vec F S1x2048x4 .f32) : Vec F S1x128x1 .f32 := window x7 (k1_off12 k) S1x128x1.size (k1_off12_inb k)
abbrev w13 (k : Fin k1_t1_loop.trips) (x7 : Vec F S1x2048x4 .f32) : Vec F S1x128x1 .f32 := window x7 (k1_off13 k) S1x128x1.size (k1_off13_inb k)
abbrev w14 (k : Fin k1_t1_loop.trips) (x7 : Vec F S1x2048x4 .f32) : Vec F S1x128x1 .f32 := window x7 (k1_off14 k) S1x128x1.size (k1_off14_inb k)
/-- The saved log-sums of the stacked rows. -/
def lseOf (k : Fin k1_t1_loop.trips) (x7 : Vec F S1x2048x4 .f32) : FVec F S512x1 .f32 := k1_pay16 (w11 k x7) (w12 k x7) (w13 k x7) (w14 k x7)
/-- The same along the lanes. -/
def lsbOf (k : Fin k1_t1_loop.trips) (x7 : Vec F S1x2048x4 .f32) : FVec F S512x256 .f32 := k1_pay18 (w11 k x7) (w12 k x7) (w13 k x7) (w14 k x7)
/-- The masked scores. -/
def scOf (k : Fin k1_t1_loop.trips) (v23 v27 : IVec S512x256 1) (x2 : Vec F S2048x256 .bf16) (x3 : Vec F S1x2048x64 .bf16) : FVec F S512x256 .f32 :=
  k1_pay17 v23 v27 (Scf.iv 0#32 1#32 k) (kcOf k x3) (q4Of k x2)

section Values

variable (v23 v27 : IVec S512x256 1) (v43 : Elt F .f32) (v81 : FVec F S512x1 .f32) (v83 : IVec S512x1 1)
  (x2 : Vec F S2048x256 .bf16) (x3 x4 : Vec F S1x2048x64 .bf16) (x5 x6 : Vec F S2048x256 .f32) (x7 : Vec F S1x2048x4 .f32)

/-- Head 0's tile of dq. -/
def dq0 (k : Fin k1_t1_loop.trips) : FVec F S128x64 .f32 := k1_pay22 (kcOf k x3) (vcOf k x4) (dltOf k x5 x6) (dobOf k x6) (scOf k v23 v27 x2 x3) (lsbOf k x7)
/-- Head 1's. -/
def dq1 (k : Fin k1_t1_loop.trips) : FVec F S128x64 .f32 := k1_pay23 (kcOf k x3) (vcOf k x4) (dltOf k x5 x6) (dobOf k x6) (scOf k v23 v27 x2 x3) (lsbOf k x7)
/-- Head 2's. -/
def dq2 (k : Fin k1_t1_loop.trips) : FVec F S128x64 .f32 := k1_pay24 (kcOf k x3) (vcOf k x4) (dltOf k x5 x6) (dobOf k x6) (scOf k v23 v27 x2 x3) (lsbOf k x7)
/-- Head 3's. -/
def dq3 (k : Fin k1_t1_loop.trips) : FVec F S128x64 .f32 := k1_pay25 (kcOf k x3) (vcOf k x4) (dltOf k x5 x6) (dobOf k x6) (scOf k v23 v27 x2 x3) (lsbOf k x7)
/-- dk's two blocks. -/
def dkc (k : Fin k1_t1_loop.trips) : FVec F S256x64 .f32 := k1_pay26 (vcOf k x4) (q4Of k x2) (dltOf k x5 x6) (dobOf k x6) (scOf k v23 v27 x2 x3) (lsbOf k x7)
/-- dv's two blocks. -/
def dvc (k : Fin k1_t1_loop.trips) : FVec F S256x64 .f32 := k1_pay27 (dobOf k x6) (scOf k v23 v27 x2 x3) (lsbOf k x7)

/-- dk after its addition to the block before. -/
def dkStep1 (k : Fin k1_t1_loop.trips) (d : Vec F S1x2048x64 .f32) : Vec F S1x2048x64 .f32 :=
  put d (k1_off5 k) S1x128x64.size (k1_pay28 (vcOf k x4) (q4Of k x2) (dltOf k x5 x6) (dobOf k x6) (scOf k v23 v27 x2 x3) (lsbOf k x7) (w5 k d))
/-- dk after the trip. -/
def dkStep (k : Fin k1_t1_loop.trips) (d : Vec F S1x2048x64 .f32) : Vec F S1x2048x64 .f32 :=
  put (dkStep1 v23 v27 x2 x3 x4 x5 x6 x7 k d) (k1_off6 k) S1x128x64.size
    (k1_pay3 (dkc v23 v27 x2 x3 x4 x5 x6 x7 k) (w6 k (dkStep1 v23 v27 x2 x3 x4 x5 x6 x7 k d)))
/-- dv after its addition to the block before. -/
def dvStep1 (k : Fin k1_t1_loop.trips) (d : Vec F S1x2048x64 .f32) : Vec F S1x2048x64 .f32 :=
  put d (k1_off5 k) S1x128x64.size (k1_pay2 (dvc v23 v27 x2 x3 x6 x7 k) (w5 k d))
/-- dv after the trip. -/
def dvStep (k : Fin k1_t1_loop.trips) (d : Vec F S1x2048x64 .f32) : Vec F S1x2048x64 .f32 :=
  put (dvStep1 v23 v27 x2 x3 x6 x7 k d) (k1_off6 k) S1x128x64.size
    (k1_pay4 (dvc v23 v27 x2 x3 x6 x7 k) (w6 k (dvStep1 v23 v27 x2 x3 x6 x7 k d)))

/-- dk after the trips before `n`, from zeros. -/
def dkTrips : ℕ → Vec F S1x2048x64 .f32
  | 0 => k1_pay32
  | n + 1 => if h : n < k1_t1_loop.trips then dkStep v23 v27 x2 x3 x4 x5 x6 x7 ⟨n, h⟩ (dkTrips n) else dkTrips n
/-- dv after the trips before `n`, from zeros. -/
def dvTrips : ℕ → Vec F S1x2048x64 .f32
  | 0 => k1_pay33
  | n + 1 => if h : n < k1_t1_loop.trips then dvStep v23 v27 x2 x3 x6 x7 ⟨n, h⟩ (dvTrips n) else dvTrips n
/-- The carried sums after the trips before `n`. -/
def accTrips : ℕ → FVec F S512x1 .f32
  | 0 => k1_pay1
  | n + 1 => if h : n < k1_t1_loop.trips then k1_pay5 v43 v81 v83 (accTrips n) (dltOf ⟨n, h⟩ x5 x6) (lseOf ⟨n, h⟩ x7) else accTrips n
/-- dq after the trips before `n`, from contents `d`. -/
def dqTrips (d : Vec F S2048x256 .f32) : ℕ → Vec F S2048x256 .f32
  | 0 => d
  | n + 1 => if h : n < k1_t1_loop.trips then
      put (put (put (put (dqTrips d n) (k1_off7 ⟨n, h⟩) S128x64.size (dq0 v23 v27 x2 x3 x4 x5 x6 x7 ⟨n, h⟩))
        (k1_off8 ⟨n, h⟩) S128x64.size (dq1 v23 v27 x2 x3 x4 x5 x6 x7 ⟨n, h⟩))
        (k1_off9 ⟨n, h⟩) S128x64.size (dq2 v23 v27 x2 x3 x4 x5 x6 x7 ⟨n, h⟩))
        (k1_off10 ⟨n, h⟩) S128x64.size (dq3 v23 v27 x2 x3 x4 x5 x6 x7 ⟨n, h⟩)
    else dqTrips d n

end Values

/-! ## The loop's pieces by values -/

section Pieces

variable (𝒱 : Variants) (c : Dev nD) (bd : Option 𝒱.V) (i : grid1.Coords)
  (arg1 : Memref sig .tc .smem S4x4 .f32) (harg1 : arg1.IsWhole)
  (arg2 : Memref sig .tc .vmem S2048x256 .bf16) (harg2 : arg2.IsWhole)
  (arg3 : Memref sig .tc .vmem S1x2048x64 .bf16) (harg3 : arg3.IsWhole)
  (arg4 : Memref sig .tc .vmem S1x2048x64 .bf16) (harg4 : arg4.IsWhole)
  (arg5 : Memref sig .tc .vmem S2048x256 .f32) (harg5 : arg5.IsWhole)
  (arg6 : Memref sig .tc .vmem S2048x256 .f32) (harg6 : arg6.IsWhole)
  (arg7 : Memref sig .tc .vmem S1x2048x4 .f32) (harg7 : arg7.IsWhole)
  (arg8 : Memref sig .tc .vmem S2048x256 .f32) (harg8 : arg8.IsWhole)
  (arg9 : Memref sig .tc .vmem S1x2048x64 .f32) (harg9 : arg9.IsWhole)
  (arg10 : Memref sig .tc .vmem S1x2048x64 .f32) (harg10 : arg10.IsWhole)
  (arg11 : Memref sig .tc .vmem S1x1x4 .f32) (harg11 : arg11.IsWhole)
  (v23 : IVec S512x256 1) (v27 : IVec S512x256 1) (v43 : Elt F .f32) (v81 : FVec F S512x1 .f32) (v83 : IVec S512x1 1)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty) (X7 : BufTy.Contents (Elt F) arg7.view.ty)

/-- The pieces of dq that a trip writes. -/
theorem trip_l8 (k : Fin k1_t1_loop.trips) : (trip (F := F) 𝒱 c bd i arg1 harg1 arg2 harg2 arg3 harg3 arg4 harg4 arg5 harg5 arg6 harg6 arg7 harg7 arg8 harg8 arg9 harg9 arg10 harg10 arg11 harg11 v23 v27 v43 v81 v83 X2 X3 X4 X5 X6 X7 k).1
    = [⟨Rect.unit (s := S2048x256) (k1_off10 k) S128x64.size (k1_off10_inb k), dq3 v23 v27 (arg2.view.read (Elt F) X2) (arg3.view.read (Elt F) X3) (arg4.view.read (Elt F) X4) (arg5.view.read (Elt F) X5) (arg6.view.read (Elt F) X6) (arg7.view.read (Elt F) X7) k⟩,
       ⟨Rect.unit (s := S2048x256) (k1_off9 k) S128x64.size (k1_off9_inb k), dq2 v23 v27 (arg2.view.read (Elt F) X2) (arg3.view.read (Elt F) X3) (arg4.view.read (Elt F) X4) (arg5.view.read (Elt F) X5) (arg6.view.read (Elt F) X6) (arg7.view.read (Elt F) X7) k⟩,
       ⟨Rect.unit (s := S2048x256) (k1_off8 k) S128x64.size (k1_off8_inb k), dq1 v23 v27 (arg2.view.read (Elt F) X2) (arg3.view.read (Elt F) X3) (arg4.view.read (Elt F) X4) (arg5.view.read (Elt F) X5) (arg6.view.read (Elt F) X6) (arg7.view.read (Elt F) X7) k⟩,
       ⟨Rect.unit (s := S2048x256) (k1_off7 k) S128x64.size (k1_off7_inb k), dq0 v23 v27 (arg2.view.read (Elt F) X2) (arg3.view.read (Elt F) X3) (arg4.view.read (Elt F) X4) (arg5.view.read (Elt F) X5) (arg6.view.read (Elt F) X6) (arg7.view.read (Elt F) X7) k⟩] := by
  unfold trip
  rfl

/-- The piece of dk at the block before. -/
abbrev p9 (k : Fin k1_t1_loop.trips) (f : BufTy.Contents (Elt F) arg9.view.ty) : View.Piece (Elt F) S1x2048x64 .f32 :=
  ⟨Rect.unit (s := S1x2048x64) (k1_off5 k) S1x128x64.size (k1_off5_inb k),
    k1_pay28 (vcOf k (arg4.view.read (Elt F) X4)) (q4Of k (arg2.view.read (Elt F) X2)) (dltOf k (arg5.view.read (Elt F) X5) (arg6.view.read (Elt F) X6))
      (dobOf k (arg6.view.read (Elt F) X6)) (scOf k v23 v27 (arg2.view.read (Elt F) X2) (arg3.view.read (Elt F) X3)) (lsbOf k (arg7.view.read (Elt F) X7))
      (w5 k (arg9.view.read (Elt F) f))⟩
/-- The piece of dv at the block before. -/
abbrev p10 (k : Fin k1_t1_loop.trips) (f : BufTy.Contents (Elt F) arg10.view.ty) : View.Piece (Elt F) S1x2048x64 .f32 :=
  ⟨Rect.unit (s := S1x2048x64) (k1_off5 k) S1x128x64.size (k1_off5_inb k),
    k1_pay2 (dvc v23 v27 (arg2.view.read (Elt F) X2) (arg3.view.read (Elt F) X3) (arg6.view.read (Elt F) X6) (arg7.view.read (Elt F) X7) k)
      (w5 k (arg10.view.read (Elt F) f))⟩

/-- The pieces of dk that a trip writes. -/
theorem trip_l9 (k : Fin k1_t1_loop.trips) (f : BufTy.Contents (Elt F) arg9.view.ty) : (trip (F := F) 𝒱 c bd i arg1 harg1 arg2 harg2 arg3 harg3 arg4 harg4 arg5 harg5 arg6 harg6 arg7 harg7 arg8 harg8 arg9 harg9 arg10 harg10 arg11 harg11 v23 v27 v43 v81 v83 X2 X3 X4 X5 X6 X7 k).2.1 f
    = [⟨Rect.unit (s := S1x2048x64) (k1_off6 k) S1x128x64.size (k1_off6_inb k),
        k1_pay3 (dkc v23 v27 (arg2.view.read (Elt F) X2) (arg3.view.read (Elt F) X3) (arg4.view.read (Elt F) X4) (arg5.view.read (Elt F) X5) (arg6.view.read (Elt F) X6) (arg7.view.read (Elt F) X7) k)
          (w6 k (arg9.view.read (Elt F) (arg9.view.writes (Elt F) f [p9 arg2 arg3 arg4 arg5 arg6 arg7 arg9 v23 v27 X2 X3 X4 X5 X6 X7 k f])))⟩,
       p9 arg2 arg3 arg4 arg5 arg6 arg7 arg9 v23 v27 X2 X3 X4 X5 X6 X7 k f] := by
  unfold trip
  rfl

/-- The pieces of dv that a trip writes. -/
theorem trip_l10 (k : Fin k1_t1_loop.trips) (f : BufTy.Contents (Elt F) arg10.view.ty) : (trip (F := F) 𝒱 c bd i arg1 harg1 arg2 harg2 arg3 harg3 arg4 harg4 arg5 harg5 arg6 harg6 arg7 harg7 arg8 harg8 arg9 harg9 arg10 harg10 arg11 harg11 v23 v27 v43 v81 v83 X2 X3 X4 X5 X6 X7 k).2.2.1 f
    = [⟨Rect.unit (s := S1x2048x64) (k1_off6 k) S1x128x64.size (k1_off6_inb k),
        k1_pay4 (dvc v23 v27 (arg2.view.read (Elt F) X2) (arg3.view.read (Elt F) X3) (arg6.view.read (Elt F) X6) (arg7.view.read (Elt F) X7) k)
          (w6 k (arg10.view.read (Elt F) (arg10.view.writes (Elt F) f [p10 arg2 arg3 arg6 arg7 arg10 v23 v27 X2 X3 X6 X7 k f])))⟩,
       p10 arg2 arg3 arg6 arg7 arg10 v23 v27 X2 X3 X6 X7 k f] := by
  unfold trip
  rfl

/-- What a trip yields of the carried sums. -/
theorem trip_acc (k : Fin k1_t1_loop.trips) (a : FVec F S512x1 .f32) : (trip (F := F) 𝒱 c bd i arg1 harg1 arg2 harg2 arg3 harg3 arg4 harg4 arg5 harg5 arg6 harg6 arg7 harg7 arg8 harg8 arg9 harg9 arg10 harg10 arg11 harg11 v23 v27 v43 v81 v83 X2 X3 X4 X5 X6 X7 k).2.2.2.1 a
    = k1_pay5 v43 v81 v83 a (dltOf k (arg5.view.read (Elt F) X5) (arg6.view.read (Elt F) X6)) (lseOf k (arg7.view.read (Elt F) X7)) := by
  unfold trip
  rfl

variable (G9 : BufTy.Contents (Elt F) arg9.view.ty) (G10 : BufTy.Contents (Elt F) arg10.view.ty)

/-- The carried sums before a trip. -/
theorem st_acc : ∀ n, (st (F := F) 𝒱 c bd i arg1 harg1 arg2 harg2 arg3 harg3 arg4 harg4 arg5 harg5 arg6 harg6 arg7 harg7 arg8 harg8 arg9 harg9 arg10 harg10 arg11 harg11 v23 v27 v43 v81 v83 X2 X3 X4 X5 X6 X7 G9 G10 k1_pay1 n).acc
    = accTrips v43 v81 v83 (arg5.view.read (Elt F) X5) (arg6.view.read (Elt F) X6) (arg7.view.read (Elt F) X7) n
  | 0 => rfl
  | n + 1 => by
    rw [st, accTrips]
    by_cases h : n < k1_t1_loop.trips
    · rw [dif_pos h, dif_pos h, ← st_acc n]
      unfold stStep
      exact trip_acc 𝒱 c bd i arg1 harg1 arg2 harg2 arg3 harg3 arg4 harg4 arg5 harg5 arg6 harg6 arg7 harg7 arg8 harg8 arg9 harg9 arg10 harg10 arg11 harg11 v23 v27 v43 v81 v83 X2 X3 X4 X5 X6 X7 ⟨n, h⟩ _
    · rw [dif_neg h, dif_neg h, st_acc n]

/-- dq's buffer before a trip. -/
theorem st_l8 (G8 : BufTy.Contents (Elt F) arg8.view.ty) : ∀ n, arg8.view.read (Elt F) (arg8.view.writes (Elt F) G8 (st (F := F) 𝒱 c bd i arg1 harg1 arg2 harg2 arg3 harg3 arg4 harg4 arg5 harg5 arg6 harg6 arg7 harg7 arg8 harg8 arg9 harg9 arg10 harg10 arg11 harg11 v23 v27 v43 v81 v83 X2 X3 X4 X5 X6 X7 G9 G10 k1_pay1 n).l8)
    = dqTrips v23 v27 (arg2.view.read (Elt F) X2) (arg3.view.read (Elt F) X3) (arg4.view.read (Elt F) X4) (arg5.view.read (Elt F) X5) (arg6.view.read (Elt F) X6) (arg7.view.read (Elt F) X7) (arg8.view.read (Elt F) G8) n
  | 0 => rfl
  | n + 1 => by
    rw [st, dqTrips]
    by_cases h : n < k1_t1_loop.trips
    · rw [dif_pos h, dif_pos h, ← st_l8 G8 n]
      unfold stStep
      dsimp only
      rw [View.writes_append, trip_l8]
      rw [View.read_writes_cons_put _ _ _ _ _ rfl, View.read_writes_cons_put _ _ _ _ _ rfl, View.read_writes_cons_put _ _ _ _ _ rfl,
        View.read_writes_cons_put _ _ _ _ _ rfl, View.writes_nil]
    · rw [dif_neg h, dif_neg h, st_l8 G8 n]

/-- dk's buffer before a trip, from zeros. -/
theorem st_l9 (hG : arg9.view.read (Elt F) G9 = k1_pay32) : ∀ n, arg9.view.read (Elt F) (arg9.view.writes (Elt F) G9 (st (F := F) 𝒱 c bd i arg1 harg1 arg2 harg2 arg3 harg3 arg4 harg4 arg5 harg5 arg6 harg6 arg7 harg7 arg8 harg8 arg9 harg9 arg10 harg10 arg11 harg11 v23 v27 v43 v81 v83 X2 X3 X4 X5 X6 X7 G9 G10 k1_pay1 n).l9)
    = dkTrips v23 v27 (arg2.view.read (Elt F) X2) (arg3.view.read (Elt F) X3) (arg4.view.read (Elt F) X4) (arg5.view.read (Elt F) X5) (arg6.view.read (Elt F) X6) (arg7.view.read (Elt F) X7) n
  | 0 => hG
  | n + 1 => by
    rw [st, dkTrips]
    by_cases h : n < k1_t1_loop.trips
    · rw [dif_pos h, dif_pos h, ← st_l9 hG n]
      unfold stStep
      dsimp only
      rw [View.writes_append, trip_l9]
      rw [View.read_writes_cons_put _ _ _ _ _ rfl, View.read_writes_cons_put _ _ _ _ _ rfl, View.writes_nil]
      rfl
    · rw [dif_neg h, dif_neg h, st_l9 hG n]

/-- dv's buffer before a trip, from zeros. -/
theorem st_l10 (hG : arg10.view.read (Elt F) G10 = k1_pay33) : ∀ n, arg10.view.read (Elt F) (arg10.view.writes (Elt F) G10 (st (F := F) 𝒱 c bd i arg1 harg1 arg2 harg2 arg3 harg3 arg4 harg4 arg5 harg5 arg6 harg6 arg7 harg7 arg8 harg8 arg9 harg9 arg10 harg10 arg11 harg11 v23 v27 v43 v81 v83 X2 X3 X4 X5 X6 X7 G9 G10 k1_pay1 n).l10)
    = dvTrips v23 v27 (arg2.view.read (Elt F) X2) (arg3.view.read (Elt F) X3) (arg6.view.read (Elt F) X6) (arg7.view.read (Elt F) X7) n
  | 0 => hG
  | n + 1 => by
    rw [st, dvTrips]
    by_cases h : n < k1_t1_loop.trips
    · rw [dif_pos h, dif_pos h, ← st_l10 hG n]
      unfold stStep
      dsimp only
      rw [View.writes_append, trip_l10]
      rw [View.read_writes_cons_put _ _ _ _ _ rfl, View.read_writes_cons_put _ _ _ _ _ rfl, View.writes_nil]
      rfl
    · rw [dif_neg h, dif_neg h, st_l10 hG n]

end Pieces

end Cert.AttnValue

end
-- ==== Proof.AttnFwd.lean ====
/-
  Rows written in blocks of 128, one tile per head: after one block's four stores the block holds the tiles and every
  other row what it held; after all sixteen blocks nothing of the first contents is left.
  The forward attention body by values: what its trips leave in the output and in the row log-sums.
-/
module

public import proofs.«01_k».proof.Proof.AttnStep
public import Idealize.ShloMosaic.Lib.Pipeline.ValueKit

@[expose] public section

set_option maxRecDepth 16384
set_option maxHeartbeats 1000000

noncomputable section

namespace Cert.AttnValue

open AttnIdeal AttnIdeal.Gen
open Idealize.ShloMosaic Idealize.ShloMosaic.TcCoe
open Idealize.ShloMosaic.VecWindow (window put)

/-- Row `r` within its block of 128, column `c` within its head's 64. -/
def inTile (y : S2048x256.Idx) : S128x64.Idx :=
  ix2 (⟨(y 0).val % 128, Nat.mod_lt _ (by decide)⟩ : Fin 128) (⟨(y 1).val % 64, Nat.mod_lt _ (by decide)⟩ : Fin 64)

/-- The head of a column. -/
def headOf (y : S2048x256.Idx) : Fin 4 := ⟨(y 1).val / 64, by have h : (y 1).val < 256 := (y 1).isLt; omega⟩

/-- The block of a row, as a trip of the backward loop. -/
def rowBlock (y : S2048x256.Idx) : Fin 16 := ⟨(y 0).val / 128, by have h : (y 0).val < 2048 := (y 0).isLt; omega⟩

/-- One of four, by number. -/
def pick {α : Type} (a b c d : α) (g : Fin 4) : α := match g with | 0 => a | 1 => b | 2 => c | 3 => d

/-- Four tiles put into one block of rows. -/
theorem put_tiles {α : Type} (d : S2048x256.Idx → α) (n : ℕ) (hn : n < 16) (T0 T1 T2 T3 : S128x64.Idx → α)
    {o0 o1 o2 o3 : Fin S2048x256.rank → ℕ} (h0 : o0 = ![128 * n, 0]) (h1 : o1 = ![128 * n, 64]) (h2 : o2 = ![128 * n, 128]) (h3 : o3 = ![128 * n, 192]) :
    put (s := S2048x256) (put (s := S2048x256) (put (s := S2048x256) (put (s := S2048x256) d o0 S128x64.size T0) o1 S128x64.size T1) o2 S128x64.size T2) o3 S128x64.size T3
      = fun y => if (rowBlock y).val = n then pick T0 T1 T2 T3 (headOf y) (inTile y) else d y := by
  subst h0 h1 h2 h3
  funext y
  have hy0 : (y 0).val < 2048 := (y 0).isLt
  have hy1 : (y 1).val < 256 := (y 1).isLt
  have key : ∀ (z : S2048x256.Idx → α) (T : S128x64.Idx → α) (g : ℕ) (hg : g < 4),
      put (s := S2048x256) z ![128 * n, 64 * g] S128x64.size T y
        = if (y 0).val / 128 = n ∧ (y 1).val / 64 = g then T (inTile y) else z y := by
    intro z T g hg
    unfold put
    by_cases h : (y 0).val / 128 = n ∧ (y 1).val / 64 = g
    · have hm : ∀ a : Fin S2048x256.rank, (![128 * n, 64 * g] : Fin 2 → ℕ) a ≤ (y a).val ∧ (y a).val < (![128 * n, 64 * g] : Fin 2 → ℕ) a + S128x64.size a := by
        show ∀ a : Fin 2, _
        rw [Fin.forall_fin_two]
        refine ⟨⟨?_, ?_⟩, ⟨?_, ?_⟩⟩
        · show 128 * n ≤ (y 0).val; omega
        · show (y 0).val < 128 * n + 128; omega
        · show 64 * g ≤ (y 1).val; omega
        · show (y 1).val < 64 * g + 64; omega
      rw [dif_pos hm, if_pos h]
      refine congrArg T (funext fun a => ?_)
      revert a
      show ∀ a : Fin 2, _
      rw [Fin.forall_fin_two]
      refine ⟨Fin.ext ?_, Fin.ext ?_⟩
      · show (y 0).val - 128 * n = (y 0).val % 128; omega
      · show (y 1).val - 64 * g = (y 1).val % 64; omega
    · rw [dif_neg ?_, if_neg h]
      intro hm
      have a0 : 128 * n ≤ (y 0).val ∧ (y 0).val < 128 * n + 128 := hm 0
      have a1 : 64 * g ≤ (y 1).val ∧ (y 1).val < 64 * g + 64 := hm 1
      exact h ⟨by omega, by omega⟩
  rw [show (![128 * n, 192] : Fin 2 → ℕ) = ![128 * n, 64 * 3] from rfl, key _ T3 3 (by decide),
    show (![128 * n, 128] : Fin 2 → ℕ) = ![128 * n, 64 * 2] from rfl, key _ T2 2 (by decide),
    show (![128 * n, 64] : Fin 2 → ℕ) = ![128 * n, 64 * 1] from rfl, key _ T1 1 (by decide),
    show (![128 * n, 0] : Fin 2 → ℕ) = ![128 * n, 64 * 0] from rfl, key _ T0 0 (by decide)]
  show _ = if (y 0).val / 128 = n then _ else _
  by_cases hb : (y 0).val / 128 = n
  · simp only [hb, true_and, if_true]
    rcases (show (y 1).val / 64 = 0 ∨ (y 1).val / 64 = 1 ∨ (y 1).val / 64 = 2 ∨ (y 1).val / 64 = 3 by omega) with h | h | h | h
    · rw [if_neg (by omega), if_neg (by omega), if_neg (by omega), if_pos h, show headOf y = 0 from Fin.ext h]; rfl
    · rw [if_neg (by omega), if_neg (by omega), if_pos h, show headOf y = 1 from Fin.ext h]; rfl
    · rw [if_neg (by omega), if_pos h, show headOf y = 2 from Fin.ext h]; rfl
    · rw [if_pos h, show headOf y = 3 from Fin.ext h]; rfl
  · simp only [hb, false_and, if_false]

/-- Row within its block, of the log-sums. -/
def inCol (y : S1x2048x4.Idx) : S1x128x1.Idx :=
  ix3 (0 : Fin 1) (⟨(y 1).val % 128, Nat.mod_lt _ (by decide)⟩ : Fin 128) (0 : Fin 1)

/-- The block of a row of the log-sums. -/
def colBlock (y : S1x2048x4.Idx) : Fin 16 := ⟨(y 1).val / 128, by have h : (y 1).val < 2048 := (y 1).isLt; omega⟩

/-- Four columns put into one block of rows. -/
theorem put_cols {α : Type} (d : S1x2048x4.Idx → α) (n : ℕ) (hn : n < 16) (T0 T1 T2 T3 : S1x128x1.Idx → α)
    {o0 o1 o2 o3 : Fin S1x2048x4.rank → ℕ} (h0 : o0 = ![0, 128 * n, 0]) (h1 : o1 = ![0, 128 * n, 1]) (h2 : o2 = ![0, 128 * n, 2]) (h3 : o3 = ![0, 128 * n, 3]) :
    put (s := S1x2048x4) (put (s := S1x2048x4) (put (s := S1x2048x4) (put (s := S1x2048x4) d o0 S1x128x1.size T0) o1 S1x128x1.size T1) o2 S1x128x1.size T2) o3 S1x128x1.size T3
      = fun y => if (colBlock y).val = n then pick T0 T1 T2 T3 (y 2) (inCol y) else d y := by
  subst h0 h1 h2 h3
  funext y
  have hy0 : (y 0).val < 1 := (y 0).isLt
  have hy1 : (y 1).val < 2048 := (y 1).isLt
  have hy2 : (y 2).val < 4 := (y 2).isLt
  have key : ∀ (z : S1x2048x4.Idx → α) (T : S1x128x1.Idx → α) (g : ℕ) (hg : g < 4),
      put (s := S1x2048x4) z ![0, 128 * n, g] S1x128x1.size T y
        = if (y 1).val / 128 = n ∧ (y 2).val = g then T (inCol y) else z y := by
    intro z T g hg
    unfold put
    by_cases h : (y 1).val / 128 = n ∧ (y 2).val = g
    · have hm : ∀ a : Fin S1x2048x4.rank, (![0, 128 * n, g] : Fin 3 → ℕ) a ≤ (y a).val ∧ (y a).val < (![0, 128 * n, g] : Fin 3 → ℕ) a + S1x128x1.size a := by
        show ∀ a : Fin 3, _
        rw [Fin.forall_fin_succ, Fin.forall_fin_two]
        refine ⟨⟨?_, ?_⟩, ⟨?_, ?_⟩, ⟨?_, ?_⟩⟩
        · exact Nat.zero_le _
        · show (y 0).val < 0 + 1; omega
        · show 128 * n ≤ (y 1).val; omega
        · show (y 1).val < 128 * n + 128; omega
        · show g ≤ (y 2).val; omega
        · show (y 2).val < g + 1; omega
      rw [dif_pos hm, if_pos h]
      refine congrArg T (funext fun a => ?_)
      revert a
      show ∀ a : Fin 3, _
      rw [Fin.forall_fin_succ, Fin.forall_fin_two]
      refine ⟨Fin.ext ?_, Fin.ext ?_, Fin.ext ?_⟩
      · show (y 0).val - 0 = 0; omega
      · show (y 1).val - 128 * n = (y 1).val % 128; omega
      · show (y 2).val - g = 0; omega
    · rw [dif_neg ?_, if_neg h]
      intro hm
      have a0 : 128 * n ≤ (y 1).val ∧ (y 1).val < 128 * n + 128 := hm 1
      have a1 : g ≤ (y 2).val ∧ (y 2).val < g + 1 := hm 2
      exact h ⟨by omega, by omega⟩
  rw [key _ T3 3 (by decide), key _ T2 2 (by decide), key _ T1 1 (by decide), key _ T0 0 (by decide)]
  show _ = if (y 1).val / 128 = n then _ else _
  by_cases hb : (y 1).val / 128 = n
  · simp only [hb, true_and, if_true]
    rcases (show (y 2).val = 0 ∨ (y 2).val = 1 ∨ (y 2).val = 2 ∨ (y 2).val = 3 by omega) with h | h | h | h
    · rw [if_neg (by omega), if_neg (by omega), if_neg (by omega), if_pos h, show y 2 = (0 : Fin 4) from Fin.ext h]; rfl
    · rw [if_neg (by omega), if_neg (by omega), if_pos h, show y 2 = (1 : Fin 4) from Fin.ext h]; rfl
    · rw [if_neg (by omega), if_pos h, show y 2 = (2 : Fin 4) from Fin.ext h]; rfl
    · rw [if_pos h, show y 2 = (3 : Fin 4) from Fin.ext h]; rfl
  · simp only [hb, false_and, if_false]

section Dq

variable {F : FTy → Type} [FloatOps F] [Named F]
variable (v23 v27 : IVec S512x256 1)
  (x2 : Vec F S2048x256 .bf16) (x3 x4 : Vec F S1x2048x64 .bf16) (x5 x6 : Vec F S2048x256 .f32) (x7 : Vec F S1x2048x4 .f32)

/-- dq after all trips: the tile of the row's block and the column's head. -/
def dqAll : Vec F S2048x256 .f32 := fun y =>
  pick (dq0 v23 v27 x2 x3 x4 x5 x6 x7 (rowBlock y)) (dq1 v23 v27 x2 x3 x4 x5 x6 x7 (rowBlock y)) (dq2 v23 v27 x2 x3 x4 x5 x6 x7 (rowBlock y))
    (dq3 v23 v27 x2 x3 x4 x5 x6 x7 (rowBlock y)) (headOf y) (inTile y)

/-- dq before a trip: the blocks of the trips done hold their tiles. -/
theorem dqTrips_apply (d : Vec F S2048x256 .f32) : ∀ n, n ≤ 16 → dqTrips v23 v27 x2 x3 x4 x5 x6 x7 d n
    = fun y => if (rowBlock y).val < n then dqAll v23 v27 x2 x3 x4 x5 x6 x7 y else d y
  | 0, _ => rfl
  | n + 1, hn => by
    have h : n < k1_t1_loop.trips := hn
    rw [dqTrips, dif_pos h, put_tiles _ n h _ _ _ _ (k1_off7_eq _) (k1_off8_eq _) (k1_off9_eq _) (k1_off10_eq _), dqTrips_apply d n (by omega)]
    funext y
    by_cases e : (rowBlock y).val = n
    · rw [if_pos e, if_pos (by omega)]
      have e' : rowBlock y = (⟨n, h⟩ : Fin 16) := Fin.ext e
      unfold dqAll
      rw [e']; rfl
    · rw [if_neg e]; dsimp only
      by_cases l : (rowBlock y).val < n
      · rw [if_pos l, if_pos (by omega)]
      · rw [if_neg l, if_neg (by omega)]

/-- After the last trip nothing of dq's first contents is left. -/
theorem dqTrips_all (d : Vec F S2048x256 .f32) : dqTrips v23 v27 x2 x3 x4 x5 x6 x7 d 16 = dqAll v23 v27 x2 x3 x4 x5 x6 x7 := by
  rw [dqTrips_apply _ _ _ _ _ _ _ _ d 16 le_rfl]
  funext y
  exact if_pos (rowBlock y).isLt

end Dq

end Cert.AttnValue

namespace Cert.AttnValue

open AttnIdeal AttnIdeal.Gen
open Idealize.ShloMosaic Idealize.ShloMosaic.TcCoe
open Idealize.ShloMosaic.VecWindow (window put)

variable {F : FTy → Type} [FloatOps F] [Named F]

section Values

variable (v23 v27 : IVec S512x256 1) (v77 : FVec F S512x1 .f32) (x2 : Vec F S2048x256 .bf16) (x3 x4 : Vec F S1x2048x64 .bf16)

/-- The two blocks of a trip's rows and the ones before. -/
def fwdPair (k : Fin k0_t1_loop.trips) (x : Vec F S1x2048x64 .bf16) : FVec F S256x64 .bf16 :=
  k0_pay5 (window x (k0_off5 k) S1x128x64.size (k0_off5_inb k)) (window x (k0_off6 k) S1x128x64.size (k0_off6_inb k))
/-- The scores before the mask. -/
def fwdScore (k : Fin k0_t1_loop.trips) : FVec F S512x256 .f32 :=
  k0_pay6 (window x3 (k0_off5 k) S1x128x64.size (k0_off5_inb k)) (window x3 (k0_off6 k) S1x128x64.size (k0_off6_inb k))
    (window x2 (k0_off7 k) S128x64.size (k0_off7_inb k)) (window x2 (k0_off8 k) S128x64.size (k0_off8_inb k))
    (window x2 (k0_off9 k) S128x64.size (k0_off9_inb k)) (window x2 (k0_off10 k) S128x64.size (k0_off10_inb k))
/-- The mask. -/
def fwdMask (k : Fin k0_t1_loop.trips) : IVec S512x256 1 := k0_pay7 v23 v27 0#32 1#32 k

/-- Head 0's tile of the output. -/
def o0 (k : Fin k0_t1_loop.trips) : FVec F S128x64 .f32 := k0_pay14 v77 (fwdPair k x4) (fwdScore x2 x3 k) (fwdMask v23 v27 k)
/-- Head 1's. -/
def o1 (k : Fin k0_t1_loop.trips) : FVec F S128x64 .f32 := k0_pay16 v77 (fwdPair k x4) (fwdScore x2 x3 k) (fwdMask v23 v27 k)
/-- Head 2's. -/
def o2 (k : Fin k0_t1_loop.trips) : FVec F S128x64 .f32 := k0_pay18 v77 (fwdPair k x4) (fwdScore x2 x3 k) (fwdMask v23 v27 k)
/-- Head 3's. -/
def o3 (k : Fin k0_t1_loop.trips) : FVec F S128x64 .f32 := k0_pay3 (k0_pay12 v77 (fwdPair k x4) (fwdScore x2 x3 k) (fwdMask v23 v27 k))
/-- Head 0's column of the log-sums. -/
def l0 (k : Fin k0_t1_loop.trips) : FVec F S1x128x1 .f32 := k0_pay15 v77 (fwdScore x2 x3 k) (fwdMask v23 v27 k)
/-- Head 1's. -/
def l1 (k : Fin k0_t1_loop.trips) : FVec F S1x128x1 .f32 := k0_pay17 v77 (fwdScore x2 x3 k) (fwdMask v23 v27 k)
/-- Head 2's. -/
def l2 (k : Fin k0_t1_loop.trips) : FVec F S1x128x1 .f32 := k0_pay2 (k0_pay19 v77 (fwdScore x2 x3 k) (fwdMask v23 v27 k))
/-- Head 3's. -/
def l3 (k : Fin k0_t1_loop.trips) : FVec F S1x128x1 .f32 := k0_pay4 (k0_pay13 v77 (fwdScore x2 x3 k) (fwdMask v23 v27 k))

/-- The output after all trips. -/
def oAll : Vec F S2048x256 .f32 := fun y =>
  pick (o0 v23 v27 v77 x2 x3 x4 (rowBlock y)) (o1 v23 v27 v77 x2 x3 x4 (rowBlock y)) (o2 v23 v27 v77 x2 x3 x4 (rowBlock y))
    (o3 v23 v27 v77 x2 x3 x4 (rowBlock y)) (headOf y) (inTile y)
/-- The log-sums after all trips. -/
def lAll : Vec F S1x2048x4 .f32 := fun y =>
  pick (l0 v23 v27 v77 x2 x3 (colBlock y)) (l1 v23 v27 v77 x2 x3 (colBlock y)) (l2 v23 v27 v77 x2 x3 (colBlock y))
    (l3 v23 v27 v77 x2 x3 (colBlock y)) (y 2) (inCol y)

end Values

section Pieces

variable (𝒱 : Variants) (c : Dev nD) (bd : Option 𝒱.V) (i : grid0.Coords)
  (arg1 : Memref sig .tc .smem S4x4 .f32) (harg1 : arg1.IsWhole)
  (arg2 : Memref sig .tc .vmem S2048x256 .bf16) (harg2 : arg2.IsWhole)
  (arg3 : Memref sig .tc .vmem S1x2048x64 .bf16) (harg3 : arg3.IsWhole)
  (arg4 : Memref sig .tc .vmem S1x2048x64 .bf16) (harg4 : arg4.IsWhole)
  (arg5 : Memref sig .tc .vmem S2048x256 .f32) (harg5 : arg5.IsWhole)
  (arg6 : Memref sig .tc .vmem S1x2048x4 .f32) (harg6 : arg6.IsWhole)
  (v23 : IVec S512x256 1) (v27 : IVec S512x256 1) (v29 v31 v33 v35 : Elt F .f32) (v36 : IVec S512x1 32) (c128 : BitVec 32)
  (v38 v41 v42 : IVec S512x1 32)
  (X2 : BufTy.Contents (Elt F) arg2.view.ty) (X3 : BufTy.Contents (Elt F) arg3.view.ty) (X4 : BufTy.Contents (Elt F) arg4.view.ty)

/-- The pieces of the output that a trip writes. -/
theorem fwd_trip5 (k : Fin k0_t1_loop.trips) : (trip_k0_t1 (F := F) 𝒱 c bd i arg1 harg1 arg2 harg2 arg3 harg3 arg4 harg4 arg5 harg5 arg6 harg6 v23 v27 v29 v31 v33 v35 v36 c128 v38 v41 v42 X2 X3 X4 k).1
    = [⟨Rect.unit (s := S2048x256) (k0_off10 k) S128x64.size (k0_off10_inb k), o3 v23 v27 (k0_pay1 v29 v31 v33 v35 v36 c128 v38 v41 v42) (arg2.view.read (Elt F) X2) (arg3.view.read (Elt F) X3) (arg4.view.read (Elt F) X4) k⟩,
       ⟨Rect.unit (s := S2048x256) (k0_off9 k) S128x64.size (k0_off9_inb k), o2 v23 v27 (k0_pay1 v29 v31 v33 v35 v36 c128 v38 v41 v42) (arg2.view.read (Elt F) X2) (arg3.view.read (Elt F) X3) (arg4.view.read (Elt F) X4) k⟩,
       ⟨Rect.unit (s := S2048x256) (k0_off8 k) S128x64.size (k0_off8_inb k), o1 v23 v27 (k0_pay1 v29 v31 v33 v35 v36 c128 v38 v41 v42) (arg2.view.read (Elt F) X2) (arg3.view.read (Elt F) X3) (arg4.view.read (Elt F) X4) k⟩,
       ⟨Rect.unit (s := S2048x256) (k0_off7 k) S128x64.size (k0_off7_inb k), o0 v23 v27 (k0_pay1 v29 v31 v33 v35 v36 c128 v38 v41 v42) (arg2.view.read (Elt F) X2) (arg3.view.read (Elt F) X3) (arg4.view.read (Elt F) X4) k⟩] := by
  unfold trip_k0_t1
  rfl

/-- The pieces of the log-sums that a trip writes. -/
theorem fwd_trip6 (k : Fin k0_t1_loop.trips) : (trip_k0_t1 (F := F) 𝒱 c bd i arg1 harg1 arg2 harg2 arg3 harg3 arg4 harg4 arg5 harg5 arg6 harg6 v23 v27 v29 v31 v33 v35 v36 c128 v38 v41 v42 X2 X3 X4 k).2.1
    = [⟨Rect.unit (s := S1x2048x4) (k0_off14 k) S1x128x1.size (k0_off14_inb k), l3 v23 v27 (k0_pay1 v29 v31 v33 v35 v36 c128 v38 v41 v42) (arg2.view.read (Elt F) X2) (arg3.view.read (Elt F) X3) k⟩,
       ⟨Rect.unit (s := S1x2048x4) (k0_off13 k) S1x128x1.size (k0_off13_inb k), l2 v23 v27 (k0_pay1 v29 v31 v33 v35 v36 c128 v38 v41 v42) (arg2.view.read (Elt F) X2) (arg3.view.read (Elt F) X3) k⟩,
       ⟨Rect.unit (s := S1x2048x4) (k0_off12 k) S1x128x1.size (k0_off12_inb k), l1 v23 v27 (k0_pay1 v29 v31 v33 v35 v36 c128 v38 v41 v42) (arg2.view.read (Elt F) X2) (arg3.view.read (Elt F) X3) k⟩,
       ⟨Rect.unit (s := S1x2048x4) (k0_off11 k) S1x128x1.size (k0_off11_inb k), l0 v23 v27 (k0_pay1 v29 v31 v33 v35 v36 c128 v38 v41 v42) (arg2.view.read (Elt F) X2) (arg3.view.read (Elt F) X3) k⟩] := by
  unfold trip_k0_t1
  rfl

/-- The output's buffer before a trip. -/
theorem fwd_o (G : BufTy.Contents (Elt F) arg5.view.ty) : ∀ n, n ≤ 16 →
    arg5.view.read (Elt F) (arg5.view.writes (Elt F) G (pb_k0_t1 (F := F) 𝒱 c bd i arg1 harg1 arg2 harg2 arg3 harg3 arg4 harg4 arg5 harg5 arg6 harg6 v23 v27 v29 v31 v33 v35 v36 c128 v38 v41 v42 X2 X3 X4 n).1)
      = fun y => if (rowBlock y).val < n then oAll v23 v27 (k0_pay1 v29 v31 v33 v35 v36 c128 v38 v41 v42) (arg2.view.read (Elt F) X2) (arg3.view.read (Elt F) X3) (arg4.view.read (Elt F) X4) y else arg5.view.read (Elt F) G y
  | 0, _ => rfl
  | n + 1, hn => by
    have h : n < k0_t1_loop.trips := hn
    rw [show pb_k0_t1 (F := F) 𝒱 c bd i arg1 harg1 arg2 harg2 arg3 harg3 arg4 harg4 arg5 harg5 arg6 harg6 v23 v27 v29 v31 v33 v35 v36 c128 v38 v41 v42 X2 X3 X4 (n + 1) = _ from pb_k0_t1_succ 𝒱 c bd i arg1 harg1 arg2 harg2 arg3 harg3 arg4 harg4 arg5 harg5 arg6 harg6 v23 v27 v29 v31 v33 v35 v36 c128 v38 v41 v42 X2 X3 X4 ⟨n, h⟩]
    dsimp only
    rw [View.writes_append, fwd_trip5]
    rw [View.read_writes_cons_put _ _ _ _ _ (k0_off10_eq _), View.read_writes_cons_put _ _ _ _ _ (k0_off9_eq _),
      View.read_writes_cons_put _ _ _ _ _ (k0_off8_eq _), View.read_writes_cons_put _ _ _ _ _ (k0_off7_eq _), View.writes_nil,
      put_tiles _ n h _ _ _ _ rfl rfl rfl rfl, fwd_o G n (by omega)]
    funext y
    by_cases e : (rowBlock y).val = n
    · rw [if_pos e, if_pos (by omega)]
      have e' : rowBlock y = (⟨n, h⟩ : Fin 16) := Fin.ext e
      unfold oAll
      rw [e']; rfl
    · rw [if_neg e]; dsimp only
      by_cases l : (rowBlock y).val < n
      · rw [if_pos l, if_pos (by omega)]
      · rw [if_neg l, if_neg (by omega)]

/-- The log-sums' buffer before a trip. -/
theorem fwd_l (G : BufTy.Contents (Elt F) arg6.view.ty) : ∀ n, n ≤ 16 →
    arg6.view.read (Elt F) (arg6.view.writes (Elt F) G (pb_k0_t1 (F := F) 𝒱 c bd i arg1 harg1 arg2 harg2 arg3 harg3 arg4 harg4 arg5 harg5 arg6 harg6 v23 v27 v29 v31 v33 v35 v36 c128 v38 v41 v42 X2 X3 X4 n).2)
      = fun y => if (colBlock y).val < n then lAll v23 v27 (k0_pay1 v29 v31 v33 v35 v36 c128 v38 v41 v42) (arg2.view.read (Elt F) X2) (arg3.view.read (Elt F) X3) y else arg6.view.read (Elt F) G y
  | 0, _ => rfl
  | n + 1, hn => by
    have h : n < k0_t1_loop.trips := hn
    rw [show pb_k0_t1 (F := F) 𝒱 c bd i arg1 harg1 arg2 harg2 arg3 harg3 arg4 harg4 arg5 harg5 arg6 harg6 v23 v27 v29 v31 v33 v35 v36 c128 v38 v41 v42 X2 X3 X4 (n + 1) = _ from pb_k0_t1_succ 𝒱 c bd i arg1 harg1 arg2 harg2 arg3 harg3 arg4 harg4 arg5 harg5 arg6 harg6 v23 v27 v29 v31 v33 v35 v36 c128 v38 v41 v42 X2 X3 X4 ⟨n, h⟩]
    dsimp only
    rw [View.writes_append, fwd_trip6]
    rw [View.read_writes_cons_put _ _ _ _ _ (k0_off14_eq _), View.read_writes_cons_put _ _ _ _ _ (k0_off13_eq _),
      View.read_writes_cons_put _ _ _ _ _ (k0_off12_eq _), View.read_writes_cons_put _ _ _ _ _ (k0_off11_eq _), View.writes_nil,
      put_cols _ n h _ _ _ _ rfl rfl rfl rfl, fwd_l G n (by omega)]
    funext y
    by_cases e : (colBlock y).val = n
    · rw [if_pos e, if_pos (by omega)]
      have e' : colBlock y = (⟨n, h⟩ : Fin 16) := Fin.ext e
      unfold lAll
      rw [e']; rfl
    · rw [if_neg e]; dsimp only
      by_cases l : (colBlock y).val < n
      · rw [if_pos l, if_pos (by omega)]
      · rw [if_neg l, if_neg (by omega)]

/-- The output after the loop. -/
theorem fwd_o_all (G : BufTy.Contents (Elt F) arg5.view.ty) :
    arg5.view.read (Elt F) (arg5.view.writes (Elt F) G (pb_k0_t1 (F := F) 𝒱 c bd i arg1 harg1 arg2 harg2 arg3 harg3 arg4 harg4 arg5 harg5 arg6 harg6 v23 v27 v29 v31 v33 v35 v36 c128 v38 v41 v42 X2 X3 X4 k0_t1_loop.trips).1) = oAll v23 v27 (k0_pay1 v29 v31 v33 v35 v36 c128 v38 v41 v42) (arg2.view.read (Elt F) X2) (arg3.view.read (Elt F) X3) (arg4.view.read (Elt F) X4) := by
  rw [show k0_t1_loop.trips = 16 from rfl, fwd_o 𝒱 c bd i arg1 harg1 arg2 harg2 arg3 harg3 arg4 harg4 arg5 harg5 arg6 harg6 v23 v27 v29 v31 v33 v35 v36 c128 v38 v41 v42 X2 X3 X4 G 16 le_rfl]
  funext y
  exact if_pos (rowBlock y).isLt

/-- The log-sums after the loop. -/
theorem fwd_l_all (G : BufTy.Contents (Elt F) arg6.view.ty) :
    arg6.view.read (Elt F) (arg6.view.writes (Elt F) G (pb_k0_t1 (F := F) 𝒱 c bd i arg1 harg1 arg2 harg2 arg3 harg3 arg4 harg4 arg5 harg5 arg6 harg6 v23 v27 v29 v31 v33 v35 v36 c128 v38 v41 v42 X2 X3 X4 k0_t1_loop.trips).2) = lAll v23 v27 (k0_pay1 v29 v31 v33 v35 v36 c128 v38 v41 v42) (arg2.view.read (Elt F) X2) (arg3.view.read (Elt F) X3) := by
  rw [show k0_t1_loop.trips = 16 from rfl, fwd_l 𝒱 c bd i arg1 harg1 arg2 harg2 arg3 harg3 arg4 harg4 arg5 harg5 arg6 harg6 v23 v27 v29 v31 v33 v35 v36 c128 v38 v41 v42 X2 X3 X4 G 16 le_rfl]
  funext y
  exact if_pos (colBlock y).isLt

end Pieces

end Cert.AttnValue

end
-- ==== Proof.AttnKernel.lean ====
/-
  The two attention bodies on whole staging buffers: from the inputs' contents each leaves its outputs at plain
  functions of them.
-/
module

public import proofs.«01_k».proof.Proof.AttnFwd
public import proofs.«01_k».proof.Proof.Gen.AttnIdeal.Points
public import Idealize.ShloMosaic.Lib.Pipeline.FrameBody
public import Idealize.ShloMosaic.Lib.WordCmp

@[expose] public section

set_option maxRecDepth 16384

noncomputable section

namespace Cert.AttnValue

open AttnIdeal AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]

local notation "𝕄" => MT nD τ sig Unit (Elt F) ℕ (UR sig nD τ) ℕ

/-! ## What the bodies leave -/

/-- The sinks along the stacked rows, as the forward body reads them at head group `i`. -/
def sinks0 (i : grid0.Coords) (x1 : Vec F S4x4 .f32) : FVec F S512x1 .f32 :=
  k0_pay1 (View.ld x1 (Rect.unit (s := S4x4) (k0_off1 i) S1x1.size (k0_off1_inb i)) (Shape.Idx.first (numel1_S1x1.symm ▸ Nat.one_pos)))
    (View.ld x1 (Rect.unit (s := S4x4) (k0_off2 i) S1x1.size (k0_off2_inb i)) (Shape.Idx.first (numel1_S1x1.symm ▸ Nat.one_pos)))
    (View.ld x1 (Rect.unit (s := S4x4) (k0_off3 i) S1x1.size (k0_off3_inb i)) (Shape.Idx.first (numel1_S1x1.symm ▸ Nat.one_pos)))
    (View.ld x1 (Rect.unit (s := S4x4) (k0_off4 i) S1x1.size (k0_off4_inb i)) (Shape.Idx.first (numel1_S1x1.symm ▸ Nat.one_pos)))
    (iota .tc S512x1 32 [0] iota_S512x1_d0_w32) 128#32 k0_pay23 k0_pay24 k0_pay25

/-- The forward body's output. -/
def out0_4 (i : grid0.Coords) (x1 : Vec F S4x4 .f32) (x2 : Vec F S2048x256 .bf16) (x3 x4 : Vec F S1x2048x64 .bf16) : Vec F S2048x256 .f32 :=
  oAll k0_pay21 k0_pay22 (sinks0 i x1) x2 x3 x4
/-- The forward body's log-sums. -/
def out0_5 (i : grid0.Coords) (x1 : Vec F S4x4 .f32) (x2 : Vec F S2048x256 .bf16) (x3 x4 : Vec F S1x2048x64 .bf16) : Vec F S1x2048x4 .f32 :=
  lAll k0_pay21 k0_pay22 (sinks0 i x1) x2 x3

/-- Sink `g` of head group `i`, as the backward body reads it. -/
def sinkA (i : grid1.Coords) (x1 : Vec F S4x4 .f32) : Elt F .f32 :=
  View.ld x1 (Rect.unit (s := S4x4) (k1_off1 i) S1x1.size (k1_off1_inb i)) (Shape.Idx.first (numel1_S1x1.symm ▸ Nat.one_pos))
def sinkB (i : grid1.Coords) (x1 : Vec F S4x4 .f32) : Elt F .f32 :=
  View.ld x1 (Rect.unit (s := S4x4) (k1_off2 i) S1x1.size (k1_off2_inb i)) (Shape.Idx.first (numel1_S1x1.symm ▸ Nat.one_pos))
def sinkC (i : grid1.Coords) (x1 : Vec F S4x4 .f32) : Elt F .f32 :=
  View.ld x1 (Rect.unit (s := S4x4) (k1_off3 i) S1x1.size (k1_off3_inb i)) (Shape.Idx.first (numel1_S1x1.symm ▸ Nat.one_pos))
def sinkD (i : grid1.Coords) (x1 : Vec F S4x4 .f32) : Elt F .f32 :=
  View.ld x1 (Rect.unit (s := S4x4) (k1_off4 i) S1x1.size (k1_off4_inb i)) (Shape.Idx.first (numel1_S1x1.symm ▸ Nat.one_pos))

/-- The carried sums after the last trip. -/
def accAll (i : grid1.Coords) (x1 : Vec F S4x4 .f32) (x5 x6 : Vec F S2048x256 .f32) (x7 : Vec F S1x2048x4 .f32) : FVec F S512x1 .f32 :=
  accTrips (sinkD i x1) (k1_pay35 (sinkA i x1) (sinkB i x1) (sinkC i x1)) k1_pay36 x5 x6 x7 16

abbrev rs0 : Rect S1x1x4 := Rect.unit (s := S1x1x4) ![0, 0, 0] S1x1x1.size inb_S1x1x4_S1x1x1_0_0_0
abbrev rs1 : Rect S1x1x4 := Rect.unit (s := S1x1x4) ![0, 0, 1] S1x1x1.size inb_S1x1x4_S1x1x1_0_0_1
abbrev rs2 : Rect S1x1x4 := Rect.unit (s := S1x1x4) ![0, 0, 2] S1x1x1.size inb_S1x1x4_S1x1x1_0_0_2
abbrev rs3 : Rect S1x1x4 := Rect.unit (s := S1x1x4) ![0, 0, 3] S1x1x1.size inb_S1x1x4_S1x1x1_0_0_3

/-- The sinks' gradients from the carried sums. -/
def sinkOut (a : FVec F S512x1 .f32) : Vec F S1x1x4 .f32 :=
  View.canon [⟨rs3, k1_pay9 a⟩, ⟨rs2, k1_pay8 a⟩, ⟨rs1, k1_pay7 a⟩, ⟨rs0, k1_pay6 a⟩]

/-- The four stores cover the buffer. -/
theorem cover_sinks (p0 p1 p2 p3 : Vec F S1x1x1 .f32) (y : S1x1x4.Idx) :
    ∃ pc ∈ ([⟨rs3, p3⟩, ⟨rs2, p2⟩, ⟨rs1, p1⟩, ⟨rs0, p0⟩] : List (View.Piece (Elt F) S1x1x4 .f32)), y ∈ pc.1.set :=
  View.cover_of_tiled [⟨rs3, p3⟩, ⟨rs2, p2⟩, ⟨rs1, p1⟩, ⟨rs0, p0⟩] S1x1x1.size (by rfl) y

/-! ## The bodies' triples -/

set_option maxHeartbeats 2000000 in
/-- The forward body. -/
theorem sound_kernel0 (c : Dev nD) (E : Set ℕ) (i : grid0.Coords)
    (arg1 : Memref sig .tc .smem S4x4 .f32) (harg1 : arg1.IsWhole)
    (arg2 : Memref sig .tc .vmem S2048x256 .bf16) (harg2 : arg2.IsWhole)
    (arg3 : Memref sig .tc .vmem S1x2048x64 .bf16) (harg3 : arg3.IsWhole)
    (arg4 : Memref sig .tc .vmem S1x2048x64 .bf16) (harg4 : arg4.IsWhole)
    (arg5 : Memref sig .tc .vmem S2048x256 .f32) (harg5 : arg5.IsWhole)
    (arg6 : Memref sig .tc .vmem S1x2048x4 .f32) (harg6 : arg6.IsWhole)
    (x1 : Vec F S4x4 .f32) (x2 : Vec F S2048x256 .bf16) (x3 x4 : Vec F S1x2048x64 .bf16) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3
          ∗ owns (c : Thread nD τ) arg4 fullShare x4 ∗ owns (c : Thread nD τ) arg5 fullShare (out0_4 i x1 x2 x3 x4)
          ∗ owns (c : Thread nD τ) arg6 fullShare (out0_5 i x1 x2 x3 x4)) -∗ K ⟨⟩))
      ⊢ wp frame (wpE (defs₀ (F := F)) Variants.none c none) E (cc0_attn i arg1 harg1 arg2 harg2 arg3 harg3 arg4 harg4 arg5 harg5 arg6 harg6) K := by
  simp only [cc0_attn_eq_skeleton]; unfold cc0_attn_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact fwd_o_all _ c none i arg1 harg1 arg2 harg2 arg3 harg3 arg4 harg4 arg5 harg5 arg6 harg6 _ _ _ _ _ _ _ _ _ _ _ f2 f3 f4 f5
  iexists _; isplitr
  swap; · iexact H6
  ipureintro
  exact fwd_l_all _ c none i arg1 harg1 arg2 harg2 arg3 harg3 arg4 harg4 arg5 harg5 arg6 harg6 _ _ _ _ _ _ _ _ _ _ _ f2 f3 f4 f6

set_option maxHeartbeats 2000000 in
/-- The backward body. -/
theorem sound_kernel1 (c : Dev nD) (E : Set ℕ) (i : grid1.Coords)
    (arg1 : Memref sig .tc .smem S4x4 .f32) (harg1 : arg1.IsWhole)
    (arg2 : Memref sig .tc .vmem S2048x256 .bf16) (harg2 : arg2.IsWhole)
    (arg3 : Memref sig .tc .vmem S1x2048x64 .bf16) (harg3 : arg3.IsWhole)
    (arg4 : Memref sig .tc .vmem S1x2048x64 .bf16) (harg4 : arg4.IsWhole)
    (arg5 : Memref sig .tc .vmem S2048x256 .f32) (harg5 : arg5.IsWhole)
    (arg6 : Memref sig .tc .vmem S2048x256 .f32) (harg6 : arg6.IsWhole)
    (arg7 : Memref sig .tc .vmem S1x2048x4 .f32) (harg7 : arg7.IsWhole)
    (arg8 : Memref sig .tc .vmem S2048x256 .f32) (harg8 : arg8.IsWhole)
    (arg9 : Memref sig .tc .vmem S1x2048x64 .f32) (harg9 : arg9.IsWhole)
    (arg10 : Memref sig .tc .vmem S1x2048x64 .f32) (harg10 : arg10.IsWhole)
    (arg11 : Memref sig .tc .vmem S1x1x4 .f32) (harg11 : arg11.IsWhole)
    (x1 : Vec F S4x4 .f32) (x2 : Vec F S2048x256 .bf16) (x3 x4 : Vec F S1x2048x64 .bf16) (x5 x6 : Vec F S2048x256 .f32) (x7 : Vec F S1x2048x4 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg1 fullShare x1 ∗ owns (c : Thread nD τ) arg2 fullShare x2 ∗ owns (c : Thread nD τ) arg3 fullShare x3
          ∗ owns (c : Thread nD τ) arg4 fullShare x4 ∗ owns (c : Thread nD τ) arg5 fullShare x5 ∗ owns (c : Thread nD τ) arg6 fullShare x6
          ∗ owns (c : Thread nD τ) arg7 fullShare x7
          ∗ owns (c : Thread nD τ) arg8 fullShare (dqAll k1_pay30 k1_pay31 x2 x3 x4 x5 x6 x7)
          ∗ owns (c : Thread nD τ) arg9 fullShare (dkTrips k1_pay30 k1_pay31 x2 x3 x4 x5 x6 x7 16)
          ∗ owns (c : Thread nD τ) arg10 fullShare (dvTrips k1_pay30 k1_pay31 x2 x3 x6 x7 16)
          ∗ owns (c : Thread nD τ) arg11 fullShare (sinkOut (accAll i x1 x5 x6 x7))) -∗ K ⟨⟩))
      ⊢ wp frame (wpE (defs₀ (F := F)) Variants.none c none) E
          (cc1_attn_bwd i arg1 harg1 arg2 harg2 arg3 harg3 arg4 harg4 arg5 harg5 arg6 harg6 arg7 harg7 arg8 harg8 arg9 harg9 arg10 harg10 arg11 harg11) K := by
  simp only [cc1_attn_bwd_eq_skeleton]; unfold cc1_attn_bwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%d10, %f10, -, H10⟩, ⟨%d11, %f11, -, H11⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact (st_l8 _ c none i arg1 harg1 arg2 harg2 arg3 harg3 arg4 harg4 arg5 harg5 arg6 harg6 arg7 harg7 arg8 harg8 arg9 harg9 arg10 harg10 arg11 harg11
      _ _ _ _ _ f2 f3 f4 f5 f6 f7 _ _ f8 16).trans (dqTrips_all _ _ _ _ _ _ _ _ _)
  isplitl [H9]
  · iexists _; isplitr
    swap; · iexact H9
    ipureintro
    rw [View.writes_append]
    exact st_l9 _ c none i arg1 harg1 arg2 harg2 arg3 harg3 arg4 harg4 arg5 harg5 arg6 harg6 arg7 harg7 arg8 harg8 arg9 harg9 arg10 harg10 arg11 harg11
      _ _ _ _ _ f2 f3 f4 f5 f6 f7 _ _ (View.read_writes_full _ _ _ _ _) 16
  isplitl [H10]
  · iexists _; isplitr
    swap; · iexact H10
    ipureintro
    rw [View.writes_append]
    exact st_l10 _ c none i arg1 harg1 arg2 harg2 arg3 harg3 arg4 harg4 arg5 harg5 arg6 harg6 arg7 harg7 arg8 harg8 arg9 harg9 arg10 harg10 arg11 harg11
      _ _ _ _ _ f2 f3 f4 f5 f6 f7 _ _ (View.read_writes_full _ _ _ _ _) 16
  iexists _; isplitr
  swap; · iexact H11
  ipureintro
  refine (View.read_writes_eq_canon _ _ _ (cover_sinks _ _ _ _)).trans ?_
  unfold sinkOut accAll
  rw [← st_acc _ c none i arg1 harg1 arg2 harg2 arg3 harg3 arg4 harg4 arg5 harg5 arg6 harg6 arg7 harg7 arg8 harg8 arg9 harg9 arg10 harg10 arg11 harg11
      k1_pay30 k1_pay31 _ _ _ f2 f3 f4 f5 f6 f7 _ _ 16]
  rfl

end Cert.AttnValue

end
-- ==== Proof.Reals.lean ====
/-
  Real numbers inside the extended reals: sums, quotients, maxima and finite arrays.
-/
module

public import Idealize.ShloMosaic.Lib.Pointwise

@[expose] public section

noncomputable section

namespace Cert.Reals

open Idealize.ShloMosaic

/-- A finite sum of reals, as an extended real. -/
theorem sum_coe {ι : Type} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

/-- A quotient of reals by a real that is not zero. -/
theorem div_coe_coe (a : ℝ) {b : ℝ} (hb : b ≠ 0) : Ideal.div (a : EReal) (b : EReal) = ((a / b : ℝ) : EReal) := by
  rw [Ideal.div_coe hb, ← EReal.coe_mul, mul_one_div]

/-- Zero over a real that is not zero. -/
theorem zero_div {b : ℝ} (hb : b ≠ 0) : Ideal.div (0 : EReal) (b : EReal) = 0 := by
  rw [Ideal.div_coe hb, zero_mul]

/-- An extended real whose absolute value is below `+∞` is a real. -/
theorem exists_real {x : EReal} (h : x ≠ ⊤) (h' : x ≠ ⊥) : ∃ r : ℝ, x = (r : EReal) :=
  ⟨x.toReal, (EReal.coe_toReal h h').symm⟩

/-- A fold of `max` over values below `+∞` is below `+∞`. -/
theorem fold_max_ne_top {ι : Type} (s : Finset ι) (b : EReal) (hb : b ≠ ⊤) (f : ι → EReal) (hf : ∀ i, f i ≠ ⊤) :
    s.fold max b f ≠ ⊤ := by
  classical
  induction s using Finset.induction_on with
  | empty => simpa using hb
  | insert a s ha ih =>
    rw [Finset.fold_insert ha]
    intro h
    rcases max_choice (f a) (s.fold max b f) with h' | h' <;> rw [h'] at h
    · exact hf a h
    · exact ih h

end Cert.Reals

end
-- ==== Proof.AttnRef.lean ====
/-
  The mathematics of one row of the attention with a sink: the weights and their derivative, over the reals.
  Sliding-window attention with sinks over the reals: the scores, weights and gradients of a block of 128 rows, as
  functions of real arrays read by natural numbers.
  What the reference of the attention computes from real arrays: its bands, scores, weights and the cotangents that
  reach the scores.
-/
module

public import proofs.«01_k».proof.Proof.Reals
public import Idealize.ShloMosaic.Lib.Affine
public import proofs.«01_k».proof.Proof.Gen.AttnRefIdeal.Read
public import Idealize.ShloMosaic.Lib.TwoAxisContraction

@[expose] public section

set_option maxRecDepth 16384

noncomputable section

namespace Cert.AttnMath

open Idealize.ShloMosaic Reals

variable (M : Fin 256 → Prop) [DecidablePred M] (s : Fin 256 → ℝ) (t : ℝ) (dp : Fin 256 → ℝ)

/-- The row's exponentials: zero where masked. -/
def num (j : Fin 256) : ℝ := if M j then Real.exp (s j) else 0
/-- The normaliser: the exponentials and the sink's. -/
def Z : ℝ := ∑ j, num M s j + Real.exp t
/-- A weight. -/
def W (j : Fin 256) : ℝ := num M s j / Z M s t
/-- The sink's weight. -/
def Ws : ℝ := Real.exp t / Z M s t
/-- The row's mean of the weights' cotangents. -/
def delta : ℝ := ∑ j, W M s t j * dp j
/-- The scores' cotangent. -/
def dS (j : Fin 256) : ℝ := W M s t j * (dp j - delta M s t dp)
/-- The masked score. -/
def Sc (j : Fin 256) : EReal := if M j then ((s j : ℝ) : EReal) else ⊥

theorem num_nonneg (j : Fin 256) : 0 ≤ num M s j := by unfold num; split <;> positivity
theorem Z_pos : 0 < Z M s t := add_pos_of_nonneg_of_pos (Finset.sum_nonneg fun j _ => num_nonneg M s j) (Real.exp_pos t)

theorem Sc_ne_top (j : Fin 256) : Sc M s j ≠ ⊤ := by unfold Sc; split <;> simp

/-- The row's maximum with the sink is a real. -/
theorem max_real (b : EReal) (hb : b ≠ ⊤) : ∃ m : ℝ, max (Finset.univ.fold max b (Sc M s)) (t : EReal) = (m : EReal) := by
  refine exists_real ?_ ?_
  · intro h
    rcases max_choice (Finset.univ.fold max b (Sc M s)) (t : EReal) with h' | h' <;> rw [h'] at h
    · exact fold_max_ne_top _ _ hb _ (Sc_ne_top M s) h
    · exact EReal.coe_ne_top t h
  · intro h
    have := le_max_right (Finset.univ.fold max b (Sc M s)) (t : EReal)
    rw [h] at this
    exact EReal.coe_ne_bot t (le_bot_iff.mp this)

variable (m : ℝ)

/-- A shifted exponential. -/
theorem exp_Sc (j : Fin 256) : Ideal.exp (Sc M s j - (m : EReal)) = ((num M s j * Real.exp (-m) : ℝ) : EReal) := by
  unfold Sc num
  split
  · rw [← EReal.coe_sub, Ideal.exp_coe, sub_eq_add_neg, Real.exp_add]
  · rw [EReal.bot_sub, Ideal.exp_bot, zero_mul, EReal.coe_zero]
/-- The sink's shifted exponential. -/
theorem exp_sink : Ideal.exp ((t : EReal) - (m : EReal)) = ((Real.exp t * Real.exp (-m) : ℝ) : EReal) := by
  rw [← EReal.coe_sub, Ideal.exp_coe, sub_eq_add_neg, Real.exp_add]
/-- The shifted normaliser. -/
theorem sum_shift : (∑ j, num M s j * Real.exp (-m)) + Real.exp t * Real.exp (-m) = Z M s t * Real.exp (-m) := by
  unfold Z; rw [← Finset.sum_mul, add_mul]
theorem shift_ne : Z M s t * Real.exp (-m) ≠ 0 := (mul_pos (Z_pos M s t) (Real.exp_pos _)).ne'
/-- A weight from the shifted exponentials. -/
theorem W_shift (j : Fin 256) : num M s j * Real.exp (-m) / (Z M s t * Real.exp (-m)) = W M s t j := by
  unfold W; exact mul_div_mul_right _ _ (Real.exp_pos _).ne'
/-- The logarithm of the normaliser. -/
theorem log_shift : Ideal.log ((Z M s t * Real.exp (-m) : ℝ) : EReal) = ((Real.log (Z M s t) - m : ℝ) : EReal) := by
  rw [Ideal.log_coe, if_neg (not_le.mpr (mul_pos (Z_pos M s t) (Real.exp_pos _))),
    Real.log_mul (Z_pos M s t).ne' (Real.exp_pos _).ne', Real.log_exp, sub_eq_add_neg]
/-- A weight from the saved logarithm. -/
theorem exp_log (j : Fin 256) : Ideal.exp (Sc M s j - ((Real.log (Z M s t) : ℝ) : EReal)) = ((W M s t j : ℝ) : EReal) := by
  rw [exp_Sc, Real.exp_neg, Real.exp_log (Z_pos M s t)]; rfl
/-- The sink's weight from the saved logarithm. -/
theorem exp_log_sink : Ideal.exp ((t : EReal) - ((Real.log (Z M s t) : ℝ) : EReal)) = ((Ws M s t : ℝ) : EReal) := by
  rw [exp_sink, Real.exp_neg, Real.exp_log (Z_pos M s t)]; rfl

/-- The normaliser's cotangent, with the shifted exponentials. -/
def ctD (m : ℝ) : ℝ := -∑ j, dp j * (1 / ((Z M s t * Real.exp (-m)) * (Z M s t * Real.exp (-m)))) * (num M s j * Real.exp (-m))

theorem ctD_eq : ctD M s t dp m = -(delta M s t dp / (Z M s t * Real.exp (-m))) := by
  unfold ctD delta W
  rw [Finset.sum_div]
  congr 1
  refine Finset.sum_congr rfl fun j _ => ?_
  have hz := (Z_pos M s t).ne'; have he := (Real.exp_pos (-m)).ne'
  field_simp

/-- The scores' cotangent through the shifted exponentials. -/
theorem dS_shift (j : Fin 256) :
    (dp j / (Z M s t * Real.exp (-m)) + ctD M s t dp m) * (num M s j * Real.exp (-m)) = dS M s t dp j := by
  rw [ctD_eq]; unfold dS W
  have hz := (Z_pos M s t).ne'; have he := (Real.exp_pos (-m)).ne'
  field_simp
  ring
/-- The sink's cotangent through the shifted exponentials. -/
theorem sink_shift : ctD M s t dp m * (Real.exp t * Real.exp (-m)) = -(Ws M s t * delta M s t dp) := by
  rw [ctD_eq]; unfold Ws
  have hz := (Z_pos M s t).ne'; have he := (Real.exp_pos (-m)).ne'
  field_simp
/-- The maximum's cotangent is zero. -/
theorem max_shift : -(ctD M s t dp m * (Real.exp t * Real.exp (-m)))
    + ∑ j, -((dp j / (Z M s t * Real.exp (-m)) + ctD M s t dp m) * (num M s j * Real.exp (-m))) = 0 := by
  simp only [dS_shift, sink_shift]
  have h : ∑ j, dS M s t dp j = delta M s t dp - (∑ j, W M s t j) * delta M s t dp := by
    unfold dS; simp only [mul_sub, Finset.sum_sub_distrib, Finset.sum_mul]; rfl
  have hw : (∑ j, W M s t j) + Ws M s t = 1 := by
    unfold W Ws; rw [← Finset.sum_div, ← add_div]; exact div_self (Z_pos M s t).ne'
  rw [Finset.sum_neg_distrib, h]
  have : Ws M s t = 1 - ∑ j, W M s t j := by linarith
  rw [this]; ring

theorem dS_masked (j : Fin 256) (h : ¬ M j) : dS M s t dp j = 0 := by unfold dS W num; rw [if_neg h]; simp
theorem W_masked (j : Fin 256) (h : ¬ M j) : W M s t j = 0 := by unfold W num; rw [if_neg h]; simp

end Cert.AttnMath

namespace Cert.AttnReal

open Idealize.ShloMosaic AttnMath

/-- Which of the 256 keys row `r` of block `n` sees: the last 128 up to its own; block 0 has no block before it. -/
abbrev M (n r : ℕ) (j : Fin 256) : Prop := (r < j.val ∧ j.val ≤ r + 128) ∧ (0 < n ∨ 128 ≤ j.val)

section Defs

variable (q k v : ℕ → ℕ → ℝ) (t : ℕ → ℝ) (c : ℕ → ℕ → ℝ)

/-- Row `r` of block `n`, head `h` of group `g`. -/
def heads (n g h r d : ℕ) : ℝ := q (n * 128 + r) (g * 256 + h * 64 + d)
/-- The block before and the block itself; zeros before block 0. -/
def band (n g j d : ℕ) : ℝ := if n = 0 ∧ j < 128 then 0 else k (n * 128 + j - 128) (g * 64 + d)
/-- The scaled scores. -/
def S (n g h r : ℕ) (j : Fin 256) : ℝ := (∑ d : Fin 64, heads q n g h r d * band k n g j d) * 0.125
/-- The weights. -/
def P (n g h r : ℕ) : Fin 256 → ℝ := W (M n r) (S q k n g h r) (t (g * 4 + h))
/-- The weights' cotangents. -/
def DP (n g h r : ℕ) (j : Fin 256) : ℝ := ∑ d : Fin 64, heads c n g h r d * band v n g j d
/-- The scaled scores' cotangents. -/
def DS (n g h r : ℕ) (j : Fin 256) : ℝ := dS (M n r) (S q k n g h r) (t (g * 4 + h)) (DP v c n g h r) j * 0.125
/-- The output. -/
def O (n g h r d : ℕ) : ℝ := ∑ j : Fin 256, P q k t n g h r j * band v n g j d
/-- The queries' gradient. -/
def DQ (n g h r d : ℕ) : ℝ := ∑ j : Fin 256, DS q k v t c n g h r j * band k n g j d
/-- The gradient of a band's keys. -/
def KB (n g : ℕ) (j : Fin 256) (d : ℕ) : ℝ := ∑ h : Fin 4, ∑ r : Fin 128, DS q k v t c n g h r j * heads q n g h r d
/-- The gradient of a band's values. -/
def VB (n g : ℕ) (j : Fin 256) (d : ℕ) : ℝ := ∑ h : Fin 4, ∑ r : Fin 128, P q k t n g h r j * heads c n g h r d
/-- A block's own part of a band and the next band's first part. -/
def fold (f : ℕ → Fin 256 → ℝ) (n : ℕ) (r : Fin 128) : ℝ :=
  f n ⟨r + 128, by omega⟩ + (if n < 15 then f (n + 1) ⟨r, by omega⟩ else 0)
/-- The sinks' gradient. -/
def DT (g h : ℕ) : ℝ := -∑ n : Fin 16, ∑ r : Fin 128,
  Ws (M n r) (S q k n g h r) (t (g * 4 + h)) * delta (M n r) (S q k n g h r) (t (g * 4 + h)) (DP v c n g h r)

end Defs

/-! ## Masks by words -/

theorem bit_of_holds {b : BitVec 1} (p : Prop) [Decidable p] (h : p → Affine.Holds b) (h' : ¬ p → Affine.Fails b) :
    b = if p then 1#1 else 0#1 := by
  split
  · exact h ‹_›
  · rename_i hp
    exact (BitVec.eq_zero_or_eq_one b).resolve_right (h' hp)

/-- A signed `≥` of two words read as integers. -/
theorem sge_bit {a b : BitVec 32} {x y : ℤ} (ha : Affine.IsInt a x) (hb : Affine.IsInt b y) :
    Scalar.cmpi .sge a b = if y ≤ x then 1#1 else 0#1 := bit_of_holds _ (Affine.sge_holds ha hb) (Affine.sge_fails ha hb)
/-- A signed `<`. -/
theorem slt_bit {a b : BitVec 32} {x y : ℤ} (ha : Affine.IsInt a x) (hb : Affine.IsInt b y) :
    Scalar.cmpi .slt a b = if x < y then 1#1 else 0#1 := bit_of_holds _ (Affine.slt_holds ha hb) (Affine.slt_fails ha hb)
/-- A signed `>`. -/
theorem sgt_bit {a b : BitVec 32} {x y : ℤ} (ha : Affine.IsInt a x) (hb : Affine.IsInt b y) :
    Scalar.cmpi .sgt a b = if y < x then 1#1 else 0#1 := bit_of_holds _ (Affine.sgt_holds ha hb) (Affine.sgt_fails ha hb)
/-- A signed `≤`. -/
theorem sle_bit {a b : BitVec 32} {x y : ℤ} (ha : Affine.IsInt a x) (hb : Affine.IsInt b y) :
    Scalar.cmpi .sle a b = if x ≤ y then 1#1 else 0#1 := bit_of_holds _ (Affine.sle_holds ha hb) (Affine.sle_fails ha hb)

theorem and_bit (p q : Prop) [Decidable p] [Decidable q] :
    (if p then 1#1 else 0#1) &&& (if q then 1#1 else 0#1) = if p ∧ q then 1#1 else 0#1 := by
  by_cases p <;> by_cases q <;> simp_all
theorem or_bit (p q : Prop) [Decidable p] [Decidable q] :
    (if p then 1#1 else 0#1) ||| (if q then 1#1 else 0#1) = if p ∨ q then 1#1 else 0#1 := by
  by_cases p <;> by_cases q <;> simp_all
theorem bit_congr {p q : Prop} [Decidable p] [Decidable q] (h : p ↔ q) : (if p then 1#1 else 0#1) = if q then 1#1 else 0#1 := by
  simp only [h]

end Cert.AttnReal

namespace Cert.AttnRefRead

open AttnRefIdeal AttnRefIdeal.Gen AttnRefIdeal.Read
open Idealize.ShloMosaic Idealize.ShloMosaic.TcCoe AttnReal AttnMath Reals

/-- A matrix of reals as an array. -/
def mat {n m : ℕ} (x : ℕ → ℕ → ℝ) : (⟨2, ![n, m]⟩ : Shape).Idx → EReal := fun i => ((x (i 0).val (i 1).val : ℝ) : EReal)
/-- A vector of reals as an array. -/
def vec {n : ℕ} (x : ℕ → ℝ) : (⟨1, ![n]⟩ : Shape).Idx → EReal := fun i => ((x (i 0).val : ℝ) : EReal)

variable (q k v : ℕ → ℕ → ℝ) (t : ℕ → ℝ) (c : ℕ → ℕ → ℝ)

theorem zero_f32 : (FloatOps.ofBits .f32 0x00000000#32 : Ideal .f32) = ((0 : ℝ) : EReal) := by
  show Ideal.ofBits .f32 0x00000000#32 = _
  simp [Ideal.ofBits, Ideal.ieee, -EReal.coe_mul]
theorem one_f32 : (FloatOps.ofBits .f32 0x3F800000#32 : Ideal .f32) = ((1 : ℝ) : EReal) := by
  show Ideal.ofBits .f32 0x3F800000#32 = _
  simp [Ideal.ofBits, Ideal.ieee, -EReal.coe_mul]; norm_num
theorem half_f32 : (FloatOps.ofBits .f32 0x3F000000#32 : Ideal .f32) = ((0.5 : ℝ) : EReal) := by
  show Ideal.ofBits .f32 0x3F000000#32 = _
  simp [Ideal.ofBits, Ideal.ieee, -EReal.coe_mul]; norm_num
theorem eighth_f32 : (FloatOps.ofBits .f32 0x3E000000#32 : Ideal .f32) = ((0.125 : ℝ) : EReal) := by
  show Ideal.ofBits .f32 0x3E000000#32 = _
  simp [Ideal.ofBits, Ideal.ieee, -EReal.coe_mul]; norm_num
theorem ninf_f32 : (FloatOps.ofBits .f32 0xFF800000#32 : Ideal .f32) = (⊥ : EReal) := by
  show Ideal.ofBits .f32 0xFF800000#32 = _
  simp [Ideal.ofBits, Ideal.ieee, -EReal.coe_mul]

/-! ## The arguments by blocks -/

theorem r0 (i : S16x128x4x4x64.Idx) :
    val_main_v0 (F := Ideal) (mat q) i = ((heads q (i 0).val (i 2).val (i 3).val (i 1).val (i 4).val : ℝ) : EReal) := by
  have h0 : (i 0).val < 16 := (i 0).isLt; have h1 : (i 1).val < 128 := (i 1).isLt; have h2 : (i 2).val < 4 := (i 2).isLt
  have h3 : (i 3).val < 4 := (i 3).isLt; have h4 : (i 4).val < 64 := (i 4).isLt
  rw [val_main_v0_apply]
  unfold mat heads
  congr 2 <;> dsimp only <;> omega

theorem r1 (i : S16x128x4x64.Idx) :
    val_main_v1 (F := Ideal) (mat k) i = ((k ((i 0).val * 128 + (i 1).val) ((i 2).val * 64 + (i 3).val) : ℝ) : EReal) := by
  have h0 : (i 0).val < 16 := (i 0).isLt; have h1 : (i 1).val < 128 := (i 1).isLt; have h2 : (i 2).val < 4 := (i 2).isLt
  have h3 : (i 3).val < 64 := (i 3).isLt
  rw [val_main_v1_apply]
  unfold mat
  congr 2 <;> dsimp only <;> omega

/-- The block before, zeros before block 0. -/
theorem r5 (i : S16x128x4x64.Idx) : val_main_v5 (F := Ideal) (mat k) i
    = ((if (i 0).val = 0 then 0 else k ((i 0).val * 128 - 128 + (i 1).val) ((i 2).val * 64 + (i 3).val) : ℝ) : EReal) := by
  unfold val_main_v5
  have h0 : (i 0).val < 16 := (i 0).isLt
  by_cases h : (i 0).val = 0
  · rw [if_pos h]
    refine (concatenate_pair_apply_left (s₁ := S1x128x4x64) (s₂ := S15x128x4x64) (t := S16x128x4x64) 0 _ _ _ i rfl (fun b => match b with | ⟨0, _⟩ => ⟨0, by show 0 < 1; omega⟩ | ⟨1, _⟩ => i 1 | ⟨2, _⟩ => i 2 | ⟨3, _⟩ => i 3 : S1x128x4x64.Idx) ?_).trans ?_
    · intro b; match b with | ⟨0, _⟩ => exact h.symm | ⟨1, _⟩ => rfl | ⟨2, _⟩ => rfl | ⟨3, _⟩ => rfl
    · rw [val_main_v3_apply]; exact zero_f32
  · rw [if_neg h]
    refine (concatenate_pair_apply_right (s₁ := S1x128x4x64) (s₂ := S15x128x4x64) (t := S16x128x4x64) 0 _ _ _ i rfl rfl (fun b => match b with | ⟨0, _⟩ => ⟨(i 0).val - 1, by show _ < 15; omega⟩ | ⟨1, _⟩ => i 1 | ⟨2, _⟩ => i 2 | ⟨3, _⟩ => i 3 : S15x128x4x64.Idx) ?_ ?_).trans ?_
    · intro b hb; match b with | ⟨0, _⟩ => exact absurd rfl hb | ⟨1, _⟩ => rfl | ⟨2, _⟩ => rfl | ⟨3, _⟩ => rfl
    · show (i 0).val - 1 + 1 = _; omega
    · rw [val_main_v4_apply, r1]
      congr 2; dsimp only; omega

/-- The bands of keys. -/
theorem r7 (i : S16x256x4x64.Idx) :
    val_main_v7 (F := Ideal) (mat k) i = ((band k (i 0).val (i 2).val (i 1).val (i 3).val : ℝ) : EReal) := by
  unfold val_main_v7
  have h1 : (i 1).val < 256 := (i 1).isLt
  by_cases h : (i 1).val < 128
  · refine (concatenate_pair_apply_left (s₁ := S16x128x4x64) (s₂ := S16x128x4x64) (t := S16x256x4x64) 1 _ _ _ i rfl (fun b => match b with | ⟨0, _⟩ => i 0 | ⟨1, _⟩ => ⟨(i 1).val, h⟩ | ⟨2, _⟩ => i 2 | ⟨3, _⟩ => i 3 : S16x128x4x64.Idx) ?_).trans ?_
    · intro b; match b with | ⟨0, _⟩ => rfl | ⟨1, _⟩ => rfl | ⟨2, _⟩ => rfl | ⟨3, _⟩ => rfl
    · rw [r5]; unfold band; dsimp only
      by_cases h0 : (i 0).val = 0
      · rw [if_pos h0, if_pos ⟨h0, h⟩]
      · rw [if_neg h0, if_neg (fun h' => h0 h'.1)]; congr 2; omega
  · refine (concatenate_pair_apply_right (s₁ := S16x128x4x64) (s₂ := S16x128x4x64) (t := S16x256x4x64) 1 _ _ _ i rfl rfl (fun b => match b with | ⟨0, _⟩ => i 0 | ⟨1, _⟩ => ⟨(i 1).val - 128, by show _ < 128; omega⟩ | ⟨2, _⟩ => i 2 | ⟨3, _⟩ => i 3 : S16x128x4x64.Idx) ?_ ?_).trans ?_
    · intro b hb; match b with | ⟨0, _⟩ => rfl | ⟨1, _⟩ => exact absurd rfl hb | ⟨2, _⟩ => rfl | ⟨3, _⟩ => rfl
    · show (i 1).val - 128 + 128 = _; omega
    · rw [r1]; unfold band; dsimp only
      rw [if_neg (fun h' => h h'.2)]; congr 2; omega

/-- The bands of values: the same operations. -/
theorem r14 (i : S16x256x4x64.Idx) :
    val_main_v14 (F := Ideal) (mat v) i = ((band v (i 0).val (i 2).val (i 1).val (i 3).val : ℝ) : EReal) :=
  r7 v i

/-- The cotangent by blocks and heads. -/
theorem r97 (i : S16x4x64x4x128.Idx) :
    val_main_v97 (F := Ideal) (mat c) i = ((heads c (i 0).val (i 1).val (i 3).val (i 4).val (i 2).val : ℝ) : EReal) := by
  have h0 : (i 0).val < 16 := (i 0).isLt; have h1 : (i 1).val < 4 := (i 1).isLt; have h2 : (i 2).val < 64 := (i 2).isLt
  have h3 : (i 3).val < 4 := (i 3).isLt; have h4 : (i 4).val < 128 := (i 4).isLt
  rw [val_main_v97_apply, val_main_v96_apply, val_main_v95_apply]
  unfold mat heads
  congr 2 <;> dsimp only <;> omega

/-! ## Scores and mask -/

/-- The scores before the mask. -/
theorem r18 (i : S16x4x4x128x256.Idx) : val_main_v18 (F := Ideal) (mat q) (mat k) i
    = ((S q k (i 0).val (i 1).val (i 2).val (i 3).val (i 4) : ℝ) : EReal) := by
  rw [val_main_v18_apply, val_main_v16_apply, val_main_v15_apply, val_main_v17_apply]
  simp only [r7, r0, val_main_cst_3_apply, eighth_f32]
  simp only [← EReal.coe_mul, sum_coe]
  show ((((∑ _, _ : ℝ) * 0.125 : ℝ)) : EReal) = _
  unfold S
  congr 2
  exact Finset.sum_congr rfl fun d _ => mul_comm _ _

/-- The mask. -/
theorem r48 (i : S16x4x4x128x256.Idx) :
    val_main_v48_1 (F := Ideal) i = if M (i 0).val (i 3).val (i 4) then 1#1 else 0#1 := by
  have h0 : (i 0).val < 16 := (i 0).isLt; have h3 : (i 3).val < 128 := (i 3).isLt; have h4 : (i 4).val < 256 := (i 4).isLt
  rw [val_main_v48_1_apply, val_main_v47_apply, val_main_v46_apply, val_main_v45_apply, val_main_v44_apply,
    val_main_v43_apply, val_main_v42_apply, val_main_v41_apply, val_main_v40_apply, val_main_v39_apply,
    val_main_v38_apply, val_main_v37_apply, val_main_v36_apply, val_main_v35_apply, val_main_v34_apply,
    val_main_v33_apply, val_main_v32_apply, val_main_v31_apply, val_main_v30_apply, val_main_v29_apply,
    val_main_v28_apply, val_main_v27_apply, val_main_v26_apply, val_main_v25_apply, val_main_v24_apply,
    val_main_v23_apply, val_main_v22_apply, val_main_v21_apply, val_main_v20_apply, val_main_v19_apply]
  have hd : Affine.IsInt (Scalar.subi (Scalar.addi (BitVec.ofNat 32 (i 3).val) 128#32) (BitVec.ofNat 32 (i 4).val))
      ((i 3).val + 128 - (i 4).val) :=
    Affine.subi (ea := (i 3).val + 128) (eb := (i 4).val)
      (Affine.addi (ea := (i 3).val) (eb := 128) (Affine.ofNat _ ⟨rfl, by omega⟩) (Affine.ofNat 128 ⟨rfl, by omega⟩) ⟨rfl, by omega, by omega⟩)
      (Affine.ofNat _ ⟨rfl, by omega⟩) ⟨rfl, by omega, by omega⟩
  show (Scalar.cmpi .sge (Scalar.subi (Scalar.addi (BitVec.ofNat 32 (i 3).val) 128#32) (BitVec.ofNat 32 (i 4).val)) 0#32
      &&& Scalar.cmpi .slt (Scalar.subi (Scalar.addi (BitVec.ofNat 32 (i 3).val) 128#32) (BitVec.ofNat 32 (i 4).val)) 128#32)
    &&& (Scalar.cmpi .sgt (BitVec.ofNat 32 (i 0).val) 0#32 ||| Scalar.cmpi .sge (BitVec.ofNat 32 (i 4).val) 128#32) = _
  rw [sge_bit hd (Affine.ofNat 0 ⟨rfl, by omega⟩), slt_bit hd (Affine.ofNat 128 ⟨rfl, by omega⟩),
    sgt_bit (Affine.ofNat _ ⟨rfl, by omega⟩) (Affine.ofNat 0 ⟨rfl, by omega⟩),
    sge_bit (Affine.ofNat _ ⟨rfl, by omega⟩) (Affine.ofNat 128 ⟨rfl, by omega⟩), and_bit, or_bit, and_bit]
  refine bit_congr ?_
  omega

/-- The masked scores. -/
theorem r48s (i : S16x4x4x128x256.Idx) : val_main_v48_0 (F := Ideal) (mat q) (mat k) i
    = Sc (M (i 0).val (i 3).val) (S q k (i 0).val (i 1).val (i 2).val (i 3).val) (i 4) := by
  rw [val_main_v48_0_apply, r48, r18, val_main_call0_v2_apply, val_main_call0_v0_apply, val_main_cst_8_apply, ninf_f32]
  unfold Sc
  by_cases h : M (i 0).val (i 3).val (i 4)
  · rw [if_pos h, if_pos h]; rfl
  · rw [if_neg h, if_neg h]; rfl

end Cert.AttnRefRead

end
-- ==== Proof.AttnTrip.lean ====
/-
  One trip of the attention kernels over the reals: the stacked rows of four heads, the band of keys, the mask, the
  scores, and what the forward and the backward trip make of them.
-/
module

public import proofs.«01_k».proof.Proof.AttnKernel
public import proofs.«01_k».proof.Proof.AttnRef
public import Idealize.ShloMosaic.Lib.Pipeline.ValueKit
public import Idealize.ShloMosaic.Lib.Pointwise

@[expose] public section

set_option maxRecDepth 16384

noncomputable section

namespace Cert.AttnValue

open AttnIdeal AttnIdeal.Gen
open Idealize.ShloMosaic Idealize.ShloMosaic.TcCoe
open Idealize.ShloMosaic.VecWindow (window put)
open AttnReal AttnMath Reals

/-! ## Blocks of real arrays -/

/-- Columns `256 g` to `256 g + 255` of a real array. -/
def Rows (f : ℕ → ℕ → ℝ) (g : ℕ) (x : S2048x256.Idx → EReal) : Prop :=
  ∀ y, x y = ((f (y 0).val (g * 256 + (y 1).val) : ℝ) : EReal)
/-- Columns `64 g` to `64 g + 63` of a real array. -/
def Cols (f : ℕ → ℕ → ℝ) (g : ℕ) (x : S1x2048x64.Idx → EReal) : Prop :=
  ∀ y, x y = ((f (y 1).val (g * 64 + (y 2).val) : ℝ) : EReal)

theorem win_rows {f : ℕ → ℕ → ℝ} {g : ℕ} {x : S2048x256.Idx → EReal} (hx : Rows f g x) {off : Fin S2048x256.rank → ℕ} {R C : ℕ}
    (ho : off = ![R, C]) (inb : ∀ a, off a + S128x64.size a ≤ S2048x256.size a) (y : S128x64.Idx) :
    window x off S128x64.size inb y = ((f (R + (y 0).val) (g * 256 + (C + (y 1).val)) : ℝ) : EReal) := by
  subst ho
  unfold window
  rw [hx]
  refine congrArg _ (congrArg₂ f ?_ ?_)
  · show R + 1 * (y 0).val = _; omega
  · show g * 256 + (C + 1 * (y 1).val) = _; omega

theorem win_cols {f : ℕ → ℕ → ℝ} {g : ℕ} {x : S1x2048x64.Idx → EReal} (hx : Cols f g x) {off : Fin S1x2048x64.rank → ℕ} {R : ℕ}
    (ho : off = ![0, R, 0]) (inb : ∀ a, off a + S1x128x64.size a ≤ S1x2048x64.size a) (y : S1x128x64.Idx) :
    window x off S1x128x64.size inb y = ((f (R + (y 1).val) (g * 64 + (y 2).val) : ℝ) : EReal) := by
  subst ho
  unfold window
  rw [hx]
  refine congrArg _ (congrArg₂ f ?_ ?_)
  · show R + 1 * (y 1).val = _; omega
  · show g * 64 + (0 + 1 * (y 2).val) = _; omega

/-- Four tiles stacked. -/
theorem stack_apply {α : Type} (T0 T1 T2 T3 : S128x64.Idx → α) (h) (i : S512x64.Idx) :
    concatenate S512x64 0 [⟨S128x64, T0⟩, ⟨S128x64, T1⟩, ⟨S128x64, T2⟩, ⟨S128x64, T3⟩] h i
      = pick T0 T1 T2 T3 (⟨(i 0).val / 128, by have : (i 0).val < 512 := (i 0).isLt; omega⟩ : Fin 4)
          (ix2 (⟨(i 0).val % 128, Nat.mod_lt _ (by omega)⟩ : Fin 128) (i 1)) := by
  have h0 : (i 0).val < 512 := (i 0).isLt
  pointwise
  have hcase : (i 0).val / 128 = 0 ∨ (i 0).val / 128 = 1 ∨ (i 0).val / 128 = 2 ∨ (i 0).val / 128 = 3 := by omega
  have hp : ∀ (m : Fin 4) (hm : (i 0).val / 128 < 4), (i 0).val / 128 = m.val →
      ∀ y, pick T0 T1 T2 T3 ⟨(i 0).val / 128, hm⟩ y = pick T0 T1 T2 T3 m y := by
    intro m hm e y
    exact congrArg (fun z : Fin 4 => pick T0 T1 T2 T3 z y) (Fin.ext e)
  rcases hcase with e | e | e | e
  · rw [dif_pos (show (i 0).val < 128 by omega), hp 0 _ e]
    exact congrArg T0 (congrArg (fun z : Fin 128 => ix2 z (i 1)) (Fin.ext (show (i 0).val = (i 0).val % 128 by omega)))
  · rw [dif_neg (show ¬ (i 0).val < 128 by omega), dif_pos (show (i 0).val - 128 < 128 by omega), hp 1 _ e]
    exact congrArg T1 (congrArg (fun z : Fin 128 => ix2 z (i 1)) (Fin.ext (show (i 0).val - 128 = (i 0).val % 128 by omega)))
  · rw [dif_neg (show ¬ (i 0).val < 128 by omega), dif_neg (show ¬ (i 0).val - 128 < 128 by omega),
      dif_pos (show (i 0).val - 128 - 128 < 128 by omega), hp 2 _ e]
    exact congrArg T2 (congrArg (fun z : Fin 128 => ix2 z (i 1)) (Fin.ext (show (i 0).val - 128 - 128 = (i 0).val % 128 by omega)))
  · rw [dif_neg (show ¬ (i 0).val < 128 by omega), dif_neg (show ¬ (i 0).val - 128 < 128 by omega),
      dif_neg (show ¬ (i 0).val - 128 - 128 < 128 by omega), hp 3 _ e]
    exact congrArg T3 (congrArg (fun z : Fin 128 => ix2 z (i 1)) (Fin.ext (show (i 0).val - 128 - 128 - 128 = (i 0).val % 128 by omega)))

/-- The rows' mask of a stacked row. -/
theorem rowWord (i : S512x256.Idx) : k1_pay29 i = BitVec.ofNat 32 ((i 0).val % 128) := by
  have key : ∀ a : Fin 512, k1_pay29 (ix2 a 0) = BitVec.ofNat 32 (a.val % 128) := by
    decide +kernel
  exact key (i 0)

/-- The masked keys of the block itself. -/
theorem ownWord (i : S512x256.Idx) : k1_pay30 i = if 128 ≤ (i 1).val ∧ (i 1).val ≤ (i 0).val % 128 + 128 then 1#1 else 0#1 := by
  have h0 : (i 0).val < 512 := (i 0).isLt
  have h1 : (i 1).val < 256 := (i 1).isLt
  have hr := rowWord i
  unfold k1_pay30
  generalize (k1_pay29 : IVec S512x256 32) = w at hr
  pointwise
  rw [hr]
  have e1 : IntOp.cmpi .sge (BitVec.ofNat 32 (i 1).val) 128#32 = if (128 : ℤ) ≤ (i 1).val then 1#1 else 0#1 :=
    sge_bit (Affine.ofNat _ ⟨rfl, by omega⟩) (Affine.ofNat 128 ⟨rfl, by omega⟩)
  have e2 : IntOp.cmpi .sle (IntOp.subi (BitVec.ofNat 32 (i 1).val) 128#32) (BitVec.ofNat 32 ((i 0).val % 128))
      = if ((i 1).val : ℤ) - 128 ≤ ((i 0).val % 128 : ℕ) then 1#1 else 0#1 :=
    sle_bit (Affine.subi (ea := (i 1).val) (eb := 128) (Affine.ofNat _ ⟨rfl, by omega⟩) (Affine.ofNat 128 ⟨rfl, by omega⟩)
      ⟨rfl, by omega, by omega⟩) (Affine.ofNat _ ⟨rfl, by omega⟩)
  rw [e1, e2]
  exact (and_bit _ _).trans (bit_congr (by omega))

/-- The masked keys of the block before. -/
theorem prevWord (i : S512x256.Idx) : k1_pay31 i = if (i 1).val < 128 ∧ (i 0).val % 128 < (i 1).val then 1#1 else 0#1 := by
  have h0 : (i 0).val < 512 := (i 0).isLt
  have h1 : (i 1).val < 256 := (i 1).isLt
  have hr := rowWord i
  unfold k1_pay31
  generalize (k1_pay29 : IVec S512x256 32) = w at hr
  pointwise
  rw [hr]
  have e1 : IntOp.cmpi .slt (BitVec.ofNat 32 (i 1).val) 128#32 = if ((i 1).val : ℤ) < 128 then 1#1 else 0#1 :=
    slt_bit (Affine.ofNat _ ⟨rfl, by omega⟩) (Affine.ofNat 128 ⟨rfl, by omega⟩)
  have e2 : IntOp.cmpi .sgt (BitVec.ofNat 32 (i 1).val) (BitVec.ofNat 32 ((i 0).val % 128))
      = if ((((i 0).val % 128 : ℕ) : ℤ)) < (i 1).val then 1#1 else 0#1 :=
    sgt_bit (Affine.ofNat _ ⟨rfl, by omega⟩) (Affine.ofNat _ ⟨rfl, by omega⟩)
  rw [e1, e2]
  exact (and_bit _ _).trans (bit_congr (by omega))

/-- The head of a stacked row. -/
theorem headWord (i : S512x1.Idx) : k1_pay34 i = BitVec.ofNat 32 ((i 0).val / 128) := by
  have key : ∀ a : Fin 512, k1_pay34 (ix2 a 0) = BitVec.ofNat 32 (a.val / 128) := by
    decide +kernel
  have e : i = ix2 (i 0) 0 := by
    funext b
    match b with
    | ⟨0, _⟩ => rfl
    | ⟨1, _⟩ => exact Fin.ext (by have : (i 1).val < 1 := (i 1).isLt; show (i 1).val = 0; omega)
  rw [e]
  exact key (i 0)

/-- A select by a decided bit. -/
theorem select_bit {α : Type} (p : Prop) [Decidable p] (a b : α) : Scalar.select (if p then 1#1 else 0#1) a b = if p then a else b := by
  unfold Scalar.select
  split <;> simp

theorem eighth : (Ideal.ofBits .f32 0x3E000000#32) = ((0.125 : ℝ) : EReal) := by
  simp [Ideal.ofBits, Ideal.ieee, -EReal.coe_mul]; norm_num

/-- The mask's named constant is minus infinity. -/
theorem masked : (Named.named (F := Ideal) κ "mask" (φ := .f32) 0xF149F2CA#32) = (⊥ : EReal) :=
  IdealRules.named_const.ideal_named_scalar _ _ _ _ rfl

section Trip

variable (q k v : ℕ → ℕ → ℝ) (t : ℕ → ℝ) (c : ℕ → ℕ → ℝ) (g : ℕ)
  (x2 : Vec Ideal S2048x256 .bf16) (x3 x4 : Vec Ideal S1x2048x64 .bf16) (x5 x6 : Vec Ideal S2048x256 .f32) (x7 : Vec Ideal S1x2048x4 .f32)
  (n : Fin k1_t1_loop.trips)

/-- The band as the kernel reads it: block 0 reads its own rows for the block before it. -/
def bandc (n g j d : ℕ) : ℝ := if n = 0 ∧ j < 128 then k j (g * 64 + d) else k (n * 128 + j - 128) (g * 64 + d)

theorem bandc_eq (n g r : ℕ) (j : Fin 256) (d : ℕ) (h : AttnReal.M n r j) : bandc k n g j.val d = band k n g j.val d := by
  have hn : ¬ (n = 0 ∧ j.val < 128) := fun e => by rcases h.2 with h | h <;> omega
  unfold bandc band
  rw [if_neg hn, if_neg hn]

/-- A band's block before, by the trip's window. -/
theorem w5_apply (h3 : Cols k g x3) (a : Fin 128) (d : Fin 64) :
    w5 n x3 (ix3 0 a d) = ((k (128 * (n.val - 1) + a.val) (g * 64 + d.val) : ℝ) : EReal) :=
  win_cols h3 (off5_eq n) (k1_off5_inb n) _
/-- A band's own block. -/
theorem w6_apply (h3 : Cols k g x3) (a : Fin 128) (d : Fin 64) :
    w6 n x3 (ix3 0 a d) = ((k (128 * n.val + a.val) (g * 64 + d.val) : ℝ) : EReal) :=
  win_cols h3 (k1_off6_eq n) (k1_off6_inb n) _

/-- The two blocks put one under the other. -/
theorem pair_apply (X Y : S1x128x64.Idx → EReal) (hX : ∀ a d, X (ix3 0 a d) = ((k (128 * (n.val - 1) + a.val) (g * 64 + d.val) : ℝ) : EReal))
    (hY : ∀ a d, Y (ix3 0 a d) = ((k (128 * n.val + a.val) (g * 64 + d.val) : ℝ) : EReal)) (i : S256x64.Idx) :
    k1_pay10 (F := Ideal) X Y i = ((bandc k n.val g (i 0).val (i 1).val : ℝ) : EReal) := by
  have h0 : (i 0).val < 256 := (i 0).isLt
  unfold k1_pay10
  pointwise
  by_cases a : (i 0).val < 128
  · rw [dif_pos a]
    refine (hX _ _).trans (congrArg _ ?_)
    by_cases b : n.val = 0
    · refine Eq.trans (congrArg₂ k ?_ rfl) (if_pos (⟨b, a⟩ : n.val = 0 ∧ (i 0).val < 128)).symm
      show 128 * (n.val - 1) + (i 0).val = _; omega
    · refine Eq.trans (congrArg₂ k ?_ rfl) (if_neg (fun e : n.val = 0 ∧ (i 0).val < 128 => b e.1)).symm
      show 128 * (n.val - 1) + (i 0).val = _; omega
  · rw [dif_neg a]
    refine (hY _ _).trans (congrArg _ ?_)
    refine Eq.trans (congrArg₂ k ?_ rfl) (if_neg (fun e : n.val = 0 ∧ (i 0).val < 128 => a e.2)).symm
    show 128 * n.val + ((i 0).val - 128) = _; omega

theorem kcOf_apply (h3 : Cols k g x3) (i : S256x64.Idx) : kcOf n x3 i = ((bandc k n.val g (i 0).val (i 1).val : ℝ) : EReal) :=
  pair_apply k g n _ _ (w5_apply k g x3 n h3) (w6_apply k g x3 n h3) i
theorem vcOf_apply (h4 : Cols v g x4) (i : S256x64.Idx) : vcOf n x4 i = ((bandc v n.val g (i 0).val (i 1).val : ℝ) : EReal) :=
  pair_apply v g n _ _ (w5_apply v g x4 n h4) (w6_apply v g x4 n h4) i

/-- Four tiles of a trip's rows. -/
theorem pick_heads (x : S2048x256.Idx → EReal) (h2 : Rows q g x) (m : Fin 4) (a : Fin 128) (d : Fin 64) :
    pick (window x (k1_off7 n) S128x64.size (k1_off7_inb n)) (window x (k1_off8 n) S128x64.size (k1_off8_inb n))
      (window x (k1_off9 n) S128x64.size (k1_off9_inb n)) (window x (k1_off10 n) S128x64.size (k1_off10_inb n)) m (ix2 a d)
      = ((heads q n.val g m.val a.val d.val : ℝ) : EReal) := by
  unfold heads
  match m with
  | 0 => refine (win_rows h2 (k1_off7_eq n) _ _).trans (congrArg _ (congrArg₂ q ?_ ?_))
         · show 128 * n.val + a.val = _; omega
         · show g * 256 + (0 + d.val) = g * 256 + 0 * 64 + d.val; omega
  | 1 => refine (win_rows h2 (k1_off8_eq n) _ _).trans (congrArg _ (congrArg₂ q ?_ ?_))
         · show 128 * n.val + a.val = _; omega
         · show g * 256 + (64 + d.val) = g * 256 + 1 * 64 + d.val; omega
  | 2 => refine (win_rows h2 (k1_off9_eq n) _ _).trans (congrArg _ (congrArg₂ q ?_ ?_))
         · show 128 * n.val + a.val = _; omega
         · show g * 256 + (128 + d.val) = g * 256 + 2 * 64 + d.val; omega
  | 3 => refine (win_rows h2 (k1_off10_eq n) _ _).trans (congrArg _ (congrArg₂ q ?_ ?_))
         · show 128 * n.val + a.val = _; omega
         · show g * 256 + (192 + d.val) = g * 256 + 3 * 64 + d.val; omega

theorem q4Of_apply (h2 : Rows q g x2) (i : S512x64.Idx) :
    q4Of n x2 i = ((heads q n.val g ((i 0).val / 128) ((i 0).val % 128) (i 1).val : ℝ) : EReal) := by
  unfold q4Of k1_pay12
  rw [stack_apply]
  simp only [shapeCast_self]
  exact pick_heads q g n x2 h2 _ _ _

theorem dobOf_apply (h6 : Rows c g x6) (i : S512x64.Idx) :
    dobOf n x6 i = ((heads c n.val g ((i 0).val / 128) ((i 0).val % 128) (i 1).val : ℝ) : EReal) := by
  unfold dobOf k1_pay15
  rw [Idealize.ShloMosaic.truncf_apply, k1_pay13, stack_apply]
  exact pick_heads c g n x6 h6 _ _ _

/-- The mask of a trip. -/
theorem maskOf (i : S512x256.Idx) :
    (IntOp.ori (k1_pay30 i) (IntOp.andi (k1_pay31 i) (Scalar.cmpi CmpIPredicate.sgt (Scf.iv 0#32 1#32 n.val) 0#32)))
      = if AttnReal.M n.val ((i 0).val % 128) (i 1) then 1#1 else 0#1 := by
  have hn : n.val < 16 := n.isLt
  have e : Scalar.cmpi CmpIPredicate.sgt (Scf.iv 0#32 1#32 n.val) 0#32 = if (0 : ℤ) < n.val then 1#1 else 0#1 :=
    sgt_bit (Affine.iv (ea := 0) (eb := 1) (Affine.ofNat 0 ⟨rfl, by omega⟩) (Affine.ofNat 1 ⟨rfl, by omega⟩) _ ⟨by omega, by omega, by omega⟩)
      (Affine.ofNat 0 ⟨rfl, by omega⟩)
  rw [ownWord, prevWord, e]
  refine ((congrArg _ (and_bit _ _)).trans (or_bit _ _)).trans (bit_congr ?_)
  have : (i 1).val < 256 := (i 1).isLt
  unfold AttnReal.M
  omega

theorem scOf_apply (h2 : Rows q g x2) (h3 : Cols k g x3) (i : S512x256.Idx) :
    scOf n k1_pay30 k1_pay31 x2 x3 i
      = Sc (AttnReal.M n.val ((i 0).val % 128)) (S q k n.val g ((i 0).val / 128) ((i 0).val % 128)) (i 1) := by
  unfold scOf
  have e3 := kcOf_apply k g x3 n h3
  generalize kcOf n x3 = y3 at e3
  have e2 := q4Of_apply q g x2 n h2
  generalize q4Of n x2 = y2 at e2
  have em := maskOf n i
  generalize (k1_pay30 : IVec S512x256 1) = m0 at em
  generalize (k1_pay31 : IVec S512x256 1) = m1 at em
  unfold k1_pay17
  pointwise
  rw [em]
  rw [select_bit, masked]
  simp only [e2, e3]
  unfold Sc
  by_cases hM : AttnReal.M n.val ((i 0).val % 128) (i 1)
  · rw [if_pos hM, if_pos hM, show (Ideal.ofBits .f32 1040187392#32) = ((0.125 : ℝ) : EReal) from eighth]
    simp only [← EReal.coe_mul, sum_coe]
    unfold S
    refine congrArg (fun z : ℝ => ((z * 0.125 : ℝ) : EReal)) (Finset.sum_congr rfl fun d _ => ?_)
    exact congrArg (_ * ·) (bandc_eq k _ _ _ _ _ hM)
  · rw [if_neg hM, if_neg hM]

/-- The saved log-sums of a trip. -/
theorem lseOf_apply (L : ℕ → ℕ → ℝ) (h7 : ∀ y, x7 y = ((L (y 1).val (y 2).val : ℝ) : EReal)) (i : S512x1.Idx) :
    lseOf n x7 i = ((L (n.val * 128 + (i 0).val % 128) ((i 0).val / 128) : ℝ) : EReal) := by
  have h0 : (i 0).val < 512 := (i 0).isLt
  have hw : ∀ (off : Fin S1x2048x4.rank → ℕ) (m : ℕ) (ho : off = ![0, 128 * n.val, m]) (inb) (a : Fin 128),
      window x7 off S1x128x1.size inb (ix3 0 a 0) = ((L (n.val * 128 + a.val) m : ℝ) : EReal) := by
    intro off m ho inb a
    subst ho
    unfold window
    rw [h7]
    refine congrArg _ (congrArg₂ L ?_ ?_)
    · show 128 * n.val + 1 * a.val = _; omega
    · show m + 1 * 0 = m; omega
  have h11 := hw _ 0 (k1_off11_eq n) (k1_off11_inb n)
  have h12 := hw _ 1 (k1_off12_eq n) (k1_off12_inb n)
  have h13 := hw _ 2 (k1_off13_eq n) (k1_off13_inb n)
  have h14 := hw _ 3 (k1_off14_eq n) (k1_off14_inb n)
  unfold lseOf
  change ∀ a, (w11 n x7) _ = _ at h11
  change ∀ a, (w12 n x7) _ = _ at h12
  change ∀ a, (w13 n x7) _ = _ at h13
  change ∀ a, (w14 n x7) _ = _ at h14
  unfold k1_pay16
  pointwise
  rcases (show (i 0).val / 128 = 0 ∨ (i 0).val / 128 = 1 ∨ (i 0).val / 128 = 2 ∨ (i 0).val / 128 = 3 by omega) with e | e | e | e
  · rw [dif_pos (show (i 0).val < 128 by omega), e]
    exact (h11 _).trans (congrArg _ (congrArg₂ L (congrArg (n.val * 128 + ·) (show (i 0).val = (i 0).val % 128 by omega)) rfl))
  · rw [dif_neg (show ¬ (i 0).val < 128 by omega), dif_pos (show (i 0).val - 128 < 128 by omega), e]
    exact (h12 _).trans (congrArg _ (congrArg₂ L (congrArg (n.val * 128 + ·) (show (i 0).val - 128 = (i 0).val % 128 by omega)) rfl))
  · rw [dif_neg (show ¬ (i 0).val < 128 by omega), dif_neg (show ¬ (i 0).val - 128 < 128 by omega),
      dif_pos (show (i 0).val - 128 - 128 < 128 by omega), e]
    exact (h13 _).trans (congrArg _ (congrArg₂ L (congrArg (n.val * 128 + ·) (show (i 0).val - 128 - 128 = (i 0).val % 128 by omega)) rfl))
  · rw [dif_neg (show ¬ (i 0).val < 128 by omega), dif_neg (show ¬ (i 0).val - 128 < 128 by omega),
      dif_neg (show ¬ (i 0).val - 128 - 128 < 128 by omega), e]
    exact (h14 _).trans (congrArg _ (congrArg₂ L (congrArg (n.val * 128 + ·) (show (i 0).val - 128 - 128 - 128 = (i 0).val % 128 by omega)) rfl))

/-- The same along the lanes. -/
theorem lsbOf_apply (L : ℕ → ℕ → ℝ) (h7 : ∀ y, x7 y = ((L (y 1).val (y 2).val : ℝ) : EReal)) (i : S512x256.Idx) :
    lsbOf n x7 i = ((L (n.val * 128 + (i 0).val % 128) ((i 0).val / 128) : ℝ) : EReal) := by
  have h := lseOf_apply x7 n L h7
  unfold lsbOf k1_pay18
  unfold lseOf at h
  generalize k1_pay16 _ _ _ _ = y at h
  pointwise
  exact h _

end Trip

end Cert.AttnValue

end
-- ==== Proof.AttnGrad.lean ====
/-
  One trip of the backward attention body over the reals: the weights, the scores' cotangents and the blocks of
  gradients they give.
-/
module

public import proofs.«01_k».proof.Proof.AttnTrip

@[expose] public section

set_option maxRecDepth 16384

noncomputable section

namespace Cert.AttnValue

open AttnIdeal AttnIdeal.Gen
open Idealize.ShloMosaic Idealize.ShloMosaic.TcCoe
open Idealize.ShloMosaic.VecWindow (window put)
open AttnReal AttnMath Reals

/-- A sum over the stacked rows, by head and row. -/
theorem sum_rows (f : Fin 512 → ℝ) (F : Fin 4 → Fin 128 → ℝ)
    (h : ∀ a : Fin 512, f a = F ⟨a.val / 128, by omega⟩ ⟨a.val % 128, Nat.mod_lt _ (by omega)⟩) :
    ∑ a, f a = ∑ h, ∑ r, F h r :=
  Fin.sum_divmod_congr (A := 4) (S := 128) (hN := rfl) fun a _ _ => h a

section Trip

variable (q k v : ℕ → ℕ → ℝ) (t : ℕ → ℝ) (c : ℕ → ℕ → ℝ) (g : ℕ)
  (x2 : Vec Ideal S2048x256 .bf16) (x3 x4 : Vec Ideal S1x2048x64 .bf16) (x5 x6 : Vec Ideal S2048x256 .f32) (x7 : Vec Ideal S1x2048x4 .f32)
  (n : Fin k1_t1_loop.trips)

/-- The output as a real array. -/
def OO (a b : ℕ) : ℝ := O q k v t (a / 128) (b / 256) (b / 64 % 4) (a % 128) (b % 64)
/-- The rows' log-sums, as a real array for one head group. -/
def LL (g a h : ℕ) : ℝ := Real.log (Z (AttnReal.M (a / 128) (a % 128)) (S q k (a / 128) g h (a % 128)) (t (g * 4 + h)))

/-- The mean of the weights' cotangents from the output. -/
theorem delta_eq (n g h r : ℕ) :
    ∑ d : Fin 64, heads c n g h r d.val * O q k v t n g h r d.val
      = delta (AttnReal.M n r) (S q k n g h r) (t (g * 4 + h)) (DP v c n g h r) := by
  unfold delta O DP P
  simp only [Finset.mul_sum]
  rw [Finset.sum_comm]
  refine Finset.sum_congr rfl fun j _ => Finset.sum_congr rfl fun d _ => ?_
  ring

theorem dltOf_apply (h5 : Rows (OO q k v t) g x5) (h6 : Rows c g x6) (i : S512x1.Idx) :
    dltOf n x5 x6 i = ((delta (AttnReal.M n.val ((i 0).val % 128)) (S q k n.val g ((i 0).val / 128) ((i 0).val % 128))
      (t (g * 4 + (i 0).val / 128)) (DP v c n.val g ((i 0).val / 128) ((i 0).val % 128)) : ℝ) : EReal) := by
  have h0 : (i 0).val < 512 := (i 0).isLt
  have e6 : ∀ y, k1_pay13 (F := Ideal) (w7 n x6) (w8 n x6) (w9 n x6) (w10 n x6) y
      = ((heads c n.val g ((y 0).val / 128) ((y 0).val % 128) (y 1).val : ℝ) : EReal) := by
    intro y
    unfold k1_pay13
    rw [stack_apply]
    exact pick_heads c g n x6 h6 _ _ _
  have e5 : ∀ y, concatenate S512x64 0 [⟨S128x64, shapeCast S128x64 (w7 n x5) shapeCasts_S128x64_S128x64⟩,
        ⟨S128x64, shapeCast S128x64 (w8 n x5) shapeCasts_S128x64_S128x64⟩, ⟨S128x64, shapeCast S128x64 (w9 n x5) shapeCasts_S128x64_S128x64⟩,
        ⟨S128x64, shapeCast S128x64 (w10 n x5) shapeCasts_S128x64_S128x64⟩] concatenates_S128x64_S128x64_S128x64_S128x64_S512x64_d0 y
      = ((O q k v t n.val g ((y 0).val / 128) ((y 0).val % 128) (y 1).val : ℝ) : EReal) := by
    intro y
    have y0 : (y 0).val < 512 := (y 0).isLt
    have y1 : (y 1).val < 64 := (y 1).isLt
    rw [stack_apply]
    simp only [shapeCast_self]
    refine (pick_heads (OO q k v t) g n x5 h5 _ _ _).trans (congrArg _ ?_)
    unfold heads OO
    dsimp only
    rw [show (n.val * 128 + (y 0).val % 128) / 128 = n.val by omega, show (g * 256 + (y 0).val / 128 * 64 + (y 1).val) / 256 = g by omega,
      show (g * 256 + (y 0).val / 128 * 64 + (y 1).val) / 64 % 4 = (y 0).val / 128 by omega,
      show (n.val * 128 + (y 0).val % 128) % 128 = (y 0).val % 128 by omega,
      show (g * 256 + (y 0).val / 128 * 64 + (y 1).val) % 64 = (y 1).val by omega]
  unfold dltOf k1_pay14
  generalize k1_pay13 (F := Ideal) (w7 n x6) (w8 n x6) (w9 n x6) (w10 n x6) = y6 at e6
  generalize concatenate S512x64 0 _ _ = y5 at e5
  pointwise
  simp only [e5, e6]
  simp only [← EReal.coe_mul, sum_coe]
  exact congrArg _ (delta_eq q k v t c n.val g _ _)

theorem lsb_log (h7 : ∀ y, x7 y = ((LL q k t g (y 1).val (y 2).val : ℝ) : EReal)) (i : S512x256.Idx) :
    lsbOf n x7 i = ((Real.log (Z (AttnReal.M n.val ((i 0).val % 128)) (S q k n.val g ((i 0).val / 128) ((i 0).val % 128))
      (t (g * 4 + (i 0).val / 128))) : ℝ) : EReal) := by
  rw [lsbOf_apply x7 n _ h7]
  unfold LL
  rw [show (n.val * 128 + (i 0).val % 128) / 128 = n.val by omega, show (n.val * 128 + (i 0).val % 128) % 128 = (i 0).val % 128 by omega]

/-- The weights of a trip. -/
theorem p_apply (h2 : Rows q g x2) (h3 : Cols k g x3) (h7 : ∀ y, x7 y = ((LL q k t g (y 1).val (y 2).val : ℝ) : EReal)) (i : S512x256.Idx) :
    k1_pay19 (scOf n k1_pay30 k1_pay31 x2 x3) (lsbOf n x7) i
      = ((P q k t n.val g ((i 0).val / 128) ((i 0).val % 128) (i 1) : ℝ) : EReal) := by
  have es := scOf_apply q k g x2 x3 n h2 h3
  have el := lsb_log q k t g x7 n h7
  generalize scOf n k1_pay30 k1_pay31 x2 x3 = ys at es
  generalize lsbOf n x7 = yl at el
  unfold k1_pay19
  pointwise
  rw [es, el]
  exact exp_log _ _ _ _

/-- The scores' cotangents of a trip. -/
theorem ds_apply (h2 : Rows q g x2) (h3 : Cols k g x3) (h4 : Cols v g x4) (h5 : Rows (OO q k v t) g x5) (h6 : Rows c g x6)
    (h7 : ∀ y, x7 y = ((LL q k t g (y 1).val (y 2).val : ℝ) : EReal)) (i : S512x256.Idx) :
    k1_pay20 (vcOf n x4) (dltOf n x5 x6) (dobOf n x6) (scOf n k1_pay30 k1_pay31 x2 x3) (lsbOf n x7) i
      = ((DS q k v t c n.val g ((i 0).val / 128) ((i 0).val % 128) (i 1) : ℝ) : EReal) := by
  have ep := p_apply q k t g x2 x3 x7 n h2 h3 h7
  have ev := vcOf_apply v g x4 n h4
  have ed := dltOf_apply q k v t c g x5 x6 n h5 h6
  have eo := dobOf_apply c g x6 n h6
  generalize vcOf n x4 = yv at ev
  generalize dltOf n x5 x6 = yd at ed
  generalize dobOf n x6 = yo at eo
  unfold k1_pay20
  generalize k1_pay19 (F := Ideal) _ _ = yp at ep
  pointwise
  rw [ep, ed, show (Ideal.ofBits .f32 1040187392#32) = ((0.125 : ℝ) : EReal) from eighth]
  simp only [ev, eo]
  simp only [← EReal.coe_mul, sum_coe, ← EReal.coe_sub]
  refine congrArg _ ?_
  unfold DS
  by_cases hM : AttnReal.M n.val ((i 0).val % 128) (i 1)
  · unfold dS P DP
    refine congrArg (fun z : ℝ => _ * (z - _) * 0.125) (Finset.sum_congr rfl fun d _ => ?_)
    exact congrArg (_ * ·) (bandc_eq v _ _ _ _ _ hM)
  · rw [dS_masked _ _ _ _ _ hM]
    unfold P
    rw [W_masked _ _ _ _ hM]
    ring

/-- The stacked queries' gradient. -/
theorem dq_apply (h2 : Rows q g x2) (h3 : Cols k g x3) (h4 : Cols v g x4) (h5 : Rows (OO q k v t) g x5) (h6 : Rows c g x6)
    (h7 : ∀ y, x7 y = ((LL q k t g (y 1).val (y 2).val : ℝ) : EReal)) (i : S512x64.Idx) :
    k1_pay21 (kcOf n x3) (vcOf n x4) (dltOf n x5 x6) (dobOf n x6) (scOf n k1_pay30 k1_pay31 x2 x3) (lsbOf n x7) i
      = ((DQ q k v t c n.val g ((i 0).val / 128) ((i 0).val % 128) (i 1).val : ℝ) : EReal) := by
  have es := ds_apply q k v t c g x2 x3 x4 x5 x6 x7 n h2 h3 h4 h5 h6 h7
  have ek := kcOf_apply k g x3 n h3
  generalize kcOf n x3 = yk at ek
  unfold k1_pay21
  generalize k1_pay20 (F := Ideal) _ _ _ _ _ = ys at es
  pointwise
  simp only [es, ek]
  simp only [← EReal.coe_mul, sum_coe]
  refine congrArg _ ?_
  unfold DQ
  refine Finset.sum_congr rfl fun j _ => ?_
  by_cases hM : AttnReal.M n.val ((i 0).val % 128) j
  · exact congrArg (_ * ·) (bandc_eq k _ _ _ _ _ hM)
  · have z : DS q k v t c n.val g ((i 0).val / 128) ((i 0).val % 128) j = 0 := by
      unfold DS; rw [dS_masked _ _ _ _ _ hM, zero_mul]
    exact (congrArg (· * _) z).trans ((zero_mul _).trans ((congrArg (· * _) z).trans (zero_mul _)).symm)

/-- The keys' gradient of a trip. -/
theorem dkc_apply (h2 : Rows q g x2) (h3 : Cols k g x3) (h4 : Cols v g x4) (h5 : Rows (OO q k v t) g x5) (h6 : Rows c g x6)
    (h7 : ∀ y, x7 y = ((LL q k t g (y 1).val (y 2).val : ℝ) : EReal)) (i : S256x64.Idx) :
    dkc k1_pay30 k1_pay31 x2 x3 x4 x5 x6 x7 n i = ((KB q k v t c n.val g (i 0) (i 1).val : ℝ) : EReal) := by
  have es := ds_apply q k v t c g x2 x3 x4 x5 x6 x7 n h2 h3 h4 h5 h6 h7
  have eq := q4Of_apply q g x2 n h2
  unfold dkc k1_pay26
  generalize q4Of n x2 = yq at eq
  generalize k1_pay20 (F := Ideal) _ _ _ _ _ = ys at es
  pointwise
  simp only [es, eq]
  simp only [← EReal.coe_mul, sum_coe]
  refine congrArg _ ?_
  unfold KB
  exact sum_rows _ _ fun a => mul_comm _ _

/-- The values' gradient of a trip. -/
theorem dvc_apply (h2 : Rows q g x2) (h3 : Cols k g x3) (h6 : Rows c g x6)
    (h7 : ∀ y, x7 y = ((LL q k t g (y 1).val (y 2).val : ℝ) : EReal)) (i : S256x64.Idx) :
    dvc k1_pay30 k1_pay31 x2 x3 x6 x7 n i = ((VB q k t c n.val g (i 0) (i 1).val : ℝ) : EReal) := by
  have ep := p_apply q k t g x2 x3 x7 n h2 h3 h7
  have eo := dobOf_apply c g x6 n h6
  unfold dvc k1_pay27
  generalize dobOf n x6 = yo at eo
  generalize k1_pay19 (F := Ideal) _ _ = yp at ep
  pointwise
  simp only [ep, eo]
  simp only [← EReal.coe_mul, sum_coe]
  refine congrArg _ ?_
  unfold VB
  exact sum_rows _ _ fun a => mul_comm _ _

end Trip

end Cert.AttnValue

end
-- ==== Proof.AttnTrips.lean ====
/-
  All trips of the backward attention body over the reals: the four gradients it leaves.
-/
module

public import proofs.«01_k».proof.Proof.AttnGrad

@[expose] public section

set_option maxRecDepth 16384

noncomputable section

namespace Cert.AttnValue

open AttnIdeal AttnIdeal.Gen
open Idealize.ShloMosaic Idealize.ShloMosaic.TcCoe
open Idealize.ShloMosaic.VecWindow (window put)
open AttnReal AttnMath Reals

/-! ## A block of rows added into -/

/-- A position within its block of 128 rows. -/
def inRow (y : S1x2048x64.Idx) : S1x128x64.Idx :=
  ix3 (0 : Fin 1) (⟨(y 1).val % 128, Nat.mod_lt _ (by decide)⟩ : Fin 128) (y 2)

theorem window_row {α : Type} (x : S1x2048x64.Idx → α) {off : Fin S1x2048x64.rank → ℕ} {m : ℕ} (ho : off = ![0, 128 * m, 0])
    (inb : ∀ a, off a + S1x128x64.size a ≤ S1x2048x64.size a) (y : S1x2048x64.Idx) (h : (y 1).val / 128 = m) :
    window x off S1x128x64.size inb (inRow y) = x y := by
  subst ho
  unfold window
  refine congrArg x (funext fun a => ?_)
  match a with
  | ⟨0, _⟩ => exact Fin.ext (by have : (y 0).val < 1 := (y 0).isLt; show 0 + 1 * 0 = (y 0).val; omega)
  | ⟨1, _⟩ => exact Fin.ext (by show 128 * m + 1 * ((y 1).val % 128) = (y 1).val; omega)
  | ⟨2, _⟩ => exact Fin.ext (by show 0 + 1 * (y 2).val = (y 2).val; omega)

theorem put_row {α : Type} (x : S1x2048x64.Idx → α) {off : Fin S1x2048x64.rank → ℕ} {m : ℕ} (ho : off = ![0, 128 * m, 0])
    (T : S1x128x64.Idx → α) (y : S1x2048x64.Idx) :
    put (s := S1x2048x64) x off S1x128x64.size T y = if (y 1).val / 128 = m then T (inRow y) else x y := by
  subst ho
  have hy0 : (y 0).val < 1 := (y 0).isLt
  have hy1 : (y 1).val < 2048 := (y 1).isLt
  have hy2 : (y 2).val < 64 := (y 2).isLt
  unfold put
  by_cases h : (y 1).val / 128 = m
  · have hm : ∀ a : Fin S1x2048x64.rank, (![0, 128 * m, 0] : Fin 3 → ℕ) a ≤ (y a).val ∧ (y a).val < (![0, 128 * m, 0] : Fin 3 → ℕ) a + S1x128x64.size a := by
      show ∀ a : Fin 3, _
      rw [Fin.forall_fin_succ, Fin.forall_fin_two]
      refine ⟨⟨Nat.zero_le _, ?_⟩, ⟨?_, ?_⟩, ⟨Nat.zero_le _, ?_⟩⟩
      · show (y 0).val < 0 + 1; omega
      · show 128 * m ≤ (y 1).val; omega
      · show (y 1).val < 128 * m + 128; omega
      · show (y 2).val < 0 + 64; omega
    rw [dif_pos hm, if_pos h]
    refine congrArg T (funext fun a => ?_)
    match a with
    | ⟨0, _⟩ => exact Fin.ext (by show (y 0).val - 0 = 0; omega)
    | ⟨1, _⟩ => exact Fin.ext (by show (y 1).val - 128 * m = (y 1).val % 128; omega)
    | ⟨2, _⟩ => exact Fin.ext (by show (y 2).val - 0 = (y 2).val; omega)
  · rw [dif_neg ?_, if_neg h]
    intro hm
    have a1 : 128 * m ≤ (y 1).val ∧ (y 1).val < 128 * m + 128 := hm 1
    exact h (by omega)

/-- What block `b`'s row `r` holds before trip `n`. -/
def part (f : ℕ → Fin 256 → ℝ) (n b : ℕ) (r : Fin 128) : ℝ :=
  (if b < n then f b ⟨r.val + 128, by omega⟩ else 0) + (if b + 1 < n then f (b + 1) ⟨r.val, by omega⟩ else 0)

theorem part_all (f : ℕ → Fin 256 → ℝ) (b : ℕ) (hb : b < 16) (r : Fin 128) : part f 16 b r = fold f b r := by
  unfold part fold
  rw [if_pos hb]
  by_cases h : b < 15
  · rw [if_pos h, if_pos (by omega)]
  · rw [if_neg h, if_neg (by omega)]

/-- One trip's two additions, by real numbers. -/
theorem two_adds (f : ℕ → Fin 256 → ℕ → ℝ) (h0 : ∀ (j : Fin 256) d, j.val < 128 → f 0 j d = 0) (n : Fin k1_t1_loop.trips)
    (D : S1x2048x64.Idx → EReal)
    (hD : ∀ y, D y = ((part (fun m j => f m j (y 2).val) n.val ((y 1).val / 128) ⟨(y 1).val % 128, Nat.mod_lt _ (by decide)⟩ : ℝ) : EReal))
    (A B : (S1x128x64.Idx → EReal) → S1x128x64.Idx → EReal)
    (hA : ∀ w y, A w y = w y + ((f n.val ⟨(y 1).val, by have : (y 1).val < 128 := (y 1).isLt; omega⟩ (y 2).val : ℝ) : EReal))
    (hB : ∀ w y, B w y = w y + ((f n.val ⟨(y 1).val + 128, by have : (y 1).val < 128 := (y 1).isLt; omega⟩ (y 2).val : ℝ) : EReal))
    (y : S1x2048x64.Idx) :
    put (s := S1x2048x64) (put (s := S1x2048x64) D (k1_off5 n) S1x128x64.size (A (window D (k1_off5 n) S1x128x64.size (k1_off5_inb n))))
      (k1_off6 n) S1x128x64.size
      (B (window (put (s := S1x2048x64) D (k1_off5 n) S1x128x64.size (A (window D (k1_off5 n) S1x128x64.size (k1_off5_inb n))))
        (k1_off6 n) S1x128x64.size (k1_off6_inb n))) y
      = ((part (fun m j => f m j (y 2).val) (n.val + 1) ((y 1).val / 128) ⟨(y 1).val % 128, Nat.mod_lt _ (by decide)⟩ : ℝ) : EReal) := by
  have hr : (y 1).val % 128 < 128 := Nat.mod_lt _ (by decide)
  have e5 := off5_eq n
  have e1 : put (s := S1x2048x64) D (k1_off5 n) S1x128x64.size (A (window D (k1_off5 n) S1x128x64.size (k1_off5_inb n))) y
      = ((part (fun m j => f m j (y 2).val) n.val ((y 1).val / 128) ⟨(y 1).val % 128, hr⟩
          + (if (y 1).val / 128 = n.val - 1 then f n.val ⟨(y 1).val % 128, by omega⟩ (y 2).val else 0) : ℝ) : EReal) := by
    rw [put_row D e5]
    by_cases h : (y 1).val / 128 = n.val - 1
    · rw [if_pos h, if_pos h, hA, window_row D e5 _ y h, hD, ← EReal.coe_add]
      rfl
    · rw [if_neg h, if_neg h, hD, add_zero]
  rw [put_row _ (k1_off6_eq n)]
  have key : ((part (fun m j => f m j (y 2).val) n.val ((y 1).val / 128) ⟨(y 1).val % 128, hr⟩
          + (if (y 1).val / 128 = n.val - 1 then f n.val ⟨(y 1).val % 128, by omega⟩ (y 2).val else 0))
        + (if (y 1).val / 128 = n.val then f n.val ⟨(y 1).val % 128 + 128, by omega⟩ (y 2).val else 0) : ℝ)
      = part (fun m j => f m j (y 2).val) (n.val + 1) ((y 1).val / 128) ⟨(y 1).val % 128, hr⟩ := by
    unfold part
    dsimp only
    generalize (y 1).val / 128 = b
    by_cases hn : n.val = 0
    · rw [hn, h0 ⟨(y 1).val % 128, by omega⟩ _ (by show _ < 128; omega)]
      by_cases hb : b = 0
      · subst hb; simp
      · rw [if_neg (by omega : ¬ b < 0), if_neg (by omega : ¬ b + 1 < 0), if_neg hb, if_neg (by omega : ¬ b < 0 + 1), if_neg (by omega : ¬ b + 1 < 0 + 1)]
        rw [if_neg hb]; simp
    · by_cases hb : b = n.val
      · rw [hb, if_neg (by omega : ¬ n.val < n.val), if_neg (by omega : ¬ n.val + 1 < n.val), if_neg (by omega : ¬ n.val = n.val - 1), if_pos rfl,
          if_pos (by omega : n.val < n.val + 1), if_neg (by omega : ¬ n.val + 1 < n.val + 1)]
        simp
      · rw [if_neg hb]
        by_cases hb' : b = n.val - 1
        · rw [if_pos hb', if_pos (by omega : b < n.val), if_neg (by omega), if_pos (by omega : b < n.val + 1), if_pos (by omega : b + 1 < n.val + 1)]
          have : n.val = b + 1 := by omega
          rw [this]; ring
        · rw [if_neg hb']
          by_cases hl : b < n.val
          · rw [if_pos hl, if_pos (by omega : b + 1 < n.val), if_pos (by omega : b < n.val + 1), if_pos (by omega : b + 1 < n.val + 1)]; ring
          · rw [if_neg hl, if_neg (by omega), if_neg (by omega : ¬ b < n.val + 1), if_neg (by omega)]; ring
  by_cases h : (y 1).val / 128 = n.val
  · rw [if_pos h, hB, window_row _ (k1_off6_eq n) _ y h, e1, ← key, if_pos h, EReal.coe_add]
    rfl
  · rw [if_neg h, e1, ← key, if_neg h, add_zero]

section Trips

variable (q k v : ℕ → ℕ → ℝ) (t : ℕ → ℝ) (c : ℕ → ℕ → ℝ) (g : ℕ)
  (x1 : Vec Ideal S4x4 .f32) (x2 : Vec Ideal S2048x256 .bf16) (x3 x4 : Vec Ideal S1x2048x64 .bf16) (x5 x6 : Vec Ideal S2048x256 .f32) (x7 : Vec Ideal S1x2048x4 .f32)
  (h2 : Rows q g x2) (h3 : Cols k g x3) (h4 : Cols v g x4) (h5 : Rows (OO q k v t) g x5) (h6 : Rows c g x6)
  (h7 : ∀ y, x7 y = ((LL q k t g (y 1).val (y 2).val : ℝ) : EReal))

/-- Block 0 sees nothing before it. -/
theorem KB_zero (g : ℕ) (j : Fin 256) (d : ℕ) (h : j.val < 128) : KB q k v t c 0 g j d = 0 := by
  unfold KB DS
  refine Finset.sum_eq_zero fun a _ => Finset.sum_eq_zero fun r _ => ?_
  rw [dS_masked _ _ _ _ _ (fun hM : AttnReal.M 0 r.val j => by rcases hM.2 with e | e <;> omega)]
  ring
theorem VB_zero (g : ℕ) (j : Fin 256) (d : ℕ) (h : j.val < 128) : VB q k t c 0 g j d = 0 := by
  unfold VB P
  refine Finset.sum_eq_zero fun a _ => Finset.sum_eq_zero fun r _ => ?_
  rw [W_masked _ _ _ _ (fun hM : AttnReal.M 0 r.val j => by rcases hM.2 with e | e <;> omega)]
  ring

include h2 h3 h4 h5 h6 h7 in
/-- dk before a trip. -/
theorem dkTrips_apply : ∀ n, n ≤ 16 → ∀ y, dkTrips k1_pay30 k1_pay31 x2 x3 x4 x5 x6 x7 n y
    = ((part (fun m j => KB q k v t c m g j (y 2).val) n ((y 1).val / 128) ⟨(y 1).val % 128, Nat.mod_lt _ (by decide)⟩ : ℝ) : EReal)
  | 0, _, y => by
    unfold dkTrips k1_pay32
    pointwise
    unfold part
    simp
  | n + 1, hn, y => by
    have h : n < k1_t1_loop.trips := hn
    rw [dkTrips, dif_pos h]
    unfold dkStep dkStep1
    refine two_adds (fun m j d => KB q k v t c m g j d) (fun j d hj => KB_zero q k v t c g j d hj) ⟨n, h⟩ _ (dkTrips_apply n (by omega))
      (fun w => k1_pay28 (vcOf ⟨n, h⟩ x4) (q4Of ⟨n, h⟩ x2) (dltOf ⟨n, h⟩ x5 x6) (dobOf ⟨n, h⟩ x6) (scOf ⟨n, h⟩ k1_pay30 k1_pay31 x2 x3) (lsbOf ⟨n, h⟩ x7) w)
      (fun w => k1_pay3 (dkc k1_pay30 k1_pay31 x2 x3 x4 x5 x6 x7 ⟨n, h⟩) w) ?_ ?_ y
    · intro w z
      have ek := dkc_apply q k v t c g x2 x3 x4 x5 x6 x7 ⟨n, h⟩ h2 h3 h4 h5 h6 h7
      unfold dkc at ek
      unfold k1_pay28
      generalize k1_pay26 (F := Ideal) _ _ _ _ _ _ = yk at ek
      pointwise
      exact congrArg (w z + ·) (ek _)
    · intro w z
      have ek := dkc_apply q k v t c g x2 x3 x4 x5 x6 x7 ⟨n, h⟩ h2 h3 h4 h5 h6 h7
      dsimp only
      generalize dkc k1_pay30 k1_pay31 x2 x3 x4 x5 x6 x7 ⟨n, h⟩ = yk at ek
      unfold k1_pay3
      pointwise
      refine congrArg (w z + ·) ((ek _).trans (congrArg (fun j : Fin 256 => ((KB q k v t c n g j (z 2).val : ℝ) : EReal)) (Fin.ext (Nat.add_comm _ _))))

include h2 h3 h6 h7 in
/-- dv before a trip. -/
theorem dvTrips_apply : ∀ n, n ≤ 16 → ∀ y, dvTrips k1_pay30 k1_pay31 x2 x3 x6 x7 n y
    = ((part (fun m j => VB q k t c m g j (y 2).val) n ((y 1).val / 128) ⟨(y 1).val % 128, Nat.mod_lt _ (by decide)⟩ : ℝ) : EReal)
  | 0, _, y => by
    unfold dvTrips k1_pay33
    pointwise
    unfold part
    simp
  | n + 1, hn, y => by
    have h : n < k1_t1_loop.trips := hn
    rw [dvTrips, dif_pos h]
    unfold dvStep dvStep1
    refine two_adds (fun m j d => VB q k t c m g j d) (fun j d hj => VB_zero q k t c g j d hj) ⟨n, h⟩ _ (dvTrips_apply n (by omega))
      (fun w => k1_pay2 (dvc k1_pay30 k1_pay31 x2 x3 x6 x7 ⟨n, h⟩) w)
      (fun w => k1_pay4 (dvc k1_pay30 k1_pay31 x2 x3 x6 x7 ⟨n, h⟩) w) ?_ ?_ y
    · intro w z
      have ek := dvc_apply q k t c g x2 x3 x6 x7 ⟨n, h⟩ h2 h3 h6 h7
      dsimp only
      generalize dvc k1_pay30 k1_pay31 x2 x3 x6 x7 ⟨n, h⟩ = yk at ek
      unfold k1_pay2
      pointwise
      exact congrArg (w z + ·) (ek _)
    · intro w z
      have ek := dvc_apply q k t c g x2 x3 x6 x7 ⟨n, h⟩ h2 h3 h6 h7
      dsimp only
      generalize dvc k1_pay30 k1_pay31 x2 x3 x6 x7 ⟨n, h⟩ = yk at ek
      unfold k1_pay4
      pointwise
      refine congrArg (w z + ·) ((ek _).trans (congrArg (fun j : Fin 256 => ((VB q k t c n g j (z 2).val : ℝ) : EReal)) (Fin.ext (Nat.add_comm _ _))))

include h2 h3 h4 h5 h6 h7 in
/-- dq after all trips. -/
theorem dqAll_apply (y : S2048x256.Idx) : dqAll k1_pay30 k1_pay31 x2 x3 x4 x5 x6 x7 y
    = ((DQ q k v t c ((y 0).val / 128) g ((y 1).val / 64) ((y 0).val % 128) ((y 1).val % 64) : ℝ) : EReal) := by
  have y0 : (y 0).val < 2048 := (y 0).isLt
  have y1 : (y 1).val < 256 := (y 1).isLt
  have ed := dq_apply q k v t c g x2 x3 x4 x5 x6 x7 (rowBlock y) h2 h3 h4 h5 h6 h7
  unfold dqAll dq0 dq1 dq2 dq3 k1_pay22 k1_pay23 k1_pay24 k1_pay25
  generalize k1_pay21 (F := Ideal) _ _ _ _ _ _ = z at ed
  have key : ∀ (i : S512x64.Idx), (i 0).val = (y 1).val / 64 * 128 + (y 0).val % 128 → (i 1).val = (y 1).val % 64 →
      z i = ((DQ q k v t c ((y 0).val / 128) g ((y 1).val / 64) ((y 0).val % 128) ((y 1).val % 64) : ℝ) : EReal) := by
    intro i e0 e1
    rw [ed, e0, e1, show ((y 1).val / 64 * 128 + (y 0).val % 128) / 128 = (y 1).val / 64 by omega,
      show ((y 1).val / 64 * 128 + (y 0).val % 128) % 128 = (y 0).val % 128 by omega]
    rfl
  rcases (show (y 1).val / 64 = 0 ∨ (y 1).val / 64 = 1 ∨ (y 1).val / 64 = 2 ∨ (y 1).val / 64 = 3 by omega) with e | e | e | e
  · rw [show headOf y = 0 from Fin.ext e]
    exact key _ (by rw [e]; show 0 + (y 0).val % 128 = _; omega) (by show 0 + (y 1).val % 64 = _; omega)
  · rw [show headOf y = 1 from Fin.ext e]
    exact key _ (by rw [e]; show 128 + (y 0).val % 128 = _; omega) (by show 0 + (y 1).val % 64 = _; omega)
  · rw [show headOf y = 2 from Fin.ext e]
    exact key _ (by rw [e]; show 256 + (y 0).val % 128 = _; omega) (by show 0 + (y 1).val % 64 = _; omega)
  · rw [show headOf y = 3 from Fin.ext e]
    exact key _ (by rw [e]; show 384 + (y 0).val % 128 = _; omega) (by show 0 + (y 1).val % 64 = _; omega)

/-- The four sinks along the stacked rows. -/
theorem sink_rows (A B C D : EReal) (hA : A = (t (g * 4) : EReal)) (hB : B = (t (g * 4 + 1) : EReal)) (hC : C = (t (g * 4 + 2) : EReal))
    (hD : D = (t (g * 4 + 3) : EReal)) (i : S512x1.Idx) :
    select k1_pay36 (broadcast S512x1 (D : Elt Ideal .f32)) (k1_pay35 (F := Ideal) A B C) i = ((t (g * 4 + (i 0).val / 128) : ℝ) : EReal) := by
  have h0 : (i 0).val < 512 := (i 0).isLt
  have hw := headWord i
  unfold k1_pay36 k1_pay35
  generalize (k1_pay34 : IVec S512x1 32) = w at hw
  pointwise
  rw [hw]
  rcases (show (i 0).val / 128 = 0 ∨ (i 0).val / 128 = 1 ∨ (i 0).val / 128 = 2 ∨ (i 0).val / 128 = 3 by omega) with e | e | e | e
  · rw [e]; exact hA
  · rw [e]; exact hB
  · rw [e]; exact hC
  · rw [e]; exact hD

include h5 h6 h7 in
/-- The carried sums before a trip. -/
theorem accTrips_apply (A B C D : EReal) (hA : A = (t (g * 4) : EReal)) (hB : B = (t (g * 4 + 1) : EReal)) (hC : C = (t (g * 4 + 2) : EReal))
    (hD : D = (t (g * 4 + 3) : EReal)) : ∀ n, n ≤ 16 → ∀ i, accTrips (F := Ideal) D (k1_pay35 (F := Ideal) A B C) k1_pay36 x5 x6 x7 n i
    = ((-∑ m ∈ Finset.range n, Ws (AttnReal.M m ((i 0).val % 128)) (S q k m g ((i 0).val / 128) ((i 0).val % 128)) (t (g * 4 + (i 0).val / 128))
        * delta (AttnReal.M m ((i 0).val % 128)) (S q k m g ((i 0).val / 128) ((i 0).val % 128)) (t (g * 4 + (i 0).val / 128))
            (DP v c m g ((i 0).val / 128) ((i 0).val % 128)) : ℝ) : EReal)
  | 0, _, i => by
    unfold accTrips k1_pay1
    pointwise
    simp
  | n + 1, hn, i => by
    have h : n < k1_t1_loop.trips := hn
    have e0 := accTrips_apply A B C D hA hB hC hD n (by omega)
    have ed := dltOf_apply q k v t c g x5 x6 ⟨n, h⟩ h5 h6
    have el := lseOf_apply x7 ⟨n, h⟩ _ h7
    have et := sink_rows t g A B C D hA hB hC hD i
    rw [accTrips, dif_pos h]
    generalize accTrips (F := Ideal) D (k1_pay35 (F := Ideal) A B C) k1_pay36 x5 x6 x7 n = y0 at e0
    generalize dltOf ⟨n, h⟩ x5 x6 = y1 at ed
    generalize lseOf ⟨n, h⟩ x7 = y2 at el
    unfold k1_pay5
    generalize select k1_pay36 (broadcast S512x1 (D : Elt Ideal .f32)) (k1_pay35 (F := Ideal) A B C) = y3 at et
    pointwise
    rw [e0, ed, el, et]
    have ell : LL q k t g (n * 128 + (i 0).val % 128) ((i 0).val / 128)
        = Real.log (Z (AttnReal.M n ((i 0).val % 128)) (S q k n g ((i 0).val / 128) ((i 0).val % 128)) (t (g * 4 + (i 0).val / 128))) := by
      unfold LL
      rw [show (n * 128 + (i 0).val % 128) / 128 = n by omega, show (n * 128 + (i 0).val % 128) % 128 = (i 0).val % 128 by omega]
    dsimp only
    rw [ell, exp_log_sink, ← EReal.coe_mul, ← EReal.coe_sub, Finset.sum_range_succ]
    refine congrArg _ ?_
    ring

/-- The sinks' gradient from the carried sums. -/
theorem sinkOut_apply (a : FVec Ideal S512x1 .f32)
    (ha : ∀ i, a i = ((-∑ m ∈ Finset.range 16, Ws (AttnReal.M m ((i 0).val % 128)) (S q k m g ((i 0).val / 128) ((i 0).val % 128)) (t (g * 4 + (i 0).val / 128))
        * delta (AttnReal.M m ((i 0).val % 128)) (S q k m g ((i 0).val / 128) ((i 0).val % 128)) (t (g * 4 + (i 0).val / 128))
            (DP v c m g ((i 0).val / 128) ((i 0).val % 128)) : ℝ) : EReal)) (y : S1x1x4.Idx) :
    sinkOut a y = ((DT q k v t c g (y 2).val : ℝ) : EReal) := by
  have key : ∀ (m : ℕ) (b : Fin 128 → S512x1.Idx), m < 4 → (∀ r, ((b r) 0).val = m * 128 + r.val) →
      ∑ r : Fin 128, a (b r) = ((DT q k v t c g m : ℝ) : EReal) := by
    intro m b hm hb
    simp only [ha]
    rw [sum_coe]
    refine congrArg _ ?_
    unfold DT
    rw [Finset.sum_neg_distrib, Finset.sum_comm]
    refine congrArg _ ?_
    rw [← Fin.sum_univ_eq_sum_range (fun n : ℕ => ∑ r : Fin 128, _) 16]
    refine Finset.sum_congr rfl fun n _ => Finset.sum_congr rfl fun r _ => ?_
    rw [hb, show (m * 128 + r.val) / 128 = m by omega, show (m * 128 + r.val) % 128 = r.val by omega]
  unfold sinkOut
  refine View.canon_eq_of_allAt _ y _ (cover_sinks _ _ _ _ y) ?_
  intro p hp x hx
  have hy : ((p.1.emb x) 2).val = (y 2).val := congrArg (fun z : S1x1x4.Idx => (z 2).val) hx
  simp only [List.mem_cons, List.not_mem_nil, or_false] at hp
  rcases hp with rfl | rfl | rfl | rfl
  · have e : (y 2).val = 3 := by
      rw [← hy]
      show 3 + 1 * (x 2).val = 3
      have : (x 2).val < 1 := (x 2).isLt
      omega
    rw [e]
    show k1_pay9 a x = _
    unfold k1_pay9
    pointwise
    exact key 3 _ (by omega) fun r => by show 384 + r.val = _; omega
  · have e : (y 2).val = 2 := by
      rw [← hy]
      show 2 + 1 * (x 2).val = 2
      have : (x 2).val < 1 := (x 2).isLt
      omega
    rw [e]
    show k1_pay8 a x = _
    unfold k1_pay8
    pointwise
    exact key 2 _ (by omega) fun r => by show 256 + r.val = _; omega
  · have e : (y 2).val = 1 := by
      rw [← hy]
      show 1 + 1 * (x 2).val = 1
      have : (x 2).val < 1 := (x 2).isLt
      omega
    rw [e]
    show k1_pay7 a x = _
    unfold k1_pay7
    pointwise
    exact key 1 _ (by omega) fun r => by show 128 + r.val = _; omega
  · have e : (y 2).val = 0 := by
      rw [← hy]
      show 0 + 1 * (x 2).val = 0
      have : (x 2).val < 1 := (x 2).isLt
      omega
    rw [e]
    show k1_pay6 a x = _
    unfold k1_pay6
    pointwise
    exact key 0 _ (by omega) fun r => by show r.val = _; omega

end Trips

end Cert.AttnValue

end
-- ==== Proof.AttnOut.lean ====
/-
  One trip of the forward attention body over the reals: the output's tiles and the rows' log-sums.
-/
module

public import proofs.«01_k».proof.Proof.AttnTrips

@[expose] public section

set_option maxRecDepth 16384

noncomputable section

namespace Cert.AttnValue

open AttnIdeal AttnIdeal.Gen
open Idealize.ShloMosaic Idealize.ShloMosaic.TcCoe
open Idealize.ShloMosaic.VecWindow (window put)
open AttnReal AttnMath Reals

/-- The forward trip's masked scores are the backward trip's. -/
theorem fwd_sc (x2 : Vec Ideal S2048x256 .bf16) (x3 : Vec Ideal S1x2048x64 .bf16) (n : Fin k0_t1_loop.trips) :
    k0_pay8 (F := Ideal) (fwdScore x2 x3 n) (fwdMask k0_pay21 k0_pay22 n) = scOf (F := Ideal) n k1_pay30 k1_pay31 x2 x3 := by
  rfl

section Trip

variable (q k v : ℕ → ℕ → ℝ) (t : ℕ → ℝ) (g : ℕ)
  (x2 : Vec Ideal S2048x256 .bf16) (x3 x4 : Vec Ideal S1x2048x64 .bf16) (n : Fin k0_t1_loop.trips)
  (u : FVec Ideal S512x1 .f32) (hu : ∀ i, u i = ((t (g * 4 + (i 0).val / 128) : ℝ) : EReal))

include hu in
/-- The rows' maxima are reals. -/
theorem max_apply (h2 : Rows q g x2) (h3 : Cols k g x3) :
    ∃ mx : ℕ → ℝ, ∀ i, k0_pay9 u (fwdScore x2 x3 n) (fwdMask k0_pay21 k0_pay22 n) i = ((mx (i 0).val : ℝ) : EReal) := by
  have es := scOf_apply q k g x2 x3 n h2 h3
  rw [← fwd_sc] at es
  have h : ∀ i, ∃ m : ℝ, k0_pay9 u (fwdScore x2 x3 n) (fwdMask k0_pay21 k0_pay22 n) i = (m : EReal) := by
    intro i
    unfold k0_pay9
    generalize k0_pay8 (F := Ideal) _ _ = ys at es
    pointwise
    rw [hu, show (Ideal.ofBits .f32 4286578688#32) = (⊥ : EReal) from by simp [Ideal.ofBits, Ideal.ieee]]
    simp only [es]
    exact max_real _ _ _ _ bot_ne_top
  refine ⟨fun a => if ha : a < 512 then (h (ix2 (⟨a, ha⟩ : Fin 512) 0)).choose else 0, fun i => ?_⟩
  have h0 : (i 0).val < 512 := (i 0).isLt
  dsimp only
  rw [dif_pos h0]
  have e : i = ix2 (⟨(i 0).val, h0⟩ : Fin 512) 0 := by
    funext b
    match b with
    | ⟨0, _⟩ => rfl
    | ⟨1, _⟩ => exact Fin.ext (by have : (i 1).val < 1 := (i 1).isLt; show (i 1).val = 0; omega)
  exact (congrArg _ e).trans (h (ix2 (⟨(i 0).val, h0⟩ : Fin 512) 0)).choose_spec

include hu in
/-- The output and the log-sums of a trip. -/
theorem fwd_trip_apply (h2 : Rows q g x2) (h3 : Cols k g x3) (h4 : Cols v g x4) :
    (∀ i, k0_pay12 u (fwdPair n x4) (fwdScore x2 x3 n) (fwdMask k0_pay21 k0_pay22 n) i
      = ((O q k v t n.val g ((i 0).val / 128) ((i 0).val % 128) (i 1).val : ℝ) : EReal))
    ∧ ∀ i, k0_pay13 u (fwdScore x2 x3 n) (fwdMask k0_pay21 k0_pay22 n) i
      = ((Real.log (Z (AttnReal.M n.val ((i 0).val % 128)) (S q k n.val g ((i 0).val / 128) ((i 0).val % 128)) (t (g * 4 + (i 0).val / 128))) : ℝ) : EReal) := by
  obtain ⟨mx, hm⟩ := max_apply q k t g x2 x3 n u hu h2 h3
  have es := scOf_apply q k g x2 x3 n h2 h3
  rw [← fwd_sc] at es
  have e10 : ∀ i, k0_pay10 u (fwdScore x2 x3 n) (fwdMask k0_pay21 k0_pay22 n) i
      = ((num (AttnReal.M n.val ((i 0).val % 128)) (S q k n.val g ((i 0).val / 128) ((i 0).val % 128)) (i 1) * Real.exp (-(mx (i 0).val)) : ℝ) : EReal) := by
    intro i
    unfold k0_pay10
    generalize k0_pay8 (F := Ideal) _ _ = ys at es
    generalize k0_pay9 (F := Ideal) _ _ _ = ym at hm
    pointwise
    rw [es, hm]
    exact exp_Sc _ _ _ _
  have e11 : ∀ i, k0_pay11 u (fwdScore x2 x3 n) (fwdMask k0_pay21 k0_pay22 n) i
      = ((Z (AttnReal.M n.val ((i 0).val % 128)) (S q k n.val g ((i 0).val / 128) ((i 0).val % 128)) (t (g * 4 + (i 0).val / 128)) * Real.exp (-(mx (i 0).val)) : ℝ) : EReal) := by
    intro i
    unfold k0_pay11
    generalize k0_pay10 (F := Ideal) _ _ _ = ys at e10
    generalize k0_pay9 (F := Ideal) _ _ _ = ym at hm
    pointwise
    rw [hm, hu, exp_sink]
    simp only [e10]
    rw [sum_coe, ← EReal.coe_add]
    exact congrArg _ (sum_shift _ _ _ _)
  constructor
  · intro i
    have ev := vcOf_apply v g x4 n h4
    have ep : fwdPair n x4 = vcOf (F := Ideal) n x4 := rfl
    rw [ep]
    unfold k0_pay12
    generalize vcOf n x4 = yv at ev
    generalize k0_pay10 (F := Ideal) _ _ _ = ys at e10
    generalize k0_pay11 (F := Ideal) _ _ _ = yz at e11
    pointwise
    simp only [e10, e11, ev]
    have hz : ∀ j : Fin 256, Ideal.div
        ((num (AttnReal.M n.val ((i 0).val % 128)) (S q k n.val g ((i 0).val / 128) ((i 0).val % 128)) j * Real.exp (-(mx (i 0).val)) : ℝ) : EReal)
        ((Z (AttnReal.M n.val ((i 0).val % 128)) (S q k n.val g ((i 0).val / 128) ((i 0).val % 128)) (t (g * 4 + (i 0).val / 128)) * Real.exp (-(mx (i 0).val)) : ℝ) : EReal)
        = ((P q k t n.val g ((i 0).val / 128) ((i 0).val % 128) j : ℝ) : EReal) := by
      intro j
      rw [div_coe_coe _ (shift_ne _ _ _ _), W_shift]
      rfl
    refine (Finset.sum_congr rfl fun j _ => congrArg (· * _) (hz j)).trans ?_
    simp only [← EReal.coe_mul, sum_coe]
    refine congrArg _ ?_
    unfold O
    refine Finset.sum_congr rfl fun j _ => ?_
    by_cases hM : AttnReal.M n.val ((i 0).val % 128) j
    · exact congrArg (_ * ·) (bandc_eq v _ _ _ _ _ hM)
    · have z : P q k t n.val g ((i 0).val / 128) ((i 0).val % 128) j = 0 := by
        unfold P; exact W_masked _ _ _ _ hM
      exact (congrArg (· * _) z).trans ((zero_mul _).trans ((congrArg (· * _) z).trans (zero_mul _)).symm)
  · intro i
    unfold k0_pay13
    generalize k0_pay9 (F := Ideal) _ _ _ = ym at hm
    generalize k0_pay11 (F := Ideal) _ _ _ = yz at e11
    pointwise
    rw [hm, e11, log_shift, ← EReal.coe_add]
    refine congrArg _ ?_
    ring

end Trip

section All

variable (q k v : ℕ → ℕ → ℝ) (t : ℕ → ℝ) (g : ℕ)
  (x2 : Vec Ideal S2048x256 .bf16) (x3 x4 : Vec Ideal S1x2048x64 .bf16)
  (u : FVec Ideal S512x1 .f32) (hu : ∀ i, u i = ((t (g * 4 + (i 0).val / 128) : ℝ) : EReal))

include hu in
/-- The output after all trips. -/
theorem oAll_apply (h2 : Rows q g x2) (h3 : Cols k g x3) (h4 : Cols v g x4) (y : S2048x256.Idx) :
    oAll k0_pay21 k0_pay22 u x2 x3 x4 y
      = ((O q k v t ((y 0).val / 128) g ((y 1).val / 64) ((y 0).val % 128) ((y 1).val % 64) : ℝ) : EReal) := by
  have y0 : (y 0).val < 2048 := (y 0).isLt
  have y1 : (y 1).val < 256 := (y 1).isLt
  have ed := (fwd_trip_apply q k v t g x2 x3 x4 (rowBlock y) u hu h2 h3 h4).1
  unfold oAll o0 o1 o2 o3 k0_pay14 k0_pay16 k0_pay18 k0_pay3
  generalize k0_pay12 (F := Ideal) _ _ _ _ = z at ed
  have key : ∀ (i : S512x64.Idx), (i 0).val = (y 1).val / 64 * 128 + (y 0).val % 128 → (i 1).val = (y 1).val % 64 →
      z i = ((O q k v t ((y 0).val / 128) g ((y 1).val / 64) ((y 0).val % 128) ((y 1).val % 64) : ℝ) : EReal) := by
    intro i e0 e1
    rw [ed, e0, e1, show ((y 1).val / 64 * 128 + (y 0).val % 128) / 128 = (y 1).val / 64 by omega,
      show ((y 1).val / 64 * 128 + (y 0).val % 128) % 128 = (y 0).val % 128 by omega]
    rfl
  rcases (show (y 1).val / 64 = 0 ∨ (y 1).val / 64 = 1 ∨ (y 1).val / 64 = 2 ∨ (y 1).val / 64 = 3 by omega) with e | e | e | e
  · rw [show headOf y = 0 from Fin.ext e]
    exact key _ (by rw [e]; show 0 + (y 0).val % 128 = _; omega) (by show 0 + (y 1).val % 64 = _; omega)
  · rw [show headOf y = 1 from Fin.ext e]
    exact key _ (by rw [e]; show 128 + (y 0).val % 128 = _; omega) (by show 0 + (y 1).val % 64 = _; omega)
  · rw [show headOf y = 2 from Fin.ext e]
    exact key _ (by rw [e]; show 256 + (y 0).val % 128 = _; omega) (by show 0 + (y 1).val % 64 = _; omega)
  · rw [show headOf y = 3 from Fin.ext e]
    exact key _ (by rw [e]; show 384 + (y 0).val % 128 = _; omega) (by show 0 + (y 1).val % 64 = _; omega)

/-- A column of rows as a block with unit axes around it. -/
theorem col_cast (z : S128x1.Idx → EReal) (i : S1x128x1.Idx) :
    shapeCast S1x128x1 z shapeCasts_S128x1_S1x128x1 i = z (ix2 (i 1) 0) := by
  pointwise

include hu in
/-- The log-sums after all trips. -/
theorem lAll_apply (h2 : Rows q g x2) (h3 : Cols k g x3) (y : S1x2048x4.Idx) :
    lAll k0_pay21 k0_pay22 u x2 x3 y = ((LL q k t g (y 1).val (y 2).val : ℝ) : EReal) := by
  have y1 : (y 1).val < 2048 := (y 1).isLt
  have y2 : (y 2).val < 4 := (y 2).isLt
  have ed := (fwd_trip_apply q k (fun _ _ => 0) t g x2 x3 (fun _ => ((0 : ℝ) : EReal)) (colBlock y) u hu h2 h3 (fun _ => rfl)).2
  unfold lAll l0 l1 l2 l3 k0_pay15 k0_pay17 k0_pay2 k0_pay19 k0_pay4
  generalize k0_pay13 (F := Ideal) _ _ _ = z at ed
  have key : ∀ (i : S512x1.Idx), (i 0).val = (y 2).val * 128 + (y 1).val % 128 →
      z i = ((LL q k t g (y 1).val (y 2).val : ℝ) : EReal) := by
    intro i e0
    rw [ed, e0, show ((y 2).val * 128 + (y 1).val % 128) / 128 = (y 2).val by omega,
      show ((y 2).val * 128 + (y 1).val % 128) % 128 = (y 1).val % 128 by omega]
    rfl
  rcases (show (y 2).val = 0 ∨ (y 2).val = 1 ∨ (y 2).val = 2 ∨ (y 2).val = 3 by omega) with e | e | e | e
  · refine (congrFun (congrArg (pick (α := S1x128x1.Idx → EReal) _ _ _ _) (Fin.ext e : y 2 = (0 : Fin 4))) (inCol y)).trans ?_
    show shapeCast S1x128x1 (extractStridedSlice S128x1 ![0, 0] z slices_S512x1_o0_0_S128x1) shapeCasts_S128x1_S1x128x1 (inCol y) = _
    rw [col_cast]
    refine key _ ?_
    rw [e]; show 0 + (y 1).val % 128 = _; omega
  · refine (congrFun (congrArg (pick (α := S1x128x1.Idx → EReal) _ _ _ _) (Fin.ext e : y 2 = (1 : Fin 4))) (inCol y)).trans ?_
    show shapeCast S1x128x1 (extractStridedSlice S128x1 ![128, 0] z slices_S512x1_o128_0_S128x1) shapeCasts_S128x1_S1x128x1 (inCol y) = _
    rw [col_cast]
    refine key _ ?_
    rw [e]; show 128 + (y 1).val % 128 = _; omega
  · refine (congrFun (congrArg (pick (α := S1x128x1.Idx → EReal) _ _ _ _) (Fin.ext e : y 2 = (2 : Fin 4))) (inCol y)).trans ?_
    show shapeCast S1x128x1 (extractStridedSlice S128x1 ![256, 0] z slices_S512x1_o256_0_S128x1) shapeCasts_S128x1_S1x128x1 (inCol y) = _
    rw [col_cast]
    refine key _ ?_
    rw [e]; show 256 + (y 1).val % 128 = _; omega
  · refine (congrFun (congrArg (pick (α := S1x128x1.Idx → EReal) _ _ _ _) (Fin.ext e : y 2 = (3 : Fin 4))) (inCol y)).trans ?_
    show shapeCast S1x128x1 (extractStridedSlice S128x1 ![384, 0] z slices_S512x1_o384_0_S128x1) shapeCasts_S128x1_S1x128x1 (inCol y) = _
    rw [col_cast]
    refine key _ ?_
    rw [e]; show 384 + (y 1).val % 128 = _; omega

end All

/-- The sinks as the forward body spreads them over the stacked rows. -/
theorem sinks0_eq (i : grid0.Coords) (x1 : Vec Ideal S4x4 .f32) : sinks0 i x1
    = select k1_pay36 (broadcast S512x1 (View.ld x1 (Rect.unit (s := S4x4) (k0_off4 i) S1x1.size (k0_off4_inb i)) (Shape.Idx.first (numel1_S1x1.symm ▸ Nat.one_pos)) : Elt Ideal .f32))
        (k1_pay35 (F := Ideal) (View.ld x1 (Rect.unit (s := S4x4) (k0_off1 i) S1x1.size (k0_off1_inb i)) (Shape.Idx.first (numel1_S1x1.symm ▸ Nat.one_pos)))
          (View.ld x1 (Rect.unit (s := S4x4) (k0_off2 i) S1x1.size (k0_off2_inb i)) (Shape.Idx.first (numel1_S1x1.symm ▸ Nat.one_pos)))
          (View.ld x1 (Rect.unit (s := S4x4) (k0_off3 i) S1x1.size (k0_off3_inb i)) (Shape.Idx.first (numel1_S1x1.symm ▸ Nat.one_pos)))) := by
  rfl

end Cert.AttnValue

end
-- ==== Proof.AttnData.lean ====
/-
  The attention regions at given entry contents: what each window holds at each point, and the bodies there.
-/
module

public import proofs.«01_k».proof.Proof.AttnKernel
public import proofs.«01_k».proof.Proof.Gen.AttnIdeal.Launch
public import proofs.«01_k».proof.Proof.Gen.AttnIdeal.Points
public import Idealize.ShloMosaic.Lib.Pipeline.FrameBody
public import Idealize.ShloMosaic.Lib.Pipeline.FrameSuffix
public import Idealize.ShloMosaic.Lib.Pipeline.RegionsLoop
public import Idealize.ShloMosaic.Lib.Ring

@[expose] public section

set_option maxRecDepth 16384

noncomputable section

namespace Cert.AttnValue

open AttnIdeal AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The forward region -/

/-- A window's block at a point, of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's proof data: the inputs' buffers at their blocks, the outputs' at the body's functions of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (grid0.coords t) (iblk0 V c 0 t) (iblk0 V c 1 t) (iblk0 V c 2 t) (iblk0 V c 3 t)
    | ⟨5, _⟩ => out0_5 (grid0.coords t) (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (grid0.coords t) (iblk0 V c 0 t) (iblk0 V c 1 t) (iblk0 V c 2 t) (iblk0 V c 3 t) := by dsimp only [dat0]
theorem after0_5 (c : Dev nD) (t : Fin cfg0.N) : (dat0 V c).after 5 t = out0_5 (grid0.coords t) (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-- What the body is called with at a point, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row0 (t : Fin cfg0.N) :
    defs₀ (F := F) .tc cfg0.body (cfg0.bodyArgs t (cfg0.slots t)) = bodyAt0 t := by
  unfold defs₀; rw [Defs.onTc_tc]

/-- The body's obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # The backward region -/

/-- A window's block at a point, of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region's proof data: the inputs' buffers at their blocks, the outputs' at the body's functions of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => dqAll k1_pay30 k1_pay31 (iblk1 V c 1 t) (iblk1 V c 2 t) (iblk1 V c 3 t) (iblk1 V c 4 t) (iblk1 V c 5 t) (iblk1 V c 6 t)
    | ⟨8, _⟩ => dkTrips k1_pay30 k1_pay31 (iblk1 V c 1 t) (iblk1 V c 2 t) (iblk1 V c 3 t) (iblk1 V c 4 t) (iblk1 V c 5 t) (iblk1 V c 6 t) 16
    | ⟨9, _⟩ => dvTrips k1_pay30 k1_pay31 (iblk1 V c 1 t) (iblk1 V c 2 t) (iblk1 V c 5 t) (iblk1 V c 6 t) 16
    | ⟨10, _⟩ => sinkOut (accAll (grid1.coords t) (iblk1 V c 0 t) (iblk1 V c 4 t) (iblk1 V c 5 t) (iblk1 V c 6 t))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = dqAll k1_pay30 k1_pay31 (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = dkTrips k1_pay30 k1_pay31 (iblk1 V c 1 t) (iblk1 V c 2 t) (iblk1 V c 3 t) (iblk1 V c 4 t) (iblk1 V c 5 t) (iblk1 V c 6 t) 16 := by dsimp only [dat1]
theorem after1_9 (c : Dev nD) (t : Fin cfg1.N) : (dat1 V c).after 9 t = dvTrips k1_pay30 k1_pay31 (iblk1 V c 1 t) (iblk1 V c 2 t) (iblk1 V c 5 t) (iblk1 V c 6 t) 16 := by dsimp only [dat1]
theorem after1_10 (c : Dev nD) (t : Fin cfg1.N) : (dat1 V c).after 10 t = sinkOut (accAll (grid1.coords t) (iblk1 V c 0 t) (iblk1 V c 4 t) (iblk1 V c 5 t) (iblk1 V c 6 t)) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)

/-- What the body is called with at a point, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row1 (t : Fin cfg1.N) :
    defs₀ (F := F) .tc cfg1.body (cfg1.bodyArgs t (cfg1.slots t)) = bodyAt1 t := by
  unfold defs₀; rw [Defs.onTc_tc]

/-- The body's obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.AttnValue

end
-- ==== Proof.AttnRun.lean ====
/-
  The run of the attention program, with every array's contents at the end.
-/
module

public import proofs.«01_k».proof.Proof.AttnData

@[expose] public section

set_option maxRecDepth 16384

noncomputable section

namespace Cert.AttnValue

open AttnIdeal AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4]

/-! ## The buffers' contents between the segments -/

/-- At launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

theorem hostOps0_fresh : (hostOps0 : List (HloOp τ sig (Elt F))).Forall fun op => op.fresh = ∅ := by
  simp only [List.Forall]; repeat' constructor
/-- What the stretch writes. -/
abbrev hostOps0_W : List (Ref sig .tc) := [main_v0, main_v1, main_v2, main_v3, main_v4, main_v5, main_v6, main_v7]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)
/-- After the host stretch. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b

/-- After region 0: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After region 1: its arrays at what its write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

theorem hostOps2_fresh : (hostOps2 : List (HloOp τ sig (Elt F))).Forall fun op => op.fresh = ∅ := by
  simp only [List.Forall]; repeat' constructor
/-- What the stretch writes. -/
abbrev hostOps2_W : List (Ref sig .tc) := [main_v10, main_v11, main_v12, main_v13, main_v14]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)
/-- After the host stretch. -/
abbrev W4 : Dev nD → Valuation τ sig (Elt F) := fun c => StableHlo.after hostOps2 (W3 m ρ c)
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ## The regions as segments -/

abbrev adm : (p : Fin 2) → (pcfgs (F := F) p).Adm := fun p => (cfgs p).toPCfg_adm
/-- Every region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides along: the generator register, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- Region 0 as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last host stretch leaves the last thread state. -/
theorem chain_end (c : Dev nD) : (iprop(StableHlo.held (c : Thread nD τ) (Pipeline.ucRefs τ sig) (W4 m ρ c) ∗ R c) : sProp 𝕄)
    ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-- The main function's segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

theorem no_unscoped : ∀ sm : SemLoc sig, sm.isScoped .tc = true := by decide

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)

set_option backward.isDefEq.respectTransparency.types false in
/-- Every run ends with every unscoped buffer at the contents of the last boundary, and every counter at zero. -/
theorem run : θ_run defs (onTc (τ := τ) (main (F := F))) ⟨m, fun _ => 0, ρ⟩ (fun r =>
      (∀ c : Dev nD, ∀ b ∈ Pipeline.ucRefs τ sig, r.2.mem ((c.tc : Thread nD τ).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, chain_end m ρ⟩)
    (hinit := by
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

end Cert.AttnValue

end
-- ==== Proof.AttnArray.lean ====
/-
  The attention's arrays over the reals: what the forward and the backward region leave, from real arguments.
-/
module

public import proofs.«01_k».proof.Proof.AttnOut
public import proofs.«01_k».proof.Proof.AttnRun

@[expose] public section

set_option maxRecDepth 16384

noncomputable section

namespace Cert.AttnValue

open AttnIdeal AttnIdeal.Gen
open Idealize.ShloMosaic Idealize.ShloMosaic.TcCoe Idealize.SL.Sem
open Idealize.ShloMosaic.Pipeline (Dat)
open AttnReal AttnMath Reals

/-- Which block of each array a head group of the forward region works on. -/
theorem idx0 : ∀ t : Fin cfg0.N, win0_0.index t = ![0, 0] ∧ win0_1.index t = ![0, t.val] ∧ win0_2.index t = ![t.val, 0, 0]
    ∧ win0_3.index t = ![t.val, 0, 0] ∧ win0_4.index t = ![0, t.val] ∧ win0_5.index t = ![t.val, 0, 0] :=
  (by decide +kernel : ∀ t : Fin grid0.N, _)

/-- Which block of each array a head group of the backward region works on. -/
theorem idx1 : ∀ t : Fin cfg1.N, win1_0.index t = ![0, 0] ∧ win1_1.index t = ![0, t.val] ∧ win1_2.index t = ![t.val, 0, 0]
    ∧ win1_3.index t = ![t.val, 0, 0] ∧ win1_4.index t = ![0, t.val] ∧ win1_5.index t = ![0, t.val] ∧ win1_6.index t = ![t.val, 0, 0]
    ∧ win1_7.index t = ![0, t.val] ∧ win1_8.index t = ![t.val, 0, 0] ∧ win1_9.index t = ![t.val, 0, 0] ∧ win1_10.index t = ![t.val, 0, 0] :=
  (by decide +kernel : ∀ t : Fin grid1.N, _)

/-- Where the forward body reads the sinks. -/
theorem soff0 : ∀ t : Fin cfg0.N, k0_off1 (grid0.coords t) = ![t.val, 0] ∧ k0_off2 (grid0.coords t) = ![t.val, 1]
    ∧ k0_off3 (grid0.coords t) = ![t.val, 2] ∧ k0_off4 (grid0.coords t) = ![t.val, 3] :=
  (by decide +kernel : ∀ t : Fin grid0.N, _)
/-- Where the backward body reads them. -/
theorem soff1 : ∀ t : Fin cfg1.N, k1_off1 (grid1.coords t) = ![t.val, 0] ∧ k1_off2 (grid1.coords t) = ![t.val, 1]
    ∧ k1_off3 (grid1.coords t) = ![t.val, 2] ∧ k1_off4 (grid1.coords t) = ![t.val, 3] :=
  (by decide +kernel : ∀ t : Fin grid1.N, _)

/-- One element of the sinks. -/
theorem ld_sink (x1 : Vec Ideal S4x4 .f32) (t : ℕ → ℝ) (h : ∀ y, x1 y = ((t ((y 0).val * 4 + (y 1).val) : ℝ) : EReal)) (g a : ℕ)
    {off : Fin S4x4.rank → ℕ} (ho : off = ![g, a]) (inb) (x : (Rect.unit (s := S4x4) off S1x1.size inb).shape.Idx) :
    View.ld x1 (Rect.unit (s := S4x4) off S1x1.size inb) x = ((t (g * 4 + a) : ℝ) : EReal) := by
  subst ho
  have x0 : (x 0).val < 1 := (x 0).isLt
  have x1 : (x 1).val < 1 := (x 1).isLt
  unfold View.ld
  rw [h]
  refine congrArg _ (congrArg t ?_)
  show (g + 1 * (x 0).val) * 4 + (a + 1 * (x 1).val) = _
  rw [show (x 0).val = 0 by omega, show (x 1).val = 0 by omega]
  rfl

section Regions

variable (V : (c : Dev nD) → (b : Ref sig .tc) → Buf (Elt Ideal) ((c : Thread nD τ).loc b)) (c : Dev nD)
  (q k v : ℕ → ℕ → ℝ) (t : ℕ → ℝ) (d : ℕ → ℕ → ℝ)
  (ht : ∀ y, V c main_v7 y = ((t ((y 0).val * 4 + (y 1).val) : ℝ) : EReal))
  (hq : ∀ y, V c main_v0 y = ((q (y 0).val (y 1).val : ℝ) : EReal))
  (hk : ∀ y, V c main_v3 y = ((k (y 1).val ((y 0).val * 64 + (y 2).val) : ℝ) : EReal))
  (hv : ∀ y, V c main_v6 y = ((v (y 1).val ((y 0).val * 64 + (y 2).val) : ℝ) : EReal))

/-! ## The blocks of the forward region -/

include ht in
/-- Every head group reads all sinks. -/
theorem blk0_0 (p : Fin cfg0.N) : ∀ y, iblk0 V c 0 p y = ((t ((y 0).val * 4 + (y 1).val) : ℝ) : EReal) := by
  intro y
  unfold iblk0
  refine (ht _).trans ?_
  blk_simp [idx0 p]

include hq in
/-- The queries' columns of a head group. -/
theorem blk0_1 (p : Fin cfg0.N) : Rows q p.val (iblk0 V c 1 p) := by
  intro y
  unfold iblk0
  refine (hq _).trans ?_
  blk_simp [idx0 p]

include hk in
/-- The keys of a head group. -/
theorem blk0_2 (p : Fin cfg0.N) : Cols k p.val (iblk0 V c 2 p) := by
  intro y
  unfold iblk0
  refine (hk _).trans ?_
  blk_simp [idx0 p]

include hv in
/-- The values of a head group. -/
theorem blk0_3 (p : Fin cfg0.N) : Cols v p.val (iblk0 V c 3 p) := by
  intro y
  unfold iblk0
  refine (hv _).trans ?_
  blk_simp [idx0 p]

variable (ho : ∀ y, V c main_v8_0 y = ((OO q k v t (y 0).val (y 1).val : ℝ) : EReal))
  (hd : ∀ y, V c main_arg4 y = ((d (y 0).val (y 1).val : ℝ) : EReal))
  (hl : ∀ y, V c main_v8_1 y = ((LL q k t (y 0).val (y 1).val (y 2).val : ℝ) : EReal))

/-! ## The blocks of the backward region -/

include ht in
/-- Every head group reads all sinks. -/
theorem blk1_0 (p : Fin cfg1.N) : ∀ y, iblk1 V c 0 p y = ((t ((y 0).val * 4 + (y 1).val) : ℝ) : EReal) := by
  intro y
  unfold iblk1
  refine (ht _).trans ?_
  blk_simp [idx1 p]

include hq in
/-- The queries' columns of a head group. -/
theorem blk1_1 (p : Fin cfg1.N) : Rows q p.val (iblk1 V c 1 p) := by
  intro y
  unfold iblk1
  refine (hq _).trans ?_
  blk_simp [idx1 p]

include hk in
/-- The keys of a head group. -/
theorem blk1_2 (p : Fin cfg1.N) : Cols k p.val (iblk1 V c 2 p) := by
  intro y
  unfold iblk1
  refine (hk _).trans ?_
  blk_simp [idx1 p]

include hv in
/-- The values of a head group. -/
theorem blk1_3 (p : Fin cfg1.N) : Cols v p.val (iblk1 V c 3 p) := by
  intro y
  unfold iblk1
  refine (hv _).trans ?_
  blk_simp [idx1 p]

include ho in
/-- The output's columns of a head group. -/
theorem blk1_4 (p : Fin cfg1.N) : Rows (OO q k v t) p.val (iblk1 V c 4 p) := by
  intro y
  unfold iblk1
  refine (ho _).trans ?_
  blk_simp [idx1 p]

include hd in
/-- The cotangent's columns of a head group. -/
theorem blk1_5 (p : Fin cfg1.N) : Rows d p.val (iblk1 V c 5 p) := by
  intro y
  unfold iblk1
  refine (hd _).trans ?_
  blk_simp [idx1 p]

include hl in
/-- The log-sums of a head group. -/
theorem blk1_6 (p : Fin cfg1.N) : ∀ y, iblk1 V c 6 p y = ((LL q k t p.val (y 1).val (y 2).val : ℝ) : EReal) := by
  intro y
  unfold iblk1
  refine (hl _).trans ?_
  blk_simp [idx1 p]

/-! ## What the forward region leaves -/

include ht in
/-- The sinks over the stacked rows of a head group. -/
theorem sinks0_real (p : Fin cfg0.N) (i : S512x1.Idx) :
    sinks0 (grid0.coords p) (iblk0 V c 0 p) i = ((t (p.val * 4 + (i 0).val / 128) : ℝ) : EReal) := by
  rw [sinks0_eq]
  have hb := blk0_0 V c t ht p
  exact sink_rows t p.val _ _ _ _ (ld_sink _ t hb p.val 0 (soff0 p).1 _ _) (ld_sink _ t hb p.val 1 (soff0 p).2.1 _ _)
    (ld_sink _ t hb p.val 2 (soff0 p).2.2.1 _ _) (ld_sink _ t hb p.val 3 (soff0 p).2.2.2 _ _) i

include ht hq hk hv in
/-- The attention's output, in full. -/
theorem arr_o : (dat0 V c).arrAt 4 cfg0.N = fun y => ((OO q k v t (y 0).val (y 1).val : ℝ) : EReal) := by
  refine (dat0 V c).arrAt_eq_of_covers 4 _ (by decide +kernel) fun p _ y => ?_
  rw [after0_4]
  unfold out0_4
  refine (oAll_apply q k v t p.val _ _ _ _ (sinks0_real V c t ht p) (blk0_1 V c q hq p) (blk0_2 V c k hk p) (blk0_3 V c v hv p) _).trans ?_
  blk_simp [idx0 p]
  have y1 : (y 1).val < 256 := (y 1).isLt
  show ((O q k v t ((y 0).val / 128) p.val ((y 1).val / 64) ((y 0).val % 128) ((y 1).val % 64) : ℝ) : EReal) = _
  unfold OO
  rw [show (p.val * 256 + (y 1).val) / 256 = p.val by omega, show (p.val * 256 + (y 1).val) / 64 % 4 = (y 1).val / 64 by omega,
    show (p.val * 256 + (y 1).val) % 64 = (y 1).val % 64 by omega]

include ht hq hk in
/-- The rows' log-sums, in full. -/
theorem arr_l : (dat0 V c).arrAt 5 cfg0.N = fun y => ((LL q k t (y 0).val (y 1).val (y 2).val : ℝ) : EReal) := by
  refine (dat0 V c).arrAt_eq_of_covers 5 _ (by decide +kernel) fun p _ y => ?_
  rw [after0_5]
  unfold out0_5
  refine (lAll_apply q k t p.val _ _ _ (sinks0_real V c t ht p) (blk0_1 V c q hq p) (blk0_2 V c k hk p) _).trans ?_
  blk_simp [idx0 p]

/-! ## What the backward region leaves -/

include ht hq hk hv ho hd hl in
/-- The gradient of the queries, in full. -/
theorem arr_dq : (dat1 V c).arrAt 7 cfg1.N = fun y => ((DQ q k v t d ((y 0).val / 128) ((y 1).val / 256) ((y 1).val / 64 % 4) ((y 0).val % 128) ((y 1).val % 64) : ℝ) : EReal) := by
  refine (dat1 V c).arrAt_eq_of_covers 7 _ (by decide +kernel) fun p _ y => ?_
  rw [after1_7]
  refine (dqAll_apply q k v t d p.val _ _ _ _ _ _ (blk1_1 V c q hq p) (blk1_2 V c k hk p) (blk1_3 V c v hv p)
    (blk1_4 V c q k v t ho p) (blk1_5 V c d hd p) (blk1_6 V c q k t hl p) _).trans ?_
  blk_simp [idx1 p]
  have y1 : (y 1).val < 256 := (y 1).isLt
  show ((DQ q k v t d ((y 0).val / 128) p.val ((y 1).val / 64) ((y 0).val % 128) ((y 1).val % 64) : ℝ) : EReal) = _
  rw [show (p.val * 256 + (y 1).val) / 256 = p.val by omega, show (p.val * 256 + (y 1).val) / 64 % 4 = (y 1).val / 64 by omega,
    show (p.val * 256 + (y 1).val) % 64 = (y 1).val % 64 by omega]

include ht hq hk hv ho hd hl in
/-- The gradient of the keys, in full. -/
theorem arr_dk : (dat1 V c).arrAt 8 cfg1.N = fun y => ((fold (fun m j => KB q k v t d m (y 0).val j (y 2).val) ((y 1).val / 128) ⟨(y 1).val % 128, Nat.mod_lt _ (by decide)⟩ : ℝ) : EReal) := by
  refine (dat1 V c).arrAt_eq_of_covers 8 _ (by decide +kernel) fun p _ y => ?_
  rw [after1_8]
  refine (dkTrips_apply q k v t d p.val _ _ _ _ _ _ (blk1_1 V c q hq p) (blk1_2 V c k hk p) (blk1_3 V c v hv p)
    (blk1_4 V c q k v t ho p) (blk1_5 V c d hd p) (blk1_6 V c q k t hl p) 16 (le_refl _) _).trans ?_
  blk_simp [idx1 p]
  have y1 : (y 1).val < 2048 := (y 1).isLt
  exact congrArg (fun r : ℝ => (r : EReal)) (part_all _ _ (by show (y 1).val / 128 < 16; omega) _)

include ht hq hk hv ho hd hl in
/-- The gradient of the values, in full. -/
theorem arr_dv : (dat1 V c).arrAt 9 cfg1.N = fun y => ((fold (fun m j => VB q k t d m (y 0).val j (y 2).val) ((y 1).val / 128) ⟨(y 1).val % 128, Nat.mod_lt _ (by decide)⟩ : ℝ) : EReal) := by
  refine (dat1 V c).arrAt_eq_of_covers 9 _ (by decide +kernel) fun p _ y => ?_
  rw [after1_9]
  refine (dvTrips_apply q k t d p.val _ _ _ _ (blk1_1 V c q hq p) (blk1_2 V c k hk p)
    (blk1_5 V c d hd p) (blk1_6 V c q k t hl p) 16 (le_refl _) _).trans ?_
  blk_simp [idx1 p]
  have y1 : (y 1).val < 2048 := (y 1).isLt
  exact congrArg (fun r : ℝ => (r : EReal)) (part_all _ _ (by show (y 1).val / 128 < 16; omega) _)

include ht hq hk hv ho hd hl in
/-- The gradient of the sinks, in full. -/
theorem arr_ds : (dat1 V c).arrAt 10 cfg1.N = fun y => ((DT q k v t d (y 0).val (y 2).val : ℝ) : EReal) := by
  refine (dat1 V c).arrAt_eq_of_covers 10 _ (by decide +kernel) fun p _ y => ?_
  rw [after1_10]
  have hb := blk1_0 V c t ht p
  unfold accAll
  refine (sinkOut_apply q k v t d p.val _ (accTrips_apply q k v t d p.val _ _ _ (blk1_4 V c q k v t ho p) (blk1_5 V c d hd p) (blk1_6 V c q k t hl p) _ _ _ _
    (ld_sink _ t hb p.val 0 (soff1 p).1 _ _) (ld_sink _ t hb p.val 1 (soff1 p).2.1 _ _)
    (ld_sink _ t hb p.val 2 (soff1 p).2.2.1 _ _) (ld_sink _ t hb p.val 3 (soff1 p).2.2.2 _ _) 16 (le_refl _)) _).trans ?_
  blk_simp [idx1 p]

end Regions

end Cert.AttnValue

end
-- ==== Proof.AttnRefRow.lean ====
/-
  The rows of the reference of the attention: the shifted softmax and its derivative, read as the plain one.
-/
module

public import proofs.«01_k».proof.Proof.AttnRef

@[expose] public section

set_option maxRecDepth 16384

noncomputable section

namespace Cert.AttnRefRead

open AttnRefIdeal AttnRefIdeal.Gen AttnRefIdeal.Read
open Idealize.ShloMosaic Idealize.ShloMosaic.TcCoe AttnReal AttnMath Reals

variable (q k v : ℕ → ℕ → ℝ) (t : ℕ → ℝ) (c : ℕ → ℕ → ℝ)

/-- A fold of `max` from `⊥` over a nonempty finite set is one of the values. -/
theorem fold_max_mem_of {ι : Type} (s : Finset ι) (hs : s.Nonempty) (f : ι → EReal) :
    ∃ i ∈ s, s.fold max ⊥ f = f i := Finset.exists_mem_eq_sup s hs f

/-- The row maximum is one of the row's scores. -/
theorem r51 (i : S16x4x4x128.Idx) : ∃ j : Fin 256, val_main_v51 (F := Ideal) (mat q) (mat k) i
    = Sc (M (i 0).val (i 3).val) (S q k (i 0).val (i 1).val (i 2).val (i 3).val) j := by
  unfold val_main_v51
  rw [Ideal.maximumf_eq_max, Host.reduce_eq_fold, val_main_cst_9_apply, ninf_f32]
  obtain ⟨x, hx, he⟩ := fold_max_mem_of (Finset.univ.filter fun x : S16x4x4x128x256.Idx => reducesTo_S16x4x4x128x256_S16x4x4x128_d4.drop x = i)
    ⟨fun b => match b with | ⟨0, _⟩ => i 0 | ⟨1, _⟩ => i 1 | ⟨2, _⟩ => i 2 | ⟨3, _⟩ => i 3 | ⟨4, _⟩ => ⟨0, by show 0 < 256; omega⟩, by
      simp only [Finset.mem_filter, Finset.mem_univ, true_and]
      funext b; match b with | ⟨0, _⟩ => rfl | ⟨1, _⟩ => rfl | ⟨2, _⟩ => rfl | ⟨3, _⟩ => rfl⟩
    (val_main_v48_0 (F := Ideal) (mat q) (mat k))
  have hd := (Finset.mem_filter.mp hx).2
  refine ⟨x 4, he.trans ?_⟩
  rw [r48s]
  have h0 : (x 0).val = (i 0).val := congrArg Fin.val (congrFun hd 0)
  have h1 : (x 1).val = (i 1).val := congrArg Fin.val (congrFun hd 1)
  have h2 : (x 2).val = (i 2).val := congrArg Fin.val (congrFun hd 2)
  have h3 : (x 3).val = (i 3).val := congrArg Fin.val (congrFun hd 3)
  rw [h0, h1, h2, h3]

/-- The sink of a head. -/
theorem r50 (i : S1x4x4x1x1.Idx) : val_main_v50 (F := Ideal) (vec t) i = ((t ((i 1).val * 4 + (i 2).val) : ℝ) : EReal) := by
  rw [val_main_v50_apply, val_main_v49_apply]; rfl

/-- The shift: the row's maximum with the sink, a real. -/
def mx (n g h r : ℕ) : ℝ := if hb : (n < 16 ∧ g < 4) ∧ h < 4 ∧ r < 128 then
  (val_main_v59 (F := Ideal) (mat q) (mat k) (vec t) (fun b => match b with
    | ⟨0, _⟩ => ⟨n, hb.1.1⟩ | ⟨1, _⟩ => ⟨g, hb.1.2⟩ | ⟨2, _⟩ => ⟨h, hb.2.1⟩ | ⟨3, _⟩ => ⟨r, hb.2.2⟩ | ⟨4, _⟩ => ⟨0, by show 0 < 1; omega⟩)).toReal else 0

theorem r59 (i : S16x4x4x128x1.Idx) : val_main_v59 (F := Ideal) (mat q) (mat k) (vec t) i
    = ((mx q k t (i 0).val (i 1).val (i 2).val (i 3).val : ℝ) : EReal) := by
  have h4 : (i 4).val < 1 := (i 4).isLt
  unfold mx
  rw [dif_pos ⟨⟨(i 0).isLt, (i 1).isLt⟩, (i 2).isLt, (i 3).isLt⟩]
  have hi : (fun b => match b with
    | ⟨0, _⟩ => ⟨(i 0).val, (i 0).isLt⟩ | ⟨1, _⟩ => ⟨(i 1).val, (i 1).isLt⟩ | ⟨2, _⟩ => ⟨(i 2).val, (i 2).isLt⟩
    | ⟨3, _⟩ => ⟨(i 3).val, (i 3).isLt⟩ | ⟨4, _⟩ => ⟨0, by show 0 < 1; omega⟩ : S16x4x4x128x1.Idx) = i := by
    funext b; match b with | ⟨0, _⟩ => rfl | ⟨1, _⟩ => rfl | ⟨2, _⟩ => rfl | ⟨3, _⟩ => rfl | ⟨4, _⟩ => exact Fin.ext (by show 0 = (i 4).val; omega)
  refine Eq.trans (?_ : _ = (((val_main_v59 (F := Ideal) (mat q) (mat k) (vec t) i).toReal : ℝ) : EReal))
    (congrArg (fun x => (((val_main_v59 (F := Ideal) (mat q) (mat k) (vec t) x).toReal : ℝ) : EReal)) hi.symm)
  have hv : val_main_v59 (F := Ideal) (mat q) (mat k) (vec t) i = max (val_main_v51 (F := Ideal) (mat q) (mat k) (idx_main_v57 i)) ((t ((i 1).val * 4 + (i 2).val) : ℝ) : EReal) := by
    rw [val_main_v59_apply, val_main_v57_apply, val_main_v58_apply, r50]; rfl
  refine (EReal.coe_toReal ?_ ?_).symm
  · rw [hv]
    intro h
    obtain ⟨j, hj⟩ := r51 q k (idx_main_v57 i)
    rcases max_choice (val_main_v51 (F := Ideal) (mat q) (mat k) (idx_main_v57 i)) ((t ((i 1).val * 4 + (i 2).val) : ℝ) : EReal) with h' | h' <;> rw [h'] at h
    · exact Sc_ne_top _ _ j (hj.symm.trans h)
    · exact EReal.coe_ne_top _ h
  · rw [hv]
    intro h
    have := le_max_right (val_main_v51 (F := Ideal) (mat q) (mat k) (idx_main_v57 i)) ((t ((i 1).val * 4 + (i 2).val) : ℝ) : EReal)
    rw [h] at this
    exact EReal.coe_ne_bot _ (le_bot_iff.mp this)

/-- The shifted exponentials. -/
theorem r80 (i : S16x4x4x128x256.Idx) : val_main_v80 (F := Ideal) (mat q) (mat k) (vec t) i
    = ((num (M (i 0).val (i 3).val) (S q k (i 0).val (i 1).val (i 2).val (i 3).val) (i 4)
        * Real.exp (-(mx q k t (i 0).val (i 1).val (i 2).val (i 3).val)) : ℝ) : EReal) := by
  rw [val_main_v80_apply, val_main_v79_apply, val_main_v78_apply, r59, r48s]
  exact exp_Sc _ _ _ _

/-- The sink's shifted exponential. -/
theorem r85 (i : S16x4x4x128x1.Idx) : val_main_v85 (F := Ideal) (mat q) (mat k) (vec t) i
    = ((Real.exp (t ((i 1).val * 4 + (i 2).val)) * Real.exp (-(mx q k t (i 0).val (i 1).val (i 2).val (i 3).val)) : ℝ) : EReal) := by
  rw [val_main_v85_apply, val_main_v84_apply, val_main_v83_apply, r59, r50]
  exact exp_sink _ _

/-- A row's normaliser. -/
abbrev Zr (n g h r : ℕ) : ℝ := Z (M n r) (S q k n g h r) (t (g * 4 + h))
/-- The shift's factor. -/
abbrev E (n g h r : ℕ) : ℝ := Real.exp (-(mx q k t n g h r))

/-- The shifted normaliser. -/
theorem r86 (i : S16x4x4x128x1.Idx) : val_main_v86 (F := Ideal) (mat q) (mat k) (vec t) i
    = ((Zr q k t (i 0).val (i 1).val (i 2).val (i 3).val * E q k t (i 0).val (i 1).val (i 2).val (i 3).val : ℝ) : EReal) := by
  rw [val_main_v86_apply, val_main_v82_apply, val_main_v81_apply, r85]
  simp only [r80, sum_coe, val_main_cst_17_apply, zero_f32]
  show ((0 : ℝ) : EReal) + ((∑ _, _ : ℝ) : EReal) + (_ : EReal) = _
  rw [EReal.coe_zero, zero_add, ← EReal.coe_add]
  exact congrArg _ (sum_shift (M (i 0).val (i 3).val) (S q k (i 0).val (i 1).val (i 2).val (i 3).val) (t ((i 1).val * 4 + (i 2).val)) _)

/-- The weights. -/
theorem r88 (i : S16x4x4x128x256.Idx) : val_main_v88 (F := Ideal) (mat q) (mat k) (vec t) i
    = ((P q k t (i 0).val (i 1).val (i 2).val (i 3).val (i 4) : ℝ) : EReal) := by
  rw [val_main_v88_apply, val_main_v87_apply, r86, r80]
  refine (div_coe_coe _ (shift_ne (M (i 0).val (i 3).val) (S q k (i 0).val (i 1).val (i 2).val (i 3).val) (t ((i 1).val * 4 + (i 2).val)) _)).trans ?_
  exact congrArg _ (W_shift _ _ _ _ _)

/-- The weights' cotangents. -/
theorem r98 (i : S16x4x4x128x256.Idx) : val_main_v98 (F := Ideal) (mat v) (mat c) i
    = ((DP v c (i 0).val (i 1).val (i 2).val (i 3).val (i 4) : ℝ) : EReal) := by
  rw [val_main_v98_apply]
  simp only [r97, r14, ← EReal.coe_mul, sum_coe]
  rfl

/-- The normaliser's cotangent. -/
theorem r106 (i : S16x4x4x128x1.Idx) : val_main_v106 (F := Ideal) (mat q) (mat k) (mat v) (vec t) (mat c) i
    = ((ctD (M (i 0).val (i 3).val) (S q k (i 0).val (i 1).val (i 2).val (i 3).val) (t ((i 1).val * 4 + (i 2).val))
        (DP v c (i 0).val (i 1).val (i 2).val (i 3).val) (mx q k t (i 0).val (i 1).val (i 2).val (i 3).val) : ℝ) : EReal) := by
  have h0 : (i 0).val < 16 := (i 0).isLt; have h1 : (i 1).val < 4 := (i 1).isLt; have h2 : (i 2).val < 4 := (i 2).isLt
  have h3 : (i 3).val < 128 := (i 3).isLt; have h4 : (i 4).val < 1 := (i 4).isLt
  have hi : idx_main_v105 i = (fun b => match b with | ⟨0, _⟩ => i 0 | ⟨1, _⟩ => i 1 | ⟨2, _⟩ => i 2 | ⟨3, _⟩ => i 3 : S16x4x4x128.Idx) := by
    funext b
    match b with
    | ⟨0, _⟩ => exact Fin.ext (by dsimp only; omega)
    | ⟨1, _⟩ => exact Fin.ext (by dsimp only; omega)
    | ⟨2, _⟩ => exact Fin.ext (by dsimp only; omega)
    | ⟨3, _⟩ => exact Fin.ext (by dsimp only; omega)
  rw [val_main_v106_apply, val_main_v105_apply, hi, val_main_v104_apply]
  simp only [val_main_v103_apply, val_main_v102_apply, val_main_v101_apply, val_main_v91_apply, val_main_v90_apply,
    val_main_v89_apply, r86, r98, r80, val_main_cst_19_apply, zero_f32, val_main_cst_18_apply, one_f32]
  have hz : Ideal.div ((1 : ℝ) : EReal) (((Zr q k t (i 0).val (i 1).val (i 2).val (i 3).val * E q k t (i 0).val (i 1).val (i 2).val (i 3).val) * (Zr q k t (i 0).val (i 1).val (i 2).val (i 3).val * E q k t (i 0).val (i 1).val (i 2).val (i 3).val) : ℝ) : EReal)
      = ((1 / ((Zr q k t (i 0).val (i 1).val (i 2).val (i 3).val * E q k t (i 0).val (i 1).val (i 2).val (i 3).val) * (Zr q k t (i 0).val (i 1).val (i 2).val (i 3).val * E q k t (i 0).val (i 1).val (i 2).val (i 3).val)) : ℝ) : EReal) :=
    div_coe_coe _ (mul_ne_zero (shift_ne _ _ _ _) (shift_ne _ _ _ _))
  show -(((0 : ℝ) : EReal) + ∑ x : Fin 256, ((DP v c (i 0).val (i 1).val (i 2).val (i 3).val x : ℝ) : EReal)
    * Ideal.div ((1 : ℝ) : EReal) (((Zr q k t (i 0).val (i 1).val (i 2).val (i 3).val * E q k t (i 0).val (i 1).val (i 2).val (i 3).val : ℝ) : EReal)
      * ((Zr q k t (i 0).val (i 1).val (i 2).val (i 3).val * E q k t (i 0).val (i 1).val (i 2).val (i 3).val : ℝ) : EReal))
    * ((num (M (i 0).val (i 3).val) (S q k (i 0).val (i 1).val (i 2).val (i 3).val) x * E q k t (i 0).val (i 1).val (i 2).val (i 3).val : ℝ) : EReal)) = _
  simp only [← EReal.coe_mul, hz, sum_coe]
  rw [EReal.coe_zero, zero_add, ← EReal.coe_neg]
  rfl

/-- The sink's cotangent. -/
theorem r109 (i : S16x4x4x128x1.Idx) : val_main_v109 (F := Ideal) (mat q) (mat k) (mat v) (vec t) (mat c) i
    = ((-(Ws (M (i 0).val (i 3).val) (S q k (i 0).val (i 1).val (i 2).val (i 3).val) (t ((i 1).val * 4 + (i 2).val))
        * delta (M (i 0).val (i 3).val) (S q k (i 0).val (i 1).val (i 2).val (i 3).val) (t ((i 1).val * 4 + (i 2).val))
            (DP v c (i 0).val (i 1).val (i 2).val (i 3).val)) : ℝ) : EReal) := by
  rw [val_main_v109_apply, r106, r85]
  refine (EReal.coe_mul _ _).symm.trans ?_
  exact congrArg _ (sink_shift _ _ _ _ _)

/-- The scores' cotangents, as they come through the exponentials. -/
theorem r116 (i : S16x4x4x128x256.Idx) : val_main_v116 (F := Ideal) (mat q) (mat k) (mat v) (vec t) (mat c) i
    = ((dS (M (i 0).val (i 3).val) (S q k (i 0).val (i 1).val (i 2).val (i 3).val) (t ((i 1).val * 4 + (i 2).val))
        (DP v c (i 0).val (i 1).val (i 2).val (i 3).val) (i 4) : ℝ) : EReal) := by
  rw [val_main_v116_apply, val_main_v115_apply, val_main_v108_apply, val_main_v107_apply, val_main_v114_apply,
    val_main_v113_apply, r80, r86, r98]
  simp only [Finset.univ_unique, Finset.sum_singleton, r106, val_main_cst_21_apply, zero_f32]
  have hz := div_coe_coe (DP v c (i 0).val (i 1).val (i 2).val (i 3).val (i 4))
    (shift_ne (M (i 0).val (i 3).val) (S q k (i 0).val (i 1).val (i 2).val (i 3).val) (t ((i 1).val * 4 + (i 2).val)) (mx q k t (i 0).val (i 1).val (i 2).val (i 3).val))
  refine (congrArg (fun x : EReal => (x + (((0 : ℝ) : EReal) + _)) * _) hz).trans ?_
  rw [EReal.coe_zero, zero_add, ← EReal.coe_add, ← EReal.coe_mul]
  exact congrArg _ (dS_shift _ _ _ _ _ _)

/-- No cotangent reaches the maximum. -/
theorem r120 (i : S16x4x4x128x1.Idx) : val_main_v120 (F := Ideal) (mat q) (mat k) (mat v) (vec t) (mat c) i = 0 := by
  have h0 : (i 0).val < 16 := (i 0).isLt; have h1 : (i 1).val < 4 := (i 1).isLt; have h2 : (i 2).val < 4 := (i 2).isLt
  have h3 : (i 3).val < 128 := (i 3).isLt; have h4 : (i 4).val < 1 := (i 4).isLt
  have hi : idx_main_v119 i = (fun b => match b with | ⟨0, _⟩ => i 0 | ⟨1, _⟩ => i 1 | ⟨2, _⟩ => i 2 | ⟨3, _⟩ => i 3 : S16x4x4x128.Idx) := by
    funext b
    match b with
    | ⟨0, _⟩ => exact Fin.ext (by dsimp only; omega)
    | ⟨1, _⟩ => exact Fin.ext (by dsimp only; omega)
    | ⟨2, _⟩ => exact Fin.ext (by dsimp only; omega)
    | ⟨3, _⟩ => exact Fin.ext (by dsimp only; omega)
  rw [val_main_v120_apply, val_main_v119_apply, hi, val_main_v118_apply, val_main_v112_apply, r109]
  simp only [val_main_v117_apply, r116, val_main_cst_22_apply, zero_f32]
  show -((_ : ℝ) : EReal) + (((0 : ℝ) : EReal) + ∑ x : Fin 256, -((_ : ℝ) : EReal)) = 0
  simp only [← EReal.coe_neg, sum_coe]
  rw [EReal.coe_zero, zero_add, ← EReal.coe_add, ← EReal.coe_zero]
  refine congrArg _ ((?_ : _ = _).trans (max_shift (M (i 0).val (i 3).val) (S q k (i 0).val (i 1).val (i 2).val (i 3).val) (t ((i 1).val * 4 + (i 2).val)) (DP v c (i 0).val (i 1).val (i 2).val (i 3).val) 0))
  rw [sink_shift]; simp only [dS_shift]; rfl

end Cert.AttnRefRead

end
-- ==== Proof.AttnRefOut.lean ====
/-
  What the reference of the attention returns for real arrays.
-/
module

public import proofs.«01_k».proof.Proof.AttnRefRow
public import Idealize.ShloMosaic.Lib.KernelVsHost

@[expose] public section

set_option maxRecDepth 16384

noncomputable section

namespace Cert.AttnRefRead

open AttnRefIdeal AttnRefIdeal.Gen AttnRefIdeal.Read
open Idealize.ShloMosaic Idealize.ShloMosaic.TcCoe AttnReal AttnMath Reals

variable (q k v : ℕ → ℕ → ℝ) (t : ℕ → ℝ) (c : ℕ → ℕ → ℝ)

/-- A bit, as a number. -/
theorem r55 (i : S16x4x4x128x256.Idx) : val_main_v55 (F := Ideal) (mat q) (mat k) i
    = (((val_main_v54 (F := Ideal) (mat q) (mat k) i).toNat : ℝ) : EReal) := by
  rw [val_main_v55_apply]; rfl

/-- How many scores equal the row maximum: at least one. -/
theorem r56 (i : S16x4x4x128.Idx) : ∃ n : ℝ, n ≠ 0 ∧ val_main_v56 (F := Ideal) (mat q) (mat k) i = ((n : ℝ) : EReal) := by
  have h0 : (i 0).val < 16 := (i 0).isLt; have h1 : (i 1).val < 4 := (i 1).isLt; have h2 : (i 2).val < 4 := (i 2).isLt
  have h3 : (i 3).val < 128 := (i 3).isLt
  obtain ⟨j, hj⟩ := r51 q k i
  refine ⟨∑ x : Fin 256, ((val_main_v54 (F := Ideal) (mat q) (mat k) (idx_main_v56 i x)).toNat : ℝ), ?_, ?_⟩
  · refine ne_of_gt (Finset.sum_pos' (fun _ _ => Nat.cast_nonneg _) ⟨j, Finset.mem_univ _, ?_⟩)
    have hi : idx_main_v52 (idx_main_v53 (idx_main_v56 i j)) = i := by
      refine Eq.trans (b := (fun b => match b with | ⟨0, _⟩ => i 0 | ⟨1, _⟩ => i 1 | ⟨2, _⟩ => i 2 | ⟨3, _⟩ => i 3 : S16x4x4x128.Idx)) ?_ ?_
      · funext b
        match b with
        | ⟨0, _⟩ => exact Fin.ext (by dsimp only; omega)
        | ⟨1, _⟩ => exact Fin.ext (by dsimp only; omega)
        | ⟨2, _⟩ => exact Fin.ext (by dsimp only; omega)
        | ⟨3, _⟩ => exact Fin.ext (by dsimp only; omega)
      · funext b
        match b with
        | ⟨0, _⟩ => rfl
        | ⟨1, _⟩ => rfl
        | ⟨2, _⟩ => rfl
        | ⟨3, _⟩ => rfl
    rw [val_main_v54_apply, val_main_v53_apply, val_main_v52_apply, hi, r48s, hj]
    show (0 : ℝ) < ((Ideal.cmp .oeq (Sc (M (i 0).val (i 3).val) (S q k (i 0).val (i 1).val (i 2).val (i 3).val) j) (Sc (M (i 0).val (i 3).val) (S q k (i 0).val (i 1).val (i 2).val (i 3).val) j)).toNat : ℝ)
    simp [Ideal.cmp]
  · rw [val_main_v56_apply]
    simp only [r55, sum_coe, val_main_cst_10_apply, zero_f32]
    rw [EReal.coe_zero, zero_add]

/-- The scores' cotangents. -/
theorem r130 (i : S16x4x4x128x256.Idx) : val_main_v130 (F := Ideal) (mat q) (mat k) (mat v) (vec t) (mat c) i
    = ((dS (M (i 0).val (i 3).val) (S q k (i 0).val (i 1).val (i 2).val (i 3).val) (t ((i 1).val * 4 + (i 2).val))
        (DP v c (i 0).val (i 1).val (i 2).val (i 3).val) (i 4) : ℝ) : EReal) := by
  rw [val_main_v130_apply, r116, val_main_v129_apply, val_main_v128_apply, val_main_v127_apply, val_main_v126_apply]
  obtain ⟨n, hn, he⟩ := r56 q k (idx_main_v128 i)
  simp only [Finset.univ_unique, Finset.sum_singleton, val_main_v125_apply, r120, val_main_cst_24_apply, zero_f32, he]
  show _ + Ideal.div (((0 : ℝ) : EReal) + 0 * _) (n : EReal) * _ = _
  rw [EReal.coe_zero, zero_mul, zero_add, zero_div hn, zero_mul, add_zero]

/-- The scaled scores' cotangents. -/
theorem r135 (i : S16x4x4x128x256.Idx) : val_main_v135 (F := Ideal) (mat q) (mat k) (mat v) (vec t) (mat c) i
    = ((DS q k v t c (i 0).val (i 1).val (i 2).val (i 3).val (i 4) : ℝ) : EReal) := by
  rw [val_main_v135_apply, val_main_v134_apply, val_main_cst_26_apply, eighth_f32, val_main_v133_apply, r48, r130,
    val_main_call1_v0_apply, val_main_call1_cst_apply, zero_f32]
  refine Eq.trans (congrArg (· * (((0.125 : ℝ)) : EReal)) (?_ : _ = ((dS (M (i 0).val (i 3).val) (S q k (i 0).val (i 1).val (i 2).val (i 3).val) (t ((i 1).val * 4 + (i 2).val))
        (DP v c (i 0).val (i 1).val (i 2).val (i 3).val) (i 4) : ℝ) : EReal))) (EReal.coe_mul _ _).symm
  by_cases h : M (i 0).val (i 3).val (i 4)
  · rw [if_pos h]; rfl
  · rw [if_neg h, dS_masked _ _ _ _ _ h]; rfl

/-- The output. -/
theorem out_o (i : S2048x1024.Idx) : val_main_v94 (F := Ideal) (mat q) (mat k) (mat v) (vec t) i
    = ((O q k v t ((i 0).val / 128) ((i 1).val / 256) ((i 1).val / 64 % 4) ((i 0).val % 128) ((i 1).val % 64) : ℝ) : EReal) := by
  have h0 : (i 0).val < 2048 := (i 0).isLt; have h1 : (i 1).val < 1024 := (i 1).isLt
  rw [val_main_v94_apply, val_main_v93_apply, val_main_v92_apply]
  simp only [r14, r88, ← EReal.coe_mul, sum_coe]
  unfold O
  refine congrArg _ (Finset.sum_congr rfl fun j _ => ?_)
  rw [mul_comm]
  congr 2 <;> first | omega | (dsimp only; omega)

/-- The queries' gradient. -/
theorem out_dq (i : S2048x1024.Idx) : val_main_v155 (F := Ideal) (mat q) (mat k) (mat v) (vec t) (mat c) i
    = ((DQ q k v t c ((i 0).val / 128) ((i 1).val / 256) ((i 1).val / 64 % 4) ((i 0).val % 128) ((i 1).val % 64) : ℝ) : EReal) := by
  have h0 : (i 0).val < 2048 := (i 0).isLt; have h1 : (i 1).val < 1024 := (i 1).isLt
  rw [val_main_v155_apply, val_main_v138_apply, val_main_v137_apply]
  simp only [r7, val_main_v136_apply, r135, ← EReal.coe_mul, sum_coe]
  unfold DQ
  refine congrArg _ (Finset.sum_congr rfl fun j _ => ?_)
  congr 2 <;> first | omega | (dsimp only; omega)

/-- A band's gradient of the keys. -/
theorem r139 (i : S16x4x256x64.Idx) : val_main_v139 (F := Ideal) (mat q) (mat k) (mat v) (vec t) (mat c) i
    = ((KB q k v t c (i 0).val (i 1).val (i 2) (i 3).val : ℝ) : EReal) := by
  unfold val_main_v139
  have e : ∀ j, val_main_v136 (F := Ideal) (mat q) (mat k) (mat v) (vec t) (mat c) j = ((DS q k v t c (j 0).val (j 1).val (j 4).val (j 3).val (j 2) : ℝ) : EReal) := fun j => by
    rw [val_main_v136_apply, r135]; rfl
  generalize val_main_v136 (F := Ideal) (mat q) (mat k) (mat v) (vec t) (mat c) = y at e
  have e' := r0 q
  generalize val_main_v0 (F := Ideal) (mat q) = z at e'
  obtain ⟨a0, a1, a2, a3, rfl⟩ : ∃ a0 a1 a2 a3, i = ix4 a0 a1 a2 a3 := ⟨i 0, i 1, i 2, i 3, by funext b; match b with | ⟨0, _⟩ => rfl | ⟨1, _⟩ => rfl | ⟨2, _⟩ => rfl | ⟨3, _⟩ => rfl⟩
  pointwise
  simp only [e, e', ← EReal.coe_mul, sum_coe]
  rw [Finset.sum_comm]
  rfl

/-- A band's gradient of the values. -/
theorem r99 (i : S16x4x64x256.Idx) : val_main_v99 (F := Ideal) (mat q) (mat k) (vec t) (mat c) i
    = ((VB q k t c (i 0).val (i 1).val (i 3) (i 2).val : ℝ) : EReal) := by
  unfold val_main_v99
  have e := r97 c
  generalize val_main_v97 (F := Ideal) (mat c) = y at e
  have e' := r88 q k t
  generalize val_main_v88 (F := Ideal) (mat q) (mat k) (vec t) = z at e'
  obtain ⟨a0, a1, a2, a3, rfl⟩ : ∃ a0 a1 a2 a3, i = ix4 a0 a1 a2 a3 := ⟨i 0, i 1, i 2, i 3, by funext b; match b with | ⟨0, _⟩ => rfl | ⟨1, _⟩ => rfl | ⟨2, _⟩ => rfl | ⟨3, _⟩ => rfl⟩
  pointwise
  simp only [e, e', ← EReal.coe_mul, sum_coe]
  unfold VB
  refine congrArg _ (Finset.sum_congr rfl fun h _ => Finset.sum_congr rfl fun r _ => ?_)
  exact mul_comm _ _

/-- Fifteen blocks, padded by a sixteenth. -/
theorem pad_block (x : S15x128x4x64.Idx → EReal) (y : S_.Idx → EReal) (i : S16x128x4x64.Idx) :
    pad S16x128x4x64 ![0, 0, 0, 0] ![1, 0, 0, 0] ![0, 0, 0, 0] x y pads_S15x128x4x64_S16x128x4x64_010_000_000_000 h_S_ i
      = if h : (i 0).val < 15 then x (ix4 ⟨(i 0).val, h⟩ (i 1) (i 2) (i 3)) else y (Shape.Idx.first h_S_) := by
  by_cases h : (i 0).val < 15
  · rw [dif_pos h]
    refine pad_apply_of_inside ![0, 0, 0, 0] ![1, 0, 0, 0] ![0, 0, 0, 0] x y _ h_S_ i (ix4 ⟨(i 0).val, h⟩ (i 1) (i 2) (i 3)) fun b => ?_
    match b with
    | ⟨0, _⟩ => show (i 0).val = 0 + (i 0).val * (0 + 1); omega
    | ⟨1, _⟩ => show (i 1).val = 0 + (i 1).val * (0 + 1); omega
    | ⟨2, _⟩ => show (i 2).val = 0 + (i 2).val * (0 + 1); omega
    | ⟨3, _⟩ => show (i 3).val = 0 + (i 3).val * (0 + 1); omega
  · rw [dif_neg h]
    refine pad_apply_of_not_inside ![0, 0, 0, 0] ![1, 0, 0, 0] ![0, 0, 0, 0] x y _ h_S_ i (⟨0, by show 0 < 4; omega⟩ : Fin S15x128x4x64.rank) fun hh => h ?_
    have h2 : ((i 0).val - 0) / (0 + 1) < 15 := hh.2.2
    omega

/-- The keys' gradient by blocks. -/
theorem r153 (i : S16x128x4x64.Idx) : val_main_v153 (F := Ideal) (mat q) (mat k) (mat v) (vec t) (mat c) i
    = ((AttnReal.fold (fun n j => KB q k v t c n (i 2).val j (i 3).val) (i 0).val (i 1) : ℝ) : EReal) := by
  have h0 : (i 0).val < 16 := (i 0).isLt; have h1 : (i 1).val < 128 := (i 1).isLt
  rw [val_main_v153_apply, val_main_v149_apply, val_main_v140_apply, r139]
  unfold AttnReal.fold
  unfold val_main_v152
  rw [pad_block, EReal.coe_add]
  refine congrArg₂ (fun a b : EReal => a + b) (by congr 2; exact Fin.ext (Nat.add_comm 128 (i 1).val)) ?_
  by_cases h : (i 0).val < 15
  · rw [dif_pos h, if_pos h, val_main_v151_apply, val_main_v148_apply, val_main_v140_apply, r139]
    congr 2
    show 1 + (i 0).val = (i 0).val + 1
    omega
  · rw [dif_neg h, if_neg h, val_main_cst_28_apply, zero_f32]

/-- The values' gradient by blocks. -/
theorem r146 (i : S16x128x4x64.Idx) : val_main_v146 (F := Ideal) (mat q) (mat k) (vec t) (mat c) i
    = ((AttnReal.fold (fun n j => VB q k t c n (i 2).val j (i 3).val) (i 0).val (i 1) : ℝ) : EReal) := by
  have h0 : (i 0).val < 16 := (i 0).isLt; have h1 : (i 1).val < 128 := (i 1).isLt
  rw [val_main_v146_apply, val_main_v142_apply, val_main_v100_apply, r99]
  unfold AttnReal.fold
  unfold val_main_v145
  rw [pad_block, EReal.coe_add]
  refine congrArg₂ (fun a b : EReal => a + b) (by congr 2; exact Fin.ext (Nat.add_comm 128 (i 1).val)) ?_
  by_cases h : (i 0).val < 15
  · rw [dif_pos h, if_pos h, val_main_v144_apply, val_main_v141_apply, val_main_v100_apply, r99]
    congr 2
    show 1 + (i 0).val = (i 0).val + 1
    omega
  · rw [dif_neg h, if_neg h, val_main_cst_27_apply, zero_f32]

/-- The keys' gradient. -/
theorem out_dk (i : S2048x256.Idx) : val_main_v154 (F := Ideal) (mat q) (mat k) (mat v) (vec t) (mat c) i
    = ((AttnReal.fold (fun n j => KB q k v t c n ((i 1).val / 64) j ((i 1).val % 64)) ((i 0).val / 128) ⟨(i 0).val % 128, Nat.mod_lt _ (by omega)⟩ : ℝ) : EReal) := by
  have h0 : (i 0).val < 2048 := (i 0).isLt; have h1 : (i 1).val < 256 := (i 1).isLt
  have hi : idx_main_v154 i = (fun b => match b with | ⟨0, _⟩ => ⟨(i 0).val / 128, by show _ < 16; omega⟩ | ⟨1, _⟩ => ⟨(i 0).val % 128, by show _ < 128; omega⟩ | ⟨2, _⟩ => ⟨(i 1).val / 64, by show _ < 4; omega⟩ | ⟨3, _⟩ => ⟨(i 1).val % 64, by show _ < 64; omega⟩ : S16x128x4x64.Idx) := by
    funext b
    match b with
    | ⟨0, _⟩ => exact Fin.ext (by dsimp only; omega)
    | ⟨1, _⟩ => exact Fin.ext (by dsimp only; omega)
    | ⟨2, _⟩ => exact Fin.ext (by dsimp only; omega)
    | ⟨3, _⟩ => exact Fin.ext (by dsimp only; omega)
  rw [val_main_v154_apply, hi, r153]; rfl

/-- The values' gradient. -/
theorem out_dv (i : S2048x256.Idx) : val_main_v147 (F := Ideal) (mat q) (mat k) (vec t) (mat c) i
    = ((AttnReal.fold (fun n j => VB q k t c n ((i 1).val / 64) j ((i 1).val % 64)) ((i 0).val / 128) ⟨(i 0).val % 128, Nat.mod_lt _ (by omega)⟩ : ℝ) : EReal) := by
  have h0 : (i 0).val < 2048 := (i 0).isLt; have h1 : (i 1).val < 256 := (i 1).isLt
  have hi : idx_main_v147 i = (fun b => match b with | ⟨0, _⟩ => ⟨(i 0).val / 128, by show _ < 16; omega⟩ | ⟨1, _⟩ => ⟨(i 0).val % 128, by show _ < 128; omega⟩ | ⟨2, _⟩ => ⟨(i 1).val / 64, by show _ < 4; omega⟩ | ⟨3, _⟩ => ⟨(i 1).val % 64, by show _ < 64; omega⟩ : S16x128x4x64.Idx) := by
    funext b
    match b with
    | ⟨0, _⟩ => exact Fin.ext (by dsimp only; omega)
    | ⟨1, _⟩ => exact Fin.ext (by dsimp only; omega)
    | ⟨2, _⟩ => exact Fin.ext (by dsimp only; omega)
    | ⟨3, _⟩ => exact Fin.ext (by dsimp only; omega)
  rw [val_main_v147_apply, hi, r146]; rfl

/-! ## The sinks' gradient -/

/-- A sum over the blocks and their rows. -/
theorem sum_rows (f : S16x4x4x128x1.Idx → EReal) (a b : Fin 4) :
    ∑ i ∈ Finset.univ.filter (fun i => reducesTo_S16x4x4x128x1_S4x4x1_d0_3.drop i = ix3 a b 0), f i
      = ∑ n : Fin 16, ∑ r : Fin 128, f (ix5 n a b r 0) := by
  have e1 : ∀ i, (reducesTo_S16x4x4x128x1_S4x4x1_d0_3.drop i 0).val = (i 1).val := fun i => Shape.ReducesTo.drop_apply_val _ i 0
  have e2 : ∀ i, (reducesTo_S16x4x4x128x1_S4x4x1_d0_3.drop i 1).val = (i 2).val := fun i => Shape.ReducesTo.drop_apply_val _ i 1
  have e3 : ∀ i, (reducesTo_S16x4x4x128x1_S4x4x1_d0_3.drop i 2).val = (i 4).val := fun i => Shape.ReducesTo.drop_apply_val _ i 2
  have key : ∀ i : S16x4x4x128x1.Idx, reducesTo_S16x4x4x128x1_S4x4x1_d0_3.drop i = ix3 a b 0 → ix5 (i 0) a b (i 3) 0 = i := by
    intro i hd
    have q1 : (i 1).val = a.val := (e1 i).symm.trans (congrArg Fin.val (congrFun hd 0))
    have q2 : (i 2).val = b.val := (e2 i).symm.trans (congrArg Fin.val (congrFun hd 1))
    have q3 : (i 4).val < 1 := (i 4).isLt
    funext x
    match x with
    | ⟨0, _⟩ => rfl
    | ⟨1, _⟩ => exact Fin.ext q1.symm
    | ⟨2, _⟩ => exact Fin.ext q2.symm
    | ⟨3, _⟩ => rfl
    | ⟨4, _⟩ => exact Fin.ext (by show 0 = (i 4).val; omega)
  rw [← Finset.sum_product' (s := (Finset.univ : Finset (Fin 16))) (t := (Finset.univ : Finset (Fin 128))) (f := fun n r => f (ix5 n a b r 0))]
  refine Finset.sum_bij' (fun i _ => (i 0, i 3)) (fun p _ => ix5 p.1 a b p.2 0) ?_ ?_ ?_ ?_ ?_
  · intro i _; exact Finset.mem_product.mpr ⟨Finset.mem_univ _, Finset.mem_univ _⟩
  · intro p _
    refine Finset.mem_filter.mpr ⟨Finset.mem_univ _, ?_⟩
    funext x
    match x with
    | ⟨0, _⟩ => exact Fin.ext (e1 _)
    | ⟨1, _⟩ => exact Fin.ext (e2 _)
    | ⟨2, _⟩ => exact Fin.ext (e3 _)
  · intro i hi; exact key i (Finset.mem_filter.mp hi).2
  · intro p _; rfl
  · intro i hi; exact congrArg f (key i (Finset.mem_filter.mp hi).2).symm

/-- A sum over axes of one element each. -/
theorem sum_unit (f : S1x4x4x1x1.Idx → EReal) (a b : Fin 4) :
    ∑ i ∈ Finset.univ.filter (fun i => reducesTo_S1x4x4x1x1_S4x4_d0_3_4.drop i = ix2 a b), f i = f (ix5 0 a b 0 0) := by
  have e1 : ∀ i, (reducesTo_S1x4x4x1x1_S4x4_d0_3_4.drop i 0).val = (i 1).val := fun i => Shape.ReducesTo.drop_apply_val _ i 0
  have e2 : ∀ i, (reducesTo_S1x4x4x1x1_S4x4_d0_3_4.drop i 1).val = (i 2).val := fun i => Shape.ReducesTo.drop_apply_val _ i 1
  refine Finset.sum_eq_single (ix5 0 a b 0 0) (fun i hi hne => absurd ?_ hne) fun hn => absurd (Finset.mem_filter.mpr ⟨Finset.mem_univ _, ?_⟩) hn
  · have hd := (Finset.mem_filter.mp hi).2
    have q1 : (i 1).val = a.val := (e1 i).symm.trans (congrArg Fin.val (congrFun hd 0))
    have q2 : (i 2).val = b.val := (e2 i).symm.trans (congrArg Fin.val (congrFun hd 1))
    have q0 : (i 0).val < 1 := (i 0).isLt
    have q3 : (i 3).val < 1 := (i 3).isLt
    have q4 : (i 4).val < 1 := (i 4).isLt
    funext x
    match x with
    | ⟨0, _⟩ => exact Fin.ext (by show (i 0).val = 0; omega)
    | ⟨1, _⟩ => exact Fin.ext q1
    | ⟨2, _⟩ => exact Fin.ext q2
    | ⟨3, _⟩ => exact Fin.ext (by show (i 3).val = 0; omega)
    | ⟨4, _⟩ => exact Fin.ext (by show (i 4).val = 0; omega)
  · funext x
    match x with
    | ⟨0, _⟩ => exact Fin.ext (e1 _)
    | ⟨1, _⟩ => exact Fin.ext (e2 _)

/-- The sinks' gradient by groups and heads, from the denominators. -/
theorem r110 (a b : Fin 4) : val_main_v110 (F := Ideal) (mat q) (mat k) (mat v) (vec t) (mat c) (ix3 a b 0)
    = ((DT q k v t c a.val b.val : ℝ) : EReal) := by
  unfold val_main_v110
  have e := r109 q k v t c
  generalize val_main_v109 (F := Ideal) (mat q) (mat k) (mat v) (vec t) (mat c) = y at e
  rw [Host.reduceAdd_apply, Ideal.hostReduceAdd_def]
  unfold Ideal.hostReduceAdd
  rw [sum_rows, val_main_cst_20_apply, zero_f32]
  simp only [e, sum_coe]
  rw [EReal.coe_zero, zero_add]
  unfold DT
  rw [← Finset.sum_neg_distrib]
  refine congrArg _ (Finset.sum_congr rfl fun n _ => ?_)
  rw [← Finset.sum_neg_distrib]
  rfl

/-- The row maximum's share is none. -/
theorem r122 (a b : Fin 4) : val_main_v122 (F := Ideal) (mat q) (mat k) (mat v) (vec t) (mat c) (ix3 a b 0) = 0 := by
  unfold val_main_v122
  have e : ∀ i, val_main_v121 (F := Ideal) (mat q) (mat k) (mat v) (vec t) (mat c) i = 0 := fun i => by
    rw [val_main_v121_apply, r120]; exact zero_mul _
  generalize val_main_v121 (F := Ideal) (mat q) (mat k) (mat v) (vec t) (mat c) = y at e
  rw [Host.reduceAdd_apply, Ideal.hostReduceAdd_def]
  unfold Ideal.hostReduceAdd
  rw [sum_rows, val_main_cst_23_apply, zero_f32]
  simp only [e, Finset.sum_const_zero]
  rw [EReal.coe_zero, zero_add]

/-- The two together. -/
theorem r124 (a b : Fin 4) : val_main_v124 (F := Ideal) (mat q) (mat k) (mat v) (vec t) (mat c) (ix5 0 a b 0 0)
    = ((DT q k v t c a.val b.val : ℝ) : EReal) := by
  have hi : idx_main_v111 (ix5 0 a b 0 0) = ix3 a b 0 := by
    funext x
    fin_cases a <;> fin_cases b <;> fin_cases x <;> rfl
  have hi' : idx_main_v123 (ix5 0 a b 0 0) = ix3 a b 0 := hi
  rw [val_main_v124_apply, val_main_v123_apply, val_main_v111_apply, hi, hi', r110, r122]
  exact add_zero _

/-- The sinks' gradient. -/
theorem out_dsk (i : S16.Idx) : val_main_v132 (F := Ideal) (mat q) (mat k) (mat v) (vec t) (mat c) i
    = ((DT q k v t c ((i 0).val / 4) ((i 0).val % 4) : ℝ) : EReal) := by
  have h0 : (i 0).val < 16 := (i 0).isLt
  have hi : idx_main_v132 i = ix2 ⟨(i 0).val / 4, by omega⟩ ⟨(i 0).val % 4, by omega⟩ := by
    funext x
    match x with
    | ⟨0, _⟩ => rfl
    | ⟨1, _⟩ => rfl
  rw [val_main_v132_apply, hi]
  unfold val_main_v131
  have e := r124 q k v t c
  generalize val_main_v124 (F := Ideal) (mat q) (mat k) (mat v) (vec t) (mat c) = y at e
  rw [Host.reduceAdd_apply, Ideal.hostReduceAdd_def]
  unfold Ideal.hostReduceAdd
  rw [sum_unit, val_main_cst_25_apply, zero_f32, e]
  rw [EReal.coe_zero, zero_add]

end Cert.AttnRefRead

end
-- ==== Proof.Finite.lean ====
/-
  Arrays that a precondition states finite are arrays of real numbers.
-/
module

public import Idealize.ShloMosaic.Lib.StableHlo
public import Idealize.ShloMosaic.PureOps
public import proofs.«01_k».proof.Proof.AttnRef

@[expose] public section

noncomputable section

namespace Cert.Reals

open Idealize.ShloMosaic
open AttnRefRead (mat vec)

/-- An extended real whose absolute value is below infinity is a real. -/
theorem coe_of_abs_lt (x : EReal) (h : Ideal.cmp .olt (max x (-x)) (Ideal.ofBits .f32 0x7F800000#32) = 1#1) : ((x.toReal : ℝ) : EReal) = x := by
  have e : Ideal.ofBits .f32 0x7F800000#32 = ⊤ := by simp [Ideal.ofBits, Ideal.ieee]
  rw [e] at h
  have hlt : max x (-x) < ⊤ := by
    by_contra hn
    simp [Ideal.cmp, hn] at h
  refine EReal.coe_toReal ?_ ?_
  · rintro rfl; simp at hlt
  · rintro rfl; simp at hlt

/-- An array below infinity everywhere holds reals. -/
theorem coe_of_finite {S : Shape} (S0 : Shape) (d : Fin S0.rank → Fin S.rank) (b : S0.BroadcastsInDim S d) (x : FVec Ideal S .f32)
    (h : cmpf .olt (Host.absf x) (broadcastInDim S d b (constant (F := Ideal) S0 .f32 0x7F800000#32)) = fun _ => 1#1) (i : S.Idx) :
    (((x i : EReal).toReal : ℝ) : EReal) = x i :=
  coe_of_abs_lt _ (congrFun h i)

/-- A matrix of reals, as one of natural indices. -/
theorem exists_mat {n m : ℕ} (x : FVec Ideal ⟨2, ![n, m]⟩ .f32) (h : ∀ i, (((x i : EReal).toReal : ℝ) : EReal) = x i) :
    ∃ q : ℕ → ℕ → ℝ, x = mat q := by
  refine ⟨fun a b => if h : a < n ∧ b < m then (x (ix2 ⟨a, h.1⟩ ⟨b, h.2⟩) : EReal).toReal else 0, funext fun i => ?_⟩
  unfold mat
  dsimp only
  rw [dif_pos (show (i 0).val < n ∧ (i 1).val < m from ⟨(i 0).isLt, (i 1).isLt⟩)]
  refine (h i).symm.trans ?_
  refine congrArg (fun j => ((EReal.toReal (x j) : ℝ) : EReal)) ?_
  funext b; match b with | ⟨0, _⟩ => rfl | ⟨1, _⟩ => rfl

/-- An array of reals of three axes. -/
def ten {n m k : ℕ} (x : ℕ → ℕ → ℕ → ℝ) : (⟨3, ![n, m, k]⟩ : Shape).Idx → EReal :=
  fun i => ((x (i 0).val (i 1).val (i 2).val : ℝ) : EReal)

/-- An array of reals of three axes, as one of natural indices. -/
theorem exists_ten {n m k : ℕ} (x : FVec Ideal ⟨3, ![n, m, k]⟩ .f32) (h : ∀ i, (((x i : EReal).toReal : ℝ) : EReal) = x i) :
    ∃ q : ℕ → ℕ → ℕ → ℝ, x = ten q := by
  refine ⟨fun a b c => if h : a < n ∧ b < m ∧ c < k then (x (ix3 ⟨a, h.1⟩ ⟨b, h.2.1⟩ ⟨c, h.2.2⟩) : EReal).toReal else 0, funext fun i => ?_⟩
  unfold ten
  dsimp only
  rw [dif_pos (show (i 0).val < n ∧ (i 1).val < m ∧ (i 2).val < k from ⟨(i 0).isLt, (i 1).isLt, (i 2).isLt⟩)]
  refine (h i).symm.trans ?_
  refine congrArg (fun j => ((EReal.toReal (x j) : ℝ) : EReal)) ?_
  funext b; match b with | ⟨0, _⟩ => rfl | ⟨1, _⟩ => rfl | ⟨2, _⟩ => rfl

/-- A vector of reals, likewise. -/
theorem exists_vec {n : ℕ} (x : FVec Ideal ⟨1, ![n]⟩ .f32) (h : ∀ i, (((x i : EReal).toReal : ℝ) : EReal) = x i) :
    ∃ q : ℕ → ℝ, x = vec q := by
  refine ⟨fun a => if h : a < n then (x (ix1 ⟨a, h⟩) : EReal).toReal else 0, funext fun i => ?_⟩
  unfold vec
  dsimp only
  rw [dif_pos (show (i 0).val < n from (i 0).isLt)]
  refine (h i).symm.trans ?_
  refine congrArg (fun j => ((EReal.toReal (x j) : ℝ) : EReal)) ?_
  funext b; match b with | ⟨0, _⟩ => rfl

end Cert.Reals

end
-- ==== Proof.AttnClaim.lean ====
/-
  The attention's claims: its frames, and that its five results (the output and the gradients of the queries, keys,
  values and sinks) are the reference's, of finite arguments.
-/
module

public import proofs.«01_k».proof.Defs
public import proofs.«01_k».proof.Proof.AttnArray
public import proofs.«01_k».proof.Proof.AttnRefOut
public import proofs.«01_k».proof.Proof.Finite
public import proofs.«01_k».proof.Proof.Gen.Attn
public import proofs.«01_k».proof.Proof.Gen.Pre_attn_finite

@[expose] public section

set_option maxRecDepth 16384

noncomputable section

namespace Cert.AttnValue

open Idealize.ShloMosaic Idealize.ShloMosaic.TcCoe Idealize.SL.Sem
open AttnReal AttnMath Reals
open AttnRefRead (mat vec)

section Frames
open AttnIdeal AttnIdeal.Gen

/-- A run's end, for the frame. -/
theorem frame_of_run {F : FTy → Type} [FloatOps F] [Named F] (m : (ℓ : Loc nD τ sig) → Buf (Elt F) ℓ) (ρ : Dev nD → PrngReg) :
    θ_run (AttnIdeal.defs (F := F)) (onTc (τ := τ) (AttnIdeal.main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run AttnIdeal.defs _ _).mono
    (fun _ h => ⟨fun c => ⟨(h.1 c _ (mem_uc main_arg0 (by decide))).trans (W4_main_arg0 m ρ c),
      (h.1 c _ (mem_uc main_arg1 (by decide))).trans (W4_main_arg1 m ρ c),
      (h.1 c _ (mem_uc main_arg2 (by decide))).trans (W4_main_arg2 m ρ c),
      (h.1 c _ (mem_uc main_arg3 (by decide))).trans (W4_main_arg3 m ρ c),
      (h.1 c _ (mem_uc main_arg4 (by decide))).trans (W4_main_arg4 m ρ c)⟩, h.2⟩)
    (run (F := F) m ρ)

end Frames

/-- A named constant at the bit-exact floats is the constant's own word. -/
@[reducible] def namedBits : Named Bits where
  named _ _ {φ} bits := FloatOps.ofBits φ bits

attribute [local instance] namedBits

open AttnIdeal in
/-- The frame of the program printed for the extended reals, read at the bit-exact floats. -/
def FrameAtBits : Prop := ∀ (m : (ℓ : Loc nD τ sig) → Buf (Elt Bits) ℓ) (ρ : Dev nD → PrngReg), Pre_Attn m →
  θ_run (AttnIdeal.defs (F := Bits)) (onTc (τ := τ) (AttnIdeal.main (F := Bits))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0

/-- The two programs are one text. -/
theorem same_text : Cert.quiescent_Attn = FrameAtBits := by sl_kernel_rfl

/-- The frame of the kernel. -/
theorem quiescent_kernel : Cert.quiescent_Attn := same_text ▸ fun m ρ _ => frame_of_run (F := Bits) m ρ

/-- The frame of the kernel over the extended reals. -/
theorem quiescent_ideal : Cert.quiescent_AttnIdeal := fun m ρ _ => frame_of_run m ρ
/-- The same, of finite arguments. -/
theorem quiescent_ideal_finite : Cert.quiescent_AttnIdeal_pre_attn_finite := fun m ρ _ => frame_of_run m ρ

/-- The frame of the reference, a straight line of host operations. -/
theorem quiescent_ref : Cert.quiescent_AttnRefIdeal := fun m ρ _ =>
  (θ_run AttnRefIdeal.defs _ _).mono
    (fun r h => ⟨fun c => (h c).2.2.2.2.2, sem_eq_zero_of_no_sems (by decide) r.2⟩)
    (AttnRefIdeal.Value.run (F := Ideal) m ρ)
/-- The same, of finite arguments. -/
theorem quiescent_ref_finite : Cert.quiescent_AttnRefIdeal_pre_attn_finite := fun m ρ _ => quiescent_ref m ρ trivial

/-- The program named a constant, the mask's, as minus infinity. -/
theorem preserves : Cert.preserves_Attn_AttnIdeal := IdealRules.named_const.statement AttnIdeal.κ "mask" .f32 0xF149F2CA#32 ⊥ rfl

section Kernel
open AttnIdeal AttnIdeal.Gen

variable (m : (ℓ : Loc nD τ sig) → Buf (Elt Ideal) ℓ) (ρ : Dev nD → PrngReg) (c : Dev nD)
  (q k v : ℕ → ℕ → ℝ) (t : ℕ → ℝ) (d : ℕ → ℕ → ℝ)
  (h0 : (m ((c.tc : Thread nD τ).loc main_arg0) : FVec Ideal S2048x1024 .f32) = mat q)
  (h1 : (m ((c.tc : Thread nD τ).loc main_arg1) : FVec Ideal S2048x256 .f32) = mat k)
  (h2 : (m ((c.tc : Thread nD τ).loc main_arg2) : FVec Ideal S2048x256 .f32) = mat v)
  (h3 : (m ((c.tc : Thread nD τ).loc main_arg3) : FVec Ideal S16 .f32) = vec t)
  (h4 : (m ((c.tc : Thread nD τ).loc main_arg4) : FVec Ideal S2048x2048 .f32) = mat d)

/-- A matrix's columns by heads. -/
theorem by_heads (x : S2048x256.Idx → EReal) (y : S4x2048x64.Idx) :
    transpose S4x2048x64 [1, 0, 2] (shapeCast S2048x4x64 x shapeCasts_S2048x256_S2048x4x64) transposes_S2048x4x64_S4x2048x64_1_0_2 y
      = x (ix2 (y 1) ⟨(y 0).val * 64 + (y 2).val, by have := (y 0).isLt; have := (y 2).isLt; simp at *; omega⟩) := by
  pointwise

/-- The heads side by side again. -/
theorem of_heads (x : S4x2048x64.Idx → EReal) (y : S2048x256.Idx) :
    shapeCast S2048x256 (transpose S2048x4x64 [1, 0, 2] x transposes_S4x2048x64_S2048x4x64_1_0_2) shapeCasts_S2048x4x64_S2048x256 y
      = x (ix3 ⟨(y 1).val / 64, by have := (y 1).isLt; simp at *; omega⟩ (y 0) ⟨(y 1).val % 64, by omega⟩) := by
  pointwise

/-- Sixteen sinks as four rows of four. -/
theorem sinks_rows (x : S16.Idx → EReal) (y : S4x4.Idx) :
    shapeCast S4x4 x shapeCasts_S16_S4x4 y = x (ix1 ⟨(y 0).val * 4 + (y 1).val, by have := (y 0).isLt; have := (y 1).isLt; simp at *; omega⟩) := by
  pointwise

/-- The sinks' gradient as a row of sixteen. -/
theorem sinks_flat (x : S4x1x4.Idx → EReal) (y : S16.Idx) :
    shapeCast S16 x shapeCasts_S4x1x4_S16 y = x (ix3 ⟨(y 0).val / 4, by have := (y 0).isLt; simp at *; omega⟩ 0 ⟨(y 0).val % 4, by omega⟩) := by
  pointwise

include h0 in
theorem entry_q (y : S2048x1024.Idx) : V1 m ρ c main_v0 y = ((q (y 0).val (y 1).val : ℝ) : EReal) := by
  unfold V1 W1
  after_results_simp
  exact congrFun h0 y
include h1 in
theorem entry_k (y : S4x2048x64.Idx) : V1 m ρ c main_v3 y = ((k (y 1).val ((y 0).val * 64 + (y 2).val) : ℝ) : EReal) := by
  unfold V1 W1
  after_results_simp
  refine (by_heads _ y).trans ?_
  exact congrFun h1 _
include h2 in
theorem entry_v (y : S4x2048x64.Idx) : V1 m ρ c main_v6 y = ((v (y 1).val ((y 0).val * 64 + (y 2).val) : ℝ) : EReal) := by
  unfold V1 W1
  after_results_simp
  refine (by_heads _ y).trans ?_
  exact congrFun h2 _
include h3 in
theorem entry_t (y : S4x4.Idx) : V1 m ρ c main_v7 y = ((t ((y 0).val * 4 + (y 1).val) : ℝ) : EReal) := by
  unfold V1 W1
  after_results_simp
  refine (sinks_rows _ y).trans ?_
  exact congrFun h3 _
include h4 in
theorem entry_d (y : S2048x2048.Idx) : V2 m ρ c main_arg4 y = ((d (y 0).val (y 1).val : ℝ) : EReal) :=
  (congrFun (W2_args m ρ c main_arg4 (by decide)) y).trans (congrFun h4 y)

include h0 h1 h2 h3 in
/-- The forward region's output where the backward region enters. -/
theorem entry_o : V2 m ρ c main_v8_0 = fun y => ((OO q k v t (y 0).val (y 1).val : ℝ) : EReal) :=
  (W2_arr m ρ c 4).trans (arr_o (V1 m ρ) c q k v t (entry_t m ρ c t h3) (entry_q m ρ c q h0) (entry_k m ρ c k h1) (entry_v m ρ c v h2))
include h0 h1 h3 in
theorem entry_l : V2 m ρ c main_v8_1 = fun y => ((LL q k t (y 0).val (y 1).val (y 2).val : ℝ) : EReal) :=
  (W2_arr m ρ c 5).trans (arr_l (V1 m ρ) c q k t (entry_t m ρ c t h3) (entry_q m ρ c q h0) (entry_k m ρ c k h1))

/-- What the forward region reads, the backward region finds unchanged. -/
theorem kept (r : Ref sig .tc) (h : ∀ w : Fin cfg0.W, Pipeline.arrRef spec0 w = r → (cfg0.win w).isOut = false) :
    V2 m ρ c r = V1 m ρ c r := W2_of m ρ c r h

include h0 h1 h2 h3 in
theorem end_o : W4 m ρ c (Proc.devRef .tc main_v8_0) = fun y => ((OO q k v t (y 0).val (y 1).val : ℝ) : EReal) :=
  (W4_of m ρ c main_v8_0 (by decide)).trans ((W3_of m ρ c main_v8_0 (by decide)).trans (entry_o m ρ c q k v t h0 h1 h2 h3))

include h0 h1 h2 h3 h4 in
theorem end_dq : W4 m ρ c (Proc.devRef .tc main_v9_0)
    = fun y => ((DQ q k v t d ((y 0).val / 128) ((y 1).val / 256) ((y 1).val / 64 % 4) ((y 0).val % 128) ((y 1).val % 64) : ℝ) : EReal) :=
  (W4_of m ρ c main_v9_0 (by decide)).trans ((W3_arr m ρ c 7).trans (arr_dq (V2 m ρ) c q k v t d
    (fun y => (congrFun (kept m ρ c main_v7 (by decide)) y).trans (entry_t m ρ c t h3 y))
    (fun y => (congrFun (kept m ρ c main_v0 (by decide)) y).trans (entry_q m ρ c q h0 y))
    (fun y => (congrFun (kept m ρ c main_v3 (by decide)) y).trans (entry_k m ρ c k h1 y))
    (fun y => (congrFun (kept m ρ c main_v6 (by decide)) y).trans (entry_v m ρ c v h2 y))
    (congrFun (entry_o m ρ c q k v t h0 h1 h2 h3)) (entry_d m ρ c d h4) (congrFun (entry_l m ρ c q k t h0 h1 h3))))

include h0 h1 h2 h3 h4 in
theorem end_dk : W4 m ρ c (Proc.devRef .tc main_v11)
    = fun y : S2048x256.Idx => ((fold (fun n j => KB q k v t d n ((y 1).val / 64) j ((y 1).val % 64)) ((y 0).val / 128) ⟨(y 0).val % 128, Nat.mod_lt _ (by decide)⟩ : ℝ) : EReal) := by
  unfold W4
  after_results_simp
  funext y
  refine (of_heads _ y).trans ?_
  refine (congrFun ((W3_arr m ρ c 8).trans (arr_dk (V2 m ρ) c q k v t d
    (fun y => (congrFun (kept m ρ c main_v7 (by decide)) y).trans (entry_t m ρ c t h3 y))
    (fun y => (congrFun (kept m ρ c main_v0 (by decide)) y).trans (entry_q m ρ c q h0 y))
    (fun y => (congrFun (kept m ρ c main_v3 (by decide)) y).trans (entry_k m ρ c k h1 y))
    (fun y => (congrFun (kept m ρ c main_v6 (by decide)) y).trans (entry_v m ρ c v h2 y))
    (congrFun (entry_o m ρ c q k v t h0 h1 h2 h3)) (entry_d m ρ c d h4) (congrFun (entry_l m ρ c q k t h0 h1 h3)))) _).trans ?_
  rfl

include h0 h1 h2 h3 h4 in
theorem end_dv : W4 m ρ c (Proc.devRef .tc main_v13)
    = fun y : S2048x256.Idx => ((fold (fun n j => VB q k t d n ((y 1).val / 64) j ((y 1).val % 64)) ((y 0).val / 128) ⟨(y 0).val % 128, Nat.mod_lt _ (by decide)⟩ : ℝ) : EReal) := by
  unfold W4
  after_results_simp
  funext y
  refine (of_heads _ y).trans ?_
  refine (congrFun ((W3_arr m ρ c 9).trans (arr_dv (V2 m ρ) c q k v t d
    (fun y => (congrFun (kept m ρ c main_v7 (by decide)) y).trans (entry_t m ρ c t h3 y))
    (fun y => (congrFun (kept m ρ c main_v0 (by decide)) y).trans (entry_q m ρ c q h0 y))
    (fun y => (congrFun (kept m ρ c main_v3 (by decide)) y).trans (entry_k m ρ c k h1 y))
    (fun y => (congrFun (kept m ρ c main_v6 (by decide)) y).trans (entry_v m ρ c v h2 y))
    (congrFun (entry_o m ρ c q k v t h0 h1 h2 h3)) (entry_d m ρ c d h4) (congrFun (entry_l m ρ c q k t h0 h1 h3)))) _).trans ?_
  rfl

include h0 h1 h2 h3 h4 in
theorem end_ds : W4 m ρ c (Proc.devRef .tc main_v14)
    = fun y : S16.Idx => ((DT q k v t d ((y 0).val / 4) ((y 0).val % 4) : ℝ) : EReal) := by
  unfold W4
  after_results_simp
  funext y
  refine (sinks_flat _ y).trans ?_
  refine (congrFun ((W3_arr m ρ c 10).trans (arr_ds (V2 m ρ) c q k v t d
    (fun y => (congrFun (kept m ρ c main_v7 (by decide)) y).trans (entry_t m ρ c t h3 y))
    (fun y => (congrFun (kept m ρ c main_v0 (by decide)) y).trans (entry_q m ρ c q h0 y))
    (fun y => (congrFun (kept m ρ c main_v3 (by decide)) y).trans (entry_k m ρ c k h1 y))
    (fun y => (congrFun (kept m ρ c main_v6 (by decide)) y).trans (entry_v m ρ c v h2 y))
    (congrFun (entry_o m ρ c q k v t h0 h1 h2 h3)) (entry_d m ρ c d h4) (congrFun (entry_l m ρ c q k t h0 h1 h3)))) _).trans ?_
  rfl

end Kernel

open AttnIdeal AttnIdeal.Gen in
/-- The kernel's five results are the reference's, of finite arguments. -/
theorem algebraic : Cert.algebraic_AttnIdeal_AttnRefIdeal_pre_attn_finite := by
  intro m ρ m' ρ' hpre hagree
  choose q h0 using fun c => exists_mat _ (coe_of_finite _ _ _ _ (hpre c).1)
  choose k h1 using fun c => exists_mat _ (coe_of_finite _ _ _ _ (hpre c).2.1)
  choose v h2 using fun c => exists_mat _ (coe_of_finite _ _ _ _ (hpre c).2.2.1)
  choose t h3 using fun c => exists_vec _ (coe_of_finite _ _ _ _ (hpre c).2.2.2.1)
  choose d h4 using fun c => exists_mat _ (coe_of_finite _ _ _ _ (hpre c).2.2.2.2)
  refine ⟨fun c => fun y => ((OO (q c) (k c) (v c) (t c) (y 0).val (y 1).val : ℝ) : EReal),
    fun c => fun y => ((DQ (q c) (k c) (v c) (t c) (d c) ((y 0).val / 128) ((y 1).val / 256) ((y 1).val / 64 % 4) ((y 0).val % 128) ((y 1).val % 64) : ℝ) : EReal),
    fun c => fun y : S2048x256.Idx => ((fold (fun n j => KB (q c) (k c) (v c) (t c) (d c) n ((y 1).val / 64) j ((y 1).val % 64)) ((y 0).val / 128) ⟨(y 0).val % 128, Nat.mod_lt _ (by decide)⟩ : ℝ) : EReal),
    fun c => fun y : S2048x256.Idx => ((fold (fun n j => VB (q c) (k c) (t c) (d c) n ((y 1).val / 64) j ((y 1).val % 64)) ((y 0).val / 128) ⟨(y 0).val % 128, Nat.mod_lt _ (by decide)⟩ : ℝ) : EReal),
    fun c => fun y : S16.Idx => ((DT (q c) (k c) (v c) (t c) (d c) ((y 0).val / 4) ((y 0).val % 4) : ℝ) : EReal), ?_, ?_⟩
  · exact (θ_run AttnIdeal.defs _ _).mono
      (fun _ h c => ⟨(h.1 c _ (mem_uc main_v8_0 (by decide))).trans (end_o m ρ c (q c) (k c) (v c) (t c) (h0 c) (h1 c) (h2 c) (h3 c)),
        (h.1 c _ (mem_uc main_v9_0 (by decide))).trans (end_dq m ρ c (q c) (k c) (v c) (t c) (d c) (h0 c) (h1 c) (h2 c) (h3 c) (h4 c)),
        (h.1 c _ (mem_uc main_v11 (by decide))).trans (end_dk m ρ c (q c) (k c) (v c) (t c) (d c) (h0 c) (h1 c) (h2 c) (h3 c) (h4 c)),
        (h.1 c _ (mem_uc main_v13 (by decide))).trans (end_dv m ρ c (q c) (k c) (v c) (t c) (d c) (h0 c) (h1 c) (h2 c) (h3 c) (h4 c)),
        (h.1 c _ (mem_uc main_v14 (by decide))).trans (end_ds m ρ c (q c) (k c) (v c) (t c) (d c) (h0 c) (h1 c) (h2 c) (h3 c) (h4 c)),
        (h.1 c _ (mem_uc main_arg0 (by decide))).trans (W4_main_arg0 m ρ c),
        (h.1 c _ (mem_uc main_arg1 (by decide))).trans (W4_main_arg1 m ρ c),
        (h.1 c _ (mem_uc main_arg2 (by decide))).trans (W4_main_arg2 m ρ c),
        (h.1 c _ (mem_uc main_arg3 (by decide))).trans (W4_main_arg3 m ρ c),
        (h.1 c _ (mem_uc main_arg4 (by decide))).trans (W4_main_arg4 m ρ c)⟩)
      (run (F := Ideal) m ρ)
  have a0 : ∀ c, StableHlo.launchContents m' c (Proc.devRef .tc AttnRefIdeal.main_arg0) = mat (q c) := fun c => (hagree c).1.trans (h0 c)
  have a1 : ∀ c, StableHlo.launchContents m' c (Proc.devRef .tc AttnRefIdeal.main_arg1) = mat (k c) := fun c => (hagree c).2.1.trans (h1 c)
  have a2 : ∀ c, StableHlo.launchContents m' c (Proc.devRef .tc AttnRefIdeal.main_arg2) = mat (v c) := fun c => (hagree c).2.2.1.trans (h2 c)
  have a3 : ∀ c, StableHlo.launchContents m' c (Proc.devRef .tc AttnRefIdeal.main_arg3) = vec (t c) := fun c => (hagree c).2.2.2.1.trans (h3 c)
  have a4 : ∀ c, StableHlo.launchContents m' c (Proc.devRef .tc AttnRefIdeal.main_arg4) = mat (d c) := fun c => (hagree c).2.2.2.2.trans (h4 c)
  refine (θ_run AttnRefIdeal.defs _ _).mono
    (fun _ h c => ⟨(h c).1.trans ?_, (h c).2.1.trans ?_, (h c).2.2.1.trans ?_, (h c).2.2.2.1.trans ?_, (h c).2.2.2.2.1.trans ?_, (h c).2.2.2.2.2⟩)
    (AttnRefIdeal.Value.run (F := Ideal) m' ρ')
  · rw [AttnRefIdeal.Read.val_main_v94_eq, a0, a1, a2, a3]
    exact funext (AttnRefRead.out_o _ _ _ _)
  · rw [AttnRefIdeal.Read.val_main_v155_eq, a0, a1, a2, a3, a4]
    exact funext (AttnRefRead.out_dq _ _ _ _ _)
  · rw [AttnRefIdeal.Read.val_main_v154_eq, a0, a1, a2, a3, a4]
    exact funext (AttnRefRead.out_dk _ _ _ _ _)
  · rw [AttnRefIdeal.Read.val_main_v147_eq, a0, a1, a3, a4]
    exact funext (AttnRefRead.out_dv _ _ _ _)
  · rw [AttnRefIdeal.Read.val_main_v132_eq, a0, a1, a2, a3, a4]
    exact funext (AttnRefRead.out_dsk _ _ _ _ _)

end Cert.AttnValue

end
-- ==== Proof.RopeClaim.lean ====
/-
  The backward rotary map: what the call's two arrays hold after the run, and the reference's two results, each equal
  to one gradient written entry by entry.
  The backward rotary map's claims: its frames, and that its two gradients are the reference's.
-/
module

public import proofs.«01_k».proof.Proof.Gen.RopeIdeal.Value
public import proofs.«01_k».proof.Defs
public import proofs.«01_k».proof.Proof.Gen.RopeRefIdeal.Read
public import Idealize.ShloMosaic.Lib.Pipeline.ValueKit
public import Idealize.ShloMosaic.Lib.Pointwise
public import Idealize.ShloMosaic.Lib.KernelVsHost
public import proofs.«01_k».proof.Proof.Gen.Rope.Frame

@[expose] public section

set_option maxRecDepth 16384

noncomputable section

namespace Cert.RopeValue

open Idealize.ShloMosaic Idealize.ShloMosaic.TcCoe Idealize.SL.Sem
open Idealize.ShloMosaic.Pipeline (Dat)
open RopeIdeal RopeIdeal.Gen

/-- The angles of the rotary embedding, position by frequency. -/
def angles : FVec Ideal S2048x32 .f32 :=
  mulf (broadcastInDim S2048x32 ![0, 1] bcast_S2048x1_S2048x32_0_1 (broadcastInDim S2048x1 ![0] bcast_S2048_S2048x1_0
      (sitofp .f32 (iotaInDim S2048 32 0))))
    (broadcastInDim S2048x32 ![0, 1] bcast_S1x32_S2048x32_0_1 (broadcastInDim S1x32 ![1] bcast_S32_S1x32_1
      (Host.powf (broadcastInDim S32 ![] bcast_S_S32 (constant S_ .f32 0x461C4000#32))
        (Host.divf (Host.negf (sitofp .f32 (iotaInDim S32 32 0)))
          (broadcastInDim S32 ![] bcast_S_S32 (constant S_ .f32 0x42000000#32))))))

/-- A table over 128 lanes: two heads, the first half of each from `a` and the second from `b`. -/
def wide (a b : FVec Ideal S2048x32 .f32) : FVec Ideal S2048x128 .f32 :=
  shapeCast _ (broadcastInDim S1x2048x2x64 ![0, 1, 2, 3] bcast_S1x2048x1x64_S1x2048x2x64_0_1_2_3
    (shapeCast _ (concatenate S2048x64 1 [⟨S2048x32, a⟩, ⟨S2048x32, b⟩] concatenates_S2048x32_S2048x32_S2048x64_d1)
      shapeCasts_S2048x64_S1x2048x1x64)) shapeCasts_S1x2048x2x64_S2048x128

variable (m : (ℓ : Loc nD τ sig) → Buf (Elt Ideal) ℓ)

/-- The cosines the region finds. -/
theorem V_cos (c : Dev nD) : (V m c main_v18 : FVec Ideal S2048x128 .f32) = wide (Host.cos angles) (Host.cos angles) := by
  unfold V
  after_results_simp
  rfl

/-- The sines the region finds, negated for the backward map. -/
theorem V_sin (c : Dev nD) : (V m c main_v24 : FVec Ideal S2048x128 .f32) =
    Host.negf (wide (Host.negf (Host.sin angles)) (Host.sin angles)) := by
  unfold V
  after_results_simp
  rfl

/-- The wide table at an entry. -/
theorem wide_apply (a b : FVec Ideal S2048x32 .f32) (s : Fin 2048) (l : Fin 128) :
    wide a b (ix2 s l) = if l.val % 64 < 32 then a (ix2 s ⟨l.val % 32, by omega⟩) else b (ix2 s ⟨l.val % 32, by omega⟩) := by
  unfold wide
  pointwise []
  by_cases h : l.val % 64 < 32
  · rw [dif_pos h, if_pos h]; exact congrArg a (congrArg (ix2 s) (Fin.ext (by show _ % 64 = _ % 32; omega)))
  · rw [dif_neg h, if_neg h]; exact congrArg b (congrArg (ix2 s) (Fin.ext (by show _ % 64 - 32 = _ % 32; omega)))

/-- The kernel's mask of lanes in the first half of a head. -/
theorem mask_eq (y : S256x128.Idx) : k0_pay2 y = if (y 1).val % 64 < 32 then 1#1 else 0#1 := by
  have key : ∀ l : Fin 128, k0_pay2 (ix2 (0 : Fin 256) l) = if l.val % 64 < 32 then 1#1 else 0#1 := by
    intro l
    pointwise [k0_pay2]
    revert l
    decide +kernel
  refine Eq.trans ?_ (key (y 1))
  pointwise [k0_pay2]

/-- One entry of a block of the rotated array: the entry itself by the first table plus its partner in the head's
    other half by the second. -/
def blkAt (x0 : FVec Ideal S256x1280 .f32) (x1 x2 : FVec Ideal S256x128 .f32) (r : Fin 256) (e : Fin 1280) : EReal :=
  x0 (ix2 r e) * x1 (ix2 r ⟨e.val % 128, by omega⟩)
    + (if h : e.val % 64 < 32 then x0 (ix2 r ⟨e.val + 32, by omega⟩) else x0 (ix2 r ⟨e.val - 32, by omega⟩))
      * x2 (ix2 r ⟨e.val % 128, by omega⟩)

/-- A tile of 128 columns starting at a multiple of 128, as the body computes it by two rotations. -/
theorem tile_eq (x0 : FVec Ideal S256x1280 .f32) (x1 x2 : FVec Ideal S256x128 .f32) (y : S256x128.Idx) (e e1 e2 e3 : Fin 1280)
    (r : Fin 256) (hr : r.val = (y 0).val) (he : e.val = e1.val)
    (hl : e1.val % 128 = (y 1).val) (h2 : e1.val % 64 < 32 → e2.val = e1.val + 32)
    (h3 : ¬ e1.val % 64 < 32 → e3.val = e1.val - 32) :
    x0 (ix2 (y 0) e1) * x1 y + Scalar.select (k0_pay2 y) (x0 (ix2 (y 0) e2)) (x0 (ix2 (y 0) e3)) * x2 y
    = blkAt x0 x1 x2 r e := by
  obtain rfl : r = y 0 := Fin.ext hr
  obtain rfl : e = e1 := Fin.ext he
  have el : (⟨e.val % 128, by omega⟩ : Fin 128) = y 1 := Fin.ext hl
  have ey : (ix2 (y 0) (y 1) : S256x128.Idx) = y := by blk_ext
  have e1 : x1 (ix2 (y 0) (y 1)) = x1 y := congrArg x1 ey
  have e2' : x2 (ix2 (y 0) (y 1)) = x2 y := congrArg x2 ey
  unfold blkAt
  rw [mask_eq, el]
  refine Eq.trans ?_ (congrArg₂ (fun a b : EReal => a + b) (congrArg (x0 (ix2 (y 0) e) * ·) e1.symm) (congrArg (_ * ·) e2'.symm))
  by_cases h : e.val % 64 < 32
  · rw [if_pos (by omega), dif_pos h]
    rw [show e2 = ⟨e.val + 32, by omega⟩ from Fin.ext (h2 h)]; rfl
  · rw [if_neg (by omega), dif_neg h]
    rw [show e3 = ⟨e.val - 32, by omega⟩ from Fin.ext (h3 h)]; rfl

/-- The block of the queries' gradient. -/
theorem out_q (x0 : FVec Ideal S256x1280 .f32) (x1 x2 : FVec Ideal S256x128 .f32) (y : S256x1024.Idx) (e : Fin 1280)
    (he : e.val = (y 1).val) : out0_3 (F := Ideal) x0 x1 x2 y = blkAt x0 x1 x2 (y 0) e := by
  canon_tiles x h
  all_goals pointwise [k0_pay17, k0_pay18, k0_pay19, k0_pay1, k0_pay3, k0_pay4, k0_pay5, k0_pay6, k0_pay7, k0_pay8, k0_pay9, k0_pay10, k0_pay11, k0_pay12, k0_pay13, k0_pay14, k0_pay15]
  all_goals refine tile_eq x0 x1 x2 x e _ _ _ _ h0 ?_ ?_ ?_ ?_
  all_goals dsimp only
  all_goals omega

/-- The block of the keys' gradient. -/
theorem out_k (x0 : FVec Ideal S256x1280 .f32) (x1 x2 : FVec Ideal S256x128 .f32) (y : S256x256.Idx) (e : Fin 1280)
    (he : e.val = 1024 + (y 1).val) : out0_4 (F := Ideal) x0 x1 x2 y = blkAt x0 x1 x2 (y 0) e := by
  canon_tiles x h
  all_goals pointwise [k0_pay17, k0_pay18, k0_pay19, k0_pay1, k0_pay3, k0_pay4, k0_pay16]
  all_goals refine tile_eq x0 x1 x2 x e _ _ _ _ h0 ?_ ?_ ?_ ?_
  all_goals dsimp only
  all_goals omega

/-- The gradient through the rotary map at one entry: the entry by its angle's cosine, its partner in the head's other
    half by the sine, negated in the second half. -/
def turn (X : FVec Ideal S2048x1280 .f32) (s : Fin 2048) (e : Fin 1280) : EReal :=
  if h : e.val % 64 < 32 then
    X (ix2 s e) * Host.cos angles (ix2 s ⟨e.val % 32, by omega⟩)
      + X (ix2 s ⟨e.val + 32, by omega⟩) * Host.sin angles (ix2 s ⟨e.val % 32, by omega⟩)
  else X (ix2 s e) * Host.cos angles (ix2 s ⟨e.val % 32, by omega⟩)
      + X (ix2 s ⟨e.val - 32, by omega⟩) * -Host.sin angles (ix2 s ⟨e.val % 32, by omega⟩)

/-- The queries' gradient before the rotary map. -/
def qOf (X : FVec Ideal S2048x1280 .f32) : FVec Ideal S2048x1024 .bf16 := fun i =>
  turn X (i 0) ⟨(i 1).val, lt_trans (i 1).isLt (by decide)⟩

/-- The keys' gradient before the rotary map. -/
def kOf (X : FVec Ideal S2048x1280 .f32) : FVec Ideal S2048x256 .bf16 := fun i =>
  turn X (i 0) ⟨1024 + (i 1).val, Nat.add_lt_add_left (i 1).isLt 1024⟩

/-- Which block of each array grid point `t` works on. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0] :=
  (by decide +kernel : ∀ t : Fin grid0.N, _)

/-- A block's entry is the whole array's. -/
theorem blk_turn (c : Dev nD) (t : Fin cfg0.N) (r : Fin 256) (e : Fin 1280) (s : Fin 2048) (hs : s.val = 256 * t.val + r.val) :
    blkAt (iblk m c 0 t) (iblk m c 1 t) (iblk m c 2 t) r e = turn (m ((c : Thread nD τ).loc main_arg0)) s e := by
  have ht : t.val < 8 := lt_of_lt_of_eq t.isLt N_0
  have hx : ∀ k : Fin 1280, (iblk m c 0 t : FVec Ideal S256x1280 .f32) (ix2 r k) = m ((c : Thread nD τ).loc main_arg0) (ix2 s k) := by
    intro k
    blk_ext! [iblk, V, idx t]
    all_goals omega
  have hc : ∀ k : Fin 128, (iblk m c 1 t : FVec Ideal S256x128 .f32) (ix2 r k)
      = Host.cos angles (ix2 s ⟨k.val % 32, by omega⟩) := by
    intro k
    have : (iblk m c 1 t : FVec Ideal S256x128 .f32) (ix2 r k) = (V m c main_v18 : FVec Ideal S2048x128 .f32) (ix2 s k) := by
      blk_ext! [iblk, idx t]
      all_goals omega
    rw [this, V_cos, wide_apply, ite_self]
  have hs : ∀ k : Fin 128, (iblk m c 2 t : FVec Ideal S256x128 .f32) (ix2 r k)
      = if k.val % 64 < 32 then Host.sin angles (ix2 s ⟨k.val % 32, by omega⟩) else -Host.sin angles (ix2 s ⟨k.val % 32, by omega⟩) := by
    intro k
    have : (iblk m c 2 t : FVec Ideal S256x128 .f32) (ix2 r k) = (V m c main_v24 : FVec Ideal S2048x128 .f32) (ix2 s k) := by
      blk_ext! [iblk, idx t]
      all_goals omega
    rw [this, V_sin]
    show -(wide (Host.negf (Host.sin angles)) (Host.sin angles) (ix2 s k)) = _
    rw [wide_apply]
    split_ifs with h
    · exact neg_neg _
    · rfl
  have e32 : (⟨e.val % 128 % 32, by omega⟩ : Fin 32) = ⟨e.val % 32, by omega⟩ := Fin.ext (by show _ % 128 % 32 = _ % 32; omega)
  unfold blkAt turn
  by_cases h : e.val % 64 < 32
  · rw [dif_pos h, dif_pos h, hx, hx, hc, hs, if_pos (by show e.val % 128 % 64 < 32; omega)]
    rw [e32]
  · rw [dif_neg h, dif_neg h, hx, hx, hc, hs, if_neg (by show ¬ e.val % 128 % 64 < 32; omega)]
    rw [e32]

/-- The queries' gradient after the run. -/
theorem final_q (c : Dev nD) : (dats m 0 c).arrAt 3 (cfgs 0).N = qOf (m ((c : Thread nD τ).loc main_arg0)) := by
  refine (dats m 0 c).arrAt_eq_of_covers 3 _ (by decide +kernel) fun t _ y => ?_
  blk_simp
  rw [after0_3]
  refine (out_q _ _ _ y ⟨(y 1).val, lt_trans (b := 1024) (y 1).isLt (by decide)⟩ rfl).trans ?_
  refine (blk_turn m c t (y 0) _ ((win0_3.blk t).view.emb y 0) ?_).trans ?_
  · blk_simp [idx t]; omega
  · unfold qOf
    refine congrArg (turn _ _) (Fin.ext ?_)
    show (y 1).val = _
    blk_simp [idx t]

/-- The keys' gradient after the run. -/
theorem final_k (c : Dev nD) : (dats m 0 c).arrAt 4 (cfgs 0).N = kOf (m ((c : Thread nD τ).loc main_arg0)) := by
  refine (dats m 0 c).arrAt_eq_of_covers 4 _ (by decide +kernel) fun t _ y => ?_
  blk_simp
  rw [after0_4]
  refine (out_k _ _ _ y ⟨1024 + (y 1).val, Nat.add_lt_add_left (m := 256) (y 1).isLt 1024⟩ rfl).trans ?_
  refine (blk_turn m c t (y 0) _ ((win0_4.blk t).view.emb y 0) ?_).trans ?_
  · blk_simp [idx t]; omega
  · unfold kOf
    refine congrArg (turn _ _) (Fin.ext ?_)
    show 1024 + (y 1).val = 1024 + _
    blk_simp [idx t]

/-- The reference computes the queries' angles as the kernel's host lines do. -/
theorem ref_angles : RopeRefIdeal.Read.val_main_v15 (F := Ideal) = angles := rfl
/-- The reference computes the keys' angles alike. -/
theorem ref_angles' : RopeRefIdeal.Read.val_main_v47 (F := Ideal) = angles := rfl

open RopeRefIdeal.Read in
/-- The reference's gradient of the queries. -/
theorem ref_q (X : FVec Ideal S2048x1280 .f32) : val_main_v109 (F := Ideal) X = qOf X := by
  funext i
  have i1 : (i 1).val < 1024 := (i 1).isLt
  have i0 : (i 0).val < 2048 := (i 0).isLt
  unfold qOf turn
  by_cases h : (i 1).val % 64 < 32
  · rw [dif_pos (by omega)]
    pointwise [val_main_v109, val_main_v108, val_main_v107, val_main_v106, val_main_v105, val_main_v104, val_main_v103, val_main_v102, val_main_v101, val_main_v100, val_main_v98, val_main_v88, val_main_cst_6, val_main_cst_7, val_main_cst_8, val_main_cst_9]
    refine Eq.trans (congrArg₂ (fun a b : EReal => a + b) (dif_neg ?_) (congrArg₂ (fun a b : EReal => a + b) (dif_neg ?_) (dif_pos ?_))) ?_
    any_goals first | omega | exact fun h => h.1
    pointwise [val_main_v92, val_main_v89, val_main_v99, val_main_v90, val_main_v91, val_main_v70, val_main_v67, val_main_v17, val_main_v16, val_main_v18, val_main_v19]
    simp only [ref_angles, ref_angles', zero_add, add_zero]
    refine (add_comm (_ : EReal) _).trans ?_
    refine congrArg₂ (fun a b : EReal => a + b) (congrArg₂ (fun a b : EReal => a * b) (congrArg X ?_)
      (congrArg (fun j => Ideal.cos (angles j)) ?_)) (congrArg₂ (fun a b : EReal => a * b) (congrArg X ?_)
      (congrArg (fun j => Ideal.sin (angles j)) ?_))
    all_goals blk_ext
    all_goals omega
  · rw [dif_neg (by omega)]
    pointwise [val_main_v109, val_main_v108, val_main_v107, val_main_v106, val_main_v105, val_main_v104, val_main_v103, val_main_v102, val_main_v101, val_main_v100, val_main_v98, val_main_v88, val_main_cst_6, val_main_cst_7, val_main_cst_8, val_main_cst_9]
    refine Eq.trans (congrArg₂ (fun a b : EReal => a + b) (dif_neg ?_) (congrArg₂ (fun a b : EReal => a + b) (dif_pos ?_) (dif_neg ?_))) ?_
    any_goals first | omega | exact fun h => h.1
    pointwise [val_main_v94, val_main_v93, val_main_v97, val_main_v95, val_main_v96, val_main_v89, val_main_v90, val_main_v70, val_main_v67, val_main_v17, val_main_v16, val_main_v18, val_main_v19]
    simp only [ref_angles, ref_angles', zero_add, add_zero, EReal.neg_mul, ← mul_neg]
    refine congrArg₂ (fun a b : EReal => a + b) (congrArg₂ (fun a b : EReal => a * b) (congrArg X ?_)
      (congrArg (fun j => Ideal.cos (angles j)) ?_)) (congrArg₂ (fun a b : EReal => a * b) (congrArg X ?_)
      (congrArg (fun j => -Ideal.sin (angles j)) ?_))
    all_goals blk_ext
    all_goals omega

open RopeRefIdeal.Read in
/-- The reference's gradient of the keys. -/
theorem ref_k (X : FVec Ideal S2048x1280 .f32) : val_main_v111 (F := Ideal) X = kOf X := by
  funext i
  have i1 : (i 1).val < 256 := (i 1).isLt
  have i0 : (i 0).val < 2048 := (i 0).isLt
  unfold kOf turn
  by_cases h : (i 1).val % 64 < 32
  · rw [dif_pos (by dsimp only; omega)]
    pointwise [val_main_v111, val_main_v110, val_main_v107, val_main_v106, val_main_v88, val_main_v87, val_main_v86, val_main_v85, val_main_v84, val_main_v83, val_main_v82, val_main_v80, val_main_cst_4, val_main_cst_5, val_main_cst_6, val_main_cst_9]
    refine Eq.trans (congrArg₂ (fun a b : EReal => a + b) (dif_neg ?_) (dif_pos ?_)) ?_
    any_goals first | omega | exact fun h => h.1
    pointwise [val_main_v74, val_main_v72, val_main_v73, val_main_v71, val_main_v81, val_main_v69, val_main_v68, val_main_v48, val_main_v49, val_main_v50, val_main_v51]
    simp only [ref_angles, ref_angles', zero_add, add_zero]
    refine (add_comm (_ : EReal) _).trans ?_
    refine congrArg₂ (fun a b : EReal => a + b) (congrArg₂ (fun a b : EReal => a * b) (congrArg X ?_)
      (congrArg (fun j => Ideal.cos (angles j)) ?_)) (congrArg₂ (fun a b : EReal => a * b) (congrArg X ?_)
      (congrArg (fun j => Ideal.sin (angles j)) ?_))
    all_goals blk_ext
    all_goals omega
  · rw [dif_neg (by dsimp only; omega)]
    pointwise [val_main_v111, val_main_v110, val_main_v107, val_main_v106, val_main_v88, val_main_v87, val_main_v86, val_main_v85, val_main_v84, val_main_v83, val_main_v82, val_main_v80, val_main_cst_4, val_main_cst_5, val_main_cst_6, val_main_cst_9]
    refine Eq.trans (congrArg₂ (fun a b : EReal => a + b) (dif_pos ?_) (dif_neg ?_)) ?_
    any_goals first | omega | exact fun h => h.1
    pointwise [val_main_v76, val_main_v72, val_main_v75, val_main_v79, val_main_v77, val_main_v71, val_main_v78, val_main_v69, val_main_v68, val_main_v48, val_main_v49, val_main_v50, val_main_v51]
    simp only [ref_angles, ref_angles', zero_add, add_zero, EReal.neg_mul, ← mul_neg]
    refine congrArg₂ (fun a b : EReal => a + b) (congrArg₂ (fun a b : EReal => a * b) (congrArg X ?_)
      (congrArg (fun j => Ideal.cos (angles j)) ?_)) (congrArg₂ (fun a b : EReal => a * b) (congrArg X ?_)
      (congrArg (fun j => -Ideal.sin (angles j)) ?_))
    all_goals blk_ext
    all_goals omega

end Cert.RopeValue

namespace Cert.RopeValue

open Idealize.ShloMosaic Idealize.ShloMosaic.TcCoe Idealize.SL.Sem

/-- The frame of the kernel. -/
theorem quiescent_kernel : Cert.quiescent_Rope := fun m ρ _ => Rope.Gen.frame m ρ

/-- The frame of the kernel over the extended reals. -/
theorem quiescent_ideal : Cert.quiescent_RopeIdeal := fun m ρ _ => RopeIdeal.Gen.frame m ρ

/-- The frame of the reference, a straight line of host operations. -/
theorem quiescent_ref : Cert.quiescent_RopeRefIdeal := fun m ρ _ =>
  (θ_run RopeRefIdeal.defs _ _).mono
    (fun r h => ⟨fun c => (h c).2.2, sem_eq_zero_of_no_sems (by decide) r.2⟩)
    (RopeRefIdeal.Value.run (F := Ideal) m ρ)

/-- The gradients of queries and keys are the reference's. -/
theorem algebraic : Cert.algebraic_RopeIdeal_RopeRefIdeal := by
  intro m ρ m' ρ' _ hagree
  refine ⟨fun c => qOf (m (c.tc.loc RopeIdeal.main_arg0)), fun c => kOf (m (c.tc.loc RopeIdeal.main_arg0)), ?_, ?_⟩
  · exact (θ_run RopeIdeal.defs _ _).mono
      (fun _ h c => ⟨(h c).1.trans (final_q m c), (h c).2.1.trans (final_k m c), (h c).2.2⟩)
      (RopeIdeal.Value.run_blocks (F := Ideal) m ρ)
  refine (θ_run RopeRefIdeal.defs _ _).mono (fun _ h c => ⟨(h c).1.trans ?_, (h c).2.1.trans ?_, (h c).2.2⟩)
    (RopeRefIdeal.Value.run (F := Ideal) m' ρ')
  · rw [RopeRefIdeal.Read.val_main_v109_eq, hagree c]
    exact ref_q _
  · rw [RopeRefIdeal.Read.val_main_v111_eq, hagree c]
    exact ref_k _

end Cert.RopeValue

end
-- ==== Proof.PoolWindow.lean ====
/-
  The multi-scale pooling in real numbers: sums over a causal window, sums over the window's mirror image, and the
  running sums whose differences they are.
  The reference's pooling, one operation at a time: running sums along the rows, the running sum `w` rows before, and
  the values `w` rows after.
-/
module

public import proofs.«01_k».proof.Proof.Finite
public import proofs.«01_k».proof.Proof.Gen.PoolRefIdeal.Read
public import Idealize.ShloMosaic.Lib.KernelVsHost

@[expose] public section

set_option maxRecDepth 16384

noncomputable section

namespace Cert.PoolReal

open Idealize.ShloMosaic

/-- The sum of the last `w` values up to position `t`. -/
def win (w : ℕ) (f : ℕ → ℝ) (t : ℕ) : ℝ := ∑ j ∈ Finset.range w, if j ≤ t then f (t - j) else 0

/-- The sum of the next `w` values from position `t`, of 2048. -/
def wup (w : ℕ) (f : ℕ → ℝ) (t : ℕ) : ℝ := ∑ j ∈ Finset.range w, if t + j < 2048 then f (t + j) else 0

/-- The number of values in the window of width `w` at position `t`. -/
def cnt (w t : ℕ) : ℝ := ((min (t + 1) w : ℕ) : ℝ)

theorem cnt_ne (w t : ℕ) (hw : 0 < w) : cnt w t ≠ 0 := by
  unfold cnt
  exact Nat.cast_ne_zero.mpr (by omega)

theorem win_one (f : ℕ → ℝ) (t : ℕ) : win 1 f t = f t := by simp [win]
theorem wup_one (f : ℕ → ℝ) (t : ℕ) (h : t < 2048) : wup 1 f t = f t := by simp [wup, h]

/-- A window of twice the width is the window and the window `w` positions before. -/
theorem win_double (w : ℕ) (f : ℕ → ℝ) (t : ℕ) : win (w + w) f t = win w f t + if w ≤ t then win w f (t - w) else 0 := by
  unfold win
  rw [Finset.sum_range_add]
  refine congrArg (_ + ·) ?_
  by_cases h : w ≤ t
  · rw [if_pos h]
    refine Finset.sum_congr rfl fun j _ => ?_
    by_cases h' : w + j ≤ t
    · rw [if_pos h', if_pos (by omega), show t - (w + j) = t - w - j by omega]
    · rw [if_neg h', if_neg (by omega)]
  · rw [if_neg h]
    exact Finset.sum_eq_zero fun j _ => if_neg (by omega)

/-- A mirrored window of twice the width is the window and the window `w` positions after. -/
theorem wup_double (w : ℕ) (f : ℕ → ℝ) (t : ℕ) :
    wup (w + w) f t = wup w f t + if t + w < 2048 then wup w f (t + w) else 0 := by
  unfold wup
  rw [Finset.sum_range_add]
  refine congrArg (_ + ·) ?_
  by_cases h : t + w < 2048
  · rw [if_pos h]
    exact Finset.sum_congr rfl fun j _ => by rw [show t + (w + j) = t + w + j by omega]
  · rw [if_neg h]
    exact Finset.sum_eq_zero fun j _ => if_neg (by omega)

/-- The running sum. -/
def cum (f : ℕ → ℝ) (t : ℕ) : ℝ := ∑ i ∈ Finset.range (t + 1), f i

/-- The running sum from the end of 2048 values. -/
def cdn (f : ℕ → ℝ) (t : ℕ) : ℝ := ∑ i ∈ Finset.range (2048 - t), f (t + i)

/-- A window's sum is a difference of running sums. -/
theorem cum_sub (w : ℕ) (f : ℕ → ℝ) (t : ℕ) : cum f t - (if w ≤ t then cum f (t - w) else 0) = win w f t := by
  induction w with
  | zero => simp [win]
  | succ w ih =>
    have e : win (w + 1) f t = win w f t + if w ≤ t then f (t - w) else 0 := by
      unfold win
      rw [Finset.sum_range_succ]
    rw [e, ← ih]
    by_cases h : w + 1 ≤ t
    · rw [if_pos h, if_pos (by omega), if_pos (by omega)]
      have : cum f (t - w) = cum f (t - (w + 1)) + f (t - w) := by
        unfold cum
        rw [show t - w = t - (w + 1) + 1 by omega, Finset.sum_range_succ]
      rw [this]; ring
    · rw [if_neg h]
      by_cases h' : w ≤ t
      · obtain rfl : w = t := by omega
        rw [if_pos le_rfl, if_pos le_rfl]
        simp [cum]
      · rw [if_neg h', if_neg h']; ring

/-- A mirrored window's sum is a running sum from the end, of the values less the values `w` positions after. -/
theorem cdn_sub (w : ℕ) (f : ℕ → ℝ) (t : ℕ) (ht : t < 2048) :
    cdn (fun s => f s - if s + w < 2048 then f (s + w) else 0) t = wup w f t := by
  induction w with
  | zero =>
    unfold cdn wup
    rw [Finset.range_zero, Finset.sum_empty]
    refine Finset.sum_eq_zero fun i hi => ?_
    have := Finset.mem_range.mp hi
    dsimp only
    rw [if_pos (by omega), Nat.add_zero, sub_self]
  | succ w ih =>
    have e : wup (w + 1) f t = wup w f t + if t + w < 2048 then f (t + w) else 0 := by
      unfold wup
      rw [Finset.sum_range_succ]
    rw [e, ← ih]
    unfold cdn
    dsimp only
    have key : ∀ n, (∑ i ∈ Finset.range n, (f (t + i) - if t + i + (w + 1) < 2048 then f (t + i + (w + 1)) else 0))
        = (∑ i ∈ Finset.range n, (f (t + i) - if t + i + w < 2048 then f (t + i + w) else 0))
          + ((if t + w < 2048 then f (t + w) else 0) - if t + n + w < 2048 then f (t + n + w) else 0) := by
      intro n
      induction n with
      | zero => simp
      | succ n ihn =>
        rw [Finset.sum_range_succ, ihn, Finset.sum_range_succ]
        rw [show t + n + (w + 1) = t + (n + 1) + w by omega]
        ring
    rw [key, if_neg (show ¬ t + (2048 - t) + w < 2048 by omega), sub_zero]

variable (q : ℕ → ℕ → ℝ) (p : ℕ → ℕ → ℕ → ℝ) (s : ℕ → ℝ) (M : ℕ → ℕ → ℝ)

/-- One value's window mean less the value. -/
def mean (w : ℕ) (f : ℕ → ℝ) (t : ℕ) : ℝ := win w f t / cnt w t - f t

/-- The mean's derivative, transposed. -/
def meanT (w : ℕ) (f : ℕ → ℝ) (t : ℕ) : ℝ := wup w (fun t => f t / cnt w t) t - f t

/-- The pooled difference of group `g`, which is pooled over `2 ^ (g + 1)` positions. -/
def pre (g t e : ℕ) : ℝ := mean (2 ^ (g + 1)) (fun t => q t (1536 + (128 * g + e))) t

/-- Its product with the group's weights. -/
def mix (g t k : ℕ) : ℝ := ∑ e : Fin 128, pre q g t e.val * p g e.val k

/-- The cotangent of that product. -/
def dmix (g t k : ℕ) : ℝ := M t (1024 + (128 * g + k)) * s (128 * g + k)

/-- The cotangent of the pooled difference. -/
def dpre (g t e : ℕ) : ℝ := ∑ k : Fin 128, dmix s M g t k.val * p g e k.val

/-- The gradient of the weights. -/
def dw (g e k : ℕ) : ℝ := ∑ t : Fin 2048, pre q g t.val e * dmix s M g t.val k

/-- The gradient of the scale. -/
def dsc (g k : ℕ) : ℝ := ∑ t : Fin 2048, M t.val (1024 + (128 * g + k)) * mix q p g t.val k

/-- The gradient of the pooled values. -/
def du (g t e : ℕ) : ℝ := meanT (2 ^ (g + 1)) (fun t => dpre p s M g t e) t

end Cert.PoolReal

namespace Cert.PoolRefRead

open PoolRefIdeal PoolRefIdeal.Gen PoolRefIdeal.Read
open Idealize.ShloMosaic Idealize.ShloMosaic.TcCoe PoolReal Reals

/-- One sequence of reals, as an array with a leading axis of one. -/
def seq {n m : ℕ} (x : ℕ → ℕ → ℝ) : (⟨3, ![1, n, m]⟩ : Shape).Idx → EReal := fun i => ((x (i 1).val (i 2).val : ℝ) : EReal)

/-- A fold that adds a real at each step. -/
theorem fold_real {A : Type} (F : EReal → A → EReal) (g : A → ℝ) (h : ∀ r n, F r n = r + ((g n : ℝ) : EReal)) (l : List A) (v : ℝ) :
    l.foldl F ((v : ℝ) : EReal) = ((v + (l.map g).sum : ℝ) : EReal) := by
  induction l generalizing v with
  | nil => simp
  | cons a l ih =>
    rw [List.foldl_cons, h, ← EReal.coe_add, ih, List.map_cons, List.sum_cons, add_assoc]

/-- A sum over a window as high as the array, which starts `lo` rows early. -/
theorem window_seq (lo hi : ℕ) (f : ℕ → ℕ → ℝ) (init : FVec Ideal S_ .f32) (hinit : ∀ i, init i = (((0 : ℝ) : EReal) : EReal))
    (h : S1x2048x128.ReduceWindows ![1, 2048, 1] ![1, 1, 1] ![0, lo, 0] ![0, hi, 0] S1x2048x128) (hu : 0 < S_.numel) :
    (Host.reduceWindowAdd (F := Ideal) (φ := .f32) ![1, 2048, 1] ![1, 1, 1] ![0, lo, 0] ![0, hi, 0] (seq f : FVec Ideal S1x2048x128 .f32) init h hu)
      = seq fun t j => ∑ k ∈ Finset.range 2048, if lo ≤ t + k ∧ t + k - lo < 2048 then f (t + k - lo) j else 0 := by
  funext i
  unfold Host.reduceWindowAdd
  rw [Ideal.hostReduceWindowAdd_def]
  unfold Ideal.hostReduceWindowAdd Host.reduceWindow
  dsimp only
  rw [hinit]
  have i0 : (i 0).val < 1 := (i 0).isLt
  have i1 : (i 1).val < 2048 := (i 1).isLt
  have i2 : (i 2).val < 128 := (i 2).isLt
  have hnum : (⟨3, ![1, 2048, 1]⟩ : Shape).numel = 2048 := by decide
  have row : ∀ n : Fin (⟨3, ![1, 2048, 1]⟩ : Shape).numel,
      ((⟨3, ![1, 2048, 1]⟩ : Shape).rowMajor.symm n 0).val = 0 ∧ ((⟨3, ![1, 2048, 1]⟩ : Shape).rowMajor.symm n 1).val = n.val
        ∧ ((⟨3, ![1, 2048, 1]⟩ : Shape).rowMajor.symm n 2).val = 0 := by
    intro n
    have e := Shape.rowMajor_val_three ((⟨3, ![1, 2048, 1]⟩ : Shape).rowMajor.symm n)
    rw [Equiv.apply_symm_apply] at e
    have b0 : ((⟨3, ![1, 2048, 1]⟩ : Shape).rowMajor.symm n 0).val < 1 := ((⟨3, ![1, 2048, 1]⟩ : Shape).rowMajor.symm n 0).isLt
    have b2 : ((⟨3, ![1, 2048, 1]⟩ : Shape).rowMajor.symm n 2).val < 1 := ((⟨3, ![1, 2048, 1]⟩ : Shape).rowMajor.symm n 2).isLt
    change n.val = (_ * 2048 + _) * 1 + _ at e
    exact ⟨by omega, by omega, by omega⟩
  refine (fold_real _ (fun n => if lo ≤ (i 1).val + n.val ∧ (i 1).val + n.val - lo < 2048 then f ((i 1).val + n.val - lo) (i 2).val else 0)
    (fun r n => congrArg (r + ·) ?_) _ _).trans ?_
  · obtain ⟨r0, r1, r2⟩ := row n
    by_cases hin : lo ≤ (i 1).val + n.val ∧ (i 1).val + n.val - lo < 2048
    · rw [if_pos hin, dif_pos]
      · unfold seq
        dsimp only
        refine congrArg (fun z : ℝ => (z : EReal)) (congrArg₂ f ?_ ?_)
        · show (i 1).val * 1 + ((⟨3, ![1, 2048, 1]⟩ : Shape).rowMajor.symm n 1).val - lo = _
          rw [r1, Nat.mul_one]
        · show (i 2).val * 1 + ((⟨3, ![1, 2048, 1]⟩ : Shape).rowMajor.symm n 2).val - 0 = _
          rw [r2]; omega
      · intro a
        match a with
        | ⟨0, _⟩ => show 0 ≤ (i 0).val * 1 + ((⟨3, ![1, 2048, 1]⟩ : Shape).rowMajor.symm n 0).val ∧ (i 0).val * 1 + ((⟨3, ![1, 2048, 1]⟩ : Shape).rowMajor.symm n 0).val - 0 < 1; rw [r0]; omega
        | ⟨1, _⟩ => show lo ≤ (i 1).val * 1 + ((⟨3, ![1, 2048, 1]⟩ : Shape).rowMajor.symm n 1).val ∧ (i 1).val * 1 + ((⟨3, ![1, 2048, 1]⟩ : Shape).rowMajor.symm n 1).val - lo < 2048; rw [r1]; omega
        | ⟨2, _⟩ => show 0 ≤ (i 2).val * 1 + ((⟨3, ![1, 2048, 1]⟩ : Shape).rowMajor.symm n 2).val ∧ (i 2).val * 1 + ((⟨3, ![1, 2048, 1]⟩ : Shape).rowMajor.symm n 2).val - 0 < 128; rw [r2]; omega
    · rw [if_neg hin, dif_neg]
      intro h'
      have h1 := h' 1
      change lo ≤ (i 1).val * 1 + ((⟨3, ![1, 2048, 1]⟩ : Shape).rowMajor.symm n 1).val ∧ (i 1).val * 1 + ((⟨3, ![1, 2048, 1]⟩ : Shape).rowMajor.symm n 1).val - lo < 2048 at h1
      rw [r1] at h1
      omega
  · unfold seq
    rw [zero_add, ← Fin.sum_univ_def, Fin.sum_univ_eq_sum_range (fun n => if lo ≤ (i 1).val + n ∧ (i 1).val + n - lo < 2048 then f ((i 1).val + n - lo) (i 2).val else 0), hnum]

theorem seq_congr {n m : ℕ} {f g : ℕ → ℕ → ℝ} (h : ∀ t < n, ∀ j < m, f t j = g t j) :
    (seq f : (⟨3, ![1, n, m]⟩ : Shape).Idx → EReal) = seq g :=
  funext fun i => congrArg (fun z : ℝ => (z : EReal)) (h _ (i 1).isLt _ (i 2).isLt)

/-- The running sum along the rows. -/
theorem cumsum_seq (f : ℕ → ℕ → ℝ) (init : FVec Ideal S_ .f32) (hinit : ∀ i, init i = (((0 : ℝ) : EReal) : EReal))
    (h : S1x2048x128.ReduceWindows ![1, 2048, 1] ![1, 1, 1] ![0, 2047, 0] ![0, 0, 0] S1x2048x128) (hu : 0 < S_.numel) :
    (Host.reduceWindowAdd (F := Ideal) (φ := .f32) ![1, 2048, 1] ![1, 1, 1] ![0, 2047, 0] ![0, 0, 0] (seq f : FVec Ideal S1x2048x128 .f32) init h hu)
      = seq fun t j => cum (fun t => f t j) t := by
  rw [window_seq 2047 0 f init hinit h hu]
  refine seq_congr fun t ht j _ => ?_
  unfold cum
  rw [show 2048 = (2047 - t) + (t + 1) by omega, Finset.sum_range_add, Finset.sum_eq_zero (s := Finset.range (2047 - t)), zero_add]
  · refine Finset.sum_congr rfl fun i hi => ?_
    have := Finset.mem_range.mp hi
    rw [if_pos (by omega), show t + (2047 - t + i) - 2047 = i by omega]
  · intro i hi
    have := Finset.mem_range.mp hi
    exact if_neg (by omega)

/-- The running sum along the rows from the last. -/
theorem revsum_seq (f : ℕ → ℕ → ℝ) (init : FVec Ideal S_ .f32) (hinit : ∀ i, init i = (((0 : ℝ) : EReal) : EReal))
    (h : S1x2048x128.ReduceWindows ![1, 2048, 1] ![1, 1, 1] ![0, 0, 0] ![0, 2047, 0] S1x2048x128) (hu : 0 < S_.numel) :
    (Host.reduceWindowAdd (F := Ideal) (φ := .f32) ![1, 2048, 1] ![1, 1, 1] ![0, 0, 0] ![0, 2047, 0] (seq f : FVec Ideal S1x2048x128 .f32) init h hu)
      = seq fun t j => cdn (fun t => f t j) t := by
  rw [window_seq 0 2047 f init hinit h hu]
  refine seq_congr fun t ht j _ => ?_
  unfold cdn
  conv_lhs => rw [show 2048 = (2048 - t) + t by omega]
  rw [Finset.sum_range_add, Finset.sum_eq_zero (s := Finset.range t), add_zero]
  · refine Finset.sum_congr rfl fun i hi => ?_
    have := Finset.mem_range.mp hi
    rw [if_pos (by omega), Nat.sub_zero]
  · intro i hi
    exact if_neg (by omega)

/-- The rows `w` before, zero for the first `w`. -/
theorem before_seq (w : ℕ) (f : ℕ → ℕ → ℝ) (z : FVec Ideal ⟨3, ![1, w, 128]⟩ .f32) (hz : ∀ i, z i = (((0 : ℝ) : EReal) : EReal))
    (hc : Shape.Concatenates [⟨3, ![1, w, 128]⟩, S1x2048x128] ⟨3, ![1, 2048 + w, 128]⟩ 1)
    (hs : (⟨3, ![1, 2048 + w, 128]⟩ : Shape).Slices ![0, 0, 0] S1x2048x128) :
    extractStridedSlice S1x2048x128 ![0, 0, 0]
      (concatenate ⟨3, ![1, 2048 + w, 128]⟩ 1 [⟨⟨3, ![1, w, 128]⟩, z⟩, ⟨S1x2048x128, (seq f : FVec Ideal S1x2048x128 .f32)⟩] hc) hs
      = seq fun t j => if w ≤ t then f (t - w) j else 0 := by
  funext i
  have i0 : (i 0).val < 1 := (i 0).isLt
  have i1 : (i 1).val < 2048 := (i 1).isLt
  have i2 : (i 2).val < 128 := (i 2).isLt
  refine (extractStridedSlice_apply (s := ⟨3, ![1, 2048 + w, 128]⟩) (t := S1x2048x128) _ _ _ i
    (ix3 ⟨(i 0).val, i0⟩ ⟨(i 1).val, by omega⟩ ⟨(i 2).val, i2⟩) (fun a => by
      match a with
      | ⟨0, _⟩ => exact (Nat.zero_add _).symm
      | ⟨1, _⟩ => exact (Nat.zero_add _).symm
      | ⟨2, _⟩ => exact (Nat.zero_add _).symm)).trans ?_
  unfold seq
  dsimp only
  by_cases hw : w ≤ (i 1).val
  · rw [if_pos hw]
    exact concatenate_pair_apply_right (t := ⟨3, ![1, 2048 + w, 128]⟩) (s₁ := ⟨3, ![1, w, 128]⟩) (s₂ := S1x2048x128) _ _ _ hc _ rfl rfl
      (ix3 ⟨(i 0).val, i0⟩ ⟨(i 1).val - w, by omega⟩ ⟨(i 2).val, i2⟩)
      (fun b hb => by
        match b, hb with
        | ⟨0, _⟩, _ => rfl
        | ⟨1, _⟩, hb => exact absurd rfl hb
        | ⟨2, _⟩, _ => rfl)
      (by show (i 1).val - w + w = (i 1).val; omega)
  · rw [if_neg hw]
    exact (concatenate_pair_apply_left (t := ⟨3, ![1, 2048 + w, 128]⟩) (s₁ := ⟨3, ![1, w, 128]⟩) (s₂ := S1x2048x128) _ _ _ hc _ rfl
      (ix3 ⟨(i 0).val, i0⟩ ⟨(i 1).val, by omega⟩ ⟨(i 2).val, i2⟩)
      (fun b => by
        match b with
        | ⟨0, _⟩ => rfl
        | ⟨1, _⟩ => rfl
        | ⟨2, _⟩ => rfl)).trans (hz _)

/-- The rows `w` after, zero for the last `w`. -/
theorem after_seq (w : ℕ) (f : ℕ → ℕ → ℝ) (z : FVec Ideal S_ .f32) (hz : ∀ i, z i = (((0 : ℝ) : EReal) : EReal))
    (hp : S1x2048x128.Pads ![0, 0, 0] ![0, w, 0] ![0, 0, 0] ⟨3, ![1, 2048 + w, 128]⟩) (hu : 0 < S_.numel)
    (hs : (⟨3, ![1, 2048 + w, 128]⟩ : Shape).Slices ![0, w, 0] S1x2048x128) :
    extractStridedSlice S1x2048x128 ![0, w, 0]
      (pad ⟨3, ![1, 2048 + w, 128]⟩ ![0, 0, 0] ![0, w, 0] ![0, 0, 0] (seq f : FVec Ideal S1x2048x128 .f32) z hp hu) hs
      = seq fun t j => if t + w < 2048 then f (t + w) j else 0 := by
  funext i
  have i0 : (i 0).val < 1 := (i 0).isLt
  have i1 : (i 1).val < 2048 := (i 1).isLt
  have i2 : (i 2).val < 128 := (i 2).isLt
  refine (extractStridedSlice_apply (s := ⟨3, ![1, 2048 + w, 128]⟩) (t := S1x2048x128) _ _ _ i
    (ix3 ⟨(i 0).val, i0⟩ ⟨w + (i 1).val, by omega⟩ ⟨(i 2).val, i2⟩) (fun a => by
      match a with
      | ⟨0, _⟩ => exact (Nat.zero_add _).symm
      | ⟨1, _⟩ => rfl
      | ⟨2, _⟩ => exact (Nat.zero_add _).symm)).trans ?_
  unfold seq
  dsimp only
  by_cases hw : (i 1).val + w < 2048
  · rw [if_pos hw]
    refine pad_apply_of_inside (s := S1x2048x128) (t := ⟨3, ![1, 2048 + w, 128]⟩) _ _ _ _ z hp hu _
      (ix3 ⟨(i 0).val, i0⟩ ⟨(i 1).val + w, hw⟩ ⟨(i 2).val, i2⟩) (fun a => ?_)
    match a with
    | ⟨0, _⟩ => show (i 0).val = 0 + (i 0).val * (0 + 1); omega
    | ⟨1, _⟩ => show w + (i 1).val = 0 + ((i 1).val + w) * (0 + 1); omega
    | ⟨2, _⟩ => show (i 2).val = 0 + (i 2).val * (0 + 1); omega
  · rw [if_neg hw]
    refine (pad_apply_of_not_inside (s := S1x2048x128) (t := ⟨3, ![1, 2048 + w, 128]⟩) _ _ _ _ z hp hu _ 1 (fun h => ?_)).trans (hz _)
    have h2 : (w + (i 1).val - 0) / (0 + 1) < 2048 := h.2.2
    omega

end Cert.PoolRefRead

end
-- ==== Proof.PoolTile.lean ====
/-
  The pooling kernel's operations on one group of 128 columns: the window's sum by doubling, forwards and mirrored, and
  the mean.
-/
module

public import proofs.«01_k».proof.Proof.PoolWindow
public import proofs.«01_k».proof.Defs
public import proofs.«01_k».proof.Proof.Gen.PoolIdeal.Frame
public import Idealize.ShloMosaic.Lib.Pipeline.ValueKit
public import Idealize.ShloMosaic.Lib.Pointwise

@[expose] public section

set_option maxRecDepth 16384

noncomputable section

namespace Cert.PoolValue

open Idealize.ShloMosaic Idealize.ShloMosaic.TcCoe Idealize.SL.Sem
open PoolIdeal PoolIdeal.Gen PoolReal Reals
open AttnRefRead (mat vec)

/-- The row's number, as a word. -/
abbrev rows : IVec S2048x128 32 := iota .tc S2048x128 32 [0] iota_S2048x128_d0_w32

/-- An array plus itself `k` rows down. -/
def down (k : BitVec 32) (x : FVec Ideal S2048x128 .f32) : FVec Ideal S2048x128 .f32 :=
  addf x (select (cmpi .sge rows (broadcast S2048x128 k)) (dynamicRotate 0 k none x rotates_S2048x128_d0)
    (broadcast S2048x128 (Scalar.ofBits .f32 0x00000000#32)))

/-- An array plus itself `2048 - k` rows up, `k` the rotation's word. -/
def upto (k : BitVec 32) (x : FVec Ideal S2048x128 .f32) : FVec Ideal S2048x128 .f32 :=
  addf x (select (cmpi .slt rows (broadcast S2048x128 k)) (dynamicRotate 0 k none x rotates_S2048x128_d0)
    (broadcast S2048x128 (Scalar.ofBits .f32 0x00000000#32)))

/-- The window's number of values, by rows. -/
def count (w : BitVec 32) : FVec Ideal S2048x128 .f32 :=
  sitofp .f32 (minsi (addi rows (broadcast S2048x128 1#32)) (broadcast S2048x128 w))

theorem zero_word : (Scalar.ofBits .f32 0x00000000#32 : Ideal .f32) = ((0 : ℝ) : EReal) := by
  show Ideal.ofBits .f32 0x00000000#32 = _
  simp [Ideal.ofBits, Ideal.ieee, -EReal.coe_mul]

/-- The row's mask, forwards. -/
theorem ge_word : ∀ k ∈ [1, 2, 4, 8], ∀ t : Fin 2048,
    IntOp.cmpi .sge (BitVec.ofNat 32 t.val) (BitVec.ofNat 32 k) = if k ≤ t.val then 1#1 else 0#1 := by decide +kernel

/-- The row's mask, mirrored. -/
theorem lt_word : ∀ k ∈ [1, 2, 4, 8], ∀ t : Fin 2048,
    IntOp.cmpi .slt (BitVec.ofNat 32 t.val) (BitVec.ofNat 32 (2048 - k)) = if t.val + k < 2048 then 1#1 else 0#1 := by decide +kernel

/-- The window's count as a word. -/
theorem count_word : ∀ w ∈ [2, 4, 8, 16], ∀ t : Fin 2048,
    (IntOp.minsi (IntOp.addi (BitVec.ofNat 32 t.val) 1#32) (BitVec.ofNat 32 w)).toInt = (min (t.val + 1) w : ℕ) := by decide +kernel

/-- Doubling a window, on the tile. -/
theorem down_mat (f : ℕ → ℕ → ℝ) (k : ℕ) (hk : k ∈ [1, 2, 4, 8]) :
    down (BitVec.ofNat 32 k) (mat fun t j => win k (fun t => f t j) t) = mat fun t j => win (k + k) (fun t => f t j) t := by
  funext y
  have hy : (y 0).val < 2048 := (y 0).isLt
  have hm := ge_word k hk ⟨(y 0).val, hy⟩
  have hr : (BitVec.ofNat 32 k).toNat = k := (by decide : ∀ k ∈ [1, 2, 4, 8], (BitVec.ofNat 32 k).toNat = k) k hk
  have hk2 : k < 2048 := (by decide : ∀ k ∈ [1, 2, 4, 8], k < 2048) k hk
  unfold down
  pointwise []
  dsimp only at hm
  rw [hm]
  unfold mat
  dsimp only
  rw [win_double, EReal.coe_add]
  refine congrArg _ ?_
  by_cases h : k ≤ (y 0).val
  · rw [if_pos h, if_pos h]
    have e : ((y 0).val + 2048 - (BitVec.ofNat 32 k).toNat % 2048) % 2048 = (y 0).val - k := by rw [hr]; omega
    exact congrArg (fun z => ((win k (fun t => f t (y 1).val) z : ℝ) : EReal)) e
  · rw [if_neg h, if_neg h]
    rfl

/-- Doubling a mirrored window, on the tile. -/
theorem upto_mat (f : ℕ → ℕ → ℝ) (k : ℕ) (hk : k ∈ [1, 2, 4, 8]) :
    upto (BitVec.ofNat 32 (2048 - k)) (mat fun t j => wup k (fun t => f t j) t) = mat fun t j => wup (k + k) (fun t => f t j) t := by
  funext y
  have hy : (y 0).val < 2048 := (y 0).isLt
  have hm := lt_word k hk ⟨(y 0).val, hy⟩
  have hr : (BitVec.ofNat 32 (2048 - k)).toNat = 2048 - k :=
    (by decide : ∀ k ∈ [1, 2, 4, 8], (BitVec.ofNat 32 (2048 - k)).toNat = 2048 - k) k hk
  have hk2 : 0 < k ∧ k < 2048 := (by decide : ∀ k ∈ [1, 2, 4, 8], 0 < k ∧ k < 2048) k hk
  unfold upto
  pointwise []
  dsimp only at hm
  rw [hm]
  unfold mat
  dsimp only
  rw [wup_double, EReal.coe_add]
  refine congrArg _ ?_
  by_cases h : (y 0).val + k < 2048
  · rw [if_pos h, if_pos h]
    have e : ((y 0).val + 2048 - (BitVec.ofNat 32 (2048 - k)).toNat % 2048) % 2048 = (y 0).val + k := by rw [hr]; omega
    exact congrArg (fun z => ((wup k (fun t => f t (y 1).val) z : ℝ) : EReal)) e
  · rw [if_neg h, if_neg h]
    rfl

/-- The window's count of values, on the tile. -/
theorem count_eq (w : ℕ) (hw : w ∈ [2, 4, 8, 16]) : count (BitVec.ofNat 32 w) = mat fun t _ => cnt w t := by
  funext y
  have hy : (y 0).val < 2048 := (y 0).isLt
  have hm := count_word w hw ⟨(y 0).val, hy⟩
  unfold count
  pointwise [mat, cnt]
  show (((IntOp.minsi (IntOp.addi (BitVec.ofNat 32 (y 0).val) 1#32) (BitVec.ofNat 32 w)).toInt : ℝ) : EReal) = _
  dsimp only at hm
  rw [hm]
  push_cast
  rfl

/-- A tile over the count of its window. -/
theorem div_count (f : ℕ → ℕ → ℝ) (w : ℕ) (hw : w ∈ [2, 4, 8, 16]) :
    divf (mat f : FVec Ideal S2048x128 .f32) (count (BitVec.ofNat 32 w)) = mat fun t j => f t j / cnt w t := by
  rw [count_eq w hw]
  funext y
  have hw' : 0 < w := (by decide : ∀ w ∈ [2, 4, 8, 16], 0 < w) w hw
  exact div_coe_coe _ (cnt_ne w _ hw')

theorem sub_mat (f g : ℕ → ℕ → ℝ) :
    truncf (F := Ideal) .bf16 (subf (mat f : FVec Ideal S2048x128 .f32) (mat g : FVec Ideal S2048x128 .f32)) bitsLt_bf16_f32
      = mat (fun t j => f t j - g t j) := by
  funext y
  exact (EReal.coe_sub _ _).symm

theorem win1_mat (f : ℕ → ℕ → ℝ) : (mat f : FVec Ideal S2048x128 .f32) = mat fun t j => win 1 (fun t => f t j) t := by
  simp only [win_one]

theorem wup1_mat (f : ℕ → ℕ → ℝ) : (mat f : FVec Ideal S2048x128 .f32) = mat fun t j => wup 1 (fun t => f t j) t := by
  funext y
  unfold mat
  dsimp only
  rw [wup_one _ _ (y 0).isLt]

/-- The windows' sums of the four groups. -/
theorem downs (f : ℕ → ℕ → ℝ) :
    down 1#32 (mat f) = (mat fun t j => win 2 (fun t => f t j) t) ∧
    down 2#32 (down 1#32 (mat f)) = (mat fun t j => win 4 (fun t => f t j) t) ∧
    down 4#32 (down 2#32 (down 1#32 (mat f))) = (mat fun t j => win 8 (fun t => f t j) t) ∧
    down 8#32 (down 4#32 (down 2#32 (down 1#32 (mat f)))) = mat fun t j => win 16 (fun t => f t j) t := by
  have h1 := (congrArg (down 1#32) (win1_mat f)).trans (down_mat f 1 (by decide))
  have h2 := (congrArg (down 2#32) h1).trans (down_mat f 2 (by decide))
  have h3 := (congrArg (down 4#32) h2).trans (down_mat f 4 (by decide))
  exact ⟨h1, h2, h3, (congrArg (down 8#32) h3).trans (down_mat f 8 (by decide))⟩

/-- The mirrored windows' sums of the four groups. -/
theorem ups (f : ℕ → ℕ → ℝ) :
    upto 2047#32 (mat f) = (mat fun t j => wup 2 (fun t => f t j) t) ∧
    upto 2046#32 (upto 2047#32 (mat f)) = (mat fun t j => wup 4 (fun t => f t j) t) ∧
    upto 2044#32 (upto 2046#32 (upto 2047#32 (mat f))) = (mat fun t j => wup 8 (fun t => f t j) t) ∧
    upto 2040#32 (upto 2044#32 (upto 2046#32 (upto 2047#32 (mat f)))) = mat fun t j => wup 16 (fun t => f t j) t := by
  have h1 := (congrArg (upto 2047#32) (wup1_mat f)).trans (upto_mat f 1 (by decide))
  have h2 := (congrArg (upto 2046#32) h1).trans (upto_mat f 2 (by decide))
  have h3 := (congrArg (upto 2044#32) h2).trans (upto_mat f 4 (by decide))
  exact ⟨h1, h2, h3, (congrArg (upto 2040#32) h3).trans (upto_mat f 8 (by decide))⟩

/-- The pooled difference of a tile, from its window's sum. -/
theorem mean_mat (f : ℕ → ℕ → ℝ) (S : FVec Ideal S2048x128 .f32) (w : ℕ) (hw : w ∈ [2, 4, 8, 16])
    (hS : S = mat fun t j => win w (fun t => f t j) t) :
    truncf (F := Ideal) .bf16 (subf (divf S (count (BitVec.ofNat 32 w))) (mat f)) bitsLt_bf16_f32
      = mat (fun t j => mean w (fun t => f t j) t) := by
  rw [hS, div_count _ w hw, sub_mat]
  rfl

/-- The transposed mean of a tile, from its mirrored window's sum. -/
theorem meanT_mat (f : ℕ → ℕ → ℝ) (S : FVec Ideal S2048x128 .f32) (w : ℕ)
    (hS : S = mat fun t j => wup w (fun t => f t j / cnt w t) t) :
    truncf (F := Ideal) .bf16 (subf S (mat f)) bitsLt_bf16_f32
      = mat (fun t j => meanT w (fun t => f t j) t) := by
  rw [hS, sub_mat]
  rfl

/-- The forward region's pooled difference on a tile of each group. -/
theorem pre_tile (f : ℕ → ℕ → ℝ) :
    k0_pay3 (F := Ideal) (mat f) = (mat fun t j => mean 2 (fun t => f t j) t) ∧
    k0_pay7 (F := Ideal) rows (mat f) (k0_pay5 (mat f)) k0_pay6 = (mat fun t j => mean 4 (fun t => f t j) t) ∧
    k0_pay10 (F := Ideal) rows (mat f) (k0_pay9 rows (mat f)) = (mat fun t j => mean 8 (fun t => f t j) t) ∧
    k0_pay1 (F := Ideal) rows (mat f) (k0_pay12 rows (mat f)) (k0_pay13 rows) (k0_pay14 rows (mat f)) k0_pay15
      = mat fun t j => mean 16 (fun t => f t j) t :=
  ⟨mean_mat f _ 2 (by decide) (downs f).1, mean_mat f _ 4 (by decide) (downs f).2.1, mean_mat f _ 8 (by decide) (downs f).2.2.1,
    mean_mat f _ 16 (by decide) (downs f).2.2.2⟩

end Cert.PoolValue

end
-- ==== Proof.PoolArray.lean ====
/-
  The run of `PoolIdeal`, with every array's contents at the end: what the last segment of its main function leaves.
  The pooling: what the forward and the backward region's arrays hold, of real arrays.
-/
module

public import proofs.«01_k».proof.Proof.Gen.PoolIdeal.Frame
public import proofs.«01_k».proof.Proof.PoolTile

@[expose] public section

set_option maxRecDepth 16384

noncomputable section

namespace Cert.PoolValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PoolIdeal PoolIdeal.Gen

variable {F : FTy → Type} [FloatOps F]

local notation "𝕄" => MT nD τ sig Unit (Elt F) ℕ (UR sig nD τ) ℕ

set_option backward.isDefEq.respectTransparency.types false in
/-- Every run ends with every unscoped buffer at the contents of the last boundary, and every counter at zero. -/
theorem run (m : (ℓ : Loc nD τ sig) → Buf (Elt F) ℓ) (ρ : Dev nD → PrngReg) :
    θ_run defs (onTc (τ := τ) (main (F := F))) ⟨m, fun _ => 0, ρ⟩ (fun r =>
      (∀ c : Dev nD, ∀ b ∈ Pipeline.ucRefs τ sig, r.2.mem ((c.tc : Thread nD τ).1, b) = W3 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

end Cert.PoolValue

namespace Cert.PoolValue

open Idealize.ShloMosaic Idealize.ShloMosaic.TcCoe Idealize.SL.Sem
open Idealize.ShloMosaic.Pipeline (Dat)
open PoolIdeal PoolIdeal.Gen PoolReal Reals
open AttnRefRead (mat vec)

/-- The four groups' columns of a block of reals. -/
theorem ld_cols (Q : ℕ → ℕ → ℝ) (x : Vec Ideal S2048x512 .f32) (hx : x = mat Q) :
    @Eq (S2048x128.Idx → EReal) (View.ld x r0_0) (mat Q) ∧
    @Eq (S2048x128.Idx → EReal) (View.ld x r0_3) (mat fun t j => Q t (128 + j)) ∧
    @Eq (S2048x128.Idx → EReal) (View.ld x r0_6) (mat fun t j => Q t (256 + j)) ∧
    @Eq (S2048x128.Idx → EReal) (View.ld x r0_9) (mat fun t j => Q t (384 + j)) := by
  subst hx
  refine ⟨?_, ?_, ?_, ?_⟩ <;> funext y <;> pointwise [mat]

/-- The same of a block of casts. -/
theorem ld_cols' (Q : ℕ → ℕ → ℝ) (x : Vec Ideal S2048x512 .bf16) (hx : x = mat Q) :
    @Eq (S2048x128.Idx → EReal) (View.ld x r1_0) (mat Q) ∧
    @Eq (S2048x128.Idx → EReal) (View.ld x r1_3) (mat fun t j => Q t (128 + j)) ∧
    @Eq (S2048x128.Idx → EReal) (View.ld x r1_6) (mat fun t j => Q t (256 + j)) ∧
    @Eq (S2048x128.Idx → EReal) (View.ld x r1_9) (mat fun t j => Q t (384 + j)) := by
  subst hx
  refine ⟨?_, ?_, ?_, ?_⟩ <;> funext y <;> pointwise [mat]

/-- The four groups' weights. -/
theorem ld_w (p : ℕ → ℕ → ℕ → ℝ) (x : Vec Ideal S4x128x128 .bf16) (hx : x = ten p) :
    @Eq (S1x128x128.Idx → EReal) (View.ld x r0_1) (ten fun _ e k => p 0 e k) ∧
    @Eq (S1x128x128.Idx → EReal) (View.ld x r0_4) (ten fun _ e k => p 1 e k) ∧
    @Eq (S1x128x128.Idx → EReal) (View.ld x r0_7) (ten fun _ e k => p 2 e k) ∧
    @Eq (S1x128x128.Idx → EReal) (View.ld x r0_10) (ten fun _ e k => p 3 e k) := by
  subst hx
  refine ⟨?_, ?_, ?_, ?_⟩ <;> funext y <;> pointwise [ten]

/-- The four groups' scales. -/
theorem ld_s (s : ℕ → ℝ) (x : Vec Ideal S1x512 .f32) (hx : x = mat fun _ j => s j) :
    @Eq (S1x128.Idx → EReal) (View.ld x r0_2) (mat fun _ j => s j) ∧
    @Eq (S1x128.Idx → EReal) (View.ld x r0_5) (mat fun _ j => s (128 + j)) ∧
    @Eq (S1x128.Idx → EReal) (View.ld x r0_8) (mat fun _ j => s (256 + j)) ∧
    @Eq (S1x128.Idx → EReal) (View.ld x r0_11) (mat fun _ j => s (384 + j)) := by
  subst hx
  refine ⟨?_, ?_, ?_, ?_⟩ <;> funext y <;> pointwise [mat]

/-- An entry of group `g`'s tile is the entry of the whole array. -/
theorem at_group (X : ℕ → ℕ → ℕ → ℝ) (g : ℕ) (x : S2048x128.Idx) (y : S2048x512.Idx) (h0 : (y 0).val = (x 0).val)
    (h1 : (y 1).val = 128 * g + (x 1).val) :
    (mat (X g) : S2048x128.Idx → EReal) x = mat (fun t j => X (j / 128) t (j % 128)) y := by
  have hx : (x 1).val < 128 := (x 1).isLt
  unfold mat
  dsimp only
  rw [h0, h1, show (128 * g + (x 1).val) / 128 = g by omega, show (128 * g + (x 1).val) % 128 = (x 1).val by omega]

/-- The forward region's second array: the pooled differences. -/
theorem out_pre (Q : ℕ → ℕ → ℝ) (x0 : Vec Ideal S2048x512 .f32) (x1 : Vec Ideal S4x128x128 .bf16) (x2 : Vec Ideal S1x512 .f32)
    (hx : x0 = mat fun t j => Q t (1536 + j)) :
    out0_4 (F := Ideal) x0 x1 x2 = mat fun t j => pre Q (j / 128) t (j % 128) := by
  funext y
  obtain ⟨e0, e1, e2, e3⟩ := ld_cols _ x0 hx
  canon_tiles x h
  · refine Eq.trans ?_ (at_group (pre Q) 3 x y h0 h1)
    exact congrFun ((congrArg (fun z => k0_pay1 rows z (k0_pay12 rows z) (k0_pay13 rows) (k0_pay14 rows z) k0_pay15) e3).trans
      (pre_tile _).2.2.2) x
  · refine Eq.trans ?_ (at_group (pre Q) 2 x y h0 h1)
    exact congrFun ((congrArg (fun z => k0_pay10 rows z (k0_pay9 rows z)) e2).trans (pre_tile _).2.2.1) x
  · refine Eq.trans ?_ (at_group (pre Q) 1 x y h0 h1)
    exact congrFun ((congrArg (fun z => k0_pay7 rows z (k0_pay5 z) k0_pay6) e1).trans (pre_tile _).2.1) x
  · refine Eq.trans ?_ (at_group (pre Q) 0 x y h0 (by omega))
    refine (congrFun ((congrArg (fun z => k0_pay3 z) e0).trans (pre_tile _).1) x).trans ?_
    unfold pre
    simp only [Nat.mul_zero, Nat.zero_add, Nat.pow_one]

/-- A tile of differences by the group's weights and scale. -/
def mixT (A : FVec Ideal S2048x128 .bf16) (w : FVec Ideal S1x128x128 .bf16) (r : FVec Ideal S1x128 .f32) : FVec Ideal S2048x128 .bf16 :=
  truncf .bf16 (mulf (matmul dot_S2048x128_S128x128_S2048x128_1_0_0_1_n_n none A (shapeCast S128x128 w shapeCasts_S1x128x128_S128x128)
    (constant S2048x128 .f32 0x00000000#32)) (broadcastTo S2048x128 (shapeCast S1x128 r shapeCasts_S1x128_S1x128) broadcasts_S1x128_S2048x128))
    bitsLt_bf16_f32

theorem mixT_mat (A : ℕ → ℕ → ℝ) (w : ℕ → ℕ → ℝ) (r : ℕ → ℝ) :
    mixT (mat A) (ten fun _ e k => w e k) (mat fun _ k => r k) = mat fun t k => (∑ e : Fin 128, A t e.val * w e.val k) * r k := by
  funext y
  unfold mixT
  pointwise [mat, ten]
  simp only [← EReal.coe_mul, sum_coe]

/-- A tile of the cotangent by the group's scale. -/
def doutT (x : FVec Ideal S2048x128 .f32) (r : FVec Ideal S1x128 .f32) : FVec Ideal S2048x128 .bf16 :=
  truncf .bf16 (mulf x (broadcastTo S2048x128 (shapeCast S1x128 r shapeCasts_S1x128_S1x128) broadcasts_S1x128_S2048x128)) bitsLt_bf16_f32

theorem doutT_mat (D : ℕ → ℕ → ℝ) (r : ℕ → ℝ) : doutT (mat D) (mat fun _ k => r k) = mat fun t k => D t k * r k := by
  funext y
  unfold doutT
  pointwise [mat]
  simp only [← EReal.coe_mul]

/-- A tile of the scaled cotangent by the group's weights, transposed. -/
def dpreT (D : FVec Ideal S2048x128 .bf16) (w : FVec Ideal S1x128x128 .bf16) : FVec Ideal S2048x128 .f32 :=
  matmul dot_S2048x128_S128x128_S2048x128_1_1_0_0_n_n none D (shapeCast S128x128 w shapeCasts_S1x128x128_S128x128)
    (constant S2048x128 .f32 0x00000000#32)

theorem dpreT_mat (D : ℕ → ℕ → ℝ) (w : ℕ → ℕ → ℝ) :
    dpreT (mat D) (ten fun _ e k => w e k) = mat fun t e => ∑ k : Fin 128, D t k.val * w e k.val := by
  funext y
  unfold dpreT
  pointwise [mat, ten]
  simp only [← EReal.coe_mul, sum_coe]

/-- The group's weights' gradient. -/
def dwT (P D : FVec Ideal S2048x128 .bf16) : FVec Ideal S1x128x128 .f32 :=
  shapeCast S1x128x128 (matmul dot_S2048x128_S2048x128_S128x128_0_0_1_1_n_n none (shapeCast S2048x128 P shapeCasts_S2048x128_S2048x128) D
    (constant S128x128 .f32 0x00000000#32)) shapeCasts_S128x128_S1x128x128

theorem dwT_mat (P D : ℕ → ℕ → ℝ) :
    dwT (mat P) (mat D) = ten fun _ e k => ∑ t : Fin 2048, P t.val e * D t.val k := by
  funext y
  unfold dwT
  pointwise [mat, ten]
  simp only [← EReal.coe_mul, sum_coe]

/-- The group's scales' gradient. -/
def dscT (P : FVec Ideal S2048x128 .bf16) (x : FVec Ideal S2048x128 .f32) (w : FVec Ideal S1x128x128 .bf16) : FVec Ideal S1x128 .f32 :=
  shapeCast S1x128 (multiReduction .add [0] S128 (mulf x (matmul dot_S2048x128_S128x128_S2048x128_1_0_0_1_n_n none
    (shapeCast S2048x128 P shapeCasts_S2048x128_S2048x128) (shapeCast S128x128 w shapeCasts_S1x128x128_S128x128)
    (constant S2048x128 .f32 0x00000000#32))) 0x00000000#32 reduces_S2048x128_S128 (.inl rfl) rfl) shapeCasts_S128_S1x128

theorem dscT_mat (P D : ℕ → ℕ → ℝ) (w : ℕ → ℕ → ℝ) :
    dscT (mat P) (mat D) (ten fun _ e k => w e k) = mat fun _ k => ∑ t : Fin 2048, D t.val k * ∑ e : Fin 128, P t.val e.val * w e.val k := by
  funext y
  unfold dscT
  pointwise [mat, ten]
  simp only [← EReal.coe_mul, sum_coe]

/-- The gradient of the pooled values on a tile of each group, from the gradient of the pooled difference. -/
theorem du_tile (D : FVec Ideal S2048x128 .f32) (f : ℕ → ℕ → ℝ) (hD : D = mat f) :
    truncf (F := Ideal) .bf16 (subf (upto 2047#32 (divf D (count 2#32))) D) bitsLt_bf16_f32 = (mat fun t j => meanT 2 (fun t => f t j) t) ∧
    truncf (F := Ideal) .bf16 (subf (upto 2046#32 (upto 2047#32 (divf D (count 4#32)))) D) bitsLt_bf16_f32
      = (mat fun t j => meanT 4 (fun t => f t j) t) ∧
    truncf (F := Ideal) .bf16 (subf (upto 2044#32 (upto 2046#32 (upto 2047#32 (divf D (count 8#32))))) D) bitsLt_bf16_f32
      = (mat fun t j => meanT 8 (fun t => f t j) t) ∧
    truncf (F := Ideal) .bf16 (subf (upto 2040#32 (upto 2044#32 (upto 2046#32 (upto 2047#32 (divf D (count 16#32)))))) D) bitsLt_bf16_f32
      = mat fun t j => meanT 16 (fun t => f t j) t := by
  subst hD
  refine ⟨meanT_mat f _ 2 ?_, meanT_mat f _ 4 ?_, meanT_mat f _ 8 ?_, meanT_mat f _ 16 ?_⟩
  · exact (congrArg _ (div_count f 2 (by decide))).trans (ups _).1
  · exact (congrArg (fun z => upto 2046#32 (upto 2047#32 z)) (div_count f 4 (by decide))).trans (ups _).2.1
  · exact (congrArg (fun z => upto 2044#32 (upto 2046#32 (upto 2047#32 z))) (div_count f 8 (by decide))).trans (ups _).2.2.1
  · exact (congrArg (fun z => upto 2040#32 (upto 2044#32 (upto 2046#32 (upto 2047#32 z)))) (div_count f 16 (by decide))).trans (ups _).2.2.2

end Cert.PoolValue

end
-- ==== Proof.PoolOut.lean ====
/-
  The pooling kernel's five arrays after the run, of real arrays.
-/
module

public import proofs.«01_k».proof.Proof.PoolArray

@[expose] public section

set_option maxRecDepth 16384

noncomputable section

namespace Cert.PoolValue

open Idealize.ShloMosaic Idealize.ShloMosaic.TcCoe Idealize.SL.Sem
open Idealize.ShloMosaic.Pipeline (Dat)
open PoolIdeal PoolIdeal.Gen PoolReal Reals
open AttnRefRead (mat vec)

/-- The forward region's first array: the pooled differences by the weights and the scale. -/
theorem out_y (Q : ℕ → ℕ → ℝ) (p : ℕ → ℕ → ℕ → ℝ) (s : ℕ → ℝ) (x0 : Vec Ideal S2048x512 .f32) (x1 : Vec Ideal S4x128x128 .bf16)
    (x2 : Vec Ideal S1x512 .f32) (hx : x0 = mat fun t j => Q t (1536 + j)) (hw : x1 = ten p) (hs : x2 = mat fun _ j => s j) :
    out0_3 (F := Ideal) x0 x1 x2 = mat fun t j => mix Q p (j / 128) t (j % 128) * s (128 * (j / 128) + j % 128) := by
  funext y
  obtain ⟨e0, e1, e2, e3⟩ := ld_cols _ x0 hx
  obtain ⟨w0, w1, w2, w3⟩ := ld_w p x1 hw
  obtain ⟨s0, s1, s2, s3⟩ := ld_s s x2 hs
  obtain ⟨p0, -⟩ := pre_tile fun t j => Q t (1536 + j)
  obtain ⟨-, p1, -⟩ := pre_tile fun t j => Q t (1536 + (128 + j))
  obtain ⟨-, -, p2, -⟩ := pre_tile fun t j => Q t (1536 + (256 + j))
  obtain ⟨-, -, -, p3⟩ := pre_tile fun t j => Q t (1536 + (384 + j))
  canon_tiles x h
  · refine Eq.trans ?_ (at_group (fun g t k => mix Q p g t k * s (128 * g + k)) 3 x y h0 h1)
    refine (congrFun (congr (congrArg₂ mixT ((congrArg (fun z => k0_pay1 rows z (k0_pay12 rows z) (k0_pay13 rows) (k0_pay14 rows z) k0_pay15) e3).trans p3)
      w3) s3) x).trans ?_
    exact congrFun (mixT_mat _ _ _) x
  · refine Eq.trans ?_ (at_group (fun g t k => mix Q p g t k * s (128 * g + k)) 2 x y h0 h1)
    refine (congrFun (congr (congrArg₂ mixT ((congrArg (fun z => k0_pay10 rows z (k0_pay9 rows z)) e2).trans p2) w2) s2) x).trans ?_
    exact congrFun (mixT_mat _ _ _) x
  · refine Eq.trans ?_ (at_group (fun g t k => mix Q p g t k * s (128 * g + k)) 1 x y h0 h1)
    refine (congrFun (congr (congrArg₂ mixT ((congrArg (fun z => k0_pay7 rows z (k0_pay5 z) k0_pay6) e1).trans p1) w1) s1) x).trans ?_
    exact congrFun (mixT_mat _ _ _) x
  · refine Eq.trans ?_ (at_group (fun g t k => mix Q p g t k * s (128 * g + k)) 0 x y h0 (by omega))
    refine (congrFun (congr (congrArg₂ mixT ((congrArg (fun z => k0_pay3 z) e0).trans p0) w0) s0) x).trans ?_
    rw [mixT_mat]
    unfold mix pre
    simp only [Nat.mul_zero, Nat.zero_add, Nat.pow_one]

section Back
variable (q : ℕ → ℕ → ℝ) (p : ℕ → ℕ → ℕ → ℝ) (s : ℕ → ℝ) (M : ℕ → ℕ → ℝ)
variable (x0 : Vec Ideal S2048x512 .f32) (x1 : Vec Ideal S2048x512 .bf16) (x2 : Vec Ideal S4x128x128 .bf16) (x3 : Vec Ideal S1x512 .f32)
  (hx : x0 = mat fun t j => M t (1024 + j)) (hp : x1 = mat fun t j => pre q (j / 128) t (j % 128))
  (hw : x2 = ten p) (hs : x3 = mat fun _ j => s j)

include hx hs in
/-- The scaled cotangent's tiles. -/
theorem dout_tiles :
    doutT (View.ld x0 r1_0) (View.ld x3 r1_2) = (mat (dmix s M 0)) ∧ doutT (View.ld x0 r1_3) (View.ld x3 r1_5) = (mat (dmix s M 1)) ∧
    doutT (View.ld x0 r1_6) (View.ld x3 r1_8) = (mat (dmix s M 2)) ∧ doutT (View.ld x0 r1_9) (View.ld x3 r1_11) = mat (dmix s M 3) := by
  obtain ⟨e0, e1, e2, e3⟩ := ld_cols _ x0 hx
  obtain ⟨s0, s1, s2, s3⟩ := ld_s s x3 hs
  refine ⟨(congrArg₂ doutT e0 s0).trans ((doutT_mat _ _).trans ?_), (congrArg₂ doutT e1 s1).trans (doutT_mat _ _),
    (congrArg₂ doutT e2 s2).trans (doutT_mat _ _), (congrArg₂ doutT e3 s3).trans (doutT_mat _ _)⟩
  unfold dmix
  simp only [Nat.mul_zero, Nat.zero_add]

include hp in
/-- The pooled differences' tiles. -/
theorem pre_tiles :
    @Eq (S2048x128.Idx → EReal) (View.ld x1 r1_0) (mat (pre q 0)) ∧ @Eq (S2048x128.Idx → EReal) (View.ld x1 r1_3) (mat (pre q 1)) ∧
    @Eq (S2048x128.Idx → EReal) (View.ld x1 r1_6) (mat (pre q 2)) ∧ @Eq (S2048x128.Idx → EReal) (View.ld x1 r1_9) (mat (pre q 3)) := by
  obtain ⟨e0, e1, e2, e3⟩ := ld_cols' _ x1 hp
  refine ⟨e0.trans ?_, e1.trans ?_, e2.trans ?_, e3.trans ?_⟩
  all_goals
    funext y
    have hy : (y 1).val < 128 := (y 1).isLt
    unfold mat
    dsimp only
    congr 2 <;> omega

include hx hw hs in
/-- The tiles of the pooled differences' gradient. -/
theorem dpre_tiles :
    dpreT (doutT (View.ld x0 r1_0) (View.ld x3 r1_2)) (View.ld x2 r1_1) = (mat (dpre p s M 0)) ∧
    dpreT (doutT (View.ld x0 r1_3) (View.ld x3 r1_5)) (View.ld x2 r1_4) = (mat (dpre p s M 1)) ∧
    dpreT (doutT (View.ld x0 r1_6) (View.ld x3 r1_8)) (View.ld x2 r1_7) = (mat (dpre p s M 2)) ∧
    dpreT (doutT (View.ld x0 r1_9) (View.ld x3 r1_11)) (View.ld x2 r1_10) = mat (dpre p s M 3) := by
  obtain ⟨d0, d1, d2, d3⟩ := dout_tiles s M x0 x3 hx hs
  obtain ⟨w0, w1, w2, w3⟩ := ld_w p x2 hw
  exact ⟨(congrArg₂ dpreT d0 w0).trans (dpreT_mat _ _), (congrArg₂ dpreT d1 w1).trans (dpreT_mat _ _),
    (congrArg₂ dpreT d2 w2).trans (dpreT_mat _ _), (congrArg₂ dpreT d3 w3).trans (dpreT_mat _ _)⟩

include hx hw hs in
/-- The backward region's first array: the pooled values' gradient. -/
theorem out_du : out1_4 (F := Ideal) x0 x1 x2 x3 = mat fun t j => du p s M (j / 128) t (j % 128) := by
  funext y
  obtain ⟨d0, d1, d2, d3⟩ := dpre_tiles p s M x0 x2 x3 hx hw hs
  canon_tiles x h
  · exact (congrFun (du_tile _ _ d3).2.2.2 x).trans (at_group (du p s M) 3 x y h0 h1)
  · exact (congrFun (du_tile _ _ d2).2.2.1 x).trans (at_group (du p s M) 2 x y h0 h1)
  · exact (congrFun (du_tile _ _ d1).2.1 x).trans (at_group (du p s M) 1 x y h0 h1)
  · exact (congrFun (du_tile _ _ d0).1 x).trans (at_group (du p s M) 0 x y h0 (by omega))

include hx hp hs in
/-- The backward region's second array: the weights' gradient. -/
theorem out_dw : out1_5 (F := Ideal) x0 x1 x2 x3 = ten (dw q s M) := by
  funext y
  obtain ⟨d0, d1, d2, d3⟩ := dout_tiles s M x0 x3 hx hs
  obtain ⟨p0, p1, p2, p3⟩ := pre_tiles q x1 hp
  have fin : ∀ (g : ℕ) (x : S1x128x128.Idx), (y 0).val = g + (x 0).val → (y 1).val = (x 1).val → (y 2).val = (x 2).val →
      dwT (mat (pre q g)) (mat (dmix s M g)) x = ten (dw q s M) y := by
    intro g x h0 h1 h2
    have : (x 0).val < 1 := (x 0).isLt
    rw [dwT_mat]
    unfold ten dw
    rw [h0, h1, h2, show g + (x 0).val = g by omega]
  canon_tiles x h
  · exact (congrFun (congrArg₂ dwT p3 d3) x).trans (fin 3 x h0 h1 h2)
  · exact (congrFun (congrArg₂ dwT p2 d2) x).trans (fin 2 x h0 h1 h2)
  · exact (congrFun (congrArg₂ dwT p1 d1) x).trans (fin 1 x h0 h1 h2)
  · exact (congrFun (congrArg₂ dwT p0 d0) x).trans (fin 0 x (by omega) h1 h2)

include hx hp hw in
/-- The backward region's third array: the scale's gradient. -/
theorem out_dsc : out1_6 (F := Ideal) x0 x1 x2 x3 = mat fun _ j => dsc q p M (j / 128) (j % 128) := by
  funext y
  obtain ⟨e0, e1, e2, e3⟩ := ld_cols _ x0 hx
  obtain ⟨p0, p1, p2, p3⟩ := pre_tiles q x1 hp
  obtain ⟨w0, w1, w2, w3⟩ := ld_w p x2 hw
  have fin : ∀ (g : ℕ) (D : ℕ → ℕ → ℝ) (x : S1x128.Idx), (∀ t k, D t k = M t (1024 + (128 * g + k))) → (y 1).val = 128 * g + (x 1).val →
      dscT (mat (pre q g)) (mat D) (ten fun _ e k => p g e k) x = mat (fun _ j => dsc q p M (j / 128) (j % 128)) y := by
    intro g D x hD h1
    have : (x 1).val < 128 := (x 1).isLt
    rw [dscT_mat]
    unfold mat dsc mix
    dsimp only
    rw [h1, show (128 * g + (x 1).val) / 128 = g by omega, show (128 * g + (x 1).val) % 128 = (x 1).val by omega]
    simp only [hD]
  canon_tiles x h
  · exact (congrFun (congr (congrArg₂ dscT p3 e3) w3) x).trans (fin 3 _ x (fun _ _ => rfl) h1)
  · exact (congrFun (congr (congrArg₂ dscT p2 e2) w2) x).trans (fin 2 _ x (fun _ _ => rfl) h1)
  · exact (congrFun (congr (congrArg₂ dscT p1 e1) w1) x).trans (fin 1 _ x (fun _ _ => rfl) h1)
  · exact (congrFun (congr (congrArg₂ dscT p0 e0) w0) x).trans (fin 0 _ x (fun _ _ => by rw [Nat.mul_zero, Nat.zero_add]) (by omega))

end Back

/-- Which block of each array the forward region works on. -/
theorem idx0 : ∀ t : Fin cfg0.N, win0_0.index t = ![0, 3] ∧ win0_1.index t = ![0, 0, 0] ∧ win0_2.index t = ![0, 0]
    ∧ win0_3.index t = ![0, 0] ∧ win0_4.index t = ![0, 0] :=
  (by decide +kernel : ∀ t : Fin grid0.N, _)

/-- Which block of each array the backward region works on. -/
theorem idx1 : ∀ t : Fin cfg1.N, win1_0.index t = ![0, 2] ∧ win1_1.index t = ![0, 0] ∧ win1_2.index t = ![0, 0, 0]
    ∧ win1_3.index t = ![0, 0] ∧ win1_4.index t = ![0, 0] ∧ win1_5.index t = ![0, 0, 0] ∧ win1_6.index t = ![0, 0] :=
  (by decide +kernel : ∀ t : Fin grid1.N, _)

section Arrays
variable (V : (c : Dev nD) → (b : Ref sig .tc) → Buf (Elt Ideal) ((c : Thread nD τ).loc b))
variable (q : ℕ → ℕ → ℝ) (p : ℕ → ℕ → ℕ → ℝ) (s : ℕ → ℝ) (M : ℕ → ℕ → ℝ)

/-- The forward region's blocks of real arrays. -/
theorem blocks0 (c : Dev nD) (t : Fin cfg0.N) (hq : V c main_arg0 = mat q) (hw : V c main_v0 = ten p) (hs : V c main_v1 = mat fun _ j => s j) :
    @Eq (S2048x512.Idx → EReal) (iblk0 V c 0 t) (mat fun t j => q t (1536 + j)) ∧ @Eq (S4x128x128.Idx → EReal) (iblk0 V c 1 t) (ten p)
    ∧ @Eq (S1x512.Idx → EReal) (iblk0 V c 2 t) (mat fun _ j => s j) := by
  refine ⟨?_, ?_, ?_⟩ <;> funext y <;> unfold iblk0
  · show (V c main_arg0) _ = _
    rw [hq]
    blk_simp [idx0 t, mat]
  · show (V c main_v0) _ = _
    rw [hw]
    blk_simp [idx0 t, ten]
  · show (V c main_v1) _ = _
    rw [hs]
    blk_simp [idx0 t, mat]

/-- The backward region's blocks of real arrays. -/
theorem blocks1 (c : Dev nD) (t : Fin cfg1.N) (hM : V c main_arg3 = mat M)
    (hp : V c main_v2_1 = mat fun t j => pre q (j / 128) t (j % 128)) (hw : V c main_v0 = ten p) (hs : V c main_v1 = mat fun _ j => s j) :
    @Eq (S2048x512.Idx → EReal) (iblk1 V c 0 t) (mat fun t j => M t (1024 + j))
    ∧ @Eq (S2048x512.Idx → EReal) (iblk1 V c 1 t) (mat fun t j => pre q (j / 128) t (j % 128))
    ∧ @Eq (S4x128x128.Idx → EReal) (iblk1 V c 2 t) (ten p) ∧ @Eq (S1x512.Idx → EReal) (iblk1 V c 3 t) (mat fun _ j => s j) := by
  refine ⟨?_, ?_, ?_, ?_⟩ <;> funext y <;> unfold iblk1
  · show (V c main_arg3) _ = _
    rw [hM]
    blk_simp [idx1 t, mat]
  · show (V c main_v2_1) _ = _
    rw [hp]
    blk_simp [idx1 t, mat]
  · show (V c main_v0) _ = _
    rw [hw]
    blk_simp [idx1 t, ten]
  · show (V c main_v1) _ = _
    rw [hs]
    blk_simp [idx1 t, mat]

/-- The pooled output's array. -/
theorem arr_y (c : Dev nD) (hq : V c main_arg0 = mat q) (hw : V c main_v0 = ten p) (hs : V c main_v1 = mat fun _ j => s j) :
    (dat0 V c).arrAt 3 cfg0.N = mat fun t j => mix q p (j / 128) t (j % 128) * s (128 * (j / 128) + j % 128) := by
  refine (dat0 V c).arrAt_eq_of_covers 3 _ (by decide +kernel) fun t _ y => ?_
  obtain ⟨b0, b1, b2⟩ := blocks0 V q p s c t hq hw hs
  blk_simp
  rw [after0_3, out_y q p s _ _ _ b0 b1 b2]
  blk_simp [idx0 t, mat]

/-- The pooled differences' array. -/
theorem arr_pre (c : Dev nD) (hq : V c main_arg0 = mat q) (hw : V c main_v0 = ten p) (hs : V c main_v1 = mat fun _ j => s j) :
    (dat0 V c).arrAt 4 cfg0.N = mat fun t j => pre q (j / 128) t (j % 128) := by
  refine (dat0 V c).arrAt_eq_of_covers 4 _ (by decide +kernel) fun t _ y => ?_
  obtain ⟨b0, b1, b2⟩ := blocks0 V q p s c t hq hw hs
  blk_simp
  rw [after0_4, out_pre q _ _ _ b0]
  blk_simp [idx0 t, mat]

variable (c : Dev nD) (hM : V c main_arg3 = mat M) (hp : V c main_v2_1 = mat fun t j => pre q (j / 128) t (j % 128))
  (hw : V c main_v0 = ten p) (hs : V c main_v1 = mat fun _ j => s j)

include hM hp hw hs

/-- The pooled values' gradient's array. -/
theorem arr_du : (dat1 V c).arrAt 4 cfg1.N = mat fun t j => du p s M (j / 128) t (j % 128) := by
  refine (dat1 V c).arrAt_eq_of_covers 4 _ (by decide +kernel) fun t _ y => ?_
  obtain ⟨b0, b1, b2, b3⟩ := blocks1 V q p s M c t hM hp hw hs
  blk_simp
  rw [after1_4, out_du p s M _ _ _ _ b0 b2 b3]
  blk_simp [idx1 t, mat]

/-- The weights' gradient's array. -/
theorem arr_dw : (dat1 V c).arrAt 5 cfg1.N = ten (dw q s M) := by
  refine (dat1 V c).arrAt_eq_of_covers 5 _ (by decide +kernel) fun t _ y => ?_
  obtain ⟨b0, b1, b2, b3⟩ := blocks1 V q p s M c t hM hp hw hs
  blk_simp
  rw [after1_5, out_dw q s M _ _ _ _ b0 b1 b3]
  blk_simp [idx1 t, ten]

/-- The scale's gradient's array. -/
theorem arr_dsc : (dat1 V c).arrAt 6 cfg1.N = mat fun _ j => dsc q p M (j / 128) (j % 128) := by
  refine (dat1 V c).arrAt_eq_of_covers 6 _ (by decide +kernel) fun t _ y => ?_
  obtain ⟨b0, b1, b2, b3⟩ := blocks1 V q p s M c t hM hp hw hs
  blk_simp
  rw [after1_6, out_dsc q p M _ _ _ _ b0 b1 b2]
  blk_simp [idx1 t, mat]

end Arrays

end Cert.PoolValue

end
-- ==== Proof.PoolRef.lean ====
/-
  What the reference of the pooling computes from real arrays, up to the cotangents of the pooled differences: for each
  of the four groups its pooled difference, its product with the group's weights, and their cotangents.
-/
module

public import proofs.«01_k».proof.Proof.PoolWindow
public import Idealize.ShloMosaic.Lib.Pointwise
public import Idealize.ShloMosaic.Lib.TwoAxisContraction

@[expose] public section

set_option maxRecDepth 16384

noncomputable section

namespace Cert.PoolRefRead

open PoolRefIdeal PoolRefIdeal.Gen PoolRefIdeal.Read
open Idealize.ShloMosaic Idealize.ShloMosaic.TcCoe PoolReal Reals
open AttnRefRead (mat vec zero_f32 one_f32)

variable (q : ℕ → ℕ → ℝ) (p : ℕ → ℕ → ℕ → ℝ) (s : ℕ → ℝ) (M : ℕ → ℕ → ℝ)

/-- A window's mean less the value, as the reference writes it. -/
theorem mean_seq (w : ℕ) (hw : 0 < w) (f : ℕ → ℕ → ℝ) (C D : FVec Ideal S1x2048x128 .f32)
    (hC : C = seq fun t j => cum (fun t => f t j) t) (hD : D = seq fun t _ => cnt w t)
    (z : FVec Ideal ⟨3, ![1, w, 128]⟩ .f32) (hz : ∀ i, z i = (((0 : ℝ) : EReal) : EReal))
    (hc : Shape.Concatenates [⟨3, ![1, w, 128]⟩, S1x2048x128] ⟨3, ![1, 2048 + w, 128]⟩ 1)
    (hs : (⟨3, ![1, 2048 + w, 128]⟩ : Shape).Slices ![0, 0, 0] S1x2048x128) :
    subf (Host.divf (subf C (extractStridedSlice S1x2048x128 ![0, 0, 0]
      (concatenate ⟨3, ![1, 2048 + w, 128]⟩ 1 [⟨⟨3, ![1, w, 128]⟩, z⟩, ⟨S1x2048x128, C⟩] hc) hs)) D) (seq f : FVec Ideal S1x2048x128 .f32)
      = seq fun t j => mean w (fun t => f t j) t := by
  subst hC hD
  rw [before_seq w _ z hz hc hs]
  funext i
  show Ideal.div (((_ : ℝ) : EReal) - ((_ : ℝ) : EReal)) ((_ : ℝ) : EReal) - ((_ : ℝ) : EReal) = _
  rw [← EReal.coe_sub, div_coe_coe _ (cnt_ne w _ hw), ← EReal.coe_sub, cum_sub w (fun t => f t (i 2).val)]
  rfl

/-- The transposed mean less the value, as the reference writes it. -/
theorem meanT_seq (w : ℕ) (hw : 0 < w) (f : ℕ → ℕ → ℝ) (D : FVec Ideal S1x2048x128 .f32) (hD : D = seq fun t _ => cnt w t)
    (z init : FVec Ideal S_ .f32) (hz : ∀ i, z i = (((0 : ℝ) : EReal) : EReal)) (hi : ∀ i, init i = (((0 : ℝ) : EReal) : EReal))
    (hp : S1x2048x128.Pads ![0, 0, 0] ![0, w, 0] ![0, 0, 0] ⟨3, ![1, 2048 + w, 128]⟩) (hu hu' : 0 < S_.numel)
    (hs : (⟨3, ![1, 2048 + w, 128]⟩ : Shape).Slices ![0, w, 0] S1x2048x128)
    (h : S1x2048x128.ReduceWindows ![1, 2048, 1] ![1, 1, 1] ![0, 0, 0] ![0, 2047, 0] S1x2048x128) :
    addf (Host.negf (seq f : FVec Ideal S1x2048x128 .f32))
      (Host.reduceWindowAdd (F := Ideal) (φ := .f32) ![1, 2048, 1] ![1, 1, 1] ![0, 0, 0] ![0, 2047, 0]
        (addf (Host.divf (seq f : FVec Ideal S1x2048x128 .f32) D) (extractStridedSlice S1x2048x128 ![0, w, 0]
          (pad ⟨3, ![1, 2048 + w, 128]⟩ ![0, 0, 0] ![0, w, 0] ![0, 0, 0] (Host.negf (Host.divf (seq f : FVec Ideal S1x2048x128 .f32) D)) z hp hu) hs))
        init h hu')
      = seq fun t j => meanT w (fun t => f t j) t := by
  subst hD
  have e : Host.divf (F := Ideal) (φ := .f32) (seq f : FVec Ideal S1x2048x128 .f32) (seq fun t _ => cnt w t : FVec Ideal S1x2048x128 .f32)
      = (seq fun t j => f t j / cnt w t : FVec Ideal S1x2048x128 .f32) := funext fun i => div_coe_coe _ (cnt_ne w _ hw)
  have e' : Host.negf (F := Ideal) (φ := .f32) (seq fun t j => f t j / cnt w t : FVec Ideal S1x2048x128 .f32)
      = (seq fun t j => - (f t j / cnt w t) : FVec Ideal S1x2048x128 .f32) :=
    funext fun i => (EReal.coe_neg _).symm
  rw [e, e', after_seq w _ z hz hp hu hs]
  have e2 : addf (F := Ideal) (φ := .f32) (seq fun t j => f t j / cnt w t : FVec Ideal S1x2048x128 .f32)
      (seq fun t j => if t + w < 2048 then - (f (t + w) j / cnt w (t + w)) else 0 : FVec Ideal S1x2048x128 .f32)
      = (seq fun t j => f t j / cnt w t - if t + w < 2048 then f (t + w) j / cnt w (t + w) else 0 : FVec Ideal S1x2048x128 .f32) := by
    funext i
    refine (EReal.coe_add _ _).symm.trans (congrArg (fun r : ℝ => (r : EReal)) ?_)
    dsimp only
    split <;> ring
  rw [e2, revsum_seq _ init hi h hu']
  funext i
  show -((_ : ℝ) : EReal) + ((_ : ℝ) : EReal) = _
  rw [← EReal.coe_neg, ← EReal.coe_add]
  refine congrArg (fun r : ℝ => (r : EReal)) ?_
  dsimp only
  rw [cdn_sub w (fun t => f t (i 2).val / cnt w t) _ (i 1).isLt, neg_add_eq_sub]
  rfl

/-- A product contracted over the sequence. -/
theorem over_rows (a b : ℕ → ℕ → ℝ) :
    (Host.dotGeneral (F := Ideal) (φ₁ := .f32) (φ₂ := .f32) dot_S1x2048x128_S1x2048x128_S128x128_01_01_2_2_n_n none (seq a : FVec Ideal S1x2048x128 .f32) (seq b : FVec Ideal S1x2048x128 .f32) : FVec Ideal S128x128 .f32)
      = mat fun i j => ∑ t : Fin 2048, a t.val i * b t.val j := by
  funext i
  simp only [Host.dotGeneral]
  rw [Ideal.dotGeneral_apply, ValueIdx.sum_contr2 dot_S1x2048x128_S1x2048x128_S128x128_01_01_2_2_n_n 1 2048 rfl rfl rfl, Fin.sum_univ_one]
  unfold mat
  rw [← sum_coe]
  refine Finset.sum_congr rfl fun t _ => ?_
  exact (EReal.coe_mul _ _).symm

/-! ## What the groups pool -/

/-- The four groups' columns. -/
theorem columns :
    val_main_v6 (F := Ideal) (mat q) = (seq fun t e => q t (1536 + (128 * 0 + e))) ∧
    val_main_v23 (F := Ideal) (mat q) = (seq fun t e => q t (1536 + (128 * 1 + e))) ∧
    val_main_v40 (F := Ideal) (mat q) = (seq fun t e => q t (1536 + (128 * 2 + e))) ∧
    val_main_v57 (F := Ideal) (mat q) = (seq fun t e => q t (1536 + (128 * 3 + e))) := by
  refine ⟨funext fun i => ?_, funext fun i => ?_, funext fun i => ?_, funext fun i => ?_⟩
  · rw [val_main_v6_apply, val_main_v1_apply, val_main_v0_apply]; unfold mat seq; congr 2; dsimp only; omega
  · rw [val_main_v23_apply, val_main_v1_apply, val_main_v0_apply]; rfl
  · rw [val_main_v40_apply, val_main_v1_apply, val_main_v0_apply]; rfl
  · rw [val_main_v57_apply, val_main_v1_apply, val_main_v0_apply]; rfl

theorem two_f32 : (FloatOps.ofBits .f32 0x40000000#32 : Ideal .f32) = (((2 : ℕ) : ℝ) : EReal) := by
  show Ideal.ofBits .f32 0x40000000#32 = _
  simp [Ideal.ofBits, Ideal.ieee, -EReal.coe_mul]; norm_num
theorem four_f32 : (FloatOps.ofBits .f32 0x40800000#32 : Ideal .f32) = (((4 : ℕ) : ℝ) : EReal) := by
  show Ideal.ofBits .f32 0x40800000#32 = _
  simp [Ideal.ofBits, Ideal.ieee, -EReal.coe_mul]; norm_num
theorem eight_f32 : (FloatOps.ofBits .f32 0x41000000#32 : Ideal .f32) = (((8 : ℕ) : ℝ) : EReal) := by
  show Ideal.ofBits .f32 0x41000000#32 = _
  simp [Ideal.ofBits, Ideal.ieee, -EReal.coe_mul]; norm_num
theorem sixteen_f32 : (FloatOps.ofBits .f32 0x41800000#32 : Ideal .f32) = (((16 : ℕ) : ℝ) : EReal) := by
  show Ideal.ofBits .f32 0x41800000#32 = _
  simp [Ideal.ofBits, Ideal.ieee, -EReal.coe_mul]; norm_num

/-- The rows' numbers, as floats. -/
theorem number (i : S1x2048x1.Idx) : val_main_v5 (F := Ideal) i = (((i 1).val : ℝ) : EReal) := by
  rw [val_main_v5_apply]
  have h : ∀ n : Fin 2048, (BitVec.ofNat 32 n.val).toInt = (n.val : ℤ) := by decide +kernel
  show (((BitVec.ofNat 32 (i 1).val).toInt : ℝ) : EReal) = _
  rw [h ⟨(i 1).val, (i 1).isLt⟩]
  push_cast
  rfl

/-- The count of a window, in floats. -/
theorem count_min (t w : ℕ) : min (((t : ℝ) : EReal) + ((1 : ℝ) : EReal)) (((w : ℕ) : ℝ) : EReal) = ((cnt w t : ℝ) : EReal) := by
  unfold cnt
  rw [← EReal.coe_add, ← EReal.coe_strictMono.monotone.map_min, Nat.cast_min]
  push_cast
  rfl

/-- The four windows' counts. -/
theorem counts :
    val_main_v17 (F := Ideal) = (seq fun t _ => cnt 2 t) ∧ val_main_v34 (F := Ideal) = (seq fun t _ => cnt 4 t) ∧
    val_main_v51 (F := Ideal) = (seq fun t _ => cnt 8 t) ∧ val_main_v68 (F := Ideal) = (seq fun t _ => cnt 16 t) := by
  refine ⟨funext fun i => ?_, funext fun i => ?_, funext fun i => ?_, funext fun i => ?_⟩
  · rw [val_main_v17_apply, val_main_v16_apply, val_main_v14_apply, val_main_v13_apply, val_main_v15_apply, number, val_main_cst_1_apply, val_main_cst_2_apply,
      one_f32, two_f32]
    exact count_min _ 2
  · rw [val_main_v34_apply, val_main_v33_apply, val_main_v31_apply, val_main_v30_apply, val_main_v32_apply, number, val_main_cst_5_apply, val_main_cst_6_apply,
      one_f32, four_f32]
    exact count_min _ 4
  · rw [val_main_v51_apply, val_main_v50_apply, val_main_v48_apply, val_main_v47_apply, val_main_v49_apply, number, val_main_cst_9_apply, val_main_cst_10_apply,
      one_f32, eight_f32]
    exact count_min _ 8
  · rw [val_main_v68_apply, val_main_v67_apply, val_main_v65_apply, val_main_v64_apply, val_main_v66_apply, number, val_main_cst_13_apply, val_main_cst_14_apply,
      one_f32, sixteen_f32]
    exact count_min _ 16

/-- The four groups' pooled differences. -/
theorem pooled :
    val_main_v19 (F := Ideal) (mat q) = (seq fun t e => pre q 0 t e) ∧ val_main_v36 (F := Ideal) (mat q) = (seq fun t e => pre q 1 t e) ∧
    val_main_v53 (F := Ideal) (mat q) = (seq fun t e => pre q 2 t e) ∧ val_main_v70 (F := Ideal) (mat q) = (seq fun t e => pre q 3 t e) := by
  obtain ⟨c0, c1, c2, c3⟩ := columns q
  obtain ⟨d0, d1, d2, d3⟩ := counts
  refine ⟨?_, ?_, ?_, ?_⟩
  · unfold val_main_v19 val_main_v18 val_main_v12 val_main_v11 val_main_v9 val_main_v7
    rw [c0]
    exact mean_seq 2 (by decide) (fun t e => q t (1536 + (128 * 0 + e))) _ _ (cumsum_seq _ _ (fun _ => zero_f32) _ _) d0 _ (fun _ => zero_f32) _ _
  · unfold val_main_v36 val_main_v35 val_main_v29 val_main_v28 val_main_v26 val_main_v24
    rw [c1]
    exact mean_seq 4 (by decide) (fun t e => q t (1536 + (128 * 1 + e))) _ _ (cumsum_seq _ _ (fun _ => zero_f32) _ _) d1 _ (fun _ => zero_f32) _ _
  · unfold val_main_v53 val_main_v52 val_main_v46 val_main_v45 val_main_v43 val_main_v41
    rw [c2]
    exact mean_seq 8 (by decide) (fun t e => q t (1536 + (128 * 2 + e))) _ _ (cumsum_seq _ _ (fun _ => zero_f32) _ _) d2 _ (fun _ => zero_f32) _ _
  · unfold val_main_v70 val_main_v69 val_main_v63 val_main_v62 val_main_v60 val_main_v58
    rw [c3]
    exact mean_seq 16 (by decide) (fun t e => q t (1536 + (128 * 3 + e))) _ _ (cumsum_seq _ _ (fun _ => zero_f32) _ _) d3 _ (fun _ => zero_f32) _ _

/-- The four groups' weights. -/
theorem weights :
    val_main_v21 (F := Ideal) (ten p) = (mat fun e k => p 0 e k) ∧ val_main_v38 (F := Ideal) (ten p) = (mat fun e k => p 1 e k) ∧
    val_main_v55 (F := Ideal) (ten p) = (mat fun e k => p 2 e k) ∧ val_main_v72 (F := Ideal) (ten p) = (mat fun e k => p 3 e k) := by
  refine ⟨funext fun i => ?_, funext fun i => ?_, funext fun i => ?_, funext fun i => ?_⟩ <;>
    have i0 : (i 0).val < 128 := (i 0).isLt <;> have i1 : (i 1).val < 128 := (i 1).isLt
  · rw [val_main_v21_apply, val_main_v20_apply]; unfold ten mat; congr 2 <;> dsimp only <;> omega
  · rw [val_main_v38_apply, val_main_v37_apply]; unfold ten mat; congr 2 <;> dsimp only <;> omega
  · rw [val_main_v55_apply, val_main_v54_apply]; unfold ten mat; congr 2 <;> dsimp only <;> omega
  · rw [val_main_v72_apply, val_main_v71_apply]; unfold ten mat; congr 2 <;> dsimp only <;> omega

/-- A sum of products of reals. -/
theorem sum_mul_coe {n : ℕ} (a b : Fin n → ℝ) : ∑ k, ((a k : ℝ) : EReal) * ((b k : ℝ) : EReal) = ((∑ k, a k * b k : ℝ) : EReal) := by
  simp only [← EReal.coe_mul, sum_coe]

/-- The four groups' products. -/
theorem mixed :
    val_main_v22 (F := Ideal) (mat q) (ten p) = (seq fun t k => mix q p 0 t k) ∧ val_main_v39 (F := Ideal) (mat q) (ten p) = (seq fun t k => mix q p 1 t k) ∧
    val_main_v56 (F := Ideal) (mat q) (ten p) = (seq fun t k => mix q p 2 t k) ∧ val_main_v73 (F := Ideal) (mat q) (ten p) = (seq fun t k => mix q p 3 t k) := by
  obtain ⟨c0, c1, c2, c3⟩ := pooled q
  obtain ⟨d0, d1, d2, d3⟩ := weights p
  refine ⟨funext fun i => ?_, funext fun i => ?_, funext fun i => ?_, funext fun i => ?_⟩
  · rw [val_main_v22_apply, c0, d0]; exact sum_mul_coe _ _
  · rw [val_main_v39_apply, c1, d1]; exact sum_mul_coe _ _
  · rw [val_main_v56_apply, c2, d2]; exact sum_mul_coe _ _
  · rw [val_main_v73_apply, c3, d3]; exact sum_mul_coe _ _

/-! ## The cotangents -/

/-- The scaled cotangent. -/
theorem scaled : val_main_v82 (F := Ideal) (vec s) (mat M) = (seq fun t k => M t (1024 + k) * s k) := by
  funext i
  rw [val_main_v82_apply, val_main_v3_apply, val_main_v2_apply, val_main_v81_apply, val_main_v75_apply]
  exact (EReal.coe_mul _ _).symm

/-- The products' cotangents. -/
theorem dmixed :
    val_main_v84 (F := Ideal) (vec s) (mat M) = (seq fun t k => dmix s M 0 t k) ∧ val_main_v85 (F := Ideal) (vec s) (mat M) = (seq fun t k => dmix s M 1 t k) ∧
    val_main_v86 (F := Ideal) (vec s) (mat M) = (seq fun t k => dmix s M 2 t k) ∧ val_main_v87 (F := Ideal) (vec s) (mat M) = (seq fun t k => dmix s M 3 t k) := by
  refine ⟨funext fun i => ?_, funext fun i => ?_, funext fun i => ?_, funext fun i => ?_⟩
  · rw [val_main_v84_apply, scaled]; unfold seq dmix; dsimp only; rw [Nat.mul_zero, Nat.zero_add]
  · rw [val_main_v85_apply, scaled]; rfl
  · rw [val_main_v86_apply, scaled]; rfl
  · rw [val_main_v87_apply, scaled]; rfl

/-- The pooled differences' cotangents. -/
theorem dpooled :
    val_main_v142 (F := Ideal) (ten p) (vec s) (mat M) = (seq fun t e => dpre p s M 0 t e) ∧
    val_main_v124 (F := Ideal) (ten p) (vec s) (mat M) = (seq fun t e => dpre p s M 1 t e) ∧
    val_main_v106 (F := Ideal) (ten p) (vec s) (mat M) = (seq fun t e => dpre p s M 2 t e) ∧
    val_main_v90 (F := Ideal) (ten p) (vec s) (mat M) = (seq fun t e => dpre p s M 3 t e) := by
  obtain ⟨c0, c1, c2, c3⟩ := dmixed s M
  obtain ⟨d0, d1, d2, d3⟩ := weights p
  refine ⟨funext fun i => ?_, funext fun i => ?_, funext fun i => ?_, funext fun i => ?_⟩
  · rw [val_main_v142_apply, c0, d0]; exact sum_mul_coe _ _
  · rw [val_main_v124_apply, c1, d1]; exact sum_mul_coe _ _
  · rw [val_main_v106_apply, c2, d2]; exact sum_mul_coe _ _
  · rw [val_main_v90_apply, c3, d3]; exact sum_mul_coe _ _

/-- The columns' cotangents. -/
theorem dcolumns :
    val_main_v155 (F := Ideal) (ten p) (vec s) (mat M) = (seq fun t e => du p s M 0 t e) ∧
    val_main_v137 (F := Ideal) (ten p) (vec s) (mat M) = (seq fun t e => du p s M 1 t e) ∧
    val_main_v119 (F := Ideal) (ten p) (vec s) (mat M) = (seq fun t e => du p s M 2 t e) ∧
    val_main_v102 (F := Ideal) (ten p) (vec s) (mat M) = (seq fun t e => du p s M 3 t e) := by
  obtain ⟨c0, c1, c2, c3⟩ := dpooled p s M
  obtain ⟨d0, d1, d2, d3⟩ := counts
  refine ⟨?_, ?_, ?_, ?_⟩
  · unfold val_main_v155 val_main_v154 val_main_v153 val_main_v152 val_main_v150 val_main_v149 val_main_v148 val_main_v146
    rw [c0]
    exact meanT_seq 2 (by decide) _ _ d0 _ _ (fun _ => zero_f32) (fun _ => zero_f32) _ _ _ _ _
  · unfold val_main_v137 val_main_v136 val_main_v135 val_main_v134 val_main_v132 val_main_v131 val_main_v130 val_main_v128
    rw [c1]
    exact meanT_seq 4 (by decide) _ _ d1 _ _ (fun _ => zero_f32) (fun _ => zero_f32) _ _ _ _ _
  · unfold val_main_v119 val_main_v118 val_main_v117 val_main_v116 val_main_v114 val_main_v113 val_main_v112 val_main_v110
    rw [c2]
    exact meanT_seq 8 (by decide) _ _ d2 _ _ (fun _ => zero_f32) (fun _ => zero_f32) _ _ _ _ _
  · unfold val_main_v102 val_main_v101 val_main_v100 val_main_v99 val_main_v97 val_main_v96 val_main_v95 val_main_v93
    rw [c3]
    exact meanT_seq 16 (by decide) _ _ d3 _ _ (fun _ => zero_f32) (fun _ => zero_f32) _ _ _ _ _

/-- The four groups' gradients of their weights. -/
theorem dweights :
    val_main_v141 (F := Ideal) (mat q) (vec s) (mat M) = (mat fun e k => dw q s M 0 e k) ∧
    val_main_v123 (F := Ideal) (mat q) (vec s) (mat M) = (mat fun e k => dw q s M 1 e k) ∧
    val_main_v105 (F := Ideal) (mat q) (vec s) (mat M) = (mat fun e k => dw q s M 2 e k) ∧
    val_main_v89 (F := Ideal) (mat q) (vec s) (mat M) = (mat fun e k => dw q s M 3 e k) := by
  obtain ⟨c0, c1, c2, c3⟩ := dmixed s M
  obtain ⟨d0, d1, d2, d3⟩ := pooled q
  have key : ∀ g e k, ∑ t : Fin 2048, dmix s M g t.val k * pre q g t.val e = dw q s M g e k :=
    fun g e k => Finset.sum_congr rfl fun t _ => mul_comm _ _
  refine ⟨funext fun i => ?_, funext fun i => ?_, funext fun i => ?_, funext fun i => ?_⟩
  · rw [val_main_v141_apply]; unfold val_main_v140; rw [c0, d0, over_rows]; exact congrArg (fun r : ℝ => (r : EReal)) (key _ _ _)
  · rw [val_main_v123_apply]; unfold val_main_v122; rw [c1, d1, over_rows]; exact congrArg (fun r : ℝ => (r : EReal)) (key _ _ _)
  · rw [val_main_v105_apply]; unfold val_main_v104; rw [c2, d2, over_rows]; exact congrArg (fun r : ℝ => (r : EReal)) (key _ _ _)
  · rw [val_main_v89_apply]; unfold val_main_v88; rw [c3, d3, over_rows]; exact congrArg (fun r : ℝ => (r : EReal)) (key _ _ _)

end Cert.PoolRefRead

end
-- ==== Proof.PoolRefOut.lean ====
/-
  The reference's four results, from real arrays: the groups side by side.
-/
module

public import proofs.«01_k».proof.Proof.PoolRef

@[expose] public section

set_option maxRecDepth 16384

noncomputable section

namespace Cert.PoolRefRead

open PoolRefIdeal PoolRefIdeal.Gen PoolRefIdeal.Read
open Idealize.ShloMosaic Idealize.ShloMosaic.TcCoe PoolReal Reals
open AttnRefRead (mat vec zero_f32 one_f32)

variable (q : ℕ → ℕ → ℝ) (p : ℕ → ℕ → ℕ → ℝ) (s : ℕ → ℝ) (M : ℕ → ℕ → ℝ)

/-- The products side by side. -/
theorem joined : val_main_v74 (F := Ideal) (mat q) (ten p) = seq fun t j => mix q p (j / 128) t (j % 128) := by
  obtain ⟨c0, c1, c2, c3⟩ := mixed q p
  unfold val_main_v74
  rw [c0, c1, c2, c3]
  funext i
  have i2 : (i 2).val < 512 := (i 2).isLt
  pointwise [seq]
  by_cases h0 : (i 2).val < 128
  · rw [dif_pos h0, show (i 2).val / 128 = 0 by omega, show (i 2).val % 128 = (i 2).val by omega]
  rw [dif_neg h0]
  by_cases h1 : (i 2).val < 256
  · rw [dif_pos (by omega), show (i 2).val / 128 = 1 by omega, show (i 2).val % 128 = (i 2).val - 128 by omega]
  rw [dif_neg (by omega)]
  by_cases h2 : (i 2).val < 384
  · rw [dif_pos (by omega), show (i 2).val / 128 = 2 by omega, show (i 2).val % 128 = (i 2).val - 128 - 128 by omega]
  · rw [dif_neg (by omega), show (i 2).val / 128 = 3 by omega, show (i 2).val % 128 = (i 2).val - 128 - 128 - 128 by omega]

/-- The reference's pooled output. -/
theorem out_y : val_main_v159 (F := Ideal) (mat q) (ten p) (vec s) = mat fun t j => mix q p (j / 128) t (j % 128) * s (128 * (j / 128) + j % 128) := by
  funext i
  have i0 : (i 0).val < 2048 := (i 0).isLt
  have i1 : (i 1).val < 512 := (i 1).isLt
  rw [val_main_v159_apply, val_main_v158_apply, val_main_v77_apply, val_main_v76_apply, val_main_v75_apply, joined]
  refine (EReal.coe_mul _ _).symm.trans ?_
  unfold mat
  dsimp only
  rw [Nat.div_add_mod]
  refine congrArg (fun r : ℝ => (r : EReal)) (congrArg₂ (· * ·) (congr (congr (congrArg (mix q p) ?_) ?_) ?_) (congrArg s ?_)) <;> omega

/-- A sum over two axes of one. -/
theorem sum_ones (x : S1x1x512.Idx → EReal) (init : EReal) (j : S512.Idx) :
    Ideal.hostReduceAdd reducesTo_S1x1x512_S512_d0_1 x init j = init + x (ix3 0 0 (j 0)) := by
  have hv : ∀ b : S1x1x512.Idx, (reducesTo_S1x1x512_S512_d0_1.drop b 0).val = (b 2).val := fun b => rfl
  have hj : reducesTo_S1x1x512_S512_d0_1.drop (ix3 0 0 (j 0)) = j := funext fun a => Fin.ext (by
    match a with
    | ⟨0, _⟩ => exact hv (ix3 0 0 (j 0)))
  unfold Ideal.hostReduceAdd
  rw [Finset.sum_filter]
  refine congrArg (fun r : EReal => init + r) ((Finset.sum_eq_single (ix3 0 0 (j 0)) ?_ ?_).trans (if_pos hj))
  · intro b _ hn
    refine if_neg fun hb => hn (funext fun a => Fin.ext ?_)
    have hb' := (hv b).symm.trans (congrArg Fin.val (congrFun hb 0))
    have h0 : (b 0).val < 1 := (b 0).isLt
    have h1 : (b 1).val < 1 := (b 1).isLt
    match a with
    | ⟨0, _⟩ => exact Nat.lt_one_iff.mp h0
    | ⟨1, _⟩ => exact Nat.lt_one_iff.mp h1
    | ⟨2, _⟩ => exact hb'
  · exact fun hn => absurd (Finset.mem_univ _) hn

/-- The gradient of the scale. -/
theorem out_dsc : val_main_v162 (F := Ideal) (mat q) (ten p) (mat M) = mat fun _ j => dsc q p M (j / 128) (j % 128) := by
  funext i
  have i0 : (i 0).val < 1 := (i 0).isLt
  have i1 : (i 1).val < 512 := (i 1).isLt
  rw [val_main_v162_apply]
  unfold val_main_v83
  rw [Host.reduceAdd_apply, Ideal.hostReduceAdd_def, sum_ones, val_main_v80_apply, val_main_v79_apply]
  simp only [val_main_v78_apply, val_main_v3_apply, val_main_v2_apply, joined]
  rw [val_main_cst_15_apply, val_main_cst_16_apply, zero_f32]
  have e : (∑ k : Fin 2048, ((mix q p ((i 1).val / 128) k.val ((i 1).val % 128) : ℝ) : EReal) * ((M k.val (1024 + (i 1).val) : ℝ) : EReal))
      = ((dsc q p M ((i 1).val / 128) ((i 1).val % 128) : ℝ) : EReal) := by
    rw [sum_mul_coe]
    refine congrArg (fun r : ℝ => (r : EReal)) (Finset.sum_congr rfl fun t _ => ?_)
    rw [Nat.div_add_mod, mul_comm]
  rw [EReal.coe_zero, zero_add, zero_add]
  have hi : ((0 * 1 + 0) * 512 + ((i 0).val * 512 + (i 1).val)) % 512 = (i 1).val := by omega
  refine Eq.trans (Finset.sum_congr rfl fun k _ => ?_) e
  refine congrArg₂ (fun a b : EReal => a * b) (congrArg (fun r : ℝ => (r : EReal)) ?_) (congrArg (fun r : ℝ => (r : EReal)) ?_)
  · exact congr (congr (congrArg (mix q p) (congrArg (· / 128) hi)) rfl) (congrArg (· % 128) hi)
  · exact congrArg (fun z => M k.val (1024 + z)) hi

/-- One group's columns among all. -/
theorem pad_columns (g : ℕ) (f : ℕ → ℕ → ℝ) (z : FVec Ideal S_ .f32) (hz : ∀ i, z i = (((0 : ℝ) : EReal) : EReal)) (hi : ℕ)
    (h : S1x2048x128.Pads ![0, 0, 128 * g] ![0, 0, hi] ![0, 0, 0] S1x2048x512) (hu : 0 < S_.numel) :
    pad S1x2048x512 ![0, 0, 128 * g] ![0, 0, hi] ![0, 0, 0] (seq f : FVec Ideal S1x2048x128 .f32) z h hu
      = seq fun t j => if j / 128 = g then f t (j % 128) else 0 := by
  funext i
  have i0 : (i 0).val < 1 := (i 0).isLt
  have i1 : (i 1).val < 2048 := (i 1).isLt
  have i2 : (i 2).val < 512 := (i 2).isLt
  unfold seq
  dsimp only
  by_cases hg : (i 2).val / 128 = g
  · rw [if_pos hg]
    refine pad_apply_of_inside (s := S1x2048x128) (t := S1x2048x512) _ _ _ _ z h hu _
      (ix3 ⟨(i 0).val, i0⟩ ⟨(i 1).val, i1⟩ ⟨(i 2).val % 128, by omega⟩) (fun a => ?_)
    match a with
    | ⟨0, _⟩ => show (i 0).val = 0 + (i 0).val * (0 + 1); omega
    | ⟨1, _⟩ => show (i 1).val = 0 + (i 1).val * (0 + 1); omega
    | ⟨2, _⟩ => show (i 2).val = 128 * g + (i 2).val % 128 * (0 + 1); omega
  · rw [if_neg hg]
    refine (pad_apply_of_not_inside (s := S1x2048x128) (t := S1x2048x512) _ _ _ _ z h hu _ 2 (fun h' => ?_)).trans (hz _)
    have a : 128 * g ≤ (i 2).val := h'.1
    have b : ((i 2).val - 128 * g) / (0 + 1) < 128 := h'.2.2
    omega

/-- One group's weights among all. -/
theorem pad_weights (g : ℕ) (f : ℕ → ℕ → ℝ) (z : FVec Ideal S_ .f32) (hz : ∀ i, z i = (((0 : ℝ) : EReal) : EReal)) (hi : ℕ)
    (h : S1x128x128.Pads ![g, 0, 0] ![hi, 0, 0] ![0, 0, 0] S4x128x128) (hu : 0 < S_.numel) :
    pad S4x128x128 ![g, 0, 0] ![hi, 0, 0] ![0, 0, 0] (seq f : FVec Ideal S1x128x128 .f32) z h hu
      = ten fun n e k => if n = g then f e k else 0 := by
  funext i
  have i0 : (i 0).val < 4 := (i 0).isLt
  have i1 : (i 1).val < 128 := (i 1).isLt
  have i2 : (i 2).val < 128 := (i 2).isLt
  unfold ten
  dsimp only
  by_cases hg : (i 0).val = g
  · rw [if_pos hg]
    refine pad_apply_of_inside (s := S1x128x128) (t := S4x128x128) _ _ _ _ z h hu _
      (ix3 0 ⟨(i 1).val, i1⟩ ⟨(i 2).val, i2⟩) (fun a => ?_)
    match a with
    | ⟨0, _⟩ => show (i 0).val = g + 0 * (0 + 1); omega
    | ⟨1, _⟩ => show (i 1).val = 0 + (i 1).val * (0 + 1); omega
    | ⟨2, _⟩ => show (i 2).val = 0 + (i 2).val * (0 + 1); omega
  · rw [if_neg hg]
    refine (pad_apply_of_not_inside (s := S1x128x128) (t := S4x128x128) _ _ _ _ z h hu _ 0 (fun h' => ?_)).trans (hz _)
    have a : g ≤ (i 0).val := h'.1
    have b : ((i 0).val - g) / (0 + 1) < 1 := h'.2.2
    omega

/-- Four groups added up, of which one is not zero. -/
theorem one_of_four (F : ℕ → ℝ) (n : ℕ) (hn : n < 4) :
    (((((if n = 3 then F 3 else 0 : ℝ) : EReal) + ((if n = 2 then F 2 else 0 : ℝ) : EReal)) + ((if n = 1 then F 1 else 0 : ℝ) : EReal)) : EReal)
      + ((if n = 0 then F 0 else 0 : ℝ) : EReal) = ((F n : ℝ) : EReal) := by
  rw [← EReal.coe_add, ← EReal.coe_add, ← EReal.coe_add]
  refine congrArg (fun r : ℝ => (r : EReal)) ?_
  match n, hn with
  | 0, _ => simp
  | 1, _ => simp
  | 2, _ => simp
  | 3, _ => simp

/-- The gradient of the weights. -/
theorem out_dw : val_main_v145 (F := Ideal) (mat q) (vec s) (mat M) = ten (dw q s M) := by
  obtain ⟨d0, d1, d2, d3⟩ := dweights q s M
  have e0 : val_main_v143 (F := Ideal) (mat q) (vec s) (mat M) = seq fun e k => dw q s M 0 e k := by
    funext i; rw [val_main_v143_apply, d0]; rfl
  have e1 : val_main_v125 (F := Ideal) (mat q) (vec s) (mat M) = seq fun e k => dw q s M 1 e k := by
    funext i; rw [val_main_v125_apply, d1]; rfl
  have e2 : val_main_v107 (F := Ideal) (mat q) (vec s) (mat M) = seq fun e k => dw q s M 2 e k := by
    funext i; rw [val_main_v107_apply, d2]; rfl
  have e3 : val_main_v91 (F := Ideal) (mat q) (vec s) (mat M) = seq fun e k => dw q s M 3 e k := by
    funext i; rw [val_main_v91_apply, d3]; rfl
  unfold val_main_v145 val_main_v144 val_main_v127 val_main_v126 val_main_v109 val_main_v108 val_main_v92
  rw [e0, e1, e2, e3]
  refine Eq.trans (congrArg₂ (addf (F := Ideal) (φ := .f32)) (congrArg₂ (addf (F := Ideal) (φ := .f32)) (congrArg₂ (addf (F := Ideal) (φ := .f32))
    (pad_weights 3 (fun e k => dw q s M 3 e k) (val_main_cst_17 (F := Ideal)) (fun _ => zero_f32) 0
      pads_S1x128x128_S4x128x128_300_000_000 h_S_) (pad_weights 2 (fun e k => dw q s M 2 e k) (val_main_cst_20 (F := Ideal)) (fun _ => zero_f32) 1
      pads_S1x128x128_S4x128x128_210_000_000 h_S_))
    (pad_weights 1 (fun e k => dw q s M 1 e k) (val_main_cst_23 (F := Ideal)) (fun _ => zero_f32) 2
      pads_S1x128x128_S4x128x128_120_000_000 h_S_)) (pad_weights 0 (fun e k => dw q s M 0 e k) (val_main_cst_26 (F := Ideal)) (fun _ => zero_f32) 3
      pads_S1x128x128_S4x128x128_030_000_000 h_S_)) ?_
  funext i
  exact one_of_four (fun n => dw q s M n (i 1).val (i 2).val) (i 0).val (i 0).isLt

/-- The gradient of the projection's columns. -/
theorem out_du : val_main_v161 (F := Ideal) (ten p) (vec s) (mat M) = mat fun t j => du p s M (j / 128) t (j % 128) := by
  obtain ⟨d0, d1, d2, d3⟩ := dcolumns p s M
  have e : val_main_v157 (F := Ideal) (ten p) (vec s) (mat M) = seq fun t j => du p s M (j / 128) t (j % 128) := by
    unfold val_main_v157 val_main_v156 val_main_v139 val_main_v138 val_main_v121 val_main_v120 val_main_v103
    rw [d0, d1, d2, d3]
    refine Eq.trans (congrArg₂ (addf (F := Ideal) (φ := .f32)) (congrArg₂ (addf (F := Ideal) (φ := .f32)) (congrArg₂ (addf (F := Ideal) (φ := .f32))
      (pad_columns 3 (fun t e => du p s M 3 t e) (val_main_cst_19 (F := Ideal)) (fun _ => zero_f32) 0
        pads_S1x2048x128_S1x2048x512_000_000_38400 h_S_) (pad_columns 2 (fun t e => du p s M 2 t e) (val_main_cst_22 (F := Ideal)) (fun _ => zero_f32) 128
        pads_S1x2048x128_S1x2048x512_000_000_2561280 h_S_))
      (pad_columns 1 (fun t e => du p s M 1 t e) (val_main_cst_25 (F := Ideal)) (fun _ => zero_f32) 256
        pads_S1x2048x128_S1x2048x512_000_000_1282560 h_S_)) (pad_columns 0 (fun t e => du p s M 0 t e) (val_main_cst_28 (F := Ideal)) (fun _ => zero_f32) 384
        pads_S1x2048x128_S1x2048x512_000_000_03840 h_S_)) ?_
    funext i
    have i2 : (i 2).val < 512 := (i 2).isLt
    exact one_of_four (fun n => du p s M n (i 1).val ((i 2).val % 128)) ((i 2).val / 128) (by omega)
  funext i
  have i0 : (i 0).val < 2048 := (i 0).isLt
  have i1 : (i 1).val < 512 := (i 1).isLt
  rw [val_main_v161_apply, val_main_v160_apply, e]
  refine congrArg (fun r : ℝ => (r : EReal)) (congr (congr (congrArg (du p s M) ?_) ?_) ?_) <;> dsimp only <;> omega

end Cert.PoolRefRead

end
-- ==== Proof.PoolClaim.lean ====
/-
  The pooling's claims: its frames, and that its four results (the pooled output and the gradients of the projection's
  columns, of the weights and of the scale) are the reference's, of finite arguments.
-/
module

public import proofs.«01_k».proof.Defs
public import proofs.«01_k».proof.Proof.PoolOut
public import proofs.«01_k».proof.Proof.PoolRefOut
public import proofs.«01_k».proof.Proof.Gen.Pool.Frame
public import proofs.«01_k».proof.Proof.Gen.Pre_pool_finite

@[expose] public section

set_option maxRecDepth 16384

noncomputable section

namespace Cert.PoolValue

open Idealize.ShloMosaic Idealize.ShloMosaic.TcCoe Idealize.SL.Sem
open PoolReal Reals
open AttnRefRead (mat vec)

/-- The frame of the kernel. -/
theorem quiescent_kernel : Cert.quiescent_Pool := fun m ρ _ => Pool.Gen.frame m ρ

/-- The frame of the kernel over the extended reals. -/
theorem quiescent_ideal : Cert.quiescent_PoolIdeal := fun m ρ _ => PoolIdeal.Gen.frame m ρ
/-- The same, of finite arguments. -/
theorem quiescent_ideal_finite : Cert.quiescent_PoolIdeal_pre_pool_finite := fun m ρ _ => PoolIdeal.Gen.frame m ρ

/-- The frame of the reference, a straight line of host operations. -/
theorem quiescent_ref : Cert.quiescent_PoolRefIdeal := fun m ρ _ =>
  (θ_run PoolRefIdeal.defs _ _).mono
    (fun r h => ⟨fun c => (h c).2.2.2.2, sem_eq_zero_of_no_sems (by decide) r.2⟩)
    (PoolRefIdeal.Value.run (F := Ideal) m ρ)
/-- The same, of finite arguments. -/
theorem quiescent_ref_finite : Cert.quiescent_PoolRefIdeal_pre_pool_finite := fun m ρ _ => quiescent_ref m ρ trivial

section Kernel
open PoolIdeal PoolIdeal.Gen

variable (m : (ℓ : Loc nD τ sig) → Buf (Elt Ideal) ℓ) (ρ : Dev nD → PrngReg) (c : Dev nD)
  (q : ℕ → ℕ → ℝ) (p : ℕ → ℕ → ℕ → ℝ) (s : ℕ → ℝ) (M : ℕ → ℕ → ℝ)
  (h0 : (m ((c.tc : Thread nD τ).loc main_arg0) : FVec Ideal S2048x2560 .f32) = mat q)
  (h1 : (m ((c.tc : Thread nD τ).loc main_arg1) : FVec Ideal S4x128x128 .f32) = ten p)
  (h2 : (m ((c.tc : Thread nD τ).loc main_arg2) : FVec Ideal S512 .f32) = vec s)
  (h3 : (m ((c.tc : Thread nD τ).loc main_arg3) : FVec Ideal S2048x2048 .f32) = mat M)

include h0 in
theorem entry_h : V1 m ρ c main_arg0 = mat q := (W1_args m ρ c main_arg0 (by decide)).trans h0

include h1 in
theorem entry_w : V1 m ρ c main_v0 = (ten p : FVec Ideal S4x128x128 .f32) := by
  unfold V1 W1
  after_results_simp
  exact h1

/-- A row of a vector. -/
theorem as_row (x : S512.Idx → EReal) (y : S1x512.Idx) : shapeCast S1x512 x shapeCasts_S512_S1x512 y = x (ix1 (y 1)) := by
  pointwise

include h2 in
theorem entry_s : V1 m ρ c main_v1 = (mat fun _ j => s j : FVec Ideal S1x512 .f32) := by
  unfold V1 W1
  after_results_simp
  funext y
  refine (as_row _ y).trans ?_
  exact congrFun h2 _

include h0 h1 h2 in
/-- The pooled differences at the backward region's entry. -/
theorem entry_pre : V2 m ρ c main_v2_1 = mat fun t j => pre q (j / 128) t (j % 128) :=
  (W2_arr m ρ c 4).trans (arr_pre (V1 m ρ) q p s c (entry_h m ρ c q h0) (entry_w m ρ c p h1) (entry_s m ρ c s h2))

include h1 in
theorem entry_w' : V2 m ρ c main_v0 = ten p := (W2_of m ρ c main_v0 (by decide)).trans (entry_w m ρ c p h1)
include h2 in
theorem entry_s' : V2 m ρ c main_v1 = mat fun _ j => s j := (W2_of m ρ c main_v1 (by decide)).trans (entry_s m ρ c s h2)
include h3 in
theorem entry_m : V2 m ρ c main_arg3 = mat M := (W2_args m ρ c main_arg3 (by decide)).trans h3

include h0 h1 h2 in
theorem end_y : W3 m ρ c (Proc.devRef .tc main_v2_0) = mat fun t j => mix q p (j / 128) t (j % 128) * s (128 * (j / 128) + j % 128) :=
  (W3_of m ρ c main_v2_0 (by decide)).trans ((W2_arr m ρ c 3).trans
    (arr_y (V1 m ρ) q p s c (entry_h m ρ c q h0) (entry_w m ρ c p h1) (entry_s m ρ c s h2)))

include h0 h1 h2 h3 in
theorem end_du : W3 m ρ c (Proc.devRef .tc main_v3_0) = mat fun t j => du p s M (j / 128) t (j % 128) :=
  (W3_arr m ρ c 4).trans (arr_du (V2 m ρ) q p s M c (entry_m m ρ c M h3) (entry_pre m ρ c q p s h0 h1 h2) (entry_w' m ρ c p h1) (entry_s' m ρ c s h2))

include h0 h1 h2 h3 in
theorem end_dw : W3 m ρ c (Proc.devRef .tc main_v3_1) = ten (dw q s M) :=
  (W3_arr m ρ c 5).trans (arr_dw (V2 m ρ) q p s M c (entry_m m ρ c M h3) (entry_pre m ρ c q p s h0 h1 h2) (entry_w' m ρ c p h1) (entry_s' m ρ c s h2))

include h0 h1 h2 h3 in
theorem end_dsc : W3 m ρ c (Proc.devRef .tc main_v3_2) = mat fun _ j => dsc q p M (j / 128) (j % 128) :=
  (W3_arr m ρ c 6).trans (arr_dsc (V2 m ρ) q p s M c (entry_m m ρ c M h3) (entry_pre m ρ c q p s h0 h1 h2) (entry_w' m ρ c p h1) (entry_s' m ρ c s h2))

end Kernel

open PoolIdeal PoolIdeal.Gen in
/-- The kernel's four results are the reference's, of finite arguments. -/
theorem algebraic : Cert.algebraic_PoolIdeal_PoolRefIdeal_pre_pool_finite := by
  intro m ρ m' ρ' hpre hagree
  choose q h0 using fun c => exists_mat _ (coe_of_finite _ _ _ _ (hpre c).1)
  choose p h1 using fun c => exists_ten _ (coe_of_finite _ _ _ _ (hpre c).2.1)
  choose s h2 using fun c => exists_vec _ (coe_of_finite _ _ _ _ (hpre c).2.2.1)
  choose M h3 using fun c => exists_mat _ (coe_of_finite _ _ _ _ (hpre c).2.2.2)
  refine ⟨fun c => mat fun t j => mix (q c) (p c) (j / 128) t (j % 128) * (s c) (128 * (j / 128) + j % 128),
    fun c => mat fun t j => du (p c) (s c) (M c) (j / 128) t (j % 128), fun c => ten (dw (q c) (s c) (M c)),
    fun c => mat fun _ j => dsc (q c) (p c) (M c) (j / 128) (j % 128), ?_, ?_⟩
  · exact (θ_run PoolIdeal.defs _ _).mono
      (fun _ h c => ⟨(h.1 c _ (mem_uc main_v2_0 (by decide))).trans (end_y m ρ c (q c) (p c) (s c) (h0 c) (h1 c) (h2 c)),
        (h.1 c _ (mem_uc main_v3_0 (by decide))).trans (end_du m ρ c (q c) (p c) (s c) (M c) (h0 c) (h1 c) (h2 c) (h3 c)),
        (h.1 c _ (mem_uc main_v3_1 (by decide))).trans (end_dw m ρ c (q c) (p c) (s c) (M c) (h0 c) (h1 c) (h2 c) (h3 c)),
        (h.1 c _ (mem_uc main_v3_2 (by decide))).trans (end_dsc m ρ c (q c) (p c) (s c) (M c) (h0 c) (h1 c) (h2 c) (h3 c)),
        (h.1 c _ (mem_uc main_arg0 (by decide))).trans (W3_main_arg0 m ρ c),
        (h.1 c _ (mem_uc main_arg1 (by decide))).trans (W3_main_arg1 m ρ c),
        (h.1 c _ (mem_uc main_arg2 (by decide))).trans (W3_main_arg2 m ρ c),
        (h.1 c _ (mem_uc main_arg3 (by decide))).trans (W3_main_arg3 m ρ c)⟩)
      (run (F := Ideal) m ρ)
  have a0 : ∀ c, StableHlo.launchContents m' c (Proc.devRef .tc PoolRefIdeal.main_arg0) = mat (q c) := fun c => (hagree c).1.trans (h0 c)
  have a1 : ∀ c, StableHlo.launchContents m' c (Proc.devRef .tc PoolRefIdeal.main_arg1) = ten (p c) := fun c => (hagree c).2.1.trans (h1 c)
  have a2 : ∀ c, StableHlo.launchContents m' c (Proc.devRef .tc PoolRefIdeal.main_arg2) = vec (s c) := fun c => (hagree c).2.2.1.trans (h2 c)
  have a3 : ∀ c, StableHlo.launchContents m' c (Proc.devRef .tc PoolRefIdeal.main_arg3) = mat (M c) := fun c => (hagree c).2.2.2.trans (h3 c)
  refine (θ_run PoolRefIdeal.defs _ _).mono
    (fun _ h c => ⟨(h c).1.trans ?_, (h c).2.1.trans ?_, (h c).2.2.1.trans ?_, (h c).2.2.2.1.trans ?_, (h c).2.2.2.2⟩)
    (PoolRefIdeal.Value.run (F := Ideal) m' ρ')
  · rw [PoolRefIdeal.Read.val_main_v159_eq, a0, a1, a2]
    exact PoolRefRead.out_y _ _ _
  · rw [PoolRefIdeal.Read.val_main_v161_eq, a1, a2, a3]
    exact PoolRefRead.out_du _ _ _
  · rw [PoolRefIdeal.Read.val_main_v145_eq, a0, a2, a3]
    exact PoolRefRead.out_dw _ _ _
  · rw [PoolRefIdeal.Read.val_main_v162_eq, a0, a1, a3]
    exact PoolRefRead.out_dsc _ _ _

end Cert.PoolValue

end
-- ==== Proof.LnTile.lean ====
/-
  The layer norm with its residual, over the reals: `r = α·x + a`, the row's mean and variance, the normalised rows, and
  the gradient in `r`, written the kernel's way (two row means) and the way differentiation gives it (through the
  variance and the mean).
  The layer norm's two bodies on a block of 256 rows of reals.
-/
module

public import proofs.«01_k».proof.Proof.Reals
public import proofs.«01_k».proof.Proof.AttnRef
public import proofs.«01_k».proof.Proof.Finite
public import proofs.«01_k».proof.Defs
public import proofs.«01_k».proof.Proof.Gen.LnIdeal.Skeleton
public import Idealize.ShloMosaic.Lib.Pipeline.ValueKit
public import Idealize.ShloMosaic.Lib.Pointwise

@[expose] public section

set_option maxRecDepth 16384

noncomputable section

namespace Cert.LnReal

/-- The residual's scale, as its float word has it. -/
def alpha : ℝ := 14107901 / 8388608
/-- The variance's offset, as its float word has it. -/
def eps : ℝ := 10995116 / 1099511627776

variable (x a : ℕ → ℕ → ℝ)

/-- The residual sum. -/
def res (i j : ℕ) : ℝ := alpha * x i j + a i j
/-- The row's mean. -/
def mean (i : ℕ) : ℝ := (∑ k : Fin 2048, res x a i k.val) / 2048
/-- The centred row. -/
def cen (i j : ℕ) : ℝ := res x a i j - mean x a i
/-- The row's variance plus the offset. -/
def vr (i : ℕ) : ℝ := (∑ k : Fin 2048, cen x a i k.val * cen x a i k.val) / 2048 + eps
/-- The reciprocal of the row's deviation. -/
def rs (i : ℕ) : ℝ := (Real.sqrt (vr x a i))⁻¹
/-- The normalised row. -/
def xh (i j : ℕ) : ℝ := cen x a i j * rs x a i

theorem vr_pos (i : ℕ) : 0 < vr x a i := by
  have h : 0 ≤ ∑ k : Fin 2048, cen x a i k.val * cen x a i k.val := Finset.sum_nonneg fun k _ => mul_self_nonneg _
  unfold vr eps
  positivity

theorem rs_sq (i : ℕ) : rs x a i * rs x a i = (vr x a i)⁻¹ := by
  unfold rs
  rw [← mul_inv, Real.mul_self_sqrt (vr_pos x a i).le]

/-- A centred row sums to zero. -/
theorem cen_sum (i : ℕ) : ∑ k : Fin 2048, cen x a i k.val = 0 := by
  unfold cen
  rw [Finset.sum_sub_distrib, Finset.sum_const, Finset.card_univ, Fintype.card_fin, mean]
  simp only [nsmul_eq_mul]
  push_cast
  ring

variable (g b : ℕ → ℝ) (dy : ℕ → ℕ → ℝ)

/-- The output. -/
def out (i j : ℕ) : ℝ := xh x a i j * g j + b j
/-- The gradient in the normalised row. -/
def dxh (i j : ℕ) : ℝ := dy i j * g j
/-- The gradient in the residual sum from normalised rows and reciprocal deviations, the kernel's way. -/
def drOf (r : ℕ → ℝ) (h : ℕ → ℕ → ℝ) (i j : ℕ) : ℝ :=
  r i * (dxh g dy i j - (∑ k : Fin 2048, dxh g dy i k.val) / 2048 - h i j * ((∑ k : Fin 2048, dxh g dy i k.val * h i k.val) / 2048))
/-- The gradient in the residual sum. -/
def dr (i j : ℕ) : ℝ := drOf g dy (rs x a) (xh x a) i j
/-- The gain's gradient. -/
def dg (j : ℕ) : ℝ := ∑ i : Fin 2048, dy i.val j * xh x a i.val j
/-- The offset's gradient. -/
def db (j : ℕ) : ℝ := ∑ i : Fin 2048, dy i.val j

/-- The factor the variance's gradient carries, with a row's terms. -/
def slope (i : ℕ) : ℝ := (∑ k : Fin 2048, cen x a i k.val * dxh g dy i k.val) * (-0.5 * (rs x a i / vr x a i)) / 2048

/-- The gradient differentiation gives is the kernel's. -/
theorem dr_eq (i j : ℕ) :
    dxh g dy i j * rs x a i + slope x a g dy i * (2 * cen x a i j)
      + (∑ k : Fin 2048, -(dxh g dy i k.val * rs x a i) + ∑ k : Fin 2048, -(slope x a g dy i * (2 * cen x a i k.val))) / 2048
      = dr x a g dy i j := by
  have h0 : ∑ k : Fin 2048, -(slope x a g dy i * (2 * cen x a i k.val)) = 0 := by
    rw [Finset.sum_neg_distrib, ← Finset.mul_sum, ← Finset.mul_sum, cen_sum, mul_zero, mul_zero, neg_zero]
  have h1 : ∑ k : Fin 2048, -(dxh g dy i k.val * rs x a i) = -((∑ k : Fin 2048, dxh g dy i k.val) * rs x a i) := by
    rw [Finset.sum_neg_distrib, ← Finset.sum_mul]
  have h2 : ∑ k : Fin 2048, dxh g dy i k.val * xh x a i k.val = (∑ k : Fin 2048, cen x a i k.val * dxh g dy i k.val) * rs x a i := by
    rw [Finset.sum_mul]
    exact Finset.sum_congr rfl fun k _ => by unfold xh; ring
  unfold dr drOf
  rw [h0, h1, h2]
  unfold slope xh
  rw [div_eq_mul_inv (rs x a i), ← rs_sq]
  ring

/-- Partial sums over the first `n` blocks of 256 rows. -/
def upTo (f : ℕ → ℕ → ℝ) (n j : ℕ) : ℝ := ∑ i ∈ Finset.range (n * 256), f i j

theorem upTo_succ (f : ℕ → ℕ → ℝ) (n j : ℕ) : upTo f (n + 1) j = upTo f n j + ∑ i : Fin 256, f (n * 256 + i.val) j := by
  unfold upTo
  rw [show (n + 1) * 256 = n * 256 + 256 by ring, Finset.sum_range_add, Finset.sum_range (fun i => f (n * 256 + i) j)]

theorem upTo_zero (f : ℕ → ℕ → ℝ) (j : ℕ) : upTo f 0 j = 0 := by
  unfold upTo
  rw [Nat.zero_mul, Finset.sum_range_zero]

theorem upTo_all (f : ℕ → ℕ → ℝ) (j : ℕ) : upTo f 8 j = ∑ i : Fin 2048, f i.val j := by
  unfold upTo
  rw [show 8 * 256 = 2048 from rfl, Finset.sum_range]

end Cert.LnReal

namespace Cert.LnValue

open Idealize.ShloMosaic Idealize.ShloMosaic.TcCoe Idealize.SL.Sem
open LnIdeal LnIdeal.Gen LnReal Reals
open AttnRefRead (mat vec)

/-- The float words of the scale, of the offset and of the row's length. -/
theorem word_alpha : Ideal.ofBits .f32 0x3FD744FD#32 = ((alpha : ℝ) : EReal) := by
  simp [Ideal.ofBits, Ideal.ieee, alpha, -EReal.coe_mul]; norm_num
theorem word_eps : Ideal.ofBits .f32 0x3727C5AC#32 = ((eps : ℝ) : EReal) := by
  simp [Ideal.ofBits, Ideal.ieee, eps, -EReal.coe_mul]; norm_num
theorem word_n : Ideal.ofBits .f32 0x45000000#32 = ((2048 : ℝ) : EReal) := by
  simp [Ideal.ofBits, Ideal.ieee, -EReal.coe_mul]; norm_num

/-- The reciprocal root of a positive real. -/
theorem rsqrt_of_pos (v : ℝ) (h : 0 < v) : Ideal.rsqrt ((v : ℝ) : EReal) = (((Real.sqrt v)⁻¹ : ℝ) : EReal) := by
  rw [Ideal.rsqrt_coe, if_neg (not_lt.mpr h.le), if_neg h.ne']

/-- Dividing a real by the row's length. -/
theorem div_n (r : ℝ) : Ideal.div ((r : ℝ) : EReal) ((2048 : ℝ) : EReal) = ((r / 2048 : ℝ) : EReal) :=
  div_coe_coe r (by norm_num)

variable (x a : ℕ → ℕ → ℝ) (g b : ℕ → ℝ)

/-- The centred rows. -/
theorem pay_cen : k0_pay1 (F := Ideal) (mat x) (mat a) = mat (cen x a) := by
  funext y
  pointwise [k0_pay1, mat]
  simp only [word_alpha, word_n, ← EReal.coe_mul, ← EReal.coe_add, sum_coe, div_n, ← EReal.coe_sub]
  rfl

/-- The reciprocal deviations. -/
theorem pay_rs : k0_pay2 (F := Ideal) (mat x) (mat a) = mat fun i _ => rs x a i := by
  unfold k0_pay2
  rw [pay_cen]
  funext y
  pointwise [mat]
  simp only [word_eps, word_n, ← EReal.coe_mul, sum_coe, div_n, ← EReal.coe_add]
  exact rsqrt_of_pos _ (vr_pos x a _)

/-- The normalised rows. -/
theorem pay_xh : k0_pay3 (F := Ideal) (mat x) (mat a) = mat (xh x a) := by
  unfold k0_pay3
  rw [pay_cen, pay_rs]
  funext y
  pointwise [mat]
  simp only [← EReal.coe_mul]
  rfl

/-- The output rows. -/
theorem pay_out : k0_pay4 (F := Ideal) (mat x) (mat a) (mat fun _ j => g j) (mat fun _ j => b j) = mat (out x a g b) := by
  unfold k0_pay4
  rw [pay_xh]
  funext y
  pointwise [mat]
  simp only [← EReal.coe_mul, ← EReal.coe_add]
  rfl

/-- The output rows, cast. -/
theorem pay_outb : k0_pay5 (F := Ideal) (mat x) (mat a) (mat fun _ j => g j) (mat fun _ j => b j) = mat (out x a g b) := by
  unfold k0_pay5
  rw [pay_out]
  rfl

variable (dy h : ℕ → ℕ → ℝ) (r : ℕ → ℝ)

/-- The gradient rows. -/
theorem pay_dr : k1_pay4 (F := Ideal) (mat dy) (mat h) (mat fun _ j => g j) (mat fun i _ => r i) = mat (drOf g dy r h) := by
  funext y
  pointwise [k1_pay4, k1_pay3, mat]
  simp only [word_n, ← EReal.coe_mul, sum_coe, div_n, ← EReal.coe_sub]
  rfl

/-- The gradient rows, cast. -/
theorem pay_drb : k1_pay5 (F := Ideal) (mat dy) (mat h) (mat fun _ j => g j) (mat fun i _ => r i) = mat (drOf g dy r h) := by
  unfold k1_pay5
  rw [pay_dr]
  rfl

/-- The block's part of the gain's gradient. -/
theorem pay_dg : k1_pay6 (F := Ideal) (mat dy) (mat h) = mat fun _ j => ∑ i : Fin 256, dy i.val j * h i.val j := by
  funext y
  pointwise [k1_pay6, k1_pay3, mat]
  simp only [← EReal.coe_mul, sum_coe]

/-- The block's part of the offset's gradient. -/
theorem pay_db : k1_pay7 (F := Ideal) (mat dy) = mat fun _ j => ∑ i : Fin 256, dy i.val j := by
  funext y
  pointwise [k1_pay7, mat]
  simp only [sum_coe]

/-- A running sum plus a block's part. -/
theorem pay_add (p q : ℕ → ℝ) :
    k1_pay1 (F := Ideal) (mat fun _ j => p j) (mat fun _ j => q j) = (mat fun _ j => q j + p j : FVec Ideal S1x2048 .f32) ∧
    k1_pay2 (F := Ideal) (mat fun _ j => p j) (mat fun _ j => q j) = (mat fun _ j => q j + p j : FVec Ideal S1x2048 .f32) := by
  constructor <;> funext y <;> pointwise [k1_pay1, k1_pay2, mat] <;> simp only [← EReal.coe_add]

end Cert.LnValue

end
-- ==== Proof.LnKernel.lean ====
/-
  The two norm bodies on whole staging buffers: from the inputs' contents each leaves its outputs at plain functions of
  them; the backward body adds to what the last two outputs hold, but at the first point.
-/
module

public import proofs.«01_k».proof.Proof.Gen.LnIdeal.Launch
public import proofs.«01_k».proof.Proof.Gen.LnIdeal.Skeleton
public import proofs.«01_k».proof.Proof.Gen.LnIdeal.Points
public import Idealize.ShloMosaic.Lib.Pipeline.FrameBody
public import Idealize.ShloMosaic.Lib.Pipeline.FrameSuffix
public import Idealize.ShloMosaic.Lib.Pipeline.Value
public import Idealize.ShloMosaic.Lib.Pipeline.ValueKit
public import Idealize.ShloMosaic.Lib.VecWindow
public import Idealize.ShloMosaic.Lib.WordCmp

@[expose] public section

set_option maxRecDepth 16384

noncomputable section

namespace Cert.LnValue

open LnIdeal LnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A load of the whole buffer reads its contents. -/
theorem ld_rows (v : View sig .tc .vmem S256x2048 .f32) (f : v.ty.Contents (Elt F)) :
    v.read (Elt F) f = v.readAt (Elt F) (Rect.unit (s := S256x2048) ![0, 0] S256x2048.size inb_S256x2048_S256x2048_0_0).toLoadRect f :=
  (View.readAt_full _ _ _).symm
theorem ld_col (v : View sig .tc .vmem S256x1 .f32) (f : v.ty.Contents (Elt F)) :
    v.read (Elt F) f = v.readAt (Elt F) (Rect.unit (s := S256x1) ![0, 0] S256x1.size inb_S256x1_S256x1_0_0).toLoadRect f :=
  (View.readAt_full _ _ _).symm
theorem ld_row (v : View sig .tc .vmem S1x2048 .f32) (f : v.ty.Contents (Elt F)) :
    v.read (Elt F) f = v.readAt (Elt F) (Rect.unit (s := S1x2048) ![0, 0] S1x2048.size inb_S1x2048_S1x2048_0_0).toLoadRect f :=
  (View.readAt_full _ _ _).symm

set_option maxHeartbeats 1000000 in
/-- The forward body. -/
theorem sound_kernel0 (c : Dev nD) (E : Set ℕ) (i : grid0.Coords)
    (arg1 : Memref sig .tc .vmem S256x2048 .f32) (harg1 : arg1.IsWhole)
    (arg2 : Memref sig .tc .vmem S256x2048 .f32) (harg2 : arg2.IsWhole)
    (arg3 : Memref sig .tc .vmem S1x2048 .f32) (harg3 : arg3.IsWhole)
    (arg4 : Memref sig .tc .vmem S1x2048 .f32) (harg4 : arg4.IsWhole)
    (arg5 : Memref sig .tc .vmem S256x2048 .f32) (harg5 : arg5.IsWhole)
    (arg6 : Memref sig .tc .vmem S256x2048 .bf16) (harg6 : arg6.IsWhole)
    (arg7 : Memref sig .tc .vmem S256x2048 .f32) (harg7 : arg7.IsWhole)
    (arg8 : Memref sig .tc .vmem S256x1 .f32) (harg8 : arg8.IsWhole)

    (x0 : Vec F S256x2048 .f32) (x1 : Vec F S256x2048 .f32) (x2 : Vec F S1x2048 .f32) (x3 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay4 x0 x1 x2 x3) ∗ owns (c : Thread nD τ) arg6 fullShare (k0_pay5 x0 x1 x2 x3) ∗ owns (c : Thread nD τ) arg7 fullShare (k0_pay3 x0 x1) ∗ owns (c : Thread nD τ) arg8 fullShare (k0_pay2 x0 x1)) -∗ K ⟨⟩))
      ⊢ wp frame (wpE (defs₀ (F := F)) Variants.none c none) E (cc0_ln1 i arg1 harg1 arg2 harg2 arg3 harg3 arg4 harg4 arg5 harg5 arg6 harg6 arg7 harg7 arg8 harg8) K := by
  simp only [cc0_ln1_eq_skeleton]; unfold cc0_ln1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_full _ _ _ _ _).trans ?_
    simp only [ld_rows, ld_row, ld_col] <;> rfl
  isplitl [H5]
  · iexists _; isplitr
    swap; · iexact H5
    ipureintro
    refine (View.read_writes_full _ _ _ _ _).trans ?_
    simp only [ld_rows, ld_row, ld_col] <;> rfl
  isplitl [H6]
  · iexists _; isplitr
    swap; · iexact H6
    ipureintro
    refine (View.read_writes_full _ _ _ _ _).trans ?_
    simp only [ld_rows, ld_row, ld_col] <;> rfl
  iexists _; isplitr
  swap; · iexact H7
  ipureintro
  refine (View.read_writes_full _ _ _ _ _).trans ?_
  simp only [ld_rows, ld_row, ld_col] <;> rfl
set_option maxHeartbeats 1000000 in
/-- The backward body at the first point. -/
theorem sound_kernel1A (c : Dev nD) (E : Set ℕ) (i : grid1.Coords)
    (arg1 : Memref sig .tc .vmem S256x2048 .f32) (harg1 : arg1.IsWhole)
    (arg2 : Memref sig .tc .vmem S256x2048 .f32) (harg2 : arg2.IsWhole)
    (arg3 : Memref sig .tc .vmem S256x1 .f32) (harg3 : arg3.IsWhole)
    (arg4 : Memref sig .tc .vmem S1x2048 .f32) (harg4 : arg4.IsWhole)
    (arg5 : Memref sig .tc .vmem S256x2048 .f32) (harg5 : arg5.IsWhole)
    (arg6 : Memref sig .tc .vmem S256x2048 .bf16) (harg6 : arg6.IsWhole)
    (arg7 : Memref sig .tc .vmem S1x2048 .f32) (harg7 : arg7.IsWhole)
    (arg8 : Memref sig .tc .vmem S1x2048 .f32) (harg8 : arg8.IsWhole)
    (hc0 : k1_cond1 i = 1#1) (hc1 : ¬k1_cond2 i = 1#1)
    (x0 : Vec F S256x2048 .f32) (x1 : Vec F S256x2048 .f32) (x2 : Vec F S256x1 .f32) (x3 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k1_pay4 x0 x1 x3 x2) ∗ owns (c : Thread nD τ) arg6 fullShare (k1_pay5 x0 x1 x3 x2) ∗ owns (c : Thread nD τ) arg7 fullShare (k1_pay6 x0 x1) ∗ owns (c : Thread nD τ) arg8 fullShare (k1_pay7 x0)) -∗ K ⟨⟩))
      ⊢ wp frame (wpE (defs₀ (F := F)) Variants.none c none) E (cc1_ln1_bwd i arg1 harg1 arg2 harg2 arg3 harg3 arg4 harg4 arg5 harg5 arg6 harg6 arg7 harg7 arg8 harg8) K := by
  simp only [cc1_ln1_bwd_eq_skeleton]; unfold cc1_ln1_bwd_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_full _ _ _ _ _).trans ?_
    simp only [ld_rows, ld_row, ld_col] <;> rfl
  isplitl [H5]
  · iexists _; isplitr
    swap; · iexact H5
    ipureintro
    refine (View.read_writes_full _ _ _ _ _).trans ?_
    simp only [ld_rows, ld_row, ld_col] <;> rfl
  isplitl [H6]
  · iexists _; isplitr
    swap; · iexact H6
    ipureintro
    refine (View.read_writes_full _ _ _ _ _).trans ?_
    simp only [ld_rows, ld_row, ld_col] <;> rfl
  iexists _; isplitr
  swap; · iexact H7
  ipureintro
  refine (View.read_writes_full _ _ _ _ _).trans ?_
  simp only [ld_rows, ld_row, ld_col] <;> rfl
set_option maxHeartbeats 1000000 in
/-- The backward body at a later point. -/
theorem sound_kernel1B (c : Dev nD) (E : Set ℕ) (i : grid1.Coords)
    (arg1 : Memref sig .tc .vmem S256x2048 .f32) (harg1 : arg1.IsWhole)
    (arg2 : Memref sig .tc .vmem S256x2048 .f32) (harg2 : arg2.IsWhole)
    (arg3 : Memref sig .tc .vmem S256x1 .f32) (harg3 : arg3.IsWhole)
    (arg4 : Memref sig .tc .vmem S1x2048 .f32) (harg4 : arg4.IsWhole)
    (arg5 : Memref sig .tc .vmem S256x2048 .f32) (harg5 : arg5.IsWhole)
    (arg6 : Memref sig .tc .vmem S256x2048 .bf16) (harg6 : arg6.IsWhole)
    (arg7 : Memref sig .tc .vmem S1x2048 .f32) (harg7 : arg7.IsWhole)
    (arg8 : Memref sig .tc .vmem S1x2048 .f32) (harg8 : arg8.IsWhole)
    (hc0 : ¬k1_cond1 i = 1#1) (hc1 : k1_cond2 i = 1#1)
    (x0 : Vec F S256x2048 .f32) (x1 : Vec F S256x2048 .f32) (x2 : Vec F S256x1 .f32) (x3 : Vec F S1x2048 .f32) (x6 : Vec F S1x2048 .f32) (x7 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare x6 ∗ owns (c : Thread nD τ) arg8 fullShare x7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k1_pay4 x0 x1 x3 x2) ∗ owns (c : Thread nD τ) arg6 fullShare (k1_pay5 x0 x1 x3 x2) ∗ owns (c : Thread nD τ) arg7 fullShare (k1_pay1 (k1_pay6 x0 x1) x6) ∗ owns (c : Thread nD τ) arg8 fullShare (k1_pay2 (k1_pay7 x0) x7)) -∗ K ⟨⟩))
      ⊢ wp frame (wpE (defs₀ (F := F)) Variants.none c none) E (cc1_ln1_bwd i arg1 harg1 arg2 harg2 arg3 harg3 arg4 harg4 arg5 harg5 arg6 harg6 arg7 harg7 arg8 harg8) K := by
  simp only [cc1_ln1_bwd_eq_skeleton]; unfold cc1_ln1_bwd_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  subst hf0 hf1 hf2 hf3 hf6 hf7
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_full _ _ _ _ _).trans ?_
    simp only [ld_rows, ld_row, ld_col] <;> rfl
  isplitl [H5]
  · iexists _; isplitr
    swap; · iexact H5
    ipureintro
    refine (View.read_writes_full _ _ _ _ _).trans ?_
    simp only [ld_rows, ld_row, ld_col] <;> rfl
  isplitl [H6]
  · iexists _; isplitr
    swap; · iexact H6
    ipureintro
    refine (View.read_writes_full _ _ _ _ _).trans ?_
    simp only [ld_rows, ld_row, ld_col] <;> rfl
  iexists _; isplitr
  swap; · iexact H7
  ipureintro
  refine (View.read_writes_full _ _ _ _ _).trans ?_
  simp only [ld_rows, ld_row, ld_col] <;> rfl

end Cert.LnValue

end
-- ==== Proof.LnData.lean ====
/-
  The norm regions at given entry contents: what each window holds at each point, and the bodies there.
-/
module

public import proofs.«01_k».proof.Proof.LnKernel
public import Idealize.ShloMosaic.Lib.Pipeline.TableIdle
public import proofs.«01_k».proof.Proof.Gen.LnIdeal.Launch
public import proofs.«01_k».proof.Proof.Gen.LnIdeal.Points
public import Idealize.ShloMosaic.Lib.Pipeline.FrameBody
public import Idealize.ShloMosaic.Lib.Pipeline.FrameSuffix
public import Idealize.ShloMosaic.Lib.Pipeline.RegionsLoop
public import Idealize.ShloMosaic.Lib.Ring

@[expose] public section

set_option maxRecDepth 16384

noncomputable section

namespace Cert.LnValue

open LnIdeal LnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The forward region -/

/-- A window's block at a point, of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's proof data: the inputs' buffers at their blocks, the outputs' at the body's functions of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay4 (iblk0 V c 0 t) (iblk0 V c 1 t) (iblk0 V c 2 t) (iblk0 V c 3 t)
    | ⟨5, _⟩ => k0_pay5 (iblk0 V c 0 t) (iblk0 V c 1 t) (iblk0 V c 2 t) (iblk0 V c 3 t)
    | ⟨6, _⟩ => k0_pay3 (iblk0 V c 0 t) (iblk0 V c 1 t)
    | ⟨7, _⟩ => k0_pay2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay4 (iblk0 V c 0 t) (iblk0 V c 1 t) (iblk0 V c 2 t) (iblk0 V c 3 t) := by dsimp only [dat0]
theorem after0_5 (c : Dev nD) (t : Fin cfg0.N) : (dat0 V c).after 5 t = k0_pay5 (iblk0 V c 0 t) (iblk0 V c 1 t) (iblk0 V c 2 t) (iblk0 V c 3 t) := by dsimp only [dat0]
theorem after0_6 (c : Dev nD) (t : Fin cfg0.N) : (dat0 V c).after 6 t = k0_pay3 (iblk0 V c 0 t) (iblk0 V c 1 t) := by dsimp only [dat0]
theorem after0_7 (c : Dev nD) (t : Fin cfg0.N) : (dat0 V c).after 7 t = k0_pay2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-- What the body is called with at a point, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row0 (t : Fin cfg0.N) :
    defs₀ (F := F) .tc cfg0.body (cfg0.bodyArgs t (cfg0.slots t)) = bodyAt0 t := by
  unfold defs₀; rw [Defs.onTc_tc]

/-- The body's obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # The backward region -/

/-- A window's block at a point, of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two running sums after point `n`. -/
def accAt (c : Dev nD) : (n : ℕ) → n < cfg1.N → FVec F S1x2048 .f32 × FVec F S1x2048 .f32
  | 0, h => (k1_pay6 (iblk1 V c 0 ⟨0, h⟩) (iblk1 V c 1 ⟨0, h⟩), k1_pay7 (iblk1 V c 0 ⟨0, h⟩))
  | n + 1, h => (k1_pay1 (k1_pay6 (iblk1 V c 0 ⟨n + 1, h⟩) (iblk1 V c 1 ⟨n + 1, h⟩)) (accAt c n (Nat.lt_of_succ_lt h)).1,
      k1_pay2 (k1_pay7 (iblk1 V c 0 ⟨n + 1, h⟩)) (accAt c n (Nat.lt_of_succ_lt h)).2)

/-- The branches of the body: the first point, and the later ones. -/
theorem first1 : ∀ t : Fin cfg1.N, k1_cond1 (grid1.coords t) = 1#1 ↔ t.val = 0 :=
  (by decide +kernel : ∀ t : Fin grid1.N, k1_cond1 (grid1.coords t) = 1#1 ↔ t.val = 0)
theorem later1 : ∀ t : Fin cfg1.N, k1_cond2 (grid1.coords t) = 1#1 ↔ t.val ≠ 0 :=
  (by decide +kernel : ∀ t : Fin grid1.N, k1_cond2 (grid1.coords t) = 1#1 ↔ t.val ≠ 0)
/-- No window is idle at a point. -/
theorem live1_6 : ∀ t : Fin cfg1.N, cfg1.idle 6 (grid1.coords t) = false := by decide +kernel
theorem live1_7 : ∀ t : Fin cfg1.N, cfg1.idle 7 (grid1.coords t) = false := by decide +kernel
/-- The running sums' buffers hold junk at the first point only. -/
def tab1 : ℕ → Bool
  | 0 => true
  | n + 1 => n == 7
theorem fresh1_6 (t : Fin cfg1.N) : cfg1.fresh 6 t.val = tab1 t.val :=
  Pipeline.Cfg.fresh_tab cfg1 6 tab1 rfl (by decide +kernel) t.val (Nat.le_of_lt t.isLt)
theorem fresh1_7 (t : Fin cfg1.N) : cfg1.fresh 7 t.val = tab1 t.val :=
  Pipeline.Cfg.fresh_tab cfg1 7 tab1 rfl (by decide +kernel) t.val (Nat.le_of_lt t.isLt)
theorem tab1_later : ∀ t : Fin cfg1.N, t.val ≠ 0 → tab1 t.val = false :=
  (by decide +kernel : ∀ t : Fin grid1.N, t.val ≠ 0 → tab1 t.val = false)

/-- The running sums at a later point. -/
theorem accAt_later (c : Dev nD) (t : Fin cfg1.N) (h : t.val ≠ 0) :
    accAt V c t.val t.isLt = (k1_pay1 (k1_pay6 (iblk1 V c 0 t) (iblk1 V c 1 t)) (accAt V c (t.val - 1) (lt_of_le_of_lt (Nat.sub_le _ _) t.isLt)).1,
      k1_pay2 (k1_pay7 (iblk1 V c 0 t)) (accAt V c (t.val - 1) (lt_of_le_of_lt (Nat.sub_le _ _) t.isLt)).2) := by
  obtain ⟨n, hn⟩ := t
  cases n with
  | zero => exact absurd rfl h
  | succ n => rfl

/-- The region's proof data: the inputs' buffers at their blocks, the outputs' at the body's functions of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay4 (iblk1 V c 0 t) (iblk1 V c 1 t) (iblk1 V c 3 t) (iblk1 V c 2 t)
    | ⟨5, _⟩ => k1_pay5 (iblk1 V c 0 t) (iblk1 V c 1 t) (iblk1 V c 3 t) (iblk1 V c 2 t)
    | ⟨6, _⟩ => (accAt V c t.val t.isLt).1
    | ⟨7, _⟩ => (accAt V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay4 (iblk1 V c 0 t) (iblk1 V c 1 t) (iblk1 V c 3 t) (iblk1 V c 2 t) := by dsimp only [dat1]
theorem after1_5 (c : Dev nD) (t : Fin cfg1.N) : (dat1 V c).after 5 t = k1_pay5 (iblk1 V c 0 t) (iblk1 V c 1 t) (iblk1 V c 3 t) (iblk1 V c 2 t) := by dsimp only [dat1]
theorem after1_6 (c : Dev nD) (t : Fin cfg1.N) : (dat1 V c).after 6 t = (accAt V c t.val t.isLt).1 := by dsimp only [dat1]
theorem after1_7 (c : Dev nD) (t : Fin cfg1.N) : (dat1 V c).after 7 t = (accAt V c t.val t.isLt).2 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- At a later point a running sum's buffer holds what the point before left. -/
theorem before1_6 (c : Dev nD) (t : Fin cfg1.N) (h : t.val ≠ 0) (d) :
    (dat1 V c).before 6 t d = (accAt V c (t.val - 1) (lt_of_le_of_lt (Nat.sub_le _ _) t.isLt)).1 := by
  rw [Dat.before_out_traj _ 6 rfl (fun _ _ => rfl) (fun t _ hi _ => absurd (hi.symm.trans (live1_6 t)) (by decide)) t.val t rfl d,
    if_neg (by rw [fresh1_6 t, tab1_later t h]; exact Bool.false_ne_true)]
  dsimp only [dat1]
theorem before1_7 (c : Dev nD) (t : Fin cfg1.N) (h : t.val ≠ 0) (d) :
    (dat1 V c).before 7 t d = (accAt V c (t.val - 1) (lt_of_le_of_lt (Nat.sub_le _ _) t.isLt)).2 := by
  rw [Dat.before_out_traj _ 7 rfl (fun _ _ => rfl) (fun t _ hi _ => absurd (hi.symm.trans (live1_7 t)) (by decide)) t.val t rfl d,
    if_neg (by rw [fresh1_7 t, tab1_later t h]; exact Bool.false_ne_true)]
  dsimp only [dat1]

/-- What the body is called with at a point, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (st1_0 t) fullShare ((dat1 V c).after 0 t) from by
    unfold Dat.leavesExact; rw [show cfg1.idle 0 (grid1.coords t) = false from rfl], after1_0]
  rw [show (dat1 V c).leavesExact 1 t = owns (c : Thread nD τ) (st1_1 t) fullShare ((dat1 V c).after 1 t) from by
    unfold Dat.leavesExact; rw [show cfg1.idle 1 (grid1.coords t) = false from rfl], after1_1]
  rw [show (dat1 V c).leavesExact 2 t = owns (c : Thread nD τ) (st1_2 t) fullShare ((dat1 V c).after 2 t) from by
    unfold Dat.leavesExact; rw [show cfg1.idle 2 (grid1.coords t) = false from rfl], after1_2]
  rw [show (dat1 V c).leavesExact 3 t = owns (c : Thread nD τ) (st1_3 t) fullShare ((dat1 V c).after 3 t) from by
    unfold Dat.leavesExact; rw [show cfg1.idle 3 (grid1.coords t) = false from rfl], after1_3]
  rw [show (dat1 V c).leavesExact 4 t = owns (c : Thread nD τ) (st1_4 t) fullShare ((dat1 V c).after 4 t) from by
    unfold Dat.leavesExact; rw [show cfg1.idle 4 (grid1.coords t) = false from rfl], after1_4]
  rw [show (dat1 V c).leavesExact 5 t = owns (c : Thread nD τ) (st1_5 t) fullShare ((dat1 V c).after 5 t) from by
    unfold Dat.leavesExact; rw [show cfg1.idle 5 (grid1.coords t) = false from rfl], after1_5]
  rw [show (dat1 V c).leavesExact 6 t = owns (c : Thread nD τ) (st1_6 t) fullShare ((dat1 V c).after 6 t) from by
    unfold Dat.leavesExact; rw [show cfg1.idle 6 (grid1.coords t) = false from live1_6 t], after1_6]
  rw [show (dat1 V c).leavesExact 7 t = owns (c : Thread nD τ) (st1_7 t) fullShare ((dat1 V c).after 7 t) from by
    unfold Dat.leavesExact; rw [show cfg1.idle 7 (grid1.coords t) = false from live1_7 t], after1_7]
  by_cases h0 : t.val = 0
  · obtain ⟨n, hn⟩ := t
    obtain rfl : n = 0 := h0
    unfold accAt
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1A c Set.univ (grid1.coords ⟨0, hn⟩) _ _ _ _ _ _ _ _ _ _ _ _ _ _ _ _ ((first1 ⟨0, hn⟩).mpr rfl) (fun h => (later1 ⟨0, hn⟩).mp h rfl)
      (iblk1 V c 0 ⟨0, hn⟩) (iblk1 V c 1 ⟨0, hn⟩) (iblk1 V c 2 ⟨0, hn⟩) (iblk1 V c 3 ⟨0, hn⟩) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [before1_6 V c t h0, before1_7 V c t h0]
    rw [accAt_later V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1B c Set.univ (grid1.coords t) _ _ _ _ _ _ _ _ _ _ _ _ _ _ _ _ (fun h => h0 ((first1 t).mp h)) ((later1 t).mpr h0)
      (iblk1 V c 0 t) (iblk1 V c 1 t) (iblk1 V c 2 t) (iblk1 V c 3 t) _ _ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row1 (t : Fin cfg1.N) :
    defs₀ (F := F) .tc cfg1.body (cfg1.bodyArgs t (cfg1.slots t)) = bodyAt1 t := by
  unfold defs₀; rw [Defs.onTc_tc]

/-- The body's obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.LnValue

end
-- ==== Proof.LnRun.lean ====
/-
  The run of the norm program, with every array's contents at the end.
-/
module

public import proofs.«01_k».proof.Proof.LnData

@[expose] public section

set_option maxRecDepth 16384

noncomputable section

namespace Cert.LnValue

open LnIdeal LnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4]

/-! ## The buffers' contents between the segments -/

/-- At launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

theorem hostOps0_fresh : (hostOps0 : List (HloOp τ sig (Elt F))).Forall fun op => op.fresh = ∅ := by
  simp only [List.Forall]; repeat' constructor
/-- What the stretch writes. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)
/-- After the host stretch. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b

/-- After region 0: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After region 1: its arrays at what its write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The regions as segments -/

abbrev adm : (p : Fin 2) → (pcfgs (F := F) p).Adm := fun p => (cfgs p).toPCfg_adm
/-- Every region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides along: the generator register, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- Region 0 as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The main function's segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

theorem no_unscoped : ∀ sm : SemLoc sig, sm.isScoped .tc = true := by decide

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)
theorem W3_main_arg3 (c : Dev nD) : W3 m ρ c (Proc.devRef .tc main_arg3) = m ((c : Thread nD τ).loc main_arg3) :=
  W3_args m ρ c main_arg3 (by decide)

set_option backward.isDefEq.respectTransparency.types false in
/-- Every run ends with every unscoped buffer at the contents of the last boundary, and every counter at zero. -/
theorem run : θ_run defs (onTc (τ := τ) (main (F := F))) ⟨m, fun _ => 0, ρ⟩ (fun r =>
      (∀ c : Dev nD, ∀ b ∈ Pipeline.ucRefs τ sig, r.2.mem ((c.tc : Thread nD τ).1, b) = W3 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

end Cert.LnValue

end
-- ==== Proof.LnArray.lean ====
/-
  The layer norm: what the forward and the backward region's arrays hold, of real arrays.
-/
module

public import proofs.«01_k».proof.Proof.LnTile
public import proofs.«01_k».proof.Proof.LnRun

@[expose] public section

set_option maxRecDepth 16384

noncomputable section

namespace Cert.LnValue

open Idealize.ShloMosaic Idealize.ShloMosaic.TcCoe Idealize.SL.Sem
open Idealize.ShloMosaic.Pipeline (Dat)
open LnIdeal LnIdeal.Gen LnReal Reals
open AttnRefRead (mat vec)

/-- Which block of each array a grid point works on, forwards. -/
theorem idx0 : ∀ t : Fin cfg0.N, win0_0.index t = ![t.val, 0] ∧ win0_1.index t = ![t.val, 0] ∧ win0_2.index t = ![0, 0] ∧
    win0_3.index t = ![0, 0] ∧ win0_4.index t = ![t.val, 0] ∧ win0_5.index t = ![t.val, 0] ∧ win0_6.index t = ![t.val, 0] ∧
    win0_7.index t = ![t.val, 0] := (by decide +kernel : ∀ t : Fin grid0.N, _)
/-- The same, backwards. -/
theorem idx1 : ∀ t : Fin cfg1.N, win1_0.index t = ![t.val, 0] ∧ win1_1.index t = ![t.val, 0] ∧ win1_2.index t = ![t.val, 0] ∧
    win1_3.index t = ![0, 0] ∧ win1_4.index t = ![t.val, 0] ∧ win1_5.index t = ![t.val, 0] ∧ win1_6.index t = ![0, 0] ∧
    win1_7.index t = ![0, 0] := (by decide +kernel : ∀ t : Fin grid1.N, _)

variable (V : (c : Dev nD) → (b : Ref sig .tc) → Buf (Elt Ideal) ((c : Thread nD τ).loc b)) (c : Dev nD)
  (x a : ℕ → ℕ → ℝ) (g b : ℕ → ℝ)
  (hx : V c main_arg0 = mat x) (ha : V c main_arg1 = mat a) (hg : V c main_v0 = mat fun _ j => g j) (hb : V c main_v1 = mat fun _ j => b j)

include hx ha hg hb in
/-- The forward region's blocks. -/
theorem blocks0 (t : Fin cfg0.N) :
    iblk0 V c 0 t = mat (fun i j => x (t.val * 256 + i) j) ∧ iblk0 V c 1 t = mat (fun i j => a (t.val * 256 + i) j) ∧
    iblk0 V c 2 t = mat (fun _ j => g j) ∧ iblk0 V c 3 t = mat (fun _ j => b j) := by
  refine ⟨?_, ?_, ?_, ?_⟩ <;> funext y <;> unfold iblk0
  · refine (congrFun hx _).trans ?_
    blk_simp [idx0 t, mat]
  · refine (congrFun ha _).trans ?_
    blk_simp [idx0 t, mat]
  · refine (congrFun hg _).trans ?_
    blk_simp [idx0 t, mat]
  · refine (congrFun hb _).trans ?_
    blk_simp [idx0 t, mat]

include hx ha hg hb in
/-- The output. -/
theorem arr_out : (dat0 V c).arrAt 4 cfg0.N = mat (out x a g b) := by
  refine (dat0 V c).arrAt_eq_of_covers 4 _ (by decide +kernel) fun t _ y => ?_
  obtain ⟨b0, b1, b2, b3⟩ := blocks0 V c x a g b hx ha hg hb t
  blk_simp
  rw [after0_4, b0, b1, b2, b3, pay_out]
  blk_simp [idx0 t, mat]
  rfl

include hx ha hg hb in
/-- The output, cast. -/
theorem arr_outb : (dat0 V c).arrAt 5 cfg0.N = mat (out x a g b) := by
  refine (dat0 V c).arrAt_eq_of_covers 5 _ (by decide +kernel) fun t _ y => ?_
  obtain ⟨b0, b1, b2, b3⟩ := blocks0 V c x a g b hx ha hg hb t
  blk_simp
  rw [after0_5, b0, b1, b2, b3, pay_outb]
  blk_simp [idx0 t, mat]
  rfl

include hx ha hg hb in
/-- The normalised rows. -/
theorem arr_xh : (dat0 V c).arrAt 6 cfg0.N = mat (xh x a) := by
  refine (dat0 V c).arrAt_eq_of_covers 6 _ (by decide +kernel) fun t _ y => ?_
  obtain ⟨b0, b1, b2, b3⟩ := blocks0 V c x a g b hx ha hg hb t
  blk_simp
  rw [after0_6, b0, b1, pay_xh]
  blk_simp [idx0 t, mat]
  rfl

include hx ha hg hb in
/-- The reciprocal deviations. -/
theorem arr_rs : (dat0 V c).arrAt 7 cfg0.N = mat fun i _ => rs x a i := by
  refine (dat0 V c).arrAt_eq_of_covers 7 _ (by decide +kernel) fun t _ y => ?_
  obtain ⟨b0, b1, b2, b3⟩ := blocks0 V c x a g b hx ha hg hb t
  blk_simp
  rw [after0_7, b0, b1, pay_rs]
  blk_simp [idx0 t, mat]
  rfl

variable (dy : ℕ → ℕ → ℝ) (hd : V c main_arg4 = mat dy) (hh : V c main_v2_2 = mat (xh x a)) (hr : V c main_v2_3 = mat fun i _ => rs x a i)

include hd hh hr hg in
/-- The backward region's blocks. -/
theorem blocks1 (t : Fin cfg1.N) :
    iblk1 V c 0 t = mat (fun i j => dy (t.val * 256 + i) j) ∧ iblk1 V c 1 t = mat (fun i j => xh x a (t.val * 256 + i) j) ∧
    iblk1 V c 2 t = mat (fun i _ => rs x a (t.val * 256 + i)) ∧ iblk1 V c 3 t = mat (fun _ j => g j) := by
  refine ⟨?_, ?_, ?_, ?_⟩ <;> funext y <;> unfold iblk1
  · refine (congrFun hd _).trans ?_
    blk_simp [idx1 t, mat]
  · refine (congrFun hh _).trans ?_
    blk_simp [idx1 t, mat]
  · refine (congrFun hr _).trans ?_
    blk_simp [idx1 t, mat]
  · refine (congrFun hg _).trans ?_
    blk_simp [idx1 t, mat]

include hd hh hr hg in
/-- The gradient in the residual sum. -/
theorem arr_dr : (dat1 V c).arrAt 4 cfg1.N = mat (dr x a g dy) := by
  refine (dat1 V c).arrAt_eq_of_covers 4 _ (by decide +kernel) fun t _ y => ?_
  obtain ⟨b0, b1, b2, b3⟩ := blocks1 V c x a g hg dy hd hh hr t
  blk_simp
  rw [after1_4, b0, b1, b2, b3, pay_dr]
  blk_simp [idx1 t, mat]
  rfl

include hd hh hr hg in
/-- The gradient in the residual sum, cast. -/
theorem arr_drb : (dat1 V c).arrAt 5 cfg1.N = mat (dr x a g dy) := by
  refine (dat1 V c).arrAt_eq_of_covers 5 _ (by decide +kernel) fun t _ y => ?_
  obtain ⟨b0, b1, b2, b3⟩ := blocks1 V c x a g hg dy hd hh hr t
  blk_simp
  rw [after1_5, b0, b1, b2, b3, pay_drb]
  blk_simp [idx1 t, mat]
  rfl

include hd hh hr hg in
/-- The running sums after a point: the sums over the rows of the blocks so far. -/
theorem acc_eq : ∀ (n : ℕ) (h : n < cfg1.N),
    (accAt V c n h).1 = (mat fun _ j => upTo (fun i j => dy i j * xh x a i j) (n + 1) j : FVec Ideal S1x2048 .f32) ∧
    (accAt V c n h).2 = (mat fun _ j => upTo dy (n + 1) j : FVec Ideal S1x2048 .f32) := by
  intro n
  induction n with
  | zero =>
    intro h
    obtain ⟨b0, b1, -, -⟩ := blocks1 V c x a g hg dy hd hh hr ⟨0, h⟩
    unfold accAt
    dsimp only
    rw [b0, b1, pay_dg, pay_db]
    simp only [upTo_succ, upTo_zero, zero_add, and_self]
  | succ n ih =>
    intro h
    obtain ⟨b0, b1, -, -⟩ := blocks1 V c x a g hg dy hd hh hr ⟨n + 1, h⟩
    obtain ⟨e1, e2⟩ := ih (Nat.lt_of_succ_lt h)
    unfold accAt
    dsimp only
    rw [b0, b1, pay_dg, pay_db, e1, e2, (pay_add _ _).1, (pay_add _ _).2]
    simp only [upTo_succ _ (n + 1), and_self]

/-- The last grid point. -/
def tLast : Fin cfg1.N := ⟨7, (by decide +kernel : 7 < grid1.N)⟩

include hd hh hr hg in
/-- The gain's gradient. -/
theorem arr_dg : (dat1 V c).arrAt 6 cfg1.N = mat fun _ j => dg x a dy j := by
  refine (dat1 V c).arrAt_eq_of_after_last 6 tLast (by decide +kernel) _ fun y => ?_
  blk_simp
  rw [after1_6, (acc_eq V c x a g hg dy hd hh hr _ _).1]
  have e : ∀ j, upTo (fun i j => dy i j * xh x a i j) (tLast.val + 1) j = dg x a dy j := fun j => upTo_all _ j
  simp only [e]

include hd hh hr hg in
/-- The offset's gradient. -/
theorem arr_db : (dat1 V c).arrAt 7 cfg1.N = mat fun _ j => db dy j := by
  refine (dat1 V c).arrAt_eq_of_after_last 7 tLast (by decide +kernel) _ fun y => ?_
  blk_simp
  rw [after1_7, (acc_eq V c x a g hg dy hd hh hr _ _).2]
  have e : ∀ j, upTo dy (tLast.val + 1) j = db dy j := fun j => upTo_all _ j
  simp only [e]

end Cert.LnValue

end
-- ==== Proof.LnRef.lean ====
/-
  The layer norm's reference at real arrays: each value of the program, read at an index.
-/
module

public import proofs.«01_k».proof.Proof.LnTile
public import proofs.«01_k».proof.Proof.AttnRef
public import proofs.«01_k».proof.Proof.Finite
public import proofs.«01_k».proof.Proof.Gen.LnRefIdeal.Read

@[expose] public section

set_option maxRecDepth 16384

noncomputable section

namespace Cert.LnRefRead

open Idealize.ShloMosaic Idealize.ShloMosaic.TcCoe
open LnRefIdeal LnRefIdeal.Gen LnRefIdeal.Read LnReal Reals
open AttnRefRead (mat vec)
open LnValue (word_alpha word_eps word_n div_n rsqrt_of_pos)

theorem word_zero : Ideal.ofBits .f32 0x00000000#32 = ((0 : ℝ) : EReal) := by
  simp [Ideal.ofBits, Ideal.ieee, -EReal.coe_mul]
theorem word_two : Ideal.ofBits .f32 0x40000000#32 = ((2 : ℝ) : EReal) := by
  simp [Ideal.ofBits, Ideal.ieee, -EReal.coe_mul]; norm_num
theorem word_neg_half : Ideal.ofBits .f32 0xBF000000#32 = ((-0.5 : ℝ) : EReal) := by
  simp [Ideal.ofBits, Ideal.ieee, -EReal.coe_mul]; norm_num

/-- The host's operations, on reals. -/
theorem ops (p q : ℝ) :
    (FloatOps.mulf (F := Ideal) (φ := .f32) (p : EReal) (q : EReal) = ((p * q : ℝ) : EReal)) ∧
    (FloatOps.addf (F := Ideal) (φ := .f32) (p : EReal) (q : EReal) = ((p + q : ℝ) : EReal)) ∧
    (FloatOps.subf (F := Ideal) (φ := .f32) (p : EReal) (q : EReal) = ((p - q : ℝ) : EReal)) ∧
    (FloatOps.hostNegf (F := Ideal) (φ := .f32) (p : EReal) = ((-p : ℝ) : EReal)) ∧
    (FloatOps.hostDivf (F := Ideal) (φ := .f32) (p : EReal) ((2048 : ℝ) : EReal) = ((p / 2048 : ℝ) : EReal)) :=
  ⟨(EReal.coe_mul _ _).symm, (EReal.coe_add _ _).symm, (EReal.coe_sub _ _).symm, (EReal.coe_neg _).symm, div_n _⟩

/-- A sum of reals from a zero word. -/
theorem sum_from {n : ℕ} (f : Fin n → ℝ) (e : Fin n → EReal) (h : ∀ k, e k = ((f k : ℝ) : EReal)) :
    (FloatOps.ofBits .f32 0x00000000#32 : Ideal .f32) + ∑ k, e k = ((∑ k, f k : ℝ) : EReal) := by
  show Ideal.ofBits .f32 0x00000000#32 + ∑ k, e k = _
  rw [word_zero, EReal.coe_zero, zero_add, ← sum_coe]
  exact Finset.sum_congr rfl fun k _ => h k

/-- A column's index as a row's. -/
theorem col (y : S2048.Idx) (j : S2048x1.Idx) (h : (y 0).val = (j 0).val * 1 + (j 1).val) : y = ix1 (j 0) := by
  have h1 : (j 1).val < 1 := (j 1).isLt
  funext d
  match d with
  | ⟨0, _⟩ => exact Fin.ext (h.trans (by show (j 0).val * 1 + (j 1).val = (j 0).val; omega))

variable (x a : ℕ → ℕ → ℝ) (g b : ℕ → ℝ) (dy : ℕ → ℕ → ℝ)

/-- The residual sum. -/
theorem r2 (i : S2048x2048.Idx) : val_main_v2 (F := Ideal) (mat x) (mat a) i = ((res x a (i 0).val (i 1).val : ℝ) : EReal) := by
  rw [val_main_v2_apply, val_main_v1_apply, val_main_v0_apply, val_main_cst_apply]
  simp only [Ideal.ofBits_def, word_alpha]
  exact (congrArg₂ (fun p q : EReal => p + q) (EReal.coe_mul _ _).symm rfl).trans (EReal.coe_add _ _).symm

/-- The row's mean. -/
theorem r6 (i : S2048x1.Idx) : val_main_v6 (F := Ideal) (mat x) (mat a) i = ((mean x a (i 0).val : ℝ) : EReal) := by
  rw [val_main_v6_apply, val_main_v4_apply, val_main_v3_apply, val_main_v5_apply, val_main_cst_1_apply, val_main_cst_0_apply,
    sum_from _ _ fun k => r2 x a _, Ideal.ofBits_def, word_n, (ops _ 0).2.2.2.2]
  rfl

/-- The centred rows. -/
theorem r8 (i : S2048x2048.Idx) : val_main_v8 (F := Ideal) (mat x) (mat a) i = ((cen x a (i 0).val (i 1).val : ℝ) : EReal) := by
  rw [val_main_v8_apply, val_main_v7_apply, r2, r6, (ops _ _).2.2.1]
  rfl
theorem r17 (i : S2048x2048.Idx) : val_main_v17 (F := Ideal) (mat x) (mat a) i = ((cen x a (i 0).val (i 1).val : ℝ) : EReal) := by
  rw [val_main_v17_apply, val_main_v16_apply, r2, r6, (ops _ _).2.2.1]
  rfl

/-- The variance plus the offset. -/
theorem r19 (i : S2048x1.Idx) : val_main_v19 (F := Ideal) (mat x) (mat a) i = ((vr x a (i 0).val : ℝ) : EReal) := by
  have h9 : ∀ j, val_main_v9 (F := Ideal) (mat x) (mat a) j = ((cen x a (j 0).val (j 1).val * cen x a (j 0).val (j 1).val : ℝ) : EReal) := fun j => by
    rw [val_main_v9_apply, r8, (ops _ _).1]
  rw [val_main_v19_apply, val_main_v15_apply, val_main_v13_apply, val_main_v12_apply, val_main_v14_apply, val_main_cst_4_apply,
    val_main_cst_3_apply, sum_from _ _ fun k => h9 _, Ideal.ofBits_def, word_n, (ops _ 0).2.2.2.2, val_main_v18_apply, val_main_cst_5_apply,
    Ideal.ofBits_def, word_eps, (ops _ _).2.1]
  rfl

/-- The reciprocal deviation. -/
theorem r20 (i : S2048x1.Idx) : val_main_v20 (F := Ideal) (mat x) (mat a) i = ((rs x a (i 0).val : ℝ) : EReal) := by
  rw [val_main_v20_apply, r19]
  exact rsqrt_of_pos _ (vr_pos x a _)

/-- Its derivative's factor. -/
theorem r23 (i : S2048x1.Idx) : val_main_v23 (F := Ideal) (mat x) (mat a) i
    = ((-0.5 * (rs x a (i 0).val / vr x a (i 0).val) : ℝ) : EReal) := by
  have h : FloatOps.hostDivf (F := Ideal) (φ := .f32) ((rs x a (i 0).val : ℝ) : EReal) ((vr x a (i 0).val : ℝ) : EReal)
      = ((rs x a (i 0).val / vr x a (i 0).val : ℝ) : EReal) := div_coe_coe _ (vr_pos x a _).ne'
  rw [val_main_v23_apply, val_main_v21_apply, r19, r20, h, val_main_v22_apply, val_main_cst_6_apply, Ideal.ofBits_def, word_neg_half,
    (ops _ _).1]

/-- The normalised rows. -/
theorem r25 (i : S2048x2048.Idx) : val_main_v25 (F := Ideal) (mat x) (mat a) i = ((xh x a (i 0).val (i 1).val : ℝ) : EReal) := by
  rw [val_main_v25_apply, val_main_v24_apply, r17, r20, (ops _ _).1]
  rfl

/-- The output. -/
theorem r31 (i : S2048x2048.Idx) : val_main_v31 (F := Ideal) (mat x) (mat a) (vec g) (vec b) i
    = ((out x a g b (i 0).val (i 1).val : ℝ) : EReal) := by
  rw [val_main_v31_apply, val_main_v28_apply, r25, val_main_v27_apply, val_main_v26_apply, val_main_v30_apply, val_main_v29_apply]
  refine Eq.trans (congrArg₂ (fun p q : EReal => p + q) (ops _ _).1 rfl) (ops _ _).2.1

/-- The output's two results. -/
theorem out_y : val_main_v31 (F := Ideal) (mat x) (mat a) (vec g) (vec b) = mat (out x a g b) := funext (r31 x a g b)
theorem out_yb : val_main_v66 (F := Ideal) (mat x) (mat a) (vec g) (vec b) = mat (out x a g b) :=
  funext fun i => (val_main_v66_apply _ _ _ _ i).trans (r31 x a g b i)

/-- The offset's gradient. -/
theorem out_db : val_main_v69 (F := Ideal) (mat dy) = mat fun _ j => db dy j := by
  funext i
  have h1 : (i 1).val < 2048 := (i 1).isLt
  rw [val_main_v69_apply, val_main_v35_apply, val_main_cst_8_apply]
  refine (sum_from (fun _ => db dy (i 1).val) _ fun k => ?_).trans (by rw [Fin.sum_const, one_smul]; rfl)
  rw [val_main_v34_apply, val_main_v33_apply, val_main_cst_7_apply]
  refine sum_from _ _ fun r => congrArg (fun z : ℕ => ((dy r.val z : ℝ) : EReal)) ?_
  have hk : k.val < 1 := k.isLt
  have h0 : (i 0).val < 1 := (i 0).isLt
  show k.val * 2048 + ((i 0).val * 2048 + (i 1).val) = (i 1).val
  omega

/-- The cotangent by the normalised rows. -/
theorem r36 (i : S2048x2048.Idx) : val_main_v36 (F := Ideal) (mat x) (mat a) (mat dy) i
    = ((dy (i 0).val (i 1).val * xh x a (i 0).val (i 1).val : ℝ) : EReal) := by
  have h0 : (i 0).val < 2048 := (i 0).isLt
  have h1 : (i 1).val < 2048 := (i 1).isLt
  have e : val_main_v32 (F := Ideal) (mat dy) i = ((dy (i 0).val (i 1).val : ℝ) : EReal) := by
    rw [val_main_v32_apply]
    unfold mat
    congr 2 <;> dsimp only <;> omega
  rw [val_main_v36_apply, r25, e, (ops _ _).1, mul_comm]

/-- The gain's gradient. -/
theorem out_dg : val_main_v68 (F := Ideal) (mat x) (mat a) (mat dy) = mat fun _ j => dg x a dy j := by
  funext i
  have h1 : (i 1).val < 2048 := (i 1).isLt
  rw [val_main_v68_apply, val_main_v41_apply, val_main_cst_10_apply]
  refine (sum_from (fun _ => dg x a dy (i 1).val) _ fun k => ?_).trans (by rw [Fin.sum_const, one_smul]; rfl)
  rw [val_main_v38_apply, val_main_v37_apply, val_main_cst_9_apply]
  refine sum_from _ _ fun r => (r36 x a dy _).trans (congrArg (fun z : ℕ => ((dy r.val z * xh x a r.val z : ℝ) : EReal)) ?_)
  have hk : k.val < 1 := k.isLt
  have h0 : (i 0).val < 1 := (i 0).isLt
  show k.val * 2048 + ((i 0).val * 2048 + (i 1).val) = (i 1).val
  omega

/-- The gradient in the normalised rows. -/
theorem r40 (i : S2048x2048.Idx) : val_main_v40 (F := Ideal) (vec g) (mat dy) i = ((dxh g dy (i 0).val (i 1).val : ℝ) : EReal) := by
  have h0 : (i 0).val < 2048 := (i 0).isLt
  have h1 : (i 1).val < 2048 := (i 1).isLt
  have e : val_main_v32 (F := Ideal) (mat dy) i = ((dy (i 0).val (i 1).val : ℝ) : EReal) := by
    rw [val_main_v32_apply]
    unfold mat
    congr 2 <;> dsimp only <;> omega
  rw [val_main_v40_apply, val_main_v39_apply, val_main_v26_apply, e]
  exact (ops _ _).1

/-- The gradient's direct part. -/
theorem r46 (i : S2048x2048.Idx) : val_main_v46 (F := Ideal) (mat x) (mat a) (vec g) (mat dy) i
    = ((dxh g dy (i 0).val (i 1).val * rs x a (i 0).val : ℝ) : EReal) := by
  rw [val_main_v46_apply, r40, val_main_v45_apply, r20]
  exact (ops _ _).1

/-- The gradient's part through the variance. -/
theorem r55 (i : S2048x2048.Idx) : val_main_v55 (F := Ideal) (mat x) (mat a) (vec g) (mat dy) i
    = ((slope x a g dy (i 0).val * (2 * cen x a (i 0).val (i 1).val) : ℝ) : EReal) := by
  have h0 : (i 0).val < 2048 := (i 0).isLt
  have h42 : ∀ j, val_main_v42 (F := Ideal) (mat x) (mat a) (vec g) (mat dy) j
      = ((cen x a (j 0).val (j 1).val * dxh g dy (j 0).val (j 1).val : ℝ) : EReal) := fun j => by
    rw [val_main_v42_apply, r17, r40, (ops _ _).1]
  have h52 : ∀ j, val_main_v52 (F := Ideal) (mat x) (mat a) (vec g) (mat dy) j = ((slope x a g dy (j 0).val : ℝ) : EReal) := fun j => by
    have e : idx_main_v44 j = (ix1 (j 0) : S2048.Idx) := col _ j rfl
    rw [val_main_v52_apply, val_main_v47_apply, r23, val_main_v44_apply, e, val_main_v43_apply, val_main_cst_11_apply,
      sum_from _ _ fun k => h42 _, (ops _ _).1, val_main_v51_apply, val_main_cst_13_apply, Ideal.ofBits_def, word_n, (ops _ 0).2.2.2.2]
    rfl
  have h54 : val_main_v54 (F := Ideal) (mat x) (mat a) (vec g) (mat dy) i = ((slope x a g dy (i 0).val : ℝ) : EReal) := by
    rw [val_main_v54_apply, val_main_v53_apply, val_main_cst_14_apply]
    refine (sum_from (fun _ => slope x a g dy (i 0).val) _ fun k => ?_).trans (by rw [Fin.sum_const, one_smul])
    rw [h52]
  rw [val_main_v55_apply, h54, val_main_v11_apply, val_main_v10_apply, r8, val_main_cst_2_apply, Ideal.ofBits_def, word_two, (ops _ _).1,
    (ops _ _).1]

/-- The gradient. -/
theorem r65 (i : S2048x2048.Idx) : val_main_v65 (F := Ideal) (mat x) (mat a) (vec g) (mat dy) i
    = ((dr x a g dy (i 0).val (i 1).val : ℝ) : EReal) := by
  have h48 : ∀ j, val_main_v48 (F := Ideal) (mat x) (mat a) (vec g) (mat dy) j
      = ((-(dxh g dy (j 0).val (j 1).val * rs x a (j 0).val) : ℝ) : EReal) := fun j => by
    rw [val_main_v48_apply, r46, (ops _ 0).2.2.2.1]
  have h56 : ∀ j, val_main_v56 (F := Ideal) (mat x) (mat a) (vec g) (mat dy) j
      = ((-(slope x a g dy (j 0).val * (2 * cen x a (j 0).val (j 1).val)) : ℝ) : EReal) := fun j => by
    rw [val_main_v56_apply, r55, (ops _ 0).2.2.2.1]
  have h62 : ∀ j, val_main_v62 (F := Ideal) (mat x) (mat a) (vec g) (mat dy) j
      = (((∑ k : Fin 2048, -(dxh g dy (j 0).val k.val * rs x a (j 0).val)
        + ∑ k : Fin 2048, -(slope x a g dy (j 0).val * (2 * cen x a (j 0).val k.val))) / 2048 : ℝ) : EReal) := fun j => by
    have e : idx_main_v50 j = (ix1 (j 0) : S2048.Idx) := col _ j rfl
    have e' : idx_main_v58 j = (ix1 (j 0) : S2048.Idx) := col _ j rfl
    rw [val_main_v62_apply, val_main_v60_apply, val_main_v50_apply, e, val_main_v49_apply, val_main_cst_12_apply, sum_from _ _ fun k => h48 _,
      val_main_v58_apply, e', val_main_v57_apply, val_main_cst_15_apply, sum_from _ _ fun k => h56 _, (ops _ _).2.1, val_main_v61_apply,
      val_main_cst_16_apply, Ideal.ofBits_def, word_n, (ops _ 0).2.2.2.2]
    rfl
  have h64 : val_main_v64 (F := Ideal) (mat x) (mat a) (vec g) (mat dy) i
      = (((∑ k : Fin 2048, -(dxh g dy (i 0).val k.val * rs x a (i 0).val)
        + ∑ k : Fin 2048, -(slope x a g dy (i 0).val * (2 * cen x a (i 0).val k.val))) / 2048 : ℝ) : EReal) := by
    rw [val_main_v64_apply, val_main_v63_apply, val_main_cst_17_apply]
    refine (sum_from (fun _ => (∑ k : Fin 2048, -(dxh g dy (i 0).val k.val * rs x a (i 0).val)
        + ∑ k : Fin 2048, -(slope x a g dy (i 0).val * (2 * cen x a (i 0).val k.val))) / 2048) _ fun k => ?_).trans (by rw [Fin.sum_const, one_smul])
    rw [h62]
  rw [val_main_v65_apply, val_main_v59_apply, r46, r55, (ops _ _).2.1, h64, (ops _ _).2.1]
  exact congrArg _ (dr_eq x a g dy (i 0).val (i 1).val)

/-- The gradient's two results. -/
theorem out_dr : val_main_v65 (F := Ideal) (mat x) (mat a) (vec g) (mat dy) = mat (dr x a g dy) := funext (r65 x a g dy)
theorem out_drb : val_main_v67 (F := Ideal) (mat x) (mat a) (vec g) (mat dy) = mat (dr x a g dy) :=
  funext fun i => (val_main_v67_apply _ _ _ _ i).trans (r65 x a g dy i)

end Cert.LnRefRead

end
-- ==== Proof.LnClaim.lean ====
/-
  The layer norm's claims: its frames, and that its six results (the output and the residual sum's gradient, each also
  cast, and the gradients of the gain and of the offset) are the reference's, of finite arguments.
-/
module

public import proofs.«01_k».proof.Defs
public import proofs.«01_k».proof.Proof.LnArray
public import proofs.«01_k».proof.Proof.LnRef
public import proofs.«01_k».proof.Proof.Gen.LnRefIdeal.Run
public import proofs.«01_k».proof.Proof.Gen.Ln
public import proofs.«01_k».proof.Proof.Gen.Pre_ln_finite

@[expose] public section

set_option maxRecDepth 16384

noncomputable section

namespace Cert.LnValue

open Idealize.ShloMosaic Idealize.ShloMosaic.TcCoe Idealize.SL.Sem
open LnReal Reals
open AttnRefRead (mat vec)

section Frame
open LnIdeal LnIdeal.Gen

/-- A run's end, for the frame. -/
theorem frame_of_run {F : FTy → Type} [FloatOps F] (m : (ℓ : Loc nD τ sig) → Buf (Elt F) ℓ) (ρ : Dev nD → PrngReg) :
    θ_run (LnIdeal.defs (F := F)) (onTc (τ := τ) (LnIdeal.main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run LnIdeal.defs _ _).mono
    (fun _ h => ⟨fun c => ⟨(h.1 c _ (mem_uc main_arg0 (by decide))).trans (W3_args m ρ c main_arg0 (by decide)),
      (h.1 c _ (mem_uc main_arg1 (by decide))).trans (W3_args m ρ c main_arg1 (by decide)),
      (h.1 c _ (mem_uc main_arg2 (by decide))).trans (W3_args m ρ c main_arg2 (by decide)),
      (h.1 c _ (mem_uc main_arg3 (by decide))).trans (W3_args m ρ c main_arg3 (by decide)),
      (h.1 c _ (mem_uc main_arg4 (by decide))).trans (W3_args m ρ c main_arg4 (by decide))⟩, h.2⟩)
    (run m ρ)

/-- The frame of the program printed for the extended reals, read at the bit-exact floats. -/
def FrameAtBits : Prop := ∀ (m : (ℓ : Loc nD τ sig) → Buf (Elt Bits) ℓ) (ρ : Dev nD → PrngReg), Pre_Ln m →
  θ_run (LnIdeal.defs (F := Bits)) (onTc (τ := τ) (LnIdeal.main (F := Bits))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0

end Frame

/-- The two programs are one text. -/
theorem same_text : Cert.quiescent_Ln = FrameAtBits := by sl_kernel_rfl

/-- The frame of the kernel. -/
theorem quiescent_kernel : Cert.quiescent_Ln := same_text ▸ fun m ρ _ => frame_of_run (F := Bits) m ρ
/-- The frame of the kernel over the extended reals. -/
theorem quiescent_ideal : Cert.quiescent_LnIdeal := fun m ρ _ => frame_of_run m ρ
/-- The same, of finite arguments. -/
theorem quiescent_ideal_finite : Cert.quiescent_LnIdeal_pre_ln_finite := fun m ρ _ => frame_of_run m ρ

/-- The frame of the reference, a straight line of host operations. -/
theorem quiescent_ref : Cert.quiescent_LnRefIdeal := fun m ρ _ =>
  (θ_run LnRefIdeal.defs _ _).mono
    (fun r h => ⟨fun c => (h c).2.2.2.2.2.2, sem_eq_zero_of_no_sems (by decide) r.2⟩)
    (LnRefIdeal.Value.run (F := Ideal) m ρ)
/-- The same, of finite arguments. -/
theorem quiescent_ref_finite : Cert.quiescent_LnRefIdeal_pre_ln_finite := fun m ρ _ => quiescent_ref m ρ trivial

section Kernel
open LnIdeal LnIdeal.Gen

variable (m : (ℓ : Loc nD τ sig) → Buf (Elt Ideal) ℓ) (ρ : Dev nD → PrngReg) (c : Dev nD)
  (x a : ℕ → ℕ → ℝ) (g b : ℕ → ℝ) (dy : ℕ → ℕ → ℝ)
  (hx : (m ((c.tc : Thread nD τ).loc main_arg0) : FVec Ideal S2048x2048 .f32) = mat x)
  (ha : (m ((c.tc : Thread nD τ).loc main_arg1) : FVec Ideal S2048x2048 .f32) = mat a)
  (hg : (m ((c.tc : Thread nD τ).loc main_arg2) : FVec Ideal S2048 .f32) = vec g)
  (hb : (m ((c.tc : Thread nD τ).loc main_arg3) : FVec Ideal S2048 .f32) = vec b)
  (hd : (m ((c.tc : Thread nD τ).loc main_arg4) : FVec Ideal S2048x2048 .f32) = mat dy)

include hx in
theorem entry_x : V1 m ρ c main_arg0 = mat x := (W1_args m ρ c main_arg0 (by decide)).trans hx
include ha in
theorem entry_a : V1 m ρ c main_arg1 = mat a := (W1_args m ρ c main_arg1 (by decide)).trans ha

/-- A vector as a row. -/
theorem as_row (x : S2048.Idx → EReal) (y : S1x2048.Idx) : shapeCast S1x2048 x shapeCasts_S2048_S1x2048 y = x (ix1 (y 1)) := by
  pointwise

include hg in
theorem entry_g : V1 m ρ c main_v0 = (mat fun _ j => g j : FVec Ideal S1x2048 .f32) := by
  unfold V1 W1
  after_results_simp
  funext y
  refine (as_row _ y).trans ?_
  exact congrFun hg _

include hb in
theorem entry_b : V1 m ρ c main_v1 = (mat fun _ j => b j : FVec Ideal S1x2048 .f32) := by
  unfold V1 W1
  after_results_simp
  funext y
  refine (as_row _ y).trans ?_
  exact congrFun hb _

include hx ha hg hb in
theorem end_y : W3 m ρ c (Proc.devRef .tc main_v2_0) = mat (out x a g b) :=
  (W3_of m ρ c main_v2_0 (by decide)).trans ((W2_arr m ρ c 4).trans (arr_out (V1 m ρ) c x a g b
    (entry_x m ρ c x hx) (entry_a m ρ c a ha) (entry_g m ρ c g hg) (entry_b m ρ c b hb)))
include hx ha hg hb in
theorem end_yb : W3 m ρ c (Proc.devRef .tc main_v2_1) = mat (out x a g b) :=
  (W3_of m ρ c main_v2_1 (by decide)).trans ((W2_arr m ρ c 5).trans (arr_outb (V1 m ρ) c x a g b
    (entry_x m ρ c x hx) (entry_a m ρ c a ha) (entry_g m ρ c g hg) (entry_b m ρ c b hb)))

include hx ha hg hb in
/-- The normalised rows at the backward region's entry. -/
theorem entry_xh : V2 m ρ c main_v2_2 = mat (xh x a) :=
  (W2_arr m ρ c 6).trans (arr_xh (V1 m ρ) c x a g b
    (entry_x m ρ c x hx) (entry_a m ρ c a ha) (entry_g m ρ c g hg) (entry_b m ρ c b hb))
include hx ha hg hb in
/-- The reciprocal deviations at the backward region's entry. -/
theorem entry_rs : V2 m ρ c main_v2_3 = mat fun i _ => rs x a i :=
  (W2_arr m ρ c 7).trans (arr_rs (V1 m ρ) c x a g b
    (entry_x m ρ c x hx) (entry_a m ρ c a ha) (entry_g m ρ c g hg) (entry_b m ρ c b hb))
include hg in
theorem entry_g' : V2 m ρ c main_v0 = mat fun _ j => g j := (W2_of m ρ c main_v0 (by decide)).trans (entry_g m ρ c g hg)
include hd in
theorem entry_dy : V2 m ρ c main_arg4 = mat dy := (W2_args m ρ c main_arg4 (by decide)).trans hd

include hx ha hg hb hd in
theorem end_back : W3 m ρ c (Proc.devRef .tc main_v3_0) = mat (dr x a g dy) ∧ W3 m ρ c (Proc.devRef .tc main_v3_1) = mat (dr x a g dy) ∧
    W3 m ρ c (Proc.devRef .tc main_v3_2) = (mat fun _ j => dg x a dy j) ∧ W3 m ρ c (Proc.devRef .tc main_v3_3) = mat fun _ j => db dy j := by
  have eg := entry_g' m ρ c g hg
  have ed := entry_dy m ρ c dy hd
  have eh := entry_xh m ρ c x a g b hx ha hg hb
  have er := entry_rs m ρ c x a g b hx ha hg hb
  exact ⟨(W3_arr m ρ c 4).trans (arr_dr (V2 m ρ) c x a g eg dy ed eh er), (W3_arr m ρ c 5).trans (arr_drb (V2 m ρ) c x a g eg dy ed eh er),
    (W3_arr m ρ c 6).trans (arr_dg (V2 m ρ) c x a g eg dy ed eh er), (W3_arr m ρ c 7).trans (arr_db (V2 m ρ) c x a g eg dy ed eh er)⟩

end Kernel

open LnIdeal LnIdeal.Gen in
/-- The kernel's six results are the reference's, of finite arguments. -/
theorem algebraic : Cert.algebraic_LnIdeal_LnRefIdeal_pre_ln_finite := by
  intro m ρ m' ρ' hpre hagree
  choose x hx using fun c => exists_mat _ (coe_of_finite _ _ _ _ (hpre c).1)
  choose a ha using fun c => exists_mat _ (coe_of_finite _ _ _ _ (hpre c).2.1)
  choose g hg using fun c => exists_vec _ (coe_of_finite _ _ _ _ (hpre c).2.2.1)
  choose b hb using fun c => exists_vec _ (coe_of_finite _ _ _ _ (hpre c).2.2.2.1)
  choose dy hd using fun c => exists_mat _ (coe_of_finite _ _ _ _ (hpre c).2.2.2.2)
  have back := fun c => end_back m ρ c (x c) (a c) (g c) (b c) (dy c) (hx c) (ha c) (hg c) (hb c) (hd c)
  refine ⟨fun c => mat (out (x c) (a c) (g c) (b c)), fun c => mat (out (x c) (a c) (g c) (b c)),
    fun c => mat (dr (x c) (a c) (g c) (dy c)), fun c => mat (dr (x c) (a c) (g c) (dy c)),
    fun c => mat fun _ j => dg (x c) (a c) (dy c) j, fun c => mat fun _ j => db (dy c) j, ?_, ?_⟩
  · exact (θ_run LnIdeal.defs _ _).mono
      (fun _ h c => ⟨(h.1 c _ (mem_uc main_v2_0 (by decide))).trans (end_y m ρ c (x c) (a c) (g c) (b c) (hx c) (ha c) (hg c) (hb c)),
        (h.1 c _ (mem_uc main_v2_1 (by decide))).trans (end_yb m ρ c (x c) (a c) (g c) (b c) (hx c) (ha c) (hg c) (hb c)),
        (h.1 c _ (mem_uc main_v3_0 (by decide))).trans (back c).1,
        (h.1 c _ (mem_uc main_v3_1 (by decide))).trans (back c).2.1,
        (h.1 c _ (mem_uc main_v3_2 (by decide))).trans (back c).2.2.1,
        (h.1 c _ (mem_uc main_v3_3 (by decide))).trans (back c).2.2.2,
        (h.1 c _ (mem_uc main_arg0 (by decide))).trans (W3_args m ρ c main_arg0 (by decide)),
        (h.1 c _ (mem_uc main_arg1 (by decide))).trans (W3_args m ρ c main_arg1 (by decide)),
        (h.1 c _ (mem_uc main_arg2 (by decide))).trans (W3_args m ρ c main_arg2 (by decide)),
        (h.1 c _ (mem_uc main_arg3 (by decide))).trans (W3_args m ρ c main_arg3 (by decide)),
        (h.1 c _ (mem_uc main_arg4 (by decide))).trans (W3_args m ρ c main_arg4 (by decide))⟩)
      (run (F := Ideal) m ρ)
  have a0 : ∀ c : Dev LnRefIdeal.nD, m' ((c.tc : Thread LnRefIdeal.nD LnRefIdeal.τ).loc (sig := LnRefIdeal.sig) LnRefIdeal.main_arg0) = mat (x c) := fun c => (hagree c).1.trans (hx c)
  have a1 : ∀ c : Dev LnRefIdeal.nD, m' ((c.tc : Thread LnRefIdeal.nD LnRefIdeal.τ).loc (sig := LnRefIdeal.sig) LnRefIdeal.main_arg1) = mat (a c) := fun c => (hagree c).2.1.trans (ha c)
  have a2 : ∀ c : Dev LnRefIdeal.nD, m' ((c.tc : Thread LnRefIdeal.nD LnRefIdeal.τ).loc (sig := LnRefIdeal.sig) LnRefIdeal.main_arg2) = vec (g c) := fun c => (hagree c).2.2.1.trans (hg c)
  have a3 : ∀ c : Dev LnRefIdeal.nD, m' ((c.tc : Thread LnRefIdeal.nD LnRefIdeal.τ).loc (sig := LnRefIdeal.sig) LnRefIdeal.main_arg3) = vec (b c) := fun c => (hagree c).2.2.2.1.trans (hb c)
  have a4 : ∀ c : Dev LnRefIdeal.nD, m' ((c.tc : Thread LnRefIdeal.nD LnRefIdeal.τ).loc (sig := LnRefIdeal.sig) LnRefIdeal.main_arg4) = mat (dy c) := fun c => (hagree c).2.2.2.2.trans (hd c)
  refine (θ_run LnRefIdeal.defs _ _).mono
    (fun _ h c => ⟨(h c).1.trans ?_, (h c).2.1.trans ?_, (h c).2.2.1.trans ?_, (h c).2.2.2.1.trans ?_, (h c).2.2.2.2.1.trans ?_,
      (h c).2.2.2.2.2.1.trans ?_, (h c).2.2.2.2.2.2⟩)
    (LnRefIdeal.Value.run (F := Ideal) m' ρ')
  · rw [LnRefIdeal.Read.val_main_v31_eq, a0, a1, a2, a3]
    exact LnRefRead.out_y _ _ _ _
  · rw [LnRefIdeal.Read.val_main_v66_eq, a0, a1, a2, a3]
    exact LnRefRead.out_yb _ _ _ _
  · refine (LnRefIdeal.Read.val_main_v65_eq m' c).trans ?_
    refine Eq.trans ?_ (LnRefRead.out_dr (x c) (a c) (g c) (dy c))
    congr 1
    · exact a0 c
    · exact a1 c
    · exact a2 c
    · exact a4 c
  · refine (LnRefIdeal.Read.val_main_v67_eq m' c).trans ?_
    refine Eq.trans ?_ (LnRefRead.out_drb (x c) (a c) (g c) (dy c))
    congr 1
    · exact a0 c
    · exact a1 c
    · exact a2 c
    · exact a4 c
  · rw [LnRefIdeal.Read.val_main_v68_eq, a0, a1, a4]
    exact LnRefRead.out_dg _ _ _
  · rw [LnRefIdeal.Read.val_main_v69_eq, a4]
    exact LnRefRead.out_db _

end Cert.LnValue

end
-- ==== Proof.ConvReal.lean ====
/-
  The convolution of three taps and the gated activation over the reals: rows before and after a row, the convolved row,
  the activation and its gradients, and a column's sum taken in chunks of 64 rows and groups of 8.
-/
module

public import proofs.«01_k».proof.Proof.Reals

@[expose] public section

noncomputable section

namespace Cert.ConvReal

/-- The row `s` before, zero before the first. -/
def back (s : ℕ) (V : ℕ → ℕ → ℝ) (t j : ℕ) : ℝ := if s ≤ t then V (t - s) j else 0

/-- A row before a row, through the rows that begin eight earlier. -/
theorem back_back (V : ℕ → ℕ → ℝ) (s : ℕ) (hs : s ≤ 8) (u t j : ℕ) (h : u + s = t + 8) : back 8 V u j = back s V t j := by
  unfold back
  by_cases e : s ≤ t
  · rw [if_pos e, if_pos (by omega), show u - 8 = t - s by omega]
  · rw [if_neg e, if_neg (by omega)]

/-- A row, zero after the last. -/
def past (D : ℕ → ℕ → ℝ) (t j : ℕ) : ℝ := if t < 2048 then D t j else 0

/-- The convolved row. -/
def hc (V W : ℕ → ℕ → ℝ) (b : ℕ → ℝ) (t j : ℕ) : ℝ :=
  b j + back 2 V t j * W 0 j + back 1 V t j * W 1 j + V t j * W 2 j

/-- The logistic function, by the hyperbolic tangent. -/
def sg (x : ℝ) : ℝ := 1 / 2 * Real.tanh (1 / 2 * x) + 1 / 2

/-- The activation of a value and a gate. -/
def gated (x g : ℝ) : ℝ := g * sg g * x

/-- The cotangent of the value. -/
def dval (a g : ℝ) : ℝ := a * (g * sg g)

/-- The cotangent of the gate. -/
def dgate (a x g : ℝ) : ℝ := a * x * sg g * (1 + g * (1 - sg g))

/-- The gradient of the convolution's input. -/
def din (D W : ℕ → ℕ → ℝ) (t j : ℕ) : ℝ := D t j * W 2 j + past D (t + 1) j * W 1 j + past D (t + 2) j * W 0 j

/-- What the chunks handled before trip `n`, the last chunk first, give to a column's sum in group row `r`. -/
def part (f : ℕ → ℕ → ℝ) (n r j : ℕ) : ℝ := ∑ i ∈ Finset.range n, ∑ q : Fin 8, f (64 * (31 - i) + (8 * q.val + r)) j

theorem part_succ (f : ℕ → ℕ → ℝ) (n r j : ℕ) :
    part f (n + 1) r j = part f n r j + ∑ q : Fin 8, f (64 * (31 - n) + (8 * q.val + r)) j := Finset.sum_range_succ _ _

/-- A sum over a range by chunks. -/
theorem sum_chunks (f : ℕ → ℝ) (b : ℕ) : ∀ a, ∑ t ∈ Finset.range (b * a), f t = ∑ c ∈ Finset.range a, ∑ r ∈ Finset.range b, f (b * c + r)
  | 0 => by simp
  | a + 1 => by rw [Nat.mul_succ, Finset.sum_range_add, sum_chunks f b a, Finset.sum_range_succ]

/-- The eight group rows of all chunks together are the column's sum. -/
theorem part_total (f : ℕ → ℕ → ℝ) (j : ℕ) : ∑ r : Fin 8, part f 32 r.val j = ∑ t : Fin 2048, f t.val j := by
  have e : ∑ t : Fin 2048, f t.val j = ∑ t ∈ Finset.range (64 * 32), f t j := Fin.sum_univ_eq_sum_range (fun t => f t j) 2048
  rw [e, sum_chunks (fun t => f t j) 64 32, ← Finset.sum_range_reflect]
  unfold part
  rw [Finset.sum_comm]
  refine Finset.sum_congr rfl fun i _ => ?_
  have s : ∑ r ∈ Finset.range 64, f (64 * (32 - 1 - i) + r) j = ∑ r ∈ Finset.range (8 * 8), f (64 * (32 - 1 - i) + r) j := rfl
  rw [s, sum_chunks (fun r => f (64 * (32 - 1 - i) + r) j) 8 8, Finset.sum_comm,
    ← Fin.sum_univ_eq_sum_range (fun q => ∑ r ∈ Finset.range 8, f (64 * (32 - 1 - i) + (8 * q + r)) j) 8]
  refine Finset.sum_congr rfl fun q _ => ?_
  exact Fin.sum_univ_eq_sum_range (fun r => f (64 * (32 - 1 - i) + (8 * q.val + r)) j) 8

/-- The tangent form is the logistic function. -/
theorem sg_eq (x : ℝ) : sg x = 1 / (1 + Real.exp (-x)) := by
  unfold sg
  rw [Real.tanh_eq_sinh_div_cosh, Real.sinh_eq, Real.cosh_eq]
  have e : Real.exp (-x) = Real.exp (-(1 / 2 * x)) * Real.exp (-(1 / 2 * x)) := by rw [← Real.exp_add]; ring_nf
  have h : Real.exp (1 / 2 * x) * Real.exp (-(1 / 2 * x)) = 1 := by rw [← Real.exp_add]; simp
  have p := Real.exp_pos (1 / 2 * x)
  have q := Real.exp_pos (-(1 / 2 * x))
  rw [e]
  have h2 : Real.exp (1 / 2 * x) = 1 / Real.exp (-(1 / 2 * x)) := by rw [eq_div_iff q.ne', h]
  rw [h2]
  generalize Real.exp (-(1 / 2 * x)) = u at *
  field_simp
  ring

end Cert.ConvReal

end
-- ==== Proof.ConvFwd.lean ====
/-
  The convolution kernels' operations on a chunk of 64 rows and 256 columns of reals.
  The forward convolution body by values: what its 32 trips leave in the activation's buffer.
-/
module

public import proofs.«01_k».proof.Proof.ConvReal
public import proofs.«01_k».proof.Proof.AttnRef
public import proofs.«01_k».proof.Proof.Finite
public import proofs.«01_k».proof.Defs
public import proofs.«01_k».proof.Proof.Gen.ConvIdeal.Frame
public import Idealize.ShloMosaic.Lib.Pipeline.ValueKit
public import Idealize.ShloMosaic.Lib.Pointwise
public import Idealize.ShloMosaic.Lib.VecWindow

@[expose] public section

set_option maxRecDepth 16384
set_option maxHeartbeats 1000000

noncomputable section

namespace Cert.ConvValue

open Idealize.ShloMosaic Idealize.ShloMosaic.TcCoe Idealize.SL.Sem
open ConvIdeal ConvIdeal.Gen ConvReal Reals
open AttnRefRead (mat vec zero_f32 one_f32 half_f32)
open Idealize.ShloMosaic.VecWindow (window put)

/-- Eight rows, or zeros where the word is not positive, above 64 rows. -/
def stackT (w : BitVec 32) (p : FVec Ideal S8x256 .f32) (v : FVec Ideal S64x256 .f32) : FVec Ideal S72x256 .f32 :=
  concatenate S72x256 0 [⟨S8x256, Scalar.select (Scalar.cmpi .sgt w 0#32) (shapeCast S8x256 p shapeCasts_S8x256_S8x256)
    (broadcast S8x256 (Scalar.ofBits (F := Ideal) .f32 0x00000000#32))⟩, ⟨S64x256, shapeCast S64x256 v shapeCasts_S64x256_S64x256⟩]
    concatenates_S8x256_S64x256_S72x256_d0

/-- The lower 64 rows of 72, `s` up. -/
def downT (s : BitVec 32) (z : FVec Ideal S72x256 .f32) : FVec Ideal S64x256 .f32 :=
  extractStridedSlice S64x256 ![8, 0] (dynamicRotate 0 s none z rotates_S72x256_d0) slices_S72x256_o8_0_S64x256

/-- 64 rows above eight. -/
def overT (v : FVec Ideal S64x256 .f32) (p : FVec Ideal S8x256 .f32) : FVec Ideal S72x256 .f32 :=
  concatenate S72x256 0 [⟨S64x256, v⟩, ⟨S8x256, p⟩] concatenates_S64x256_S8x256_S72x256_d0

/-- The upper 64 rows of 72, `72 - s` down. -/
def upT (s : BitVec 32) (z : FVec Ideal S72x256 .f32) : FVec Ideal S64x256 .f32 :=
  extractStridedSlice S64x256 ![0, 0] (dynamicRotate 0 s none z rotates_S72x256_d0) slices_S72x256_o0_0_S64x256

/-- The convolved chunk from its three taps. -/
def convT (v one two : FVec Ideal S64x256 .f32) (b w0 w1 w2 : FVec Ideal S1x256 .f32) : FVec Ideal S64x256 .f32 :=
  addf (addf (addf (broadcastTo S64x256 (shapeCast S1x256 b shapeCasts_S1x256_S1x256) broadcasts_S1x256_S64x256)
    (mulf two (broadcastTo S64x256 (shapeCast S1x256 w0 shapeCasts_S1x256_S1x256) broadcasts_S1x256_S64x256)))
    (mulf one (broadcastTo S64x256 (shapeCast S1x256 w1 shapeCasts_S1x256_S1x256) broadcasts_S1x256_S64x256)))
    (mulf (shapeCast S64x256 v shapeCasts_S64x256_S64x256) (broadcastTo S64x256 (shapeCast S1x256 w2 shapeCasts_S1x256_S1x256) broadcasts_S1x256_S64x256))

/-- Half the hyperbolic tangent of the half, plus a half. -/
def sgT (g : FVec Ideal S64x256 .f32) : FVec Ideal S64x256 .f32 :=
  addf (mulf (broadcast S64x256 (Scalar.ofBits (F := Ideal) .f32 0x3F000000#32))
    (tanh (mulf (broadcast S64x256 (Scalar.ofBits (F := Ideal) .f32 0x3F000000#32)) g)))
    (broadcast S64x256 (Scalar.ofBits (F := Ideal) .f32 0x3F000000#32))

/-- The gradient of a chunk's input. -/
def dinT (d : FVec Ideal S64x256 .f32) (p : FVec Ideal S8x256 .f32) (w2 w1 w0 : FVec Ideal S1x256 .f32) : FVec Ideal S1x64x256 .bf16 :=
  shapeCast S1x64x256 (truncf .bf16 (addf (addf (mulf d (broadcastTo S64x256 (shapeCast S1x256 w2 shapeCasts_S1x256_S1x256) broadcasts_S1x256_S64x256))
    (mulf (upT 71#32 (overT d p)) (broadcastTo S64x256 (shapeCast S1x256 w1 shapeCasts_S1x256_S1x256) broadcasts_S1x256_S64x256)))
    (mulf (upT 70#32 (overT d p)) (broadcastTo S64x256 (shapeCast S1x256 w0 shapeCasts_S1x256_S1x256) broadcasts_S1x256_S64x256))) bitsLt_bf16_f32)
    shapeCasts_S64x256_S1x64x256

/-- A chunk's rows summed over their eight groups. -/
def groupT (x : FVec Ideal S64x256 .f32) : FVec Ideal S8x256 .f32 :=
  multiReduction .add [0] S8x256 (shapeCast S8x8x256 x shapeCasts_S64x256_S8x8x256) 0x00000000#32 reduces_S8x8x256_S8x256 (.inl rfl) rfl

/-- The sum of the eight group rows. -/
def rowT (x : FVec Ideal S8x256 .f32) : FVec Ideal S1x256 .f32 :=
  shapeCast S1x256 (multiReduction .add [0] S256 x 0x00000000#32 reduces_S8x256_S256 (.inl rfl) rfl) shapeCasts_S256_S1x256

/-- The float words of a half and of one. -/
theorem word_half : Ideal.ofBits .f32 0x3F000000#32 = ((1 / 2 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num

section Real

variable (V W : ℕ → ℕ → ℝ) (b : ℕ → ℝ)

/-- A chunk under the eight rows before it. -/
theorem stack_mat (c : ℕ) (w : BitVec 32) (hw : Scalar.cmpi .sgt w 0#32 = if 0 < c then 1#1 else 0#1) (p : FVec Ideal S8x256 .f32)
    (hp : 0 < c → p = mat fun r j => V (64 * c - 8 + r) j) :
    stackT w p (mat fun r j => V (64 * c + r) j) = mat fun r j => back 8 V (64 * c + r) j := by
  funext y
  have hy : (y 0).val < 72 := (y 0).isLt
  unfold stackT
  rw [hw]
  by_cases h : 0 < c
  · rw [if_pos h, hp h]
    pointwise [mat, back]
    rw [if_pos (show 8 ≤ 64 * c + (y 0).val by omega)]
    by_cases e : (y 0).val < 8
    · rw [dif_pos e, show 64 * c - 8 + (y 0).val = 64 * c + (y 0).val - 8 by omega]
    · rw [dif_neg e, show 64 * c + ((y 0).val - 8) = 64 * c + (y 0).val - 8 by omega]
  · rw [if_neg h]
    pointwise [mat, back]
    by_cases e : (y 0).val < 8
    · rw [dif_pos e, if_neg (by omega)]
      rfl
    · rw [dif_neg e, if_pos (by omega), show 64 * c + ((y 0).val - 8) = 64 * c + (y 0).val - 8 by omega]

/-- Rows moved down. -/
theorem down_mat (s : ℕ) (hs : s ∈ [1, 2]) (Z : ℕ → ℕ → ℝ) : downT (BitVec.ofNat 32 s) (mat Z) = mat fun r j => Z (8 + r - s) j := by
  funext y
  have hy : (y 0).val < 64 := (y 0).isLt
  have hr : (BitVec.ofNat 32 s).toNat % 72 = s ∧ s ≤ 2 := (by decide : ∀ s ∈ [1, 2], (BitVec.ofNat 32 s).toNat % 72 = s ∧ s ≤ 2) s hs
  unfold downT
  pointwise [mat]
  rw [hr.1, show (8 + (y 0).val + 72 - s) % 72 = 8 + (y 0).val - s by omega]

/-- A chunk of cotangents above the eight rows after it. -/
theorem over_mat (c : ℕ) (D : ℕ → ℕ → ℝ) (hc : c < 32) :
    overT (mat fun r j => D (64 * c + r) j) (mat fun r j => past D (64 * (c + 1) + r) j) = mat fun r j => past D (64 * c + r) j := by
  funext y
  have hy : (y 0).val < 72 := (y 0).isLt
  unfold overT
  pointwise [mat]
  by_cases e : (y 0).val < 64
  · rw [dif_pos e, past, if_pos (by omega)]
  · rw [dif_neg e, show 64 * (c + 1) + ((y 0).val - 64) = 64 * c + (y 0).val by omega]

/-- Rows moved up. -/
theorem up_mat (s : ℕ) (hs : s ∈ [1, 2]) (Z : ℕ → ℕ → ℝ) : upT (BitVec.ofNat 32 (72 - s)) (mat Z) = mat fun r j => Z (r + s) j := by
  funext y
  have hy : (y 0).val < 64 := (y 0).isLt
  have hr : (BitVec.ofNat 32 (72 - s)).toNat % 72 = 72 - s ∧ s ≤ 2 ∧ 0 < s :=
    (by decide : ∀ s ∈ [1, 2], (BitVec.ofNat 32 (72 - s)).toNat % 72 = 72 - s ∧ s ≤ 2 ∧ 0 < s) s hs
  unfold upT
  pointwise [mat]
  rw [hr.1, show ((y 0).val + 72 - (72 - s)) % 72 = (y 0).val + s by omega]

/-- The logistic factor. -/
theorem sg_mat (g : ℕ → ℕ → ℝ) : sgT (mat g) = mat fun r j => sg (g r j) := by
  funext y
  unfold sgT
  pointwise [mat]
  simp only [word_half, ← EReal.coe_mul, Ideal.tanh_def, ← EReal.coe_add]
  rfl

/-- The eight groups summed. -/
theorem group_mat (f : ℕ → ℕ → ℝ) : groupT (mat f) = mat fun r j => ∑ q : Fin 8, f (8 * q.val + r) j := by
  funext y
  unfold groupT
  pointwise [mat]
  simp only [sum_coe, Nat.mul_comm]

/-- The eight rows summed. -/
theorem row_mat (f : ℕ → ℕ → ℝ) : rowT (mat f) = mat fun _ j => ∑ r : Fin 8, f r.val j := by
  funext y
  unfold rowT
  pointwise [mat]
  simp only [sum_coe]

end Real

section Tiles

variable (V W D : ℕ → ℕ → ℝ) (b : ℕ → ℝ)

/-- The row one before, on a chunk. -/
theorem one_mat (c : ℕ) (w : BitVec 32) (hw : Scalar.cmpi .sgt w 0#32 = if 0 < c then 1#1 else 0#1) (p : FVec Ideal S8x256 .f32)
    (hp : 0 < c → p = mat fun r j => V (64 * c - 8 + r) j) :
    downT 1#32 (stackT w p (mat fun r j => V (64 * c + r) j)) = mat fun r j => back 1 V (64 * c + r) j := by
  rw [stack_mat V c w hw p hp]
  refine (down_mat 1 (by decide) _).trans ?_
  funext y
  have hy : (y 0).val < 64 := (y 0).isLt
  exact congrArg ((↑) : ℝ → EReal) (back_back V 1 (by omega) _ _ _ (by omega))

/-- The row two before. -/
theorem two_mat (c : ℕ) (w : BitVec 32) (hw : Scalar.cmpi .sgt w 0#32 = if 0 < c then 1#1 else 0#1) (p : FVec Ideal S8x256 .f32)
    (hp : 0 < c → p = mat fun r j => V (64 * c - 8 + r) j) :
    downT 2#32 (stackT w p (mat fun r j => V (64 * c + r) j)) = mat fun r j => back 2 V (64 * c + r) j := by
  rw [stack_mat V c w hw p hp]
  refine (down_mat 2 (by decide) _).trans ?_
  funext y
  have hy : (y 0).val < 64 := (y 0).isLt
  exact congrArg ((↑) : ℝ → EReal) (back_back V 2 (by omega) _ _ _ (by omega))

/-- The convolved chunk. -/
theorem conv_mat (c : ℕ) (w : BitVec 32) (hw : Scalar.cmpi .sgt w 0#32 = if 0 < c then 1#1 else 0#1) (p : FVec Ideal S8x256 .f32)
    (hp : 0 < c → p = mat fun r j => V (64 * c - 8 + r) j) :
    convT (mat fun r j => V (64 * c + r) j) (downT 1#32 (stackT w p (mat fun r j => V (64 * c + r) j)))
      (downT 2#32 (stackT w p (mat fun r j => V (64 * c + r) j))) (mat fun _ j => b j) (mat fun _ j => W 0 j) (mat fun _ j => W 1 j) (mat fun _ j => W 2 j)
      = mat fun r j => hc V W b (64 * c + r) j := by
  rw [one_mat V c w hw p hp, two_mat V c w hw p hp]
  funext y
  unfold convT
  pointwise [mat]
  simp only [← EReal.coe_mul, ← EReal.coe_add]
  rfl

/-- The activation's chunk. -/
theorem act_mat (x g : ℕ → ℕ → ℝ) : k0_pay1 (F := Ideal) (mat x) (mulf (mat g) (sgT (mat g))) = mat fun r j => gated (x r j) (g r j) := by
  rw [sg_mat]
  funext y
  pointwise [k0_pay1, mat]
  simp only [← EReal.coe_mul]
  rfl

/-- The forward body's convolved values. -/
theorem pay_conv0 (k : Fin k0_t1_loop.trips) (p : FVec Ideal S8x256 .f32) (v : FVec Ideal S64x256 .f32) (b w0 w1 w2 : FVec Ideal S1x256 .f32) :
    k0_pay2 (F := Ideal) 0#32 1#32 k p v b w0 w1 w2
      = convT v (downT 1#32 (stackT (Scf.iv 0#32 1#32 k) p v)) (downT 2#32 (stackT (Scf.iv 0#32 1#32 k) p v)) b w0 w1 w2 := rfl

/-- The forward body's gate. -/
theorem pay_gate0 (w : BitVec 32) (p : FVec Ideal S8x256 .f32) (v : FVec Ideal S64x256 .f32) (b w0 w1 w2 : FVec Ideal S1x256 .f32) :
    k0_pay3 (F := Ideal) w p v b w0 w1 w2
      = mulf (convT v (downT 1#32 (stackT w p v)) (downT 2#32 (stackT w p v)) b w0 w1 w2)
          (sgT (convT v (downT 1#32 (stackT w p v)) (downT 2#32 (stackT w p v)) b w0 w1 w2)) := rfl

/-- The gradient of a chunk's input. -/
theorem din_mat (c : ℕ) (hc : c < 32) :
    dinT (mat fun r j => D (64 * c + r) j) (mat fun r j => past D (64 * (c + 1) + r) j) (mat fun _ j => W 2 j) (mat fun _ j => W 1 j) (mat fun _ j => W 0 j)
      = ten fun _ r j => din D W (64 * c + r) j := by
  unfold dinT
  rw [over_mat c D hc, show upT 71#32 _ = _ from up_mat 1 (by decide) _, show upT 70#32 _ = _ from up_mat 2 (by decide) _]
  funext y
  pointwise [mat, ten]
  simp only [← EReal.coe_mul, ← EReal.coe_add]
  rfl

end Tiles

section Windows

/-- Rows of an array. -/
theorem window_mat {n m r : ℕ} (V : ℕ → ℕ → ℝ) (off : Fin 2 → ℕ) (a : ℕ) (h : off = ![a, 0])
    (inb : ∀ i, off i + (⟨2, ![r, m]⟩ : Shape).size i ≤ (⟨2, ![n, m]⟩ : Shape).size i) :
    window (s := ⟨2, ![n, m]⟩) (mat V) off (⟨2, ![r, m]⟩ : Shape).size inb = mat fun i j => V (a + i) j := by
  subst h
  funext y
  show ((V (a + 1 * (y 0).val) (0 + 1 * (y 1).val) : ℝ) : EReal) = _
  rw [one_mul, one_mul, zero_add]
  rfl

/-- One row of an array. -/
theorem window_row {n m : ℕ} (V : ℕ → ℕ → ℝ) (off : Fin 2 → ℕ) (a : ℕ) (h : off = ![a, 0])
    (inb : ∀ i, off i + (⟨2, ![1, m]⟩ : Shape).size i ≤ (⟨2, ![n, m]⟩ : Shape).size i) :
    window (s := ⟨2, ![n, m]⟩) (mat V) off (⟨2, ![1, m]⟩ : Shape).size inb = mat fun _ j => V a j := by
  rw [window_mat V off a h inb]
  funext y
  have hy : (y 0).val < 1 := (y 0).isLt
  show ((V (a + (y 0).val) (y 1).val : ℝ) : EReal) = ((V a (y 1).val : ℝ) : EReal)
  rw [show a + (y 0).val = a by omega]

/-- A chunk put over an array's rows. -/
theorem put_rows (d : S2048x256.Idx → EReal) (n : ℕ) (A : ℕ → ℕ → ℝ) :
    put (s := S2048x256) d ![64 * n, 0] S64x256.size (mat (n := 64) (m := 256) fun r j => A (64 * n + r) j)
      = fun y => if (y 0).val / 64 = n then mat (n := 2048) (m := 256) A y else d y := by
  funext y
  have hy0 : (y 0).val < 2048 := (y 0).isLt
  have hy1 : (y 1).val < 256 := (y 1).isLt
  unfold put
  by_cases h : (y 0).val / 64 = n
  · have hm : ∀ a : Fin S2048x256.rank, (![64 * n, 0] : Fin 2 → ℕ) a ≤ (y a).val ∧ (y a).val < (![64 * n, 0] : Fin 2 → ℕ) a + S64x256.size a := by
      show ∀ a : Fin 2, _
      rw [Fin.forall_fin_two]
      refine ⟨⟨?_, ?_⟩, ⟨?_, ?_⟩⟩
      · show 64 * n ≤ (y 0).val; omega
      · show (y 0).val < 64 * n + 64; omega
      · show 0 ≤ (y 1).val; omega
      · show (y 1).val < 0 + 256; omega
    rw [dif_pos hm, if_pos h]
    show ((A (64 * n + ((y 0).val - 64 * n)) ((y 1).val - 0) : ℝ) : EReal) = ((A (y 0).val (y 1).val : ℝ) : EReal)
    rw [show 64 * n + ((y 0).val - 64 * n) = (y 0).val by omega, Nat.sub_zero]
  · rw [dif_neg ?_, if_neg h]
    intro hm
    have a0 := hm 0
    have b1 : 64 * n ≤ (y 0).val := a0.1
    have b2 : (y 0).val < 64 * n + 64 := a0.2
    omega

theorem k0_off1_rows : ∀ k : Fin k0_t1_loop.trips, k0_off1 k = ![64 * k.val - 8, 0] := by decide +kernel
theorem k0_off2_rows : ∀ k : Fin k0_t1_loop.trips, k0_off2 k = ![64 * k.val, 0] := by decide +kernel
theorem iv_word : ∀ k : Fin k0_t1_loop.trips, Scalar.cmpi .sgt (Scf.iv 0#32 1#32 k) 0#32 = if 0 < k.val then 1#1 else 0#1 := by decide +kernel

end Windows

end Cert.ConvValue

namespace Cert.ConvValue

open ConvIdeal ConvIdeal.Gen ConvReal
open Idealize.ShloMosaic Idealize.ShloMosaic.TcCoe
open Idealize.ShloMosaic.VecWindow (window put)
open AttnRefRead (mat vec)

/-- A trip's tile of the activation. -/
def fwdTile (x1 x2 : Vec Ideal S2048x256 .f32) (x3 x4 : Vec Ideal S3x256 .f32) (x5 x6 : Vec Ideal S1x256 .f32)
    (k : Fin k0_t1_loop.trips) : FVec Ideal S64x256 .bf16 :=
  k0_pay1 (k0_pay2 0#32 1#32 k (window x1 (k0_off1 k) S8x256.size (k0_off1_inb k)) (window x1 (k0_off2 k) S64x256.size (k0_off2_inb k))
      (window x5 ![0, 0] S1x256.size inb_S1x256_S1x256_0_0) (window x3 ![0, 0] S1x256.size inb_S3x256_S1x256_0_0)
      (window x3 ![1, 0] S1x256.size inb_S3x256_S1x256_1_0) (window x3 ![2, 0] S1x256.size inb_S3x256_S1x256_2_0))
    (k0_pay3 (Scf.iv 0#32 1#32 k) (window x2 (k0_off1 k) S8x256.size (k0_off1_inb k)) (window x2 (k0_off2 k) S64x256.size (k0_off2_inb k))
      (window x6 ![0, 0] S1x256.size inb_S1x256_S1x256_0_0) (window x4 ![0, 0] S1x256.size inb_S3x256_S1x256_0_0)
      (window x4 ![1, 0] S1x256.size inb_S3x256_S1x256_1_0) (window x4 ![2, 0] S1x256.size inb_S3x256_S1x256_2_0))

section Rows

variable (V G Wv Wg : ℕ → ℕ → ℝ) (bv bg : ℕ → ℝ)

/-- A trip's tile holds the chunk's rows of the activation. -/
theorem fwdTile_mat (k : Fin k0_t1_loop.trips) :
    fwdTile (mat V) (mat G) (mat Wv) (mat Wg) (mat fun _ j => bv j) (mat fun _ j => bg j) k
      = mat fun r j => gated (hc V Wv bv (64 * k.val + r) j) (hc G Wg bg (64 * k.val + r) j) := by
  have hk : k.val < 32 := k.isLt
  have hw := iv_word k
  unfold fwdTile
  rw [pay_conv0, pay_gate0, window_mat V _ _ (k0_off1_rows k), window_mat V _ _ (k0_off2_rows k), window_mat G _ _ (k0_off1_rows k),
    window_mat G _ _ (k0_off2_rows k), window_row Wv _ 0 rfl, window_row Wv _ 1 rfl, window_row Wv _ 2 rfl, window_row Wg _ 0 rfl,
    window_row Wg _ 1 rfl, window_row Wg _ 2 rfl, window_row (fun _ j => bv j) _ 0 rfl, window_row (fun _ j => bg j) _ 0 rfl]
  rw [conv_mat V Wv bv k.val _ hw _ (fun _ => rfl), conv_mat G Wg bg k.val _ hw _ (fun _ => rfl)]
  exact act_mat _ _

end Rows

section Pieces

variable (𝒱 : Variants) (c : Dev nD) (bd : Option 𝒱.V) (i : grid0.Coords)
  (arg1 : Memref sig .tc .vmem S2048x256 .f32) (harg1 : arg1.IsWhole)
  (arg2 : Memref sig .tc .vmem S2048x256 .f32) (harg2 : arg2.IsWhole)
  (arg3 : Memref sig .tc .vmem S3x256 .f32) (harg3 : arg3.IsWhole)
  (arg4 : Memref sig .tc .vmem S3x256 .f32) (harg4 : arg4.IsWhole)
  (arg5 : Memref sig .tc .vmem S1x256 .f32) (harg5 : arg5.IsWhole)
  (arg6 : Memref sig .tc .vmem S1x256 .f32) (harg6 : arg6.IsWhole)
  (arg7 : Memref sig .tc .vmem S2048x256 .bf16) (harg7 : arg7.IsWhole)
  (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)

/-- The piece of the activation that a trip writes. -/
theorem fwd_trip (k : Fin k0_t1_loop.trips) : tripL_k0_t1 (F := Ideal) 𝒱 c bd i arg1 harg1 arg2 harg2 arg3 harg3 arg4 harg4 arg5 harg5 arg6 harg6 arg7 harg7 X1 X2 X3 X4 X5 X6 k
    = [⟨Rect.unit (s := S2048x256) (k0_off2 k) S64x256.size (k0_off2_inb k), fwdTile (arg1.view.read (Elt Ideal) X1) (arg2.view.read (Elt Ideal) X2) (arg3.view.read (Elt Ideal) X3) (arg4.view.read (Elt Ideal) X4) (arg5.view.read (Elt Ideal) X5) (arg6.view.read (Elt Ideal) X6) k⟩] := by
  unfold tripL_k0_t1 trip_k0_t1
  rfl

/-- The activation's buffer before a trip. -/
theorem fwd_rows (V G Wv Wg : ℕ → ℕ → ℝ) (bv bg : ℕ → ℝ)
    (h1 : arg1.view.read (Elt Ideal) X1 = mat V) (h2 : arg2.view.read (Elt Ideal) X2 = mat G)
    (h3 : arg3.view.read (Elt Ideal) X3 = mat Wv) (h4 : arg4.view.read (Elt Ideal) X4 = mat Wg)
    (h5 : arg5.view.read (Elt Ideal) X5 = mat fun _ j => bv j) (h6 : arg6.view.read (Elt Ideal) X6 = mat fun _ j => bg j)
    (v : View sig .tc .vmem S2048x256 .bf16) (B : BufTy.Contents (Elt Ideal) v.ty) : ∀ n, n ≤ 32 →
    v.read (Elt Ideal) (v.writes (Elt Ideal) B (pb_k0_t1 (F := Ideal) 𝒱 c bd i arg1 harg1 arg2 harg2 arg3 harg3 arg4 harg4 arg5 harg5 arg6 harg6 arg7 harg7 X1 X2 X3 X4 X5 X6 n))
      = fun y => if (y 0).val / 64 < n then mat (n := 2048) (m := 256) (fun t j => gated (hc V Wv bv t j) (hc G Wg bg t j)) y else v.read (Elt Ideal) B y
  | 0, _ => rfl
  | n + 1, hn => by
    have h : n < k0_t1_loop.trips := hn
    rw [show pb_k0_t1 (F := Ideal) 𝒱 c bd i arg1 harg1 arg2 harg2 arg3 harg3 arg4 harg4 arg5 harg5 arg6 harg6 arg7 harg7 X1 X2 X3 X4 X5 X6 (n + 1) = _ from pb_k0_t1_succ 𝒱 c bd i arg1 harg1 arg2 harg2 arg3 harg3 arg4 harg4 arg5 harg5 arg6 harg6 arg7 harg7 X1 X2 X3 X4 X5 X6 ⟨n, h⟩]
    rw [View.writes_append, fwd_trip, h1, h2, h3, h4, h5, h6, fwdTile_mat]
    rw [View.read_writes_cons_put _ _ _ _ _ (k0_off2_rows _), View.writes_nil, fwd_rows V G Wv Wg bv bg h1 h2 h3 h4 h5 h6 v B n (by omega)]
    refine (put_rows _ n fun t j => gated (hc V Wv bv t j) (hc G Wg bg t j)).trans ?_
    funext y
    by_cases e : (y 0).val / 64 = n
    · rw [if_pos e, if_pos (by omega)]
    · rw [if_neg e]; dsimp only
      by_cases l : (y 0).val / 64 < n
      · rw [if_pos l, if_pos (by omega)]
      · rw [if_neg l, if_neg (by omega)]

/-- The activation's buffer after the loop. -/
theorem fwd_all (V G Wv Wg : ℕ → ℕ → ℝ) (bv bg : ℕ → ℝ)
    (h1 : arg1.view.read (Elt Ideal) X1 = mat V) (h2 : arg2.view.read (Elt Ideal) X2 = mat G)
    (h3 : arg3.view.read (Elt Ideal) X3 = mat Wv) (h4 : arg4.view.read (Elt Ideal) X4 = mat Wg)
    (h5 : arg5.view.read (Elt Ideal) X5 = mat fun _ j => bv j) (h6 : arg6.view.read (Elt Ideal) X6 = mat fun _ j => bg j)
    (v : View sig .tc .vmem S2048x256 .bf16) (B : BufTy.Contents (Elt Ideal) v.ty) :
    v.read (Elt Ideal) (v.writes (Elt Ideal) B (pb_k0_t1 (F := Ideal) 𝒱 c bd i arg1 harg1 arg2 harg2 arg3 harg3 arg4 harg4 arg5 harg5 arg6 harg6 arg7 harg7 X1 X2 X3 X4 X5 X6 k0_t1_loop.trips))
      = mat fun t j => gated (hc V Wv bv t j) (hc G Wg bg t j) := by
  rw [show k0_t1_loop.trips = 32 from rfl, fwd_rows 𝒱 c bd i arg1 harg1 arg2 harg2 arg3 harg3 arg4 harg4 arg5 harg5 arg6 harg6 arg7 harg7 X1 X2 X3 X4 X5 X6 V G Wv Wg bv bg h1 h2 h3 h4 h5 h6 v B 32 le_rfl]
  funext y
  have hy : (y 0).val < 2048 := (y 0).isLt
  exact if_pos (by omega)

end Pieces

/-- What the forward body leaves in its output's block. -/
theorem out_fwd (c : Dev nD) (i : grid0.Coords)
  (arg1 : Memref sig .tc .vmem S2048x256 .f32) (harg1 : arg1.IsWhole)
  (arg2 : Memref sig .tc .vmem S2048x256 .f32) (harg2 : arg2.IsWhole)
  (arg3 : Memref sig .tc .vmem S3x256 .f32) (harg3 : arg3.IsWhole)
  (arg4 : Memref sig .tc .vmem S3x256 .f32) (harg4 : arg4.IsWhole)
  (arg5 : Memref sig .tc .vmem S1x256 .f32) (harg5 : arg5.IsWhole)
  (arg6 : Memref sig .tc .vmem S1x256 .f32) (harg6 : arg6.IsWhole)
  (arg7 : Memref sig .tc .vmem S2048x256 .bf16) (harg7 : arg7.IsWhole)
    (V G Wv Wg : ℕ → ℕ → ℝ) (bv bg : ℕ → ℝ) :
    out0_A_6 (F := Ideal) c i arg1 harg1 arg2 harg2 arg3 harg3 arg4 harg4 arg5 harg5 arg6 harg6 arg7 harg7 (mat V) (mat G) (mat Wv) (mat Wg) (mat fun _ j => bv j) (mat fun _ j => bg j)
      = mat fun t j => gated (hc V Wv bv t j) (hc G Wg bg t j) := by
  unfold out0_A_6 kernelRun0_A
  dsimp only
  exact fwd_all Variants.none c none i arg1 harg1 arg2 harg2 arg3 harg3 arg4 harg4 arg5 harg5 arg6 harg6 arg7 harg7 _ _ _ _ _ _ V G Wv Wg bv bg (harg1.read_unread _) (harg2.read_unread _)
    (harg3.read_unread _) (harg4.read_unread _) (harg5.read_unread _) (harg6.read_unread _) _ _

end Cert.ConvValue

end
-- ==== Proof.ConvStep.lean ====
/-
  One trip of the backward convolution body: the carried sums and the cotangents of eight rows, as an operation of
  vectors and over the reals.
-/
module

public import proofs.«01_k».proof.Proof.ConvFwd

@[expose] public section

set_option maxRecDepth 16384
set_option maxHeartbeats 1000000

noncomputable section

namespace Cert.ConvValue

open ConvIdeal ConvIdeal.Gen ConvReal Reals
open Idealize.ShloMosaic Idealize.ShloMosaic.TcCoe
open Idealize.ShloMosaic.VecWindow (window put)
open AttnRefRead (mat vec)

/-- What a trip carries: for the value's half and then the gate's, the cotangents of the eight rows after it, and the running
    group sums of the three taps' weights and the bias. -/
abbrev Carry : Type := FVec Ideal S8x256 .f32 × FVec Ideal S8x256 .f32 × FVec Ideal S8x256 .f32 × FVec Ideal S8x256 .f32 × FVec Ideal S8x256 .f32
  × FVec Ideal S8x256 .f32 × FVec Ideal S8x256 .f32 × FVec Ideal S8x256 .f32 × FVec Ideal S8x256 .f32 × FVec Ideal S8x256 .f32

/-- The chunk's number as a word: the last chunk first. -/
def chunkW (k : Fin k1_t1_loop.trips) : BitVec 32 := Scalar.subi 31#32 (Scf.iv 0#32 1#32 k)

def curX (x : Vec Ideal S2048x256 .f32) (k : Fin k1_t1_loop.trips) : FVec Ideal S64x256 .f32 := window x (k1_off2 k) S64x256.size (k1_off2_inb k)
def beforeX (x : Vec Ideal S2048x256 .f32) (k : Fin k1_t1_loop.trips) : FVec Ideal S8x256 .f32 := window x (k1_off1 k) S8x256.size (k1_off1_inb k)
def row0X (w : Vec Ideal S3x256 .f32) : FVec Ideal S1x256 .f32 := window w ![0, 0] S1x256.size inb_S3x256_S1x256_0_0
def row1X (w : Vec Ideal S3x256 .f32) : FVec Ideal S1x256 .f32 := window w ![1, 0] S1x256.size inb_S3x256_S1x256_1_0
def row2X (w : Vec Ideal S3x256 .f32) : FVec Ideal S1x256 .f32 := window w ![2, 0] S1x256.size inb_S3x256_S1x256_2_0
def biasX (b : Vec Ideal S1x256 .f32) : FVec Ideal S1x256 .f32 := window b ![0, 0] S1x256.size inb_S1x256_S1x256_0_0
def oneX (x : Vec Ideal S2048x256 .f32) (k : Fin k1_t1_loop.trips) : FVec Ideal S64x256 .f32 := downT 1#32 (stackT (chunkW k) (beforeX x k) (curX x k))
def twoX (x : Vec Ideal S2048x256 .f32) (k : Fin k1_t1_loop.trips) : FVec Ideal S64x256 .f32 := downT 2#32 (stackT (chunkW k) (beforeX x k) (curX x k))

/-- The convolved chunk of a half. -/
def hcX (x : Vec Ideal S2048x256 .f32) (w : Vec Ideal S3x256 .f32) (b : Vec Ideal S1x256 .f32) (k : Fin k1_t1_loop.trips) : FVec Ideal S64x256 .f32 :=
  convT (curX x k) (oneX x k) (twoX x k) (biasX b) (row0X w) (row1X w) (row2X w)

/-- The cotangents of the value and of the gate. -/
def dvalT (a g : FVec Ideal S64x256 .f32) : FVec Ideal S64x256 .f32 := mulf (shapeCast S64x256 a shapeCasts_S64x256_S64x256) (mulf g (sgT g))
def dgateT (a x g : FVec Ideal S64x256 .f32) : FVec Ideal S64x256 .f32 :=
  mulf (mulf (mulf (shapeCast S64x256 a shapeCasts_S64x256_S64x256) x) (sgT g))
    (addf (broadcast S64x256 (Scalar.ofBits (F := Ideal) .f32 0x3F800000#32))
      (mulf g (subf (broadcast S64x256 (Scalar.ofBits (F := Ideal) .f32 0x3F800000#32)) (sgT g))))

def dvX (a x y : Vec Ideal S2048x256 .f32) (w u : Vec Ideal S3x256 .f32) (b e : Vec Ideal S1x256 .f32) (k : Fin k1_t1_loop.trips) : FVec Ideal S64x256 .f32 :=
  dvalT (curX a k) (hcX y u e k)
def dgX (a x y : Vec Ideal S2048x256 .f32) (w u : Vec Ideal S3x256 .f32) (b e : Vec Ideal S1x256 .f32) (k : Fin k1_t1_loop.trips) : FVec Ideal S64x256 .f32 :=
  dgateT (curX a k) (hcX x w b k) (hcX y u e k)

/-- The first eight rows of a chunk. -/
def headT (d : FVec Ideal S64x256 .f32) : FVec Ideal S8x256 .f32 := extractStridedSlice S8x256 ![0, 0] d slices_S64x256_o0_0_S8x256

/-- A tap's running sum after a chunk. -/
def tapT (s : FVec Ideal S8x256 .f32) (d x : FVec Ideal S64x256 .f32) : FVec Ideal S8x256 .f32 := addf s (groupT (mulf d x))

/-- A trip on what it carries. -/
def stepX (a x y : Vec Ideal S2048x256 .f32) (w u : Vec Ideal S3x256 .f32) (b e : Vec Ideal S1x256 .f32) (k : Fin k1_t1_loop.trips) (s : Carry) : Carry :=
  (headT (dvX a x y w u b e k), tapT s.2.1 (dvX a x y w u b e k) (twoX x k), tapT s.2.2.1 (dvX a x y w u b e k) (oneX x k),
    tapT s.2.2.2.1 (dvX a x y w u b e k) (shapeCast S64x256 (curX x k) shapeCasts_S64x256_S64x256), addf s.2.2.2.2.1 (groupT (dvX a x y w u b e k)),
    headT (dgX a x y w u b e k), tapT s.2.2.2.2.2.2.1 (dgX a x y w u b e k) (twoX y k), tapT s.2.2.2.2.2.2.2.1 (dgX a x y w u b e k) (oneX y k),
    tapT s.2.2.2.2.2.2.2.2.1 (dgX a x y w u b e k) (shapeCast S64x256 (curX y k) shapeCasts_S64x256_S64x256),
    addf s.2.2.2.2.2.2.2.2.2 (groupT (dgX a x y w u b e k)))

/-- The chunks of the input's gradient that a trip writes: the value's half and the gate's. -/
def dhvX (a x y : Vec Ideal S2048x256 .f32) (w u : Vec Ideal S3x256 .f32) (b e : Vec Ideal S1x256 .f32) (k : Fin k1_t1_loop.trips) (s : Carry) : FVec Ideal S1x64x256 .bf16 :=
  dinT (dvX a x y w u b e k) s.1 (row2X w) (row1X w) (row0X w)
def dhgX (a x y : Vec Ideal S2048x256 .f32) (w u : Vec Ideal S3x256 .f32) (b e : Vec Ideal S1x256 .f32) (k : Fin k1_t1_loop.trips) (s : Carry) : FVec Ideal S1x64x256 .bf16 :=
  dinT (dgX a x y w u b e k) s.2.2.2.2.2.1 (row2X u) (row1X u) (row0X u)

/-- The accesses' offsets by the chunk's number, and the chunk's word. -/
theorem k1_off1_rows : ∀ k : Fin k1_t1_loop.trips, k1_off1 k = ![64 * (31 - k.val) - 8, 0] := by decide +kernel
theorem k1_off2_rows : ∀ k : Fin k1_t1_loop.trips, k1_off2 k = ![64 * (31 - k.val), 0] := by decide +kernel
theorem k1_off3_rows : ∀ k : Fin k1_t1_loop.trips, k1_off3 k = ![0, 64 * (31 - k.val), 0] := by decide +kernel
theorem k1_off4_rows : ∀ k : Fin k1_t1_loop.trips, k1_off4 k = ![1, 64 * (31 - k.val), 0] := by decide +kernel
theorem chunk_word : ∀ k : Fin k1_t1_loop.trips, Scalar.cmpi .sgt (chunkW k) 0#32 = if 0 < 31 - k.val then 1#1 else 0#1 := by decide +kernel

section Tiles

variable (V W : ℕ → ℕ → ℝ) (b : ℕ → ℝ)

theorem curX_mat (k : Fin k1_t1_loop.trips) : curX (mat V) k = mat fun r j => V (64 * (31 - k.val) + r) j := window_mat V _ _ (k1_off2_rows k) _
theorem beforeX_mat (k : Fin k1_t1_loop.trips) : beforeX (mat V) k = mat fun r j => V (64 * (31 - k.val) - 8 + r) j := window_mat V _ _ (k1_off1_rows k) _
theorem row0X_mat : row0X (mat W) = mat fun _ j => W 0 j := window_row W _ 0 rfl _
theorem row1X_mat : row1X (mat W) = mat fun _ j => W 1 j := window_row W _ 1 rfl _
theorem row2X_mat : row2X (mat W) = mat fun _ j => W 2 j := window_row W _ 2 rfl _
theorem biasX_mat : biasX (mat fun _ j => b j) = mat fun _ j => b j := window_row (fun _ j => b j) _ 0 rfl _

theorem oneX_mat (k : Fin k1_t1_loop.trips) : oneX (mat V) k = mat fun r j => back 1 V (64 * (31 - k.val) + r) j := by
  unfold oneX
  rw [curX_mat, beforeX_mat]
  exact one_mat V (31 - k.val) _ (chunk_word k) _ fun _ => rfl

theorem twoX_mat (k : Fin k1_t1_loop.trips) : twoX (mat V) k = mat fun r j => back 2 V (64 * (31 - k.val) + r) j := by
  unfold twoX
  rw [curX_mat, beforeX_mat]
  exact two_mat V (31 - k.val) _ (chunk_word k) _ fun _ => rfl

theorem hcX_mat (k : Fin k1_t1_loop.trips) : hcX (mat V) (mat W) (mat fun _ j => b j) k = mat fun r j => hc V W b (64 * (31 - k.val) + r) j := by
  unfold hcX oneX twoX
  rw [curX_mat, beforeX_mat, row0X_mat, row1X_mat, row2X_mat, biasX_mat]
  exact conv_mat V W b (31 - k.val) _ (chunk_word k) _ fun _ => rfl

theorem dval_mat (a g : ℕ → ℕ → ℝ) : dvalT (mat a) (mat g) = mat fun r j => dval (a r j) (g r j) := by
  unfold dvalT
  rw [sg_mat]
  funext y
  pointwise [mat]
  simp only [← EReal.coe_mul]
  rfl

theorem dgate_mat (a x g : ℕ → ℕ → ℝ) : dgateT (mat a) (mat x) (mat g) = mat fun r j => dgate (a r j) (x r j) (g r j) := by
  unfold dgateT
  rw [sg_mat]
  funext y
  pointwise [mat]
  simp only [word_one, ← EReal.coe_mul, ← EReal.coe_sub, ← EReal.coe_add]
  rfl

theorem head_mat (D : ℕ → ℕ → ℝ) : headT (mat D) = mat D := by
  funext y
  unfold headT
  pointwise [mat]

theorem same_mat (D : ℕ → ℕ → ℝ) : shapeCast S64x256 (mat D : FVec Ideal S64x256 .f32) shapeCasts_S64x256_S64x256 = mat D := by
  funext y
  pointwise [mat]

/-- A running sum goes on by a chunk. -/
theorem sum_mat (f : ℕ → ℕ → ℝ) (n : ℕ) :
    addf (mat (part f n) : FVec Ideal S8x256 .f32) (groupT (mat fun r j => f (64 * (31 - n) + r) j)) = mat (part f (n + 1)) := by
  rw [group_mat]
  funext y
  pointwise [mat]
  rw [← EReal.coe_add, part_succ]

theorem tap_mat (D X : ℕ → ℕ → ℝ) (n : ℕ) :
    tapT (mat (part (fun t j => D t j * X t j) n)) (mat fun r j => D (64 * (31 - n) + r) j) (mat fun r j => X (64 * (31 - n) + r) j)
      = mat (part (fun t j => D t j * X t j) (n + 1)) := by
  refine Eq.trans (congrArg (fun z => addf _ (groupT z)) ?_) (sum_mat (fun t j => D t j * X t j) n)
  funext y
  pointwise [mat]
  rw [← EReal.coe_mul]

/-- The cotangents of the eight rows after the next chunk. -/
theorem head_past (D : ℕ → ℕ → ℝ) (n : ℕ) (h : n < 32) :
    (mat fun r j => D (64 * (31 - n) + r) j : FVec Ideal S8x256 .f32) = mat fun r j => past D (64 * (32 - (n + 1)) + r) j := by
  funext y
  have hy : (y 0).val < 8 := (y 0).isLt
  show ((D _ _ : ℝ) : EReal) = ((past D _ _ : ℝ) : EReal)
  rw [past, if_pos (by omega), show 32 - (n + 1) = 31 - n by omega]

end Tiles

/-- The carry before trip `n`, from the cotangents and inputs of the two halves. -/
def carryR (D V E G : ℕ → ℕ → ℝ) (n : ℕ) : Carry :=
  (mat fun r j => past D (64 * (32 - n) + r) j, mat (part (fun t j => D t j * back 2 V t j) n), mat (part (fun t j => D t j * back 1 V t j) n),
    mat (part (fun t j => D t j * V t j) n), mat (part D n),
    mat fun r j => past E (64 * (32 - n) + r) j, mat (part (fun t j => E t j * back 2 G t j) n), mat (part (fun t j => E t j * back 1 G t j) n),
    mat (part (fun t j => E t j * G t j) n), mat (part E n))

section Step

variable (A V G Wv Wg : ℕ → ℕ → ℝ) (bv bg : ℕ → ℝ)

/-- The cotangents of the convolved value and gate. -/
def DV (t j : ℕ) : ℝ := dval (A t j) (hc G Wg bg t j)
def DG (t j : ℕ) : ℝ := dgate (A t j) (hc V Wv bv t j) (hc G Wg bg t j)

theorem dvX_mat (k : Fin k1_t1_loop.trips) :
    dvX (mat A) (mat V) (mat G) (mat Wv) (mat Wg) (mat fun _ j => bv j) (mat fun _ j => bg j) k = mat fun r j => DV A G Wg bg (64 * (31 - k.val) + r) j := by
  unfold dvX
  rw [curX_mat, hcX_mat]
  exact dval_mat _ _

theorem dgX_mat (k : Fin k1_t1_loop.trips) :
    dgX (mat A) (mat V) (mat G) (mat Wv) (mat Wg) (mat fun _ j => bv j) (mat fun _ j => bg j) k = mat fun r j => DG A V G Wv Wg bv bg (64 * (31 - k.val) + r) j := by
  unfold dgX
  rw [curX_mat, hcX_mat, hcX_mat]
  exact dgate_mat _ _ _

theorem step_mat (k : Fin k1_t1_loop.trips) :
    stepX (mat A) (mat V) (mat G) (mat Wv) (mat Wg) (mat fun _ j => bv j) (mat fun _ j => bg j) k (carryR (DV A G Wg bg) V (DG A V G Wv Wg bv bg) G k.val)
      = carryR (DV A G Wg bg) V (DG A V G Wv Wg bv bg) G (k.val + 1) := by
  have hk : k.val < 32 := k.isLt
  unfold stepX carryR
  rw [dvX_mat, dgX_mat, oneX_mat, oneX_mat, twoX_mat, twoX_mat, curX_mat, curX_mat, same_mat, same_mat]
  dsimp only
  rw [tap_mat, tap_mat, tap_mat, tap_mat, tap_mat, tap_mat, sum_mat, sum_mat, head_mat, head_mat, head_past _ _ hk, head_past _ _ hk]

theorem dhv_mat (k : Fin k1_t1_loop.trips) :
    dhvX (mat A) (mat V) (mat G) (mat Wv) (mat Wg) (mat fun _ j => bv j) (mat fun _ j => bg j) k (carryR (DV A G Wg bg) V (DG A V G Wv Wg bv bg) G k.val)
      = ten fun _ r j => din (DV A G Wg bg) Wv (64 * (31 - k.val) + r) j := by
  have hk : k.val < 32 := k.isLt
  unfold dhvX carryR
  rw [dvX_mat, row0X_mat, row1X_mat, row2X_mat]
  dsimp only
  rw [show 32 - k.val = 31 - k.val + 1 by omega]
  exact din_mat Wv (DV A G Wg bg) (31 - k.val) (by omega)

theorem dhg_mat (k : Fin k1_t1_loop.trips) :
    dhgX (mat A) (mat V) (mat G) (mat Wv) (mat Wg) (mat fun _ j => bv j) (mat fun _ j => bg j) k (carryR (DV A G Wg bg) V (DG A V G Wv Wg bv bg) G k.val)
      = ten fun _ r j => din (DG A V G Wv Wg bv bg) Wg (64 * (31 - k.val) + r) j := by
  have hk : k.val < 32 := k.isLt
  unfold dhgX carryR
  rw [dgX_mat, row0X_mat, row1X_mat, row2X_mat]
  dsimp only
  rw [show 32 - k.val = 31 - k.val + 1 by omega]
  exact din_mat Wg (DG A V G Wv Wg bv bg) (31 - k.val) (by omega)

end Step

/-- A chunk put over one half's rows. -/
theorem put_half (d : S2x2048x256.Idx → EReal) (h n : ℕ) (A : ℕ → ℕ → ℝ) :
    put (s := S2x2048x256) d ![h, 64 * n, 0] S1x64x256.size (ten (n := 1) (m := 64) (k := 256) fun _ r j => A (64 * n + r) j)
      = fun y => if (y 0).val = h ∧ (y 1).val / 64 = n then ((A (y 1).val (y 2).val : ℝ) : EReal) else d y := by
  funext y
  have hy1 : (y 1).val < 2048 := (y 1).isLt
  have hy2 : (y 2).val < 256 := (y 2).isLt
  unfold put
  by_cases e : (y 0).val = h ∧ (y 1).val / 64 = n
  · have hm : ∀ a : Fin S2x2048x256.rank, (![h, 64 * n, 0] : Fin 3 → ℕ) a ≤ (y a).val ∧ (y a).val < (![h, 64 * n, 0] : Fin 3 → ℕ) a + S1x64x256.size a := by
      show ∀ a : Fin 3, _
      rw [Fin.forall_fin_succ, Fin.forall_fin_two]
      refine ⟨⟨?_, ?_⟩, ⟨?_, ?_⟩, ⟨?_, ?_⟩⟩
      · show h ≤ (y 0).val; omega
      · show (y 0).val < h + 1; omega
      · show 64 * n ≤ (y 1).val; omega
      · show (y 1).val < 64 * n + 64; omega
      · show 0 ≤ (y 2).val; omega
      · show (y 2).val < 0 + 256; omega
    rw [dif_pos hm, if_pos e]
    show ((A (64 * n + ((y 1).val - 64 * n)) ((y 2).val - 0) : ℝ) : EReal) = _
    rw [show 64 * n + ((y 1).val - 64 * n) = (y 1).val by omega, Nat.sub_zero]
  · rw [dif_neg ?_, if_neg e]
    intro hm
    have a0 := hm 0
    have a1 := hm 1
    have b0 : h ≤ (y 0).val := a0.1
    have c0 : (y 0).val < h + 1 := a0.2
    have b1 : 64 * n ≤ (y 1).val := a1.1
    have b2 : (y 1).val < 64 * n + 64 := a1.2
    omega

/-- One row put over an array of three. -/
theorem put_row (d : S3x256.Idx → EReal) (a : ℕ) (A : ℕ → ℕ → ℝ) :
    put (s := S3x256) d ![a, 0] S1x256.size (mat (n := 1) (m := 256) fun _ j => A a j)
      = fun y => if (y 0).val = a then mat (n := 3) (m := 256) A y else d y := by
  funext y
  have hy1 : (y 1).val < 256 := (y 1).isLt
  unfold put
  by_cases e : (y 0).val = a
  · have hm : ∀ i : Fin S3x256.rank, (![a, 0] : Fin 2 → ℕ) i ≤ (y i).val ∧ (y i).val < (![a, 0] : Fin 2 → ℕ) i + S1x256.size i := by
      show ∀ i : Fin 2, _
      rw [Fin.forall_fin_two]
      refine ⟨⟨?_, ?_⟩, ⟨?_, ?_⟩⟩
      · show a ≤ (y 0).val; omega
      · show (y 0).val < a + 1; omega
      · show 0 ≤ (y 1).val; omega
      · show (y 1).val < 0 + 256; omega
    rw [dif_pos hm, if_pos e]
    show ((A a ((y 1).val - 0) : ℝ) : EReal) = ((A (y 0).val (y 1).val : ℝ) : EReal)
    rw [e, Nat.sub_zero]
  · rw [dif_neg ?_, if_neg e]
    intro hm
    have a0 := hm 0
    have b1 : a ≤ (y 0).val := a0.1
    have b2 : (y 0).val < a + 1 := a0.2
    omega

end Cert.ConvValue

end
-- ==== Proof.ConvBwd.lean ====
/-
  The backward convolution body by values: what its 32 trips carry and write.
-/
module

public import proofs.«01_k».proof.Proof.ConvStep

@[expose] public section

set_option maxRecDepth 16384
set_option maxHeartbeats 1000000

noncomputable section

namespace Cert.ConvValue

open ConvIdeal ConvIdeal.Gen ConvReal Reals
open Idealize.ShloMosaic Idealize.ShloMosaic.TcCoe
open Idealize.ShloMosaic.VecWindow (window put)
open AttnRefRead (mat vec)

section Pieces

variable (𝒱 : Variants) (c : Dev nD) (bd : Option 𝒱.V) (i : grid1.Coords)
  (arg1 : Memref sig .tc .vmem S2048x256 .f32) (harg1 : arg1.IsWhole)
  (arg2 : Memref sig .tc .vmem S2048x256 .f32) (harg2 : arg2.IsWhole)
  (arg3 : Memref sig .tc .vmem S2048x256 .f32) (harg3 : arg3.IsWhole)
  (arg4 : Memref sig .tc .vmem S3x256 .f32) (harg4 : arg4.IsWhole)
  (arg5 : Memref sig .tc .vmem S3x256 .f32) (harg5 : arg5.IsWhole)
  (arg6 : Memref sig .tc .vmem S1x256 .f32) (harg6 : arg6.IsWhole)
  (arg7 : Memref sig .tc .vmem S1x256 .f32) (harg7 : arg7.IsWhole)
  (arg8 : Memref sig .tc .vmem S2x2048x256 .bf16) (harg8 : arg8.IsWhole)
  (arg9 : Memref sig .tc .vmem S3x256 .f32) (harg9 : arg9.IsWhole)
  (arg10 : Memref sig .tc .vmem S3x256 .f32) (harg10 : arg10.IsWhole)
  (arg11 : Memref sig .tc .vmem S1x256 .f32) (harg11 : arg11.IsWhole)
  (arg12 : Memref sig .tc .vmem S1x256 .f32) (harg12 : arg12.IsWhole)
  (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty)

/-- What a trip carries on. -/
theorem bwd_carry (k : Fin k1_t1_loop.trips) (s : Carry) : tripR_k1_t1 (F := Ideal) 𝒱 c bd i arg1 harg1 arg2 harg2 arg3 harg3 arg4 harg4 arg5 harg5 arg6 harg6 arg7 harg7 arg8 harg8 arg9 harg9 arg10 harg10 arg11 harg11 arg12 harg12 X1 X2 X3 X4 X5 X6 X7 k s
    = stepX (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) k s := by
  unfold tripR_k1_t1 trip_k1_t1
  rfl

/-- The two pieces of the input's gradient that a trip writes. -/
theorem bwd_trip (k : Fin k1_t1_loop.trips) (s : Carry) : tripL_k1_t1 (F := Ideal) 𝒱 c bd i arg1 harg1 arg2 harg2 arg3 harg3 arg4 harg4 arg5 harg5 arg6 harg6 arg7 harg7 arg8 harg8 arg9 harg9 arg10 harg10 arg11 harg11 arg12 harg12 X1 X2 X3 X4 X5 X6 X7 k s
    = [⟨Rect.unit (s := S2x2048x256) (k1_off4 k) S1x64x256.size (k1_off4_inb k), dhgX (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) k s⟩,
       ⟨Rect.unit (s := S2x2048x256) (k1_off3 k) S1x64x256.size (k1_off3_inb k), dhvX (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) k s⟩] := by
  unfold tripL_k1_t1 trip_k1_t1
  rfl

section Real

variable (A V G Wv Wg : ℕ → ℕ → ℝ) (bv bg : ℕ → ℝ)
    (h1 : arg1.view.read (Elt Ideal) X1 = mat A) (h2 : arg2.view.read (Elt Ideal) X2 = mat V) (h3 : arg3.view.read (Elt Ideal) X3 = mat G)
    (h4 : arg4.view.read (Elt Ideal) X4 = mat Wv) (h5 : arg5.view.read (Elt Ideal) X5 = mat Wg)
    (h6 : arg6.view.read (Elt Ideal) X6 = mat fun _ j => bv j) (h7 : arg7.view.read (Elt Ideal) X7 = mat fun _ j => bg j)
include h1 h2 h3 h4 h5 h6 h7

/-- The carry before a trip. -/
theorem bwd_state (init : Carry) (hi : init = (carryR (DV A G Wg bg) V (DG A V G Wv Wg bv bg) G 0)) : ∀ n, n ≤ 32 →
    (st_k1_t1 (F := Ideal) 𝒱 c bd i arg1 harg1 arg2 harg2 arg3 harg3 arg4 harg4 arg5 harg5 arg6 harg6 arg7 harg7 arg8 harg8 arg9 harg9 arg10 harg10 arg11 harg11 arg12 harg12 X1 X2 X3 X4 X5 X6 X7 init n).1 = (carryR (DV A G Wg bg) V (DG A V G Wv Wg bv bg) G n)
  | 0, _ => hi
  | n + 1, hn => by
    have h : n < k1_t1_loop.trips := hn
    rw [show st_k1_t1 (F := Ideal) 𝒱 c bd i arg1 harg1 arg2 harg2 arg3 harg3 arg4 harg4 arg5 harg5 arg6 harg6 arg7 harg7 arg8 harg8 arg9 harg9 arg10 harg10 arg11 harg11 arg12 harg12 X1 X2 X3 X4 X5 X6 X7 init (n + 1) = _ from st_k1_t1_succ 𝒱 c bd i arg1 harg1 arg2 harg2 arg3 harg3 arg4 harg4 arg5 harg5 arg6 harg6 arg7 harg7 arg8 harg8 arg9 harg9 arg10 harg10 arg11 harg11 arg12 harg12 X1 X2 X3 X4 X5 X6 X7 init ⟨n, h⟩]
    dsimp only
    rw [bwd_state init hi n (by omega), bwd_carry, h1, h2, h3, h4, h5, h6, h7]
    exact step_mat A V G Wv Wg bv bg ⟨n, h⟩

/-- The gradient's buffer before a trip: the chunks from the last down to the trip's are written. -/
theorem bwd_rows (init : Carry) (hi : init = (carryR (DV A G Wg bg) V (DG A V G Wv Wg bv bg) G 0))
    (v : View sig .tc .vmem S2x2048x256 .bf16) (B : BufTy.Contents (Elt Ideal) v.ty) : ∀ n, n ≤ 32 →
    v.read (Elt Ideal) (v.writes (Elt Ideal) B (st_k1_t1 (F := Ideal) 𝒱 c bd i arg1 harg1 arg2 harg2 arg3 harg3 arg4 harg4 arg5 harg5 arg6 harg6 arg7 harg7 arg8 harg8 arg9 harg9 arg10 harg10 arg11 harg11 arg12 harg12 X1 X2 X3 X4 X5 X6 X7 init n).2)
      = fun y => if 32 - n ≤ (y 1).val / 64 then
          ((if (y 0).val = 1 then din (DG A V G Wv Wg bv bg) Wg (y 1).val (y 2).val else din (DV A G Wg bg) Wv (y 1).val (y 2).val : ℝ) : EReal)
        else v.read (Elt Ideal) B y
  | 0, _ => by
    funext y
    have hy : (y 1).val < 2048 := (y 1).isLt
    exact (if_neg (show ¬ 32 - 0 ≤ (y 1).val / 64 by omega)).symm
  | n + 1, hn => by
    have h : n < k1_t1_loop.trips := hn
    rw [show st_k1_t1 (F := Ideal) 𝒱 c bd i arg1 harg1 arg2 harg2 arg3 harg3 arg4 harg4 arg5 harg5 arg6 harg6 arg7 harg7 arg8 harg8 arg9 harg9 arg10 harg10 arg11 harg11 arg12 harg12 X1 X2 X3 X4 X5 X6 X7 init (n + 1) = _ from st_k1_t1_succ 𝒱 c bd i arg1 harg1 arg2 harg2 arg3 harg3 arg4 harg4 arg5 harg5 arg6 harg6 arg7 harg7 arg8 harg8 arg9 harg9 arg10 harg10 arg11 harg11 arg12 harg12 X1 X2 X3 X4 X5 X6 X7 init ⟨n, h⟩]
    dsimp only
    rw [View.writes_append, bwd_state 𝒱 c bd i arg1 harg1 arg2 harg2 arg3 harg3 arg4 harg4 arg5 harg5 arg6 harg6 arg7 harg7 arg8 harg8 arg9 harg9 arg10 harg10 arg11 harg11 arg12 harg12 X1 X2 X3 X4 X5 X6 X7 A V G Wv Wg bv bg h1 h2 h3 h4 h5 h6 h7 init hi n (by omega), bwd_trip,
      h1, h2, h3, h4, h5, h6, h7, show dhgX _ _ _ _ _ _ _ _ _ = _ from dhg_mat A V G Wv Wg bv bg ⟨n, h⟩, show dhvX _ _ _ _ _ _ _ _ _ = _ from dhv_mat A V G Wv Wg bv bg ⟨n, h⟩]
    rw [View.read_writes_cons_put _ _ _ _ _ (k1_off4_rows _), View.read_writes_cons_put _ _ _ _ _ (k1_off3_rows _), View.writes_nil,
      bwd_rows init hi v B n (by omega)]
    refine (put_half _ 1 (31 - n) (din (DG A V G Wv Wg bv bg) Wg)).trans ?_
    funext y
    have hy0 : (y 0).val < 2 := (y 0).isLt
    have hy : (y 1).val < 2048 := (y 1).isLt
    by_cases e : (y 0).val = 1 ∧ (y 1).val / 64 = 31 - n
    · rw [if_pos e, if_pos (by omega), if_pos e.1]
    · rw [if_neg e]
      refine (congrFun (put_half _ 0 (31 - n) (din (DV A G Wg bg) Wv)) y).trans ?_
      dsimp only
      by_cases e' : (y 0).val = 0 ∧ (y 1).val / 64 = 31 - n
      · rw [if_pos e', if_pos (by omega), if_neg (by omega)]
      · rw [if_neg e']
        by_cases l : 32 - n ≤ (y 1).val / 64
        · rw [if_pos l, if_pos (show 32 - (n + 1) ≤ (y 1).val / 64 by omega)]
        · rw [if_neg l, if_neg (by omega)]

/-- The gradient's buffer after the loop. -/
theorem bwd_all (init : Carry) (hi : init = (carryR (DV A G Wg bg) V (DG A V G Wv Wg bv bg) G 0))
    (v : View sig .tc .vmem S2x2048x256 .bf16) (B : BufTy.Contents (Elt Ideal) v.ty) :
    v.read (Elt Ideal) (v.writes (Elt Ideal) B (st_k1_t1 (F := Ideal) 𝒱 c bd i arg1 harg1 arg2 harg2 arg3 harg3 arg4 harg4 arg5 harg5 arg6 harg6 arg7 harg7 arg8 harg8 arg9 harg9 arg10 harg10 arg11 harg11 arg12 harg12 X1 X2 X3 X4 X5 X6 X7 init k1_t1_loop.trips).2)
      = ten fun h t j => if h = 1 then din (DG A V G Wv Wg bv bg) Wg t j else din (DV A G Wg bg) Wv t j := by
  rw [show k1_t1_loop.trips = 32 from rfl, bwd_rows 𝒱 c bd i arg1 harg1 arg2 harg2 arg3 harg3 arg4 harg4 arg5 harg5 arg6 harg6 arg7 harg7 arg8 harg8 arg9 harg9 arg10 harg10 arg11 harg11 arg12 harg12 X1 X2 X3 X4 X5 X6 X7 A V G Wv Wg bv bg h1 h2 h3 h4 h5 h6 h7 init hi v B 32 le_rfl]
  funext y
  exact if_pos (by omega)

end Real

end Pieces

/-- A running group sum's row at the end. -/
theorem row_total (f : ℕ → ℕ → ℝ) : rowT (mat (part f 32)) = mat fun _ j => ∑ t : Fin 2048, f t.val j := by
  rw [row_mat]
  funext y
  exact congrArg ((↑) : ℝ → EReal) (part_total f _)

/-- Nothing is carried into the first trip. -/
theorem carry_zero (D V E G : ℕ → ℕ → ℝ) : ((k1_pay31, k1_pay32, k1_pay33, k1_pay34, k1_pay35, k1_pay31, k1_pay32, k1_pay33, k1_pay34, k1_pay35) : Carry) = carryR D V E G 0 := by
  have z : ∀ f : ℕ → ℕ → ℝ, (∀ r j, f r j = 0) → (broadcast S8x256 (Scalar.ofBits (F := Ideal) .f32 0x00000000#32) : FVec Ideal S8x256 .f32) = mat f := by
    intro f hf
    funext y
    show Ideal.ofBits .f32 0x00000000#32 = ((f _ _ : ℝ) : EReal)
    rw [hf]
    exact AttnRefRead.zero_f32
  have p : ∀ D : ℕ → ℕ → ℝ, ∀ r j, past D (64 * (32 - 0) + r) j = 0 := fun D r j => if_neg (by omega)
  unfold carryR k1_pay31 k1_pay32 k1_pay33 k1_pay34 k1_pay35
  dsimp only
  rw [← z _ (p D), ← z _ (p E), ← z (part _ 0) fun _ _ => Finset.sum_range_zero _, ← z (part _ 0) fun _ _ => Finset.sum_range_zero _,
    ← z (part _ 0) fun _ _ => Finset.sum_range_zero _, ← z (part _ 0) fun _ _ => Finset.sum_range_zero _, ← z (part _ 0) fun _ _ => Finset.sum_range_zero _,
    ← z (part _ 0) fun _ _ => Finset.sum_range_zero _, ← z (part _ 0) fun _ _ => Finset.sum_range_zero _, ← z (part _ 0) fun _ _ => Finset.sum_range_zero _]

/-- Three rows stored one by one. -/
theorem three_rows (v : View sig .tc .vmem S3x256 .f32) (B : BufTy.Contents (Elt Ideal) v.ty) (A : ℕ → ℕ → ℝ) (p2 p1 p0 : FVec Ideal S1x256 .f32)
    (h2 : p2 = mat fun _ j => A 2 j) (h1 : p1 = mat fun _ j => A 1 j) (h0 : p0 = mat fun _ j => A 0 j) :
    v.read (Elt Ideal) (v.writes (Elt Ideal) B [⟨Rect.unit (s := S3x256) ![2, 0] S1x256.size inb_S3x256_S1x256_2_0, p2⟩,
      ⟨Rect.unit (s := S3x256) ![1, 0] S1x256.size inb_S3x256_S1x256_1_0, p1⟩, ⟨Rect.unit (s := S3x256) ![0, 0] S1x256.size inb_S3x256_S1x256_0_0, p0⟩]) = mat A := by
  subst h2 h1 h0
  rw [View.read_writes_cons_put _ _ _ _ _ rfl, View.read_writes_cons_put _ _ _ _ _ rfl, View.read_writes_cons_put _ _ _ _ _ rfl,
    put_row _ 2 A, put_row _ 1 A, put_row _ 0 A]
  funext y
  have hy : (y 0).val < 3 := (y 0).isLt
  dsimp only
  by_cases e2 : (y 0).val = 2
  · rw [if_pos e2]
  · rw [if_neg e2]
    by_cases e1 : (y 0).val = 1
    · rw [if_pos e1]
    · rw [if_neg e1, if_pos (by omega)]

/-- No row back is the row. -/
theorem back_none (V : ℕ → ℕ → ℝ) : back 0 V = V := by
  funext t j
  exact if_pos (Nat.zero_le t)

/-- The gradients of the three taps' weights and of the bias. -/
def dtap (D V : ℕ → ℕ → ℝ) (k j : ℕ) : ℝ := ∑ t : Fin 2048, D t.val j * back (2 - k) V t.val j
def dbias (D : ℕ → ℕ → ℝ) (j : ℕ) : ℝ := ∑ t : Fin 2048, D t.val j

section Outs

variable (c : Dev nD) (i : grid1.Coords)
  (arg1 : Memref sig .tc .vmem S2048x256 .f32) (harg1 : arg1.IsWhole)
  (arg2 : Memref sig .tc .vmem S2048x256 .f32) (harg2 : arg2.IsWhole)
  (arg3 : Memref sig .tc .vmem S2048x256 .f32) (harg3 : arg3.IsWhole)
  (arg4 : Memref sig .tc .vmem S3x256 .f32) (harg4 : arg4.IsWhole)
  (arg5 : Memref sig .tc .vmem S3x256 .f32) (harg5 : arg5.IsWhole)
  (arg6 : Memref sig .tc .vmem S1x256 .f32) (harg6 : arg6.IsWhole)
  (arg7 : Memref sig .tc .vmem S1x256 .f32) (harg7 : arg7.IsWhole)
  (arg8 : Memref sig .tc .vmem S2x2048x256 .bf16) (harg8 : arg8.IsWhole)
  (arg9 : Memref sig .tc .vmem S3x256 .f32) (harg9 : arg9.IsWhole)
  (arg10 : Memref sig .tc .vmem S3x256 .f32) (harg10 : arg10.IsWhole)
  (arg11 : Memref sig .tc .vmem S1x256 .f32) (harg11 : arg11.IsWhole)
  (arg12 : Memref sig .tc .vmem S1x256 .f32) (harg12 : arg12.IsWhole)
    (A V G Wv Wg : ℕ → ℕ → ℝ) (bv bg : ℕ → ℝ)

/-- What the backward body leaves in the blocks of its results. -/
theorem out_dh : out1_A_7 (F := Ideal) c i arg1 harg1 arg2 harg2 arg3 harg3 arg4 harg4 arg5 harg5 arg6 harg6 arg7 harg7 arg8 harg8 arg9 harg9 arg10 harg10 arg11 harg11 arg12 harg12 (mat A) (mat V) (mat G) (mat Wv) (mat Wg) (mat fun _ j => bv j) (mat fun _ j => bg j)
    = ten fun h t j => if h = 1 then din (DG A V G Wv Wg bv bg) Wg t j else din (DV A G Wg bg) Wv t j := by
  unfold out1_A_7 kernelRun1_A
  dsimp only
  exact bwd_all Variants.none c none i arg1 harg1 arg2 harg2 arg3 harg3 arg4 harg4 arg5 harg5 arg6 harg6 arg7 harg7 arg8 harg8 arg9 harg9 arg10 harg10 arg11 harg11 arg12 harg12 _ _ _ _ _ _ _ A V G Wv Wg bv bg (harg1.read_unread _) (harg2.read_unread _) (harg3.read_unread _)
    (harg4.read_unread _) (harg5.read_unread _) (harg6.read_unread _) (harg7.read_unread _) _ (carry_zero _ _ _ _) _ _

/-- The carry at the end of the body's loop. -/
theorem last_carry : (st_k1_t1 (F := Ideal) Variants.none c none i arg1 harg1 arg2 harg2 arg3 harg3 arg4 harg4 arg5 harg5 arg6 harg6 arg7 harg7 arg8 harg8 arg9 harg9 arg10 harg10 arg11 harg11 arg12 harg12 (harg1.unread (mat A)) (harg2.unread (mat V)) (harg3.unread (mat G))
      (harg4.unread (mat Wv)) (harg5.unread (mat Wg)) (harg6.unread (mat fun _ j => bv j)) (harg7.unread (mat fun _ j => bg j)) (k1_pay31, k1_pay32, k1_pay33, k1_pay34, k1_pay35, k1_pay31, k1_pay32, k1_pay33, k1_pay34, k1_pay35) 32).1
    = (carryR (DV A G Wg bg) V (DG A V G Wv Wg bv bg) G 32) :=
  bwd_state Variants.none c none i arg1 harg1 arg2 harg2 arg3 harg3 arg4 harg4 arg5 harg5 arg6 harg6 arg7 harg7 arg8 harg8 arg9 harg9 arg10 harg10 arg11 harg11 arg12 harg12 _ _ _ _ _ _ _ A V G Wv Wg bv bg (harg1.read_unread _) (harg2.read_unread _) (harg3.read_unread _)
    (harg4.read_unread _) (harg5.read_unread _) (harg6.read_unread _) (harg7.read_unread _) _ (carry_zero _ _ _ _) 32 le_rfl

theorem out_dwv : out1_A_8 (F := Ideal) c i arg1 harg1 arg2 harg2 arg3 harg3 arg4 harg4 arg5 harg5 arg6 harg6 arg7 harg7 arg8 harg8 arg9 harg9 arg10 harg10 arg11 harg11 arg12 harg12 (mat A) (mat V) (mat G) (mat Wv) (mat Wg) (mat fun _ j => bv j) (mat fun _ j => bg j) = mat (dtap (DV A G Wg bg) V) := by
  have e := last_carry c i arg1 harg1 arg2 harg2 arg3 harg3 arg4 harg4 arg5 harg5 arg6 harg6 arg7 harg7 arg8 harg8 arg9 harg9 arg10 harg10 arg11 harg11 arg12 harg12 A V G Wv Wg bv bg
  unfold out1_A_8 kernelRun1_A
  dsimp only
  refine three_rows _ _ _ _ _ _ ((congrArg (fun s : Carry => rowT s.2.2.2.1) e).trans ?_) ((congrArg (fun s : Carry => rowT s.2.2.1) e).trans (row_total _))
    ((congrArg (fun s : Carry => rowT s.2.1) e).trans (row_total _))
  refine (row_total _).trans ?_
  unfold dtap
  rw [back_none]

theorem out_dwg : out1_A_9 (F := Ideal) c i arg1 harg1 arg2 harg2 arg3 harg3 arg4 harg4 arg5 harg5 arg6 harg6 arg7 harg7 arg8 harg8 arg9 harg9 arg10 harg10 arg11 harg11 arg12 harg12 (mat A) (mat V) (mat G) (mat Wv) (mat Wg) (mat fun _ j => bv j) (mat fun _ j => bg j) = mat (dtap (DG A V G Wv Wg bv bg) G) := by
  have e := last_carry c i arg1 harg1 arg2 harg2 arg3 harg3 arg4 harg4 arg5 harg5 arg6 harg6 arg7 harg7 arg8 harg8 arg9 harg9 arg10 harg10 arg11 harg11 arg12 harg12 A V G Wv Wg bv bg
  unfold out1_A_9 kernelRun1_A
  dsimp only
  refine three_rows _ _ _ _ _ _ ((congrArg (fun s : Carry => rowT s.2.2.2.2.2.2.2.2.1) e).trans ?_) ((congrArg (fun s : Carry => rowT s.2.2.2.2.2.2.2.1) e).trans (row_total _))
    ((congrArg (fun s : Carry => rowT s.2.2.2.2.2.2.1) e).trans (row_total _))
  refine (row_total _).trans ?_
  unfold dtap
  rw [back_none]

theorem out_dbv : out1_A_10 (F := Ideal) c i arg1 harg1 arg2 harg2 arg3 harg3 arg4 harg4 arg5 harg5 arg6 harg6 arg7 harg7 arg8 harg8 arg9 harg9 arg10 harg10 arg11 harg11 arg12 harg12 (mat A) (mat V) (mat G) (mat Wv) (mat Wg) (mat fun _ j => bv j) (mat fun _ j => bg j) = mat fun _ j => dbias (DV A G Wg bg) j := by
  have e := last_carry c i arg1 harg1 arg2 harg2 arg3 harg3 arg4 harg4 arg5 harg5 arg6 harg6 arg7 harg7 arg8 harg8 arg9 harg9 arg10 harg10 arg11 harg11 arg12 harg12 A V G Wv Wg bv bg
  unfold out1_A_10 kernelRun1_A
  dsimp only
  refine (View.read_writes_full _ _ _ _ _).trans ?_
  exact (congrArg (fun s : Carry => rowT s.2.2.2.2.1) e).trans (row_total _)

theorem out_dbg : out1_A_11 (F := Ideal) c i arg1 harg1 arg2 harg2 arg3 harg3 arg4 harg4 arg5 harg5 arg6 harg6 arg7 harg7 arg8 harg8 arg9 harg9 arg10 harg10 arg11 harg11 arg12 harg12 (mat A) (mat V) (mat G) (mat Wv) (mat Wg) (mat fun _ j => bv j) (mat fun _ j => bg j) = mat fun _ j => dbias (DG A V G Wv Wg bv bg) j := by
  have e := last_carry c i arg1 harg1 arg2 harg2 arg3 harg3 arg4 harg4 arg5 harg5 arg6 harg6 arg7 harg7 arg8 harg8 arg9 harg9 arg10 harg10 arg11 harg11 arg12 harg12 A V G Wv Wg bv bg
  unfold out1_A_11 kernelRun1_A
  dsimp only
  refine (View.read_writes_full _ _ _ _ _).trans ?_
  exact (congrArg (fun s : Carry => rowT s.2.2.2.2.2.2.2.2.2) e).trans (row_total _)

end Outs

end Cert.ConvValue

end
-- ==== Proof.ConvArray.lean ====
/-
  The convolution: what the forward and the backward region's arrays hold, of real arrays whose columns are the padded
  columns of the value's half and then of the gate's.
-/
module

public import proofs.«01_k».proof.Proof.ConvFwd
public import proofs.«01_k».proof.Proof.ConvBwd

@[expose] public section

set_option maxRecDepth 16384

noncomputable section

namespace Cert.ConvValue

open Idealize.ShloMosaic Idealize.ShloMosaic.TcCoe Idealize.SL.Sem
open Idealize.ShloMosaic.Pipeline (Dat)
open ConvIdeal ConvIdeal.Gen ConvReal Reals
open AttnRefRead (mat vec)

/-- Which block of each array a grid point works on, forwards. -/
theorem idx0 : ∀ t : Fin cfg0.N, win0_0.index t = ![0, t.val] ∧ win0_1.index t = ![0, 22 + t.val] ∧ win0_2.index t = ![0, t.val] ∧
    win0_3.index t = ![0, 22 + t.val] ∧ win0_4.index t = ![0, t.val] ∧ win0_5.index t = ![0, 22 + t.val] ∧ win0_6.index t = ![0, t.val] :=
  (by decide +kernel : ∀ t : Fin grid0.N, _)
/-- The same, backwards. -/
theorem idx1 : ∀ t : Fin cfg1.N, win1_0.index t = ![0, t.val] ∧ win1_1.index t = ![0, t.val] ∧ win1_2.index t = ![0, 22 + t.val] ∧
    win1_3.index t = ![0, t.val] ∧ win1_4.index t = ![0, 22 + t.val] ∧ win1_5.index t = ![0, t.val] ∧ win1_6.index t = ![0, 22 + t.val] ∧
    win1_7.index t = ![0, 0, t.val] ∧ win1_8.index t = ![0, t.val] ∧ win1_9.index t = ![0, t.val] ∧ win1_10.index t = ![0, t.val] ∧
    win1_11.index t = ![0, t.val] := (by decide +kernel : ∀ t : Fin grid1.N, _)

variable (V : (c : Dev nD) → (b : Ref sig .tc) → Buf (Elt Ideal) ((c : Thread nD τ).loc b)) (c : Dev nD)
  (A H W : ℕ → ℕ → ℝ) (b : ℕ → ℝ)
  (ha : V c main_v19 = mat A) (hh : V c main_v4 = mat H) (hw : V c main_v9 = mat W) (hb : V c main_v14 = mat fun _ j => b j)

include hh hw hb in
/-- The forward region's blocks. -/
theorem blocks0 (t : Fin cfg0.N) :
    iblk0 V c 0 t = mat (fun i j => H i (t.val * 256 + j)) ∧ iblk0 V c 1 t = mat (fun i j => H i ((22 + t.val) * 256 + j)) ∧
    iblk0 V c 2 t = mat (fun i j => W i (t.val * 256 + j)) ∧ iblk0 V c 3 t = mat (fun i j => W i ((22 + t.val) * 256 + j)) ∧
    iblk0 V c 4 t = mat (fun _ j => b (t.val * 256 + j)) ∧ iblk0 V c 5 t = mat (fun _ j => b ((22 + t.val) * 256 + j)) := by
  refine ⟨?_, ?_, ?_, ?_, ?_, ?_⟩ <;> funext y <;> unfold iblk0
  · refine (congrFun hh _).trans ?_
    blk_simp [idx0 t, mat]
  · refine (congrFun hh _).trans ?_
    blk_simp [idx0 t, mat]
  · refine (congrFun hw _).trans ?_
    blk_simp [idx0 t, mat]
  · refine (congrFun hw _).trans ?_
    blk_simp [idx0 t, mat]
  · refine (congrFun hb _).trans ?_
    blk_simp [idx0 t, mat]
  · refine (congrFun hb _).trans ?_
    blk_simp [idx0 t, mat]

include ha hh hw hb in
/-- The backward region's blocks. -/
theorem blocks1 (t : Fin cfg1.N) :
    iblk1 V c 0 t = mat (fun i j => A i (t.val * 256 + j)) ∧
    iblk1 V c 1 t = mat (fun i j => H i (t.val * 256 + j)) ∧ iblk1 V c 2 t = mat (fun i j => H i ((22 + t.val) * 256 + j)) ∧
    iblk1 V c 3 t = mat (fun i j => W i (t.val * 256 + j)) ∧ iblk1 V c 4 t = mat (fun i j => W i ((22 + t.val) * 256 + j)) ∧
    iblk1 V c 5 t = mat (fun _ j => b (t.val * 256 + j)) ∧ iblk1 V c 6 t = mat (fun _ j => b ((22 + t.val) * 256 + j)) := by
  refine ⟨?_, ?_, ?_, ?_, ?_, ?_, ?_⟩ <;> funext y <;> unfold iblk1
  · refine (congrFun ha _).trans ?_
    blk_simp [idx1 t, mat]
  · refine (congrFun hh _).trans ?_
    blk_simp [idx1 t, mat]
  · refine (congrFun hh _).trans ?_
    blk_simp [idx1 t, mat]
  · refine (congrFun hw _).trans ?_
    blk_simp [idx1 t, mat]
  · refine (congrFun hw _).trans ?_
    blk_simp [idx1 t, mat]
  · refine (congrFun hb _).trans ?_
    blk_simp [idx1 t, mat]
  · refine (congrFun hb _).trans ?_
    blk_simp [idx1 t, mat]

/-- The gate's column of a value's column. -/
def gcol (j : ℕ) : ℕ := 5632 + j

theorem gcol_block (t j : ℕ) : (22 + t) * 256 + j = gcol (t * 256 + j) := by
  unfold gcol
  omega

/-- The cotangents of the convolved values and of the convolved gates. -/
def cotV (i j : ℕ) : ℝ := dval (A i j) (hc H W b i (gcol j))
def cotG (i j : ℕ) : ℝ := dgate (A i j) (hc H W b i j) (hc H W b i (gcol j))

include hh hw hb in
/-- The activation. -/
theorem arr_act : (dat0 V c).arrAt 6 cfg0.N = mat fun i j => gated (hc H W b i j) (hc H W b i (gcol j)) := by
  refine (dat0 V c).arrAt_eq_of_covers 6 _ (by decide +kernel) fun t _ y => ?_
  obtain ⟨b0, b1, b2, b3, b4, b5⟩ := blocks0 V c H W b hh hw hb t
  blk_simp
  rw [after0_6, outsAt0, b0, b1, b2, b3, b4, b5]
  refine (congrFun (out_fwd _ _ _ _ _ _ _ _ _ _ _ _ _ _ _ _ _ _ _ _ (fun j => b (t.val * 256 + j)) (fun j => b ((22 + t.val) * 256 + j))) _).trans ?_
  blk_simp [idx0 t, mat, gcol_block]
  rfl

include ha hh hw hb in
/-- The gradient of the input, the value's half and the gate's. -/
theorem arr_dh : (dat1 V c).arrAt 7 cfg1.N = ten fun h i j => if h = 1 then din (cotG A H W b) (fun k j => W k (gcol j)) i j else din (cotV A H W b) W i j := by
  refine (dat1 V c).arrAt_eq_of_covers 7 _ (by decide +kernel) fun t _ y => ?_
  obtain ⟨b0, b1, b2, b3, b4, b5, b6⟩ := blocks1 V c A H W b ha hh hw hb t
  blk_simp
  rw [after1_7, outsAt1, b0, b1, b2, b3, b4, b5, b6]
  refine (congrFun (out_dh _ _ _ _ _ _ _ _ _ _ _ _ _ _ _ _ _ _ _ _ _ _ _ _ _ _ _ _ _ _ _ (fun j => b (t.val * 256 + j)) (fun j => b ((22 + t.val) * 256 + j))) _).trans ?_
  blk_simp [idx1 t, ten, gcol_block]
  rfl

include ha hh hw hb in
/-- The gradients of the taps' weights and of the bias. -/
theorem arr_dwv : (dat1 V c).arrAt 8 cfg1.N = mat (dtap (cotV A H W b) H) := by
  refine (dat1 V c).arrAt_eq_of_covers 8 _ (by decide +kernel) fun t _ y => ?_
  obtain ⟨b0, b1, b2, b3, b4, b5, b6⟩ := blocks1 V c A H W b ha hh hw hb t
  blk_simp
  rw [after1_8, outsAt1, b0, b1, b2, b3, b4, b5, b6]
  refine (congrFun (out_dwv _ _ _ _ _ _ _ _ _ _ _ _ _ _ _ _ _ _ _ _ _ _ _ _ _ _ _ _ _ _ _ (fun j => b (t.val * 256 + j)) (fun j => b ((22 + t.val) * 256 + j))) _).trans ?_
  blk_simp [idx1 t, mat, gcol_block]
  rfl

include ha hh hw hb in
theorem arr_dwg : (dat1 V c).arrAt 9 cfg1.N = mat (dtap (cotG A H W b) fun i j => H i (gcol j)) := by
  refine (dat1 V c).arrAt_eq_of_covers 9 _ (by decide +kernel) fun t _ y => ?_
  obtain ⟨b0, b1, b2, b3, b4, b5, b6⟩ := blocks1 V c A H W b ha hh hw hb t
  blk_simp
  rw [after1_9, outsAt1, b0, b1, b2, b3, b4, b5, b6]
  refine (congrFun (out_dwg _ _ _ _ _ _ _ _ _ _ _ _ _ _ _ _ _ _ _ _ _ _ _ _ _ _ _ _ _ _ _ (fun j => b (t.val * 256 + j)) (fun j => b ((22 + t.val) * 256 + j))) _).trans ?_
  blk_simp [idx1 t, mat, gcol_block]
  rfl

include ha hh hw hb in
theorem arr_dbv : (dat1 V c).arrAt 10 cfg1.N = mat fun _ j => dbias (cotV A H W b) j := by
  refine (dat1 V c).arrAt_eq_of_covers 10 _ (by decide +kernel) fun t _ y => ?_
  obtain ⟨b0, b1, b2, b3, b4, b5, b6⟩ := blocks1 V c A H W b ha hh hw hb t
  blk_simp
  rw [after1_10, outsAt1, b0, b1, b2, b3, b4, b5, b6]
  refine (congrFun (out_dbv _ _ _ _ _ _ _ _ _ _ _ _ _ _ _ _ _ _ _ _ _ _ _ _ _ _ _ _ _ _ _ (fun j => b (t.val * 256 + j)) (fun j => b ((22 + t.val) * 256 + j))) _).trans ?_
  blk_simp [idx1 t, mat, gcol_block]
  rfl

include ha hh hw hb in
theorem arr_dbg : (dat1 V c).arrAt 11 cfg1.N = mat fun _ j => dbias (cotG A H W b) j := by
  refine (dat1 V c).arrAt_eq_of_covers 11 _ (by decide +kernel) fun t _ y => ?_
  obtain ⟨b0, b1, b2, b3, b4, b5, b6⟩ := blocks1 V c A H W b ha hh hw hb t
  blk_simp
  rw [after1_11, outsAt1, b0, b1, b2, b3, b4, b5, b6]
  refine (congrFun (out_dbg _ _ _ _ _ _ _ _ _ _ _ _ _ _ _ _ _ _ _ _ _ _ _ _ _ _ _ _ _ _ _ (fun j => b (t.val * 256 + j)) (fun j => b ((22 + t.val) * 256 + j))) _).trans ?_
  blk_simp [idx1 t, mat, gcol_block]
  rfl

end Cert.ConvValue

end
-- ==== Proof.ConvPad.lean ====
/-
  The host code around the convolution kernels: the columns padded in groups of 688 to 704, and cut back.
-/
module

public import proofs.«01_k».proof.Proof.AttnRef
public import proofs.«01_k».proof.Proof.Finite
public import proofs.«01_k».proof.Proof.Gen.ConvIdeal.Frame
public import Idealize.ShloMosaic.Lib.Pointwise

@[expose] public section

set_option maxRecDepth 16384

noncomputable section

namespace Cert.ConvValue

open Idealize.ShloMosaic Idealize.ShloMosaic.TcCoe Idealize.SL.Sem
open ConvIdeal ConvIdeal.Gen Reals
open AttnRefRead (mat vec)

/-- An array's columns with every group of 688 followed by 16 zeros. -/
def pad (X : ℕ → ℕ → ℝ) (i p : ℕ) : ℝ := if p % 704 < 688 then X i (688 * (p / 704) + p % 704) else 0

/-- Where a column goes. -/
def pcol (j : ℕ) : ℕ := 704 * (j / 688) + j % 688

theorem pad_pcol (X : ℕ → ℕ → ℝ) (i j : ℕ) : pad X i (pcol j) = X i j := by
  unfold pad pcol
  rw [if_pos (by omega)]
  congr 1
  omega

/-- The integer zero as a float. -/
def zeroT : FVec Ideal S_ .f32 := sitofp .f32 (constantI S_ 32 0#32)

/-- The four arguments, padded. -/
def padH (x : FVec Ideal S2048x11008 .f32) : FVec Ideal S2048x11264 .f32 :=
  shapeCast S2048x11264 (shapeCast S2048x8x1408 (Idealize.ShloMosaic.pad S2048x8x2x704 ![0, 0, 0, 0] ![0, 0, 0, 16] ![0, 0, 0, 0]
    (shapeCast S2048x8x2x688 (shapeCast S2048x8x1376 x shapeCasts_S2048x11008_S2048x8x1376) shapeCasts_S2048x8x1376_S2048x8x2x688) zeroT
    pads_S2048x8x2x688_S2048x8x2x704_000_000_000_0160 h_S_) shapeCasts_S2048x8x2x704_S2048x8x1408) shapeCasts_S2048x8x1408_S2048x11264

def padW (x : FVec Ideal S3x11008 .f32) : FVec Ideal S3x11264 .f32 :=
  shapeCast S3x11264 (shapeCast S3x8x1408 (Idealize.ShloMosaic.pad S3x8x2x704 ![0, 0, 0, 0] ![0, 0, 0, 16] ![0, 0, 0, 0]
    (shapeCast S3x8x2x688 (shapeCast S3x8x1376 x shapeCasts_S3x11008_S3x8x1376) shapeCasts_S3x8x1376_S3x8x2x688) zeroT
    pads_S3x8x2x688_S3x8x2x704_000_000_000_0160 h_S_) shapeCasts_S3x8x2x704_S3x8x1408) shapeCasts_S3x8x1408_S3x11264
def padB (x : FVec Ideal S11008 .f32) : FVec Ideal S1x11264 .f32 :=
  shapeCast S1x11264 (shapeCast S8x1408 (Idealize.ShloMosaic.pad S8x2x704 ![0, 0, 0] ![0, 0, 16] ![0, 0, 0]
    (shapeCast S8x2x688 (shapeCast S8x1376 x shapeCasts_S11008_S8x1376) shapeCasts_S8x1376_S8x2x688) zeroT
    pads_S8x2x688_S8x2x704_000_000_0160 h_S_) shapeCasts_S8x2x704_S8x1408) shapeCasts_S8x1408_S1x11264
def padA (x : FVec Ideal S2048x5504 .f32) : FVec Ideal S2048x5632 .f32 :=
  shapeCast S2048x5632 (shapeCast S2048x4x1408 (Idealize.ShloMosaic.pad S2048x4x2x704 ![0, 0, 0, 0] ![0, 0, 0, 16] ![0, 0, 0, 0]
    (shapeCast S2048x4x2x688 (shapeCast S2048x4x1376 x shapeCasts_S2048x5504_S2048x4x1376) shapeCasts_S2048x4x1376_S2048x4x2x688) zeroT
    pads_S2048x4x2x688_S2048x4x2x704_000_000_000_0160 h_S_) shapeCasts_S2048x4x2x704_S2048x4x1408) shapeCasts_S2048x4x1408_S2048x5632

theorem zero_word : (FloatOps.sitofp (F := Ideal) .f32 (0#32 : BitVec 32) : EReal) = ((0 : ℝ) : EReal) := by
  show (((BitVec.toInt 0#32 : ℤ) : ℝ) : EReal) = _
  simp

theorem padH_mat (H : ℕ → ℕ → ℝ) : padH (mat H) = mat (pad H) := by
  funext y
  have hy : (y 1).val < 11264 := (y 1).isLt
  unfold padH
  pointwise [mat, zeroT]
  unfold pad
  by_cases h : (y 1).val % 704 < 688
  · rw [dif_pos ⟨by omega, by omega, h⟩, if_pos h, show (y 1).val / 1408 * 1376 + (y 1).val / 704 % 2 * 688 + (y 1).val % 704 = 688 * ((y 1).val / 704) + (y 1).val % 704 by omega]
  · rw [dif_neg (by omega), if_neg h, zero_word]

theorem padW_mat (H : ℕ → ℕ → ℝ) : padW (mat H) = mat (pad H) := by
  funext y
  have hy : (y 1).val < 11264 := (y 1).isLt
  unfold padW
  pointwise [mat, zeroT]
  unfold pad
  by_cases h : (y 1).val % 704 < 688
  · rw [dif_pos ⟨by omega, by omega, h⟩, if_pos h, show (y 1).val / 1408 * 1376 + (y 1).val / 704 % 2 * 688 + (y 1).val % 704 = 688 * ((y 1).val / 704) + (y 1).val % 704 by omega]
  · rw [dif_neg (by omega), if_neg h, zero_word]

theorem padA_mat (H : ℕ → ℕ → ℝ) : padA (mat H) = mat (pad H) := by
  funext y
  have hy : (y 1).val < 5632 := (y 1).isLt
  unfold padA
  pointwise [mat, zeroT]
  unfold pad
  by_cases h : (y 1).val % 704 < 688
  · rw [dif_pos ⟨by omega, by omega, h⟩, if_pos h, show (y 1).val / 1408 * 1376 + (y 1).val / 704 % 2 * 688 + (y 1).val % 704 = 688 * ((y 1).val / 704) + (y 1).val % 704 by omega]
  · rw [dif_neg (by omega), if_neg h, zero_word]

theorem padB_mat (b : ℕ → ℝ) : padB (vec b) = mat fun _ j => pad (fun _ => b) 0 j := by
  funext y
  have hy : (y 1).val < 11264 := (y 1).isLt
  unfold padB
  pointwise [mat, vec, zeroT]
  unfold pad
  by_cases h : (y 1).val % 704 < 688
  · rw [dif_pos ⟨by omega, by omega, h⟩, if_pos h, show (y 1).val / 1408 * 1376 + (y 1).val / 704 % 2 * 688 + (y 1).val % 704 = 688 * ((y 1).val / 704) + (y 1).val % 704 by omega]
  · rw [dif_neg (by omega), if_neg h, zero_word]

/-- The four results, cut back. -/
def cutA (x : FVec Ideal S2048x5632 .bf16) : FVec Ideal S2048x5504 .bf16 :=
  shapeCast S2048x5504 (shapeCast S2048x4x1376 (extractStridedSlice S2048x4x2x688 ![0, 0, 0, 0] (shapeCast S2048x4x2x704
    (shapeCast S2048x4x1408 x shapeCasts_S2048x5632_S2048x4x1408) shapeCasts_S2048x4x1408_S2048x4x2x704)
    slices_S2048x4x2x704_S2048x4x2x688_0_0_0_0) shapeCasts_S2048x4x2x688_S2048x4x1376) shapeCasts_S2048x4x1376_S2048x5504
def cutD (x : FVec Ideal S2x2048x5632 .bf16) : FVec Ideal S2x2048x5504 .bf16 :=
  shapeCast S2x2048x5504 (shapeCast S2x2048x4x1376 (extractStridedSlice S2x2048x4x2x688 ![0, 0, 0, 0, 0] (shapeCast S2x2048x4x2x704
    (shapeCast S2x2048x4x1408 x shapeCasts_S2x2048x5632_S2x2048x4x1408) shapeCasts_S2x2048x4x1408_S2x2048x4x2x704)
    slices_S2x2048x4x2x704_S2x2048x4x2x688_0_0_0_0_0) shapeCasts_S2x2048x4x2x688_S2x2048x4x1376) shapeCasts_S2x2048x4x1376_S2x2048x5504
def cutW (x z : FVec Ideal S3x5632 .f32) : FVec Ideal S3x11008 .f32 :=
  shapeCast S3x11008 (shapeCast S3x8x1376 (extractStridedSlice S3x8x2x688 ![0, 0, 0, 0] (shapeCast S3x8x2x704
    (shapeCast S3x8x1408 (concatenate S3x11264 1 [⟨S3x5632, x⟩, ⟨S3x5632, z⟩] concatenates_S3x5632_S3x5632_S3x11264_d1) shapeCasts_S3x11264_S3x8x1408)
    shapeCasts_S3x8x1408_S3x8x2x704) slices_S3x8x2x704_S3x8x2x688_0_0_0_0) shapeCasts_S3x8x2x688_S3x8x1376) shapeCasts_S3x8x1376_S3x11008
def cutB (x z : FVec Ideal S1x5632 .f32) : FVec Ideal S11008 .f32 :=
  shapeCast S11008 (shapeCast S8x1376 (extractStridedSlice S8x2x688 ![0, 0, 0] (shapeCast S8x2x704
    (shapeCast S8x1408 (concatenate S1x11264 1 [⟨S1x5632, x⟩, ⟨S1x5632, z⟩] concatenates_S1x5632_S1x5632_S1x11264_d1) shapeCasts_S1x11264_S8x1408)
    shapeCasts_S8x1408_S8x2x704) slices_S8x2x704_S8x2x688_0_0_0) shapeCasts_S8x2x688_S8x1376) shapeCasts_S8x1376_S11008

theorem cutA_mat (X : ℕ → ℕ → ℝ) : cutA (mat X) = mat fun i j => X i (pcol j) := by
  funext y
  have hy : (y 1).val < 5504 := (y 1).isLt
  unfold cutA pcol
  pointwise [mat]
  rw [show (y 1).val / 1376 * 1408 + (y 1).val / 688 % 2 * 704 + (y 1).val % 688 = 704 * ((y 1).val / 688) + (y 1).val % 688 by omega]

theorem cutD_ten (X : ℕ → ℕ → ℕ → ℝ) : cutD (ten X) = ten fun h i j => X h i (pcol j) := by
  funext y
  have hy : (y 2).val < 5504 := (y 2).isLt
  unfold cutD pcol
  pointwise [ten]
  rw [show (y 2).val / 1376 * 1408 + (y 2).val / 688 % 2 * 704 + (y 2).val % 688 = 704 * ((y 2).val / 688) + (y 2).val % 688 by omega]

theorem cutW_mat (X Z : ℕ → ℕ → ℝ) : cutW (mat X) (mat Z) = mat fun i j => if j < 5504 then X i (pcol j) else Z i (pcol (j - 5504)) := by
  funext y
  have hy : (y 1).val < 11008 := (y 1).isLt
  unfold cutW pcol
  pointwise [mat]
  rw [show (y 1).val / 1376 * 1408 + (y 1).val / 688 % 2 * 704 + (y 1).val % 688 = 704 * ((y 1).val / 688) + (y 1).val % 688 by omega]
  by_cases h : (y 1).val < 5504
  · rw [if_pos h, dif_pos (by omega)]
  · rw [if_neg h, dif_neg (by omega), show 704 * ((y 1).val / 688) + (y 1).val % 688 - 5632 = 704 * (((y 1).val - 5504) / 688) + ((y 1).val - 5504) % 688 by omega]

theorem cutB_vec (X Z : ℕ → ℝ) : cutB (mat fun _ j => X j) (mat fun _ j => Z j) = vec fun j => if j < 5504 then X (pcol j) else Z (pcol (j - 5504)) := by
  funext y
  have hy : (y 0).val < 11008 := (y 0).isLt
  unfold cutB pcol
  pointwise [mat, vec]
  rw [show (y 0).val / 1376 * 1408 + (y 0).val / 688 % 2 * 704 + (y 0).val % 688 = 704 * ((y 0).val / 688) + (y 0).val % 688 by omega]
  by_cases h : (y 0).val < 5504
  · rw [if_pos h, dif_pos (by omega)]
  · rw [if_neg h, dif_neg (by omega), show 704 * ((y 0).val / 688) + (y 0).val % 688 - 5632 = 704 * (((y 0).val - 5504) / 688) + ((y 0).val - 5504) % 688 by omega]

end Cert.ConvValue

end
-- ==== Proof.ConvCot.lean ====
/-
  The convolved row's cotangent in the columns of the problem, and that padding the columns changes nothing in a column.
-/
module

public import proofs.«01_k».proof.Proof.ConvArray
public import proofs.«01_k».proof.Proof.ConvPad

@[expose] public section

set_option maxRecDepth 16384

noncomputable section

namespace Cert.ConvValue

open ConvReal

/-- The cotangent of the convolved rows: the value's columns, then the gate's. -/
def cot (A H W : ℕ → ℕ → ℝ) (b : ℕ → ℝ) (t q : ℕ) : ℝ :=
  if q < 5504 then dval (A t q) (hc H W b t (5504 + q)) else dgate (A t (q - 5504)) (hc H W b t (q - 5504)) (hc H W b t q)

variable (A H W : ℕ → ℕ → ℝ) (b : ℕ → ℝ)

/-- The padded bias. -/
def pbias (b : ℕ → ℝ) (j : ℕ) : ℝ := pad (fun _ => b) 0 j

theorem gcol_pcol (q : ℕ) (h : q < 5504) : gcol (pcol q) = pcol (5504 + q) := by
  unfold gcol pcol
  omega

theorem back_pcol (s t q : ℕ) : back s (pad H) t (pcol q) = back s H t q := by
  unfold back
  rw [pad_pcol]

theorem hc_pcol (t q : ℕ) : hc (pad H) (pad W) (pbias b) t (pcol q) = hc H W b t q := by
  unfold hc pbias
  simp only [back_pcol, pad_pcol]

theorem cotV_pcol (t q : ℕ) (h : q < 5504) : cotV (pad A) (pad H) (pad W) (pbias b) t (pcol q) = cot A H W b t q := by
  unfold cotV cot
  rw [gcol_pcol q h, hc_pcol, pad_pcol, if_pos h]

theorem cotG_pcol (t q : ℕ) (h : q < 5504) : cotG (pad A) (pad H) (pad W) (pbias b) t (pcol q) = cot A H W b t (5504 + q) := by
  unfold cotG cot
  rw [gcol_pcol q h, hc_pcol, hc_pcol, pad_pcol, if_neg (by omega), Nat.add_sub_cancel_left]

theorem cotG_pcol' (t q : ℕ) (h : ¬q < 5504) (h' : q < 11008) :
    cotG (pad A) (pad H) (pad W) (pbias b) t (pcol (q - 5504)) = cot A H W b t q := by
  rw [cotG_pcol A H W b t _ (by omega), Nat.add_sub_cancel' (by omega)]

theorem gcol_pcol' (q : ℕ) (h : ¬q < 5504) (h' : q < 11008) : gcol (pcol (q - 5504)) = pcol q := by
  rw [gcol_pcol _ (by omega), Nat.add_sub_cancel' (by omega)]

/-- The input's gradient in a column. -/
theorem din_cot (i j : ℕ) (h : j < 5504) :
    din (cotV (pad A) (pad H) (pad W) (pbias b)) (pad W) i (pcol j) = din (cot A H W b) W i j ∧
    din (cotG (pad A) (pad H) (pad W) (pbias b)) (fun k j => pad W k (gcol j)) i (pcol j) = din (cot A H W b) W i (5504 + j) := by
  unfold din past
  simp only [cotV_pcol A H W b _ j h, cotG_pcol A H W b _ j h, gcol_pcol j h, pad_pcol, and_self]

/-- The weights' gradient in a column. -/
theorem dtap_cot (k j : ℕ) (h : j < 11008) :
    (if j < 5504 then dtap (cotV (pad A) (pad H) (pad W) (pbias b)) (pad H) k (pcol j)
      else dtap (cotG (pad A) (pad H) (pad W) (pbias b)) (fun i j => pad H i (gcol j)) k (pcol (j - 5504))) = dtap (cot A H W b) H k j := by
  unfold dtap
  by_cases e : j < 5504
  · rw [if_pos e]
    simp only [cotV_pcol A H W b _ j e, back_pcol]
  · rw [if_neg e]
    refine Finset.sum_congr rfl fun t _ => congrArg₂ (· * ·) (cotG_pcol' A H W b _ _ e h) ?_
    unfold back
    dsimp only
    rw [gcol_pcol' j e h, pad_pcol]

/-- The bias's gradient in a column. -/
theorem dbias_cot (j : ℕ) (h : j < 11008) :
    (if j < 5504 then dbias (cotV (pad A) (pad H) (pad W) (pbias b)) (pcol j)
      else dbias (cotG (pad A) (pad H) (pad W) (pbias b)) (pcol (j - 5504))) = dbias (cot A H W b) j := by
  unfold dbias
  by_cases e : j < 5504
  · rw [if_pos e]
    simp only [cotV_pcol A H W b _ j e]
  · rw [if_neg e]
    exact Finset.sum_congr rfl fun t _ => cotG_pcol' A H W b _ _ e h

end Cert.ConvValue

end
-- ==== Proof.ConvRef.lean ====
/-
  The convolution's reference at real arrays: each value of the program, read at an index.
-/
module

public import proofs.«01_k».proof.Proof.ConvCot
public import proofs.«01_k».proof.Proof.LnRef
public import proofs.«01_k».proof.Proof.Gen.ConvRefIdeal.Read

@[expose] public section

set_option maxRecDepth 16384

noncomputable section

namespace Cert.ConvRefRead

open Idealize.ShloMosaic Idealize.ShloMosaic.TcCoe
open ConvRefIdeal ConvRefIdeal.Gen ConvRefIdeal.Read ConvReal Reals
open ConvValue (cot dtap dbias)
open AttnRefRead (mat vec zero_f32 one_f32)
open LnRefRead (ops sum_from)

variable (A H W : ℕ → ℕ → ℝ) (b : ℕ → ℝ)

/-- The input below two rows of zeros. -/
theorem r2 (i : S1x2050x11008.Idx) : val_main_v2 (F := Ideal) (mat H) i
    = (((if (i 1).val < 2 then 0 else H ((i 1).val - 2) (i 2).val : ℝ)) : EReal) := by
  unfold val_main_v2
  have z : ∀ y, val_main_v1 (F := Ideal) y = ((0 : ℝ) : EReal) := fun y => by
    rw [val_main_v1_apply, val_main_cst_apply]; exact zero_f32
  have x : ∀ y, val_main_v0 (F := Ideal) (mat H) y = ((H (y 1).val (y 2).val : ℝ) : EReal) := fun y => by
    rw [val_main_v0_apply]; rfl
  pointwise
  by_cases e : (i 1).val < 2
  · rw [dif_pos e, if_pos e, z]
  · rw [dif_neg e, if_neg e, x]
    rfl

/-- The rows two, one and none before. -/
theorem r4 (i : S1x2048x11008.Idx) : val_main_v4 (F := Ideal) (mat H) i = ((back 2 H (i 1).val (i 2).val : ℝ) : EReal) := by
  rw [val_main_v4_apply, r2]
  unfold back
  refine congrArg (fun r : ℝ => (r : EReal)) ?_
  show (if (i 1).val < 2 then 0 else H ((i 1).val - 2) (i 2).val) = _
  by_cases e : (i 1).val < 2
  · rw [if_pos e, if_neg (by omega)]
  · rw [if_neg e, if_pos (by omega)]
theorem r13 (i : S1x2048x11008.Idx) : val_main_v13 (F := Ideal) (mat H) i = ((back 1 H (i 1).val (i 2).val : ℝ) : EReal) := by
  rw [val_main_v13_apply, r2]
  unfold back
  refine congrArg (fun r : ℝ => (r : EReal)) ?_
  show (if 1 + (i 1).val < 2 then 0 else H (1 + (i 1).val - 2) (i 2).val) = _
  by_cases e : 1 ≤ (i 1).val
  · rw [if_neg (by omega), if_pos e, show 1 + (i 1).val - 2 = (i 1).val - 1 by omega]
  · rw [if_pos (by omega), if_neg e]
theorem r20 (i : S1x2048x11008.Idx) : val_main_v20 (F := Ideal) (mat H) i = ((back 0 H (i 1).val (i 2).val : ℝ) : EReal) := by
  rw [val_main_v20_apply, r2]
  unfold back
  refine congrArg (fun r : ℝ => (r : EReal)) ?_
  show (if 2 + (i 1).val < 2 then 0 else H (2 + (i 1).val - 2) (i 2).val) = _
  rw [if_neg (by omega), if_pos (by omega), show 2 + (i 1).val - 2 = (i 1).val - 0 by omega]

/-- A tap's weights, on every row. -/
theorem w7 (i : S1x1x11008.Idx) : val_main_v7 (F := Ideal) (mat W) i = ((W 0 (i 2).val : ℝ) : EReal) := by
  have h : (i 2).val < 11008 := (i 2).isLt
  rw [val_main_v7_apply, val_main_v6_apply, val_main_v5_apply]
  exact congrArg (fun k => ((W 0 k : ℝ) : EReal)) (Nat.mod_eq_of_lt h)
theorem w16 (i : S1x1x11008.Idx) : val_main_v16 (F := Ideal) (mat W) i = ((W 1 (i 2).val : ℝ) : EReal) := by
  have h : (i 2).val < 11008 := (i 2).isLt
  rw [val_main_v16_apply, val_main_v15_apply, val_main_v14_apply]
  exact congrArg (fun k => ((W 1 k : ℝ) : EReal)) (Nat.mod_eq_of_lt h)
theorem w23 (i : S1x1x11008.Idx) : val_main_v23 (F := Ideal) (mat W) i = ((W 2 (i 2).val : ℝ) : EReal) := by
  have h : (i 2).val < 11008 := (i 2).isLt
  rw [val_main_v23_apply, val_main_v22_apply, val_main_v21_apply]
  exact congrArg (fun k => ((W 2 k : ℝ) : EReal)) (Nat.mod_eq_of_lt h)

/-- The convolved rows. -/
theorem r26 (i : S1x2048x11008.Idx) : val_main_v26 (F := Ideal) (mat H) (mat W) (vec b) i = ((hc H W b (i 1).val (i 2).val : ℝ) : EReal) := by
  have h11 : val_main_v11 (F := Ideal) (vec b) i = ((b (i 2).val : ℝ) : EReal) := by rw [val_main_v11_apply, val_main_v10_apply]; rfl
  rw [val_main_v26_apply, val_main_v19_apply, val_main_v12_apply, val_main_v9_apply, val_main_v18_apply, val_main_v25_apply, h11, r4, r13, r20,
    val_main_v8_apply, w7, val_main_v17_apply, w16, val_main_v24_apply, w23, (ops _ _).1, (ops _ _).1, (ops _ _).1, (ops _ _).2.1, (ops _ _).2.1,
    (ops _ _).2.1]
  rfl

/-- The gate's logistic function. -/
theorem r29 (i : S1x2048x5504.Idx) : val_main_v29_2 (F := Ideal) (mat H) (mat W) (vec b) i
    = ((sg (hc H W b (i 1).val (5504 + (i 2).val)) : ℝ) : EReal) := by
  have one : ∀ y, val_main_call0_v2 (F := Ideal) y = ((1 : ℝ) : EReal) := fun y => by
    rw [val_main_call0_v2_apply, val_main_call0_cst_apply]; exact one_f32
  have one' : ∀ y, val_main_call0_v4 (F := Ideal) y = ((1 : ℝ) : EReal) := fun y => by
    rw [val_main_call0_v4_apply, val_main_call0_cst_0_apply]; exact one_f32
  have ex : ∀ x : ℝ, FloatOps.hostUnary (F := Ideal) (φ := .f32) .exp (x : EReal) = ((Real.exp x : ℝ) : EReal) := fun x => rfl
  rw [val_main_v29_2_apply, one', val_main_call0_v3_apply, one, val_main_call0_v1_apply, val_main_call0_v0_apply, val_main_v28_apply, r26,
    (ops _ 0).2.2.2.1, ex, (ops _ _).2.1, sg_eq]
  exact div_coe_coe _ (by positivity)

/-- The activation. -/
theorem r30 (i : S1x2048x5504.Idx) : val_main_v30 (F := Ideal) (mat H) (mat W) (vec b) i
    = ((gated (hc H W b (i 1).val (i 2).val) (hc H W b (i 1).val (5504 + (i 2).val)) : ℝ) : EReal) := by
  rw [val_main_v30_apply, val_main_v29_0_apply, val_main_v28_apply, val_main_v27_apply, r26, r26, r29, (ops _ _).1, (ops _ _).1]
  rfl

/-- The value's cotangent. -/
theorem r32 (i : S1x2048x5504.Idx) : val_main_v32 (F := Ideal) (mat H) (mat W) (vec b) (mat A) i
    = ((dval (A (i 1).val (i 2).val) (hc H W b (i 1).val (5504 + (i 2).val)) : ℝ) : EReal) := by
  have h31 : val_main_v31 (F := Ideal) (mat A) i = ((A (i 1).val (i 2).val : ℝ) : EReal) := by rw [val_main_v31_apply]; rfl
  rw [val_main_v32_apply, val_main_v29_0_apply, val_main_v28_apply, r26, r29, h31, (ops _ _).1, (ops _ _).1]
  exact congrArg (fun r : ℝ => (r : EReal)) (mul_comm _ _)

/-- The gate's cotangent. -/
theorem r34 (i : S1x2048x5504.Idx) : val_main_v34 (F := Ideal) (mat H) (mat W) (vec b) (mat A) i
    = ((dgate (A (i 1).val (i 2).val) (hc H W b (i 1).val (i 2).val) (hc H W b (i 1).val (5504 + (i 2).val)) : ℝ) : EReal) := by
  have h31 : val_main_v31 (F := Ideal) (mat A) i = ((A (i 1).val (i 2).val : ℝ) : EReal) := by rw [val_main_v31_apply]; rfl
  have one : val_main_call0_v6 (F := Ideal) i = ((1 : ℝ) : EReal) := by
    rw [val_main_call0_v6_apply, val_main_call0_cst_1_apply]; exact one_f32
  rw [val_main_v34_apply, val_main_call1_v1_apply, val_main_call1_v2_apply, val_main_call1_v0_apply, val_main_v33_apply, val_main_v28_apply,
    val_main_v27_apply, r26, r26, h31, val_main_v29_1_apply, val_main_call0_v7_apply, one, r29]
  simp only [(ops _ _).1, (ops _ _).2.1, (ops _ _).2.2.1]
  refine congrArg (fun r : ℝ => (r : EReal)) ?_
  unfold dgate
  generalize hc H W b (i 1).val (5504 + (i 2).val) = g
  show A (i 1).val (i 2).val * hc H W b (i 1).val (i 2).val * sg g + g * (A (i 1).val (i 2).val * hc H W b (i 1).val (i 2).val) * (sg g * (1 - sg g)) = _
  ring

/-- The convolved rows' cotangent. -/
theorem r37 (i : S1x2048x11008.Idx) : val_main_v37 (F := Ideal) (mat H) (mat W) (vec b) (mat A) i
    = ((cot A H W b (i 1).val (i 2).val : ℝ) : EReal) := by
  have z1 : ∀ y, val_main_cst_1 (F := Ideal) y = ((0 : ℝ) : EReal) := fun y => zero_f32
  have z2 : ∀ y, val_main_cst_2 (F := Ideal) y = ((0 : ℝ) : EReal) := fun y => zero_f32
  have i2 : (i 2).val < 11008 := (i 2).isLt
  have i1 : (i 1).val < 2048 := (i 1).isLt
  have i0 : (i 0).val < 1 := (i 0).isLt
  rw [val_main_v37_apply]
  unfold val_main_v35 val_main_v36
  pointwise
  unfold cot
  by_cases e : (i 2).val < 5504
  · rw [if_pos e, dif_pos e, dif_neg (by omega), r32, z1]
    exact (ops _ _).2.1.trans (congrArg (fun r : ℝ => (r : EReal)) (zero_add _))
  · rw [if_neg e, dif_neg e, dif_pos (by omega), r34, z2]
    refine (ops _ _).2.1.trans (congrArg (fun r : ℝ => (r : EReal)) ((add_zero _).trans ?_))
    show dgate (A (i 1).val ((i 2).val - 5504)) (hc H W b (i 1).val ((i 2).val - 5504)) (hc H W b (i 1).val (5504 + ((i 2).val - 5504))) = _
    rw [Nat.add_sub_cancel' (by omega)]

/-- The three taps' gradients: a tap's columns summed over the rows. -/
theorem r39 (i : S1x11008.Idx) : val_main_v39 (F := Ideal) (mat H) (mat W) (vec b) (mat A) i = ((dtap (cot A H W b) H 2 (i 1).val : ℝ) : EReal) := by
  rw [val_main_v39_apply]
  refine sum_from _ _ fun k => ?_
  rw [val_main_v38_apply, r20, r37, (ops _ _).1]
  exact congrArg (fun r : ℝ => (r : EReal)) (mul_comm _ _)
theorem r48 (i : S1x11008.Idx) : val_main_v48 (F := Ideal) (mat H) (mat W) (vec b) (mat A) i = ((dtap (cot A H W b) H 1 (i 1).val : ℝ) : EReal) := by
  rw [val_main_v48_apply]
  refine sum_from _ _ fun k => ?_
  rw [val_main_v47_apply, r13, r37, (ops _ _).1]
  exact congrArg (fun r : ℝ => (r : EReal)) (mul_comm _ _)
theorem r62 (i : S1x11008.Idx) : val_main_v62 (F := Ideal) (mat H) (mat W) (vec b) (mat A) i = ((dtap (cot A H W b) H 0 (i 1).val : ℝ) : EReal) := by
  rw [val_main_v62_apply]
  refine sum_from _ _ fun k => ?_
  rw [val_main_v61_apply, r4, r37, (ops _ _).1]
  exact congrArg (fun r : ℝ => (r : EReal)) (mul_comm _ _)
/-- The bias's gradient. -/
theorem r58 (i : S1x11008.Idx) : val_main_v58 (F := Ideal) (mat H) (mat W) (vec b) (mat A) i = ((dbias (cot A H W b) (i 1).val : ℝ) : EReal) := by
  rw [val_main_v58_apply]
  refine sum_from _ _ fun k => ?_
  rw [r37]

/-- A sum over two axes of one is the element. -/
theorem sum_ones (x : S1x11008.Idx → EReal) (f : ℕ → ℝ) (hx : ∀ i, x i = ((f (i 1).val : ℝ) : EReal)) (j : S11008.Idx) :
    Host.reduceAdd (F := Ideal) (φ := .f32) (shapeCast S1x1x11008 x shapeCasts_S1x11008_S1x1x11008) (constant S_ .f32 0x00000000#32)
      reducesTo_S1x1x11008_S11008_d0_1 h_S_ j = ((f (j 0).val : ℝ) : EReal) := by
  rw [Host.reduceAdd_apply, Ideal.hostReduceAdd_def]
  have hv : ∀ y : S1x1x11008.Idx, (reducesTo_S1x1x11008_S11008_d0_1.drop y 0).val = (y 2).val := fun y => rfl
  have hj : reducesTo_S1x1x11008_S11008_d0_1.drop (ix3 0 0 (j 0)) = j := funext fun a => Fin.ext (by
    match a with
    | ⟨0, _⟩ => exact hv (ix3 0 0 (j 0)))
  have one : ∀ y : S1x1x11008.Idx, reducesTo_S1x1x11008_S11008_d0_1.drop y = j → y = ix3 0 0 (j 0) := fun y e => funext fun a => Fin.ext (by
    have e2 := (hv y).symm.trans (congrArg Fin.val (congrFun e 0))
    have h0 : (y 0).val < 1 := (y 0).isLt
    have h1 : (y 1).val < 1 := (y 1).isLt
    match a with
    | ⟨0, _⟩ => exact Nat.lt_one_iff.mp h0
    | ⟨1, _⟩ => exact Nat.lt_one_iff.mp h1
    | ⟨2, _⟩ => exact e2)
  unfold Ideal.hostReduceAdd
  rw [Finset.sum_filter]
  refine (congrArg (fun r : EReal => constant (F := Ideal) S_ .f32 0x00000000#32 (Shape.Idx.first h_S_) + r)
    ((Finset.sum_eq_single (ix3 0 0 (j 0)) (fun y _ hn => if_neg fun e => hn (one y e)) fun hn => absurd (Finset.mem_univ _) hn).trans
      (if_pos hj))).trans ?_
  pointwise
  rw [hx]
  rfl

/-- The weights' gradient. -/
theorem out_dw : val_main_v69 (F := Ideal) (mat H) (mat W) (vec b) (mat A) = mat (dtap (cot A H W b) H) := by
  funext i
  have i0 : (i 0).val < 3 := (i 0).isLt
  have z : ∀ y, constant (F := Ideal) S_ .f32 0x00000000#32 y = ((0 : ℝ) : EReal) := fun y => zero_f32
  have a : ∀ y, val_main_v44 (F := Ideal) (mat H) (mat W) (vec b) (mat A) y = ((dtap (cot A H W b) H 2 (y 1).val : ℝ) : EReal) := fun y => by
    rw [val_main_v44_apply]; exact sum_ones _ (dtap (cot A H W b) H 2) (r39 A H W b) _
  have d : ∀ y, val_main_v53 (F := Ideal) (mat H) (mat W) (vec b) (mat A) y = ((dtap (cot A H W b) H 1 (y 1).val : ℝ) : EReal) := fun y => by
    rw [val_main_v53_apply]; exact sum_ones _ (dtap (cot A H W b) H 1) (r48 A H W b) _
  have e : ∀ y, val_main_v67 (F := Ideal) (mat H) (mat W) (vec b) (mat A) y = ((dtap (cot A H W b) H 0 (y 1).val : ℝ) : EReal) := fun y => by
    rw [val_main_v67_apply]; exact sum_ones _ (dtap (cot A H W b) H 0) (r62 A H W b) _
  rw [val_main_v69_apply, val_main_v55_apply]
  unfold val_main_v45 val_main_v54 val_main_v68 val_main_cst_5 val_main_cst_9 val_main_cst_15
  pointwise [mat]
  obtain h | h | h : (i 0).val = 0 ∨ (i 0).val = 1 ∨ (i 0).val = 2 := by omega
  · rw [dif_neg (by omega), dif_neg (by omega), dif_pos (by omega), e, zero_add, zero_add]
    exact congrArg (fun k => ((dtap (cot A H W b) H k (i 1).val : ℝ) : EReal)) h.symm
  · rw [dif_neg (by omega), dif_pos (by omega), dif_neg (by omega), d, zero_add, add_zero]
    exact congrArg (fun k => ((dtap (cot A H W b) H k (i 1).val : ℝ) : EReal)) h.symm
  · rw [dif_pos (by omega), dif_neg (by omega), dif_neg (by omega), a, add_zero, add_zero]
    exact congrArg (fun k => ((dtap (cot A H W b) H k (i 1).val : ℝ) : EReal)) h.symm

/-- The bias's gradient. -/
theorem out_db : val_main_v60 (F := Ideal) (mat H) (mat W) (vec b) (mat A) = vec (dbias (cot A H W b)) :=
  funext fun j => sum_ones _ (dbias (cot A H W b)) (r58 A H W b) j

/-- The input's gradient, above which two rows are dropped. -/
theorem r71 (y : S1x2050x11008.Idx) (h : 2 ≤ (y 1).val) : val_main_v71 (F := Ideal) (mat H) (mat W) (vec b) (mat A) y
    = ((din (cot A H W b) W ((y 1).val - 2) (y 2).val : ℝ) : EReal) := by
  have y1 : (y 1).val < 2050 := (y 1).isLt
  have z : ∀ y, constant (F := Ideal) S_ .f32 0x00000000#32 y = ((0 : ℝ) : EReal) := fun y => zero_f32
  have a : ∀ i, val_main_v42 (F := Ideal) (mat H) (mat W) (vec b) (mat A) i = ((cot A H W b (i 1).val (i 2).val * W 2 (i 2).val : ℝ) : EReal) := fun i => by
    rw [val_main_v42_apply, r37, val_main_v41_apply, w23, (ops _ _).1]
  have d : ∀ i, val_main_v51 (F := Ideal) (mat H) (mat W) (vec b) (mat A) i = ((cot A H W b (i 1).val (i 2).val * W 1 (i 2).val : ℝ) : EReal) := fun i => by
    rw [val_main_v51_apply, r37, val_main_v50_apply, w16, (ops _ _).1]
  have e : ∀ i, val_main_v65 (F := Ideal) (mat H) (mat W) (vec b) (mat A) i = ((cot A H W b (i 1).val (i 2).val * W 0 (i 2).val : ℝ) : EReal) := fun i => by
    rw [val_main_v65_apply, r37, val_main_v64_apply, w7, (ops _ _).1]
  rw [val_main_v71_apply, val_main_v57_apply]
  unfold val_main_v46 val_main_v56 val_main_v70 val_main_cst_6 val_main_cst_10 val_main_cst_16
  pointwise
  have p1 : (if h : 1 ≤ (y 1).val ∧ (y 1).val - 1 < 2048 then
      val_main_v51 (F := Ideal) (mat H) (mat W) (vec b) (mat A) (ix3 0 ⟨(y 1).val - 1, h.2⟩ (y 2)) else 0)
      = ((past (cot A H W b) ((y 1).val - 2 + 1) (y 2).val * W 1 (y 2).val : ℝ) : EReal) := by
    unfold past
    rw [show (y 1).val - 2 + 1 = (y 1).val - 1 by omega]
    by_cases e1 : (y 1).val - 1 < 2048
    · rw [dif_pos ⟨by omega, e1⟩, if_pos e1, d]
      rfl
    · rw [dif_neg (by omega), if_neg e1, zero_mul]
      rfl
  have p2 : (if h : (y 1).val < 2048 then val_main_v65 (F := Ideal) (mat H) (mat W) (vec b) (mat A) (ix3 0 ⟨(y 1).val, h⟩ (y 2)) else 0)
      = ((past (cot A H W b) ((y 1).val - 2 + 2) (y 2).val * W 0 (y 2).val : ℝ) : EReal) := by
    unfold past
    rw [show (y 1).val - 2 + 2 = (y 1).val by omega]
    by_cases e1 : (y 1).val < 2048
    · rw [dif_pos e1, if_pos e1, e]
      rfl
    · rw [dif_neg e1, if_neg e1, zero_mul]
      rfl
  rw [dif_pos ⟨h, by omega⟩, a]
  refine (congrArg₂ (fun p q : EReal => p + q) (congrArg₂ (fun p q : EReal => p + q) rfl p1) p2).trans ?_
  refine (congrArg₂ (fun p q : EReal => p + q) (EReal.coe_add _ _).symm rfl).trans ?_
  exact (EReal.coe_add _ _).symm

theorem r73 (i : S1x2048x11008.Idx) : val_main_v73 (F := Ideal) (mat H) (mat W) (vec b) (mat A) i
    = ((din (cot A H W b) W (i 1).val (i 2).val : ℝ) : EReal) := by
  rw [val_main_v73_apply, r71 A H W b _ (Nat.le_add_right 2 _)]
  exact congrArg (fun k => ((din (cot A H W b) W k (i 2).val : ℝ) : EReal)) (Nat.add_sub_cancel_left (n := 2) (m := (i 1).val))

/-- The input's gradient, its halves stacked. -/
theorem out_dh : val_main_v83 (F := Ideal) (mat H) (mat W) (vec b) (mat A) = ten fun h i j => din (cot A H W b) W i (5504 * h + j) := by
  funext i
  have i0 : (i 0).val < 2 := (i 0).isLt
  have i1 : (i 1).val < 2048 := (i 1).isLt
  have i2 : (i 2).val < 5504 := (i 2).isLt
  rw [val_main_v83_apply]
  refine (show FloatOps.truncf (F := Ideal) .bf16 bitsLt_bf16_f32 _ = _ from rfl : _ = val_main_v82 (F := Ideal) (mat H) (mat W) (vec b) (mat A) i).trans ?_
  have lo : ∀ y, val_main_v80 (F := Ideal) (mat H) (mat W) (vec b) (mat A) y = ((din (cot A H W b) W (y 1).val (y 2).val : ℝ) : EReal) := fun y => by
    unfold val_main_v80 val_main_v77 val_main_v76
    pointwise
    rw [r73]
    rfl
  have hi : ∀ y, val_main_v81 (F := Ideal) (mat H) (mat W) (vec b) (mat A) y = ((din (cot A H W b) W (y 1).val (5504 + (y 2).val) : ℝ) : EReal) := fun y => by
    unfold val_main_v81 val_main_v79 val_main_v78
    pointwise
    rw [r73]
    rfl
  unfold val_main_v82
  pointwise [ten]
  by_cases e : (i 0).val < 1
  · rw [dif_pos e, lo, show 5504 * (i 0).val + (i 2).val = (i 2).val by omega]
    rfl
  · rw [dif_neg e, hi, show 5504 * (i 0).val + (i 2).val = 5504 + (i 2).val by omega]
    rfl

/-- The activation. -/
theorem out_act : val_main_v75 (F := Ideal) (mat H) (mat W) (vec b) = mat fun i j => gated (hc H W b i j) (hc H W b i (5504 + j)) := by
  funext i
  have i0 : (i 0).val < 2048 := (i 0).isLt
  have i1 : (i 1).val < 5504 := (i 1).isLt
  have lo : ∀ y, val_main_v74 (F := Ideal) (mat H) (mat W) (vec b) y
      = ((gated (hc H W b (y 0).val (y 1).val) (hc H W b (y 0).val (5504 + (y 1).val)) : ℝ) : EReal) := fun y => by
    unfold val_main_v74
    pointwise
    rw [r30]
    rfl
  rw [val_main_v75_apply, lo]
  rfl

end Cert.ConvRefRead

end
-- ==== Proof.ConvClaim.lean ====
/-
  The run of `ConvIdeal`, with every array's contents at the end: what the last segment of its main function leaves.
  The convolution's program from its arguments to its results, of real arguments.
  The convolution's claims: its frames, and that its four results (the activation and the gradients of the convolution's
  input, weights and bias) are the reference's, of finite arguments.
-/
module

public import proofs.«01_k».proof.Proof.Gen.ConvIdeal.Frame
public import proofs.«01_k».proof.Proof.ConvCot
public import proofs.«01_k».proof.Defs
public import proofs.«01_k».proof.Proof.ConvRef
public import proofs.«01_k».proof.Proof.Gen.ConvRefIdeal.Run
public import proofs.«01_k».proof.Proof.Gen.Conv
public import proofs.«01_k».proof.Proof.Gen.Pre_conv_finite

@[expose] public section

set_option maxRecDepth 16384

noncomputable section

namespace Cert.ConvValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ConvIdeal ConvIdeal.Gen

variable {F : FTy → Type} [FloatOps F]

local notation "𝕄" => MT nD τ sig Unit (Elt F) ℕ (UR sig nD τ) ℕ

set_option backward.isDefEq.respectTransparency.types false in
/-- Every run ends with every unscoped buffer at the contents of the last boundary, and every counter at zero. -/
theorem run (m : (ℓ : Loc nD τ sig) → Buf (Elt F) ℓ) (ρ : Dev nD → PrngReg) :
    θ_run defs (onTc (τ := τ) (main (F := F))) ⟨m, fun _ => 0, ρ⟩ (fun r =>
      (∀ c : Dev nD, ∀ b ∈ Pipeline.ucRefs τ sig, r.2.mem ((c.tc : Thread nD τ).1, b) = W12 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => ⟨h, funext fun g => hz g (.inr (no_unscoped g.2))⟩)

end Cert.ConvValue

namespace Cert.ConvValue

open Idealize.ShloMosaic Idealize.ShloMosaic.TcCoe Idealize.SL.Sem
open ConvIdeal ConvIdeal.Gen ConvReal Reals
open AttnRefRead (mat vec)

variable (m : (ℓ : Loc nD τ sig) → Buf (Elt Ideal) ℓ) (ρ : Dev nD → PrngReg) (c : Dev nD)
  (A H W : ℕ → ℕ → ℝ) (b : ℕ → ℝ)
  (hh : (m ((c.tc : Thread nD τ).loc main_arg0) : FVec Ideal S2048x11008 .f32) = mat H)
  (hw : (m ((c.tc : Thread nD τ).loc main_arg1) : FVec Ideal S3x11008 .f32) = mat W)
  (hb : (m ((c.tc : Thread nD τ).loc main_arg2) : FVec Ideal S11008 .f32) = vec b)
  (ha : (m ((c.tc : Thread nD τ).loc main_arg3) : FVec Ideal S2048x5504 .f32) = mat A)

/-! ## The padded arguments at the regions' entries -/

include hh in
theorem entry_h : V9 m ρ c main_v4 = mat (pad H) := by
  refine (W9_of m ρ c main_v4 (by decide)).trans ?_
  refine (W8_of m ρ c main_v4 (by decide)).trans ?_
  refine (W7_of m ρ c main_v4 (by decide)).trans ?_
  refine (W6_of m ρ c main_v4 (by decide)).trans ?_
  refine (W5_of m ρ c main_v4 (by decide)).trans ?_
  refine (W4_of m ρ c main_v4 (by decide)).trans ?_
  unfold W3 W2 W1
  after_results_simp
  exact (congrArg padH hh).trans (padH_mat H)

include hw in
theorem entry_w : V9 m ρ c main_v9 = mat (pad W) := by
  refine (W9_of m ρ c main_v9 (by decide)).trans ?_
  refine (W8_of m ρ c main_v9 (by decide)).trans ?_
  refine (W7_of m ρ c main_v9 (by decide)).trans ?_
  refine (W6_of m ρ c main_v9 (by decide)).trans ?_
  have e : W2 m ρ c (Proc.devRef .tc main_arg1) = mat W := (W2_args m ρ c main_arg1 (by decide)).trans hw
  unfold W5 W4 W3
  generalize W2 m ρ c = U at e ⊢
  after_results_simp
  exact (congrArg padW e).trans (padW_mat W)

include hb in
theorem entry_b : V9 m ρ c main_v14 = mat fun _ j => pbias b j := by
  refine (W9_of m ρ c main_v14 (by decide)).trans ?_
  refine (W8_of m ρ c main_v14 (by decide)).trans ?_
  have e : W4 m ρ c (Proc.devRef .tc main_arg2) = vec b := (W4_args m ρ c main_arg2 (by decide)).trans hb
  unfold W7 W6 W5
  generalize W4 m ρ c = U at e ⊢
  after_results_simp
  exact (congrArg padB e).trans (padB_mat b)

include ha in
theorem entry_a : V9 m ρ c main_v19 = mat (pad A) := by
  have e : W6 m ρ c (Proc.devRef .tc main_arg3) = mat A := (W6_args m ρ c main_arg3 (by decide)).trans ha
  unfold V9 W9 W8 W7
  generalize W6 m ρ c = U at e ⊢
  after_results_simp
  exact (congrArg padA e).trans (padA_mat A)

include hh in
theorem entry_h' : V10 m ρ c main_v4 = mat (pad H) := (W10_of m ρ c main_v4 (by decide)).trans (entry_h m ρ c H hh)
include hw in
theorem entry_w' : V10 m ρ c main_v9 = mat (pad W) := (W10_of m ρ c main_v9 (by decide)).trans (entry_w m ρ c W hw)
include hb in
theorem entry_b' : V10 m ρ c main_v14 = mat fun _ j => pbias b j := (W10_of m ρ c main_v14 (by decide)).trans (entry_b m ρ c b hb)
include ha in
theorem entry_a' : V10 m ρ c main_v19 = mat (pad A) := (W10_of m ρ c main_v19 (by decide)).trans (entry_a m ρ c A ha)

/-! ## The results -/

include hh hw hb in
/-- The activation. -/
theorem end_act : W12 m ρ c (Proc.devRef .tc main_v40) = mat fun i j => gated (hc H W b i j) (hc H W b i (5504 + j)) := by
  have e : W11 m ρ c (Proc.devRef .tc main_v20) = _ :=
    (W11_of m ρ c main_v20 (by decide)).trans ((W10_arr m ρ c 6).trans (arr_act (V9 m ρ) c (pad H) (pad W) (pbias b)
      (entry_h m ρ c H hh) (entry_w m ρ c W hw) (entry_b m ρ c b hb)))
  unfold W12
  generalize W11 m ρ c = U at e ⊢
  after_results_simp
  refine ((congrArg cutA e).trans (cutA_mat _)).trans (funext fun y => ?_)
  have hy : (y 1).val < 5504 := (y 1).isLt
  unfold mat
  dsimp only
  rw [gcol_pcol _ hy, hc_pcol, hc_pcol]

include hh hw hb ha in
/-- The convolution's input's gradient, the weights' and the bias's. -/
theorem end_grads : W12 m ρ c (Proc.devRef .tc main_v41) = (ten fun h i j => din (cot A H W b) W i (5504 * h + j)) ∧
    W12 m ρ c (Proc.devRef .tc main_v42) = mat (dtap (cot A H W b) H) ∧ W12 m ρ c (Proc.devRef .tc main_v43) = vec (dbias (cot A H W b)) := by
  have h1 := entry_a' m ρ c A ha
  have h2 := entry_h' m ρ c H hh
  have h3 := entry_w' m ρ c W hw
  have h4 := entry_b' m ρ c b hb
  have e0 : W11 m ρ c (Proc.devRef .tc main_v21_0) = _ := (W11_arr m ρ c 7).trans (arr_dh (V10 m ρ) c (pad A) (pad H) (pad W) (pbias b) h1 h2 h3 h4)
  have e1 : W11 m ρ c (Proc.devRef .tc main_v21_1) = _ := (W11_arr m ρ c 8).trans (arr_dwv (V10 m ρ) c (pad A) (pad H) (pad W) (pbias b) h1 h2 h3 h4)
  have e2 : W11 m ρ c (Proc.devRef .tc main_v21_2) = _ := (W11_arr m ρ c 9).trans (arr_dwg (V10 m ρ) c (pad A) (pad H) (pad W) (pbias b) h1 h2 h3 h4)
  have e3 : W11 m ρ c (Proc.devRef .tc main_v21_3) = _ := (W11_arr m ρ c 10).trans (arr_dbv (V10 m ρ) c (pad A) (pad H) (pad W) (pbias b) h1 h2 h3 h4)
  have e4 : W11 m ρ c (Proc.devRef .tc main_v21_4) = _ := (W11_arr m ρ c 11).trans (arr_dbg (V10 m ρ) c (pad A) (pad H) (pad W) (pbias b) h1 h2 h3 h4)
  unfold W12
  generalize W11 m ρ c = U at e0 e1 e2 e3 e4 ⊢
  refine ⟨?_, ?_, ?_⟩
  · after_results_simp
    refine ((congrArg cutD e0).trans (cutD_ten _)).trans (funext fun y => ?_)
    have y0 : (y 0).val < 2 := (y 0).isLt
    have y2 : (y 2).val < 5504 := (y 2).isLt
    obtain ⟨l, r⟩ := din_cot A H W b (y 1).val (y 2).val y2
    unfold ten
    dsimp only
    refine congrArg (fun r : ℝ => (r : EReal)) ?_
    by_cases h : (y 0).val = 1
    · rw [if_pos h, r, h]
    · rw [if_neg h, l, show 5504 * (y 0).val + (y 2).val = (y 2).val by omega]
  · after_results_simp
    refine ((congrArg₂ cutW e1 e2).trans (cutW_mat _ _)).trans (funext fun y => ?_)
    exact congrArg (fun r : ℝ => (r : EReal)) (dtap_cot A H W b (y 0).val (y 1).val (y 1).isLt)
  · after_results_simp
    refine ((congrArg₂ cutB e3 e4).trans (cutB_vec _ _)).trans (funext fun y => ?_)
    exact congrArg (fun r : ℝ => (r : EReal)) (dbias_cot A H W b (y 0).val (y 0).isLt)

end Cert.ConvValue

namespace Cert.ConvValue

open Idealize.ShloMosaic Idealize.ShloMosaic.TcCoe Idealize.SL.Sem
open ConvReal Reals
open AttnRefRead (mat vec)

section Frame
open ConvIdeal ConvIdeal.Gen

/-- A run's end, for the frame. -/
theorem frame_of_run {F : FTy → Type} [FloatOps F] (m : (ℓ : Loc nD τ sig) → Buf (Elt F) ℓ) (ρ : Dev nD → PrngReg) :
    θ_run (ConvIdeal.defs (F := F)) (onTc (τ := τ) (ConvIdeal.main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run ConvIdeal.defs _ _).mono
    (fun _ h => ⟨fun c => ⟨(h.1 c _ (mem_uc main_arg0 (by decide))).trans (W12_args m ρ c main_arg0 (by decide)),
      (h.1 c _ (mem_uc main_arg1 (by decide))).trans (W12_args m ρ c main_arg1 (by decide)),
      (h.1 c _ (mem_uc main_arg2 (by decide))).trans (W12_args m ρ c main_arg2 (by decide)),
      (h.1 c _ (mem_uc main_arg3 (by decide))).trans (W12_args m ρ c main_arg3 (by decide))⟩, h.2⟩)
    (run m ρ)

/-- The frame of the program printed for the extended reals, read at the bit-exact floats. -/
def FrameAtBits : Prop := ∀ (m : (ℓ : Loc nD τ sig) → Buf (Elt Bits) ℓ) (ρ : Dev nD → PrngReg), Pre_Conv m →
  θ_run (ConvIdeal.defs (F := Bits)) (onTc (τ := τ) (ConvIdeal.main (F := Bits))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0

end Frame

/-- The two programs are one text. -/
theorem same_text : Cert.quiescent_Conv = FrameAtBits := by sl_kernel_rfl

/-- The frame of the kernel. -/
theorem quiescent_kernel : Cert.quiescent_Conv := same_text ▸ fun m ρ _ => frame_of_run (F := Bits) m ρ
/-- The frame of the kernel over the extended reals. -/
theorem quiescent_ideal : Cert.quiescent_ConvIdeal := fun m ρ _ => frame_of_run m ρ
/-- The same, of finite arguments. -/
theorem quiescent_ideal_finite : Cert.quiescent_ConvIdeal_pre_conv_finite := fun m ρ _ => frame_of_run m ρ

/-- The frame of the reference, a straight line of host operations. -/
theorem quiescent_ref : Cert.quiescent_ConvRefIdeal := fun m ρ _ =>
  (θ_run ConvRefIdeal.defs _ _).mono
    (fun r h => ⟨fun c => (h c).2.2.2.2, sem_eq_zero_of_no_sems (by decide) r.2⟩)
    (ConvRefIdeal.Value.run (F := Ideal) m ρ)
/-- The same, of finite arguments. -/
theorem quiescent_ref_finite : Cert.quiescent_ConvRefIdeal_pre_conv_finite := fun m ρ _ => quiescent_ref m ρ trivial

open ConvIdeal ConvIdeal.Gen in
/-- The kernel's four results are the reference's, of finite arguments. -/
theorem algebraic : Cert.algebraic_ConvIdeal_ConvRefIdeal_pre_conv_finite := by
  intro m ρ m' ρ' hpre hagree
  choose H hh using fun c => exists_mat _ (coe_of_finite _ _ _ _ (hpre c).1)
  choose W hw using fun c => exists_mat _ (coe_of_finite _ _ _ _ (hpre c).2.1)
  choose b hb using fun c => exists_vec _ (coe_of_finite _ _ _ _ (hpre c).2.2.1)
  choose A ha using fun c => exists_mat _ (coe_of_finite _ _ _ _ (hpre c).2.2.2)
  have grads := fun c => end_grads m ρ c (A c) (H c) (W c) (b c) (hh c) (hw c) (hb c) (ha c)
  refine ⟨fun c => mat fun i j => gated (hc (H c) (W c) (b c) i j) (hc (H c) (W c) (b c) i (5504 + j)),
    fun c => ten fun h i j => din (cot (A c) (H c) (W c) (b c)) (W c) i (5504 * h + j),
    fun c => mat (dtap (cot (A c) (H c) (W c) (b c)) (H c)), fun c => vec (dbias (cot (A c) (H c) (W c) (b c))), ?_, ?_⟩
  · exact (θ_run ConvIdeal.defs _ _).mono
      (fun _ h c => ⟨(h.1 c _ (mem_uc main_v40 (by decide))).trans (end_act m ρ c (H c) (W c) (b c) (hh c) (hw c) (hb c)),
        (h.1 c _ (mem_uc main_v41 (by decide))).trans (grads c).1,
        (h.1 c _ (mem_uc main_v42 (by decide))).trans (grads c).2.1,
        (h.1 c _ (mem_uc main_v43 (by decide))).trans (grads c).2.2,
        (h.1 c _ (mem_uc main_arg0 (by decide))).trans (W12_args m ρ c main_arg0 (by decide)),
      (h.1 c _ (mem_uc main_arg1 (by decide))).trans (W12_args m ρ c main_arg1 (by decide)),
      (h.1 c _ (mem_uc main_arg2 (by decide))).trans (W12_args m ρ c main_arg2 (by decide)),
      (h.1 c _ (mem_uc main_arg3 (by decide))).trans (W12_args m ρ c main_arg3 (by decide))⟩)
      (run (F := Ideal) m ρ)
  have a0 : ∀ c : Dev ConvRefIdeal.nD, m' ((c.tc : Thread ConvRefIdeal.nD ConvRefIdeal.τ).loc (sig := ConvRefIdeal.sig) ConvRefIdeal.main_arg0) = mat (H c) := fun c => (hagree c).1.trans (hh c)
  have a1 : ∀ c : Dev ConvRefIdeal.nD, m' ((c.tc : Thread ConvRefIdeal.nD ConvRefIdeal.τ).loc (sig := ConvRefIdeal.sig) ConvRefIdeal.main_arg1) = mat (W c) := fun c => (hagree c).2.1.trans (hw c)
  have a2 : ∀ c : Dev ConvRefIdeal.nD, m' ((c.tc : Thread ConvRefIdeal.nD ConvRefIdeal.τ).loc (sig := ConvRefIdeal.sig) ConvRefIdeal.main_arg2) = vec (b c) := fun c => (hagree c).2.2.1.trans (hb c)
  have a3 : ∀ c : Dev ConvRefIdeal.nD, m' ((c.tc : Thread ConvRefIdeal.nD ConvRefIdeal.τ).loc (sig := ConvRefIdeal.sig) ConvRefIdeal.main_arg3) = mat (A c) := fun c => (hagree c).2.2.2.trans (ha c)
  refine (θ_run ConvRefIdeal.defs _ _).mono
    (fun _ h c => ⟨(h c).1.trans ?_, (h c).2.1.trans ?_, (h c).2.2.1.trans ?_, (h c).2.2.2.1.trans ?_, (h c).2.2.2.2⟩)
    (ConvRefIdeal.Value.run (F := Ideal) m' ρ')
  · refine (ConvRefIdeal.Read.val_main_v75_eq _).trans ?_
    refine Eq.trans ?_ (ConvRefRead.out_act (H c) (W c) (b c))
    congr 1
    · exact a0 c
    · exact a1 c
    · exact a2 c
  · refine (ConvRefIdeal.Read.val_main_v83_eq _).trans ?_
    refine Eq.trans ?_ (ConvRefRead.out_dh (A c) (H c) (W c) (b c))
    congr 1
    · exact a0 c
    · exact a1 c
    · exact a2 c
    · exact a3 c
  · refine (ConvRefIdeal.Read.val_main_v69_eq _).trans ?_
    refine Eq.trans ?_ (ConvRefRead.out_dw (A c) (H c) (W c) (b c))
    congr 1
    · exact a0 c
    · exact a1 c
    · exact a2 c
    · exact a3 c
  · refine (ConvRefIdeal.Read.val_main_v60_eq _).trans ?_
    refine Eq.trans ?_ (ConvRefRead.out_db (A c) (H c) (W c) (b c))
    congr 1
    · exact a0 c
    · exact a1 c
    · exact a2 c
    · exact a3 c

end Cert.ConvValue

end
-- ==== Proof.AdamClaim.lean ====
/-
  The optimiser's step: its frames, and that the change of the weights and the two moments are the reference's. Every
  operation works on one entry, so the kernel's blocks and the reference's arrays are read at an index.
-/
module

public import proofs.«01_k».proof.Defs
public import proofs.«01_k».proof.Proof.Gen.Adam.Frame
public import proofs.«01_k».proof.Proof.Gen.AdamIdeal.Value
public import proofs.«01_k».proof.Proof.Gen.AdamRefIdeal.Read
public import Idealize.ShloMosaic.Lib.Pipeline.ValueKit
public import Idealize.ShloMosaic.Lib.Pointwise

@[expose] public section

set_option maxRecDepth 16384

noncomputable section

namespace Cert.AdamValue

open Idealize.ShloMosaic Idealize.ShloMosaic.TcCoe Idealize.SL.Sem
open Idealize.ShloMosaic.Pipeline (Dat)
open AdamIdeal AdamIdeal.Gen

/-- The frame of the kernel. -/
theorem quiescent_kernel : Cert.quiescent_Adam := fun m ρ _ => Adam.Gen.frame m ρ

/-- The frame of the kernel over the extended reals. -/
theorem quiescent_ideal : Cert.quiescent_AdamIdeal := fun m ρ _ => AdamIdeal.Gen.frame m ρ

/-- The frame of the reference, a straight line of host operations. -/
theorem quiescent_ref : Cert.quiescent_AdamRefIdeal := fun m ρ _ =>
  (θ_run AdamRefIdeal.defs _ _).mono
    (fun r h => ⟨fun c => (h c).2.2.2, sem_eq_zero_of_no_sems (by decide) r.2⟩)
    (AdamRefIdeal.Value.run (F := Ideal) m ρ)

/-- The literal of a float word. -/
abbrev lit (w : BitVec 32) : EReal := FloatOps.ofBits (F := Ideal) .f32 w

/-- The new first moment of an entry. -/
def moment (g m : EReal) : EReal := lit 0x3F666666#32 * m + lit 0x3DCCCCCD#32 * g

/-- The new second moment of an entry. -/
def square (g v : EReal) : EReal := lit 0x3F7FBE77#32 * v + lit 0x3A83126F#32 * (g * g)

/-- The change of a weight. -/
def delta (g w m v : EReal) : EReal :=
  lit 0xBA83126F#32 * (Ideal.div (Ideal.div (moment g m) (lit 0x3F26BD02#32))
    (Ideal.sqrt (Ideal.div (square g v) (lit 0x3C231ACC#32)) + lit 0x322BCC77#32) + lit 0x3C23D70A#32 * w)

/-- A parameter's array as rows of 128. -/
abbrev rows (A : FVec Ideal S4x4x128x128 .f32) : FVec Ideal S2048x128 .f32 :=
  shapeCast S2048x128 A shapeCasts_S4x4x128x128_S2048x128

variable (m : (ℓ : Loc nD τ sig) → Buf (Elt Ideal) ℓ)

/-- The new first moments of the whole array. -/
def momentOf (G M : FVec Ideal S4x4x128x128 .f32) : FVec Ideal S2048x128 .f32 := fun i => moment (rows G i) (rows M i)

/-- The new second moments of the whole array. -/
def squareOf (G V : FVec Ideal S4x4x128x128 .f32) : FVec Ideal S2048x128 .f32 := fun i => square (rows G i) (rows V i)

/-- The changes of the whole array's weights. -/
def deltaOf (G W M V : FVec Ideal S4x4x128x128 .f32) : FVec Ideal S2048x128 .f32 :=
  fun i => delta (rows G i) (rows W i) (rows M i) (rows V i)

/-- Every array's block at grid point `t` is its `t`-th block of rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The region's four input arrays are the arguments as rows. -/
theorem entry (c : Dev nD) : V m c main_v0 = rows (m ((c : Thread nD τ).loc main_arg0))
    ∧ V m c main_v1 = rows (m ((c : Thread nD τ).loc main_arg1)) ∧ V m c main_v2 = rows (m ((c : Thread nD τ).loc main_arg2))
    ∧ V m c main_v3 = rows (m ((c : Thread nD τ).loc main_arg3)) := by
  refine ⟨?_, ?_, ?_, ?_⟩ <;> · unfold V; after_results_simp <;> rfl

/-- The changes of the weights after the run. -/
theorem final_delta (c : Dev nD) : (dats m 0 c).arrAt 4 cfg0.N = deltaOf (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  unfold deltaOf
  rw [← (entry m c).1, ← (entry m c).2.1, ← (entry m c).2.2.1, ← (entry m c).2.2.2]
  simp only [k0_pay4, k0_pay3, k0_pay2, k0_pay1, shapeCast_self, delta, moment, square]
  blk_point [iblk, idx t]

/-- The new first moments after the run. -/
theorem final_moment (c : Dev nD) : (dats m 0 c).arrAt 5 cfg0.N
    = momentOf (m ((c : Thread nD τ).loc main_arg0)) (m ((c : Thread nD τ).loc main_arg2)) := by
  refine (dats m 0 c).arrAt_eq_of_covers 5 _ (by decide +kernel) fun t _ y => ?_
  blk_simp
  rw [after0_5]
  frame_out
  unfold momentOf
  rw [← (entry m c).1, ← (entry m c).2.2.1]
  simp only [k0_pay2, k0_pay1, shapeCast_self, moment]
  blk_point [iblk, idx t]

/-- The new second moments after the run. -/
theorem final_square (c : Dev nD) : (dats m 0 c).arrAt 6 cfg0.N
    = squareOf (m ((c : Thread nD τ).loc main_arg0)) (m ((c : Thread nD τ).loc main_arg3)) := by
  refine (dats m 0 c).arrAt_eq_of_covers 6 _ (by decide +kernel) fun t _ y => ?_
  blk_simp
  rw [after0_6]
  frame_out
  unfold squareOf
  rw [← (entry m c).1, ← (entry m c).2.2.2]
  simp only [k0_pay3, k0_pay1, shapeCast_self, square]
  blk_point [iblk, idx t]

open AdamRefIdeal.Read in
/-- The reference's three results: each operation works entry by entry, and the rows are cut at the end. -/
theorem ref_results (G W M V : FVec Ideal S4x4x128x128 .f32) : val_main_v24 (F := Ideal) G W M V = deltaOf G W M V
    ∧ val_main_v25 (F := Ideal) G M = momentOf G M ∧ val_main_v26 (F := Ideal) G V = squareOf G V := by
  refine ⟨rfl, rfl, rfl⟩

/-- The change of the weights and the two moments are the reference's. -/
theorem algebraic : Cert.algebraic_AdamIdeal_AdamRefIdeal := by
  intro m ρ m' ρ' _ hagree
  refine ⟨fun c => deltaOf (m (c.tc.loc main_arg0)) (m (c.tc.loc main_arg1)) (m (c.tc.loc main_arg2)) (m (c.tc.loc main_arg3)),
    fun c => momentOf (m (c.tc.loc main_arg0)) (m (c.tc.loc main_arg2)),
    fun c => squareOf (m (c.tc.loc main_arg0)) (m (c.tc.loc main_arg3)), ?_, ?_⟩
  · exact (θ_run defs _ _).mono (fun _ h c => ⟨(h c).1.trans (final_delta m c), (h c).2.1.trans (final_moment m c),
      (h c).2.2.1.trans (final_square m c), (h c).2.2.2⟩) (AdamIdeal.Value.run_blocks (F := Ideal) m ρ)
  refine (θ_run AdamRefIdeal.defs _ _).mono
    (fun _ h c => ⟨(h c).1.trans ?_, (h c).2.1.trans ?_, (h c).2.2.1.trans ?_, (h c).2.2.2⟩)
    (AdamRefIdeal.Value.run (F := Ideal) m' ρ')
  · rw [AdamRefIdeal.Read.val_main_v24_eq, (hagree c).1, (hagree c).2.1, (hagree c).2.2.1, (hagree c).2.2.2]
    exact (ref_results _ _ _ _).1
  · rw [AdamRefIdeal.Read.val_main_v25_eq, (hagree c).1, (hagree c).2.2.1]
    exact (ref_results _ (m (c.tc.loc main_arg1)) _ (m (c.tc.loc main_arg3))).2.1
  · rw [AdamRefIdeal.Read.val_main_v26_eq, (hagree c).1, (hagree c).2.2.2]
    exact (ref_results _ (m (c.tc.loc main_arg1)) (m (c.tc.loc main_arg2)) _).2.2

end Cert.AdamValue

end
-- ==== Proof.Products.lean ====
/-
  One product of two matrices per function of the version, and the sum of the parts of the small gradients.
-/
module

public import proofs.«01_k».proof.Defs
public import proofs.«01_k».proof.Proof.Gen.MmNn.Frame
public import proofs.«01_k».proof.Proof.Gen.MmNnIdeal.Value
public import proofs.«01_k».proof.Proof.Gen.MmNnRefIdeal.Read
public import Idealize.ShloMosaic.Lib.Pipeline.ValueKit
public import Idealize.ShloMosaic.Lib.Pointwise
public import proofs.«01_k».proof.Proof.Gen.MmNt.Frame
public import proofs.«01_k».proof.Proof.Gen.MmNtIdeal.Value
public import proofs.«01_k».proof.Proof.Gen.MmNtRefIdeal.Read
public import proofs.«01_k».proof.Proof.Gen.MmBcols.Frame
public import proofs.«01_k».proof.Proof.Gen.MmBcolsIdeal.Value
public import proofs.«01_k».proof.Proof.Gen.MmBcolsRefIdeal.Read
public import proofs.«01_k».proof.Proof.Gen.MmAcols.Frame
public import proofs.«01_k».proof.Proof.Gen.MmAcolsIdeal.Value
public import proofs.«01_k».proof.Proof.Gen.MmAcolsRefIdeal.Read
public import proofs.«01_k».proof.Proof.Gen.MmHalves.Frame
public import proofs.«01_k».proof.Proof.Gen.MmHalvesIdeal.Value
public import proofs.«01_k».proof.Proof.Gen.MmHalvesRefIdeal.Read
public import proofs.«01_k».proof.Proof.Gen.MmSplit.Frame
public import proofs.«01_k».proof.Proof.Gen.MmSplitIdeal.Value
public import proofs.«01_k».proof.Proof.Gen.MmSplitRefIdeal.Read
public import Idealize.ShloMosaic.Lib.TwoAxisContraction
public import proofs.«01_k».proof.Proof.Gen.Sums.Frame
public import proofs.«01_k».proof.Proof.Gen.SumsIdeal.Value
public import proofs.«01_k».proof.Proof.Gen.SumsRefIdeal.Read

@[expose] public section

set_option maxRecDepth 16384

noncomputable section

/-! `_mm_nn`: a block of columns of the result is the product with a block of columns. -/

namespace Cert.MmNnValue

open Idealize.ShloMosaic Idealize.ShloMosaic.TcCoe Idealize.SL.Sem
open Idealize.ShloMosaic.Pipeline (Dat)
open MmNnIdeal MmNnIdeal.Gen

/-- The frame of the kernel. -/
theorem quiescent_kernel : Cert.quiescent_MmNn := fun m ρ _ => MmNn.Gen.frame m ρ

/-- The frame of the kernel over the extended reals. -/
theorem quiescent_ideal : Cert.quiescent_MmNnIdeal := fun m ρ _ => MmNnIdeal.Gen.frame m ρ

/-- The frame of the reference, a straight line of host operations. -/
theorem quiescent_ref : Cert.quiescent_MmNnRefIdeal := fun m ρ _ =>
  (θ_run MmNnRefIdeal.defs _ _).mono (fun r h => ⟨fun c => (h c).2, sem_eq_zero_of_no_sems (by decide) r.2⟩)
    (MmNnRefIdeal.Value.run (F := Ideal) m ρ)

/-- The result as a function of the arguments. -/
def resultOf (A : FVec Ideal S2048x5632 .bf16) (B : FVec Ideal S5632x2048 .bf16) : FVec Ideal S2048x2048 .f32 := fun i =>
  ∑ k : Fin 5632, A (ix2 (i 0) k) * B (ix2 k (i 1))

/-- Which block of each array grid point `t` works on. -/
theorem idx : ∀ t : Fin cfg0.N, win0_0.index t = ![0, 0] ∧ win0_1.index t = ![0, t.val] ∧ win0_2.index t = ![0, t.val] :=
  (by decide +kernel : ∀ t : Fin grid0.N, _)

/-- The result after the run. -/
theorem final (m : (ℓ : Loc nD τ sig) → Buf (Elt Ideal) ℓ) (c : Dev nD) :
    (dats m 0 c).arrAt 2 cfg0.N = resultOf (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, resultOf]
  blk_point [iblk, idx t]

open MmNnRefIdeal.Read in
/-- The reference's result. -/
theorem ref (A : FVec Ideal S2048x5632 .bf16) (B : FVec Ideal S5632x2048 .bf16) : val_main_v2 (F := Ideal) A B = resultOf A B := by
  funext j
  pointwise [val_main_v2, val_main_v1, val_main_v0, resultOf]

/-- The kernel's result is the reference's. -/
theorem algebraic : Cert.algebraic_MmNnIdeal_MmNnRefIdeal := by
  intro m ρ m' ρ' _ hagree
  refine ⟨fun c => resultOf (m (c.tc.loc main_arg0)) (m (c.tc.loc main_arg1)), ?_, ?_⟩
  · exact (θ_run defs _ _).mono (fun _ h c => ⟨(h c).1.trans (final m c), (h c).2⟩)
      (MmNnIdeal.Value.run_blocks (F := Ideal) m ρ)
  refine (θ_run MmNnRefIdeal.defs _ _).mono (fun _ h c => ⟨(h c).1.trans ?_, (h c).2⟩)
    (MmNnRefIdeal.Value.run (F := Ideal) m' ρ')
  rw [MmNnRefIdeal.Read.val_main_v2_eq, (hagree c).1, (hagree c).2]
  exact ref _ _

end Cert.MmNnValue

/-! `_mm_nt`: a block of columns of the result is the product with a block of rows. -/

namespace Cert.MmNtValue

open Idealize.ShloMosaic Idealize.ShloMosaic.TcCoe Idealize.SL.Sem
open Idealize.ShloMosaic.Pipeline (Dat)
open MmNtIdeal MmNtIdeal.Gen

/-- The frame of the kernel. -/
theorem quiescent_kernel : Cert.quiescent_MmNt := fun m ρ _ => MmNt.Gen.frame m ρ

/-- The frame of the kernel over the extended reals. -/
theorem quiescent_ideal : Cert.quiescent_MmNtIdeal := fun m ρ _ => MmNtIdeal.Gen.frame m ρ

/-- The frame of the reference, a straight line of host operations. -/
theorem quiescent_ref : Cert.quiescent_MmNtRefIdeal := fun m ρ _ =>
  (θ_run MmNtRefIdeal.defs _ _).mono (fun r h => ⟨fun c => (h c).2, sem_eq_zero_of_no_sems (by decide) r.2⟩)
    (MmNtRefIdeal.Value.run (F := Ideal) m ρ)

/-- The result as a function of the arguments. -/
def resultOf (A : FVec Ideal S2048x2048 .bf16) (B : FVec Ideal S11264x2048 .bf16) : FVec Ideal S2048x11264 .f32 := fun i =>
  ∑ k : Fin 2048, A (ix2 (i 0) k) * B (ix2 (i 1) k)

/-- Which block of each array grid point `t` works on. -/
theorem idx : ∀ t : Fin cfg0.N, win0_0.index t = ![0, 0] ∧ win0_1.index t = ![t.val, 0] ∧ win0_2.index t = ![0, t.val] :=
  (by decide +kernel : ∀ t : Fin grid0.N, _)

/-- The result after the run. -/
theorem final (m : (ℓ : Loc nD τ sig) → Buf (Elt Ideal) ℓ) (c : Dev nD) :
    (dats m 0 c).arrAt 2 cfg0.N = resultOf (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, resultOf]
  blk_point [iblk, idx t]

open MmNtRefIdeal.Read in
/-- The reference's result. -/
theorem ref (A : FVec Ideal S2048x2048 .bf16) (B : FVec Ideal S11264x2048 .bf16) : val_main_v2 (F := Ideal) A B = resultOf A B := by
  funext j
  pointwise [val_main_v2, val_main_v1, val_main_v0, resultOf]

/-- The kernel's result is the reference's. -/
theorem algebraic : Cert.algebraic_MmNtIdeal_MmNtRefIdeal := by
  intro m ρ m' ρ' _ hagree
  refine ⟨fun c => resultOf (m (c.tc.loc main_arg0)) (m (c.tc.loc main_arg1)), ?_, ?_⟩
  · exact (θ_run defs _ _).mono (fun _ h c => ⟨(h c).1.trans (final m c), (h c).2⟩)
      (MmNtIdeal.Value.run_blocks (F := Ideal) m ρ)
  refine (θ_run MmNtRefIdeal.defs _ _).mono (fun _ h c => ⟨(h c).1.trans ?_, (h c).2⟩)
    (MmNtRefIdeal.Value.run (F := Ideal) m' ρ')
  rw [MmNtRefIdeal.Read.val_main_v2_eq, (hagree c).1, (hagree c).2]
  exact ref _ _

end Cert.MmNtValue

/-! `_mm_tn_bcols`: the gradient of the gate's weights, in blocks of the second factor. -/

namespace Cert.MmBcolsValue

open Idealize.ShloMosaic Idealize.ShloMosaic.TcCoe Idealize.SL.Sem
open Idealize.ShloMosaic.Pipeline (Dat)
open MmBcolsIdeal MmBcolsIdeal.Gen

/-- The frame of the kernel. -/
theorem quiescent_kernel : Cert.quiescent_MmBcols := fun m ρ _ => MmBcols.Gen.frame m ρ

/-- The frame of the kernel over the extended reals. -/
theorem quiescent_ideal : Cert.quiescent_MmBcolsIdeal := fun m ρ _ => MmBcolsIdeal.Gen.frame m ρ

/-- The frame of the reference, a straight line of host operations. -/
theorem quiescent_ref : Cert.quiescent_MmBcolsRefIdeal := fun m ρ _ =>
  (θ_run MmBcolsRefIdeal.defs _ _).mono (fun r h => ⟨fun c => (h c).2, sem_eq_zero_of_no_sems (by decide) r.2⟩)
    (MmBcolsRefIdeal.Value.run (F := Ideal) m ρ)

/-- The result as a function of the arguments. -/
def resultOf (A : FVec Ideal S2048x512 .bf16) (B : FVec Ideal S2048x1024 .bf16) : FVec Ideal S512x1024 .bf16 := fun i =>
  ∑ k : Fin 2048, A (ix2 k (i 0)) * B (ix2 k (i 1))

/-- Which block of each array grid point `t` works on. -/
theorem idx : ∀ t : Fin cfg0.N, win0_0.index t = ![0, 0] ∧ win0_1.index t = ![0, t.val] ∧ win0_2.index t = ![0, t.val] :=
  (by decide +kernel : ∀ t : Fin grid0.N, _)

/-- The result after the run. -/
theorem final (m : (ℓ : Loc nD τ sig) → Buf (Elt Ideal) ℓ) (c : Dev nD) :
    (dats m 0 c).arrAt 2 cfg0.N = resultOf (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, resultOf]
  blk_point [iblk, idx t]

open MmBcolsRefIdeal.Read in
/-- The reference's result. -/
theorem ref (A : FVec Ideal S2048x512 .bf16) (B : FVec Ideal S2048x1024 .bf16) : val_main_v6 (F := Ideal) A B = resultOf A B := by
  funext j
  pointwise [val_main_v6, val_main_v5, val_main_v4, val_main_v3, val_main_v1, resultOf]
  exact Finset.sum_congr rfl fun k _ => mul_comm _ _

/-- The kernel's result is the reference's. -/
theorem algebraic : Cert.algebraic_MmBcolsIdeal_MmBcolsRefIdeal := by
  intro m ρ m' ρ' _ hagree
  refine ⟨fun c => resultOf (m (c.tc.loc main_arg0)) (m (c.tc.loc main_arg1)), ?_, ?_⟩
  · exact (θ_run defs _ _).mono (fun _ h c => ⟨(h c).1.trans (final m c), (h c).2⟩)
      (MmBcolsIdeal.Value.run_blocks (F := Ideal) m ρ)
  refine (θ_run MmBcolsRefIdeal.defs _ _).mono (fun _ h c => ⟨(h c).1.trans ?_, (h c).2⟩)
    (MmBcolsRefIdeal.Value.run (F := Ideal) m' ρ')
  rw [MmBcolsRefIdeal.Read.val_main_v6_eq, (hagree c).1, (hagree c).2]
  exact ref _ _

end Cert.MmBcolsValue

/-! `_mm_tn_acols`: the gradient of the down-projection, in blocks of the first factor. -/

namespace Cert.MmAcolsValue

open Idealize.ShloMosaic Idealize.ShloMosaic.TcCoe Idealize.SL.Sem
open Idealize.ShloMosaic.Pipeline (Dat)
open MmAcolsIdeal MmAcolsIdeal.Gen

/-- The frame of the kernel. -/
theorem quiescent_kernel : Cert.quiescent_MmAcols := fun m ρ _ => MmAcols.Gen.frame m ρ

/-- The frame of the kernel over the extended reals. -/
theorem quiescent_ideal : Cert.quiescent_MmAcolsIdeal := fun m ρ _ => MmAcolsIdeal.Gen.frame m ρ

/-- The frame of the reference, a straight line of host operations. -/
theorem quiescent_ref : Cert.quiescent_MmAcolsRefIdeal := fun m ρ _ =>
  (θ_run MmAcolsRefIdeal.defs _ _).mono (fun r h => ⟨fun c => (h c).2, sem_eq_zero_of_no_sems (by decide) r.2⟩)
    (MmAcolsRefIdeal.Value.run (F := Ideal) m ρ)

/-- The result as a function of the arguments. -/
def resultOf (A : FVec Ideal S2048x5632 .bf16) (B : FVec Ideal S2048x2048 .bf16) : FVec Ideal S5632x2048 .bf16 := fun i =>
  ∑ k : Fin 2048, A (ix2 k (i 0)) * B (ix2 k (i 1))

/-- Which block of each array grid point `t` works on. -/
theorem idx : ∀ t : Fin cfg0.N, win0_0.index t = ![0, t.val] ∧ win0_1.index t = ![0, 0] ∧ win0_2.index t = ![t.val, 0] :=
  (by decide +kernel : ∀ t : Fin grid0.N, _)

/-- The result after the run. -/
theorem final (m : (ℓ : Loc nD τ sig) → Buf (Elt Ideal) ℓ) (c : Dev nD) :
    (dats m 0 c).arrAt 2 cfg0.N = resultOf (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, resultOf]
  blk_point [iblk, idx t]

open MmAcolsRefIdeal.Read in
/-- The reference's result. -/
theorem ref (A : FVec Ideal S2048x5632 .bf16) (B : FVec Ideal S2048x2048 .bf16) : val_main_v6 (F := Ideal) A B = resultOf A B := by
  funext j
  pointwise [val_main_v6, val_main_v5, val_main_v4, val_main_v3, val_main_v1, resultOf]
  exact Finset.sum_congr rfl fun k _ => mul_comm _ _

/-- The kernel's result is the reference's. -/
theorem algebraic : Cert.algebraic_MmAcolsIdeal_MmAcolsRefIdeal := by
  intro m ρ m' ρ' _ hagree
  refine ⟨fun c => resultOf (m (c.tc.loc main_arg0)) (m (c.tc.loc main_arg1)), ?_, ?_⟩
  · exact (θ_run defs _ _).mono (fun _ h c => ⟨(h c).1.trans (final m c), (h c).2⟩)
      (MmAcolsIdeal.Value.run_blocks (F := Ideal) m ρ)
  refine (θ_run MmAcolsRefIdeal.defs _ _).mono (fun _ h c => ⟨(h c).1.trans ?_, (h c).2⟩)
    (MmAcolsRefIdeal.Value.run (F := Ideal) m' ρ')
  rw [MmAcolsRefIdeal.Read.val_main_v6_eq, (hagree c).1, (hagree c).2]
  exact ref _ _

end Cert.MmAcolsValue

/-! `_mm`: the gradient of the up-projection, a quarter of one half of its columns at a time. -/

namespace Cert.MmHalvesValue

open Idealize.ShloMosaic Idealize.ShloMosaic.TcCoe Idealize.SL.Sem
open Idealize.ShloMosaic.Pipeline (Dat)
open MmHalvesIdeal MmHalvesIdeal.Gen

/-- The frame of the kernel. -/
theorem quiescent_kernel : Cert.quiescent_MmHalves := fun m ρ _ => MmHalves.Gen.frame m ρ

/-- The frame of the kernel over the extended reals. -/
theorem quiescent_ideal : Cert.quiescent_MmHalvesIdeal := fun m ρ _ => MmHalvesIdeal.Gen.frame m ρ

/-- The frame of the reference, a straight line of host operations. -/
theorem quiescent_ref : Cert.quiescent_MmHalvesRefIdeal := fun m ρ _ =>
  (θ_run MmHalvesRefIdeal.defs _ _).mono (fun r h => ⟨fun c => (h c).2, sem_eq_zero_of_no_sems (by decide) r.2⟩)
    (MmHalvesRefIdeal.Value.run (F := Ideal) m ρ)

/-- The result as a function of the arguments. -/
def resultOf (A : FVec Ideal S2x2048x5632 .bf16) (B : FVec Ideal S2048x2048 .bf16) : FVec Ideal S11264x2048 .bf16 := fun i =>
  ∑ k : Fin 2048, A (ix3 ⟨(i 0).val / 5632, (by omega : ∀ n : ℕ, n < 11264 → n / 5632 < 2) _ (i 0).isLt⟩ k ⟨(i 0).val % 5632, Nat.mod_lt _ (by decide)⟩) *
    B (ix2 k (i 1))

/-- Which block of each array grid point `t` works on. -/
theorem idx : ∀ t : Fin cfg0.N, win0_0.index t = ![t.val / 4, 0, t.val % 4] ∧ win0_1.index t = ![0, 0] ∧ win0_2.index t = ![t.val, 0] :=
  (by decide +kernel : ∀ t : Fin grid0.N, _)

/-- The result after the run. -/
theorem final (m : (ℓ : Loc nD τ sig) → Buf (Elt Ideal) ℓ) (c : Dev nD) :
    (dats m 0 c).arrAt 2 cfg0.N = resultOf (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, resultOf]
  blk_point [iblk, idx t]

open MmHalvesRefIdeal.Read in
/-- The reference's result. -/
theorem ref (A : FVec Ideal S2x2048x5632 .bf16) (B : FVec Ideal S2048x2048 .bf16) : val_main_v8 (F := Ideal) A B = resultOf A B := by
  funext j
  pointwise [val_main_v8, val_main_v7, val_main_v6, val_main_v5, val_main_v4, val_main_v1, resultOf]

/-- The kernel's result is the reference's. -/
theorem algebraic : Cert.algebraic_MmHalvesIdeal_MmHalvesRefIdeal := by
  intro m ρ m' ρ' _ hagree
  refine ⟨fun c => resultOf (m (c.tc.loc main_arg0)) (m (c.tc.loc main_arg1)), ?_, ?_⟩
  · exact (θ_run defs _ _).mono (fun _ h c => ⟨(h c).1.trans (final m c), (h c).2⟩)
      (MmHalvesIdeal.Value.run_blocks (F := Ideal) m ρ)
  refine (θ_run MmHalvesRefIdeal.defs _ _).mono (fun _ h c => ⟨(h c).1.trans ?_, (h c).2⟩)
    (MmHalvesRefIdeal.Value.run (F := Ideal) m' ρ')
  rw [MmHalvesRefIdeal.Read.val_main_v8_eq, (hagree c).1, (hagree c).2]
  exact ref _ _

end Cert.MmHalvesValue

/-! `_mm_split_k`: the gradient of the feed-forward's input, with the residual's gradient added. -/

namespace Cert.MmSplitValue

open Idealize.ShloMosaic Idealize.ShloMosaic.TcCoe Idealize.SL.Sem
open Idealize.ShloMosaic.Pipeline (Dat)
open MmSplitIdeal MmSplitIdeal.Gen

/-- The frame of the kernel. -/
theorem quiescent_kernel : Cert.quiescent_MmSplit := fun m ρ _ => MmSplit.Gen.frame m ρ

/-- The frame of the kernel over the extended reals. -/
theorem quiescent_ideal : Cert.quiescent_MmSplitIdeal := fun m ρ _ => MmSplitIdeal.Gen.frame m ρ

/-- The frame of the reference, a straight line of host operations. -/
theorem quiescent_ref : Cert.quiescent_MmSplitRefIdeal := fun m ρ _ =>
  (θ_run MmSplitRefIdeal.defs _ _).mono (fun r h => ⟨fun c => (h c).2, sem_eq_zero_of_no_sems (by decide) r.2⟩)
    (MmSplitRefIdeal.Value.run (F := Ideal) m ρ)

/-- The result as a function of the arguments. -/
def resultOf (A : FVec Ideal S2x2048x5632 .bf16) (B : FVec Ideal S11264x2048 .bf16) (C : FVec Ideal S2048x2048 .f32) : FVec Ideal S2048x2048 .f32 := fun i =>
  (∑ k : Fin 5632, A (ix3 (0 : Fin 2) (i 0) k) * B (ix2 (⟨k.val, by omega⟩ : Fin 11264) (i 1))) +
    (∑ k : Fin 5632, A (ix3 (1 : Fin 2) (i 0) k) * B (ix2 (⟨5632 + k.val, by omega⟩ : Fin 11264) (i 1))) +
    FloatOps.ofBits (F := Ideal) .f32 0x3FD744FD#32 * C i

/-- Which block of each array grid point `t` works on. -/
theorem idx : ∀ t : Fin cfg0.N, win0_0.index t = ![0, t.val / 8, 0] ∧ win0_1.index t = ![0, t.val % 8] ∧ win0_2.index t = ![t.val / 8, t.val % 8] ∧ win0_3.index t = ![t.val / 8, t.val % 8] :=
  (by decide +kernel : ∀ t : Fin grid0.N, _)

/-- The result after the run. -/
theorem final (m : (ℓ : Loc nD τ sig) → Buf (Elt Ideal) ℓ) (c : Dev nD) :
    (dats m 0 c).arrAt 3 cfg0.N = resultOf (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, resultOf]
  blk_point [iblk, idx t]

/-- The row of a place counted through a half's rows. -/
theorem row (h k c : ℕ) (hc : c < 2048) : ((h * 5632 + k) * 2048 + c) / 2048 = h * 5632 + k := by omega

/-- Its column. -/
theorem col (r c : ℕ) (hc : c < 2048) : (r * 2048 + c) % 2048 = c := by omega

open MmSplitRefIdeal.Read in
/-- The reference's result. -/
theorem ref (A : FVec Ideal S2x2048x5632 .bf16) (B : FVec Ideal S11264x2048 .bf16) (C : FVec Ideal S2048x2048 .f32) : val_main_v12 (F := Ideal) A B C = resultOf A B C := by
  funext j
  pointwise [val_main_v12, val_main_v9, val_main_v8, val_main_cst_1, resultOf]
  rw [add_comm]
  congr 1
  unfold val_main_v11
  simp only [Host.dotGeneral]
  rw [Ideal.dotGeneral_apply, ValueIdx.sum_contr2 MmSplitRefIdeal.dot_S2x5632x2048_S2x5632x2048_S2048x2048_01_01_2_2_n_n 2 5632 rfl rfl rfl,
    Fin.sum_univ_two]
  refine congrArg₂ (· + ·) (Finset.sum_congr rfl fun k _ => ?_) (Finset.sum_congr rfl fun k _ => ?_)
  all_goals
    rw [val_main_v10_apply, val_main_v7_apply, val_main_v2_apply, val_main_v1_apply]
    refine congrArg₂ (· * ·) (congrArg A (funext fun a => ?_)) (congrArg B (funext fun a => Fin.ext ?_))
    · match a with
      | ⟨0, _⟩ => rfl
      | ⟨1, _⟩ => rfl
      | ⟨2, _⟩ => rfl
    · have hj := (j 1).isLt
      match a with
      | ⟨0, _⟩ => first | exact (row 0 k.val _ hj).trans (by simp) | exact (row 1 k.val _ hj).trans (by simp)
      | ⟨1, _⟩ => exact col _ _ hj

/-- The kernel's result is the reference's. -/
theorem algebraic : Cert.algebraic_MmSplitIdeal_MmSplitRefIdeal := by
  intro m ρ m' ρ' _ hagree
  refine ⟨fun c => resultOf (m (c.tc.loc main_arg0)) (m (c.tc.loc main_arg1)) (m (c.tc.loc main_arg2)), ?_, ?_⟩
  · exact (θ_run defs _ _).mono (fun _ h c => ⟨(h c).1.trans (final m c), (h c).2⟩)
      (MmSplitIdeal.Value.run_blocks (F := Ideal) m ρ)
  refine (θ_run MmSplitRefIdeal.defs _ _).mono (fun _ h c => ⟨(h c).1.trans ?_, (h c).2⟩)
    (MmSplitRefIdeal.Value.run (F := Ideal) m' ρ')
  rw [MmSplitRefIdeal.Read.val_main_v12_eq, (hagree c).1, (hagree c).2.1, (hagree c).2.2]
  exact ref _ _ _

end Cert.MmSplitValue

/-! `_sum_parts`: the sum of the eight devices' parts of the small gradients. -/

namespace Cert.SumsValue

open Idealize.ShloMosaic Idealize.ShloMosaic.TcCoe Idealize.SL.Sem
open Idealize.ShloMosaic.Pipeline (Dat)
open SumsIdeal SumsIdeal.Gen

/-- The frame of the kernel. -/
theorem quiescent_kernel : Cert.quiescent_Sums := fun m ρ _ => Sums.Gen.frame m ρ

/-- The frame of the kernel over the extended reals. -/
theorem quiescent_ideal : Cert.quiescent_SumsIdeal := fun m ρ _ => SumsIdeal.Gen.frame m ρ

/-- The frame of the reference, a straight line of host operations. -/
theorem quiescent_ref : Cert.quiescent_SumsRefIdeal := fun m ρ _ =>
  (θ_run SumsRefIdeal.defs _ _).mono (fun r h => ⟨fun c => (h c).2, sem_eq_zero_of_no_sems (by decide) r.2⟩)
    (SumsRefIdeal.Value.run (F := Ideal) m ρ)

/-- The result as a function of the arguments. -/
def resultOf (A : FVec Ideal S8x2048x128 .f32) : FVec Ideal S2048x128 .f32 := fun i =>
  ∑ k : Fin 8, A (ix3 k (i 0) (i 1))

/-- Which block of each array grid point `t` works on. -/
theorem idx : ∀ t : Fin cfg0.N, win0_0.index t = ![0, t.val, 0] ∧ win0_1.index t = ![t.val, 0] :=
  (by decide +kernel : ∀ t : Fin grid0.N, _)

/-- The result after the run. -/
theorem final (m : (ℓ : Loc nD τ sig) → Buf (Elt Ideal) ℓ) (c : Dev nD) :
    (dats m 0 c).arrAt 1 cfg0.N = resultOf (m ((c : Thread nD τ).loc main_arg0)) := by
  refine (dats m 0 c).arrAt_eq_of_covers 1 _ (by decide +kernel) fun t _ y => ?_
  blk_simp
  rw [after0_1]; frame_out
  pointwise [k0_pay1, resultOf]
  rw [Fin.sum_univ_eight]
  blk_point [iblk, idx t]

open SumsRefIdeal.Read in
/-- The reference's result. -/
theorem ref (A : FVec Ideal S8x2048x128 .f32) : val_main_v0 (F := Ideal) A = resultOf A := by
  funext j
  pointwise [val_main_v0, val_main_cst, resultOf]

/-- The kernel's result is the reference's. -/
theorem algebraic : Cert.algebraic_SumsIdeal_SumsRefIdeal := by
  intro m ρ m' ρ' _ hagree
  refine ⟨fun c => resultOf (m (c.tc.loc main_arg0)), ?_, ?_⟩
  · exact (θ_run defs _ _).mono (fun _ h c => ⟨(h c).1.trans (final m c), (h c).2⟩)
      (SumsIdeal.Value.run_blocks (F := Ideal) m ρ)
  refine (θ_run SumsRefIdeal.defs _ _).mono (fun _ h c => ⟨(h c).1.trans ?_, (h c).2⟩)
    (SumsRefIdeal.Value.run (F := Ideal) m' ρ')
  rw [SumsRefIdeal.Read.val_main_v0_eq, hagree c]
  exact ref _

end Cert.SumsValue

end
-- ==== Proof.lean ====
/-
  The claims of this certificate, assembled from the modules of each call:
  `Loss` — the loss head;
  `Glu` — the gated linear unit, forward and backward;
  `Attn` — the sliding-window attention, forward and backward;
  `Rope` — the backward rotary map;
  `Pool` — the pooled mixer, forward and backward;
  `Ln` — the layer norm, backward;
  `Conv` — the convolution and gate, forward and backward;
  `Adam` — the optimiser;
  `MmNn` — the product of rows by columns;
  `MmNt` — the product of rows by rows;
  `MmBcols` — the product of columns by columns, in blocks of the second;
  `MmAcols` — the same, in blocks of the first;
  `MmHalves` — the same, of an array of two halves;
  `MmSplit` — the product split in two along the contracted dimension;
  `Sums` — the sum of the parts of the small gradients.
-/
module

public import proofs.«01_k».proof.Defs
public import proofs.«01_k».proof.Proof.LossClaim
public import proofs.«01_k».proof.Proof.GluClaim
public import proofs.«01_k».proof.Proof.AttnClaim
public import proofs.«01_k».proof.Proof.RopeClaim
public import proofs.«01_k».proof.Proof.PoolClaim
public import proofs.«01_k».proof.Proof.LnClaim
public import proofs.«01_k».proof.Proof.ConvClaim
public import proofs.«01_k».proof.Proof.AdamClaim
public import proofs.«01_k».proof.Proof.Products
public import Idealize.ShloMosaic.Adequacy
public import Idealize.ShloMosaic.Init

@[expose] public section

noncomputable section

namespace Cert.Proof

/-- Every claim of the certificate. -/
theorem claim : Cert.Claim := ⟨Loss.Gen.facts, LossIdeal.Gen.facts, LossRefIdeal.Gen.facts, Glu.Gen.facts, GluIdeal.Gen.facts, GluRefIdeal.Gen.facts, Attn.Gen.facts, AttnIdeal.Gen.facts, AttnRefIdeal.Gen.facts, Rope.Gen.facts, RopeIdeal.Gen.facts, RopeRefIdeal.Gen.facts, Pool.Gen.facts, PoolIdeal.Gen.facts, PoolRefIdeal.Gen.facts, Ln.Gen.facts, LnIdeal.Gen.facts, LnRefIdeal.Gen.facts, Conv.Gen.facts, ConvIdeal.Gen.facts, ConvRefIdeal.Gen.facts, Adam.Gen.facts, AdamIdeal.Gen.facts, AdamRefIdeal.Gen.facts, MmNn.Gen.facts, MmNnIdeal.Gen.facts, MmNnRefIdeal.Gen.facts, MmNt.Gen.facts, MmNtIdeal.Gen.facts, MmNtRefIdeal.Gen.facts, MmBcols.Gen.facts, MmBcolsIdeal.Gen.facts, MmBcolsRefIdeal.Gen.facts, MmAcols.Gen.facts, MmAcolsIdeal.Gen.facts, MmAcolsRefIdeal.Gen.facts, MmHalves.Gen.facts, MmHalvesIdeal.Gen.facts, MmHalvesRefIdeal.Gen.facts, MmSplit.Gen.facts, MmSplitIdeal.Gen.facts, MmSplitRefIdeal.Gen.facts, Sums.Gen.facts, SumsIdeal.Gen.facts, SumsRefIdeal.Gen.facts, Pre_attn_finite.Gen.facts, Pre_pool_finite.Gen.facts, Pre_ln_finite.Gen.facts, Pre_conv_finite.Gen.facts,
  LossValue.quiescent_kernel, LossValue.quiescent_ideal, LossValue.quiescent_ref,
  GluValue.quiescent_kernel, GluValue.quiescent_ideal, GluValue.quiescent_ref,
  AttnValue.quiescent_kernel, AttnValue.quiescent_ideal, AttnValue.quiescent_ideal_finite, AttnValue.quiescent_ref, AttnValue.quiescent_ref_finite,
  RopeValue.quiescent_kernel, RopeValue.quiescent_ideal, RopeValue.quiescent_ref,
  PoolValue.quiescent_kernel, PoolValue.quiescent_ideal, PoolValue.quiescent_ideal_finite, PoolValue.quiescent_ref, PoolValue.quiescent_ref_finite,
  LnValue.quiescent_kernel, LnValue.quiescent_ideal, LnValue.quiescent_ideal_finite, LnValue.quiescent_ref, LnValue.quiescent_ref_finite,
  ConvValue.quiescent_kernel, ConvValue.quiescent_ideal, ConvValue.quiescent_ideal_finite, ConvValue.quiescent_ref, ConvValue.quiescent_ref_finite,
  AdamValue.quiescent_kernel, AdamValue.quiescent_ideal, AdamValue.quiescent_ref,
  MmNnValue.quiescent_kernel, MmNnValue.quiescent_ideal, MmNnValue.quiescent_ref,
  MmNtValue.quiescent_kernel, MmNtValue.quiescent_ideal, MmNtValue.quiescent_ref,
  MmBcolsValue.quiescent_kernel, MmBcolsValue.quiescent_ideal, MmBcolsValue.quiescent_ref,
  MmAcolsValue.quiescent_kernel, MmAcolsValue.quiescent_ideal, MmAcolsValue.quiescent_ref,
  MmHalvesValue.quiescent_kernel, MmHalvesValue.quiescent_ideal, MmHalvesValue.quiescent_ref,
  MmSplitValue.quiescent_kernel, MmSplitValue.quiescent_ideal, MmSplitValue.quiescent_ref,
  SumsValue.quiescent_kernel, SumsValue.quiescent_ideal, SumsValue.quiescent_ref,
  trivial, LossValue.algebraic,
  trivial, GluValue.algebraic,
  AttnValue.preserves, AttnValue.algebraic,
  trivial, RopeValue.algebraic,
  trivial, PoolValue.algebraic,
  trivial, LnValue.algebraic,
  trivial, ConvValue.algebraic,
  trivial, AdamValue.algebraic,
  trivial, MmNnValue.algebraic,
  trivial, MmNtValue.algebraic,
  trivial, MmBcolsValue.algebraic,
  trivial, MmAcolsValue.algebraic,
  trivial, MmHalvesValue.algebraic,
  trivial, MmSplitValue.algebraic,
  trivial, SumsValue.algebraic⟩

end Cert.Proof

end
